-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9))
      ∧ r.2.sem = fun _ => 0)

def preserves_Kernel_KernelIdeal : Prop :=
  IdealRules.named_const.Statement Cert.KernelIdeal.κ "exp2_scale" .f32 0x3E0293EE#32 ((((Real.sqrt 128) * (Real.log 2))⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v39)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v39) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v29_0)) (v1 : (c : Dev Cert.Kernel6Ideal.nD) → Buf (Elt Ideal) ((c.tc : Thread Cert.Kernel6Ideal.nD Cert.Kernel6Ideal.τ).loc Cert.Kernel6Ideal.main_v29_1)) (v2 : (c : Dev Cert.Kernel6Ideal.nD) → Buf (Elt Ideal) ((c.tc : Thread Cert.Kernel6Ideal.nD Cert.Kernel6Ideal.τ).loc Cert.Kernel6Ideal.main_v29_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29_0) = v0 c
          ∧ r.2.mem ((c.tc : Thread Cert.Kernel6Ideal.nD Cert.Kernel6Ideal.τ).loc Cert.Kernel6Ideal.main_v29_1) = v1 c
          ∧ r.2.mem ((c.tc : Thread Cert.Kernel6Ideal.nD Cert.Kernel6Ideal.τ).loc Cert.Kernel6Ideal.main_v29_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v16_0)) (v1 : (c : Dev Cert.Kernel7Ideal.nD) → Buf (Elt Ideal) ((c.tc : Thread Cert.Kernel7Ideal.nD Cert.Kernel7Ideal.τ).loc Cert.Kernel7Ideal.main_v16_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16_0) = v0 c
          ∧ r.2.mem ((c.tc : Thread Cert.Kernel7Ideal.nD Cert.Kernel7Ideal.τ).loc Cert.Kernel7Ideal.main_v16_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v17_0)) (v1 : (c : Dev Cert.Kernel8Ideal.nD) → Buf (Elt Ideal) ((c.tc : Thread Cert.Kernel8Ideal.nD Cert.Kernel8Ideal.τ).loc Cert.Kernel8Ideal.main_v17_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17_0) = v0 c
          ∧ r.2.mem ((c.tc : Thread Cert.Kernel8Ideal.nD Cert.Kernel8Ideal.τ).loc Cert.Kernel8Ideal.main_v17_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v16)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v16) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v16)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v16) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v14)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v14) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v14)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v14) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v17) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v36) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v19) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v36) = v0 c
          ∧ r.2.mem ((c.tc : Thread Cert.Reference17Ideal.nD Cert.Reference17Ideal.τ).loc Cert.Reference17Ideal.main_v37) = v1 c
          ∧ r.2.mem ((c.tc : Thread Cert.Reference17Ideal.nD Cert.Reference17Ideal.τ).loc Cert.Reference17Ideal.main_v19) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v17_0)) (v1 : (c : Dev Cert.Kernel18Ideal.nD) → Buf (Elt Ideal) ((c.tc : Thread Cert.Kernel18Ideal.nD Cert.Kernel18Ideal.τ).loc Cert.Kernel18Ideal.main_v17_1)) (v2 : (c : Dev Cert.Kernel18Ideal.nD) → Buf (Elt Ideal) ((c.tc : Thread Cert.Kernel18Ideal.nD Cert.Kernel18Ideal.τ).loc Cert.Kernel18Ideal.main_v17_2)) (v3 : (c : Dev Cert.Kernel18Ideal.nD) → Buf (Elt Ideal) ((c.tc : Thread Cert.Kernel18Ideal.nD Cert.Kernel18Ideal.τ).loc Cert.Kernel18Ideal.main_v17_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v17_0) = v0 c
          ∧ r.2.mem ((c.tc : Thread Cert.Kernel18Ideal.nD Cert.Kernel18Ideal.τ).loc Cert.Kernel18Ideal.main_v17_1) = v1 c
          ∧ r.2.mem ((c.tc : Thread Cert.Kernel18Ideal.nD Cert.Kernel18Ideal.τ).loc Cert.Kernel18Ideal.main_v17_2) = v2 c
          ∧ r.2.mem ((c.tc : Thread Cert.Kernel18Ideal.nD Cert.Kernel18Ideal.τ).loc Cert.Kernel18Ideal.main_v17_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v65) = v0 c
          ∧ r.2.mem ((c.tc : Thread Cert.Reference18Ideal.nD Cert.Reference18Ideal.τ).loc Cert.Reference18Ideal.main_v66) = v1 c
          ∧ r.2.mem ((c.tc : Thread Cert.Reference18Ideal.nD Cert.Reference18Ideal.τ).loc Cert.Reference18Ideal.main_v67) = v2 c
          ∧ r.2.mem ((c.tc : Thread Cert.Reference18Ideal.nD Cert.Reference18Ideal.τ).loc Cert.Reference18Ideal.main_v49) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel2_Kernel2Ideal : Prop :=
  IdealRules.named_const.Statement Cert.Kernel2Ideal.κ "exp2_scale" .f32 0x3E0293EE#32 ((((Real.sqrt 128) * (Real.log 2))⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v97) = v0 c
          ∧ r.2.mem ((c.tc : Thread Cert.Reference23Ideal.nD Cert.Reference23Ideal.τ).loc Cert.Reference23Ideal.main_v99) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel19_Kernel19Ideal : Prop :=
  IdealRules.named_const.Statement Cert.Kernel19Ideal.κ "gelu_cubic" .f32 0x3D372713#32 ((8943 / 200000 : ℝ) : EReal)
  ∧ IdealRules.named_const.Statement Cert.Kernel19Ideal.κ "gelu_cubic3" .f32 0x3E095D4F#32 ((26829 / 200000 : ℝ) : EReal)

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v3) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v28) = v0 c
          ∧ r.2.mem ((c.tc : Thread Cert.Reference19Ideal.nD Cert.Reference19Ideal.τ).loc Cert.Reference19Ideal.main_v41) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v6_0)) (v1 : (c : Dev Cert.Kernel21Ideal.nD) → Buf (Elt Ideal) ((c.tc : Thread Cert.Kernel21Ideal.nD Cert.Kernel21Ideal.τ).loc Cert.Kernel21Ideal.main_v6_1)) (v2 : (c : Dev Cert.Kernel21Ideal.nD) → Buf (Elt Ideal) ((c.tc : Thread Cert.Kernel21Ideal.nD Cert.Kernel21Ideal.τ).loc Cert.Kernel21Ideal.main_v6_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v6_0) = v0 c
          ∧ r.2.mem ((c.tc : Thread Cert.Kernel21Ideal.nD Cert.Kernel21Ideal.τ).loc Cert.Kernel21Ideal.main_v6_1) = v1 c
          ∧ r.2.mem ((c.tc : Thread Cert.Kernel21Ideal.nD Cert.Kernel21Ideal.τ).loc Cert.Kernel21Ideal.main_v6_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v119) = v0 c
          ∧ r.2.mem ((c.tc : Thread Cert.Reference21Ideal.nD Cert.Reference21Ideal.τ).loc Cert.Reference21Ideal.main_v120) = v1 c
          ∧ r.2.mem ((c.tc : Thread Cert.Reference21Ideal.nD Cert.Reference21Ideal.τ).loc Cert.Reference21Ideal.main_v121) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)) →
    ∃ (v0 : (c : Dev Cert.Kernel22Ideal.nD) → Buf (Elt Ideal) ((c.tc : Thread Cert.Kernel22Ideal.nD Cert.Kernel22Ideal.τ).loc Cert.Kernel22Ideal.main_v6_0)) (v1 : (c : Dev Cert.Kernel22Ideal.nD) → Buf (Elt Ideal) ((c.tc : Thread Cert.Kernel22Ideal.nD Cert.Kernel22Ideal.τ).loc Cert.Kernel22Ideal.main_v6_1)) (v2 : (c : Dev Cert.Kernel22Ideal.nD) → Buf (Elt Ideal) ((c.tc : Thread Cert.Kernel22Ideal.nD Cert.Kernel22Ideal.τ).loc Cert.Kernel22Ideal.main_v6_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v6_0) = v0 c
          ∧ r.2.mem ((c.tc : Thread Cert.Kernel22Ideal.nD Cert.Kernel22Ideal.τ).loc Cert.Kernel22Ideal.main_v6_1) = v1 c
          ∧ r.2.mem ((c.tc : Thread Cert.Kernel22Ideal.nD Cert.Kernel22Ideal.τ).loc Cert.Kernel22Ideal.main_v6_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v236) = v0 c
          ∧ r.2.mem ((c.tc : Thread Cert.Reference22Ideal.nD Cert.Reference22Ideal.τ).loc Cert.Reference22Ideal.main_v232) = v1 c
          ∧ r.2.mem ((c.tc : Thread Cert.Reference22Ideal.nD Cert.Reference22Ideal.τ).loc Cert.Reference22Ideal.main_v179) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel2 : Cert.Kernel2.Facts) (hKernel2Ideal : Cert.Kernel2Ideal.Facts) (hReference2Ideal : Cert.Reference2Ideal.Facts) (hKernel23 : Cert.Kernel23.Facts) (hKernel23Ideal : Cert.Kernel23Ideal.Facts) (hReference23Ideal : Cert.Reference23Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite2 : Cert.Pre_finite2.Facts) (hPre_finite19 : Cert.Pre_finite19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel23_Kernel23Ideal
    ∧ algebraic_Kernel23Ideal_Reference23Ideal (hKernel23Ideal := hKernel23Ideal) (hReference23Ideal := hReference23Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S4096x1024 : Shape := ⟨2, ![4096, 1024]⟩
abbrev S4096x256 : Shape := ⟨2, ![4096, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  main_v22

def fn {F : FTy → Type} [FloatOps F] (main_arg0 : FVec F S4096x1024 .bf16) (main_arg1 : FVec F S4096x256 .bf16) (main_arg2 : FVec F S4096x256 .bf16) (main_arg3 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S4096x256 .f32 := (extf .f32 · bitsLt_bf16_f32) main_arg2
  let main_v12 : FVec F S4096x256 .f32 := Host.absf main_v11
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_c_3 : IVec S_ 1 := constantI S_ 1 1#1
  let main_v15 : IVec S_ 1 := (fun x v => Host.reduce IntOp.andi x v reducesTo_S4096x256_S_d0_1 h_S_) main_v14 main_c_3
  let main_v16 : IVec S_ 1 := andi main_v10 main_v15
  let main_v17 : FVec F S4096x1024 .f32 := (extf .f32 · bitsLt_bf16_f32) main_arg3
  fn_part1 (F := F) main_v16 main_v17
-- ==== Pre_finite19.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x2048 .f32) (main_arg3 : FVec F S1024x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite2.lean ====
abbrev S4096x1024 : Shape := ⟨2, ![4096, 1024]⟩
abbrev S4096x256 : Shape := ⟨2, ![4096, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x1024 .bf16) (main_arg1 : FVec F S4096x256 .bf16) (main_arg2 : FVec F S4096x256 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  main_v10
-- ==== Kernel.lean ====
abbrev S4096x1024 : Shape := ⟨2, ![4096, 1024]⟩
abbrev S4096x256 : Shape := ⟨2, ![4096, 256]⟩
abbrev S2x2048x2x4x128 : Shape := ⟨5, ![2, 2048, 2, 4, 128]⟩
abbrev S2x2048x2x128 : Shape := ⟨4, ![2, 2048, 2, 128]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x128x4x2048 : Shape := ⟨5, ![2, 2, 128, 4, 2048]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S2048x2048 : Shape := ⟨2, ![2048, 2048]⟩

abbrev nBuf : Space → Nat
  | .hbm => 39
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S2x2048x2x4x128, .f32⟩
  | .hbm, ⟨8, _⟩ => ⟨S2x2048x2x128, .f32⟩
  | .hbm, ⟨9, _⟩ => ⟨S2x2048x2x128, .f32⟩
  | .hbm, ⟨10, _⟩ => ⟨S2x2x2048x2048x4, .f32⟩
  | .hbm, ⟨11, _⟩ => ⟨S2x2x4x2048x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x2x4x2048x2048, .f32⟩
  | .hbm, ⟨17, _⟩ => ⟨S2x2x4x2048x2048, .f32⟩
  | .hbm, ⟨18, _⟩ => ⟨S_, .f32⟩
  | .hbm, ⟨19, _⟩ => ⟨S2x2x4x2048, .f32⟩
  | .hbm, ⟨20, _⟩ => ⟨S_, .f32⟩
  | .hbm, ⟨21, _⟩ => ⟨S2x2x4x2048, .f32⟩
  | .hbm, ⟨22, _⟩ => ⟨S2x2x4x2048, .f32⟩
  | .hbm, ⟨23, _⟩ => ⟨S2x2x4x2048x1, .f32⟩
  | .hbm, ⟨24, _⟩ => ⟨S2x2x4x2048x2048, .f32⟩
  | .hbm, ⟨25, _⟩ => ⟨S2x2x4x2048x2048, .f32⟩
  | .hbm, ⟨26, _⟩ => ⟨S2x2x4x2048x2048, .f32⟩
  | .hbm, ⟨27, _⟩ => ⟨S_, .f32⟩
  | .hbm, ⟨28, _⟩ => ⟨S2x2x4x2048, .f32⟩
  | .hbm, ⟨29, _⟩ => ⟨S2x2x4x2048x1, .f32⟩
  | .hbm, ⟨30, _⟩ => ⟨S2x2x4x2048x2048, .f32⟩
  | .hbm, ⟨31, _⟩ => ⟨S2x2x4x2048x2048, .f32⟩
  | .hbm, ⟨32, _⟩ => ⟨S2x2x128x4x2048, .f32⟩
  | .hbm, ⟨33, _⟩ => ⟨S2x2048x2x4x128, .f32⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S4096x256, .f32⟩
  | .hbm, ⟨38, _⟩ => ⟨S4096x256, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![2, 2, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]
-- ==== KernelIdeal.lean ====
variable {F : FTy → Type} [FloatOps F] [Named F]
def κ : String → Option EReal := fun
  | "exp2_scale" => some ((((Real.sqrt 128) * (Real.log 2))⁻¹ : ℝ) : EReal)
  | "scale" => some (((Real.sqrt 128)⁻¹ : ℝ) : EReal)
  | _ => none
-- ==== ReferenceIdeal.lean ====
abbrev S4096x1024 : Shape := ⟨2, ![4096, 1024]⟩
abbrev S4096x256 : Shape := ⟨2, ![4096, 256]⟩
abbrev S2x2048x2x4x128 : Shape := ⟨5, ![2, 2048, 2, 4, 128]⟩
abbrev S2x2048x2x128 : Shape := ⟨4, ![2, 2048, 2, 128]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x128x4x2048 : Shape := ⟨5, ![2, 2, 128, 4, 2048]⟩
abbrev S2x2x128x2048 : Shape := ⟨4, ![2, 2, 128, 2048]⟩
abbrev S2x2x2048x4x128 : Shape := ⟨5, ![2, 2, 2048, 4, 128]⟩
abbrev S2x2x2048x128 : Shape := ⟨4, ![2, 2, 2048, 128]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S4096x1024, .f32⟩
  | .hbm, ⟨8, _⟩ => ⟨S2x2048x2x4x128, .f32⟩
  | .hbm, ⟨9, _⟩ => ⟨S2x2048x2x128, .f32⟩
  | .hbm, ⟨10, _⟩ => ⟨S2x2048x2x128, .f32⟩
  | .hbm, ⟨11, _⟩ => ⟨S2x2x2048x2048x4, .f32⟩
  | .hbm, ⟨12, _⟩ => ⟨S2x2x4x2048x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2x2x4x2048x2048, .f32⟩
  | .hbm, ⟨18, _⟩ => ⟨S2x2x4x2048x2048, .f32⟩
  | .hbm, ⟨19, _⟩ => ⟨S_, .f32⟩
  | .hbm, ⟨20, _⟩ => ⟨S2x2x4x2048, .f32⟩
  | .hbm, ⟨21, _⟩ => ⟨S2x2x4x2048x1, .f32⟩
  | .hbm, ⟨22, _⟩ => ⟨S2x2x4x2048x2048, .f32⟩
  | .hbm, ⟨23, _⟩ => ⟨S2x2x4x2048x2048, .i1⟩
  | .hbm, ⟨24, _⟩ => ⟨S2x2x4x2048x2048, .f32⟩
  | .hbm, ⟨25, _⟩ => ⟨S_, .f32⟩
  | .hbm, ⟨26, _⟩ => ⟨S2x2x4x2048, .f32⟩
  | .hbm, ⟨27, _⟩ => ⟨S_, .f32⟩
  | .hbm, ⟨28, _⟩ => ⟨S2x2x4x2048, .f32⟩
  | .hbm, ⟨29, _⟩ => ⟨S2x2x4x2048, .f32⟩
  | .hbm, ⟨30, _⟩ => ⟨S_, .f32⟩
  | .hbm, ⟨31, _⟩ => ⟨S2x2x4x2048, .f32⟩
  | .hbm, ⟨32, _⟩ => ⟨S2x2x4x2048, .i1⟩
  | .hbm, ⟨33, _⟩ => ⟨S_, .f32⟩
  | .hbm, ⟨34, _⟩ => ⟨S2x2x4x2048, .f32⟩
  | .hbm, ⟨35, _⟩ => ⟨S2x2x4x2048, .i1⟩
  | .hbm, ⟨36, _⟩ => ⟨S_, .f32⟩
  | .hbm, ⟨37, _⟩ => ⟨S2x2x4x2048, .f32⟩
  | .hbm, ⟨38, _⟩ => ⟨S_, .f32⟩
  | .hbm, ⟨39, _⟩ => ⟨S2x2x4x2048, .f32⟩
  | .hbm, ⟨40, _⟩ => ⟨S_, .f32⟩
  | .hbm, ⟨41, _⟩ => ⟨S2x2x4x2048, .f32⟩
  | .hbm, ⟨42, _⟩ => ⟨S2x2x4x2048, .f32⟩
  | .hbm, ⟨43, _⟩ => ⟨S2x2x4x2048, .f32⟩
  | .hbm, ⟨44, _⟩ => ⟨S2x2x4x2048x1, .f32⟩
  | .hbm, ⟨45, _⟩ => ⟨S2x2x4x2048x2048, .f32⟩
  | .hbm, ⟨46, _⟩ => ⟨S2x2x4x2048x2048, .f32⟩
  | .hbm, ⟨47, _⟩ => ⟨S2x2x4x2048x2048, .f32⟩
  | .hbm, ⟨48, _⟩ => ⟨S_, .f32⟩
  | .hbm, ⟨49, _⟩ => ⟨S2x2x4x2048, .f32⟩
  | .hbm, ⟨50, _⟩ => ⟨S2x2x4x2048x1, .f32⟩
  | .hbm, ⟨51, _⟩ => ⟨S2x2x4x2048x2048, .f32⟩
  | .hbm, ⟨52, _⟩ => ⟨S2x2x4x2048x2048, .f32⟩
  | .hbm, ⟨53, _⟩ => ⟨S2x2x4x2048x1, .f32⟩
  | .hbm, ⟨54, _⟩ => ⟨S_, .f32⟩
  | .hbm, ⟨55, _⟩ => ⟨S2x2x4x2048x1, .f32⟩
  | .hbm, ⟨56, _⟩ => ⟨S2x2x4x2048x1, .f32⟩
  | .hbm, ⟨57, _⟩ => ⟨S2x2x128x4x2048, .f32⟩
  | .hbm, ⟨58, _⟩ => ⟨S2x2048x2x4x128, .f32⟩
  | .hbm, ⟨59, _⟩ => ⟨S4096x1024, .f32⟩
  | .hbm, ⟨60, _⟩ => ⟨S2x2048x2x4x128, .f32⟩
  | .hbm, ⟨61, _⟩ => ⟨S2x2x128x4x2048, .f32⟩
  | .hbm, ⟨62, _⟩ => ⟨S2x2x4x2048x2048, .f32⟩
  | .hbm, ⟨63, _⟩ => ⟨S2x2x128x2048, .f32⟩
  | .hbm, ⟨64, _⟩ => ⟨S2x2048x2x128, .f32⟩
  | .hbm, ⟨65, _⟩ => ⟨S2x2x4x2048x2048, .f32⟩
  | .hbm, ⟨66, _⟩ => ⟨S2x2x4x2048x2048, .f32⟩
  | .hbm, ⟨67, _⟩ => ⟨S2x2x4x2048x2048, .f32⟩
  | .hbm, ⟨68, _⟩ => ⟨S_, .f32⟩
  | .hbm, ⟨69, _⟩ => ⟨S2x2x4x2048, .f32⟩
  | .hbm, ⟨70, _⟩ => ⟨S2x2x4x2048x1, .f32⟩
  | .hbm, ⟨71, _⟩ => ⟨S2x2x4x2048x1, .f32⟩
  | .hbm, ⟨72, _⟩ => ⟨S2x2x4x2048x2048, .f32⟩
  | .hbm, ⟨73, _⟩ => ⟨S2x2x4x2048x2048, .f32⟩
  | .hbm, ⟨74, _⟩ => ⟨S_, .f32⟩
  | .hbm, ⟨75, _⟩ => ⟨S2x2x4x2048, .f32⟩
  | .hbm, ⟨76, _⟩ => ⟨S2x2x4x2048x2048, .f32⟩
  | .hbm, ⟨77, _⟩ => ⟨S2x2x4x2048x2048, .f32⟩
  | .hbm, ⟨78, _⟩ => ⟨S2x2x4x2048x2048, .f32⟩
  | .hbm, ⟨79, _⟩ => ⟨S2x2x4x2048x2048, .f32⟩
  | .hbm, ⟨80, _⟩ => ⟨S2x2x4x2048x2048, .f32⟩
  | .hbm, ⟨81, _⟩ => ⟨S2x2x2048x2048x4, .f32⟩
  | .hbm, ⟨82, _⟩ => ⟨S2x2x2048x4x128, .f32⟩
  | .hbm, ⟨83, _⟩ => ⟨S2x2048x2x4x128, .f32⟩
  | .hbm, ⟨84, _⟩ => ⟨S2x2x2048x128, .f32⟩
  | .hbm, ⟨85, _⟩ => ⟨S2x2048x2x128, .f32⟩
  | .hbm, ⟨86, _⟩ => ⟨S4096x256, .f32⟩
  | .hbm, ⟨87, _⟩ => ⟨S4096x256, .f32⟩
  | .hbm, ⟨88, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x1024, .bf16⟩
  | .hbm, ⟨7, _⟩ => ⟨S4096x1024, .bf16⟩
  | .hbm, ⟨8, _⟩ => ⟨S4096x4096, .bf16⟩
  | .hbm, ⟨9, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x1024 : Shape := ⟨2, ![1024, 1024]⟩

abbrev nBuf : Space → Nat
  | .hbm => 28
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S4096x1024, .bf16⟩
  | .hbm, ⟨27, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S1024x4096, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4x1024x1024 : Shape := ⟨3, ![4, 1024, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 56
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4096x4096, .bf16⟩
  | .hbm, ⟨55, _⟩ => ⟨S4x1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x4x1024 : Shape := ⟨3, ![1024, 4, 1024]⟩
abbrev S4x1024x1024 : Shape := ⟨3, ![4, 1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x1024, .f32⟩
  | .hbm, ⟨40, _⟩ => ⟨S1024x4096, .f32⟩
  | .hbm, ⟨41, _⟩ => ⟨S1024x4x1024, .f32⟩
  | .hbm, ⟨42, _⟩ => ⟨S4x1024x1024, .f32⟩
  | .hbm, ⟨43, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 45
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .bf16⟩
  | .hbm, ⟨39, _⟩ => ⟨S1024x4x1024, .f32⟩
  | .hbm, ⟨40, _⟩ => ⟨S4x1024x1024, .f32⟩
  | .hbm, ⟨41, _⟩ => ⟨S4x1024x1024, .bf16⟩
  | .hbm, ⟨42, _⟩ => ⟨S4096x1024, .f32⟩
  | .hbm, ⟨43, _⟩ => ⟨S4096x1024, .bf16⟩
  | .hbm, ⟨44, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference6Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 24
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x4x1024, .f32⟩
  | .hbm, ⟨20, _⟩ => ⟨S4x1024x1024, .f32⟩
  | .hbm, ⟨21, _⟩ => ⟨S4x1024x1024, .bf16⟩
  | .hbm, ⟨22, _⟩ => ⟨S4096x4096, .bf16⟩
  | .hbm, ⟨23, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 29
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S4096x1024, .bf16⟩
  | .hbm, ⟨27, _⟩ => ⟨S4096x1024, .f32⟩
  | .hbm, ⟨28, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1024x4x512 : Shape := ⟨3, ![1024, 4, 512]⟩
abbrev S4x1024x512 : Shape := ⟨3, ![4, 1024, 512]⟩
abbrev S4096x2048 : Shape := ⟨2, ![4096, 2048]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x4x512, .f32⟩
  | .hbm, ⟨20, _⟩ => ⟨S4x1024x512, .f32⟩
  | .hbm, ⟨21, _⟩ => ⟨S4x1024x512, .bf16⟩
  | .hbm, ⟨22, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S1024x4x384 : Shape := ⟨3, ![1024, 4, 384]⟩
abbrev S4x1024x384 : Shape := ⟨3, ![4, 1024, 384]⟩
abbrev S4096x1536 : Shape := ⟨2, ![4096, 1536]⟩
abbrev S2048x1024 : Shape := ⟨2, ![2048, 1024]⟩
abbrev S1x1024x384 : Shape := ⟨3, ![1, 1024, 384]⟩
abbrev S2048x384 : Shape := ⟨2, ![2048, 384]⟩
abbrev S1024x384 : Shape := ⟨2, ![1024, 384]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x4x384, .f32⟩
  | .hbm, ⟨20, _⟩ => ⟨S4x1024x384, .f32⟩
  | .hbm, ⟨21, _⟩ => ⟨S4x1024x384, .bf16⟩
  | .hbm, ⟨22, _⟩ => ⟨S4096x1536, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x384, .bf16⟩
  | .local _ .vmem, ⟨3, _⟩ => ⟨S1x1024x384, .bf16⟩
  | .local _ .vmem, ⟨4, _⟩ => ⟨S2048x384, .f32⟩
  | .local _ .vmem, ⟨5, _⟩ => ⟨S2048x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S1x1024 : Shape := ⟨2, ![1, 1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 6
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S4x1024x384 : Shape := ⟨3, ![4, 1024, 384]⟩
abbrev S4096x384 : Shape := ⟨2, ![4096, 384]⟩
abbrev S1x1024x384 : Shape := ⟨3, ![1, 1024, 384]⟩
abbrev S1024x384 : Shape := ⟨2, ![1024, 384]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1536, .bf16⟩
  | .hbm, ⟨21, _⟩ => ⟨S4x1024x384, .bf16⟩
  | .local _ .vmem, ⟨0, _⟩ => ⟨S4096x1024, .bf16⟩
  | .local _ .vmem, ⟨1, _⟩ => ⟨S4096x384, .bf16⟩
  | .local _ .vmem, ⟨2, _⟩ => ⟨S4096x384, .bf16⟩
  | .local _ .vmem, ⟨3, _⟩ => ⟨S1x1024x384, .bf16⟩
  | .local _ .vmem, ⟨4, _⟩ => ⟨S1x1024x384, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S1x1024 : Shape := ⟨2, ![1, 1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1536, .f32⟩
  | .hbm, ⟨20, _⟩ => ⟨S1536x1024, .f32⟩
  | .hbm, ⟨21, _⟩ => ⟨S1024x1536, .f32⟩
  | .hbm, ⟨22, _⟩ => ⟨S1024x4x384, .f32⟩
  | .hbm, ⟨23, _⟩ => ⟨S4x1024x384, .f32⟩
  | .hbm, ⟨24, _⟩ => ⟨S4x1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S4x1024x512 : Shape := ⟨3, ![4, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x2048, .bf16⟩
  | .hbm, ⟨21, _⟩ => ⟨S4x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S2048x1024, .f32⟩
  | .hbm, ⟨21, _⟩ => ⟨S1024x2048, .f32⟩
  | .hbm, ⟨22, _⟩ => ⟨S1024x4x512, .f32⟩
  | .hbm, ⟨23, _⟩ => ⟨S4x1024x512, .f32⟩
  | .hbm, ⟨24, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel16.lean ====
abbrev S4096x1024 : Shape := ⟨2, ![4096, 1024]⟩
abbrev S1x1024 : Shape := ⟨2, ![1, 1024]⟩
abbrev S1024x1536 : Shape := ⟨2, ![1024, 1536]⟩
abbrev S4096x1536 : Shape := ⟨2, ![4096, 1536]⟩
abbrev S1024x4x384 : Shape := ⟨3, ![1024, 4, 384]⟩
abbrev S4x1024x384 : Shape := ⟨3, ![4, 1024, 384]⟩
abbrev S512x1536 : Shape := ⟨2, ![512, 1536]⟩
abbrev S512x1024 : Shape := ⟨2, ![512, 1024]⟩
abbrev S512x384 : Shape := ⟨2, ![512, 384]⟩
abbrev S1x1024x384 : Shape := ⟨3, ![1, 1024, 384]⟩
abbrev S1024x384 : Shape := ⟨2, ![1024, 384]⟩
abbrev S512 : Shape := ⟨1, ![512]⟩
abbrev S512x1 : Shape := ⟨2, ![512, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S4096x1536, .bf16⟩
  | .hbm, ⟨6, _⟩ => ⟨S1024x4x384, .f32⟩
  | .hbm, ⟨7, _⟩ => ⟨S4x1024x384, .f32⟩
  | .hbm, ⟨8, _⟩ => ⟨S4x1024x384, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S4x1024x384, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference16Ideal.lean ====
abbrev S4096x1024 : Shape := ⟨2, ![4096, 1024]⟩
abbrev S1x1024 : Shape := ⟨2, ![1, 1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1536, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel17.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S1024x4x512 : Shape := ⟨3, ![1024, 4, 512]⟩
abbrev S4x1024x512 : Shape := ⟨3, ![4, 1024, 512]⟩
abbrev S512x2048 : Shape := ⟨2, ![512, 2048]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x2048, .bf16⟩
  | .hbm, ⟨6, _⟩ => ⟨S1024x4x512, .f32⟩
  | .hbm, ⟨7, _⟩ => ⟨S4x1024x512, .f32⟩
  | .hbm, ⟨8, _⟩ => ⟨S4x1024x512, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference17Ideal.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2048, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel18.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 32
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S4096x1024, .bf16⟩
  | .hbm, ⟨28, _⟩ => ⟨S4096x1024, .f32⟩
  | .hbm, ⟨29, _⟩ => ⟨S4096x1024, .bf16⟩
  | .hbm, ⟨30, _⟩ => ⟨S1x128, .f32⟩
  | .hbm, ⟨31, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference18Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .bf16⟩
  | .hbm, ⟨93, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Kernel2.lean ====
abbrev S4096x1024 : Shape := ⟨2, ![4096, 1024]⟩
abbrev S4096x256 : Shape := ⟨2, ![4096, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel2Ideal.lean ====
variable {F : FTy → Type} [FloatOps F] [Named F]
def κ : String → Option EReal := fun
  | "exp2_scale" => some ((((Real.sqrt 128) * (Real.log 2))⁻¹ : ℝ) : EReal)
  | "scale" => some (((Real.sqrt 128)⁻¹ : ℝ) : EReal)
  | _ => none
-- ==== Reference2Ideal.lean ====
abbrev S4096x1024 : Shape := ⟨2, ![4096, 1024]⟩
abbrev S4096x256 : Shape := ⟨2, ![4096, 256]⟩
abbrev S2x2048x2x4x128 : Shape := ⟨5, ![2, 2048, 2, 4, 128]⟩
abbrev S2x2048x2x128 : Shape := ⟨4, ![2, 2048, 2, 128]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x128x4x2048 : Shape := ⟨5, ![2, 2, 128, 4, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .f32⟩
  | .hbm, ⟨4, _⟩ => ⟨S4096x256, .f32⟩
  | .hbm, ⟨5, _⟩ => ⟨S4096x256, .f32⟩
  | .hbm, ⟨6, _⟩ => ⟨S2x2048x2x4x128, .f32⟩
  | .hbm, ⟨7, _⟩ => ⟨S2x2048x2x128, .f32⟩
  | .hbm, ⟨8, _⟩ => ⟨S2x2048x2x128, .f32⟩
  | .hbm, ⟨9, _⟩ => ⟨S2x2x2048x2048x4, .f32⟩
  | .hbm, ⟨10, _⟩ => ⟨S2x2x4x2048x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x2x4x2048x2048, .f32⟩
  | .hbm, ⟨16, _⟩ => ⟨S2x2x4x2048x2048, .f32⟩
  | .hbm, ⟨17, _⟩ => ⟨S_, .f32⟩
  | .hbm, ⟨18, _⟩ => ⟨S2x2x4x2048, .f32⟩
  | .hbm, ⟨19, _⟩ => ⟨S_, .f32⟩
  | .hbm, ⟨20, _⟩ => ⟨S2x2x4x2048, .f32⟩
  | .hbm, ⟨21, _⟩ => ⟨S2x2x4x2048, .f32⟩
  | .hbm, ⟨22, _⟩ => ⟨S2x2x4x2048x1, .f32⟩
  | .hbm, ⟨23, _⟩ => ⟨S2x2x4x2048x2048, .f32⟩
  | .hbm, ⟨24, _⟩ => ⟨S2x2x4x2048x2048, .f32⟩
  | .hbm, ⟨25, _⟩ => ⟨S2x2x4x2048x2048, .f32⟩
  | .hbm, ⟨26, _⟩ => ⟨S_, .f32⟩
  | .hbm, ⟨27, _⟩ => ⟨S2x2x4x2048, .f32⟩
  | .hbm, ⟨28, _⟩ => ⟨S2x2x4x2048x1, .f32⟩
  | .hbm, ⟨29, _⟩ => ⟨S2x2x4x2048x2048, .f32⟩
  | .hbm, ⟨30, _⟩ => ⟨S2x2x4x2048x2048, .f32⟩
  | .hbm, ⟨31, _⟩ => ⟨S2x2x128x4x2048, .f32⟩
  | .hbm, ⟨32, _⟩ => ⟨S2x2048x2x4x128, .f32⟩
  | .hbm, ⟨33, _⟩ => ⟨S4096x1024, .f32⟩
  | .hbm, ⟨34, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel23.lean ====
abbrev S4096x2048 : Shape := ⟨2, ![4096, 2048]⟩
abbrev S4x1x1024 : Shape := ⟨3, ![4, 1, 1024]⟩
abbrev S1x1024 : Shape := ⟨2, ![1, 1024]⟩
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S8x1024 : Shape := ⟨2, ![8, 1024]⟩
abbrev S2048x256 : Shape := ⟨2, ![2048, 256]⟩
abbrev S8x256 : Shape := ⟨2, ![8, 256]⟩
abbrev S1x256 : Shape := ⟨2, ![1, 256]⟩
abbrev S256 : Shape := ⟨1, ![256]⟩

abbrev nBuf : Space → Nat
  | .hbm => 12
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4x1x1024, .f32⟩
  | .hbm, ⟨2, _⟩ => ⟨S1x1024, .f32⟩
  | .hbm, ⟨3, _⟩ => ⟨S4096x1024, .f32⟩
  | .hbm, ⟨4, _⟩ => ⟨S4096x2048, .f32⟩
  | .hbm, ⟨5, _⟩ => ⟨S4x1024, .f32⟩
  | .hbm, ⟨6, _⟩ => ⟨S_, .f32⟩
  | .hbm, ⟨7, _⟩ => ⟨S3x1024, .f32⟩
  | .hbm, ⟨8, _⟩ => ⟨S8x1024, .f32⟩
  | .hbm, ⟨9, _⟩ => ⟨S4096x2048, .bf16⟩
  | .hbm, ⟨10, _⟩ => ⟨S4096x2048, .bf16⟩
  | .hbm, ⟨11, _⟩ => ⟨S8x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S8x256, .f32⟩
  | .local _ .vmem, ⟨5, _⟩ => ⟨S8x256, .f32⟩
  | .local _ .vmem, ⟨6, _⟩ => ⟨S2048x256, .bf16⟩
  | .local _ .vmem, ⟨7, _⟩ => ⟨S2048x256, .bf16⟩
  | .local _ .vmem, ⟨8, _⟩ => ⟨S8x256, .f32⟩
  | .local _ .vmem, ⟨9, _⟩ => ⟨S8x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference23Ideal.lean ====
abbrev S4096x2048 : Shape := ⟨2, ![4096, 2048]⟩
abbrev S4x1x1024 : Shape := ⟨3, ![4, 1, 1024]⟩
abbrev S1x1024 : Shape := ⟨2, ![1, 1024]⟩
abbrev S4096x1024 : Shape := ⟨2, ![4096, 1024]⟩
abbrev S4x1024 : Shape := ⟨2, ![4, 1024]⟩
abbrev S2x2048x1024 : Shape := ⟨3, ![2, 2048, 1024]⟩
abbrev S_ : Shape := ⟨0, ![]⟩
abbrev S2x2x1024 : Shape := ⟨3, ![2, 2, 1024]⟩
abbrev S2x1x1024 : Shape := ⟨3, ![2, 1, 1024]⟩
abbrev S2x2051x1024 : Shape := ⟨3, ![2, 2051, 1024]⟩
abbrev S1024 : Shape := ⟨1, ![1024]⟩
abbrev S1x1x1024 : Shape := ⟨3, ![1, 1, 1024]⟩
abbrev S3x1024 : Shape := ⟨2, ![3, 1024]⟩
abbrev S8x1024 : Shape := ⟨2, ![8, 1024]⟩

abbrev nBuf : Space → Nat
  | .hbm => 130
  | .vmem => 0
  | .smem => 0
  | _ => 0

abbrev hbmTy0_0 (i : Nat) : BufTy := match i % 128 with
  | 0 => ⟨S4096x2048, .f32⟩
  | 1 => ⟨S4x1x1024, .f32⟩
  | 2 => ⟨S1x1024, .f32⟩
  | 3 => ⟨S4096x1024, .f32⟩
  | 4 => ⟨S4096x2048, .f32⟩
  | 5 => ⟨S4x1024, .f32⟩
  | 6 => ⟨S4096x1024, .f32⟩
  | 7 => ⟨S2x2048x1024, .f32⟩
  | 8 => ⟨S_, .f32⟩
  | 9 => ⟨S2x2x1024, .f32⟩
  | 10 => ⟨S_, .f32⟩
  | 11 => ⟨S2x1x1024, .f32⟩
  | 12 => ⟨S2x2051x1024, .f32⟩
  | 13 => ⟨S_, .f32⟩
  | 14 => ⟨S2x2x1024, .f32⟩
  | 15 => ⟨S_, .f32⟩
  | 16 => ⟨S2x1x1024, .f32⟩
  | 17 => ⟨S1x1024, .f32⟩
  | 18 => ⟨S1024, .f32⟩
  | 19 => ⟨S2x2048x1024, .f32⟩
  | 20 => ⟨S1x1x1024, .f32⟩
  | 21 => ⟨S2x2048x1024, .f32⟩
  | 22 => ⟨S2x2048x1024, .f32⟩
  | 23 => ⟨S_, .f32⟩
  | 24 => ⟨S2x2048x1024, .f32⟩
  | 25 => ⟨S2x2048x1024, .f32⟩
  | 26 => ⟨S1x1024, .f32⟩
  | 27 => ⟨S1024, .f32⟩
  | 28 => ⟨S2x2048x1024, .f32⟩
  | 29 => ⟨S1x1x1024, .f32⟩
  | 30 => ⟨S2x2048x1024, .f32⟩
  | 31 => ⟨S2x2048x1024, .f32⟩
  | 32 => ⟨S2x2048x1024, .f32⟩
  | 33 => ⟨S1x1024, .f32⟩
  | 34 => ⟨S1024, .f32⟩
  | 35 => ⟨S2x2048x1024, .f32⟩
  | 36 => ⟨S1x1x1024, .f32⟩
  | 37 => ⟨S2x2048x1024, .f32⟩
  | 38 => ⟨S2x2048x1024, .f32⟩
  | 39 => ⟨S2x2048x1024, .f32⟩
  | 40 => ⟨S1x1024, .f32⟩
  | 41 => ⟨S1024, .f32⟩
  | 42 => ⟨S2x2048x1024, .f32⟩
  | 43 => ⟨S1x1x1024, .f32⟩
  | 44 => ⟨S2x2048x1024, .f32⟩
  | 45 => ⟨S2x2048x1024, .f32⟩
  | 46 => ⟨S2x2048x1024, .f32⟩
  | 47 => ⟨S1024, .f32⟩
  | 48 => ⟨S1x1x1024, .f32⟩
  | 49 => ⟨S2x2048x1024, .f32⟩
  | 50 => ⟨S2x2048x1024, .f32⟩
  | 51 => ⟨S4096x1024, .f32⟩
  | 52 => ⟨S2x2048x1024, .f32⟩
  | 53 => ⟨S_, .f32⟩
  | 54 => ⟨S1024, .f32⟩
  | 55 => ⟨S1x1x1024, .f32⟩
  | 56 => ⟨S_, .f32⟩
  | 57 => ⟨S1024, .f32⟩
  | 58 => ⟨S1x1024, .f32⟩
  | 59 => ⟨S2x2048x1024, .f32⟩
  | 60 => ⟨S2x2048x1024, .f32⟩
  | 61 => ⟨S2x2048x1024, .f32⟩
  | 62 => ⟨S_, .f32⟩
  | 63 => ⟨S1024, .f32⟩
  | 64 => ⟨S1x1x1024, .f32⟩
  | 65 => ⟨S_, .f32⟩
  | 66 => ⟨S1024, .f32⟩
  | 67 => ⟨S_, .f32⟩
  | 68 => ⟨S2x2051x1024, .f32⟩
  | 69 => ⟨S1x1024, .f32⟩
  | 70 => ⟨S_, .f32⟩
  | 71 => ⟨S4x1024, .f32⟩
  | 72 => ⟨S2x2048x1024, .f32⟩
  | 73 => ⟨S2x2048x1024, .f32⟩
  | 74 => ⟨S2x2048x1024, .f32⟩
  | 75 => ⟨S_, .f32⟩
  | 76 => ⟨S1024, .f32⟩
  | 77 => ⟨S1x1x1024, .f32⟩
  | 78 => ⟨S_, .f32⟩
  | 79 => ⟨S1024, .f32⟩
  | 80 => ⟨S_, .f32⟩
  | 81 => ⟨S2x2051x1024, .f32⟩
  | 82 => ⟨S2x2051x1024, .f32⟩
  | 83 => ⟨S1x1024, .f32⟩
  | 84 => ⟨S_, .f32⟩
  | 85 => ⟨S4x1024, .f32⟩
  | 86 => ⟨S4x1024, .f32⟩
  | 87 => ⟨S2x2048x1024, .f32⟩
  | 88 => ⟨S2x2048x1024, .f32⟩
  | 89 => ⟨S2x2048x1024, .f32⟩
  | 90 => ⟨S_, .f32⟩
  | 91 => ⟨S1024, .f32⟩
  | 92 => ⟨S1x1x1024, .f32⟩
  | 93 => ⟨S_, .f32⟩
  | 94 => ⟨S1024, .f32⟩
  | 95 => ⟨S_, .f32⟩
  | 96 => ⟨S2x2051x1024, .f32⟩
  | 97 => ⟨S2x2051x1024, .f32⟩
  | 98 => ⟨S1x1024, .f32⟩
  | 99 => ⟨S_, .f32⟩
  | 100 => ⟨S4x1024, .f32⟩
  | 101 => ⟨S4x1024, .f32⟩
  | 102 => ⟨S2x2048x1024, .f32⟩
  | 103 => ⟨S2x2048x1024, .f32⟩
  | 104 => ⟨S2x2048x1024, .f32⟩
  | 105 => ⟨S_, .f32⟩
  | 106 => ⟨S1024, .f32⟩
  | 107 => ⟨S1x1x1024, .f32⟩
  | 108 => ⟨S_, .f32⟩
  | 109 => ⟨S1024, .f32⟩
  | 110 => ⟨S_, .f32⟩
  | 111 => ⟨S2x2051x1024, .f32⟩
  | 112 => ⟨S2x2051x1024, .f32⟩
  | 113 => ⟨S1x1024, .f32⟩
  | 114 => ⟨S_, .f32⟩
  | 115 => ⟨S4x1024, .f32⟩
  | 116 => ⟨S4x1024, .f32⟩
  | 117 => ⟨S2x2x1024, .f32⟩
  | 118 => ⟨S2x2048x1024, .f32⟩
  | 119 => ⟨S2x1x1024, .f32⟩
  | 120 => ⟨S4096x1024, .f32⟩
  | 121 => ⟨S_, .f32⟩
  | 122 => ⟨S4096x2048, .f32⟩
  | 123 => ⟨S4096x1024, .f32⟩
  | 124 => ⟨S4096x1024, .f32⟩
  | 125 => ⟨S4096x2048, .f32⟩
  | 126 => ⟨S4096x2048, .bf16⟩
  | 127 => ⟨S_, .f32⟩
  | _ => ⟨S4096x2048, .f32⟩

abbrev hbmTy0_1 (i : Nat) : BufTy := match i % 128 with
  | 0 => ⟨S3x1024, .f32⟩
  | 1 => ⟨S8x1024, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_14 : Ref sig .tc := ⟨.hbm, 90, rfl⟩
abbrev main_v70 : Ref sig .tc := ⟨.hbm, 91, rfl⟩
abbrev main_v71 : Ref sig .tc := ⟨.hbm, 92, rfl⟩
abbrev main_cst_15 : Ref sig .tc := ⟨.hbm, 93, rfl⟩
abbrev main_v72 : Ref sig .tc := ⟨.hbm, 94, rfl⟩
abbrev main_cst_16 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_18 : Ref sig .tc := ⟨.hbm, 105, rfl⟩
abbrev main_v81 : Ref sig .tc := ⟨.hbm, 106, rfl⟩
abbrev main_v82 : Ref sig .tc := ⟨.hbm, 107, rfl⟩
abbrev main_cst_19 : Ref sig .tc := ⟨.hbm, 108, rfl⟩
abbrev main_v83 : Ref sig .tc := ⟨.hbm, 109, rfl⟩
abbrev main_cst_20 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_21 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_22 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_23 : Ref sig .tc := ⟨.hbm, 127, rfl⟩
abbrev main_v98 : Ref sig .tc := ⟨.hbm, 128, rfl⟩
abbrev main_v99 : Ref sig .tc := ⟨.hbm, 129, rfl⟩

abbrev nD : Nat := 1
abbrev τ : Topo := Topo.v7x

variable {F : FTy → Type} [FloatOps F]
-- ==== Kernel19.lean ====
abbrev S4096x1024 : Shape := ⟨2, ![4096, 1024]⟩
abbrev S4096x2048 : Shape := ⟨2, ![4096, 2048]⟩
abbrev S1024x1024 : Shape := ⟨2, ![1024, 1024]⟩
abbrev S512x1024 : Shape := ⟨2, ![512, 1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1024x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S4096x1024, .f32⟩
  | .hbm, ⟨8, _⟩ => ⟨S4096x2048, .bf16⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel19Ideal.lean ====
variable {F : FTy → Type} [FloatOps F] [Named F]
def κ : String → Option EReal := fun
  | "gelu_cubic" => some ((8943 / 200000 : ℝ) : EReal)
  | "gelu_cubic3" => some ((26829 / 200000 : ℝ) : EReal)
  | _ => none
-- ==== Reference19Ideal.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel20.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel21.lean ====
abbrev S4096x1536 : Shape := ⟨2, ![4096, 1536]⟩
abbrev S2048x32 : Shape := ⟨2, ![2048, 32]⟩
abbrev S1x128 : Shape := ⟨2, ![1, 128]⟩
abbrev S2048x128 : Shape := ⟨2, ![2048, 128]⟩
abbrev S4096x128 : Shape := ⟨2, ![4096, 128]⟩
abbrev S4096x1024 : Shape := ⟨2, ![4096, 1024]⟩
abbrev S4096x256 : Shape := ⟨2, ![4096, 256]⟩
abbrev S512x1536 : Shape := ⟨2, ![512, 1536]⟩
abbrev S512x128 : Shape := ⟨2, ![512, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S2048x32, .f32⟩
  | .hbm, ⟨2, _⟩ => ⟨S2048x32, .f32⟩
  | .hbm, ⟨3, _⟩ => ⟨S2048x32, .f32⟩
  | .hbm, ⟨4, _⟩ => ⟨S2048x32, .f32⟩
  | .hbm, ⟨5, _⟩ => ⟨S1x128, .f32⟩
  | .hbm, ⟨6, _⟩ => ⟨S1x128, .f32⟩
  | .hbm, ⟨7, _⟩ => ⟨S2048x128, .f32⟩
  | .hbm, ⟨8, _⟩ => ⟨S2048x32, .f32⟩
  | .hbm, ⟨9, _⟩ => ⟨S2048x32, .f32⟩
  | .hbm, ⟨10, _⟩ => ⟨S2048x128, .f32⟩
  | .hbm, ⟨11, _⟩ => ⟨S4096x128, .f32⟩
  | .hbm, ⟨12, _⟩ => ⟨S4096x128, .f32⟩
  | .hbm, ⟨13, _⟩ => ⟨S4096x1024, .bf16⟩
  | .hbm, ⟨14, _⟩ => ⟨S4096x256, .bf16⟩
  | .hbm, ⟨15, _⟩ => ⟨S4096x256, .bf16⟩
  | .local _ .vmem, ⟨0, _⟩ => ⟨S512x1536, .f32⟩
  | .local _ .vmem, ⟨1, _⟩ => ⟨S512x1536, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S4096x1536 : Shape := ⟨2, ![4096, 1536]⟩
abbrev S2048x32 : Shape := ⟨2, ![2048, 32]⟩
abbrev S1x128 : Shape := ⟨2, ![1, 128]⟩
abbrev S2x2048x1536 : Shape := ⟨3, ![2, 2048, 1536]⟩
abbrev S2x2048x1024 : Shape := ⟨3, ![2, 2048, 1024]⟩
abbrev S2x2048x256 : Shape := ⟨3, ![2, 2048, 256]⟩
abbrev S2x2048x8x128 : Shape := ⟨4, ![2, 2048, 8, 128]⟩
abbrev S128 : Shape := ⟨1, ![128]⟩
abbrev S_ : Shape := ⟨0, ![]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S2048x1x32 : Shape := ⟨3, ![2048, 1, 32]⟩
abbrev S2x2048x8x64 : Shape := ⟨4, ![2, 2048, 8, 64]⟩
abbrev S2x2048x8x32 : Shape := ⟨4, ![2, 2048, 8, 32]⟩
abbrev S1x2048x1x32 : Shape := ⟨4, ![1, 2048, 1, 32]⟩
abbrev S2x2048x2x128 : Shape := ⟨4, ![2, 2048, 2, 128]⟩
abbrev S2x2048x2 : Shape := ⟨3, ![2, 2048, 2]⟩
abbrev S2x2048x2x1 : Shape := ⟨4, ![2, 2048, 2, 1]⟩
abbrev S2x2048x2x64 : Shape := ⟨4, ![2, 2048, 2, 64]⟩
abbrev S2x2048x2x32 : Shape := ⟨4, ![2, 2048, 2, 32]⟩
abbrev S4096x1024 : Shape := ⟨2, ![4096, 1024]⟩
abbrev S4096x256 : Shape := ⟨2, ![4096, 256]⟩

abbrev nBuf : Space → Nat
  | .hbm => 135
  | .vmem => 0
  | .smem => 0
  | _ => 0

abbrev hbmTy0_0 (i : Nat) : BufTy := match i % 128 with
  | 0 => ⟨S4096x1536, .f32⟩
  | 1 => ⟨S2048x32, .f32⟩
  | 2 => ⟨S2048x32, .f32⟩
  | 3 => ⟨S2048x32, .f32⟩
  | 4 => ⟨S2048x32, .f32⟩
  | 5 => ⟨S1x128, .f32⟩
  | 6 => ⟨S1x128, .f32⟩
  | 7 => ⟨S2x2048x1536, .f32⟩
  | 8 => ⟨S2x2048x1024, .f32⟩
  | 9 => ⟨S2x2048x256, .f32⟩
  | 10 => ⟨S2x2048x256, .f32⟩
  | 11 => ⟨S2x2048x8x128, .f32⟩
  | 12 => ⟨S128, .f32⟩
  | 13 => ⟨S2x2048x8x128, .f32⟩
  | 14 => ⟨S_, .f32⟩
  | 15 => ⟨S2x2048x8, .f32⟩
  | 16 => ⟨S2x2048x8x1, .f32⟩
  | 17 => ⟨S_, .f32⟩
  | 18 => ⟨S2x2048x8x1, .f32⟩
  | 19 => ⟨S2x2048x8x1, .f32⟩
  | 20 => ⟨S_, .f32⟩
  | 21 => ⟨S2x2048x8x1, .f32⟩
  | 22 => ⟨S2x2048x8x1, .f32⟩
  | 23 => ⟨S2x2048x8x1, .f32⟩
  | 24 => ⟨S2x2048x8x128, .f32⟩
  | 25 => ⟨S2x2048x8x128, .f32⟩
  | 26 => ⟨S1x1x1x128, .f32⟩
  | 27 => ⟨S2x2048x8x128, .f32⟩
  | 28 => ⟨S2x2048x8x128, .f32⟩
  | 29 => ⟨S2048x1x32, .f32⟩
  | 30 => ⟨S2048x1x32, .f32⟩
  | 31 => ⟨S2048x1x32, .f32⟩
  | 32 => ⟨S2048x1x32, .f32⟩
  | 33 => ⟨S2x2048x8x64, .f32⟩
  | 34 => ⟨S2x2048x8x64, .f32⟩
  | 35 => ⟨S2x2048x8x32, .f32⟩
  | 36 => ⟨S2x2048x8x32, .f32⟩
  | 37 => ⟨S1x2048x1x32, .f32⟩
  | 38 => ⟨S2x2048x8x32, .f32⟩
  | 39 => ⟨S2x2048x8x32, .f32⟩
  | 40 => ⟨S1x2048x1x32, .f32⟩
  | 41 => ⟨S2x2048x8x32, .f32⟩
  | 42 => ⟨S2x2048x8x32, .f32⟩
  | 43 => ⟨S2x2048x8x32, .f32⟩
  | 44 => ⟨S1x2048x1x32, .f32⟩
  | 45 => ⟨S2x2048x8x32, .f32⟩
  | 46 => ⟨S2x2048x8x32, .f32⟩
  | 47 => ⟨S1x2048x1x32, .f32⟩
  | 48 => ⟨S2x2048x8x32, .f32⟩
  | 49 => ⟨S2x2048x8x32, .f32⟩
  | 50 => ⟨S2x2048x8x32, .f32⟩
  | 51 => ⟨S2x2048x8x64, .f32⟩
  | 52 => ⟨S2x2048x8x32, .f32⟩
  | 53 => ⟨S2x2048x8x32, .f32⟩
  | 54 => ⟨S1x2048x1x32, .f32⟩
  | 55 => ⟨S2x2048x8x32, .f32⟩
  | 56 => ⟨S2x2048x8x32, .f32⟩
  | 57 => ⟨S1x2048x1x32, .f32⟩
  | 58 => ⟨S2x2048x8x32, .f32⟩
  | 59 => ⟨S2x2048x8x32, .f32⟩
  | 60 => ⟨S2x2048x8x32, .f32⟩
  | 61 => ⟨S1x2048x1x32, .f32⟩
  | 62 => ⟨S2x2048x8x32, .f32⟩
  | 63 => ⟨S2x2048x8x32, .f32⟩
  | 64 => ⟨S1x2048x1x32, .f32⟩
  | 65 => ⟨S2x2048x8x32, .f32⟩
  | 66 => ⟨S2x2048x8x32, .f32⟩
  | 67 => ⟨S2x2048x8x32, .f32⟩
  | 68 => ⟨S2x2048x8x64, .f32⟩
  | 69 => ⟨S2x2048x8x128, .f32⟩
  | 70 => ⟨S2x2048x2x128, .f32⟩
  | 71 => ⟨S128, .f32⟩
  | 72 => ⟨S2x2048x2x128, .f32⟩
  | 73 => ⟨S_, .f32⟩
  | 74 => ⟨S2x2048x2, .f32⟩
  | 75 => ⟨S2x2048x2x1, .f32⟩
  | 76 => ⟨S_, .f32⟩
  | 77 => ⟨S2x2048x2x1, .f32⟩
  | 78 => ⟨S2x2048x2x1, .f32⟩
  | 79 => ⟨S_, .f32⟩
  | 80 => ⟨S2x2048x2x1, .f32⟩
  | 81 => ⟨S2x2048x2x1, .f32⟩
  | 82 => ⟨S2x2048x2x1, .f32⟩
  | 83 => ⟨S2x2048x2x128, .f32⟩
  | 84 => ⟨S2x2048x2x128, .f32⟩
  | 85 => ⟨S1x1x1x128, .f32⟩
  | 86 => ⟨S2x2048x2x128, .f32⟩
  | 87 => ⟨S2x2048x2x128, .f32⟩
  | 88 => ⟨S2048x1x32, .f32⟩
  | 89 => ⟨S2048x1x32, .f32⟩
  | 90 => ⟨S2048x1x32, .f32⟩
  | 91 => ⟨S2048x1x32, .f32⟩
  | 92 => ⟨S2x2048x2x64, .f32⟩
  | 93 => ⟨S2x2048x2x64, .f32⟩
  | 94 => ⟨S2x2048x2x32, .f32⟩
  | 95 => ⟨S2x2048x2x32, .f32⟩
  | 96 => ⟨S1x2048x1x32, .f32⟩
  | 97 => ⟨S2x2048x2x32, .f32⟩
  | 98 => ⟨S2x2048x2x32, .f32⟩
  | 99 => ⟨S1x2048x1x32, .f32⟩
  | 100 => ⟨S2x2048x2x32, .f32⟩
  | 101 => ⟨S2x2048x2x32, .f32⟩
  | 102 => ⟨S2x2048x2x32, .f32⟩
  | 103 => ⟨S1x2048x1x32, .f32⟩
  | 104 => ⟨S2x2048x2x32, .f32⟩
  | 105 => ⟨S2x2048x2x32, .f32⟩
  | 106 => ⟨S1x2048x1x32, .f32⟩
  | 107 => ⟨S2x2048x2x32, .f32⟩
  | 108 => ⟨S2x2048x2x32, .f32⟩
  | 109 => ⟨S2x2048x2x32, .f32⟩
  | 110 => ⟨S2x2048x2x64, .f32⟩
  | 111 => ⟨S2x2048x2x32, .f32⟩
  | 112 => ⟨S2x2048x2x32, .f32⟩
  | 113 => ⟨S1x2048x1x32, .f32⟩
  | 114 => ⟨S2x2048x2x32, .f32⟩
  | 115 => ⟨S2x2048x2x32, .f32⟩
  | 116 => ⟨S1x2048x1x32, .f32⟩
  | 117 => ⟨S2x2048x2x32, .f32⟩
  | 118 => ⟨S2x2048x2x32, .f32⟩
  | 119 => ⟨S2x2048x2x32, .f32⟩
  | 120 => ⟨S1x2048x1x32, .f32⟩
  | 121 => ⟨S2x2048x2x32, .f32⟩
  | 122 => ⟨S2x2048x2x32, .f32⟩
  | 123 => ⟨S1x2048x1x32, .f32⟩
  | 124 => ⟨S2x2048x2x32, .f32⟩
  | 125 => ⟨S2x2048x2x32, .f32⟩
  | 126 => ⟨S2x2048x2x32, .f32⟩
  | 127 => ⟨S2x2048x2x64, .f32⟩
  | _ => ⟨S4096x1536, .f32⟩

abbrev hbmTy0_1 (i : Nat) : BufTy := match i % 128 with
  | 0 => ⟨S2x2048x2x128, .f32⟩
  | 1 => ⟨S4096x1024, .f32⟩
  | 2 => ⟨S4096x256, .f32⟩
  | 3 => ⟨S4096x256, .f32⟩
  | 4 => ⟨S4096x1024, .bf16⟩
  | 5 => ⟨S4096x256, .bf16⟩
  | 6 => ⟨S4096x256, .bf16⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_2 : Ref sig .tc := ⟨.hbm, 73, rfl⟩
abbrev main_v63 : Ref sig .tc := ⟨.hbm, 74, rfl⟩
abbrev main_v64 : Ref sig .tc := ⟨.hbm, 75, rfl⟩
abbrev main_cst_3 : Ref sig .tc := ⟨.hbm, 76, rfl⟩
abbrev main_v65 : Ref sig .tc := ⟨.hbm, 77, rfl⟩
abbrev main_v66 : Ref sig .tc := ⟨.hbm, 78, rfl⟩
abbrev main_cst_4 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩

abbrev nD : Nat := 1
abbrev τ : Topo := Topo.v7x

variable {F : FTy → Type} [FloatOps F]
-- ==== Kernel22.lean ====
abbrev S4096x1536 : Shape := ⟨2, ![4096, 1536]⟩
abbrev S4096x1024 : Shape := ⟨2, ![4096, 1024]⟩
abbrev S4096x256 : Shape := ⟨2, ![4096, 256]⟩
abbrev S2048x32 : Shape := ⟨2, ![2048, 32]⟩
abbrev S1x128 : Shape := ⟨2, ![1, 128]⟩
abbrev S2048x128 : Shape := ⟨2, ![2048, 128]⟩
abbrev S4096x128 : Shape := ⟨2, ![4096, 128]⟩
abbrev S512x1536 : Shape := ⟨2, ![512, 1536]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 19
  | .vmem => 18
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x256, .f32⟩
  | .hbm, ⟨3, _⟩ => ⟨S4096x256, .f32⟩
  | .hbm, ⟨4, _⟩ => ⟨S2048x32, .f32⟩
  | .hbm, ⟨5, _⟩ => ⟨S2048x32, .f32⟩
  | .hbm, ⟨6, _⟩ => ⟨S2048x32, .f32⟩
  | .hbm, ⟨7, _⟩ => ⟨S2048x32, .f32⟩
  | .hbm, ⟨8, _⟩ => ⟨S1x128, .f32⟩
  | .hbm, ⟨9, _⟩ => ⟨S1x128, .f32⟩
  | .hbm, ⟨10, _⟩ => ⟨S2048x128, .f32⟩
  | .hbm, ⟨11, _⟩ => ⟨S2048x32, .f32⟩
  | .hbm, ⟨12, _⟩ => ⟨S2048x32, .f32⟩
  | .hbm, ⟨13, _⟩ => ⟨S2048x128, .f32⟩
  | .hbm, ⟨14, _⟩ => ⟨S4096x128, .f32⟩
  | .hbm, ⟨15, _⟩ => ⟨S4096x128, .f32⟩
  | .hbm, ⟨16, _⟩ => ⟨S4096x1536, .bf16⟩
  | .hbm, ⟨17, _⟩ => ⟨S1x128, .f32⟩
  | .hbm, ⟨18, _⟩ => ⟨S1x128, .f32⟩
  | .local _ .vmem, ⟨0, _⟩ => ⟨S512x1536, .f32⟩
  | .local _ .vmem, ⟨1, _⟩ => ⟨S512x1536, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | .local _ .vmem, ⟨14, _⟩ => ⟨S512x1536, .bf16⟩
  | .local _ .vmem, ⟨15, _⟩ => ⟨S512x1536, .bf16⟩
  | .local _ .vmem, ⟨16, _⟩ => ⟨S1x128, .f32⟩
  | .local _ .vmem, ⟨17, _⟩ => ⟨S1x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference22Ideal.lean ====
abbrev S4096x1536 : Shape := ⟨2, ![4096, 1536]⟩
abbrev S4096x1024 : Shape := ⟨2, ![4096, 1024]⟩
abbrev S4096x256 : Shape := ⟨2, ![4096, 256]⟩
abbrev S2048x32 : Shape := ⟨2, ![2048, 32]⟩
abbrev S1x128 : Shape := ⟨2, ![1, 128]⟩
abbrev S2x2048x1536 : Shape := ⟨3, ![2, 2048, 1536]⟩
abbrev S2x2048x1024 : Shape := ⟨3, ![2, 2048, 1024]⟩
abbrev S2x2048x256 : Shape := ⟨3, ![2, 2048, 256]⟩
abbrev S2x2048x8x128 : Shape := ⟨4, ![2, 2048, 8, 128]⟩
abbrev S128 : Shape := ⟨1, ![128]⟩
abbrev S_ : Shape := ⟨0, ![]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S2048x1x32 : Shape := ⟨3, ![2048, 1, 32]⟩
abbrev S2x2048x8x64 : Shape := ⟨4, ![2, 2048, 8, 64]⟩
abbrev S2x2048x8x32 : Shape := ⟨4, ![2, 2048, 8, 32]⟩
abbrev S1x2048x1x32 : Shape := ⟨4, ![1, 2048, 1, 32]⟩
abbrev S2x2048x2x128 : Shape := ⟨4, ![2, 2048, 2, 128]⟩
abbrev S2x2048x2 : Shape := ⟨3, ![2, 2048, 2]⟩
abbrev S2x2048x2x1 : Shape := ⟨4, ![2, 2048, 2, 1]⟩
abbrev S2x2048x2x64 : Shape := ⟨4, ![2, 2048, 2, 64]⟩
abbrev S2x2048x2x32 : Shape := ⟨4, ![2, 2048, 2, 32]⟩

abbrev nBuf : Space → Nat
  | .hbm => 265
  | .vmem => 0
  | .smem => 0
  | _ => 0

abbrev hbmTy0_0 (i : Nat) : BufTy := match i % 128 with
  | 0 => ⟨S4096x1536, .f32⟩
  | 1 => ⟨S4096x1024, .f32⟩
  | 2 => ⟨S4096x256, .f32⟩
  | 3 => ⟨S4096x256, .f32⟩
  | 4 => ⟨S2048x32, .f32⟩
  | 5 => ⟨S2048x32, .f32⟩
  | 6 => ⟨S2048x32, .f32⟩
  | 7 => ⟨S2048x32, .f32⟩
  | 8 => ⟨S1x128, .f32⟩
  | 9 => ⟨S1x128, .f32⟩
  | 10 => ⟨S2x2048x1536, .f32⟩
  | 11 => ⟨S2x2048x1024, .f32⟩
  | 12 => ⟨S2x2048x256, .f32⟩
  | 13 => ⟨S2x2048x256, .f32⟩
  | 14 => ⟨S2x2048x8x128, .f32⟩
  | 15 => ⟨S128, .f32⟩
  | 16 => ⟨S2x2048x8x128, .f32⟩
  | 17 => ⟨S_, .f32⟩
  | 18 => ⟨S2x2048x8, .f32⟩
  | 19 => ⟨S2x2048x8x1, .f32⟩
  | 20 => ⟨S_, .f32⟩
  | 21 => ⟨S2x2048x8x1, .f32⟩
  | 22 => ⟨S2x2048x8x1, .f32⟩
  | 23 => ⟨S_, .f32⟩
  | 24 => ⟨S2x2048x8x1, .f32⟩
  | 25 => ⟨S2x2048x8x1, .f32⟩
  | 26 => ⟨S2x2048x8x1, .f32⟩
  | 27 => ⟨S2x2048x8x1, .f32⟩
  | 28 => ⟨S_, .f32⟩
  | 29 => ⟨S2x2048x8x1, .f32⟩
  | 30 => ⟨S2x2048x8x1, .f32⟩
  | 31 => ⟨S2x2048x8x128, .f32⟩
  | 32 => ⟨S2x2048x8x128, .f32⟩
  | 33 => ⟨S1x1x1x128, .f32⟩
  | 34 => ⟨S2x2048x8x128, .f32⟩
  | 35 => ⟨S2x2048x8x128, .f32⟩
  | 36 => ⟨S2048x1x32, .f32⟩
  | 37 => ⟨S2048x1x32, .f32⟩
  | 38 => ⟨S2048x1x32, .f32⟩
  | 39 => ⟨S2048x1x32, .f32⟩
  | 40 => ⟨S2x2048x8x64, .f32⟩
  | 41 => ⟨S2x2048x8x64, .f32⟩
  | 42 => ⟨S2x2048x8x32, .f32⟩
  | 43 => ⟨S2x2048x8x32, .f32⟩
  | 44 => ⟨S1x2048x1x32, .f32⟩
  | 45 => ⟨S2x2048x8x32, .f32⟩
  | 46 => ⟨S2x2048x8x32, .f32⟩
  | 47 => ⟨S1x2048x1x32, .f32⟩
  | 48 => ⟨S2x2048x8x32, .f32⟩
  | 49 => ⟨S2x2048x8x32, .f32⟩
  | 50 => ⟨S2x2048x8x32, .f32⟩
  | 51 => ⟨S1x2048x1x32, .f32⟩
  | 52 => ⟨S2x2048x8x32, .f32⟩
  | 53 => ⟨S2x2048x8x32, .f32⟩
  | 54 => ⟨S1x2048x1x32, .f32⟩
  | 55 => ⟨S2x2048x8x32, .f32⟩
  | 56 => ⟨S2x2048x8x32, .f32⟩
  | 57 => ⟨S2x2048x8x32, .f32⟩
  | 58 => ⟨S2x2048x8x64, .f32⟩
  | 59 => ⟨S2x2048x8x32, .f32⟩
  | 60 => ⟨S2x2048x8x32, .f32⟩
  | 61 => ⟨S1x2048x1x32, .f32⟩
  | 62 => ⟨S2x2048x8x32, .f32⟩
  | 63 => ⟨S2x2048x8x32, .f32⟩
  | 64 => ⟨S1x2048x1x32, .f32⟩
  | 65 => ⟨S2x2048x8x32, .f32⟩
  | 66 => ⟨S2x2048x8x32, .f32⟩
  | 67 => ⟨S2x2048x8x32, .f32⟩
  | 68 => ⟨S1x2048x1x32, .f32⟩
  | 69 => ⟨S2x2048x8x32, .f32⟩
  | 70 => ⟨S2x2048x8x32, .f32⟩
  | 71 => ⟨S1x2048x1x32, .f32⟩
  | 72 => ⟨S2x2048x8x32, .f32⟩
  | 73 => ⟨S2x2048x8x32, .f32⟩
  | 74 => ⟨S2x2048x8x32, .f32⟩
  | 75 => ⟨S2x2048x8x64, .f32⟩
  | 76 => ⟨S2x2048x8x128, .f32⟩
  | 77 => ⟨S2x2048x2x128, .f32⟩
  | 78 => ⟨S128, .f32⟩
  | 79 => ⟨S2x2048x2x128, .f32⟩
  | 80 => ⟨S_, .f32⟩
  | 81 => ⟨S2x2048x2, .f32⟩
  | 82 => ⟨S2x2048x2x1, .f32⟩
  | 83 => ⟨S_, .f32⟩
  | 84 => ⟨S2x2048x2x1, .f32⟩
  | 85 => ⟨S2x2048x2x1, .f32⟩
  | 86 => ⟨S_, .f32⟩
  | 87 => ⟨S2x2048x2x1, .f32⟩
  | 88 => ⟨S2x2048x2x1, .f32⟩
  | 89 => ⟨S2x2048x2x1, .f32⟩
  | 90 => ⟨S2x2048x2x1, .f32⟩
  | 91 => ⟨S_, .f32⟩
  | 92 => ⟨S2x2048x2x1, .f32⟩
  | 93 => ⟨S2x2048x2x1, .f32⟩
  | 94 => ⟨S2x2048x2x128, .f32⟩
  | 95 => ⟨S2x2048x2x128, .f32⟩
  | 96 => ⟨S1x1x1x128, .f32⟩
  | 97 => ⟨S2x2048x2x128, .f32⟩
  | 98 => ⟨S2x2048x2x128, .f32⟩
  | 99 => ⟨S2048x1x32, .f32⟩
  | 100 => ⟨S2048x1x32, .f32⟩
  | 101 => ⟨S2048x1x32, .f32⟩
  | 102 => ⟨S2048x1x32, .f32⟩
  | 103 => ⟨S2x2048x2x64, .f32⟩
  | 104 => ⟨S2x2048x2x64, .f32⟩
  | 105 => ⟨S2x2048x2x32, .f32⟩
  | 106 => ⟨S2x2048x2x32, .f32⟩
  | 107 => ⟨S1x2048x1x32, .f32⟩
  | 108 => ⟨S2x2048x2x32, .f32⟩
  | 109 => ⟨S2x2048x2x32, .f32⟩
  | 110 => ⟨S1x2048x1x32, .f32⟩
  | 111 => ⟨S2x2048x2x32, .f32⟩
  | 112 => ⟨S2x2048x2x32, .f32⟩
  | 113 => ⟨S2x2048x2x32, .f32⟩
  | 114 => ⟨S1x2048x1x32, .f32⟩
  | 115 => ⟨S2x2048x2x32, .f32⟩
  | 116 => ⟨S2x2048x2x32, .f32⟩
  | 117 => ⟨S1x2048x1x32, .f32⟩
  | 118 => ⟨S2x2048x2x32, .f32⟩
  | 119 => ⟨S2x2048x2x32, .f32⟩
  | 120 => ⟨S2x2048x2x32, .f32⟩
  | 121 => ⟨S2x2048x2x64, .f32⟩
  | 122 => ⟨S2x2048x2x32, .f32⟩
  | 123 => ⟨S2x2048x2x32, .f32⟩
  | 124 => ⟨S1x2048x1x32, .f32⟩
  | 125 => ⟨S2x2048x2x32, .f32⟩
  | 126 => ⟨S2x2048x2x32, .f32⟩
  | 127 => ⟨S1x2048x1x32, .f32⟩
  | _ => ⟨S4096x1536, .f32⟩

abbrev hbmTy0_1 (i : Nat) : BufTy := match i % 128 with
  | 0 => ⟨S2x2048x2x32, .f32⟩
  | 1 => ⟨S2x2048x2x32, .f32⟩
  | 2 => ⟨S2x2048x2x32, .f32⟩
  | 3 => ⟨S1x2048x1x32, .f32⟩
  | 4 => ⟨S2x2048x2x32, .f32⟩
  | 5 => ⟨S2x2048x2x32, .f32⟩
  | 6 => ⟨S1x2048x1x32, .f32⟩
  | 7 => ⟨S2x2048x2x32, .f32⟩
  | 8 => ⟨S2x2048x2x32, .f32⟩
  | 9 => ⟨S2x2048x2x32, .f32⟩
  | 10 => ⟨S2x2048x2x64, .f32⟩
  | 11 => ⟨S2x2048x2x128, .f32⟩
  | 12 => ⟨S4096x1024, .f32⟩
  | 13 => ⟨S4096x256, .f32⟩
  | 14 => ⟨S4096x256, .f32⟩
  | 15 => ⟨S2x2048x256, .f32⟩
  | 16 => ⟨S2x2048x2x128, .f32⟩
  | 17 => ⟨S2x2048x8x128, .f32⟩
  | 18 => ⟨S2x2048x2x64, .f32⟩
  | 19 => ⟨S2x2048x2x64, .f32⟩
  | 20 => ⟨S2x2048x2x32, .f32⟩
  | 21 => ⟨S2x2048x2x32, .f32⟩
  | 22 => ⟨S2x2048x2x32, .f32⟩
  | 23 => ⟨S2x2048x2x32, .f32⟩
  | 24 => ⟨S2x2048x2x32, .f32⟩
  | 25 => ⟨S2x2048x2x32, .f32⟩
  | 26 => ⟨S2x2048x2x32, .f32⟩
  | 27 => ⟨S2x2048x2x32, .f32⟩
  | 28 => ⟨S2x2048x2x32, .f32⟩
  | 29 => ⟨S2x2048x2x32, .f32⟩
  | 30 => ⟨S2x2048x2x32, .f32⟩
  | 31 => ⟨S2x2048x2x32, .f32⟩
  | 32 => ⟨S2x2048x2x32, .f32⟩
  | 33 => ⟨S2x2048x2x64, .f32⟩
  | 34 => ⟨S2x2048x2x32, .f32⟩
  | 35 => ⟨S2x2048x2x32, .f32⟩
  | 36 => ⟨S2x2048x2x32, .f32⟩
  | 37 => ⟨S2x2048x2x32, .f32⟩
  | 38 => ⟨S2x2048x2x32, .f32⟩
  | 39 => ⟨S2x2048x2x32, .f32⟩
  | 40 => ⟨S2x2048x2x32, .f32⟩
  | 41 => ⟨S2x2048x2x32, .f32⟩
  | 42 => ⟨S2x2048x2x32, .f32⟩
  | 43 => ⟨S2x2048x2x32, .f32⟩
  | 44 => ⟨S2x2048x2x32, .f32⟩
  | 45 => ⟨S2x2048x2x32, .f32⟩
  | 46 => ⟨S2x2048x2x32, .f32⟩
  | 47 => ⟨S2x2048x2x64, .f32⟩
  | 48 => ⟨S2x2048x2x128, .f32⟩
  | 49 => ⟨S2x2048x2x128, .f32⟩
  | 50 => ⟨S_, .f32⟩
  | 51 => ⟨S128, .f32⟩
  | 52 => ⟨S1x1x1x128, .f32⟩
  | 53 => ⟨S2x2048x2x128, .f32⟩
  | 54 => ⟨S2x2048x2x128, .f32⟩
  | 55 => ⟨S_, .f32⟩
  | 56 => ⟨S128, .f32⟩
  | 57 => ⟨S2x2048x2x128, .f32⟩
  | 58 => ⟨S_, .f32⟩
  | 59 => ⟨S2x2048x2, .f32⟩
  | 60 => ⟨S2x2048x2x1, .f32⟩
  | 61 => ⟨S2x2048x2x128, .f32⟩
  | 62 => ⟨S2x2048x2x128, .f32⟩
  | 63 => ⟨S2x2048x2x1, .f32⟩
  | 64 => ⟨S_, .f32⟩
  | 65 => ⟨S2x2048x2x1, .f32⟩
  | 66 => ⟨S2x2048x2x1, .f32⟩
  | 67 => ⟨S_, .f32⟩
  | 68 => ⟨S2x2048x2, .f32⟩
  | 69 => ⟨S2x2048x2x128, .f32⟩
  | 70 => ⟨S2x2048x2x128, .f32⟩
  | 71 => ⟨S2x2048x2x128, .f32⟩
  | 72 => ⟨S2x2048x2x128, .f32⟩
  | 73 => ⟨S2x2048x2x128, .f32⟩
  | 74 => ⟨S1x128, .f32⟩
  | 75 => ⟨S2x2048x256, .f32⟩
  | 76 => ⟨S2x2048x8x64, .f32⟩
  | 77 => ⟨S2x2048x8x64, .f32⟩
  | 78 => ⟨S2x2048x8x32, .f32⟩
  | 79 => ⟨S2x2048x8x32, .f32⟩
  | 80 => ⟨S2x2048x8x32, .f32⟩
  | 81 => ⟨S2x2048x8x32, .f32⟩
  | 82 => ⟨S2x2048x8x32, .f32⟩
  | 83 => ⟨S2x2048x8x32, .f32⟩
  | 84 => ⟨S2x2048x8x32, .f32⟩
  | 85 => ⟨S2x2048x8x32, .f32⟩
  | 86 => ⟨S2x2048x8x32, .f32⟩
  | 87 => ⟨S2x2048x8x32, .f32⟩
  | 88 => ⟨S2x2048x8x32, .f32⟩
  | 89 => ⟨S2x2048x8x32, .f32⟩
  | 90 => ⟨S2x2048x8x32, .f32⟩
  | 91 => ⟨S2x2048x8x64, .f32⟩
  | 92 => ⟨S2x2048x8x32, .f32⟩
  | 93 => ⟨S2x2048x8x32, .f32⟩
  | 94 => ⟨S2x2048x8x32, .f32⟩
  | 95 => ⟨S2x2048x8x32, .f32⟩
  | 96 => ⟨S2x2048x8x32, .f32⟩
  | 97 => ⟨S2x2048x8x32, .f32⟩
  | 98 => ⟨S2x2048x8x32, .f32⟩
  | 99 => ⟨S2x2048x8x32, .f32⟩
  | 100 => ⟨S2x2048x8x32, .f32⟩
  | 101 => ⟨S2x2048x8x32, .f32⟩
  | 102 => ⟨S2x2048x8x32, .f32⟩
  | 103 => ⟨S2x2048x8x32, .f32⟩
  | 104 => ⟨S2x2048x8x32, .f32⟩
  | 105 => ⟨S2x2048x8x64, .f32⟩
  | 106 => ⟨S2x2048x8x128, .f32⟩
  | 107 => ⟨S2x2048x8x128, .f32⟩
  | 108 => ⟨S_, .f32⟩
  | 109 => ⟨S128, .f32⟩
  | 110 => ⟨S1x1x1x128, .f32⟩
  | 111 => ⟨S2x2048x8x128, .f32⟩
  | 112 => ⟨S2x2048x8x128, .f32⟩
  | 113 => ⟨S_, .f32⟩
  | 114 => ⟨S128, .f32⟩
  | 115 => ⟨S2x2048x8x128, .f32⟩
  | 116 => ⟨S_, .f32⟩
  | 117 => ⟨S2x2048x8, .f32⟩
  | 118 => ⟨S2x2048x8x1, .f32⟩
  | 119 => ⟨S2x2048x8x128, .f32⟩
  | 120 => ⟨S2x2048x8x128, .f32⟩
  | 121 => ⟨S2x2048x8x1, .f32⟩
  | 122 => ⟨S_, .f32⟩
  | 123 => ⟨S2x2048x8x1, .f32⟩
  | 124 => ⟨S2x2048x8x1, .f32⟩
  | 125 => ⟨S_, .f32⟩
  | 126 => ⟨S2x2048x8, .f32⟩
  | 127 => ⟨S2x2048x8x128, .f32⟩
  | _ => ⟨S4096x1536, .f32⟩

abbrev hbmTy0_2 (i : Nat) : BufTy := match i % 128 with
  | 0 => ⟨S2x2048x8x128, .f32⟩
  | 1 => ⟨S2x2048x8x128, .f32⟩
  | 2 => ⟨S2x2048x8x128, .f32⟩
  | 3 => ⟨S2x2048x8x128, .f32⟩
  | 4 => ⟨S1x128, .f32⟩
  | 5 => ⟨S2x2048x1024, .f32⟩
  | 6 => ⟨S2x2048x1536, .f32⟩
  | 7 => ⟨S4096x1536, .f32⟩
  | 8 => ⟨S4096x1536, .bf16⟩
  | _ => ⟨S4096x1536, .f32⟩

abbrev hbmTy (i : Nat) : BufTy := match i / 128 with
  | 0 => hbmTy0_0 i
  | 1 => hbmTy0_1 i
  | 2 => hbmTy0_2 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_3 : Ref sig .tc := ⟨.hbm, 80, rfl⟩
abbrev main_v66 : Ref sig .tc := ⟨.hbm, 81, rfl⟩
abbrev main_v67 : Ref sig .tc := ⟨.hbm, 82, rfl⟩
abbrev main_cst_4 : Ref sig .tc := ⟨.hbm, 83, rfl⟩
abbrev main_v68 : Ref sig .tc := ⟨.hbm, 84, rfl⟩
abbrev main_v69 : Ref sig .tc := ⟨.hbm, 85, rfl⟩
abbrev main_cst_5 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_6 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_cst_7 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_cst_8 : Ref sig .tc := ⟨.hbm, 183, rfl⟩
abbrev main_v164 : Ref sig .tc := ⟨.hbm, 184, rfl⟩
abbrev main_v165 : Ref sig .tc := ⟨.hbm, 185, rfl⟩
abbrev main_cst_9 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_cst_10 : Ref sig .tc := ⟨.hbm, 192, rfl⟩
abbrev main_v171 : Ref sig .tc := ⟨.hbm, 193, rfl⟩
abbrev main_v172 : Ref sig .tc := ⟨.hbm, 194, rfl⟩
abbrev main_cst_11 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_cst_12 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_cst_13 : Ref sig .tc := ⟨.hbm, 241, rfl⟩
abbrev main_v217 : Ref sig .tc := ⟨.hbm, 242, rfl⟩
abbrev main_v218 : Ref sig .tc := ⟨.hbm, 243, rfl⟩
abbrev main_cst_14 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_cst_15 : Ref sig .tc := ⟨.hbm, 250, rfl⟩
abbrev main_v224 : Ref sig .tc := ⟨.hbm, 251, rfl⟩
abbrev main_v225 : Ref sig .tc := ⟨.hbm, 252, rfl⟩
abbrev main_cst_16 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩

abbrev nD : Nat := 1
abbrev τ : Topo := Topo.v7x

variable {F : FTy → Type} [FloatOps F]
-- ==== Proof.Stored.lean ====
/- What one grid point of the gradient kernel leaves in its three staging blocks, as functions of the five input blocks
   (query, key, value, saved output, output gradient) and, for the key and value gradients, of what the block held.
   The query rows are handled in four chunks of 512; every chunk computes the same functions. -/
module

public import proofs.«01_k».proof.Proof.Gen.KernelIdeal.Value
public import Idealize.ShloMosaic.Lib.Pipeline.ValueKit.Tiles
public import Idealize.ShloMosaic.Lib.Tactic

@[expose] public section

noncomputable section

namespace Cert.KernelIdeal.Stored

open Cert.KernelIdeal Cert.KernelIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl

/-- Rows 0 … 511 of a block. -/
abbrev rows0 {e : EltTy} (x : Vec F S2048x128 e) : Vec F S512x128 e := View.ld x (Rect.unit (s := S2048x128) ![0, 0] S512x128.size inb_S2048x128_S512x128_0_0)
/-- Rows 512 … 1023 of a block. -/
abbrev rows1 {e : EltTy} (x : Vec F S2048x128 e) : Vec F S512x128 e := View.ld x (Rect.unit (s := S2048x128) ![512, 0] S512x128.size inb_S2048x128_S512x128_512_0)
/-- Rows 1024 … 1535 of a block. -/
abbrev rows2 {e : EltTy} (x : Vec F S2048x128 e) : Vec F S512x128 e := View.ld x (Rect.unit (s := S2048x128) ![1024, 0] S512x128.size inb_S2048x128_S512x128_1024_0)
/-- Rows 1536 … 2047 of a block. -/
abbrev rows3 {e : EltTy} (x : Vec F S2048x128 e) : Vec F S512x128 e := View.ld x (Rect.unit (s := S2048x128) ![1536, 0] S512x128.size inb_S2048x128_S512x128_1536_0)

/-- A chunk's unnormalised weights (stored narrow for the products). -/
abbrev weights (k : Vec F S2048x128 .bf16) (q : Vec F S512x128 .bf16) : FVec F S512x2048 .bf16 := k0_pay12 (k0_pay7 k q)
/-- A chunk's reciprocal row sums. -/
abbrev recip (k : Vec F S2048x128 .bf16) (q : Vec F S512x128 .bf16) : FVec F S512x1 .f32 := k0_pay8 k q
/-- A chunk's unnormalised logit gradients. -/
abbrev grads (k v : Vec F S2048x128 .bf16) (q d o : Vec F S512x128 .bf16) : FVec F S512x2048 .bf16 := k0_pay9 k v q d o
/-- A chunk's query gradient. -/
abbrev chunkDq (k v : Vec F S2048x128 .bf16) (q d o : Vec F S512x128 .bf16) : FVec F S512x128 .f32 := k0_pay11 (recip k q) (k0_pay10 k v q d o)
/-- A chunk's output gradient over the row sums. -/
abbrev scaledDo (k : Vec F S2048x128 .bf16) (q d : Vec F S512x128 .bf16) : FVec F S512x128 .bf16 := k0_pay13 d (recip k q)
/-- A chunk's queries over the row sums, scaled. -/
abbrev scaledQ (k : Vec F S2048x128 .bf16) (q : Vec F S512x128 .bf16) : FVec F S512x128 .bf16 := k0_pay14 q (recip k q)

/-- Four chunks of 512 × 2048 one below the other. -/
abbrev stackWide (a b c d : FVec F S512x2048 .bf16) : FVec F S2048x2048 .bf16 :=
  concatenate S2048x2048 0 [⟨S512x2048, a⟩, ⟨S512x2048, b⟩, ⟨S512x2048, c⟩, ⟨S512x2048, d⟩] concatenates_S512x2048_S512x2048_S512x2048_S512x2048_S2048x2048_d0
/-- Four chunks of 512 × 128 one below the other. -/
abbrev stack (a b c d : FVec F S512x128 .bf16) : FVec F S2048x128 .bf16 :=
  concatenate S2048x128 0 [⟨S512x128, a⟩, ⟨S512x128, b⟩, ⟨S512x128, c⟩, ⟨S512x128, d⟩] concatenates_S512x128_S512x128_S512x128_S512x128_S2048x128_d0

/-- The value gradient's block after the point, from what it held. -/
def blockDv (x0 x1 x2 x3 x4 : Vec F S2048x128 .bf16) (old : Vec F S2048x128 .f32) : FVec F S2048x128 .f32 :=
  addf old (matmul dot_S2048x2048_S2048x128_S2048x128_0_0_1_1_n_n none
    (stackWide (weights x1 (rows0 x0)) (weights x1 (rows1 x0)) (weights x1 (rows2 x0)) (weights x1 (rows3 x0)))
    (stack (scaledDo x1 (rows0 x0) (rows0 x4)) (scaledDo x1 (rows1 x0) (rows1 x4)) (scaledDo x1 (rows2 x0) (rows2 x4)) (scaledDo x1 (rows3 x0) (rows3 x4)))
    (constant S2048x128 .f32 0x00000000#32))

/-- The key gradient's block after the point, from what it held. -/
def blockDk (x0 x1 x2 x3 x4 : Vec F S2048x128 .bf16) (old : Vec F S2048x128 .f32) : FVec F S2048x128 .f32 :=
  addf old (matmul dot_S2048x2048_S2048x128_S2048x128_0_0_1_1_n_n none
    (stackWide (grads x1 x2 (rows0 x0) (rows0 x4) (rows0 x3)) (grads x1 x2 (rows1 x0) (rows1 x4) (rows1 x3))
      (grads x1 x2 (rows2 x0) (rows2 x4) (rows2 x3)) (grads x1 x2 (rows3 x0) (rows3 x4) (rows3 x3)))
    (stack (scaledQ x1 (rows0 x0)) (scaledQ x1 (rows1 x0)) (scaledQ x1 (rows2 x0)) (scaledQ x1 (rows3 x0)))
    (constant S2048x128 .f32 0x00000000#32))

/-- The four stores of the query gradient, last first. -/
abbrev dqPieces (x0 x1 x2 x3 x4 : Vec F S2048x128 .bf16) : List (View.Piece (Elt F) S2048x128 .f32) :=
  [⟨Rect.unit ![1536, 0] S512x128.size inb_S2048x128_S512x128_1536_0, chunkDq x1 x2 (rows3 x0) (rows3 x4) (rows3 x3)⟩,
   ⟨Rect.unit ![1024, 0] S512x128.size inb_S2048x128_S512x128_1024_0, chunkDq x1 x2 (rows2 x0) (rows2 x4) (rows2 x3)⟩,
   ⟨Rect.unit ![512, 0] S512x128.size inb_S2048x128_S512x128_512_0, chunkDq x1 x2 (rows1 x0) (rows1 x4) (rows1 x3)⟩,
   ⟨Rect.unit ![0, 0] S512x128.size inb_S2048x128_S512x128_0_0, chunkDq x1 x2 (rows0 x0) (rows0 x4) (rows0 x3)⟩]

/-- The query gradient's block. -/
def blockDq (x0 x1 x2 x3 x4 : Vec F S2048x128 .bf16) : FVec F S2048x128 .f32 := View.canon (dqPieces x0 x1 x2 x3 x4)

/-- The query gradient's block at the first point of a group (the block starts at zero). -/
theorem out_A_5 (c : Dev nD) (i : grid0.Coords) (a4 : Memref sig .tc .vmem S2048x128 .bf16) (h4 : a4.IsWhole) (a5 : Memref sig .tc .vmem S2048x128 .bf16) (h5 : a5.IsWhole) (a6 : Memref sig .tc .vmem S2048x128 .bf16) (h6 : a6.IsWhole) (a7 : Memref sig .tc .vmem S2048x128 .bf16) (h7 : a7.IsWhole) (a8 : Memref sig .tc .vmem S2048x128 .bf16) (h8 : a8.IsWhole) (a9 : Memref sig .tc .vmem S2048x128 .f32) (h9 : a9.IsWhole) (a10 : Memref sig .tc .vmem S2048x128 .f32) (h10 : a10.IsWhole) (a11 : Memref sig .tc .vmem S2048x128 .f32) (h11 : a11.IsWhole) (hc : cond0_0 i) (x0 x1 x2 x3 x4 : Vec F S2048x128 .bf16) :
    out0_A_5 c i a4 h4 a5 h5 a6 h6 a7 h7 a8 h8 a9 h9 a10 h10 a11 h11 hc x0 x1 x2 x3 x4 = blockDq x0 x1 x2 x3 x4 := by
  unfold out0_A_5
  rw [View.read_writes_eq_canon _ _ _ (cover0_A_5 c i a4 h4 a5 h5 a6 h6 a7 h7 a8 h8 a9 h9 a10 h10 a11 h11 hc x0 x1 x2 x3 x4)]
  unfold kernelRun0_A
  dsimp only
  sl_unfold_words
  unfold blockDq
  simp only [View.readAt_eq_ld, h4.read_unread, h5.read_unread, h6.read_unread, h7.read_unread, h8.read_unread, View.ld_unit_zero (S := S2048x128) hz]
  rfl

/-- The key gradient's block at the first point of a group (the block starts at zero). -/
theorem out_A_6 (c : Dev nD) (i : grid0.Coords) (a4 : Memref sig .tc .vmem S2048x128 .bf16) (h4 : a4.IsWhole) (a5 : Memref sig .tc .vmem S2048x128 .bf16) (h5 : a5.IsWhole) (a6 : Memref sig .tc .vmem S2048x128 .bf16) (h6 : a6.IsWhole) (a7 : Memref sig .tc .vmem S2048x128 .bf16) (h7 : a7.IsWhole) (a8 : Memref sig .tc .vmem S2048x128 .bf16) (h8 : a8.IsWhole) (a9 : Memref sig .tc .vmem S2048x128 .f32) (h9 : a9.IsWhole) (a10 : Memref sig .tc .vmem S2048x128 .f32) (h10 : a10.IsWhole) (a11 : Memref sig .tc .vmem S2048x128 .f32) (h11 : a11.IsWhole) (hc : cond0_0 i) (x0 x1 x2 x3 x4 : Vec F S2048x128 .bf16) :
    out0_A_6 c i a4 h4 a5 h5 a6 h6 a7 h7 a8 h8 a9 h9 a10 h10 a11 h11 hc x0 x1 x2 x3 x4 = blockDk x0 x1 x2 x3 x4 (k0_pay5 (F := F)) := by
  unfold out0_A_6
  rw [View.read_writes_eq_canon _ _ _ (cover0_A_6 c i a4 h4 a5 h5 a6 h6 a7 h7 a8 h8 a9 h9 a10 h10 a11 h11 hc x0 x1 x2 x3 x4)]
  unfold kernelRun0_A
  dsimp only
  sl_unfold_words
  rw [View.canon_cons_unit_zero (S := S2048x128) hz]
  simp only [View.readAt_eq_ld, h4.read_unread, h5.read_unread, h6.read_unread, h7.read_unread, h8.read_unread, h10.read_unread, h11.read_unread, View.ld_unit_zero (S := S2048x128) hz, View.readCov_unit_zero (S := S2048x128) _ hz]
  unfold blockDk k0_pay4
  simp only [shapeCast_self]
  rfl

/-- The value gradient's block at the first point of a group (the block starts at zero). -/
theorem out_A_7 (c : Dev nD) (i : grid0.Coords) (a4 : Memref sig .tc .vmem S2048x128 .bf16) (h4 : a4.IsWhole) (a5 : Memref sig .tc .vmem S2048x128 .bf16) (h5 : a5.IsWhole) (a6 : Memref sig .tc .vmem S2048x128 .bf16) (h6 : a6.IsWhole) (a7 : Memref sig .tc .vmem S2048x128 .bf16) (h7 : a7.IsWhole) (a8 : Memref sig .tc .vmem S2048x128 .bf16) (h8 : a8.IsWhole) (a9 : Memref sig .tc .vmem S2048x128 .f32) (h9 : a9.IsWhole) (a10 : Memref sig .tc .vmem S2048x128 .f32) (h10 : a10.IsWhole) (a11 : Memref sig .tc .vmem S2048x128 .f32) (h11 : a11.IsWhole) (hc : cond0_0 i) (x0 x1 x2 x3 x4 : Vec F S2048x128 .bf16) :
    out0_A_7 c i a4 h4 a5 h5 a6 h6 a7 h7 a8 h8 a9 h9 a10 h10 a11 h11 hc x0 x1 x2 x3 x4 = blockDv x0 x1 x2 x3 x4 (k0_pay6 (F := F)) := by
  unfold out0_A_7
  rw [View.read_writes_eq_canon _ _ _ (cover0_A_7 c i a4 h4 a5 h5 a6 h6 a7 h7 a8 h8 a9 h9 a10 h10 a11 h11 hc x0 x1 x2 x3 x4)]
  unfold kernelRun0_A
  dsimp only
  sl_unfold_words
  rw [View.canon_cons_unit_zero (S := S2048x128) hz]
  simp only [View.readAt_eq_ld, h4.read_unread, h5.read_unread, h6.read_unread, h7.read_unread, h8.read_unread, h10.read_unread, h11.read_unread, View.ld_unit_zero (S := S2048x128) hz, View.readCov_unit_zero (S := S2048x128) _ hz]
  unfold blockDv k0_pay3
  simp only [shapeCast_self]
  rfl

/-- The query gradient's block at a later point of a group. -/
theorem out_B_5 (c : Dev nD) (i : grid0.Coords) (a4 : Memref sig .tc .vmem S2048x128 .bf16) (h4 : a4.IsWhole) (a5 : Memref sig .tc .vmem S2048x128 .bf16) (h5 : a5.IsWhole) (a6 : Memref sig .tc .vmem S2048x128 .bf16) (h6 : a6.IsWhole) (a7 : Memref sig .tc .vmem S2048x128 .bf16) (h7 : a7.IsWhole) (a8 : Memref sig .tc .vmem S2048x128 .bf16) (h8 : a8.IsWhole) (a9 : Memref sig .tc .vmem S2048x128 .f32) (h9 : a9.IsWhole) (a10 : Memref sig .tc .vmem S2048x128 .f32) (h10 : a10.IsWhole) (a11 : Memref sig .tc .vmem S2048x128 .f32) (h11 : a11.IsWhole) (hc : ¬cond0_0 i) (x0 x1 x2 x3 x4 : Vec F S2048x128 .bf16) (y6 y7 : Vec F S2048x128 .f32) :
    out0_B_5 c i a4 h4 a5 h5 a6 h6 a7 h7 a8 h8 a9 h9 a10 h10 a11 h11 hc x0 x1 x2 x3 x4 y6 y7 = blockDq x0 x1 x2 x3 x4 := by
  unfold out0_B_5
  rw [View.read_writes_eq_canon _ _ _ (cover0_B_5 c i a4 h4 a5 h5 a6 h6 a7 h7 a8 h8 a9 h9 a10 h10 a11 h11 hc x0 x1 x2 x3 x4 y6 y7)]
  unfold kernelRun0_B
  dsimp only
  sl_unfold_words
  unfold blockDq
  simp only [View.readAt_eq_ld, h4.read_unread, h5.read_unread, h6.read_unread, h7.read_unread, h8.read_unread, View.ld_unit_zero (S := S2048x128) hz]
  rfl

/-- The key gradient's block at a later point of a group. -/
theorem out_B_6 (c : Dev nD) (i : grid0.Coords) (a4 : Memref sig .tc .vmem S2048x128 .bf16) (h4 : a4.IsWhole) (a5 : Memref sig .tc .vmem S2048x128 .bf16) (h5 : a5.IsWhole) (a6 : Memref sig .tc .vmem S2048x128 .bf16) (h6 : a6.IsWhole) (a7 : Memref sig .tc .vmem S2048x128 .bf16) (h7 : a7.IsWhole) (a8 : Memref sig .tc .vmem S2048x128 .bf16) (h8 : a8.IsWhole) (a9 : Memref sig .tc .vmem S2048x128 .f32) (h9 : a9.IsWhole) (a10 : Memref sig .tc .vmem S2048x128 .f32) (h10 : a10.IsWhole) (a11 : Memref sig .tc .vmem S2048x128 .f32) (h11 : a11.IsWhole) (hc : ¬cond0_0 i) (x0 x1 x2 x3 x4 : Vec F S2048x128 .bf16) (y6 y7 : Vec F S2048x128 .f32) :
    out0_B_6 c i a4 h4 a5 h5 a6 h6 a7 h7 a8 h8 a9 h9 a10 h10 a11 h11 hc x0 x1 x2 x3 x4 y6 y7 = blockDk x0 x1 x2 x3 x4 y6 := by
  unfold out0_B_6
  rw [View.read_writes_eq_canon _ _ _ (cover0_B_6 c i a4 h4 a5 h5 a6 h6 a7 h7 a8 h8 a9 h9 a10 h10 a11 h11 hc x0 x1 x2 x3 x4 y6 y7)]
  unfold kernelRun0_B
  dsimp only
  sl_unfold_words
  rw [View.canon_unit_zero (S := S2048x128) hz]
  simp only [View.readAt_eq_ld, h4.read_unread, h5.read_unread, h6.read_unread, h7.read_unread, h8.read_unread, h10.read_unread, h11.read_unread, View.ld_unit_zero (S := S2048x128) hz]
  unfold blockDk k0_pay4
  simp only [shapeCast_self]
  rfl

/-- The value gradient's block at a later point of a group. -/
theorem out_B_7 (c : Dev nD) (i : grid0.Coords) (a4 : Memref sig .tc .vmem S2048x128 .bf16) (h4 : a4.IsWhole) (a5 : Memref sig .tc .vmem S2048x128 .bf16) (h5 : a5.IsWhole) (a6 : Memref sig .tc .vmem S2048x128 .bf16) (h6 : a6.IsWhole) (a7 : Memref sig .tc .vmem S2048x128 .bf16) (h7 : a7.IsWhole) (a8 : Memref sig .tc .vmem S2048x128 .bf16) (h8 : a8.IsWhole) (a9 : Memref sig .tc .vmem S2048x128 .f32) (h9 : a9.IsWhole) (a10 : Memref sig .tc .vmem S2048x128 .f32) (h10 : a10.IsWhole) (a11 : Memref sig .tc .vmem S2048x128 .f32) (h11 : a11.IsWhole) (hc : ¬cond0_0 i) (x0 x1 x2 x3 x4 : Vec F S2048x128 .bf16) (y6 y7 : Vec F S2048x128 .f32) :
    out0_B_7 c i a4 h4 a5 h5 a6 h6 a7 h7 a8 h8 a9 h9 a10 h10 a11 h11 hc x0 x1 x2 x3 x4 y6 y7 = blockDv x0 x1 x2 x3 x4 y7 := by
  unfold out0_B_7
  rw [View.read_writes_eq_canon _ _ _ (cover0_B_7 c i a4 h4 a5 h5 a6 h6 a7 h7 a8 h8 a9 h9 a10 h10 a11 h11 hc x0 x1 x2 x3 x4 y6 y7)]
  unfold kernelRun0_B
  dsimp only
  sl_unfold_words
  rw [View.canon_unit_zero (S := S2048x128) hz]
  simp only [View.readAt_eq_ld, h4.read_unread, h5.read_unread, h6.read_unread, h7.read_unread, h8.read_unread, h10.read_unread, h11.read_unread, View.ld_unit_zero (S := S2048x128) hz]
  unfold blockDv k0_pay3
  simp only [shapeCast_self]
  rfl

end Cert.KernelIdeal.Stored

end

end
-- ==== Proof.RealMath.lean ====
/- The real-number side of the attention gradient: the softmax weights, the gradients of one head, and the identities
   that let a row's maximum and its sum be taken out in any order. -/
module

public import Idealize.ShloMosaic.Lib.ValueIdx

@[expose] public section

noncomputable section

namespace Cert.Attn

open Finset Idealize.ShloMosaic

/-- A finite sum of real numbers is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a row of real numbers (of a nonempty row). -/
def rowMax {n : ℕ} (f : Fin n → ℝ) : ℝ := ((Finset.univ : Finset (Fin n)).fold max (⊥ : EReal) fun s => (f s : EReal)).toReal

/-- Folding the maximum over a nonempty row of real numbers gives a real number. -/
theorem fold_max {n : ℕ} (hn : 0 < n) (f : Fin n → ℝ) :
    (Finset.univ : Finset (Fin n)).fold max (⊥ : EReal) (fun s => (f s : EReal)) = (rowMax f : EReal) := by
  have htop : (Finset.univ : Finset (Fin n)).fold max (⊥ : EReal) (fun s => (f s : EReal)) < ⊤ := by
    rw [Finset.fold_max_lt]
    exact ⟨by simp, fun x _ => EReal.coe_lt_top _⟩
  have hbot : ⊥ < (Finset.univ : Finset (Fin n)).fold max (⊥ : EReal) (fun s => (f s : EReal)) := by
    rw [Finset.lt_fold_max]
    exact Or.inr ⟨⟨0, hn⟩, Finset.mem_univ _, EReal.bot_lt_coe _⟩
  exact (EReal.coe_toReal htop.ne hbot.ne').symm

variable {T S D : ℕ}

/-- A query row's logits before scaling. -/
def logit (q : Fin T → Fin D → ℝ) (k : Fin S → Fin D → ℝ) (t : Fin T) (s : Fin S) : ℝ := ∑ d, q t d * k s d

/-- The scale `1/√128` of the logits. -/
def scale : ℝ := (Real.sqrt 128)⁻¹

theorem scale_pos : 0 < scale := inv_pos.mpr (Real.sqrt_pos.mpr (by norm_num))

/-- A softmax weight: the exponential of the scaled logit over its row's sum. -/
def prob (q : Fin T → Fin D → ℝ) (k : Fin S → Fin D → ℝ) (t : Fin T) (s : Fin S) : ℝ :=
  Real.exp (logit q k t s * scale) / ∑ s', Real.exp (logit q k t s' * scale)

/-- The product of an output gradient row with a value row: the gradient of a weight. -/
def dprob (g : Fin T → Fin D → ℝ) (v : Fin S → Fin D → ℝ) (t : Fin T) (s : Fin S) : ℝ := ∑ d, g t d * v s d

/-- The forward result: the values averaged with a row's weights. -/
def out (q : Fin T → Fin D → ℝ) (k v : Fin S → Fin D → ℝ) (t : Fin T) (d : Fin D) : ℝ := ∑ s, prob q k t s * v s d

/-- The gradient of a scaled logit. -/
def dlogit (q : Fin T → Fin D → ℝ) (k v : Fin S → Fin D → ℝ) (g : Fin T → Fin D → ℝ) (t : Fin T) (s : Fin S) : ℝ :=
  prob q k t s * (dprob g v t s - ∑ s', prob q k t s' * dprob g v t s')

/-- One head's query gradient. -/
def dq (q : Fin T → Fin D → ℝ) (k v : Fin S → Fin D → ℝ) (g : Fin T → Fin D → ℝ) (t : Fin T) (d : Fin D) : ℝ :=
  ∑ s, dlogit q k v g t s * scale * k s d

/-- One head's key gradient. -/
def dk (q : Fin T → Fin D → ℝ) (k v : Fin S → Fin D → ℝ) (g : Fin T → Fin D → ℝ) (s : Fin S) (d : Fin D) : ℝ :=
  ∑ t, dlogit q k v g t s * scale * q t d

/-- One head's value gradient. -/
def dv (q : Fin T → Fin D → ℝ) (k : Fin S → Fin D → ℝ) (g : Fin T → Fin D → ℝ) (s : Fin S) (d : Fin D) : ℝ :=
  ∑ t, prob q k t s * g t d

/-- A weight before normalisation, the row's maximum taken out first. -/
def raw (q : Fin T → Fin D → ℝ) (k : Fin S → Fin D → ℝ) (t : Fin T) (s : Fin S) : ℝ :=
  Real.exp ((logit q k t s - rowMax (logit q k t)) * scale)

/-- A row's sum of such weights. -/
def rawSum (q : Fin T → Fin D → ℝ) (k : Fin S → Fin D → ℝ) (t : Fin T) : ℝ := ∑ s, raw q k t s

theorem rawSum_pos (hS : 0 < S) (q : Fin T → Fin D → ℝ) (k : Fin S → Fin D → ℝ) (t : Fin T) : 0 < rawSum q k t :=
  Finset.sum_pos (fun _ _ => Real.exp_pos _) ⟨⟨0, hS⟩, Finset.mem_univ _⟩

/-- A common shift of a row does not change its softmax. -/
theorem softmax_shift (x : Fin S → ℝ) (M : ℝ) (s : Fin S) :
    Real.exp (x s - M) / ∑ s', Real.exp (x s' - M) = Real.exp (x s) / ∑ s', Real.exp (x s') := by
  simp only [Real.exp_sub]
  rw [← Finset.sum_div, div_div_div_cancel_right₀ (Real.exp_ne_zero M)]

/-- Dividing by the row's sum afterwards gives the softmax weight. -/
theorem raw_div (q : Fin T → Fin D → ℝ) (k : Fin S → Fin D → ℝ) (t : Fin T) (s : Fin S) :
    raw q k t s * (1 / rawSum q k t) = prob q k t s := by
  rw [mul_one_div]
  unfold rawSum raw prob
  simp only [sub_mul]
  exact softmax_shift (fun s => logit q k t s * scale) _ s

/-- The exponential of a scaled logit less its row's maximum. -/
def shifted (q : Fin T → Fin D → ℝ) (k : Fin S → Fin D → ℝ) (t : Fin T) (s : Fin S) : ℝ :=
  Real.exp (logit q k t s * scale - rowMax fun s => logit q k t s * scale)

theorem shiftedSum_pos (hS : 0 < S) (q : Fin T → Fin D → ℝ) (k : Fin S → Fin D → ℝ) (t : Fin T) : 0 < ∑ s, shifted q k t s :=
  Finset.sum_pos (fun _ _ => Real.exp_pos _) ⟨⟨0, hS⟩, Finset.mem_univ _⟩

/-- Dividing by the row's sum gives the softmax weight. -/
theorem shifted_div (q : Fin T → Fin D → ℝ) (k : Fin S → Fin D → ℝ) (t : Fin T) (s : Fin S) :
    shifted q k t s * (1 / ∑ s', shifted q k t s') = prob q k t s := by
  rw [mul_one_div]
  exact softmax_shift (fun s => logit q k t s * scale) _ s

/-- The output gradient against the forward result is the average of the weights' gradients. -/
theorem delta_eq (q : Fin T → Fin D → ℝ) (k v : Fin S → Fin D → ℝ) (g : Fin T → Fin D → ℝ) (t : Fin T) :
    ∑ d, g t d * out q k v t d = ∑ s, prob q k t s * dprob g v t s := by
  unfold out dprob
  simp only [Finset.mul_sum]
  rw [Finset.sum_comm]
  exact Finset.sum_congr rfl fun s _ => Finset.sum_congr rfl fun d _ => by ring

/-- The gradient of a logit, written with the shifted exponentials and their sum. -/
theorem grad_shifted (q : Fin T → Fin D → ℝ) (k v : Fin S → Fin D → ℝ) (g : Fin T → Fin D → ℝ) (t : Fin T) (s : Fin S) :
    (dprob g v t s * (1 / ∑ s', shifted q k t s')
      + -∑ s', dprob g v t s' * (1 / ((∑ s', shifted q k t s') * ∑ s', shifted q k t s')) * shifted q k t s') * shifted q k t s
      = dlogit q k v g t s := by
  unfold dlogit
  simp only [← shifted_div]
  generalize (∑ s', shifted q k t s') = l
  rw [mul_sub, add_mul, neg_mul, sub_eq_add_neg, Finset.sum_mul, Finset.mul_sum]
  congr 1
  · ring
  · exact congrArg _ (Finset.sum_congr rfl fun s' _ => by rw [← one_div_mul_one_div]; ring)

end Cert.Attn

end

end
-- ==== Proof.Consts.lean ====
/- The float constants of the programs, as the extended reals they denote. -/
module

public import proofs.«01_k».proof.Proof.Gen.KernelIdeal
public import proofs.«01_k».proof.Proof.RealMath
public import Idealize.ShloMosaic.PureOps.IdealRules

@[expose] public section

noncomputable section

namespace Cert.Consts

open Idealize.ShloMosaic

/-- The word of `128.0` denotes the real number 128. -/
theorem ofBits_128 : Ideal.ofBits .f32 0x43000000#32 = ((128 : ℝ) : EReal) := by
  simp [Ideal.ofBits, Ideal.ieee, -EReal.coe_mul]; norm_num

/-- The word of `-inf`, where a maximum starts, denotes the least extended real. -/
theorem ofBits_neg_inf : Ideal.ofBits .f32 0xFF800000#32 = ⊥ := by
  simp [Ideal.ofBits, Ideal.ieee]

/-- The word of `1.0` denotes one. -/
theorem ofBits_one : Ideal.ofBits .f32 0x3F800000#32 = ((1 : ℝ) : EReal) := by
  simp [Ideal.ofBits, Ideal.ieee, -EReal.coe_mul]; norm_num

/-- The word of `+inf` denotes the greatest extended real. -/
theorem ofBits_inf : Ideal.ofBits .f32 0x7F800000#32 = ⊤ := by
  simp [Ideal.ofBits, Ideal.ieee]

/-- The kernel's named scale is `1/√128`. -/
theorem named_scale : Named.named (F := Ideal) Cert.KernelIdeal.κ "scale" (φ := .f32) 0x3DB504F3#32 = ((Cert.Attn.scale : ℝ) : EReal) :=
  IdealRules.named_const.ideal_named_scalar _ _ _ _ rfl

/-- The kernel's named scale of base-two exponents is `1/(√128 · ln 2)`. -/
theorem named_exp2_scale : Named.named (F := Ideal) Cert.KernelIdeal.κ "exp2_scale" (φ := .f32) 0x3E0293EE#32
    = ((((Real.sqrt 128) * (Real.log 2))⁻¹ : ℝ) : EReal) :=
  IdealRules.named_const.ideal_named_scalar _ _ _ _ rfl

/-- A base-two power of a number over `√128 · ln 2` is the exponential of the number over `√128`. -/
theorem exp2_scaled (x : ℝ) : Real.rpow 2 (x * ((Real.sqrt 128) * (Real.log 2))⁻¹) = Real.exp (x * Cert.Attn.scale) := by
  have h2 : Real.log 2 ≠ 0 := (Real.log_pos (by norm_num)).ne'
  show (2 : ℝ) ^ (x * ((Real.sqrt 128) * (Real.log 2))⁻¹ : ℝ) = _
  rw [Real.rpow_def_of_pos (by norm_num), Cert.Attn.scale, mul_inv]
  congr 1
  field_simp

end Cert.Consts

end

end
-- ==== Proof.Chunk.lean ====
/- The functions of one chunk of 512 query rows, read at an index when the blocks hold real numbers. -/
module

public import proofs.«01_k».proof.Proof.Stored
public import proofs.«01_k».proof.Proof.Consts
public import Idealize.ShloMosaic.Lib.Pointwise

@[expose] public section

noncomputable section

namespace Cert.KernelIdeal.Chunk

open Cert.KernelIdeal Cert.KernelIdeal.Gen Cert.KernelIdeal.Stored Cert.Attn Idealize.ShloMosaic Idealize.ShloMosaic.TcCoe Idealize.SL.Sem

/-- A two-axis block of extended reals holds the real matrix `x`. -/
def Holds {m n : ℕ} (X : (⟨2, ![m, n]⟩ : Shape).Idx → EReal) (x : Fin m → Fin n → ℝ) : Prop :=
  ∀ i j, X (ix2 i j) = (x i j : EReal)

variable {K V : FVec Ideal S2048x128 .bf16} {Q O G : FVec Ideal S512x128 .bf16}
variable {k v : Fin 2048 → Fin 128 → ℝ} {q o g : Fin 512 → Fin 128 → ℝ}

/-- The unnormalised weights. -/
theorem pay7_apply (hK : Holds K k) (hQ : Holds Q q) : Holds (k0_pay7 (F := Ideal) K Q) (raw q k) := by
  intro r s
  unfold k0_pay7
  pointwise
  simp only [hQ _ _, hK _ _, ← EReal.coe_mul, ← coe_sum, Consts.named_exp2_scale, Consts.ofBits_neg_inf]
  rw [fold_max (by norm_num) (fun x => ∑ i, q r i * k x i), ← EReal.coe_sub, ← EReal.coe_mul]
  show Ideal.exp2 _ = _
  rw [Ideal.exp2_coe, Consts.exp2_scaled]
  rfl

/-- … and in the narrow format. -/
theorem weights_apply (hK : Holds K k) (hQ : Holds Q q) : Holds (weights (F := Ideal) K Q) (raw q k) := by
  intro r s
  unfold weights k0_pay12
  pointwise
  exact pay7_apply hK hQ r s

/-- The reciprocal row sums. -/
theorem recip_apply (hK : Holds K k) (hQ : Holds Q q) : Holds (recip (F := Ideal) K Q) fun r _ => 1 / rawSum q k r := by
  intro r s
  have hs : s = 0 := Subsingleton.elim _ _
  subst hs
  unfold recip k0_pay8
  pointwise
  simp only [pay7_apply hK hQ _ _, ← coe_sum]
  rw [← EReal.coe_one, Ideal.div_coe (show (∑ s, raw q k r s) ≠ 0 from (rawSum_pos (by norm_num) q k r).ne'), ← EReal.coe_mul, one_mul]
  rfl

/-- The unnormalised logit gradients. -/
theorem grads_apply (hK : Holds K k) (hV : Holds V v) (hQ : Holds Q q) (hG : Holds G g) (hO : Holds O o) :
    Holds (grads (F := Ideal) K V Q G O) fun r s => raw q k r s * (dprob g v r s - ∑ d, g r d * o r d) := by
  intro r s
  unfold grads k0_pay9
  pointwise
  simp only [pay7_apply hK hQ _ _, hV _ _, hG _ _, hO _ _, ← EReal.coe_mul, ← coe_sum, ← EReal.coe_sub]
  rfl

/-- The query gradient. -/
theorem chunkDq_apply (hK : Holds K k) (hV : Holds V v) (hQ : Holds Q q) (hG : Holds G g) (hO : Holds O o) :
    Holds (chunkDq (F := Ideal) K V Q G O) fun r d =>
      (∑ s, raw q k r s * (dprob g v r s - ∑ d, g r d * o r d) * k s d) * (1 / rawSum q k r * scale) := by
  intro r d
  unfold chunkDq k0_pay11 k0_pay10
  pointwise
  simp only [show ∀ s, k0_pay9 (F := Ideal) K V Q G O (ix2 r s) = _ from grads_apply hK hV hQ hG hO r, recip_apply hK hQ _ _, hK _ _,
    Consts.named_scale, ← EReal.coe_mul, ← coe_sum]

/-- The output gradient over the row sums. -/
theorem scaledDo_apply (hK : Holds K k) (hQ : Holds Q q) (hG : Holds G g) :
    Holds (scaledDo (F := Ideal) K Q G) fun r d => g r d * (1 / rawSum q k r) := by
  intro r d
  unfold scaledDo k0_pay13
  pointwise
  simp only [recip_apply hK hQ _ _, hG _ _, ← EReal.coe_mul]

/-- The scaled queries over the row sums. -/
theorem scaledQ_apply (hK : Holds K k) (hQ : Holds Q q) :
    Holds (scaledQ (F := Ideal) K Q) fun r d => q r d * (1 / rawSum q k r * scale) := by
  intro r d
  unfold scaledQ k0_pay14
  pointwise
  simp only [recip_apply hK hQ _ _, hQ _ _, Consts.named_scale, ← EReal.coe_mul]

end Cert.KernelIdeal.Chunk

end

end
-- ==== Proof.Rows.lean ====
/- Cutting a block of 2048 rows into four parts, and stacking four parts again, on blocks that hold real numbers. -/
module

public import proofs.«01_k».proof.Proof.Chunk

@[expose] public section

noncomputable section

namespace Cert.KernelIdeal.Rows

open Cert.KernelIdeal Cert.KernelIdeal.Gen Cert.KernelIdeal.Stored Cert.KernelIdeal.Chunk Cert.Attn
open Idealize.ShloMosaic Idealize.ShloMosaic.TcCoe Idealize.SL.Sem

/-- Rows `a … a + 511` of a real matrix of 2048 rows. -/
def part (a : ℕ) (ha : a + 512 ≤ 2048) (x : Fin 2048 → Fin 128 → ℝ) (r : Fin 512) : Fin 128 → ℝ := x ⟨a + r, by omega⟩

/-- A load of 512 rows from row `a` on holds those rows of the matrix. -/
theorem rows_apply (a : ℕ) (ha : a + 512 ≤ 2048) {X : FVec Ideal S2048x128 .bf16} {x : Fin 2048 → Fin 128 → ℝ} (h : Holds X x)
    (inb : ∀ i, (![a, 0] : Fin 2 → ℕ) i + S512x128.size i ≤ S2048x128.size i) :
    Holds (View.ld (Val := Elt Ideal) (e' := .bf16) X (Rect.unit (s := S2048x128) ![a, 0] S512x128.size inb)) (part a ha x) := fun r d =>
  (View.ld_unit_apply_of (Val := Elt Ideal) (e := .bf16) X ![a, 0] S512x128.size inb (ix2 r d) (ix2 (⟨a + r, by omega⟩ : Fin 2048) d) (by
    intro i
    match i with
    | ⟨0, _⟩ => rfl
    | ⟨1, _⟩ => exact (Nat.zero_add _).symm)).trans (h _ _)

theorem rows0_apply {X : FVec Ideal S2048x128 .bf16} {x : Fin 2048 → Fin 128 → ℝ} (h : Holds X x) :
    Holds (rows0 (F := Ideal) (e := .bf16) X) (part 0 (by norm_num) x) := rows_apply 0 (by norm_num) h _

theorem rows1_apply {X : FVec Ideal S2048x128 .bf16} {x : Fin 2048 → Fin 128 → ℝ} (h : Holds X x) :
    Holds (rows1 (F := Ideal) (e := .bf16) X) (part 512 (by norm_num) x) := rows_apply 512 (by norm_num) h _

theorem rows2_apply {X : FVec Ideal S2048x128 .bf16} {x : Fin 2048 → Fin 128 → ℝ} (h : Holds X x) :
    Holds (rows2 (F := Ideal) (e := .bf16) X) (part 1024 (by norm_num) x) := rows_apply 1024 (by norm_num) h _

theorem rows3_apply {X : FVec Ideal S2048x128 .bf16} {x : Fin 2048 → Fin 128 → ℝ} (h : Holds X x) :
    Holds (rows3 (F := Ideal) (e := .bf16) X) (part 1536 (by norm_num) x) := rows_apply 1536 (by norm_num) h _

/-- Four stacked chunks hold the matrix whose row parts they hold. -/
theorem stackWide_apply {A B C D : FVec Ideal S512x2048 .bf16} {x : Fin 2048 → Fin 2048 → ℝ}
    (hA : Holds A fun r => x ⟨0 + r, by omega⟩) (hB : Holds B fun r => x ⟨512 + r, by omega⟩)
    (hC : Holds C fun r => x ⟨1024 + r, by omega⟩) (hD : Holds D fun r => x ⟨1536 + r, by omega⟩) :
    Holds (stackWide (F := Ideal) A B C D) x := by
  intro r s
  unfold stackWide
  pointwise
  split_ifs <;> first
    | exact absurd rfl ‹¬(_ = _)›
    | exact (hA _ _).trans (congrArg (fun i => ((x i s : ℝ) : EReal)) (Fin.ext (Nat.zero_add _)))
    | exact (hB _ _).trans (congrArg (fun i => ((x i s : ℝ) : EReal)) (Fin.ext (by show 512 + ((r : ℕ) - 512) = r; omega)))
    | exact (hC _ _).trans (congrArg (fun i => ((x i s : ℝ) : EReal)) (Fin.ext (by show 1024 + ((r : ℕ) - 512 - 512) = r; omega)))
    | exact (hD _ _).trans (congrArg (fun i => ((x i s : ℝ) : EReal)) (Fin.ext (by show 1536 + ((r : ℕ) - 512 - 512 - 512) = r; omega)))

/-- Four stacked chunks hold the matrix whose row parts they hold. -/
theorem stack_apply {A B C D : FVec Ideal S512x128 .bf16} {x : Fin 2048 → Fin 128 → ℝ}
    (hA : Holds A fun r => x ⟨0 + r, by omega⟩) (hB : Holds B fun r => x ⟨512 + r, by omega⟩)
    (hC : Holds C fun r => x ⟨1024 + r, by omega⟩) (hD : Holds D fun r => x ⟨1536 + r, by omega⟩) :
    Holds (stack (F := Ideal) A B C D) x := by
  intro r s
  unfold stack
  pointwise
  split_ifs <;> first
    | exact absurd rfl ‹¬(_ = _)›
    | exact (hA _ _).trans (congrArg (fun i => ((x i s : ℝ) : EReal)) (Fin.ext (Nat.zero_add _)))
    | exact (hB _ _).trans (congrArg (fun i => ((x i s : ℝ) : EReal)) (Fin.ext (by show 512 + ((r : ℕ) - 512) = r; omega)))
    | exact (hC _ _).trans (congrArg (fun i => ((x i s : ℝ) : EReal)) (Fin.ext (by show 1024 + ((r : ℕ) - 512 - 512) = r; omega)))
    | exact (hD _ _).trans (congrArg (fun i => ((x i s : ℝ) : EReal)) (Fin.ext (by show 1536 + ((r : ℕ) - 512 - 512 - 512) = r; omega)))

end Cert.KernelIdeal.Rows

end

end
-- ==== Proof.Block.lean ====
/- What one grid point leaves in its blocks when the input blocks hold real numbers: the query gradient of the head, and the
   key and value gradients' blocks with the head's share added. -/
module

public import proofs.«01_k».proof.Proof.Rows

@[expose] public section

noncomputable section

namespace Cert.KernelIdeal.Block

open Cert.KernelIdeal Cert.KernelIdeal.Rows Cert.KernelIdeal.Gen Cert.KernelIdeal.Stored Cert.KernelIdeal.Chunk Cert.Attn
open Idealize.ShloMosaic Idealize.ShloMosaic.TcCoe Idealize.SL.Sem

variable {X0 X1 X2 X3 X4 : FVec Ideal S2048x128 .bf16} {q k v o g : Fin 2048 → Fin 128 → ℝ}

/-- The block plus a product over the rows of two stacked matrices. -/
theorem accumulate {A : FVec Ideal S2048x2048 .bf16} {B : FVec Ideal S2048x128 .bf16} {Y : FVec Ideal S2048x128 .f32}
    {a : Fin 2048 → Fin 2048 → ℝ} {b y : Fin 2048 → Fin 128 → ℝ} (hA : Holds A a) (hB : Holds B b) (hY : Holds Y y) :
    Holds (addf (F := Ideal) Y (matmul dot_S2048x2048_S2048x128_S2048x128_0_0_1_1_n_n none A B (constant S2048x128 .f32 0x00000000#32)))
      fun s d => y s d + ∑ t, a t s * b t d := by
  intro s d
  pointwise
  simp only [hA _ _, hB _ _, hY _ _, ← EReal.coe_mul, ← coe_sum, ← EReal.coe_add]

/-- The value gradient's block gains the head's share. -/
theorem blockDv_apply {Y : FVec Ideal S2048x128 .f32} {y : Fin 2048 → Fin 128 → ℝ} (h0 : Holds X0 q) (h1 : Holds X1 k)
    (h4 : Holds X4 g) (hY : Holds Y y) :
    Holds (blockDv (F := Ideal) X0 X1 X2 X3 X4 Y) fun s d => y s d + dv q k g s d := by
  intro s d
  unfold blockDv
  refine (accumulate (a := raw q k) (b := fun t d => g t d * (1 / rawSum q k t))
    (stackWide_apply (weights_apply h1 (rows0_apply h0)) (weights_apply h1 (rows1_apply h0)) (weights_apply h1 (rows2_apply h0)) (weights_apply h1 (rows3_apply h0)))
    (stack_apply (scaledDo_apply h1 (rows0_apply h0) (rows0_apply h4)) (scaledDo_apply h1 (rows1_apply h0) (rows1_apply h4))
      (scaledDo_apply h1 (rows2_apply h0) (rows2_apply h4)) (scaledDo_apply h1 (rows3_apply h0) (rows3_apply h4))) hY s d).trans ?_
  show ((y s d + _ : ℝ) : EReal) = ((y s d + dv q k g s d : ℝ) : EReal)
  unfold dv
  congr 2
  refine Finset.sum_congr rfl fun t _ => ?_
  rw [← raw_div]; ring

/-- The key gradient's block gains the head's share. -/
theorem blockDk_apply {Y : FVec Ideal S2048x128 .f32} {y : Fin 2048 → Fin 128 → ℝ} (h0 : Holds X0 q) (h1 : Holds X1 k) (h2 : Holds X2 v)
    (h3 : Holds X3 (out q k v)) (h4 : Holds X4 g) (hY : Holds Y y) :
    Holds (blockDk (F := Ideal) X0 X1 X2 X3 X4 Y) fun s d => y s d + dk q k v g s d := by
  intro s d
  unfold blockDk
  refine (accumulate (a := fun t s => raw q k t s * (dprob g v t s - ∑ d, g t d * out q k v t d)) (b := fun t d => q t d * (1 / rawSum q k t * scale))
    (stackWide_apply (grads_apply h1 h2 (rows0_apply h0) (rows0_apply h4) (rows0_apply h3)) (grads_apply h1 h2 (rows1_apply h0) (rows1_apply h4) (rows1_apply h3))
      (grads_apply h1 h2 (rows2_apply h0) (rows2_apply h4) (rows2_apply h3)) (grads_apply h1 h2 (rows3_apply h0) (rows3_apply h4) (rows3_apply h3)))
    (stack_apply (scaledQ_apply h1 (rows0_apply h0)) (scaledQ_apply h1 (rows1_apply h0)) (scaledQ_apply h1 (rows2_apply h0)) (scaledQ_apply h1 (rows3_apply h0)))
    hY s d).trans ?_
  show ((y s d + _ : ℝ) : EReal) = ((y s d + dk q k v g s d : ℝ) : EReal)
  unfold dk dlogit
  congr 2
  refine Finset.sum_congr rfl fun t _ => ?_
  rw [← raw_div, delta_eq]; ring

/-- A chunk's query gradient is the head's, at the chunk's rows. -/
theorem chunkDq_eq {K V : FVec Ideal S2048x128 .bf16} {Q O G : FVec Ideal S512x128 .bf16} (a : ℕ) (ha : a + 512 ≤ 2048) (hK : Holds K k) (hV : Holds V v)
    (hQ : Holds Q (part a ha q)) (hG : Holds G (part a ha g)) (hO : Holds O (part a ha (out q k v))) :
    Holds (chunkDq (F := Ideal) K V Q G O) (part a ha (dq q k v g)) := by
  intro r d
  refine (chunkDq_apply hK hV hQ hG hO r d).trans (congrArg _ ?_)
  show (∑ s, raw q k ⟨a + r, by omega⟩ s * (dprob g v ⟨a + r, by omega⟩ s - ∑ d, g ⟨a + r, by omega⟩ d * out q k v ⟨a + r, by omega⟩ d) * k s d)
    * (1 / rawSum q k ⟨a + r, by omega⟩ * scale) = dq q k v g ⟨a + r, by omega⟩ d
  unfold dq dlogit
  rw [Finset.sum_mul]
  refine Finset.sum_congr rfl fun s _ => ?_
  rw [← raw_div, delta_eq]; ring

/-- A tile holding the matrix's rows from `a` has the matrix's value wherever it lies. -/
theorem tileAt {P : FVec Ideal S512x128 .f32} {x : Fin 2048 → Fin 128 → ℝ} (a : ℕ) (ha : a + 512 ≤ 2048) (hP : Holds P (part a ha x)) (t : Fin 2048) (d : Fin 128) :
    View.TileAt (Val := Elt Ideal) (S := S2048x128) (e := .f32) (ix2 t d) ![a, 0] S512x128.size P ((x t d : ℝ) : EReal) := by
  intro j hj
  have e0 : (t : ℕ) = a + (j 0 : ℕ) := hj 0
  have e1 : (d : ℕ) = 0 + (j 1 : ℕ) := hj 1
  have ej : j = ix2 (j 0) (j 1) := funext fun i => by fin_cases i <;> rfl
  rw [ej]
  refine (hP (j 0) (j 1)).trans (congrArg _ ?_)
  show x ⟨a + (j 0 : ℕ), _⟩ (j 1) = x t d
  exact congrArg₂ x (Fin.ext e0.symm) (Fin.ext (by omega))

/-- The query gradient's block holds the head's query gradient. -/
theorem blockDq_apply (h0 : Holds X0 q) (h1 : Holds X1 k) (h2 : Holds X2 v) (h3 : Holds X3 (out q k v)) (h4 : Holds X4 g) :
    Holds (blockDq (F := Ideal) X0 X1 X2 X3 X4) (dq q k v g) := by
  intro t d
  unfold blockDq
  refine View.canon_eq_of_allAt _ _ _ (View.cover_of_tiled_head _ _ _ rfl _) ?_
  refine View.allAt_cons_unit _ _ _ _ _ (tileAt 1536 (by norm_num) (chunkDq_eq 1536 (by norm_num) h1 h2 (rows3_apply h0) (rows3_apply h4) (rows3_apply h3)) t d) ?_
  refine View.allAt_cons_unit _ _ _ _ _ (tileAt 1024 (by norm_num) (chunkDq_eq 1024 (by norm_num) h1 h2 (rows2_apply h0) (rows2_apply h4) (rows2_apply h3)) t d) ?_
  refine View.allAt_cons_unit _ _ _ _ _ (tileAt 512 (by norm_num) (chunkDq_eq 512 (by norm_num) h1 h2 (rows1_apply h0) (rows1_apply h4) (rows1_apply h3)) t d) ?_
  refine View.allAt_cons_unit _ _ _ _ _ (tileAt 0 (by norm_num) (chunkDq_eq 0 (by norm_num) h1 h2 (rows0_apply h0) (rows0_apply h4) (rows0_apply h3)) t d) ?_
  exact View.allAt_nil _ _

end Cert.KernelIdeal.Block

end

end
-- ==== Proof.Heads.lean ====
/- The rows and columns of the flat arrays: row `b·2048 + t` is position `t` of sequence `b`; column `h·512 + g·128 + d` of a query
   array is entry `d` of query head `g` of group `h`, and column `h·128 + d` of a key or value array entry `d` of head `h`. -/
module

public import proofs.«01_k».proof.Proof.RealMath

@[expose] public section

namespace Cert.Heads

/-- Position `t` of sequence `b`. -/
def rowOf (b : Fin 2) (t : Fin 2048) : Fin 4096 := ⟨b * 2048 + t, by omega⟩

/-- Entry `d` of query head `g` of group `h`. -/
def colQ (h : Fin 2) (g : Fin 4) (d : Fin 128) : Fin 1024 := ⟨h * 512 + g * 128 + d, by omega⟩

/-- Entry `d` of key or value head `h`. -/
def colK (h : Fin 2) (d : Fin 128) : Fin 256 := ⟨h * 128 + d, by omega⟩

/-- Every row is some row of some sequence. -/
theorem rowOf_surj (r : Fin 4096) : ∃ b t, rowOf b t = r :=
  ⟨⟨r / 2048, by omega⟩, ⟨r % 2048, by omega⟩, Fin.ext (by show (r : ℕ) / 2048 * 2048 + r % 2048 = r; omega)⟩

/-- Every wide column belongs to some query head. -/
theorem colQ_surj (j : Fin 1024) : ∃ h g d, colQ h g d = j :=
  ⟨⟨j / 512, by omega⟩, ⟨j / 128 % 4, by omega⟩, ⟨j % 128, by omega⟩, Fin.ext (by show (j : ℕ) / 512 * 512 + j / 128 % 4 * 128 + j % 128 = j; omega)⟩

/-- Every narrow column belongs to some group. -/
theorem colK_surj (j : Fin 256) : ∃ h d, colK h d = j :=
  ⟨⟨j / 128, by omega⟩, ⟨j % 128, by omega⟩, Fin.ext (by show (j : ℕ) / 128 * 128 + j % 128 = j; omega)⟩

/-- Query head `g` of group `h` of sequence `b`. -/
def headQ (x : Fin 4096 → Fin 1024 → ℝ) (b h : Fin 2) (g : Fin 4) : Fin 2048 → Fin 128 → ℝ := fun t d => x (rowOf b t) (colQ h g d)

/-- Key or value head `h` of sequence `b`. -/
def headK (x : Fin 4096 → Fin 256 → ℝ) (b h : Fin 2) : Fin 2048 → Fin 128 → ℝ := fun s d => x (rowOf b s) (colK h d)

end Cert.Heads

end
-- ==== Proof.RefForward.lean ====
/- The reference's forward stages, read at an index: the scaled logits, their exponentials, the softmax weights and the output. -/
module

public import proofs.«01_k».proof.Proof.Heads
public import proofs.«01_k».proof.Proof.Consts
public import proofs.«01_k».proof.Proof.Gen.ReferenceIdeal.Read
public import Idealize.ShloMosaic.Lib.Pointwise

@[expose] public section

noncomputable section

namespace Cert.ReferenceIdeal.Forward

open Cert.ReferenceIdeal Cert.ReferenceIdeal.Gen Cert.ReferenceIdeal.Read Cert.Attn Cert.Heads
open Idealize.ShloMosaic Idealize.ShloMosaic.TcCoe Idealize.SL.Sem

variable {x0 : FVec Ideal S4096x1024 .bf16} {x1 x2 : FVec Ideal S4096x256 .bf16}
variable {q : Fin 4096 → Fin 1024 → ℝ} {k v : Fin 4096 → Fin 256 → ℝ}

/-- The queries by heads. -/
theorem v4_apply (h0 : ∀ i j, x0 (ix2 i j) = (q i j : EReal)) (b : Fin 2) (t : Fin 2048) (h : Fin 2) (g : Fin 4) (d : Fin 128) :
    val_main_v4 (F := Ideal) x0 (ix5 b t h g d) = (headQ q b h g t d : EReal) := by
  unfold val_main_v4 val_main_v0
  pointwise
  exact h0 _ _

/-- The keys by heads. -/
theorem v5_apply (h1 : ∀ i j, x1 (ix2 i j) = (k i j : EReal)) (b : Fin 2) (s : Fin 2048) (h : Fin 2) (d : Fin 128) :
    val_main_v5 (F := Ideal) x1 (ix4 b s h d) = (headK k b h s d : EReal) := by
  unfold val_main_v5 val_main_v1
  pointwise
  exact h1 _ _

/-- The values by heads. -/
theorem v6_apply (h2 : ∀ i j, x2 (ix2 i j) = (v i j : EReal)) (b : Fin 2) (s : Fin 2048) (h : Fin 2) (d : Fin 128) :
    val_main_v6 (F := Ideal) x2 (ix4 b s h d) = (headK v b h s d : EReal) := by
  unfold val_main_v6 val_main_v2
  pointwise
  exact h2 _ _

/-- The scale: one over the root of 128. -/
theorem scale_eq : Ideal.div 1 (Ideal.sqrt (Ideal.ofBits .f32 0x43000000#32)) = (scale : EReal) := by
  have h : Real.sqrt 128 ≠ 0 := (Real.sqrt_pos.mpr (by norm_num)).ne'
  rw [Consts.ofBits_128, Ideal.sqrt_coe, if_neg (by norm_num), Ideal.div_coe h, one_mul, one_div]
  rfl

/-- A query array, flattened. -/
theorem flatQ_apply (x : FVec Ideal S2x2048x2x4x128 .f32) (b : Fin 2) (t : Fin 2048) (h : Fin 2) (g : Fin 4) (d : Fin 128) :
    shapeCast S4096x1024 x shapeCasts_S2x2048x2x4x128_S4096x1024 (ix2 (rowOf b t) (colQ h g d)) = x (ix5 b t h g d) := by
  refine shapeCast_apply x _ _ _ ?_
  rewrite [Shape.rowMajor_val_five, Shape.rowMajor_val_two]
  show ((((b : ℕ) * 2048 + t) * 2 + h) * 4 + g) * 128 + d = ((b : ℕ) * 2048 + t) * 1024 + (h * 512 + g * 128 + d)
  omega

/-- A key or value array, flattened. -/
theorem flatK_apply (x : FVec Ideal S2x2048x2x128 .f32) (b : Fin 2) (s : Fin 2048) (h : Fin 2) (d : Fin 128) :
    shapeCast S4096x256 x shapeCasts_S2x2048x2x128_S4096x256 (ix2 (rowOf b s) (colK h d)) = x (ix4 b s h d) := by
  refine shapeCast_apply x _ _ _ ?_
  rewrite [Shape.rowMajor_val_four, Shape.rowMajor_val_two]
  show (((b : ℕ) * 2048 + s) * 2 + h) * 128 + d = ((b : ℕ) * 2048 + s) * 256 + (h * 128 + d)
  omega

/-- A maximum along the last axis, from the least value. -/
theorem max_apply (x : FVec Ideal S2x2x4x2048x2048 .f32) (b h : Fin 2) (g : Fin 4) (t : Fin 2048) :
    Host.reduce FloatOps.maximumf x (constant (F := Ideal) S_ .f32 0xFF800000#32) reducesTo_S2x2x4x2048x2048_S2x2x4x2048_d4 h_S_ (ix4 b h g t)
      = (Finset.univ : Finset (Fin 2048)).fold max (⊥ : EReal) fun s => x (ix5 b h g t s) := by
  rw [Host.reduce_eq_fold, Shape.ReducesTo.fold_fiber_r5_a4]
  rw [show constant (F := Ideal) S_ .f32 0xFF800000#32 (Shape.Idx.first h_S_) = (⊥ : EReal) from Consts.ofBits_neg_inf]
  rfl

section
variable (h0 : ∀ i j, x0 (ix2 i j) = (q i j : EReal)) (h1 : ∀ i j, x1 (ix2 i j) = (k i j : EReal)) (h2 : ∀ i j, x2 (ix2 i j) = (v i j : EReal))
  (b h : Fin 2) (g : Fin 4) (t s : Fin 2048)
include h0 h1

/-- The scaled logits. -/
theorem v12_apply : val_main_v12 (F := Ideal) x0 x1 (ix5 b h g t s) = (logit (headQ q b h g) (headK k b h) t s * scale : ℝ) := by
  unfold val_main_v12 val_main_v8 val_main_v7 val_main_v11 val_main_v10 val_main_v9 val_main_cst val_main_cst_0
  pointwise
  simp only [v4_apply h0, v5_apply h1, scale_eq, ← EReal.coe_mul, ← coe_sum, mul_comm (headK k b h s _)]
  rfl

/-- A row's maximum. -/
theorem v13_apply : val_main_v13 (F := Ideal) x0 x1 (ix4 b h g t) = (rowMax fun s => logit (headQ q b h g) (headK k b h) t s * scale : ℝ) := by
  unfold val_main_v13 val_main_cst_1
  rw [max_apply]
  simp only [v12_apply h0 h1]
  exact fold_max (by norm_num) _

/-- … the larger of it and the least value. -/
theorem v20_apply : val_main_v20 (F := Ideal) x0 x1 (ix4 b h g t) = (rowMax fun s => logit (headQ q b h g) (headK k b h) t s * scale : ℝ) := by
  rw [val_main_v20_apply, v13_apply h0 h1, val_main_v19_apply, val_main_cst_3_apply]
  generalize (rowMax fun s => logit (headQ q b h g) (headK k b h) t s * scale) = r
  show max (Ideal.ofBits .f32 0xFF800000#32) (r : EReal) = r
  rw [Consts.ofBits_neg_inf]
  exact max_eq_right bot_le

/-- The shifted exponentials. -/
theorem v33_apply : val_main_v33 (F := Ideal) x0 x1 (ix5 b h g t s) = (shifted (headQ q b h g) (headK k b h) t s : ℝ) := by
  unfold val_main_v33 val_main_v32 val_main_v31 val_main_v30
  pointwise
  rw [v12_apply h0 h1, v20_apply h0 h1, ← EReal.coe_sub, Ideal.exp_coe]
  rfl

/-- A row's sum of exponentials. -/
theorem v34_apply : val_main_v34 (F := Ideal) x0 x1 (ix4 b h g t) = (∑ s, shifted (headQ q b h g) (headK k b h) t s : ℝ) := by
  unfold val_main_v34 val_main_cst_9
  pointwise
  simp only [v33_apply h0 h1, ← coe_sum]

/-- The softmax weights. -/
theorem v37_apply : val_main_v37 (F := Ideal) x0 x1 (ix5 b h g t s) = (prob (headQ q b h g) (headK k b h) t s : ℝ) := by
  unfold val_main_v37 val_main_v36 val_main_v35
  pointwise
  rw [v33_apply h0 h1, v34_apply h0 h1, Ideal.div_coe (shiftedSum_pos (by norm_num) _ _ t).ne', ← EReal.coe_mul, shifted_div]

include h2

/-- The output. -/
theorem v42_apply (d : Fin 128) : val_main_v42 (F := Ideal) x0 x1 x2 (ix5 b t h g d)
    = (out (headQ q b h g) (headK k b h) (headK v b h) t d : ℝ) := by
  unfold val_main_v42 val_main_v41
  pointwise
  simp only [v6_apply h2, v37_apply h0 h1, ← EReal.coe_mul, ← coe_sum, mul_comm (headK v b h _ _)]
  rfl

/-- The output as a flat array. -/
theorem v43_apply (d : Fin 128) : val_main_v43 (F := Ideal) x0 x1 x2 (ix2 (rowOf b t) (colQ h g d))
    = (out (headQ q b h g) (headK k b h) (headK v b h) t d : ℝ) :=
  (flatQ_apply _ b t h g d).trans (v42_apply h0 h1 h2 b h g t d)

end

end Cert.ReferenceIdeal.Forward

end

end
-- ==== Proof.Inputs.lean ====
/- What the kernel's input blocks hold at a grid point: the point's query head, its group's key and value head, the head's forward
   output as the host computed it, and the head's output gradient. -/
module

public import proofs.«01_k».proof.Proof.Block
public import proofs.«01_k».proof.Proof.RefForward
public import proofs.«01_k».proof.Proof.Gen.KernelIdeal.Value
public import Idealize.ShloMosaic.Lib.Claim

@[expose] public section

noncomputable section

namespace Cert.KernelIdeal.Inputs

open Cert.KernelIdeal Cert.KernelIdeal.Gen Cert.KernelIdeal.Chunk Cert.Attn Cert.Heads
open Idealize.ShloMosaic Idealize.ShloMosaic.TcCoe Idealize.SL.Sem

/-- The grid point of sequence `b`, group `h` and query head `g`. -/
def point (b h : Fin 2) (g : Fin 4) : Fin cfg0.N := ⟨b * 8 + h * 4 + g, by show _ < 16; omega⟩

/-- Where each input window stands at a point, in blocks. -/
theorem index0 : ∀ b h g, win0_0.index (point b h g) 0 = b ∧ win0_0.index (point b h g) 1 = (h : ℕ) * 4 + g := by decide +kernel
theorem index1 : ∀ b h g, win0_1.index (point b h g) 0 = b ∧ win0_1.index (point b h g) 1 = h := by decide +kernel
theorem index2 : ∀ b h g, win0_2.index (point b h g) 0 = b ∧ win0_2.index (point b h g) 1 = h := by decide +kernel
theorem index3 : ∀ b h g, win0_3.index (point b h g) 0 = b ∧ win0_3.index (point b h g) 1 = (h : ℕ) * 4 + g := by decide +kernel
theorem index4 : ∀ b h g, win0_4.index (point b h g) 0 = b ∧ win0_4.index (point b h g) 1 = (h : ℕ) * 4 + g := by decide +kernel

variable (m : (ℓ : Loc nD τ sig) → Buf (Elt Ideal) ℓ) (c : Dev nD)

/-- The forward output the host hands the kernel is the reference's, in the narrow format. -/
theorem entry_out : @Eq (FVec Ideal S4096x1024 .bf16) (V m c main_v26)
    (truncf .bf16 (Cert.ReferenceIdeal.Read.val_main_v43 (F := Ideal) (m ((c : Thread nD τ).loc main_arg0)) (m ((c : Thread nD τ).loc main_arg1)) (m ((c : Thread nD τ).loc main_arg2)))
      Cert.KernelIdeal.Gen.bitsLt_bf16_f32) := by
  entry_read
  rfl

/-- The arguments on a device hold these real matrices. -/
structure Args (q : Fin 4096 → Fin 1024 → ℝ) (k v : Fin 4096 → Fin 256 → ℝ) (w : Fin 4096 → Fin 1024 → ℝ) : Prop where
  q : ∀ i j, (m ((c : Thread nD τ).loc main_arg0) : FVec Ideal S4096x1024 .bf16) (ix2 i j) = (q i j : EReal)
  k : ∀ i j, (m ((c : Thread nD τ).loc main_arg1) : FVec Ideal S4096x256 .bf16) (ix2 i j) = (k i j : EReal)
  v : ∀ i j, (m ((c : Thread nD τ).loc main_arg2) : FVec Ideal S4096x256 .bf16) (ix2 i j) = (v i j : EReal)
  w : ∀ i j, (m ((c : Thread nD τ).loc main_arg3) : FVec Ideal S4096x1024 .bf16) (ix2 i j) = (w i j : EReal)

variable {m c} {q w : Fin 4096 → Fin 1024 → ℝ} {k v : Fin 4096 → Fin 256 → ℝ} (H : Args m c q k v w) (b h : Fin 2) (g : Fin 4)
include H

/-- The queries' block: the point's head. -/
theorem block0 : Holds (iblk m c 0 (point b h g) : FVec Ideal S2048x128 .bf16) (headQ q b h g) := by
  intro r d
  refine Eq.trans ?_ (H.q (rowOf b r) (colQ h g d))
  unfold iblk
  rw [View.read_apply]
  show V m c main_arg0 _ = m ((c : Thread nD τ).loc main_arg0) _
  rw [V_main_arg0]
  congr 1
  funext a
  apply Fin.ext
  match a with
  | ⟨0, _⟩ => show win0_0.index (point b h g) 0 * 2048 + 1 * (r : ℕ) = b * 2048 + r; rw [(index0 b h g).1]; omega
  | ⟨1, _⟩ => show win0_0.index (point b h g) 1 * 128 + 1 * (d : ℕ) = h * 512 + g * 128 + d; rw [(index0 b h g).2]; omega

/-- The keys' block: the group's head. -/
theorem block1 : Holds (iblk m c 1 (point b h g) : FVec Ideal S2048x128 .bf16) (headK k b h) := by
  intro r d
  refine Eq.trans ?_ (H.k (rowOf b r) (colK h d))
  unfold iblk
  rw [View.read_apply]
  show V m c main_arg1 _ = m ((c : Thread nD τ).loc main_arg1) _
  rw [V_main_arg1]
  congr 1
  funext a
  apply Fin.ext
  match a with
  | ⟨0, _⟩ => show win0_1.index (point b h g) 0 * 2048 + 1 * (r : ℕ) = b * 2048 + r; rw [(index1 b h g).1]; omega
  | ⟨1, _⟩ => show win0_1.index (point b h g) 1 * 128 + 1 * (d : ℕ) = h * 128 + d; rw [(index1 b h g).2]; omega

/-- The values' block: the group's head. -/
theorem block2 : Holds (iblk m c 2 (point b h g) : FVec Ideal S2048x128 .bf16) (headK v b h) := by
  intro r d
  refine Eq.trans ?_ (H.v (rowOf b r) (colK h d))
  unfold iblk
  rw [View.read_apply]
  show V m c main_arg2 _ = m ((c : Thread nD τ).loc main_arg2) _
  rw [V_main_arg2]
  congr 1
  funext a
  apply Fin.ext
  match a with
  | ⟨0, _⟩ => show win0_2.index (point b h g) 0 * 2048 + 1 * (r : ℕ) = b * 2048 + r; rw [(index2 b h g).1]; omega
  | ⟨1, _⟩ => show win0_2.index (point b h g) 1 * 128 + 1 * (d : ℕ) = h * 128 + d; rw [(index2 b h g).2]; omega

/-- The output gradients' block: the point's head. -/
theorem block4 : Holds (iblk m c 4 (point b h g) : FVec Ideal S2048x128 .bf16) (headQ w b h g) := by
  intro r d
  refine Eq.trans ?_ (H.w (rowOf b r) (colQ h g d))
  unfold iblk
  rw [View.read_apply]
  show V m c main_arg3 _ = m ((c : Thread nD τ).loc main_arg3) _
  rw [V_main_arg3]
  congr 1
  funext a
  apply Fin.ext
  match a with
  | ⟨0, _⟩ => show win0_4.index (point b h g) 0 * 2048 + 1 * (r : ℕ) = b * 2048 + r; rw [(index4 b h g).1]; omega
  | ⟨1, _⟩ => show win0_4.index (point b h g) 1 * 128 + 1 * (d : ℕ) = h * 512 + g * 128 + d; rw [(index4 b h g).2]; omega

/-- The forward outputs' block: the head's attention output. -/
theorem block3 : Holds (iblk m c 3 (point b h g) : FVec Ideal S2048x128 .bf16) (out (headQ q b h g) (headK k b h) (headK v b h)) := by
  intro r d
  refine Eq.trans ?_ (Cert.ReferenceIdeal.Forward.v43_apply H.q H.k H.v b h g r d)
  unfold iblk
  rw [View.read_apply]
  show V m c main_v26 _ = _
  rw [entry_out]
  show Cert.ReferenceIdeal.Read.val_main_v43 (F := Ideal) _ _ _ _ = _
  congr 1
  funext a
  apply Fin.ext
  match a with
  | ⟨0, _⟩ => show win0_3.index (point b h g) 0 * 2048 + 1 * (r : ℕ) = b * 2048 + r; rw [(index3 b h g).1]; omega
  | ⟨1, _⟩ => show win0_3.index (point b h g) 1 * 128 + 1 * (d : ℕ) = h * 512 + g * 128 + d; rw [(index3 b h g).2]; omega

end Cert.KernelIdeal.Inputs

end

end
-- ==== Proof.Arrays.lean ====
/- What the kernel's result arrays hold: every head's query gradient, and every group's key and value gradients, summed over the
   group's query heads one grid point after the other. -/
module

public import proofs.«01_k».proof.Proof.Inputs

@[expose] public section

noncomputable section

namespace Cert.KernelIdeal.Arrays

open Cert.KernelIdeal Cert.KernelIdeal.Gen Cert.KernelIdeal.Chunk Cert.KernelIdeal.Inputs Cert.KernelIdeal.Block Cert.KernelIdeal.Stored Cert.Attn Cert.Heads
open Idealize.ShloMosaic Idealize.ShloMosaic.TcCoe Idealize.SL.Sem

theorem index5 : ∀ b h g, win0_5.index (point b h g) 0 = b ∧ win0_5.index (point b h g) 1 = (h : ℕ) * 4 + g := by decide +kernel
theorem index6 : ∀ b h g, win0_6.index (point b h g) 0 = b ∧ win0_6.index (point b h g) 1 = h := by decide +kernel
theorem index7 : ∀ b h g, win0_7.index (point b h g) 0 = b ∧ win0_7.index (point b h g) 1 = h := by decide +kernel

/-- Two points that write the key gradient back write different blocks. -/
theorem disjoint6 : ∀ t t' : Fin cfg0.N, (cfg0.win 6).flush t = true → (cfg0.win 6).flush t' = true → t ≠ t' →
    Disjoint ((cfg0.win 6).blk t).view.set ((cfg0.win 6).blk t').view.set := fun t t' hf hf' hne =>
  (cfg0.win 6).disjoint_blk fun h => hne
    ((by decide +kernel : ∀ t t' : Fin grid0.N, t.val % 4 = 3 → t'.val % 4 = 3 → win0_6.index t = win0_6.index t' → t = t') t t'
      ((flush0_6 t).mp hf) ((flush0_6 t').mp hf') h)

/-- … and the value gradient likewise. -/
theorem disjoint7 : ∀ t t' : Fin cfg0.N, (cfg0.win 7).flush t = true → (cfg0.win 7).flush t' = true → t ≠ t' →
    Disjoint ((cfg0.win 7).blk t).view.set ((cfg0.win 7).blk t').view.set := fun t t' hf hf' hne =>
  (cfg0.win 7).disjoint_blk fun h => hne
    ((by decide +kernel : ∀ t t' : Fin grid0.N, t.val % 4 = 3 → t'.val % 4 = 3 → win0_7.index t = win0_7.index t' → t = t') t t'
      ((flush0_7 t).mp hf) ((flush0_7 t').mp hf') h)

theorem zeroDk : Holds (k0_pay5 (F := Ideal)) fun _ _ => 0 := by
  intro s d
  unfold k0_pay5
  pointwise
  rfl

theorem zeroDv : Holds (k0_pay6 (F := Ideal)) fun _ _ => 0 := by
  intro s d
  unfold k0_pay6
  pointwise
  rfl

variable {m : (ℓ : Loc nD τ sig) → Buf (Elt Ideal) ℓ} {c : Dev nD}
variable {q w : Fin 4096 → Fin 1024 → ℝ} {k v : Fin 4096 → Fin 256 → ℝ} (H : Args m c q k v w) (b h : Fin 2)

/-- The remainder of a point's number by four is its query head. -/
theorem point_mod (g : Fin 4) : (point b h g).val % 4 = g := by
  show ((b : ℕ) * 8 + h * 4 + g) % 4 = g
  omega

include H

/-- The first query head's point leaves its own gradients. -/
theorem first : Holds (outsAt0 m c (point b h 0).val (point b h 0).isLt).1 (dq (headQ q b h 0) (headK k b h) (headK v b h) (headQ w b h 0))
    ∧ Holds (outsAt0 m c (point b h 0).val (point b h 0).isLt).2.1 (fun s d => 0 + dk (headQ q b h 0) (headK k b h) (headK v b h) (headQ w b h 0) s d)
    ∧ Holds (outsAt0 m c (point b h 0).val (point b h 0).isLt).2.2 (fun s d => 0 + dv (headQ q b h 0) (headK k b h) (headQ w b h 0) s d) := by
  rw [outsAt0_A m c (point b h 0) (point_mod b h 0)]
  dsimp only
  rw [out_A_5, out_A_6, out_A_7]
  have h0 := block0 H b h 0
  have h1 := block1 H b h 0
  have h2 := block2 H b h 0
  have h3 := block3 H b h 0
  have h4 := block4 H b h 0
  exact ⟨blockDq_apply h0 h1 h2 h3 h4, blockDk_apply h0 h1 h2 h3 h4 zeroDk, blockDv_apply h0 h1 h4 zeroDv⟩

/-- A later head's point leaves its own query gradient, and adds its key and value gradients to what the head before left. -/
theorem next (g g' : Fin 4) (hg : (g : ℕ) = g' + 1) {y z : Fin 2048 → Fin 128 → ℝ}
    (hy : Holds (outsAt0 m c (point b h g').val (point b h g').isLt).2.1 y) (hz : Holds (outsAt0 m c (point b h g').val (point b h g').isLt).2.2 z) :
    Holds (outsAt0 m c (point b h g).val (point b h g).isLt).1 (dq (headQ q b h g) (headK k b h) (headK v b h) (headQ w b h g))
    ∧ Holds (outsAt0 m c (point b h g).val (point b h g).isLt).2.1 (fun s d => y s d + dk (headQ q b h g) (headK k b h) (headK v b h) (headQ w b h g) s d)
    ∧ Holds (outsAt0 m c (point b h g).val (point b h g).isLt).2.2 (fun s d => z s d + dv (headQ q b h g) (headK k b h) (headQ w b h g) s d) := by
  have e : (point b h g).val - 1 = (point b h g').val := by
    show (b : ℕ) * 8 + h * 4 + g - 1 = b * 8 + h * 4 + g'
    omega
  rw [outsAt0_B m c (point b h g) (by rw [point_mod]; omega)]
  dsimp only
  rw [out_B_5, out_B_6, out_B_7]
  simp only [e]
  have h0 := block0 H b h g
  have h1 := block1 H b h g
  have h2 := block2 H b h g
  have h3 := block3 H b h g
  have h4 := block4 H b h g
  exact ⟨blockDq_apply h0 h1 h2 h3 h4, blockDk_apply h0 h1 h2 h3 h4 hy, blockDv_apply h0 h1 h4 hz⟩

/-- What the four points of a group leave. -/
theorem left : (∀ g, Holds (outsAt0 m c (point b h g).val (point b h g).isLt).1 (dq (headQ q b h g) (headK k b h) (headK v b h) (headQ w b h g)))
    ∧ Holds (outsAt0 m c (point b h 3).val (point b h 3).isLt).2.1 (fun s d => ∑ g, dk (headQ q b h g) (headK k b h) (headK v b h) (headQ w b h g) s d)
    ∧ Holds (outsAt0 m c (point b h 3).val (point b h 3).isLt).2.2 (fun s d => ∑ g, dv (headQ q b h g) (headK k b h) (headQ w b h g) s d) := by
  obtain ⟨a0, y0, z0⟩ := first H b h
  obtain ⟨a1, y1, z1⟩ := next H b h 1 0 rfl y0 z0
  obtain ⟨a2, y2, z2⟩ := next H b h 2 1 rfl y1 z1
  obtain ⟨a3, y3, z3⟩ := next H b h 3 2 rfl y2 z2
  refine ⟨fun g => ?_, fun s d => ?_, fun s d => ?_⟩
  · match g with
    | 0 => exact a0
    | 1 => exact a1
    | 2 => exact a2
    | 3 => exact a3
  · rw [y3 s d]
    beta_reduce
    rw [Fin.sum_univ_four, zero_add]
  · rw [z3 s d]
    beta_reduce
    rw [Fin.sum_univ_four, zero_add]

/-- The query gradients' array. -/
theorem array5 (g : Fin 4) (t : Fin 2048) (d : Fin 128) : (show FVec Ideal S4096x1024 .f32 from (dats m 0 c).arrAt 5 cfg0.N) (ix2 (rowOf b t) (colQ h g d))
    = (dq (headQ q b h g) (headK k b h) (headK v b h) (headQ w b h g) t d : ℝ) := by
  refine Eq.trans ?_ ((left H b h).1 g t d)
  have e := congrFun (Value.blocks5 m c (point b h g) (flush0_5 _)) (ix2 t d)
  rw [View.read_apply, Value.flushed5] at e
  refine Eq.trans ?_ e
  show (dats m 0 c).arrAt 5 cfg0.N _ = (dats m 0 c).arrAt 5 cfg0.N _
  congr 1
  funext a
  apply Fin.ext
  match a with
  | ⟨0, _⟩ => show (b : ℕ) * 2048 + t = win0_5.index (point b h g) 0 * 2048 + 1 * (t : ℕ); rw [(index5 b h g).1]; omega
  | ⟨1, _⟩ => show (h : ℕ) * 512 + g * 128 + d = win0_5.index (point b h g) 1 * 128 + 1 * (d : ℕ); rw [(index5 b h g).2]; omega

/-- The key gradients' array. -/
theorem array6 (s : Fin 2048) (d : Fin 128) : (show FVec Ideal S4096x256 .f32 from (dats m 0 c).arrAt 6 cfg0.N) (ix2 (rowOf b s) (colK h d))
    = (∑ g, dk (headQ q b h g) (headK k b h) (headK v b h) (headQ w b h g) s d : ℝ) := by
  refine Eq.trans ?_ ((left H b h).2.1 s d)
  have e := congrFun ((dats m 0 c).read_blk_arrAt_eq_flushed 6 disjoint6 cfg0.N (point b h 3) (point b h 3).isLt ((flush0_6 _).mpr (point_mod b h 3))) (ix2 s d)
  rw [View.read_apply, Value.flushed6] at e
  refine Eq.trans ?_ e
  show (dats m 0 c).arrAt 6 cfg0.N _ = (dats m 0 c).arrAt 6 cfg0.N _
  congr 1
  funext a
  apply Fin.ext
  match a with
  | ⟨0, _⟩ => show (b : ℕ) * 2048 + s = win0_6.index (point b h 3) 0 * 2048 + 1 * (s : ℕ); rw [(index6 b h 3).1]; omega
  | ⟨1, _⟩ => show (h : ℕ) * 128 + d = win0_6.index (point b h 3) 1 * 128 + 1 * (d : ℕ); rw [(index6 b h 3).2]; omega

/-- The value gradients' array. -/
theorem array7 (s : Fin 2048) (d : Fin 128) : (show FVec Ideal S4096x256 .f32 from (dats m 0 c).arrAt 7 cfg0.N) (ix2 (rowOf b s) (colK h d))
    = (∑ g, dv (headQ q b h g) (headK k b h) (headQ w b h g) s d : ℝ) := by
  refine Eq.trans ?_ ((left H b h).2.2 s d)
  have e := congrFun ((dats m 0 c).read_blk_arrAt_eq_flushed 7 disjoint7 cfg0.N (point b h 3) (point b h 3).isLt ((flush0_7 _).mpr (point_mod b h 3))) (ix2 s d)
  rw [View.read_apply, Value.flushed7] at e
  refine Eq.trans ?_ e
  show (dats m 0 c).arrAt 7 cfg0.N _ = (dats m 0 c).arrAt 7 cfg0.N _
  congr 1
  funext a
  apply Fin.ext
  match a with
  | ⟨0, _⟩ => show (b : ℕ) * 2048 + s = win0_7.index (point b h 3) 0 * 2048 + 1 * (s : ℕ); rw [(index7 b h 3).1]; omega
  | ⟨1, _⟩ => show (h : ℕ) * 128 + d = win0_7.index (point b h 3) 1 * 128 + 1 * (d : ℕ); rw [(index7 b h 3).2]; omega

end Cert.KernelIdeal.Arrays

end

end
-- ==== Proof.Finite.lean ====
/- What the precondition gives: every entry of the four arguments is a real number. -/
module

public import proofs.«01_k».proof.Proof.Consts
public import proofs.«01_k».proof.Proof.Gen.Pre_finite
public import proofs.«01_k».proof.Defs
public import Idealize.ShloMosaic.Lib.ReduceAll

@[expose] public section

noncomputable section

namespace Cert.Finite

open Idealize.ShloMosaic

/-- An array whose entries are all real numbers. -/
def Real {s : Shape} {φ : FTy} (x : FVec Ideal s φ) : Prop := ∀ i, ∃ r : ℝ, x i = (r : EReal)

/-- An extended real whose absolute value lies below infinity is a real number. -/
theorem real_of_abs_lt (a : EReal) (h : Ideal.cmp .olt (max a (-a)) (Ideal.ofBits .f32 0x7F800000#32) = 1#1) : ∃ r : ℝ, a = (r : EReal) := by
  rw [Consts.ofBits_inf] at h
  have h' : max a (-a) < ⊤ := by
    by_contra hn
    simp [Ideal.cmp, hn] at h
  induction a using EReal.rec with
  | bot => simp at h'
  | top => simp at h'
  | coe r => exact ⟨r, rfl⟩

open Cert.Pre_finite in
/-- The precondition's text, read back. -/
theorem of_fn (x0 : FVec Ideal S4096x1024 .bf16) (x1 x2 : FVec Ideal S4096x256 .bf16) (x3 : FVec Ideal S4096x1024 .bf16)
    (h : Cert.Pre_finite.fn (F := Ideal) x0 x1 x2 x3 = fun _ => 1#1) : Real x0 ∧ Real x1 ∧ Real x2 ∧ Real x3 := by
  have h0 := congrFun h (fun i => i.elim0)
  obtain ⟨h012, h3⟩ := IntOp.andi_eq_one.1 h0
  obtain ⟨h01, h2⟩ := IntOp.andi_eq_one.1 h012
  obtain ⟨h0, h1⟩ := IntOp.andi_eq_one.1 h01
  haveI : Subsingleton S_.Idx := ⟨fun a b => funext fun i => i.elim0⟩
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i), fun i => real_of_abs_lt _ (Host.reduce_andi_all _ _ _ _ _ h3 i)⟩

end Cert.Finite

end

end
-- ==== Proof.RefBackward.lean ====
/- The reference's backward stages, read at an index: the gradients of the weights and of the scaled logits, and the three results. -/
module

public import proofs.«01_k».proof.Proof.RefForward

@[expose] public section

noncomputable section

namespace Cert.ReferenceIdeal.Backward

open Cert.ReferenceIdeal Cert.ReferenceIdeal.Gen Cert.ReferenceIdeal.Read Cert.ReferenceIdeal.Forward Cert.Attn Cert.Heads
open Idealize.ShloMosaic Idealize.ShloMosaic.TcCoe Idealize.SL.Sem

variable {x0 x3 : FVec Ideal S4096x1024 .bf16} {x1 x2 : FVec Ideal S4096x256 .bf16}
variable {q w : Fin 4096 → Fin 1024 → ℝ} {k v : Fin 4096 → Fin 256 → ℝ}

/-- The output gradient by heads. -/
theorem v45_apply (h3 : ∀ i j, x3 (ix2 i j) = (w i j : EReal)) (b h : Fin 2) (d : Fin 128) (g : Fin 4) (t : Fin 2048) :
    val_main_v45 (F := Ideal) x3 (ix5 b h d g t) = (headQ w b h g t d : EReal) := by
  unfold val_main_v45 val_main_v44 val_main_v3
  pointwise
  exact h3 _ _

/-- The gradient of a weight. -/
theorem v46_apply (h2 : ∀ i j, x2 (ix2 i j) = (v i j : EReal)) (h3 : ∀ i j, x3 (ix2 i j) = (w i j : EReal)) (b h : Fin 2) (g : Fin 4) (t s : Fin 2048) :
    val_main_v46 (F := Ideal) x2 x3 (ix5 b h g t s) = (dprob (headQ w b h g) (headK v b h) t s : ℝ) := by
  unfold val_main_v46
  pointwise
  simp only [v45_apply h3, v6_apply h2, ← EReal.coe_mul, ← coe_sum]
  rfl

section
variable (h0 : ∀ i j, x0 (ix2 i j) = (q i j : EReal)) (h1 : ∀ i j, x1 (ix2 i j) = (k i j : EReal))
  (h2 : ∀ i j, x2 (ix2 i j) = (v i j : EReal)) (h3 : ∀ i j, x3 (ix2 i j) = (w i j : EReal)) (b h : Fin 2) (g : Fin 4) (t s : Fin 2048)
include h0 h1

/-- The reciprocal of the squared row sum. -/
theorem v49_apply : val_main_v49 (F := Ideal) x0 x1 (ix5 b h g t s) =
    (1 / ((∑ s', shifted (headQ q b h g) (headK k b h) t s') * ∑ s', shifted (headQ q b h g) (headK k b h) t s') : ℝ) := by
  have hp := shiftedSum_pos (by norm_num) (headQ q b h g) (headK k b h) t
  unfold val_main_v49 val_main_v40 val_main_v39 val_main_v38 val_main_v35 val_main_cst_10
  pointwise
  rw [v34_apply h0 h1, ← EReal.coe_mul, Ideal.div_coe (mul_pos hp hp).ne', one_mul]

include h2 h3

/-- The average of a row's weight gradients, negated. -/
theorem v58_apply : val_main_v58 (F := Ideal) x0 x1 x2 x3 (ix5 b h g t s) =
    (-∑ s', dprob (headQ w b h g) (headK v b h) t s' * (1 / ((∑ s', shifted (headQ q b h g) (headK k b h) t s') * ∑ s', shifted (headQ q b h g) (headK k b h) t s'))
      * shifted (headQ q b h g) (headK k b h) t s' : ℝ) := by
  unfold val_main_v58 val_main_v57 val_main_cst_12 val_main_v54 val_main_v53 val_main_v52 val_main_v51 val_main_v50 val_main_cst_11
  pointwise
  simp only [v46_apply h2 h3, v49_apply h0 h1, v33_apply h0 h1, ← EReal.coe_mul, ← coe_sum]
  rw [Fin.sum_univ_one, ← EReal.coe_neg]

/-- The gradient of an unscaled logit. -/
theorem v62_apply : val_main_v62 (F := Ideal) x0 x1 x2 x3 (ix5 b h g t s) =
    (dlogit (headQ q b h g) (headK k b h) (headK v b h) (headQ w b h g) t s * scale : ℝ) := by
  have hp := shiftedSum_pos (by norm_num) (headQ q b h g) (headK k b h) t
  unfold val_main_v62 val_main_v61 val_main_v10 val_main_v9 val_main_cst val_main_cst_0 val_main_v60 val_main_v59 val_main_v56 val_main_v55 val_main_v35
  pointwise
  rw [v46_apply h2 h3, v58_apply h0 h1 h2 h3, v33_apply h0 h1, v34_apply h0 h1, scale_eq, Ideal.div_coe hp.ne', ← EReal.coe_mul, ← EReal.coe_add, ← EReal.coe_mul, ← EReal.coe_mul,
    grad_shifted]

/-- The query gradient. -/
theorem v70_apply (d : Fin 128) : val_main_v70 (F := Ideal) x0 x1 x2 x3 (ix2 (rowOf b t) (colQ h g d)) =
    (dq (headQ q b h g) (headK k b h) (headK v b h) (headQ w b h g) t d : ℝ) := by
  refine (flatQ_apply _ b t h g d).trans ?_
  unfold val_main_v65 val_main_v64 val_main_v63
  pointwise
  simp only [v62_apply h0 h1 h2 h3, v5_apply h1, ← EReal.coe_mul, ← coe_sum]
  rfl

/-- The key gradient. -/
theorem v69_apply (d : Fin 128) : val_main_v69 (F := Ideal) x0 x1 x2 x3 (ix2 (rowOf b s) (colK h d)) =
    (∑ g, dk (headQ q b h g) (headK k b h) (headK v b h) (headQ w b h g) s d : ℝ) := by
  refine (flatK_apply _ b s h d).trans ?_
  unfold val_main_v67 val_main_v66 val_main_v63
  pointwise
  simp only [v62_apply h0 h1 h2 h3, v4_apply h0, ← EReal.coe_mul, ← coe_sum]
  rw [Finset.sum_comm]
  rfl

omit h2

/-- The value gradient. -/
theorem v68_apply (d : Fin 128) : val_main_v68 (F := Ideal) x0 x1 x3 (ix2 (rowOf b s) (colK h d)) =
    (∑ g, dv (headQ q b h g) (headK k b h) (headQ w b h g) s d : ℝ) := by
  refine (flatK_apply _ b s h d).trans ?_
  unfold val_main_v48 val_main_v47
  pointwise
  simp only [v45_apply h3, v37_apply h0 h1, ← EReal.coe_mul, ← coe_sum]
  refine congrArg _ (Finset.sum_congr rfl fun g _ => Finset.sum_congr rfl fun t _ => mul_comm _ _)

end

end Cert.ReferenceIdeal.Backward

end

end
-- ==== Proof.Algebra.lean ====
/- The value claim's content: on finite arguments the kernel's three result arrays are the reference's three results. -/
module

public import proofs.«01_k».proof.Proof.Arrays
public import proofs.«01_k».proof.Proof.Finite
public import proofs.«01_k».proof.Proof.RefBackward
public import proofs.«01_k».proof.Proof.Gen.ReferenceIdeal.Run

@[expose] public section

noncomputable section

namespace Cert.Algebra

open Cert.KernelIdeal Cert.KernelIdeal.Gen Cert.KernelIdeal.Inputs Cert.KernelIdeal.Arrays Cert.Attn Cert.Heads
open Idealize.ShloMosaic Idealize.ShloMosaic.TcCoe Idealize.SL.Sem

variable {m : (ℓ : Loc nD τ sig) → Buf (Elt Ideal) ℓ} {c : Dev nD}

/-- A finite array is an array of real numbers. -/
theorem matrix {a b : ℕ} {φ : FTy} (x : FVec Ideal ⟨2, ![a, b]⟩ φ) (h : Cert.Finite.Real x) :
    ∃ r : Fin a → Fin b → ℝ, ∀ i j, x (ix2 i j) = (r i j : EReal) :=
  ⟨fun i j => (h (ix2 i j)).choose, fun i j => (h (ix2 i j)).choose_spec⟩

/-- Finite arguments hold real matrices. -/
theorem args (h : Cert.Pre_finite.fn (F := Ideal) (m ((c : Thread nD τ).loc main_arg0)) (m ((c : Thread nD τ).loc main_arg1))
    (m ((c : Thread nD τ).loc main_arg2)) (m ((c : Thread nD τ).loc main_arg3)) = fun _ => 1#1) : ∃ q k v w, Args m c q k v w := by
  obtain ⟨h0, h1, h2, h3⟩ := Cert.Finite.of_fn _ _ _ _ h
  obtain ⟨q, hq⟩ := matrix _ h0
  obtain ⟨k, hk⟩ := matrix _ h1
  obtain ⟨v, hv⟩ := matrix _ h2
  obtain ⟨w, hw⟩ := matrix _ h3
  exact ⟨q, k, v, w, hq, hk, hv, hw⟩

variable {q w : Fin 4096 → Fin 1024 → ℝ} {k v : Fin 4096 → Fin 256 → ℝ} (H : Args m c q k v w)
include H

/-- The query gradients agree. -/
theorem agree_q : Cert.ReferenceIdeal.Read.val_main_v70 (F := Ideal) (m ((c : Thread nD τ).loc main_arg0)) (m ((c : Thread nD τ).loc main_arg1))
    (m ((c : Thread nD τ).loc main_arg2)) (m ((c : Thread nD τ).loc main_arg3)) = (dats m 0 c).arrAt 5 cfg0.N := by
  refine funext fun i => ?_
  obtain ⟨b, t, hr⟩ := rowOf_surj (i 0)
  obtain ⟨h, g, d, hc⟩ := colQ_surj (i 1)
  have e : i = ix2 (rowOf b t) (colQ h g d) := by
    rw [hr, hc]
    exact (ix2_eta i).symm
  rw [e]
  exact (Cert.ReferenceIdeal.Backward.v70_apply H.q H.k H.v H.w b h g t d).trans (array5 H b h g t d).symm

/-- The key gradients agree. -/
theorem agree_k : Cert.ReferenceIdeal.Read.val_main_v69 (F := Ideal) (m ((c : Thread nD τ).loc main_arg0)) (m ((c : Thread nD τ).loc main_arg1))
    (m ((c : Thread nD τ).loc main_arg2)) (m ((c : Thread nD τ).loc main_arg3)) = (dats m 0 c).arrAt 6 cfg0.N := by
  refine funext fun i => ?_
  obtain ⟨b, s, hr⟩ := rowOf_surj (i 0)
  obtain ⟨h, d, hc⟩ := colK_surj (i 1)
  have e : i = ix2 (rowOf b s) (colK h d) := by
    rw [hr, hc]
    exact (ix2_eta i).symm
  rw [e]
  exact (Cert.ReferenceIdeal.Backward.v69_apply H.q H.k H.v H.w b h s d).trans (array6 H b h s d).symm

/-- The value gradients agree. -/
theorem agree_v : Cert.ReferenceIdeal.Read.val_main_v68 (F := Ideal) (m ((c : Thread nD τ).loc main_arg0)) (m ((c : Thread nD τ).loc main_arg1))
    (m ((c : Thread nD τ).loc main_arg3)) = (dats m 0 c).arrAt 7 cfg0.N := by
  refine funext fun i => ?_
  obtain ⟨b, s, hr⟩ := rowOf_surj (i 0)
  obtain ⟨h, d, hc⟩ := colK_surj (i 1)
  have e : i = ix2 (rowOf b s) (colK h d) := by
    rw [hr, hc]
    exact (ix2_eta i).symm
  rw [e]
  exact (Cert.ReferenceIdeal.Backward.v68_apply H.q H.k H.w b h s d).trans (array7 H b h s d).symm

end Cert.Algebra

end

end
-- ==== Proof.HiddenGrad.lean ====
/- The gradient through the MLP's down product and squared ReLU (`Kernel3`): each tile of the result is the product of a row panel of the
   output gradient with a row panel of the down matrix, times twice the ReLU; the reference's derivative is the same. -/
module

public import proofs.«01_k».proof.Proof.Gen.Kernel3Ideal.Value
public import proofs.«01_k».proof.Proof.Gen.Reference3Ideal.Read
public import Idealize.ShloMosaic.Lib.Pointwise
public import Idealize.ShloMosaic.Lib.Claim

@[expose] public section

noncomputable section

namespace Cert.Kernel3Ideal.Tile

open Cert.Reference3Ideal.Read
open Cert.Kernel3Ideal Cert.Kernel3Ideal.Gen
open Idealize.ShloMosaic Idealize.ShloMosaic.TcCoe Idealize.SL.Sem

/-- The rectangles start at the origin. -/
theorem hz : (![0, 0] : Fin 2 → Nat) = fun _ => 0 := funext fun a => by fin_cases a <;> rfl

/-- The grid point of row block `i` and column block `j`. -/
def point (i : Fin 2) (j : Fin 4) : Fin cfg0.N := ⟨i * 4 + j, by show _ < 8; omega⟩
/-- Row `r` of row block `i`. -/
def row (i : Fin 2) (r : Fin 2048) : Fin 4096 := ⟨i * 2048 + r, by omega⟩
/-- Column `s` of column block `j`. -/
def col (j : Fin 4) (s : Fin 1024) : Fin 4096 := ⟨j * 1024 + s, by omega⟩

/-- Every row lies in some block. -/
theorem row_surj (r : Fin 4096) : ∃ i s, row i s = r :=
  ⟨⟨r / 2048, by omega⟩, ⟨r % 2048, by omega⟩, Fin.ext (by show (r : ℕ) / 2048 * 2048 + r % 2048 = r; omega)⟩
/-- Every column lies in some block. -/
theorem col_surj (r : Fin 4096) : ∃ j s, col j s = r :=
  ⟨⟨r / 1024, by omega⟩, ⟨r % 1024, by omega⟩, Fin.ext (by show (r : ℕ) / 1024 * 1024 + r % 1024 = r; omega)⟩

/-- The output gradient's block at a point: the row panel. -/
theorem index0 : ∀ i j, win0_0.index (point i j) 0 = i ∧ win0_0.index (point i j) 1 = 0 := by decide +kernel
/-- The down matrix's block: the row panel of the result's columns. -/
theorem index1 : ∀ i j, win0_1.index (point i j) 0 = j ∧ win0_1.index (point i j) 1 = 0 := by decide +kernel
/-- The ReLU's block: the tile. -/
theorem index2 : ∀ i j, win0_2.index (point i j) 0 = i ∧ win0_2.index (point i j) 1 = j := by decide +kernel
/-- The result's block: the tile. -/
theorem index3 : ∀ i j, win0_3.index (point i j) 0 = i ∧ win0_3.index (point i j) 1 = j := by decide +kernel

variable (m : (ℓ : Loc nD τ sig) → Buf (Elt Ideal) ℓ) (c : Dev nD)

/-- The hidden values, the down matrix and the output gradient, as the device holds them. -/
abbrev arg0 : FVec Ideal S4096x4096 .f32 := m ((c : Thread nD τ).loc main_arg0)
abbrev arg1 : FVec Ideal S4096x1024 .f32 := m ((c : Thread nD τ).loc main_arg1)
abbrev arg2 : FVec Ideal S4096x1024 .f32 := m ((c : Thread nD τ).loc main_arg2)

/-- The host narrows the output gradient … -/
theorem entry0 : @Eq (FVec Ideal S4096x1024 .bf16) (V m c main_v1) (truncf .bf16 (arg2 m c) bitsLt_bf16_f32) := by
  entry_read
  rfl
/-- … and the down matrix, … -/
theorem entry1 : @Eq (FVec Ideal S4096x1024 .bf16) (V m c main_v2) (truncf .bf16 (arg1 m c) bitsLt_bf16_f32) := by
  entry_read
  rfl
/-- … and takes the ReLU of the hidden values. -/
theorem entry2 : @Eq (FVec Ideal S4096x4096 .bf16) (V m c main_v3)
    (truncf .bf16 (val_main_v0 (F := Ideal) (arg0 m c)) bitsLt_bf16_f32) := by
  entry_read
  rfl

variable (i : Fin 2) (j : Fin 4)

/-- The output gradient's block holds the argument's rows. -/
theorem block0 (r : Fin 2048) (k : Fin 1024) : (show FVec Ideal S2048x1024 .bf16 from iblk m c 0 (point i j)) (ix2 r k) = arg2 m c (ix2 (row i r) k) := by
  refine Eq.trans ?_ (congrFun (entry0 m c) (ix2 (row i r) k))
  unfold iblk
  show ((cfg0.win 0).blk (point i j)).view.read (Elt Ideal) _ (ix2 r k) = _
  rw [View.read_apply]
  show V m c main_v1 _ = V m c main_v1 _
  congr 1
  funext a
  apply Fin.ext
  match a with
  | ⟨0, _⟩ => show win0_0.index (point i j) 0 * 2048 + 1 * (r : ℕ) = i * 2048 + r; rw [(index0 i j).1]; omega
  | ⟨1, _⟩ => show win0_0.index (point i j) 1 * 1024 + 1 * (k : ℕ) = k; rw [(index0 i j).2]; omega

/-- The down matrix's block holds the argument's rows. -/
theorem block1 (s : Fin 1024) (k : Fin 1024) : (show FVec Ideal S1024x1024 .bf16 from iblk m c 1 (point i j)) (ix2 s k) = arg1 m c (ix2 (col j s) k) := by
  refine Eq.trans ?_ (congrFun (entry1 m c) (ix2 (col j s) k))
  unfold iblk
  show ((cfg0.win 1).blk (point i j)).view.read (Elt Ideal) _ (ix2 s k) = _
  rw [View.read_apply]
  show V m c main_v2 _ = V m c main_v2 _
  congr 1
  funext a
  apply Fin.ext
  match a with
  | ⟨0, _⟩ => show win0_1.index (point i j) 0 * 1024 + 1 * (s : ℕ) = j * 1024 + s; rw [(index1 i j).1]; omega
  | ⟨1, _⟩ => show win0_1.index (point i j) 1 * 1024 + 1 * (k : ℕ) = k; rw [(index1 i j).2]; omega

/-- The ReLU's block holds the tile of the reference's ReLU. -/
theorem block2 (r : Fin 2048) (s : Fin 1024) : (show FVec Ideal S2048x1024 .bf16 from iblk m c 2 (point i j)) (ix2 r s)
    = val_main_v0 (F := Ideal) (arg0 m c) (ix2 (row i r) (col j s)) := by
  refine Eq.trans ?_ (congrFun (entry2 m c) (ix2 (row i r) (col j s)))
  unfold iblk
  show ((cfg0.win 2).blk (point i j)).view.read (Elt Ideal) _ (ix2 r s) = _
  rw [View.read_apply]
  show V m c main_v3 _ = V m c main_v3 _
  congr 1
  funext a
  apply Fin.ext
  match a with
  | ⟨0, _⟩ => show win0_2.index (point i j) 0 * 2048 + 1 * (r : ℕ) = i * 2048 + r; rw [(index2 i j).1]; omega
  | ⟨1, _⟩ => show win0_2.index (point i j) 1 * 1024 + 1 * (s : ℕ) = j * 1024 + s; rw [(index2 i j).2]; omega

/-- One tile: the product's entry times twice the ReLU. -/
theorem tile {x0 : FVec Ideal S2048x1024 .bf16} {x1 : FVec Ideal S1024x1024 .bf16} {x2 : FVec Ideal S2048x1024 .bf16}
    {d : Fin 2048 → Fin 1024 → EReal} {w : Fin 1024 → Fin 1024 → EReal} {z : Fin 2048 → Fin 1024 → EReal}
    (h0 : ∀ r k, x0 (ix2 r k) = d r k) (h1 : ∀ s k, x1 (ix2 s k) = w s k) (h2 : ∀ r s, x2 (ix2 r s) = z r s) (r : Fin 2048) (s : Fin 1024) :
    (show FVec Ideal S2048x1024 .bf16 from out0_3 (F := Ideal) x0 x1 x2) (ix2 r s) = (∑ k, d r k * w s k) * (Ideal.ofBits .f32 0x40000000#32 * z r s) := by
  show out0_3 (F := Ideal) x0 x1 x2 (ix2 r s) = _
  unfold out0_3
  rw [View.canon_unit_zero (S := S2048x1024) hz]
  simp only [View.ld_unit_zero (S := S2048x1024) hz, View.ld_unit_zero (S := S1024x1024) hz]
  unfold k0_pay1
  pointwise
  simp only [h0, h1, h2]

/-- The result array, entry by entry. -/
theorem array (r : Fin 2048) (s : Fin 1024) : (show FVec Ideal S4096x4096 .bf16 from (dats m 0 c).arrAt 3 cfg0.N) (ix2 (row i r) (col j s))
    = (∑ k, arg2 m c (ix2 (row i r) k) * arg1 m c (ix2 (col j s) k))
      * (Ideal.ofBits .f32 0x40000000#32 * val_main_v0 (F := Ideal) (arg0 m c) (ix2 (row i r) (col j s))) := by
  have e := congrFun (Value.blocks3 m c (point i j) (flush0_3 _)) (ix2 r s)
  rw [View.read_apply, Value.flushed3] at e
  have t := tile (block0 m c i j) (block1 m c i j) (block2 m c i j) r s
  refine Eq.trans ?_ t
  refine Eq.trans ?_ e
  show (dats m 0 c).arrAt 3 cfg0.N _ = (dats m 0 c).arrAt 3 cfg0.N _
  refine congrArg ((dats m 0 c).arrAt 3 cfg0.N) (funext fun a => Fin.ext ?_)
  match a with
  | ⟨0, _⟩ => show (i : ℕ) * 2048 + r = win0_3.index (point i j) 0 * 2048 + 1 * (r : ℕ); rw [(index3 i j).1]; omega
  | ⟨1, _⟩ => show (j : ℕ) * 1024 + s = win0_3.index (point i j) 1 * 1024 + 1 * (s : ℕ); rw [(index3 i j).2]; omega

/-- Where the hidden value is positive the reference adds the gradients of the square's two factors, elsewhere it has zero: twice the ReLU. -/
theorem twice (u y : EReal) : (if 0 < u then max u 0 * y + y * max u 0 else 0) = y * (2 * max u 0) := by
  by_cases h : 0 < u
  · rw [if_pos h, max_eq_left h.le, mul_comm u y, ← EReal.left_distrib_of_nonneg h.le h.le, ← one_add_one_eq_two,
      EReal.right_distrib_of_nonneg zero_le_one zero_le_one, one_mul]
  · rw [if_neg h, max_eq_right (not_lt.mp h), mul_zero, mul_zero]

/-- The word of `2.0` denotes two. -/
theorem two : Ideal.ofBits .f32 0x40000000#32 = 2 := by
  refine Eq.trans (b := ((2 : ℝ) : EReal)) ?_ rfl
  simp [Ideal.ofBits, Ideal.ieee, -EReal.coe_mul]; norm_num

/-- The reference's result, entry by entry. -/
theorem reference (x0 : FVec Ideal S4096x4096 .f32) (x1 x2 : FVec Ideal S4096x1024 .f32) (r s : Fin 4096) :
    val_main_v12 (F := Ideal) x0 x1 x2 (ix2 r s)
      = (∑ k, x2 (ix2 r k) * x1 (ix2 s k)) * (Ideal.ofBits .f32 0x40000000#32 * val_main_v0 (F := Ideal) x0 (ix2 r s)) := by
  simp only [val_main_v12, val_main_v11, val_main_v10, val_main_v9, val_main_v8, val_main_v7, val_main_v6, val_main_v2, val_main_v1, val_main_v0, val_main_cst, val_main_cst_1,
    val_main_call0_v0, val_main_call0_cst]
  pointwise
  rw [two]
  exact twice _ _

/-- The reference's result is the kernel's result array. -/
theorem agree (x0 : FVec Ideal S4096x4096 .f32) (x1 x2 : FVec Ideal S4096x1024 .f32) (h0 : x0 = arg0 m c) (h1 : x1 = arg1 m c) (h2 : x2 = arg2 m c) :
    val_main_v12 (F := Ideal) x0 x1 x2 = (show FVec Ideal S4096x4096 .bf16 from (dats m 0 c).arrAt 3 cfg0.N) := by
  funext ij
  rw [← ix2_eta ij]
  obtain ⟨i, r, hr⟩ := row_surj (ij 0)
  obtain ⟨j, s, hs⟩ := col_surj (ij 1)
  rw [← hr, ← hs, reference, h0, h1, h2]
  exact (array m c i j r s).symm

end Cert.Kernel3Ideal.Tile

end

end
-- ==== Proof.DownGrad.lean ====
/- The gradient of the MLP's down matrix (`Kernel4`): each row panel of the result is a panel of the activations against the output
   gradient, summed over the tokens; the reference's derivative, which is transposed, is the same. -/
module

public import proofs.«01_k».proof.Proof.Gen.Kernel4Ideal.Value
public import proofs.«01_k».proof.Proof.Gen.Reference4Ideal.Read
public import Idealize.ShloMosaic.Lib.Pointwise
public import Idealize.ShloMosaic.Lib.Claim

@[expose] public section

noncomputable section

namespace Cert.Kernel4Ideal.Tile

open Cert.Reference4Ideal.Read
open Cert.Kernel4Ideal Cert.Kernel4Ideal.Gen
open Idealize.ShloMosaic Idealize.ShloMosaic.TcCoe Idealize.SL.Sem

/-- The rectangles start at the origin. -/
theorem hz : (![0, 0] : Fin 2 → Nat) = fun _ => 0 := funext fun a => by fin_cases a <;> rfl

/-- The grid point of row block `i`. -/
def point (i : Fin 4) : Fin cfg0.N := ⟨i, by show _ < 4; omega⟩
/-- Row `r` of row block `i`. -/
def row (i : Fin 4) (r : Fin 1024) : Fin 4096 := ⟨i * 1024 + r, by omega⟩

/-- Every row lies in some block. -/
theorem row_surj (r : Fin 4096) : ∃ i s, row i s = r :=
  ⟨⟨r / 1024, by omega⟩, ⟨r % 1024, by omega⟩, Fin.ext (by show (r : ℕ) / 1024 * 1024 + r % 1024 = r; omega)⟩

/-- The activations' block at a point: the column panel of the result's rows. -/
theorem index0 : ∀ i, win0_0.index (point i) 0 = 0 ∧ win0_0.index (point i) 1 = i := by decide +kernel
/-- The output gradient's block: the whole. -/
theorem index1 : ∀ i, win0_1.index (point i) 0 = 0 ∧ win0_1.index (point i) 1 = 0 := by decide +kernel
/-- The result's block: the row panel. -/
theorem index2 : ∀ i, win0_2.index (point i) 0 = i ∧ win0_2.index (point i) 1 = 0 := by decide +kernel

variable (m : (ℓ : Loc nD τ sig) → Buf (Elt Ideal) ℓ) (c : Dev nD)

/-- The layer's input, the norm's gain, the two weight matrices and the output gradient, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x4096 .f32 := m ((c : Thread nD τ).loc main_arg2)
abbrev arg3 : FVec Ideal S4096x1024 .f32 := m ((c : Thread nD τ).loc main_arg3)
abbrev arg4 : FVec Ideal S4096x1024 .f32 := m ((c : Thread nD τ).loc main_arg4)
/-- The reference's activations. -/
abbrev act : FVec Ideal S4096x4096 .f32 := val_main_v14 (F := Ideal) (arg0 m c) (arg1 m c) (arg2 m c)

/-- The host computes the activations as the reference does … -/
theorem entry0 : @Eq (FVec Ideal S4096x4096 .bf16) (V m c main_v15) (truncf .bf16 (act m c) bitsLt_bf16_f32) := by
  entry_read
  rfl
/-- … and narrows the output gradient. -/
theorem entry1 : @Eq (FVec Ideal S4096x1024 .bf16) (V m c main_v16) (truncf .bf16 (arg4 m c) bitsLt_bf16_f32) := by
  entry_read
  rfl

variable (i : Fin 4)

/-- The activations' block holds their columns. -/
theorem block0 (t : Fin 4096) (k : Fin 1024) : (show FVec Ideal S4096x1024 .bf16 from iblk m c 0 (point i)) (ix2 t k) = act m c (ix2 t (row i k)) := by
  refine Eq.trans ?_ (congrFun (entry0 m c) (ix2 t (row i k)))
  unfold iblk
  show ((cfg0.win 0).blk (point i)).view.read (Elt Ideal) _ (ix2 t k) = _
  rw [View.read_apply]
  show V m c main_v15 _ = V m c main_v15 _
  refine congrArg (V m c main_v15) (funext fun a => Fin.ext ?_)
  match a with
  | ⟨0, _⟩ => show win0_0.index (point i) 0 * 4096 + 1 * (t : ℕ) = t; rw [(index0 i).1]; omega
  | ⟨1, _⟩ => show win0_0.index (point i) 1 * 1024 + 1 * (k : ℕ) = i * 1024 + k; rw [(index0 i).2]; omega

/-- The output gradient's block holds the argument. -/
theorem block1 (t : Fin 4096) (k : Fin 1024) : (show FVec Ideal S4096x1024 .bf16 from iblk m c 1 (point i)) (ix2 t k) = arg4 m c (ix2 t k) := by
  refine Eq.trans ?_ (congrFun (entry1 m c) (ix2 t k))
  unfold iblk
  show ((cfg0.win 1).blk (point i)).view.read (Elt Ideal) _ (ix2 t k) = _
  rw [View.read_apply]
  show V m c main_v16 _ = V m c main_v16 _
  refine congrArg (V m c main_v16) (funext fun a => Fin.ext ?_)
  match a with
  | ⟨0, _⟩ => show win0_1.index (point i) 0 * 4096 + 1 * (t : ℕ) = t; rw [(index1 i).1]; omega
  | ⟨1, _⟩ => show win0_1.index (point i) 1 * 1024 + 1 * (k : ℕ) = k; rw [(index1 i).2]; omega

/-- One panel: the product over the tokens. -/
theorem tile {x0 x1 : FVec Ideal S4096x1024 .bf16} {a d : Fin 4096 → Fin 1024 → EReal}
    (h0 : ∀ t k, x0 (ix2 t k) = a t k) (h1 : ∀ t k, x1 (ix2 t k) = d t k) (r s : Fin 1024) :
    (show FVec Ideal S1024x1024 .bf16 from out0_2 (F := Ideal) x0 x1) (ix2 r s) = ∑ t, a t r * d t s := by
  show out0_2 (F := Ideal) x0 x1 (ix2 r s) = _
  unfold out0_2
  rw [View.canon_unit_zero (S := S1024x1024) hz]
  simp only [View.ld_unit_zero (S := S4096x1024) hz]
  unfold k0_pay1
  pointwise
  simp only [h0, h1]

/-- The result array, entry by entry. -/
theorem array (r s : Fin 1024) : (show FVec Ideal S4096x1024 .bf16 from (dats m 0 c).arrAt 2 cfg0.N) (ix2 (row i r) s)
    = ∑ t, act m c (ix2 t (row i r)) * arg4 m c (ix2 t s) := by
  have e := congrFun (Value.blocks2 m c (point i) (flush0_2 _)) (ix2 r s)
  rw [View.read_apply, Value.flushed2] at e
  have t := tile (block0 m c i) (block1 m c i) r s
  refine Eq.trans ?_ t
  refine Eq.trans ?_ e
  show (dats m 0 c).arrAt 2 cfg0.N _ = (dats m 0 c).arrAt 2 cfg0.N _
  refine congrArg ((dats m 0 c).arrAt 2 cfg0.N) (funext fun a => Fin.ext ?_)
  match a with
  | ⟨0, _⟩ => show (i : ℕ) * 1024 + r = win0_2.index (point i) 0 * 1024 + 1 * (r : ℕ); rw [(index2 i).1]; omega
  | ⟨1, _⟩ => show (s : ℕ) = win0_2.index (point i) 1 * 1024 + 1 * (s : ℕ); rw [(index2 i).2]; omega

/-- The reference's result, entry by entry. -/
theorem reference (x0 : FVec Ideal S4096x1024 .f32) (x1 : FVec Ideal S1x1024 .f32) (x2 : FVec Ideal S1024x4096 .f32) (x4 : FVec Ideal S4096x1024 .f32)
    (r : Fin 4096) (s : Fin 1024) : val_main_v19 (F := Ideal) x0 x1 x2 x4 (ix2 r s)
      = ∑ t, val_main_v14 (F := Ideal) x0 x1 x2 (ix2 t r) * x4 (ix2 t s) := by
  unfold val_main_v19 val_main_v18 val_main_v17
  pointwise
  exact Finset.sum_congr rfl fun t _ => mul_comm _ _

/-- The reference's result is the kernel's result array. -/
theorem agree (x0 : FVec Ideal S4096x1024 .f32) (x1 : FVec Ideal S1x1024 .f32) (x2 : FVec Ideal S1024x4096 .f32) (x4 : FVec Ideal S4096x1024 .f32)
    (h0 : x0 = arg0 m c) (h1 : x1 = arg1 m c) (h2 : x2 = arg2 m c) (h4 : x4 = arg4 m c) :
    val_main_v19 (F := Ideal) x0 x1 x2 x4 = (show FVec Ideal S4096x1024 .bf16 from (dats m 0 c).arrAt 2 cfg0.N) := by
  funext ij
  rw [← ix2_eta ij]
  obtain ⟨i, r, hr⟩ := row_surj (ij 0)
  rw [← hr, h0, h1, h2, h4]
  exact (reference _ _ _ _ (row i r) (ij 1)).trans (array m c i r (ij 1)).symm

end Cert.Kernel4Ideal.Tile

end

end
-- ==== Proof.UpGrad.lean ====
/- The gradient of the MLP's up matrix (`Kernel5`): each column panel of a slot of the result is the normed input against a panel of the
   hidden gradient, summed over the tokens; the reference's derivative, cut into the same slots, is the same. -/
module

public import proofs.«01_k».proof.Proof.Gen.Kernel5Ideal.Value
public import proofs.«01_k».proof.Proof.Gen.Reference5Ideal.Read
public import Idealize.ShloMosaic.Lib.Pointwise
public import Idealize.ShloMosaic.Lib.Claim

@[expose] public section

noncomputable section

namespace Cert.Kernel5Ideal.Tile

open Cert.Reference5Ideal.Read
open Cert.Kernel5Ideal Cert.Kernel5Ideal.Gen
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of column block `j` of slot `l`. -/
def point (l : Fin 4) (j : Fin 2) : Fin cfg0.N := ⟨l * 2 + j, by show _ < 8; omega⟩
/-- Column `s` of column block `j` of a slot. -/
def col (j : Fin 2) (s : Fin 512) : Fin 1024 := ⟨j * 512 + s, by omega⟩
/-- Column `s` of slot `l`. -/
def slot (l : Fin 4) (s : Fin 1024) : Fin 4096 := ⟨l * 1024 + s, by omega⟩

/-- Every column of a slot lies in some block. -/
theorem col_surj (r : Fin 1024) : ∃ j s, col j s = r :=
  ⟨⟨r / 512, by omega⟩, ⟨r % 512, by omega⟩, Fin.ext (by show (r : ℕ) / 512 * 512 + r % 512 = r; omega)⟩

/-- The normed input's block at a point: the whole. -/
theorem index0 : ∀ l j, win0_0.index (point l j) 0 = 0 ∧ win0_0.index (point l j) 1 = 0 := by decide +kernel
/-- The hidden gradient's block: the column panel. -/
theorem index1 : ∀ l j, win0_1.index (point l j) 0 = 0 ∧ win0_1.index (point l j) 1 = (l : ℕ) * 2 + j := by decide +kernel
/-- The result's block: the column panel of the slot. -/
theorem index2 : ∀ l j, win0_2.index (point l j) 0 = l ∧ win0_2.index (point l j) 1 = 0 ∧ win0_2.index (point l j) 2 = j := by decide +kernel

variable (m : (ℓ : Loc nD τ sig) → Buf (Elt Ideal) ℓ) (c : Dev nD)

/-- The layer's input, the norm's gain, the two weight matrices and the output gradient, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x4096 .f32 := m ((c : Thread nD τ).loc main_arg2)
abbrev arg3 : FVec Ideal S4096x1024 .f32 := m ((c : Thread nD τ).loc main_arg3)
abbrev arg4 : FVec Ideal S4096x1024 .f32 := m ((c : Thread nD τ).loc main_arg4)
/-- The reference's normed input and its hidden gradient. -/
abbrev norm : FVec Ideal S4096x1024 .f32 := val_main_v11 (F := Ideal) (arg0 m c) (arg1 m c)
abbrev dup : FVec Ideal S4096x4096 .f32 := val_main_v25 (F := Ideal) (arg0 m c) (arg1 m c) (arg2 m c) (arg3 m c) (arg4 m c)

/-- The host computes the normed input as the reference does … -/
theorem entry0 : @Eq (FVec Ideal S4096x1024 .bf16) (V m c main_v37) (truncf .bf16 (norm m c) bitsLt_bf16_f32) := by
  entry_read
  rfl
/-- … and the hidden gradient likewise. -/
theorem entry1 : @Eq (FVec Ideal S4096x4096 .bf16) (V m c main_v38) (truncf .bf16 (dup m c) bitsLt_bf16_f32) := by
  entry_read
  rfl

variable (l : Fin 4) (j : Fin 2)

/-- The normed input's block holds it whole. -/
theorem block0 (t : Fin 4096) (k : Fin 1024) : (show FVec Ideal S4096x1024 .bf16 from iblk m c 0 (point l j)) (ix2 t k) = norm m c (ix2 t k) := by
  refine Eq.trans ?_ (congrFun (entry0 m c) (ix2 t k))
  unfold iblk
  show ((cfg0.win 0).blk (point l j)).view.read (Elt Ideal) _ (ix2 t k) = _
  rw [View.read_apply]
  show V m c main_v37 _ = V m c main_v37 _
  refine congrArg (V m c main_v37) (funext fun a => Fin.ext ?_)
  match a with
  | ⟨0, _⟩ => show win0_0.index (point l j) 0 * 4096 + 1 * (t : ℕ) = t; rw [(index0 l j).1]; omega
  | ⟨1, _⟩ => show win0_0.index (point l j) 1 * 1024 + 1 * (k : ℕ) = k; rw [(index0 l j).2]; omega

/-- The hidden gradient's block holds its columns. -/
theorem block1 (t : Fin 4096) (k : Fin 512) : (show FVec Ideal S4096x512 .bf16 from iblk m c 1 (point l j)) (ix2 t k) = dup m c (ix2 t (slot l (col j k))) := by
  refine Eq.trans ?_ (congrFun (entry1 m c) (ix2 t (slot l (col j k))))
  unfold iblk
  show ((cfg0.win 1).blk (point l j)).view.read (Elt Ideal) _ (ix2 t k) = _
  rw [View.read_apply]
  show V m c main_v38 _ = V m c main_v38 _
  refine congrArg (V m c main_v38) (funext fun a => Fin.ext ?_)
  match a with
  | ⟨0, _⟩ => show win0_1.index (point l j) 0 * 4096 + 1 * (t : ℕ) = t; rw [(index1 l j).1]; omega
  | ⟨1, _⟩ => show win0_1.index (point l j) 1 * 512 + 1 * (k : ℕ) = l * 1024 + (j * 512 + k); rw [(index1 l j).2]; omega

/-- One panel: the product over the tokens. -/
theorem tile {x0 : FVec Ideal S4096x1024 .bf16} {x1 : FVec Ideal S4096x512 .bf16} {a : Fin 4096 → Fin 1024 → EReal} {d : Fin 4096 → Fin 512 → EReal}
    (h0 : ∀ t k, x0 (ix2 t k) = a t k) (h1 : ∀ t k, x1 (ix2 t k) = d t k) (r : Fin 1024) (s : Fin 512) :
    (show FVec Ideal S1x1024x512 .bf16 from out0_2 (F := Ideal) x0 x1) (ix3 0 r s) = ∑ t, a t r * d t s := by
  show out0_2 (F := Ideal) x0 x1 (ix3 0 r s) = _
  unfold out0_2
  rw [View.canon_unit_zero (S := S1x1024x512) hz3]
  simp only [View.ld_unit_zero (S := S4096x1024) hz, View.ld_unit_zero (S := S4096x512) hz]
  unfold k0_pay1
  pointwise
  simp only [h0, h1]

/-- The result array, entry by entry. -/
theorem array (r : Fin 1024) (s : Fin 512) : (show FVec Ideal S4x1024x1024 .bf16 from (dats m 0 c).arrAt 2 cfg0.N) (ix3 l r (col j s))
    = ∑ t, norm m c (ix2 t r) * dup m c (ix2 t (slot l (col j s))) := by
  have e := congrFun (Value.blocks2 m c (point l j) (flush0_2 _)) (ix3 0 r s)
  rw [View.read_apply, Value.flushed2] at e
  have t := tile (block0 m c l j) (block1 m c l j) r s
  refine Eq.trans ?_ t
  refine Eq.trans ?_ e
  show (dats m 0 c).arrAt 2 cfg0.N _ = (dats m 0 c).arrAt 2 cfg0.N _
  refine congrArg ((dats m 0 c).arrAt 2 cfg0.N) (funext fun a => Fin.ext ?_)
  match a with
  | ⟨0, _⟩ => show (l : ℕ) = win0_2.index (point l j) 0 * 1 + 1 * 0; rw [(index2 l j).1]; omega
  | ⟨1, _⟩ => show (r : ℕ) = win0_2.index (point l j) 1 * 1024 + 1 * (r : ℕ); rw [(index2 l j).2.1]; omega
  | ⟨2, _⟩ => show (j : ℕ) * 512 + s = win0_2.index (point l j) 2 * 512 + 1 * (s : ℕ); rw [(index2 l j).2.2]; omega

/-- The reference's result, entry by entry. -/
theorem reference (x0 : FVec Ideal S4096x1024 .f32) (x1 : FVec Ideal S1x1024 .f32) (x2 : FVec Ideal S1024x4096 .f32) (x3 x4 : FVec Ideal S4096x1024 .f32)
    (l : Fin 4) (r s : Fin 1024) : val_main_v30 (F := Ideal) x0 x1 x2 x3 x4 (ix3 l r s)
      = ∑ t, val_main_v11 (F := Ideal) x0 x1 (ix2 t r) * val_main_v25 (F := Ideal) x0 x1 x2 x3 x4 (ix2 t (slot l s)) := by
  unfold val_main_v30 val_main_v29 val_main_v28
    val_main_v27 val_main_v26
  pointwise
  exact Finset.sum_congr rfl fun t _ => mul_comm _ _

/-- The reference's result is the kernel's result array. -/
theorem agree (x0 : FVec Ideal S4096x1024 .f32) (x1 : FVec Ideal S1x1024 .f32) (x2 : FVec Ideal S1024x4096 .f32) (x3 x4 : FVec Ideal S4096x1024 .f32)
    (h0 : x0 = arg0 m c) (h1 : x1 = arg1 m c) (h2 : x2 = arg2 m c) (h3 : x3 = arg3 m c) (h4 : x4 = arg4 m c) :
    val_main_v30 (F := Ideal) x0 x1 x2 x3 x4 = (show FVec Ideal S4x1024x1024 .bf16 from (dats m 0 c).arrAt 2 cfg0.N) := by
  funext i
  rw [← ix3_eta i]
  obtain ⟨j, s, hs⟩ := col_surj (i 2)
  rw [← hs, h0, h1, h2, h3, h4]
  exact (reference _ _ _ _ _ (i 0) (i 1) (col j s)).trans (array m c (i 0) j (i 1) s).symm

end Cert.Kernel5Ideal.Tile

end

end
-- ==== Proof.NormMlpStored.lean ====
/- What one grid point of the gradient through the MLP's up projection and norm (`Kernel6`) leaves in its three staging blocks, as functions of its five input blocks (the output gradient,
   the matrix in its slots, the layer's input, the gradient passed by it, the norm's gain) and, for the gain's gradient, of what the block held. -/
module

public import proofs.«01_k».proof.Proof.Gen.Kernel6Ideal.Value
public import Idealize.ShloMosaic.Lib.Pipeline.ValueKit.Tiles
public import Idealize.ShloMosaic.Lib.Tactic

@[expose] public section

noncomputable section

namespace Cert.Kernel6Ideal.Stored

open Cert.Kernel6Ideal Cert.Kernel6Ideal.Gen Idealize.ShloMosaic Idealize.ShloMosaic.TcCoe Idealize.SL.Sem

variable {F : FTy → Type} [FloatOps F]

/-- The rectangles start at the origin. -/
theorem hz : (![0, 0] : Fin 2 → Nat) = fun _ => 0 := funext fun a => by fin_cases a <;> rfl

/-- Column slot 0 of the output gradient's rows … -/
abbrev cols0 (x : Vec F S512x4096 .bf16) : Vec F S512x1024 .bf16 := View.ld x (Rect.unit (s := S512x4096) ![0, 0] S512x1024.size inb_S512x4096_S512x1024_0_0)
/-- … and slot 0 of the matrix. -/
abbrev slot0 (x : Vec F S4x1024x1024 .bf16) : Vec F S1x1024x1024 .bf16 := View.ld x (Rect.unit (s := S4x1024x1024) ![0, 0, 0] S1x1024x1024.size inb_S4x1024x1024_S1x1024x1024_0_0_0)
/-- Column slot 1 of the output gradient's rows … -/
abbrev cols1 (x : Vec F S512x4096 .bf16) : Vec F S512x1024 .bf16 := View.ld x (Rect.unit (s := S512x4096) ![0, 1024] S512x1024.size inb_S512x4096_S512x1024_0_1024)
/-- … and slot 1 of the matrix. -/
abbrev slot1 (x : Vec F S4x1024x1024 .bf16) : Vec F S1x1024x1024 .bf16 := View.ld x (Rect.unit (s := S4x1024x1024) ![1, 0, 0] S1x1024x1024.size inb_S4x1024x1024_S1x1024x1024_1_0_0)
/-- Column slot 2 of the output gradient's rows … -/
abbrev cols2 (x : Vec F S512x4096 .bf16) : Vec F S512x1024 .bf16 := View.ld x (Rect.unit (s := S512x4096) ![0, 2048] S512x1024.size inb_S512x4096_S512x1024_0_2048)
/-- … and slot 2 of the matrix. -/
abbrev slot2 (x : Vec F S4x1024x1024 .bf16) : Vec F S1x1024x1024 .bf16 := View.ld x (Rect.unit (s := S4x1024x1024) ![2, 0, 0] S1x1024x1024.size inb_S4x1024x1024_S1x1024x1024_2_0_0)
/-- Column slot 3 of the output gradient's rows … -/
abbrev cols3 (x : Vec F S512x4096 .bf16) : Vec F S512x1024 .bf16 := View.ld x (Rect.unit (s := S512x4096) ![0, 3072] S512x1024.size inb_S512x4096_S512x1024_0_3072)
/-- … and slot 3 of the matrix. -/
abbrev slot3 (x : Vec F S4x1024x1024 .bf16) : Vec F S1x1024x1024 .bf16 := View.ld x (Rect.unit (s := S4x1024x1024) ![3, 0, 0] S1x1024x1024.size inb_S4x1024x1024_S1x1024x1024_3_0_0)

/-- The gradient of the normed and scaled input: the four slots' products, summed. -/
abbrev prod (x0 : Vec F S512x4096 .bf16) (x1 : Vec F S4x1024x1024 .bf16) : FVec F S512x1024 .f32 :=
  k0_pay7 (cols0 x0) (slot0 x1) (cols1 x0) (slot1 x1) (cols2 x0) (slot2 x1) (cols3 x0) (slot3 x1)

/-- The input's gradient at the first point. -/
theorem out_A_5 (c : Dev nD) (i : grid0.Coords) (arg2 : Memref sig .tc .vmem S512x4096 .bf16) (harg2 : arg2.IsWhole) (arg3 : Memref sig .tc .vmem S4x1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i)
    (x0 : Vec F S512x4096 .bf16) (x1 : Vec F S4x1024x1024 .bf16) (x2 : Vec F S512x1024 .f32) (x3 : Vec F S512x1024 .f32) (x4 : Vec F S1x1024 .f32) :
    out0_A_5 c i arg2 harg2 arg3 harg3 arg4 harg4 arg5 harg5 arg6 harg6 arg7 harg7 arg8 harg8 arg9 harg9 hc0 x0 x1 x2 x3 x4 = k0_pay3 (prod x0 x1) x2 x4 x3 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The input's gradient, narrowed, at the first point. -/
theorem out_A_6 (c : Dev nD) (i : grid0.Coords) (arg2 : Memref sig .tc .vmem S512x4096 .bf16) (harg2 : arg2.IsWhole) (arg3 : Memref sig .tc .vmem S4x1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i)
    (x0 : Vec F S512x4096 .bf16) (x1 : Vec F S4x1024x1024 .bf16) (x2 : Vec F S512x1024 .f32) (x3 : Vec F S512x1024 .f32) (x4 : Vec F S1x1024 .f32) :
    out0_A_6 c i arg2 harg2 arg3 harg3 arg4 harg4 arg5 harg5 arg6 harg6 arg7 harg7 arg8 harg8 arg9 harg9 hc0 x0 x1 x2 x3 x4 = k0_pay4 (prod x0 x1) x2 x4 x3 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The gain's gradient at the first point. -/
theorem out_A_7 (c : Dev nD) (i : grid0.Coords) (arg2 : Memref sig .tc .vmem S512x4096 .bf16) (harg2 : arg2.IsWhole) (arg3 : Memref sig .tc .vmem S4x1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i)
    (x0 : Vec F S512x4096 .bf16) (x1 : Vec F S4x1024x1024 .bf16) (x2 : Vec F S512x1024 .f32) (x3 : Vec F S512x1024 .f32) (x4 : Vec F S1x1024 .f32) :
    out0_A_7 c i arg2 harg2 arg3 harg3 arg4 harg4 arg5 harg5 arg6 harg6 arg7 harg7 arg8 harg8 arg9 harg9 hc0 x0 x1 x2 x3 x4 = k0_pay5 (prod x0 x1) x2 k0_pay6 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) hz]
  simp only [View.readAt_eq_ld, harg2.read_unread, harg3.read_unread, harg4.read_unread, harg5.read_unread, harg6.read_unread, harg9.read_unread, View.ld_unit_zero (S := S512x1024) hz, View.ld_unit_zero (S := S1x1024) hz, View.readCov_unit_zero (S := S1x1024) _ hz]

/-- The input's gradient at a later point. -/
theorem out_B_5 (c : Dev nD) (i : grid0.Coords) (arg2 : Memref sig .tc .vmem S512x4096 .bf16) (harg2 : arg2.IsWhole) (arg3 : Memref sig .tc .vmem S4x1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i)
    (x0 : Vec F S512x4096 .bf16) (x1 : Vec F S4x1024x1024 .bf16) (x2 : Vec F S512x1024 .f32) (x3 : Vec F S512x1024 .f32) (x4 : Vec F S1x1024 .f32) (xo7 : Vec F S1x1024 .f32) :
    out0_B_5 c i arg2 harg2 arg3 harg3 arg4 harg4 arg5 harg5 arg6 harg6 arg7 harg7 arg8 harg8 arg9 harg9 hc0 x0 x1 x2 x3 x4 xo7 = k0_pay3 (prod x0 x1) x2 x4 x3 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo7)]
  unfold kernelRun0_B
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The input's gradient, narrowed, at a later point. -/
theorem out_B_6 (c : Dev nD) (i : grid0.Coords) (arg2 : Memref sig .tc .vmem S512x4096 .bf16) (harg2 : arg2.IsWhole) (arg3 : Memref sig .tc .vmem S4x1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i)
    (x0 : Vec F S512x4096 .bf16) (x1 : Vec F S4x1024x1024 .bf16) (x2 : Vec F S512x1024 .f32) (x3 : Vec F S512x1024 .f32) (x4 : Vec F S1x1024 .f32) (xo7 : Vec F S1x1024 .f32) :
    out0_B_6 c i arg2 harg2 arg3 harg3 arg4 harg4 arg5 harg5 arg6 harg6 arg7 harg7 arg8 harg8 arg9 harg9 hc0 x0 x1 x2 x3 x4 xo7 = k0_pay4 (prod x0 x1) x2 x4 x3 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo7)]
  unfold kernelRun0_B
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The gain's gradient at a later point. -/
theorem out_B_7 (c : Dev nD) (i : grid0.Coords) (arg2 : Memref sig .tc .vmem S512x4096 .bf16) (harg2 : arg2.IsWhole) (arg3 : Memref sig .tc .vmem S4x1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i)
    (x0 : Vec F S512x4096 .bf16) (x1 : Vec F S4x1024x1024 .bf16) (x2 : Vec F S512x1024 .f32) (x3 : Vec F S512x1024 .f32) (x4 : Vec F S1x1024 .f32) (xo7 : Vec F S1x1024 .f32) :
    out0_B_7 c i arg2 harg2 arg3 harg3 arg4 harg4 arg5 harg5 arg6 harg6 arg7 harg7 arg8 harg8 arg9 harg9 hc0 x0 x1 x2 x3 x4 xo7 = k0_pay5 (prod x0 x1) x2 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo7)]
  unfold kernelRun0_B
  dsimp only
  sl_unfold_words
  rw [View.canon_unit_zero (S := S1x1024) hz]
  simp only [View.readAt_eq_ld, harg2.read_unread, harg3.read_unread, harg4.read_unread, harg5.read_unread, harg6.read_unread, harg9.read_unread, View.ld_unit_zero (S := S512x1024) hz, View.ld_unit_zero (S := S1x1024) hz]

end Cert.Kernel6Ideal.Stored

end

end
-- ==== Proof.NormMath.lean ====
/- The gradient through a root-mean-square norm: the kernel's form, which subtracts the projection on the normed row, is
   the derivative's, which sums three terms. It holds for all extended
   reals: of a row with an infinite entry both forms leave what is added. -/
module

public import Idealize.ShloMosaic.Lib.Pointwise
public import Idealize.ShloMosaic.Lib.Claim

@[expose] public section

noncomputable section

namespace Cert.NormMath

open Idealize.ShloMosaic

/-- A sum of real numbers, as an extended real. -/
theorem coe_sum {ι : Type} [Fintype ι] (r : ι → ℝ) : ((∑ i, r i : ℝ) : EReal) = ∑ i, (r i : EReal) :=
  map_sum (⟨⟨fun r : ℝ => (r : EReal), rfl⟩, EReal.coe_add⟩ : ℝ →+ EReal) r Finset.univ

/-- A sum over blocks of equal length is the sum over everything. -/
theorem sum_split {n b N : ℕ} (h : n * b = N) (f : Fin N → EReal) :
    ∑ i : Fin n, ∑ r : Fin b, f ⟨i * b + r, by subst h; have := i.isLt; have := r.isLt; nlinarith⟩ = ∑ t, f t := by
  subst h
  rw [← Fintype.sum_prod_type' (fun (i : Fin n) (r : Fin b) => f ⟨i * b + r, by have := i.isLt; have := r.isLt; nlinarith⟩)]
  refine Fintype.sum_equiv finProdFinEquiv _ _ fun x => congrArg f (Fin.ext ?_)
  show (x.1 : ℕ) * b + x.2 = x.2 + b * x.1
  ring

/-- The row's length, as the programs write it. -/
theorem width : Ideal.ofBits .f32 0x44800000#32 = ((1024 : ℝ) : EReal) := by
  simp [Ideal.ofBits, Ideal.ieee, -EReal.coe_mul]; norm_num
/-- The derivative's minus one half. -/
theorem half : Ideal.ofBits .f32 0xBF000000#32 = ((-(1 / 2) : ℝ) : EReal) := by
  simp [Ideal.ofBits, Ideal.ieee, -EReal.coe_mul]; norm_num
/-- The norm's small summand is a positive real. -/
theorem small : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The norm's mean square, as both programs compute it. -/
def mean (X : Fin 1024 → EReal) : EReal := Ideal.div (∑ k, X k * X k) (Ideal.ofBits .f32 0x44800000#32) + Ideal.ofBits .f32 0x358637BD#32

/-- Of a real row it is a positive real. -/
theorem mean_real {X : Fin 1024 → EReal} {x : Fin 1024 → ℝ} (hX : ∀ k, X k = (x k : EReal)) : ∃ v : ℝ, 0 < v ∧ mean X = (v : EReal) := by
  obtain ⟨e, he, hs⟩ := small
  refine ⟨(∑ k, x k * x k) * (1 / 1024) + e, add_pos_of_nonneg_of_pos (mul_nonneg (Finset.sum_nonneg fun k _ => mul_self_nonneg _) (by norm_num)) he, ?_⟩
  unfold mean
  rw [width, Ideal.div_coe (by norm_num), hs]
  simp only [hX]
  push_cast [coe_sum]
  rfl

/-- A positive real's reciprocal root. -/
theorem rsqrt_pos {v : ℝ} (hv : 0 < v) : Ideal.rsqrt (v : EReal) = (((Real.sqrt v)⁻¹ : ℝ) : EReal) := by
  rw [Ideal.rsqrt_coe, if_neg hv.le.not_gt, if_neg hv.ne']

/-- A row that is not real has the mean square `⊤`. -/
theorem mean_top {X : Fin 1024 → EReal} {k : Fin 1024} (h : X k = ⊥ ∨ X k = ⊤) : mean X = ⊤ := by
  have hk : X k * X k = ⊤ := by rcases h with h | h <;> rw [h] <;> rfl
  have hs : ∑ k, X k * X k = ⊤ := by
    refine top_le_iff.1 (hk ▸ Finset.single_le_sum (f := fun k => X k * X k) (fun k _ => ?_) (Finset.mem_univ k))
    induction X k using EReal.rec with
    | bot => decide
    | top => decide
    | coe r => exact EReal.coe_nonneg.2 (mul_self_nonneg r)
  obtain ⟨e, he, h⟩ := small
  unfold mean
  rw [hs, width, Ideal.div_coe (by norm_num), EReal.top_mul_coe_of_pos (by norm_num), h, EReal.top_add_coe]

/-- A nonnegative real goes into a sum of two … -/
theorem mul_add {r : ℝ} (hr : 0 ≤ r) (a b : EReal) : (r : EReal) * (a + b) = r * a + r * b :=
  EReal.left_distrib_of_nonneg_of_ne_top (EReal.coe_nonneg.2 hr) (EReal.coe_ne_top r) a b
/-- … and into any finite sum. -/
theorem mul_sum {r : ℝ} (hr : 0 ≤ r) {ι : Type} (A : Finset ι) (f : ι → EReal) : (r : EReal) * ∑ i ∈ A, f i = ∑ i ∈ A, (r : EReal) * f i := by
  classical
  induction A using Finset.induction_on with
  | empty => simp
  | insert i A hi ih => rw [Finset.sum_insert hi, Finset.sum_insert hi, mul_add hr, ih]
/-- Twice an extended real. -/
theorem add_self (y : EReal) : y + y = y * ((2 : ℝ) : EReal) := by
  induction y using EReal.rec with
  | bot => rw [EReal.bot_mul_coe_of_pos (by norm_num)]; rfl
  | top => rw [EReal.top_mul_coe_of_pos (by norm_num)]; rfl
  | coe r => rw [← EReal.coe_add, ← EReal.coe_mul]; congr 1; ring

/-- The kernel's form of the gradient, from the row `X`, the gradient `D` of its normed and scaled values, the gain `G` and what is added. -/
def kernelForm (X D G : Fin 1024 → EReal) (Y : EReal) (s : Fin 1024) : EReal :=
  Ideal.rsqrt (mean X) * (D s * G s - X s * Ideal.rsqrt (mean X)
    * Ideal.div (∑ k, D k * G k * (X k * Ideal.rsqrt (mean X))) (Ideal.ofBits .f32 0x44800000#32)) + Y

/-- The derivative's factor of the row. -/
def factor (X D G : Fin 1024 → EReal) : EReal :=
  Ideal.div ((∑ k, X k * (D k * G k)) * (Ideal.ofBits .f32 0xBF000000#32 * Ideal.div (Ideal.rsqrt (mean X)) (mean X))) (Ideal.ofBits .f32 0x44800000#32)

/-- The derivative's form. -/
def derivForm (X D G : Fin 1024 → EReal) (Y : EReal) (s : Fin 1024) : EReal :=
  Y + D s * G s * Ideal.rsqrt (mean X) + X s * factor X D G + factor X D G * X s

/-- The two forms agree. -/
theorem forms (X D G : Fin 1024 → EReal) (Y : EReal) (s : Fin 1024) : derivForm X D G Y s = kernelForm X D G Y s := by
  by_cases hX : ∀ k, ∃ x : ℝ, X k = (x : EReal)
  · choose x hx using hX
    obtain ⟨v, hv, e⟩ := mean_real hx
    have hr : (Real.sqrt v)⁻¹ * (Real.sqrt v)⁻¹ = 1 / v := by
      rw [← mul_inv, Real.mul_self_sqrt hv.le, one_div]
    have h0 : 0 ≤ (Real.sqrt v)⁻¹ := inv_nonneg.2 (Real.sqrt_nonneg v)
    unfold derivForm kernelForm factor
    rw [e, rsqrt_pos hv, width, half, Ideal.div_coe hv.ne', Ideal.div_coe (by norm_num), Ideal.div_coe (by norm_num)]
    generalize (Real.sqrt v)⁻¹ = r at hr h0 ⊢
    have hS : ∑ k, D k * G k * (X k * (r : EReal)) = (r : EReal) * ∑ k, X k * (D k * G k) := by
      rw [mul_sum h0]
      exact Finset.sum_congr rfl fun k _ => by ac_rfl
    rw [hS, hx s]
    generalize ∑ k, X k * (D k * G k) = S
    generalize D s * G s = A
    have hB : (x s : EReal) * (S * (((-(1 / 2) : ℝ) : EReal) * ((r : EReal) * ((1 / v : ℝ) : EReal))) * ((1 / 1024 : ℝ) : EReal))
        = S * ((x s * (-(1 / 2) * (r * (1 / v)) * (1 / 1024)) : ℝ) : EReal) := by
      push_cast
      ac_rfl
    have hC : (x s : EReal) * r * ((r : EReal) * S * ((1 / 1024 : ℝ) : EReal)) = S * ((x s * (r * r) * (1 / 1024) : ℝ) : EReal) := by
      push_cast
      ac_rfl
    rw [mul_comm _ (x s : EReal), hB, hC, add_assoc, add_self, mul_assoc S, ← EReal.coe_mul, sub_eq_add_neg, ← mul_neg, ← EReal.coe_neg, mul_add h0,
      mul_left_comm _ S, ← EReal.coe_mul, hr, add_comm _ Y, add_assoc, mul_comm A]
    congr 4
    ring
  · obtain ⟨k, hk⟩ := not_forall.1 hX
    have h : mean X = ⊤ := mean_top (k := k) (by
      generalize X k = a at hk ⊢
      induction a using EReal.rec with
      | bot => exact .inl rfl
      | top => exact .inr rfl
      | coe r => exact absurd ⟨r, rfl⟩ hk)
    unfold derivForm kernelForm factor
    rw [h, Ideal.rsqrt_top, width]
    simp [Ideal.div]

end Cert.NormMath

end

end
-- ==== Proof.Blocks.lean ====
/- Where a block's entries lie in its array, for blocks of two axes. -/
module

public import Idealize.ShloMosaic.Lib.Pointwise

@[expose] public section

namespace Cert.Blocks

open Idealize.ShloMosaic

/-- An index of two axes is known by its two coordinates. -/
theorem ix2_of {A B : ℕ} {p : Shape.Idx ⟨2, ![A, B]⟩} {a : Fin A} {b : Fin B} (h0 : (p 0 : ℕ) = a) (h1 : (p 1 : ℕ) = b) : p = ix2 a b := by
  rw [← ix2_eta p]
  exact congrArg₂ ix2 (Fin.ext h0) (Fin.ext h1)

/-- Entry `r` of block `p` along an axis cut into blocks of `s` … -/
theorem at_row (s r : ℕ) {n p : ℕ} (h : n = p) : n * s + 1 * r = p * s + r := by rw [h, Nat.one_mul]

/-- … and along an axis that is not cut. -/
theorem at_zero (s r : ℕ) {n : ℕ} (h : n = 0) : n * s + 1 * r = r := by rw [h, Nat.zero_mul, Nat.one_mul, Nat.zero_add]

end Cert.Blocks
-- ==== Proof.NormMlpGrad.lean ====
/- The gradient through the MLP's up projection and norm (`Kernel6`): the output gradient against the matrix, carried through the norm and added to the gradient passed
   by, and the gain's gradient, added up over the row panels, are those of the reference's derivative. -/
module

public import proofs.«01_k».proof.Proof.Gen.Kernel6Ideal.Value
public import proofs.«01_k».proof.Proof.Gen.Reference6Ideal.Read
public import Idealize.ShloMosaic.Lib.Pointwise
public import Idealize.ShloMosaic.Lib.Claim
public import proofs.«01_k».proof.Proof.NormMlpStored
public import proofs.«01_k».proof.Proof.NormMath
public import proofs.«01_k».proof.Proof.Blocks

@[expose] public section

noncomputable section

namespace Cert.Kernel6Ideal.Tile

open Cert.Reference6Ideal.Read Cert.Blocks
open Cert.Kernel6Ideal Cert.Kernel6Ideal.Gen Cert.Kernel6Ideal.Stored Cert.NormMath
open Idealize.ShloMosaic Idealize.ShloMosaic.TcCoe Idealize.SL.Sem

/-- The grid point of row block `i` and column block `j`. -/
def point (i : Fin 8) (j : Fin 1) : Fin cfg0.N := ⟨i * 1 + j, by show _ < 8; omega⟩
/-- Row `r` of row block `i`: the rows fall into blocks … -/
def row (i : Fin 8) (r : Fin 512) : Fin 4096 := ⟨i * 512 + r, by omega⟩
/-- … and each lies in some block. -/
theorem row_surj (r : Fin 4096) : ∃ i s, row i s = r :=
  ⟨⟨r / 512, by omega⟩, ⟨r % 512, by omega⟩, Fin.ext (by show (r : ℕ) / 512 * 512 + r % 512 = r; omega)⟩

/-- Column `k` of slot `l`. -/
def col (l : Fin 4) (k : Fin 1024) : Fin 4096 := ⟨l * 1024 + k, by omega⟩

/-- The output gradient's block at a point: the row panel. -/
theorem index0 : ∀ i j, win0_0.index (point i j) 0 = (i : ℕ) ∧ win0_0.index (point i j) 1 = 0 := by decide +kernel
/-- The matrix's block: the whole. -/
theorem index1 : ∀ i j, win0_1.index (point i j) 0 = 0 ∧ win0_1.index (point i j) 1 = 0 ∧ win0_1.index (point i j) 2 = 0 := by decide +kernel
/-- The input's block: the row panel. -/
theorem index2 : ∀ i j, win0_2.index (point i j) 0 = (i : ℕ) ∧ win0_2.index (point i j) 1 = 0 := by decide +kernel
/-- The passed gradient's block: the row panel. -/
theorem index3 : ∀ i j, win0_3.index (point i j) 0 = (i : ℕ) ∧ win0_3.index (point i j) 1 = 0 := by decide +kernel
/-- The gain's block: the whole. -/
theorem index4 : ∀ i j, win0_4.index (point i j) 0 = 0 ∧ win0_4.index (point i j) 1 = 0 := by decide +kernel
/-- The input gradient's block: the row panel. -/
theorem index5 : ∀ i j, win0_5.index (point i j) 0 = (i : ℕ) ∧ win0_5.index (point i j) 1 = 0 := by decide +kernel
/-- The narrowed input gradient's block: the row panel. -/
theorem index6 : ∀ i j, win0_6.index (point i j) 0 = (i : ℕ) ∧ win0_6.index (point i j) 1 = 0 := by decide +kernel
/-- The gain gradient's block: the whole. -/
theorem index7 : ∀ i j, win0_7.index (point i j) 0 = 0 ∧ win0_7.index (point i j) 1 = 0 := by decide +kernel

/-- A column slot of a block of rows. -/
theorem cols_apply {X : FVec Ideal S512x4096 .bf16} {a : Fin 512 → Fin 4096 → EReal} (h : ∀ r k, X (ix2 r k) = a r k) (l : Fin 4)
    (inb : ∀ i, (![0, (l : ℕ) * 1024] : Fin 2 → ℕ) i + S512x1024.size i ≤ S512x4096.size i) (r : Fin 512) (k : Fin 1024) :
    (show FVec Ideal S512x1024 .bf16 from View.ld (Val := Elt Ideal) (e' := .bf16) X (Rect.unit (s := S512x4096) ![0, (l : ℕ) * 1024] S512x1024.size inb)) (ix2 r k) = a r (col l k) :=
  (View.ld_unit_apply_of (Val := Elt Ideal) (e := .bf16) X ![0, (l : ℕ) * 1024] S512x1024.size inb (ix2 r k) (ix2 r (col l k)) (by
    intro i
    match i with
    | ⟨0, _⟩ => exact (Nat.zero_add _).symm
    | ⟨1, _⟩ => rfl)).trans (h _ _)

/-- A slot of the matrix. -/
theorem slot_apply {X : FVec Ideal S4x1024x1024 .bf16} {w : Fin 4 → Fin 1024 → Fin 1024 → EReal} (h : ∀ l t k, X (ix3 l t k) = w l t k) (l : Fin 4)
    (inb : ∀ i, (![(l : ℕ), 0, 0] : Fin 3 → ℕ) i + S1x1024x1024.size i ≤ S4x1024x1024.size i) (t : Fin 1024) (k : Fin 1024) :
    (show FVec Ideal S1x1024x1024 .bf16 from View.ld (Val := Elt Ideal) (e' := .bf16) X (Rect.unit (s := S4x1024x1024) ![(l : ℕ), 0, 0] S1x1024x1024.size inb)) (ix3 0 t k) = w l t k :=
  (View.ld_unit_apply_of (Val := Elt Ideal) (e := .bf16) X ![(l : ℕ), 0, 0] S1x1024x1024.size inb (ix3 0 t k) (ix3 l t k) (by
    intro i
    match i with
    | ⟨0, _⟩ => rfl
    | ⟨1, _⟩ => exact (Nat.zero_add _).symm
    | ⟨2, _⟩ => exact (Nat.zero_add _).symm)).trans (h _ _ _)

/-- The payload of the four products. -/
theorem pay7_apply (a b c d : FVec Ideal S512x1024 .bf16) (a' b' c' d' : FVec Ideal S1x1024x1024 .bf16) (r : Fin 512) (s : Fin 1024) :
    k0_pay7 (F := Ideal) a a' b b' c c' d d' (ix2 r s) = ∑ k, a (ix2 r k) * a' (ix3 0 s k) + ∑ k, b (ix2 r k) * b' (ix3 0 s k)
      + ∑ k, c (ix2 r k) * c' (ix3 0 s k) + ∑ k, d (ix2 r k) * d' (ix3 0 s k) := by
  unfold k0_pay7
  pointwise

/-- The four slots' products, summed. -/
theorem prod_apply {x0 : FVec Ideal S512x4096 .bf16} {x1 : FVec Ideal S4x1024x1024 .bf16} {a : Fin 512 → Fin 4096 → EReal} {w : Fin 4 → Fin 1024 → Fin 1024 → EReal}
    (h0 : ∀ r k, x0 (ix2 r k) = a r k) (h1 : ∀ l t k, x1 (ix3 l t k) = w l t k) (r : Fin 512) (s : Fin 1024) :
    prod (F := Ideal) x0 x1 (ix2 r s) = ∑ l, ∑ k, a r (col l k) * w l s k := by
  have a0 := cols_apply h0 0 inb_S512x4096_S512x1024_0_0
  have a1 := cols_apply h0 1 inb_S512x4096_S512x1024_0_1024
  have a2 := cols_apply h0 2 inb_S512x4096_S512x1024_0_2048
  have a3 := cols_apply h0 3 inb_S512x4096_S512x1024_0_3072
  have b0 := slot_apply h1 0 inb_S4x1024x1024_S1x1024x1024_0_0_0
  have b1 := slot_apply h1 1 inb_S4x1024x1024_S1x1024x1024_1_0_0
  have b2 := slot_apply h1 2 inb_S4x1024x1024_S1x1024x1024_2_0_0
  have b3 := slot_apply h1 3 inb_S4x1024x1024_S1x1024x1024_3_0_0
  rw [Fin.sum_univ_four]
  refine Eq.trans (pay7_apply _ _ _ _ _ _ _ _ r s) ?_
  exact congrArg₂ (· + ·) (congrArg₂ (· + ·) (congrArg₂ (· + ·)
    (Finset.sum_congr rfl fun k _ => congrArg₂ (· * ·) (a0 r k) (b0 s k)) (Finset.sum_congr rfl fun k _ => congrArg₂ (· * ·) (a1 r k) (b1 s k)))
    (Finset.sum_congr rfl fun k _ => congrArg₂ (· * ·) (a2 r k) (b2 s k))) (Finset.sum_congr rfl fun k _ => congrArg₂ (· * ·) (a3 r k) (b3 s k))

/-- The stored input gradient, from the pointwise readings of what it takes. -/
theorem pay3_apply {v x y : FVec Ideal S512x1024 .f32} {g : FVec Ideal S1x1024 .f32} {D X Y : Fin 512 → Fin 1024 → EReal} {G : Fin 1024 → EReal}
    (hv : ∀ r s, v (ix2 r s) = D r s) (hx : ∀ r s, x (ix2 r s) = X r s) (hg : ∀ s, g (ix2 0 s) = G s) (hy : ∀ r s, y (ix2 r s) = Y r s)
    (r : Fin 512) (s : Fin 1024) : k0_pay3 (F := Ideal) v x g y (ix2 r s) = kernelForm (X r) (D r) G (Y r s) s := by
  unfold k0_pay3 k0_pay2 k0_pay1 kernelForm mean
  pointwise
  simp only [hv, hx, hg, hy]

/-- … and narrowed. -/
theorem pay4_apply {v x y : FVec Ideal S512x1024 .f32} {g : FVec Ideal S1x1024 .f32} {D X Y : Fin 512 → Fin 1024 → EReal} {G : Fin 1024 → EReal}
    (hv : ∀ r s, v (ix2 r s) = D r s) (hx : ∀ r s, x (ix2 r s) = X r s) (hg : ∀ s, g (ix2 0 s) = G s) (hy : ∀ r s, y (ix2 r s) = Y r s)
    (r : Fin 512) (s : Fin 1024) : k0_pay4 (F := Ideal) v x g y (ix2 r s) = kernelForm (X r) (D r) G (Y r s) s := by
  refine Eq.trans ?_ (pay3_apply hv hx hg hy r s)
  unfold k0_pay4
  pointwise

/-- The gain gradient's block: what it held and the panel's sum. -/
theorem pay5_apply {v x : FVec Ideal S512x1024 .f32} {o : FVec Ideal S1x1024 .f32} {D X : Fin 512 → Fin 1024 → EReal} {O : Fin 1024 → EReal}
    (hv : ∀ r s, v (ix2 r s) = D r s) (hx : ∀ r s, x (ix2 r s) = X r s) (ho : ∀ s, o (ix2 0 s) = O s)
    (s : Fin 1024) : k0_pay5 (F := Ideal) v x o (ix2 0 s) = O s + ∑ r, D r s * (X r s * Ideal.rsqrt (mean (X r))) := by
  unfold k0_pay5 k0_pay2 k0_pay1 mean
  pointwise
  simp only [hv, hx, ho]

/-- It starts at zero. -/
theorem pay6_apply (s : Fin 1024) : k0_pay6 (F := Ideal) (ix2 0 s) = 0 := by
  unfold k0_pay6
  pointwise

variable (m : (ℓ : Loc nD τ sig) → Buf (Elt Ideal) ℓ) (c : Dev nD)

/-- The layer's input, the norm's gain, the two matrices and the output gradient, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x4096 .f32 := m ((c : Thread nD τ).loc main_arg2)
abbrev arg3 : FVec Ideal S4096x1024 .f32 := m ((c : Thread nD τ).loc main_arg3)
abbrev arg4 : FVec Ideal S4096x1024 .f32 := m ((c : Thread nD τ).loc main_arg4)
/-- The reference's hidden gradient. -/
abbrev dup : FVec Ideal S4096x4096 .f32 := val_main_v29 (F := Ideal) (arg0 m c) (arg1 m c) (arg2 m c) (arg3 m c) (arg4 m c)
/-- The reference's gradient of the normed and scaled input. -/
abbrev dh : FVec Ideal S4096x1024 .f32 := val_main_v30 (F := Ideal) (arg0 m c) (arg1 m c) (arg2 m c) (arg3 m c) (arg4 m c)

/-- Cutting a matrix into its own shape leaves it. -/
theorem flat (x : FVec Ideal S4096x1024 .f32) : val_main_v23 (F := Ideal) x = x := by
  funext ij
  rw [← ix2_eta ij]
  unfold val_main_v23
  pointwise

/-- The host computes the hidden gradient as the reference does … -/
theorem entry0 : @Eq (FVec Ideal S4096x4096 .bf16) (V m c main_v25) (truncf .bf16 (dup m c) bitsLt_bf16_f32) := by
  unfold dup val_main_v29 val_main_v27 val_main_v26 val_main_v25 val_main_v24
  rw [flat]
  entry_read
  rfl
/-- … and cuts the matrix into slots of columns. -/
theorem entry1 : @Eq (FVec Ideal S4x1024x1024 .bf16) (V m c main_v28) (truncf .bf16 (transpose S4x1024x1024 [1, 0, 2]
    (shapeCast S1024x4x1024 (arg2 m c) shapeCasts_S1024x4096_S1024x4x1024) transposes_S1024x4x1024_S4x1024x1024_1_0_2) bitsLt_bf16_f32) := by
  entry_read
  rfl
/-- The matrix in slots, entry by entry. -/
theorem slots (l : Fin 4) (t : Fin 1024) (k : Fin 1024) : V m c main_v28 (ix3 l t k) = arg2 m c (ix2 t (col l k)) := by
  refine (congrFun (entry1 m c) (ix3 l t k)).trans ?_
  pointwise
  rfl
/-- The input, … -/
theorem entry2 : @Eq (FVec Ideal S4096x1024 .f32) (V m c main_arg0) (arg0 m c) := by
  entry_read
  rfl
/-- … the passed gradient … -/
theorem entry3 : @Eq (FVec Ideal S4096x1024 .f32) (V m c main_arg4) (arg4 m c) := by
  entry_read
  rfl
/-- … and the gain are the arguments. -/
theorem entry4 : @Eq (FVec Ideal S1x1024 .f32) (V m c main_arg1) (arg1 m c) := by
  entry_read
  rfl

variable (i : Fin 8) (j : Fin 1)

/-- The output gradient's block holds its rows. -/
theorem block0 (t : Fin 512) (k : Fin 4096) : (show FVec Ideal S512x4096 .bf16 from iblk m c 0 (point i j)) (ix2 t k) = dup m c (ix2 (row i t) k) := by
  refine Eq.trans (?_ : _ = V m c main_v25 (ix2 (row i t) k)) (congrFun (entry0 m c) (ix2 (row i t) k))
  exact congrArg (V m c main_v25) (ix2_of (at_row 512 t (index0 i j).1) (at_zero 4096 k (index0 i j).2))

/-- The matrix's block holds its slots. -/
theorem block1 (l : Fin 4) (t : Fin 1024) (k : Fin 1024) : (show FVec Ideal S4x1024x1024 .bf16 from iblk m c 1 (point i j)) (ix3 l t k) = arg2 m c (ix2 t (col l k)) := by
  refine Eq.trans ?_ (slots m c l t k : V m c main_v28 (ix3 l t k) = _)
  unfold iblk
  show ((cfg0.win 1).blk (point i j)).view.read (Elt Ideal) _ (ix3 l t k) = _
  rw [View.read_apply]
  show V m c main_v28 _ = V m c main_v28 _
  refine congrArg (V m c main_v28) (funext fun a => Fin.ext ?_)
  match a with
  | ⟨0, _⟩ => show win0_1.index (point i j) 0 * 4 + 1 * (l : ℕ) = (l : ℕ); rw [(index1 i j).1]; omega
  | ⟨1, _⟩ => show win0_1.index (point i j) 1 * 1024 + 1 * (t : ℕ) = (t : ℕ); rw [(index1 i j).2.1]; omega
  | ⟨2, _⟩ => show win0_1.index (point i j) 2 * 1024 + 1 * (k : ℕ) = (k : ℕ); rw [(index1 i j).2.2]; omega

/-- The input's block holds its rows. -/
theorem block2 (t : Fin 512) (k : Fin 1024) : (show FVec Ideal S512x1024 .f32 from iblk m c 2 (point i j)) (ix2 t k) = arg0 m c (ix2 (row i t) k) := by
  refine Eq.trans (?_ : _ = V m c main_arg0 (ix2 (row i t) k)) (congrFun (entry2 m c) (ix2 (row i t) k))
  exact congrArg (V m c main_arg0) (ix2_of (at_row 512 t (index2 i j).1) (at_zero 1024 k (index2 i j).2))

/-- The passed gradient's block holds its rows. -/
theorem block3 (t : Fin 512) (k : Fin 1024) : (show FVec Ideal S512x1024 .f32 from iblk m c 3 (point i j)) (ix2 t k) = arg4 m c (ix2 (row i t) k) := by
  refine Eq.trans (?_ : _ = V m c main_arg4 (ix2 (row i t) k)) (congrFun (entry3 m c) (ix2 (row i t) k))
  exact congrArg (V m c main_arg4) (ix2_of (at_row 512 t (index3 i j).1) (at_zero 1024 k (index3 i j).2))

/-- The gain's block holds it whole. -/
theorem block4 (t : Fin 1) (k : Fin 1024) : (show FVec Ideal S1x1024 .f32 from iblk m c 4 (point i j)) (ix2 t k) = arg1 m c (ix2 t k) := by
  refine Eq.trans (?_ : _ = V m c main_arg1 (ix2 t k)) (congrFun (entry4 m c) (ix2 t k))
  exact congrArg (V m c main_arg1) (ix2_of (at_zero 1 t (index4 i j).1) (at_zero 1024 k (index4 i j).2))

/-- The reference's product, entry by entry. -/
theorem dh_apply (t : Fin 4096) (s : Fin 1024) : dh m c (ix2 t s) = ∑ k, dup m c (ix2 t k) * arg2 m c (ix2 s k) := by
  unfold dh val_main_v30
  pointwise

/-- The block's product is the reference's. -/
theorem prod_block (r : Fin 512) (s : Fin 1024) : prod (F := Ideal) (iblk m c 0 (point i j)) (iblk m c 1 (point i j)) (ix2 r s) = dh m c (ix2 (row i r) s) := by
  rw [prod_apply (block0 m c i j) (block1 m c i j) r s, dh_apply]
  exact sum_split (n := 4) (b := 1024) rfl fun k => dup m c (ix2 (row i r) k) * arg2 m c (ix2 s k)

/-- A row's form of the result. -/
abbrev form (t : Fin 4096) (s : Fin 1024) : EReal :=
  kernelForm (fun k => arg0 m c (ix2 t k)) (fun k => dh m c (ix2 t k)) (fun k => arg1 m c (ix2 0 k)) (arg4 m c (ix2 t s)) s

/-- What a point leaves of the input's gradient. -/
theorem left5 (r : Fin 512) (s : Fin 1024) : (show FVec Ideal S512x1024 .f32 from (outsAt0 m c (point i j).val (point i j).isLt).1) (ix2 r s) = form m c (row i r) s := by
  have e := pay3_apply (prod_block m c i j) (block2 m c i j) (block4 m c i j 0) (block3 m c i j) r s
  by_cases h : (point i j).val % 8 = 0
  · rw [outsAt0_A m c (point i j) h]
    dsimp only
    rw [out_A_5]
    exact e
  · rw [outsAt0_B m c (point i j) h]
    dsimp only
    rw [out_B_5]
    exact e

/-- … and of its narrowed copy. -/
theorem left6 (r : Fin 512) (s : Fin 1024) : (show FVec Ideal S512x1024 .bf16 from (outsAt0 m c (point i j).val (point i j).isLt).2.1) (ix2 r s) = form m c (row i r) s := by
  have e := pay4_apply (prod_block m c i j) (block2 m c i j) (block4 m c i j 0) (block3 m c i j) r s
  by_cases h : (point i j).val % 8 = 0
  · rw [outsAt0_A m c (point i j) h]
    dsimp only
    rw [out_A_6]
    exact e
  · rw [outsAt0_B m c (point i j) h]
    dsimp only
    rw [out_B_6]
    exact e

/-- A token's share of the gain's gradient. -/
abbrev share (s : Fin 1024) (t : Fin 4096) : EReal := dh m c (ix2 t s) * (arg0 m c (ix2 t s) * Ideal.rsqrt (mean fun k => arg0 m c (ix2 t k)))

/-- The first point leaves its panel's share of the gain's gradient … -/
theorem first (s : Fin 1024) : (show FVec Ideal S1x1024 .f32 from (outsAt0 m c (point 0 0).val (point 0 0).isLt).2.2) (ix2 0 s) = 0 + ∑ r, share m c s (row 0 r) := by
  rw [outsAt0_A m c (point 0 0) rfl]
  dsimp only
  rw [out_A_7]
  exact pay5_apply (prod_block m c 0 0) (block2 m c 0 0) pay6_apply s

/-- … and a later one adds its own. -/
theorem next (i i' : Fin 8) (hi : (i : ℕ) = i' + 1) {O : Fin 1024 → EReal}
    (h : ∀ s, (show FVec Ideal S1x1024 .f32 from (outsAt0 m c (point i' 0).val (point i' 0).isLt).2.2) (ix2 0 s) = O s) (s : Fin 1024) :
    (show FVec Ideal S1x1024 .f32 from (outsAt0 m c (point i 0).val (point i 0).isLt).2.2) (ix2 0 s) = O s + ∑ r, share m c s (row i r) := by
  have e : (point i 0).val - 1 = (point i' 0).val := by
    show (i : ℕ) * 1 + 0 - 1 = i' * 1 + 0
    omega
  rw [outsAt0_B m c (point i 0) (by show ¬ ((i : ℕ) * 1 + 0) % 8 = 0; omega)]
  dsimp only
  rw [out_B_7]
  simp only [e]
  exact pay5_apply (prod_block m c i 0) (block2 m c i 0) h s

/-- After the last point the block holds the sum over all tokens. -/
theorem left7 (s : Fin 1024) : (show FVec Ideal S1x1024 .f32 from (outsAt0 m c (point 7 0).val (point 7 0).isLt).2.2) (ix2 0 s) = ∑ t, share m c s t := by
  have h := next m c 7 6 rfl (next m c 6 5 rfl (next m c 5 4 rfl (next m c 4 3 rfl (next m c 3 2 rfl (next m c 2 1 rfl (next m c 1 0 rfl (first m c)))))))
  refine (h s).trans ?_
  refine Eq.trans ?_ (sum_split (n := 8) (b := 512) rfl (share m c s))
  rw [Fin.sum_univ_eight, zero_add]
  rfl

/-- The input's gradient, entry by entry. -/
theorem array5 (i : Fin 8) (j : Fin 1) (r : Fin 512) (s : Fin 1024) : (show FVec Ideal S4096x1024 .f32 from (dats m 0 c).arrAt 5 cfg0.N) (ix2 (row i r) s)
    = form m c (row i r) s := by
  have e := congrFun (Value.blocks5 m c (point i j) (flush0_5 _)) (ix2 r s)
  rw [View.read_apply, Value.flushed5] at e
  have t := left5 m c i j r s
  refine Eq.trans ?_ t
  refine Eq.trans ?_ e
  show (dats m 0 c).arrAt 5 cfg0.N _ = (dats m 0 c).arrAt 5 cfg0.N _
  refine congrArg ((dats m 0 c).arrAt 5 cfg0.N) (funext fun a => Fin.ext ?_)
  match a with
  | ⟨0, _⟩ => show (i : ℕ) * 512 + (r : ℕ) = win0_5.index (point i j) 0 * 512 + 1 * (r : ℕ); rw [(index5 i j).1]; omega
  | ⟨1, _⟩ => show (s : ℕ) = win0_5.index (point i j) 1 * 1024 + 1 * (s : ℕ); rw [(index5 i j).2]; omega

/-- The narrowed copy, entry by entry. -/
theorem array6 (i : Fin 8) (j : Fin 1) (r : Fin 512) (s : Fin 1024) : (show FVec Ideal S4096x1024 .bf16 from (dats m 0 c).arrAt 6 cfg0.N) (ix2 (row i r) s)
    = form m c (row i r) s := by
  have e := congrFun (Value.blocks6 m c (point i j) (flush0_6 _)) (ix2 r s)
  rw [View.read_apply, Value.flushed6] at e
  have t := left6 m c i j r s
  refine Eq.trans ?_ t
  refine Eq.trans ?_ e
  show (dats m 0 c).arrAt 6 cfg0.N _ = (dats m 0 c).arrAt 6 cfg0.N _
  refine congrArg ((dats m 0 c).arrAt 6 cfg0.N) (funext fun a => Fin.ext ?_)
  match a with
  | ⟨0, _⟩ => show (i : ℕ) * 512 + (r : ℕ) = win0_6.index (point i j) 0 * 512 + 1 * (r : ℕ); rw [(index6 i j).1]; omega
  | ⟨1, _⟩ => show (s : ℕ) = win0_6.index (point i j) 1 * 1024 + 1 * (s : ℕ); rw [(index6 i j).2]; omega

/-- One point alone writes the gain's gradient back. -/
theorem disjoint7 : ∀ t t' : Fin cfg0.N, (cfg0.win 7).flush t = true → (cfg0.win 7).flush t' = true → t ≠ t' →
    Disjoint ((cfg0.win 7).blk t).view.set ((cfg0.win 7).blk t').view.set := fun t t' hf hf' hne =>
  (cfg0.win 7).disjoint_blk fun h => hne
    ((by decide +kernel : ∀ t t' : Fin grid0.N, t.val % 8 = 7 → t'.val % 8 = 7 → win0_7.index t = win0_7.index t' → t = t') t t'
      ((flush0_7 t).mp hf) ((flush0_7 t').mp hf') h)

/-- The gain's gradient, entry by entry. -/
theorem array7 (r : Fin 1) (s : Fin 1024) : (show FVec Ideal S1x1024 .f32 from (dats m 0 c).arrAt 7 cfg0.N) (ix2 r s) = ∑ t, share m c s t := by
  have e := congrFun ((dats m 0 c).read_blk_arrAt_eq_flushed 7 disjoint7 cfg0.N (point 7 0) (point 7 0).isLt ((flush0_7 _).mpr rfl)) (ix2 0 s)
  rw [View.read_apply, Value.flushed7] at e
  refine Eq.trans ?_ (left7 m c s)
  refine Eq.trans ?_ e
  show (dats m 0 c).arrAt 7 cfg0.N _ = (dats m 0 c).arrAt 7 cfg0.N _
  refine congrArg ((dats m 0 c).arrAt 7 cfg0.N) (funext fun a => Fin.ext ?_)
  match a with
  | ⟨0, _⟩ => show (r : ℕ) = win0_7.index (point 7 0) 0 * 1 + 1 * 0; rw [(index7 7 0).1]; omega
  | ⟨1, _⟩ => show (s : ℕ) = win0_7.index (point 7 0) 1 * 1024 + 1 * (s : ℕ); rw [(index7 7 0).2]; omega

/-- The reference's gradient of the input, entry by entry. -/
theorem reference5 (x0 : FVec Ideal S4096x1024 .f32) (x1 : FVec Ideal S1x1024 .f32) (x2 : FVec Ideal S1024x4096 .f32) (x3 : FVec Ideal S4096x1024 .f32) (x4 : FVec Ideal S4096x1024 .f32) (t : Fin 4096) (s : Fin 1024) : val_main_v50 (F := Ideal) x0 x1 x2 x3 x4 (ix2 t s)
      = kernelForm (fun k => x0 (ix2 t k)) (fun k => val_main_v30 (F := Ideal) x0 x1 x2 x3 x4 (ix2 t k)) (fun k => x1 (ix2 0 k)) (x4 (ix2 t s)) s := by
  rw [← forms]
  unfold val_main_v50 val_main_v49 val_main_v48 val_main_v47 val_main_v46 val_main_v45 val_main_cst_9 val_main_v44 val_main_v43 val_main_cst_8 val_main_v42 val_main_v10 val_main_v8 val_main_v9 val_main_cst_2 val_main_v38 val_main_v37 val_main_cst_7 val_main_v36 val_main_v41 val_main_v40 val_main_v39 val_main_v7 val_main_v6 val_main_v5 val_main_cst_1 val_main_v4 val_main_v3 val_main_cst_0 val_main_v2 val_main_v1 val_main_cst val_main_v0 val_main_v35 val_main_v34
    derivForm factor mean
  pointwise
  simp only [Fin.sum_univ_one]

/-- The narrowed copy. -/
theorem reference6 (x0 : FVec Ideal S4096x1024 .f32) (x1 : FVec Ideal S1x1024 .f32) (x2 : FVec Ideal S1024x4096 .f32) (x3 : FVec Ideal S4096x1024 .f32) (x4 : FVec Ideal S4096x1024 .f32) (t : Fin 4096) (s : Fin 1024) : val_main_v51 (F := Ideal) x0 x1 x2 x3 x4 (ix2 t s)
      = kernelForm (fun k => x0 (ix2 t k)) (fun k => val_main_v30 (F := Ideal) x0 x1 x2 x3 x4 (ix2 t k)) (fun k => x1 (ix2 0 k)) (x4 (ix2 t s)) s := by
  refine Eq.trans ?_ (reference5 x0 x1 x2 x3 x4 t s)
  unfold val_main_v51
  pointwise

/-- The reference's gradient of the gain, entry by entry. -/
theorem reference7 (x0 : FVec Ideal S4096x1024 .f32) (x1 : FVec Ideal S1x1024 .f32) (x2 : FVec Ideal S1024x4096 .f32) (x3 : FVec Ideal S4096x1024 .f32) (x4 : FVec Ideal S4096x1024 .f32) (r : Fin 1) (s : Fin 1024) : val_main_v33 (F := Ideal) x0 x1 x2 x3 x4 (ix2 r s)
      = ∑ t, val_main_v30 (F := Ideal) x0 x1 x2 x3 x4 (ix2 t s) * (x0 (ix2 t s) * Ideal.rsqrt (mean fun k => x0 (ix2 t k))) := by
  unfold val_main_v33 val_main_v32 val_main_cst_6 val_main_v31 val_main_v12 val_main_v11 val_main_v7 val_main_v6 val_main_v5 val_main_cst_1 val_main_v4 val_main_v3 val_main_cst_0 val_main_v2 val_main_v1 val_main_cst val_main_v0 mean
  pointwise
  exact Finset.sum_congr rfl fun t _ => mul_comm _ _

/-- The reference's result is the kernel's result array. -/
theorem agree5 (x0 : FVec Ideal S4096x1024 .f32) (x1 : FVec Ideal S1x1024 .f32) (x2 : FVec Ideal S1024x4096 .f32) (x3 : FVec Ideal S4096x1024 .f32) (x4 : FVec Ideal S4096x1024 .f32) (h0 : x0 = arg0 m c) (h1 : x1 = arg1 m c) (h2 : x2 = arg2 m c) (h3 : x3 = arg3 m c) (h4 : x4 = arg4 m c) :
    val_main_v50 (F := Ideal) x0 x1 x2 x3 x4 = (show FVec Ideal S4096x1024 .f32 from (dats m 0 c).arrAt 5 cfg0.N) := by
  funext ij
  rw [← ix2_eta ij]
  obtain ⟨i, r, hr⟩ := row_surj (ij 0)
  rw [← hr]
  subst h0 h1 h2 h3 h4
  exact (reference5 _ _ _ _ _ (row i r) (ij 1)).trans (array5 m c i 0 r (ij 1)).symm

/-- The reference's result is the kernel's result array. -/
theorem agree6 (x0 : FVec Ideal S4096x1024 .f32) (x1 : FVec Ideal S1x1024 .f32) (x2 : FVec Ideal S1024x4096 .f32) (x3 : FVec Ideal S4096x1024 .f32) (x4 : FVec Ideal S4096x1024 .f32) (h0 : x0 = arg0 m c) (h1 : x1 = arg1 m c) (h2 : x2 = arg2 m c) (h3 : x3 = arg3 m c) (h4 : x4 = arg4 m c) :
    val_main_v51 (F := Ideal) x0 x1 x2 x3 x4 = (show FVec Ideal S4096x1024 .bf16 from (dats m 0 c).arrAt 6 cfg0.N) := by
  funext ij
  rw [← ix2_eta ij]
  obtain ⟨i, r, hr⟩ := row_surj (ij 0)
  rw [← hr]
  subst h0 h1 h2 h3 h4
  exact (reference6 _ _ _ _ _ (row i r) (ij 1)).trans (array6 m c i 0 r (ij 1)).symm

/-- … and the gain's gradient. -/
theorem agree7 (x0 : FVec Ideal S4096x1024 .f32) (x1 : FVec Ideal S1x1024 .f32) (x2 : FVec Ideal S1024x4096 .f32) (x3 : FVec Ideal S4096x1024 .f32) (x4 : FVec Ideal S4096x1024 .f32) (h0 : x0 = arg0 m c) (h1 : x1 = arg1 m c) (h2 : x2 = arg2 m c) (h3 : x3 = arg3 m c) (h4 : x4 = arg4 m c) :
    val_main_v33 (F := Ideal) x0 x1 x2 x3 x4 = (show FVec Ideal S1x1024 .f32 from (dats m 0 c).arrAt 7 cfg0.N) := by
  funext ij
  rw [← ix2_eta ij]
  subst h0 h1 h2 h3 h4
  exact (reference7 _ _ _ _ _ (ij 0) (ij 1)).trans (array7 m c (ij 0) (ij 1)).symm

end Cert.Kernel6Ideal.Tile

end

end
-- ==== Proof.UpFwd.lean ====
/- The MLP's up projection (`Kernel7`): each tile of the hidden layer is rows of the normed input against columns of the weights, passed
   through the ReLU and squared, as in the reference; the ReLU itself is the second result. -/
module

public import proofs.«01_k».proof.Proof.Gen.Kernel7Ideal.Value
public import proofs.«01_k».proof.Proof.Gen.Reference7Ideal.Read
public import Idealize.ShloMosaic.Lib.Pointwise
public import Idealize.ShloMosaic.Lib.Claim
public import proofs.«01_k».proof.Proof.Blocks

@[expose] public section

noncomputable section

namespace Cert.Kernel7Ideal.Tile

open Cert.Reference7Ideal.Read Cert.Blocks
open Cert.Kernel7Ideal Cert.Kernel7Ideal.Gen
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 2) (j : Fin 4) : Fin cfg0.N := ⟨i * 4 + j, by show _ < 8; omega⟩
/-- Row `r` of row block `i`: the rows fall into blocks … -/
def row (i : Fin 2) (r : Fin 2048) : Fin 4096 := ⟨i * 2048 + r, by omega⟩
/-- … and each lies in some block. -/
theorem row_surj (r : Fin 4096) : ∃ i s, row i s = r :=
  ⟨⟨r / 2048, by omega⟩, ⟨r % 2048, by omega⟩, Fin.ext (by show (r : ℕ) / 2048 * 2048 + r % 2048 = r; omega)⟩

/-- Column `s` of column block `i`: the columns fall into blocks … -/
def col (i : Fin 4) (r : Fin 1024) : Fin 4096 := ⟨i * 1024 + r, by omega⟩
/-- … and each lies in some block. -/
theorem col_surj (r : Fin 4096) : ∃ i s, col i s = r :=
  ⟨⟨r / 1024, by omega⟩, ⟨r % 1024, by omega⟩, Fin.ext (by show (r : ℕ) / 1024 * 1024 + r % 1024 = r; omega)⟩

/-- The normed input's block at a point: the row panel. -/
theorem index0 : ∀ i j, win0_0.index (point i j) 0 = (i : ℕ) ∧ win0_0.index (point i j) 1 = 0 := by decide +kernel
/-- The weights' block: the slot. -/
theorem index1 : ∀ i j, win0_1.index (point i j) 0 = (j : ℕ) ∧ win0_1.index (point i j) 1 = 0 ∧ win0_1.index (point i j) 2 = 0 := by decide +kernel
/-- A result's block: the row panel's columns of the slot. -/
theorem index2 : ∀ i j, win0_2.index (point i j) 0 = (i : ℕ) ∧ win0_2.index (point i j) 1 = (j : ℕ) := by decide +kernel
/-- A result's block: the row panel's columns of the slot. -/
theorem index3 : ∀ i j, win0_3.index (point i j) 0 = (i : ℕ) ∧ win0_3.index (point i j) 1 = (j : ℕ) := by decide +kernel

variable (m : (ℓ : Loc nD τ sig) → Buf (Elt Ideal) ℓ) (c : Dev nD)

/-- The layer's input, the norm's gain and the weights, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x4096 .f32 := m ((c : Thread nD τ).loc main_arg2)
/-- The reference's normed input. -/
abbrev norm : FVec Ideal S4096x1024 .f32 := val_main_v11 (F := Ideal) (arg0 m c) (arg1 m c)

/-- The host computes the normed input as the reference does … -/
theorem entry0 : @Eq (FVec Ideal S4096x1024 .bf16) (V m c main_v12) (truncf .bf16 (norm m c) bitsLt_bf16_f32) := by
  entry_read
  rfl
/-- … and cuts the weights into slots of columns. -/
theorem entry1 : @Eq (FVec Ideal S4x1024x1024 .bf16) (V m c main_v15) (truncf .bf16 (transpose S4x1024x1024 [1, 0, 2]
    (shapeCast S1024x4x1024 (arg2 m c) shapeCasts_S1024x4096_S1024x4x1024) transposes_S1024x4x1024_S4x1024x1024_1_0_2) bitsLt_bf16_f32) := by
  entry_read
  rfl
/-- The weights in slots, entry by entry. -/
theorem slots (k : Fin 1024) (j : Fin 4) (s : Fin 1024) : V m c main_v15 (ix3 j k s) = arg2 m c (ix2 k (col j s)) := by
  refine (congrFun (entry1 m c) (ix3 j k s)).trans ?_
  pointwise
  rfl

variable (i : Fin 2) (j : Fin 4)

/-- The normed input's block holds its rows. -/
theorem block0 (r : Fin 2048) (k : Fin 1024) : (show FVec Ideal S2048x1024 .bf16 from iblk m c 0 (point i j)) (ix2 r k) = norm m c (ix2 (row i r) k) := by
  refine Eq.trans (?_ : _ = V m c main_v12 (ix2 (row i r) k)) (congrFun (entry0 m c) (ix2 (row i r) k))
  exact congrArg (V m c main_v12) (ix2_of (at_row 2048 r (index0 i j).1) (at_zero 1024 k (index0 i j).2))

/-- The weights' block holds the slot's columns. -/
theorem block1 (k : Fin 1024) (s : Fin 1024) : (show FVec Ideal S1x1024x1024 .bf16 from iblk m c 1 (point i j)) (ix3 0 k s) = arg2 m c (ix2 k (col j s)) := by
  refine Eq.trans ?_ (slots m c k j s : V m c main_v15 (ix3 j k s) = _)
  unfold iblk
  show ((cfg0.win 1).blk (point i j)).view.read (Elt Ideal) _ (ix3 0 k s) = _
  rw [View.read_apply]
  show V m c main_v15 _ = V m c main_v15 _
  refine congrArg (V m c main_v15) (funext fun a => Fin.ext ?_)
  match a with
  | ⟨0, _⟩ => show win0_1.index (point i j) 0 * 1 + 1 * 0 = (j : ℕ); rw [(index1 i j).1]; omega
  | ⟨1, _⟩ => show win0_1.index (point i j) 1 * 1024 + 1 * (k : ℕ) = (k : ℕ); rw [(index1 i j).2.1]; omega
  | ⟨2, _⟩ => show win0_1.index (point i j) 2 * 1024 + 1 * (s : ℕ) = (s : ℕ); rw [(index1 i j).2.2]; omega

/-- One tile of result 2. -/
theorem tile2 {x0 : FVec Ideal S2048x1024 .bf16} {x1 : FVec Ideal S1x1024x1024 .bf16} {a : Fin 2048 → Fin 1024 → EReal} {d : Fin 1024 → Fin 1024 → EReal}
    (h0 : ∀ r k, x0 (ix2 r k) = a r k) (h1 : ∀ k s, x1 (ix3 0 k s) = d k s) (r : Fin 2048) (s : Fin 1024) :
    (show FVec Ideal S2048x1024 .bf16 from out0_2 (F := Ideal) x0 x1) (ix2 r s) = max (∑ k, a r k * d k s) 0 * max (∑ k, a r k * d k s) 0 := by
  show out0_2 (F := Ideal) x0 x1 (ix2 r s) = _
  unfold out0_2
  rw [View.canon_unit_zero (S := S2048x1024) hz]
  simp only [View.ld_unit_zero (S := S2048x1024) hz, View.ld_unit_zero (S := S1x1024x1024) hz3]
  unfold k0_pay2 k0_pay1
  pointwise
  simp only [h0, h1]

/-- Result array 2, entry by entry. -/
theorem array2 (r : Fin 2048) (s : Fin 1024) : (show FVec Ideal S4096x4096 .bf16 from (dats m 0 c).arrAt 2 cfg0.N) (ix2 (row i r) (col j s))
    = max (∑ k, norm m c (ix2 (row i r) k) * arg2 m c (ix2 k (col j s))) 0 * max (∑ k, norm m c (ix2 (row i r) k) * arg2 m c (ix2 k (col j s))) 0 := by
  have e := congrFun (Value.blocks2 m c (point i j) (flush0_2 _)) (ix2 r s)
  rw [View.read_apply, Value.flushed2] at e
  have t := tile2 (block0 m c i j) (block1 m c i j) r s
  refine Eq.trans ?_ t
  refine Eq.trans ?_ e
  show (dats m 0 c).arrAt 2 cfg0.N _ = (dats m 0 c).arrAt 2 cfg0.N _
  refine congrArg ((dats m 0 c).arrAt 2 cfg0.N) (funext fun a => Fin.ext ?_)
  match a with
  | ⟨0, _⟩ => show (i : ℕ) * 2048 + (r : ℕ) = win0_2.index (point i j) 0 * 2048 + 1 * (r : ℕ); rw [(index2 i j).1]; omega
  | ⟨1, _⟩ => show (j : ℕ) * 1024 + (s : ℕ) = win0_2.index (point i j) 1 * 1024 + 1 * (s : ℕ); rw [(index2 i j).2]; omega

/-- The reference's result, entry by entry. -/
theorem reference2 (x0 : FVec Ideal S4096x1024 .f32) (x1 : FVec Ideal S1x1024 .f32) (x2 : FVec Ideal S1024x4096 .f32)
    (r : Fin 4096) (s : Fin 4096) : val_main_v15 (F := Ideal) x0 x1 x2 (ix2 r s)
      = max (∑ k, val_main_v11 (F := Ideal) x0 x1 (ix2 r k) * x2 (ix2 k s)) 0 * max (∑ k, val_main_v11 (F := Ideal) x0 x1 (ix2 r k) * x2 (ix2 k s)) 0 := by
  unfold val_main_v15 val_main_v14 val_main_v13 val_main_v12 val_main_call0_v0 val_main_call0_cst
  pointwise

/-- The reference's result is the kernel's result array. -/
theorem agree2 (x0 : FVec Ideal S4096x1024 .f32) (x1 : FVec Ideal S1x1024 .f32) (x2 : FVec Ideal S1024x4096 .f32)
    (h0 : x0 = arg0 m c) (h1 : x1 = arg1 m c) (h2 : x2 = arg2 m c) :
    val_main_v15 (F := Ideal) x0 x1 x2 = (show FVec Ideal S4096x4096 .bf16 from (dats m 0 c).arrAt 2 cfg0.N) := by
  funext ij
  rw [← ix2_eta ij]
  obtain ⟨i, r, hr⟩ := row_surj (ij 0)
  obtain ⟨j, s, hs⟩ := col_surj (ij 1)
  rw [← hr, ← hs, h0, h1, h2]
  exact (reference2 _ _ _ (row i r) (col j s)).trans (array2 m c i j r s).symm

/-- One tile of result 3. -/
theorem tile3 {x0 : FVec Ideal S2048x1024 .bf16} {x1 : FVec Ideal S1x1024x1024 .bf16} {a : Fin 2048 → Fin 1024 → EReal} {d : Fin 1024 → Fin 1024 → EReal}
    (h0 : ∀ r k, x0 (ix2 r k) = a r k) (h1 : ∀ k s, x1 (ix3 0 k s) = d k s) (r : Fin 2048) (s : Fin 1024) :
    (show FVec Ideal S2048x1024 .bf16 from out0_3 (F := Ideal) x0 x1) (ix2 r s) = max (∑ k, a r k * d k s) 0 := by
  show out0_3 (F := Ideal) x0 x1 (ix2 r s) = _
  unfold out0_3
  rw [View.canon_unit_zero (S := S2048x1024) hz]
  simp only [View.ld_unit_zero (S := S2048x1024) hz, View.ld_unit_zero (S := S1x1024x1024) hz3]
  unfold k0_pay3 k0_pay1
  pointwise
  simp only [h0, h1]

/-- Result array 3, entry by entry. -/
theorem array3 (r : Fin 2048) (s : Fin 1024) : (show FVec Ideal S4096x4096 .bf16 from (dats m 0 c).arrAt 3 cfg0.N) (ix2 (row i r) (col j s))
    = max (∑ k, norm m c (ix2 (row i r) k) * arg2 m c (ix2 k (col j s))) 0 := by
  have e := congrFun (Value.blocks3 m c (point i j) (flush0_3 _)) (ix2 r s)
  rw [View.read_apply, Value.flushed3] at e
  have t := tile3 (block0 m c i j) (block1 m c i j) r s
  refine Eq.trans ?_ t
  refine Eq.trans ?_ e
  show (dats m 0 c).arrAt 3 cfg0.N _ = (dats m 0 c).arrAt 3 cfg0.N _
  refine congrArg ((dats m 0 c).arrAt 3 cfg0.N) (funext fun a => Fin.ext ?_)
  match a with
  | ⟨0, _⟩ => show (i : ℕ) * 2048 + (r : ℕ) = win0_3.index (point i j) 0 * 2048 + 1 * (r : ℕ); rw [(index3 i j).1]; omega
  | ⟨1, _⟩ => show (j : ℕ) * 1024 + (s : ℕ) = win0_3.index (point i j) 1 * 1024 + 1 * (s : ℕ); rw [(index3 i j).2]; omega

/-- The reference's result, entry by entry. -/
theorem reference3 (x0 : FVec Ideal S4096x1024 .f32) (x1 : FVec Ideal S1x1024 .f32) (x2 : FVec Ideal S1024x4096 .f32)
    (r : Fin 4096) (s : Fin 4096) : val_main_v16 (F := Ideal) x0 x1 x2 (ix2 r s)
      = max (∑ k, val_main_v11 (F := Ideal) x0 x1 (ix2 r k) * x2 (ix2 k s)) 0 := by
  unfold val_main_v16 val_main_v13 val_main_v12 val_main_call0_v0 val_main_call0_cst
  pointwise

/-- The reference's result is the kernel's result array. -/
theorem agree3 (x0 : FVec Ideal S4096x1024 .f32) (x1 : FVec Ideal S1x1024 .f32) (x2 : FVec Ideal S1024x4096 .f32)
    (h0 : x0 = arg0 m c) (h1 : x1 = arg1 m c) (h2 : x2 = arg2 m c) :
    val_main_v16 (F := Ideal) x0 x1 x2 = (show FVec Ideal S4096x4096 .bf16 from (dats m 0 c).arrAt 3 cfg0.N) := by
  funext ij
  rw [← ix2_eta ij]
  obtain ⟨i, r, hr⟩ := row_surj (ij 0)
  obtain ⟨j, s, hs⟩ := col_surj (ij 1)
  rw [← hr, ← hs, h0, h1, h2]
  exact (reference3 _ _ _ (row i r) (col j s)).trans (array3 m c i j r s).symm

end Cert.Kernel7Ideal.Tile

end

end
-- ==== Proof.DownFwd.lean ====
/- The MLP's down projection (`Kernel8`): the activations against the matrix, added to the residual stream, and the stream normed for the next
   layer, as in the reference. -/
module

public import proofs.«01_k».proof.Proof.Gen.Kernel8Ideal.Value
public import proofs.«01_k».proof.Proof.Gen.Reference8Ideal.Read
public import Idealize.ShloMosaic.Lib.Pointwise
public import Idealize.ShloMosaic.Lib.Claim
public import proofs.«01_k».proof.Proof.Blocks

@[expose] public section

noncomputable section

namespace Cert.Kernel8Ideal.Tile

open Cert.Reference8Ideal.Read Cert.Blocks
open Cert.Kernel8Ideal Cert.Kernel8Ideal.Gen
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 8) (j : Fin 1) : Fin cfg0.N := ⟨i * 1 + j, by show _ < 8; omega⟩
/-- Row `r` of row block `i`: the rows fall into blocks … -/
def row (i : Fin 8) (r : Fin 512) : Fin 4096 := ⟨i * 512 + r, by omega⟩
/-- … and each lies in some block. -/
theorem row_surj (r : Fin 4096) : ∃ i s, row i s = r :=
  ⟨⟨r / 512, by omega⟩, ⟨r % 512, by omega⟩, Fin.ext (by show (r : ℕ) / 512 * 512 + r % 512 = r; omega)⟩

/-- The activations' block at a point: the row panel. -/
theorem index0 : ∀ i j, win0_0.index (point i j) 0 = (i : ℕ) ∧ win0_0.index (point i j) 1 = 0 := by decide +kernel
/-- The matrix's block: the whole. -/
theorem index1 : ∀ i j, win0_1.index (point i j) 0 = 0 ∧ win0_1.index (point i j) 1 = 0 := by decide +kernel
/-- The residual's block: the row panel. -/
theorem index2 : ∀ i j, win0_2.index (point i j) 0 = (i : ℕ) ∧ win0_2.index (point i j) 1 = 0 := by decide +kernel
/-- The gain's block: the whole. -/
theorem index3 : ∀ i j, win0_3.index (point i j) 0 = 0 ∧ win0_3.index (point i j) 1 = 0 := by decide +kernel
/-- The stream's block: the row panel. -/
theorem index4 : ∀ i j, win0_4.index (point i j) 0 = (i : ℕ) ∧ win0_4.index (point i j) 1 = 0 := by decide +kernel
/-- The normed stream's block: the row panel. -/
theorem index5 : ∀ i j, win0_5.index (point i j) 0 = (i : ℕ) ∧ win0_5.index (point i j) 1 = 0 := by decide +kernel

variable (m : (ℓ : Loc nD τ sig) → Buf (Elt Ideal) ℓ) (c : Dev nD)

/-- The layer's input, the norm's gain, the two weight matrices and the next norm's gain, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x4096 .f32 := m ((c : Thread nD τ).loc main_arg2)
abbrev arg3 : FVec Ideal S4096x1024 .f32 := m ((c : Thread nD τ).loc main_arg3)
abbrev arg4 : FVec Ideal S1x1024 .f32 := m ((c : Thread nD τ).loc main_arg4)
/-- The reference's activations. -/
abbrev act : FVec Ideal S4096x4096 .f32 := val_main_v14 (F := Ideal) (arg0 m c) (arg1 m c) (arg2 m c)

/-- The host computes the activations as the reference does … -/
theorem entry0 : @Eq (FVec Ideal S4096x4096 .bf16) (V m c main_v15) (truncf .bf16 (act m c) bitsLt_bf16_f32) := by
  entry_read
  rfl
/-- … and narrows the matrix. -/
theorem entry1 : @Eq (FVec Ideal S4096x1024 .bf16) (V m c main_v16) (truncf .bf16 (arg3 m c) bitsLt_bf16_f32) := by
  entry_read
  rfl
/-- The residual … -/
theorem entry2 : @Eq (FVec Ideal S4096x1024 .f32) (V m c main_arg0) (arg0 m c) := by
  entry_read
  rfl
/-- … and the gain are the arguments. -/
theorem entry3 : @Eq (FVec Ideal S1x1024 .f32) (V m c main_arg4) (arg4 m c) := by
  entry_read
  rfl

variable (i : Fin 8) (j : Fin 1)

/-- The activations' block holds their rows. -/
theorem block0 (t : Fin 512) (k : Fin 4096) : (show FVec Ideal S512x4096 .bf16 from iblk m c 0 (point i j)) (ix2 t k) = act m c (ix2 (row i t) k) := by
  refine Eq.trans (?_ : _ = V m c main_v15 (ix2 (row i t) k)) (congrFun (entry0 m c) (ix2 (row i t) k))
  exact congrArg (V m c main_v15) (ix2_of (at_row 512 t (index0 i j).1) (at_zero 4096 k (index0 i j).2))

/-- The matrix's block holds it whole. -/
theorem block1 (t : Fin 4096) (k : Fin 1024) : (show FVec Ideal S4096x1024 .bf16 from iblk m c 1 (point i j)) (ix2 t k) = arg3 m c (ix2 t k) := by
  refine Eq.trans (?_ : _ = V m c main_v16 (ix2 t k)) (congrFun (entry1 m c) (ix2 t k))
  exact congrArg (V m c main_v16) (ix2_of (at_zero 4096 t (index1 i j).1) (at_zero 1024 k (index1 i j).2))

/-- The residual's block holds its rows. -/
theorem block2 (t : Fin 512) (k : Fin 1024) : (show FVec Ideal S512x1024 .f32 from iblk m c 2 (point i j)) (ix2 t k) = arg0 m c (ix2 (row i t) k) := by
  refine Eq.trans (?_ : _ = V m c main_arg0 (ix2 (row i t) k)) (congrFun (entry2 m c) (ix2 (row i t) k))
  exact congrArg (V m c main_arg0) (ix2_of (at_row 512 t (index2 i j).1) (at_zero 1024 k (index2 i j).2))

/-- The gain's block holds it whole. -/
theorem block3 (t : Fin 1) (k : Fin 1024) : (show FVec Ideal S1x1024 .f32 from iblk m c 3 (point i j)) (ix2 t k) = arg4 m c (ix2 t k) := by
  refine Eq.trans (?_ : _ = V m c main_arg4 (ix2 t k)) (congrFun (entry3 m c) (ix2 t k))
  exact congrArg (V m c main_arg4) (ix2_of (at_zero 1 t (index3 i j).1) (at_zero 1024 k (index3 i j).2))

/-- The norm's reading of a stream `u` with gain `g`. -/
def normed (u g : Fin 1024 → EReal) (s : Fin 1024) : EReal :=
  u s * Ideal.rsqrt (Ideal.div (∑ k, u k * u k) (Ideal.ofBits .f32 0x44800000#32) + Ideal.ofBits .f32 0x358637BD#32) * g s

/-- One tile of the stream: the product added to the residual. -/
theorem tile4 {x0 : FVec Ideal S512x4096 .bf16} {x1 : FVec Ideal S4096x1024 .bf16} {x2 : FVec Ideal S512x1024 .f32} {x3 : FVec Ideal S1x1024 .f32}
    {a : Fin 512 → Fin 4096 → EReal} {d : Fin 4096 → Fin 1024 → EReal} {e : Fin 512 → Fin 1024 → EReal}
    (h0 : ∀ r k, x0 (ix2 r k) = a r k) (h1 : ∀ k s, x1 (ix2 k s) = d k s) (h2 : ∀ r s, x2 (ix2 r s) = e r s) (r : Fin 512) (s : Fin 1024) :
    (show FVec Ideal S512x1024 .f32 from out0_4 (F := Ideal) x0 x1 x2 x3) (ix2 r s) = (∑ k, a r k * d k s) + e r s := by
  show out0_4 (F := Ideal) x0 x1 x2 x3 (ix2 r s) = _
  unfold out0_4
  rw [View.canon_unit_zero (S := S512x1024) hz]
  simp only [View.ld_unit_zero (S := S512x4096) hz, View.ld_unit_zero (S := S4096x1024) hz, View.ld_unit_zero (S := S512x1024) hz]
  unfold k0_pay1
  pointwise
  simp only [h0, h1, h2]

/-- One tile of the normed stream. -/
theorem tile5 {x0 : FVec Ideal S512x4096 .bf16} {x1 : FVec Ideal S4096x1024 .bf16} {x2 : FVec Ideal S512x1024 .f32} {x3 : FVec Ideal S1x1024 .f32}
    {a : Fin 512 → Fin 4096 → EReal} {d : Fin 4096 → Fin 1024 → EReal} {e : Fin 512 → Fin 1024 → EReal} {g : Fin 1 → Fin 1024 → EReal}
    (h0 : ∀ r k, x0 (ix2 r k) = a r k) (h1 : ∀ k s, x1 (ix2 k s) = d k s) (h2 : ∀ r s, x2 (ix2 r s) = e r s) (h3 : ∀ r s, x3 (ix2 r s) = g r s)
    (r : Fin 512) (s : Fin 1024) :
    (show FVec Ideal S512x1024 .bf16 from out0_5 (F := Ideal) x0 x1 x2 x3) (ix2 r s) = normed (fun s => (∑ k, a r k * d k s) + e r s) (g 0) s := by
  show out0_5 (F := Ideal) x0 x1 x2 x3 (ix2 r s) = _
  unfold out0_5
  rw [View.canon_unit_zero (S := S512x1024) hz]
  simp only [View.ld_unit_zero (S := S512x4096) hz, View.ld_unit_zero (S := S4096x1024) hz, View.ld_unit_zero (S := S512x1024) hz, View.ld_unit_zero (S := S1x1024) hz]
  unfold k0_pay2 k0_pay1 normed
  pointwise
  simp only [h0, h1, h2, h3]

/-- The stream, entry by entry. -/
theorem array4 (i : Fin 8) (j : Fin 1) (r : Fin 512) (s : Fin 1024) : (show FVec Ideal S4096x1024 .f32 from (dats m 0 c).arrAt 4 cfg0.N) (ix2 (row i r) s)
    = (∑ k, act m c (ix2 (row i r) k) * arg3 m c (ix2 k s)) + arg0 m c (ix2 (row i r) s) := by
  have e := congrFun (Value.blocks4 m c (point i j) (flush0_4 _)) (ix2 r s)
  rw [View.read_apply, Value.flushed4] at e
  have t := tile4 (x3 := iblk m c 3 (point i j)) (block0 m c i j) (block1 m c i j) (block2 m c i j) r s
  refine Eq.trans ?_ t
  refine Eq.trans ?_ e
  show (dats m 0 c).arrAt 4 cfg0.N _ = (dats m 0 c).arrAt 4 cfg0.N _
  refine congrArg ((dats m 0 c).arrAt 4 cfg0.N) (funext fun a => Fin.ext ?_)
  match a with
  | ⟨0, _⟩ => show (i : ℕ) * 512 + (r : ℕ) = win0_4.index (point i j) 0 * 512 + 1 * (r : ℕ); rw [(index4 i j).1]; omega
  | ⟨1, _⟩ => show (s : ℕ) = win0_4.index (point i j) 1 * 1024 + 1 * (s : ℕ); rw [(index4 i j).2]; omega

/-- The normed stream, entry by entry. -/
theorem array5 (i : Fin 8) (j : Fin 1) (r : Fin 512) (s : Fin 1024) : (show FVec Ideal S4096x1024 .bf16 from (dats m 0 c).arrAt 5 cfg0.N) (ix2 (row i r) s)
    = normed (fun s => (∑ k, act m c (ix2 (row i r) k) * arg3 m c (ix2 k s)) + arg0 m c (ix2 (row i r) s)) (fun s => arg4 m c (ix2 0 s)) s := by
  have e := congrFun (Value.blocks5 m c (point i j) (flush0_5 _)) (ix2 r s)
  rw [View.read_apply, Value.flushed5] at e
  have t := tile5 (block0 m c i j) (block1 m c i j) (block2 m c i j) (block3 m c i j) r s
  refine Eq.trans ?_ t
  refine Eq.trans ?_ e
  show (dats m 0 c).arrAt 5 cfg0.N _ = (dats m 0 c).arrAt 5 cfg0.N _
  refine congrArg ((dats m 0 c).arrAt 5 cfg0.N) (funext fun a => Fin.ext ?_)
  match a with
  | ⟨0, _⟩ => show (i : ℕ) * 512 + (r : ℕ) = win0_5.index (point i j) 0 * 512 + 1 * (r : ℕ); rw [(index5 i j).1]; omega
  | ⟨1, _⟩ => show (s : ℕ) = win0_5.index (point i j) 1 * 1024 + 1 * (s : ℕ); rw [(index5 i j).2]; omega

/-- The reference's stream, entry by entry. -/
theorem reference4 (x0 : FVec Ideal S4096x1024 .f32) (x1 : FVec Ideal S1x1024 .f32) (x2 : FVec Ideal S1024x4096 .f32) (x3 : FVec Ideal S4096x1024 .f32) (r : Fin 4096) (s : Fin 1024) :
    val_main_v16 (F := Ideal) x0 x1 x2 x3 (ix2 r s) = (∑ k, val_main_v14 (F := Ideal) x0 x1 x2 (ix2 r k) * x3 (ix2 k s)) + x0 (ix2 r s) := by
  unfold val_main_v16 val_main_v15
  pointwise
  exact add_comm _ _

/-- The reference's normed stream, entry by entry. -/
theorem reference5 (x0 : FVec Ideal S4096x1024 .f32) (x1 : FVec Ideal S1x1024 .f32) (x2 : FVec Ideal S1024x4096 .f32) (x3 : FVec Ideal S4096x1024 .f32) (x4 : FVec Ideal S1x1024 .f32) (r : Fin 4096) (s : Fin 1024) :
    val_main_v29 (F := Ideal) x0 x1 x2 x3 x4 (ix2 r s) = normed (fun s => (∑ k, val_main_v14 (F := Ideal) x0 x1 x2 (ix2 r k) * x3 (ix2 k s)) + x0 (ix2 r s)) (fun s => x4 (ix2 0 s)) s := by
  unfold val_main_v29 val_main_v28 val_main_v27 val_main_v26 val_main_v25 val_main_v24 val_main_v23 val_main_v22 val_main_v21 val_main_v20 val_main_v19 val_main_v18 val_main_v17 val_main_cst_2 val_main_cst_3 val_main_cst_4 normed
  pointwise
  simp only [reference4]

/-- The reference's result is the kernel's result array. -/
theorem agree4 (x0 : FVec Ideal S4096x1024 .f32) (x1 : FVec Ideal S1x1024 .f32) (x2 : FVec Ideal S1024x4096 .f32) (x3 : FVec Ideal S4096x1024 .f32)
    (h0 : x0 = arg0 m c) (h1 : x1 = arg1 m c) (h2 : x2 = arg2 m c) (h3 : x3 = arg3 m c) :
    val_main_v16 (F := Ideal) x0 x1 x2 x3 = (show FVec Ideal S4096x1024 .f32 from (dats m 0 c).arrAt 4 cfg0.N) := by
  funext ij
  rw [← ix2_eta ij]
  obtain ⟨i, r, hr⟩ := row_surj (ij 0)
  rw [← hr]
  subst h0 h1 h2 h3
  exact (reference4 _ _ _ _ (row i r) (ij 1)).trans (array4 m c i 0 r (ij 1)).symm

/-- The reference's result is the kernel's result array. -/
theorem agree5 (x0 : FVec Ideal S4096x1024 .f32) (x1 : FVec Ideal S1x1024 .f32) (x2 : FVec Ideal S1024x4096 .f32) (x3 : FVec Ideal S4096x1024 .f32) (x4 : FVec Ideal S1x1024 .f32)
    (h0 : x0 = arg0 m c) (h1 : x1 = arg1 m c) (h2 : x2 = arg2 m c) (h3 : x3 = arg3 m c) (h4 : x4 = arg4 m c) :
    val_main_v29 (F := Ideal) x0 x1 x2 x3 x4 = (show FVec Ideal S4096x1024 .bf16 from (dats m 0 c).arrAt 5 cfg0.N) := by
  funext ij
  rw [← ix2_eta ij]
  obtain ⟨i, r, hr⟩ := row_surj (ij 0)
  rw [← hr]
  subst h0 h1 h2 h3 h4
  exact (reference5 _ _ _ _ _ (row i r) (ij 1)).trans (array5 m c i 0 r (ij 1)).symm

end Cert.Kernel8Ideal.Tile

end

end
-- ==== Proof.ProjFwd.lean ====
/- An output projection (`Kernel9`): the values against the matrix, added to the residual stream, and the stream normed for the next layer,
   as in the reference. -/
module

public import proofs.«01_k».proof.Proof.Gen.Kernel9Ideal.Value
public import proofs.«01_k».proof.Proof.Gen.Reference9Ideal.Read
public import Idealize.ShloMosaic.Lib.Pointwise
public import Idealize.ShloMosaic.Lib.Claim
public import proofs.«01_k».proof.Proof.Blocks

@[expose] public section

noncomputable section

namespace Cert.Kernel9Ideal.Tile

open Cert.Reference9Ideal.Read Cert.Blocks
open Cert.Kernel9Ideal Cert.Kernel9Ideal.Gen
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 8) (j : Fin 1) : Fin cfg0.N := ⟨i * 1 + j, by show _ < 8; omega⟩
/-- Row `r` of row block `i`: the rows fall into blocks … -/
def row (i : Fin 8) (r : Fin 512) : Fin 4096 := ⟨i * 512 + r, by omega⟩
/-- … and each lies in some block. -/
theorem row_surj (r : Fin 4096) : ∃ i s, row i s = r :=
  ⟨⟨r / 512, by omega⟩, ⟨r % 512, by omega⟩, Fin.ext (by show (r : ℕ) / 512 * 512 + r % 512 = r; omega)⟩

/-- The activations' block at a point: the row panel. -/
theorem index0 : ∀ i j, win0_0.index (point i j) 0 = (i : ℕ) ∧ win0_0.index (point i j) 1 = 0 := by decide +kernel
/-- The matrix's block: the whole. -/
theorem index1 : ∀ i j, win0_1.index (point i j) 0 = 0 ∧ win0_1.index (point i j) 1 = 0 := by decide +kernel
/-- The residual's block: the row panel. -/
theorem index2 : ∀ i j, win0_2.index (point i j) 0 = (i : ℕ) ∧ win0_2.index (point i j) 1 = 0 := by decide +kernel
/-- The gain's block: the whole. -/
theorem index3 : ∀ i j, win0_3.index (point i j) 0 = 0 ∧ win0_3.index (point i j) 1 = 0 := by decide +kernel
/-- The stream's block: the row panel. -/
theorem index4 : ∀ i j, win0_4.index (point i j) 0 = (i : ℕ) ∧ win0_4.index (point i j) 1 = 0 := by decide +kernel
/-- The normed stream's block: the row panel. -/
theorem index5 : ∀ i j, win0_5.index (point i j) 0 = (i : ℕ) ∧ win0_5.index (point i j) 1 = 0 := by decide +kernel

variable (m : (ℓ : Loc nD τ sig) → Buf (Elt Ideal) ℓ) (c : Dev nD)

/-- The block's values, the matrix, the residual stream and the next norm's gain, as the device holds them. -/
abbrev arg0 : FVec Ideal S4096x1024 .f32 := m ((c : Thread nD τ).loc main_arg0)
abbrev arg1 : FVec Ideal S1024x1024 .f32 := m ((c : Thread nD τ).loc main_arg1)
abbrev arg2 : FVec Ideal S4096x1024 .f32 := m ((c : Thread nD τ).loc main_arg2)
abbrev arg3 : FVec Ideal S1x1024 .f32 := m ((c : Thread nD τ).loc main_arg3)

/-- The host narrows the block's values … -/
theorem entry0 : @Eq (FVec Ideal S4096x1024 .bf16) (V m c main_v0) (truncf .bf16 (arg0 m c) bitsLt_bf16_f32) := by
  entry_read
  rfl
/-- … and narrows the matrix. -/
theorem entry1 : @Eq (FVec Ideal S1024x1024 .bf16) (V m c main_v1) (truncf .bf16 (arg1 m c) bitsLt_bf16_f32) := by
  entry_read
  rfl
/-- The residual … -/
theorem entry2 : @Eq (FVec Ideal S4096x1024 .f32) (V m c main_arg2) (arg2 m c) := by
  entry_read
  rfl
/-- … and the gain are the arguments. -/
theorem entry3 : @Eq (FVec Ideal S1x1024 .f32) (V m c main_arg3) (arg3 m c) := by
  entry_read
  rfl

variable (i : Fin 8) (j : Fin 1)

/-- The activations' block holds their rows. -/
theorem block0 (t : Fin 512) (k : Fin 1024) : (show FVec Ideal S512x1024 .bf16 from iblk m c 0 (point i j)) (ix2 t k) = arg0 m c (ix2 (row i t) k) := by
  refine Eq.trans (?_ : _ = V m c main_v0 (ix2 (row i t) k)) (congrFun (entry0 m c) (ix2 (row i t) k))
  exact congrArg (V m c main_v0) (ix2_of (at_row 512 t (index0 i j).1) (at_zero 1024 k (index0 i j).2))

/-- The matrix's block holds it whole. -/
theorem block1 (t : Fin 1024) (k : Fin 1024) : (show FVec Ideal S1024x1024 .bf16 from iblk m c 1 (point i j)) (ix2 t k) = arg1 m c (ix2 t k) := by
  refine Eq.trans (?_ : _ = V m c main_v1 (ix2 t k)) (congrFun (entry1 m c) (ix2 t k))
  exact congrArg (V m c main_v1) (ix2_of (at_zero 1024 t (index1 i j).1) (at_zero 1024 k (index1 i j).2))

/-- The residual's block holds its rows. -/
theorem block2 (t : Fin 512) (k : Fin 1024) : (show FVec Ideal S512x1024 .f32 from iblk m c 2 (point i j)) (ix2 t k) = arg2 m c (ix2 (row i t) k) := by
  refine Eq.trans (?_ : _ = V m c main_arg2 (ix2 (row i t) k)) (congrFun (entry2 m c) (ix2 (row i t) k))
  exact congrArg (V m c main_arg2) (ix2_of (at_row 512 t (index2 i j).1) (at_zero 1024 k (index2 i j).2))

/-- The gain's block holds it whole. -/
theorem block3 (t : Fin 1) (k : Fin 1024) : (show FVec Ideal S1x1024 .f32 from iblk m c 3 (point i j)) (ix2 t k) = arg3 m c (ix2 t k) := by
  refine Eq.trans (?_ : _ = V m c main_arg3 (ix2 t k)) (congrFun (entry3 m c) (ix2 t k))
  exact congrArg (V m c main_arg3) (ix2_of (at_zero 1 t (index3 i j).1) (at_zero 1024 k (index3 i j).2))

/-- The norm's reading of a stream `u` with gain `g`. -/
def normed (u g : Fin 1024 → EReal) (s : Fin 1024) : EReal :=
  u s * Ideal.rsqrt (Ideal.div (∑ k, u k * u k) (Ideal.ofBits .f32 0x44800000#32) + Ideal.ofBits .f32 0x358637BD#32) * g s

/-- One tile of the stream: the product added to the residual. -/
theorem tile4 {x0 : FVec Ideal S512x1024 .bf16} {x1 : FVec Ideal S1024x1024 .bf16} {x2 : FVec Ideal S512x1024 .f32} {x3 : FVec Ideal S1x1024 .f32}
    {a : Fin 512 → Fin 1024 → EReal} {d : Fin 1024 → Fin 1024 → EReal} {e : Fin 512 → Fin 1024 → EReal}
    (h0 : ∀ r k, x0 (ix2 r k) = a r k) (h1 : ∀ k s, x1 (ix2 k s) = d k s) (h2 : ∀ r s, x2 (ix2 r s) = e r s) (r : Fin 512) (s : Fin 1024) :
    (show FVec Ideal S512x1024 .f32 from out0_4 (F := Ideal) x0 x1 x2 x3) (ix2 r s) = (∑ k, a r k * d k s) + e r s := by
  show out0_4 (F := Ideal) x0 x1 x2 x3 (ix2 r s) = _
  unfold out0_4
  rw [View.canon_unit_zero (S := S512x1024) hz]
  simp only [View.ld_unit_zero (S := S512x1024) hz, View.ld_unit_zero (S := S1024x1024) hz, View.ld_unit_zero (S := S512x1024) hz]
  unfold k0_pay1
  pointwise
  simp only [h0, h1, h2]

/-- One tile of the normed stream. -/
theorem tile5 {x0 : FVec Ideal S512x1024 .bf16} {x1 : FVec Ideal S1024x1024 .bf16} {x2 : FVec Ideal S512x1024 .f32} {x3 : FVec Ideal S1x1024 .f32}
    {a : Fin 512 → Fin 1024 → EReal} {d : Fin 1024 → Fin 1024 → EReal} {e : Fin 512 → Fin 1024 → EReal} {g : Fin 1 → Fin 1024 → EReal}
    (h0 : ∀ r k, x0 (ix2 r k) = a r k) (h1 : ∀ k s, x1 (ix2 k s) = d k s) (h2 : ∀ r s, x2 (ix2 r s) = e r s) (h3 : ∀ r s, x3 (ix2 r s) = g r s)
    (r : Fin 512) (s : Fin 1024) :
    (show FVec Ideal S512x1024 .bf16 from out0_5 (F := Ideal) x0 x1 x2 x3) (ix2 r s) = normed (fun s => (∑ k, a r k * d k s) + e r s) (g 0) s := by
  show out0_5 (F := Ideal) x0 x1 x2 x3 (ix2 r s) = _
  unfold out0_5
  rw [View.canon_unit_zero (S := S512x1024) hz]
  simp only [View.ld_unit_zero (S := S512x1024) hz, View.ld_unit_zero (S := S1024x1024) hz, View.ld_unit_zero (S := S512x1024) hz, View.ld_unit_zero (S := S1x1024) hz]
  unfold k0_pay2 k0_pay1 normed
  pointwise
  simp only [h0, h1, h2, h3]

/-- The stream, entry by entry. -/
theorem array4 (i : Fin 8) (j : Fin 1) (r : Fin 512) (s : Fin 1024) : (show FVec Ideal S4096x1024 .f32 from (dats m 0 c).arrAt 4 cfg0.N) (ix2 (row i r) s)
    = (∑ k, arg0 m c (ix2 (row i r) k) * arg1 m c (ix2 k s)) + arg2 m c (ix2 (row i r) s) := by
  have e := congrFun (Value.blocks4 m c (point i j) (flush0_4 _)) (ix2 r s)
  rw [View.read_apply, Value.flushed4] at e
  have t := tile4 (x3 := iblk m c 3 (point i j)) (block0 m c i j) (block1 m c i j) (block2 m c i j) r s
  refine Eq.trans ?_ t
  refine Eq.trans ?_ e
  show (dats m 0 c).arrAt 4 cfg0.N _ = (dats m 0 c).arrAt 4 cfg0.N _
  refine congrArg ((dats m 0 c).arrAt 4 cfg0.N) (funext fun a => Fin.ext ?_)
  match a with
  | ⟨0, _⟩ => show (i : ℕ) * 512 + (r : ℕ) = win0_4.index (point i j) 0 * 512 + 1 * (r : ℕ); rw [(index4 i j).1]; omega
  | ⟨1, _⟩ => show (s : ℕ) = win0_4.index (point i j) 1 * 1024 + 1 * (s : ℕ); rw [(index4 i j).2]; omega

/-- The normed stream, entry by entry. -/
theorem array5 (i : Fin 8) (j : Fin 1) (r : Fin 512) (s : Fin 1024) : (show FVec Ideal S4096x1024 .bf16 from (dats m 0 c).arrAt 5 cfg0.N) (ix2 (row i r) s)
    = normed (fun s => (∑ k, arg0 m c (ix2 (row i r) k) * arg1 m c (ix2 k s)) + arg2 m c (ix2 (row i r) s)) (fun s => arg3 m c (ix2 0 s)) s := by
  have e := congrFun (Value.blocks5 m c (point i j) (flush0_5 _)) (ix2 r s)
  rw [View.read_apply, Value.flushed5] at e
  have t := tile5 (block0 m c i j) (block1 m c i j) (block2 m c i j) (block3 m c i j) r s
  refine Eq.trans ?_ t
  refine Eq.trans ?_ e
  show (dats m 0 c).arrAt 5 cfg0.N _ = (dats m 0 c).arrAt 5 cfg0.N _
  refine congrArg ((dats m 0 c).arrAt 5 cfg0.N) (funext fun a => Fin.ext ?_)
  match a with
  | ⟨0, _⟩ => show (i : ℕ) * 512 + (r : ℕ) = win0_5.index (point i j) 0 * 512 + 1 * (r : ℕ); rw [(index5 i j).1]; omega
  | ⟨1, _⟩ => show (s : ℕ) = win0_5.index (point i j) 1 * 1024 + 1 * (s : ℕ); rw [(index5 i j).2]; omega

/-- The reference's stream, entry by entry. -/
theorem reference4 (x0 : FVec Ideal S4096x1024 .f32) (x1 : FVec Ideal S1024x1024 .f32) (x2 : FVec Ideal S4096x1024 .f32) (r : Fin 4096) (s : Fin 1024) :
    val_main_v1 (F := Ideal) x0 x1 x2 (ix2 r s) = (∑ k, x0 (ix2 r k) * x1 (ix2 k s)) + x2 (ix2 r s) := by
  unfold val_main_v1 val_main_v0
  pointwise
  exact add_comm _ _

/-- The reference's normed stream, entry by entry. -/
theorem reference5 (x0 : FVec Ideal S4096x1024 .f32) (x1 : FVec Ideal S1024x1024 .f32) (x2 : FVec Ideal S4096x1024 .f32) (x3 : FVec Ideal S1x1024 .f32) (r : Fin 4096) (s : Fin 1024) :
    val_main_v14 (F := Ideal) x0 x1 x2 x3 (ix2 r s) = normed (fun s => (∑ k, x0 (ix2 r k) * x1 (ix2 k s)) + x2 (ix2 r s)) (fun s => x3 (ix2 0 s)) s := by
  unfold val_main_v14 val_main_v13 val_main_v12 val_main_v11 val_main_v10 val_main_v9 val_main_v8 val_main_v7 val_main_v6 val_main_v5 val_main_v4 val_main_v3 val_main_v2 val_main_cst val_main_cst_0 val_main_cst_1 normed
  pointwise
  simp only [reference4]

/-- The reference's result is the kernel's result array. -/
theorem agree4 (x0 : FVec Ideal S4096x1024 .f32) (x1 : FVec Ideal S1024x1024 .f32) (x2 : FVec Ideal S4096x1024 .f32)
    (h0 : x0 = arg0 m c) (h1 : x1 = arg1 m c) (h2 : x2 = arg2 m c) :
    val_main_v1 (F := Ideal) x0 x1 x2 = (show FVec Ideal S4096x1024 .f32 from (dats m 0 c).arrAt 4 cfg0.N) := by
  funext ij
  rw [← ix2_eta ij]
  obtain ⟨i, r, hr⟩ := row_surj (ij 0)
  rw [← hr]
  subst h0 h1 h2
  exact (reference4 _ _ _ (row i r) (ij 1)).trans (array4 m c i 0 r (ij 1)).symm

/-- The reference's result is the kernel's result array. -/
theorem agree5 (x0 : FVec Ideal S4096x1024 .f32) (x1 : FVec Ideal S1024x1024 .f32) (x2 : FVec Ideal S4096x1024 .f32) (x3 : FVec Ideal S1x1024 .f32)
    (h0 : x0 = arg0 m c) (h1 : x1 = arg1 m c) (h2 : x2 = arg2 m c) (h3 : x3 = arg3 m c) :
    val_main_v14 (F := Ideal) x0 x1 x2 x3 = (show FVec Ideal S4096x1024 .bf16 from (dats m 0 c).arrAt 5 cfg0.N) := by
  funext ij
  rw [← ix2_eta ij]
  obtain ⟨i, r, hr⟩ := row_surj (ij 0)
  rw [← hr]
  subst h0 h1 h2 h3
  exact (reference5 _ _ _ _ (row i r) (ij 1)).trans (array5 m c i 0 r (ij 1)).symm

end Cert.Kernel9Ideal.Tile

end

end
-- ==== Proof.RgInFwd.lean ====
/- The recurrent block's input projection (`Kernel10`): each tile of the result is rows of the normed input against columns of the weights,
   as in the reference. -/
module

public import proofs.«01_k».proof.Proof.Gen.Kernel10Ideal.Value
public import proofs.«01_k».proof.Proof.Gen.Reference10Ideal.Read
public import Idealize.ShloMosaic.Lib.Pointwise
public import Idealize.ShloMosaic.Lib.Claim
public import proofs.«01_k».proof.Proof.Blocks

@[expose] public section

noncomputable section

namespace Cert.Kernel10Ideal.Tile

open Cert.Kernel10Ideal Cert.Kernel10Ideal.Gen Cert.Blocks
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 2) (j : Fin 4) : Fin cfg0.N := ⟨i * 4 + j, by show _ < 8; omega⟩
/-- Row `r` of row block `i`: the rows fall into blocks … -/
def row (i : Fin 2) (r : Fin 2048) : Fin 4096 := ⟨i * 2048 + r, by omega⟩
/-- … and each lies in some block. -/
theorem row_surj (r : Fin 4096) : ∃ i s, row i s = r :=
  ⟨⟨r / 2048, by omega⟩, ⟨r % 2048, by omega⟩, Fin.ext (by show (r : ℕ) / 2048 * 2048 + r % 2048 = r; omega)⟩

/-- Column `s` of column block `i`: the columns fall into blocks … -/
def col (i : Fin 4) (r : Fin 512) : Fin 2048 := ⟨i * 512 + r, by omega⟩
/-- … and each lies in some block. -/
theorem col_surj (r : Fin 2048) : ∃ i s, col i s = r :=
  ⟨⟨r / 512, by omega⟩, ⟨r % 512, by omega⟩, Fin.ext (by show (r : ℕ) / 512 * 512 + r % 512 = r; omega)⟩

/-- The normed input's block at a point: the row panel. -/
theorem index0 : ∀ i j, win0_0.index (point i j) 0 = (i : ℕ) ∧ win0_0.index (point i j) 1 = 0 := by decide +kernel
/-- The weights' block: the slot. -/
theorem index1 : ∀ i j, win0_1.index (point i j) 0 = (j : ℕ) ∧ win0_1.index (point i j) 1 = 0 ∧ win0_1.index (point i j) 2 = 0 := by decide +kernel
/-- A result's block: the row panel's columns of the slot. -/
theorem index2 : ∀ i j, win0_2.index (point i j) 0 = (i : ℕ) ∧ win0_2.index (point i j) 1 = (j : ℕ) := by decide +kernel

variable (m : (ℓ : Loc nD τ sig) → Buf (Elt Ideal) ℓ) (c : Dev nD)

/-- The layer's input, the norm's gain and the weights, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x2048 .f32 := m ((c : Thread nD τ).loc main_arg2)
/-- The reference's normed input. -/
abbrev norm : FVec Ideal S4096x1024 .f32 := Cert.Reference10Ideal.Read.val_main_v11 (F := Ideal) (arg0 m c) (arg1 m c)

/-- The host computes the normed input as the reference does … -/
theorem entry0 : @Eq (FVec Ideal S4096x1024 .bf16) (V m c main_v12) (truncf .bf16 (norm m c) bitsLt_bf16_f32) := by
  entry_read
  rfl
/-- … and cuts the weights into slots of columns. -/
theorem entry1 : @Eq (FVec Ideal S4x1024x512 .bf16) (V m c main_v15) (truncf .bf16 (transpose S4x1024x512 [1, 0, 2]
    (shapeCast S1024x4x512 (arg2 m c) shapeCasts_S1024x2048_S1024x4x512) transposes_S1024x4x512_S4x1024x512_1_0_2) bitsLt_bf16_f32) := by
  entry_read
  rfl
/-- The weights in slots, entry by entry. -/
theorem slots (k : Fin 1024) (j : Fin 4) (s : Fin 512) : V m c main_v15 (ix3 j k s) = arg2 m c (ix2 k (col j s)) := by
  refine (congrFun (entry1 m c) (ix3 j k s)).trans ?_
  pointwise
  rfl

variable (i : Fin 2) (j : Fin 4)

/-- The normed input's block holds its rows. -/
theorem block0 (r : Fin 2048) (k : Fin 1024) : (show FVec Ideal S2048x1024 .bf16 from iblk m c 0 (point i j)) (ix2 r k) = norm m c (ix2 (row i r) k) := by
  refine Eq.trans (?_ : _ = V m c main_v12 (ix2 (row i r) k)) (congrFun (entry0 m c) (ix2 (row i r) k))
  exact congrArg (V m c main_v12) (ix2_of (at_row 2048 r (index0 i j).1) (at_zero 1024 k (index0 i j).2))

/-- The weights' block holds the slot's columns. -/
theorem block1 (k : Fin 1024) (s : Fin 512) : (show FVec Ideal S1x1024x512 .bf16 from iblk m c 1 (point i j)) (ix3 0 k s) = arg2 m c (ix2 k (col j s)) := by
  refine Eq.trans ?_ (slots m c k j s : V m c main_v15 (ix3 j k s) = _)
  unfold iblk
  show ((cfg0.win 1).blk (point i j)).view.read (Elt Ideal) _ (ix3 0 k s) = _
  rw [View.read_apply]
  show V m c main_v15 _ = V m c main_v15 _
  refine congrArg (V m c main_v15) (funext fun a => Fin.ext ?_)
  match a with
  | ⟨0, _⟩ => show win0_1.index (point i j) 0 * 1 + 1 * 0 = (j : ℕ); rw [(index1 i j).1]; omega
  | ⟨1, _⟩ => show win0_1.index (point i j) 1 * 1024 + 1 * (k : ℕ) = (k : ℕ); rw [(index1 i j).2.1]; omega
  | ⟨2, _⟩ => show win0_1.index (point i j) 2 * 512 + 1 * (s : ℕ) = (s : ℕ); rw [(index1 i j).2.2]; omega

/-- One tile of result 2. -/
theorem tile2 {x0 : FVec Ideal S2048x1024 .bf16} {x1 : FVec Ideal S1x1024x512 .bf16} {a : Fin 2048 → Fin 1024 → EReal} {d : Fin 1024 → Fin 512 → EReal}
    (h0 : ∀ r k, x0 (ix2 r k) = a r k) (h1 : ∀ k s, x1 (ix3 0 k s) = d k s) (r : Fin 2048) (s : Fin 512) :
    (show FVec Ideal S2048x512 .f32 from out0_2 (F := Ideal) x0 x1) (ix2 r s) = ∑ k, a r k * d k s := by
  show out0_2 (F := Ideal) x0 x1 (ix2 r s) = _
  unfold out0_2
  rw [View.canon_unit_zero (S := S2048x512) hz]
  simp only [View.ld_unit_zero (S := S2048x1024) hz, View.ld_unit_zero (S := S1x1024x512) hz3]
  unfold k0_pay1
  pointwise
  simp only [h0, h1]

/-- Result array 2, entry by entry. -/
theorem array2 (r : Fin 2048) (s : Fin 512) : (show FVec Ideal S4096x2048 .f32 from (dats m 0 c).arrAt 2 cfg0.N) (ix2 (row i r) (col j s))
    = ∑ k, norm m c (ix2 (row i r) k) * arg2 m c (ix2 k (col j s)) := by
  have e := congrFun (Value.blocks2 m c (point i j) (flush0_2 _)) (ix2 r s)
  rw [View.read_apply, Value.flushed2] at e
  have t := tile2 (block0 m c i j) (block1 m c i j) r s
  refine Eq.trans ?_ t
  refine Eq.trans ?_ e
  show (dats m 0 c).arrAt 2 cfg0.N _ = (dats m 0 c).arrAt 2 cfg0.N _
  refine congrArg ((dats m 0 c).arrAt 2 cfg0.N) (funext fun a => Fin.ext ?_)
  match a with
  | ⟨0, _⟩ => show (i : ℕ) * 2048 + (r : ℕ) = win0_2.index (point i j) 0 * 2048 + 1 * (r : ℕ); rw [(index2 i j).1]; omega
  | ⟨1, _⟩ => show (j : ℕ) * 512 + (s : ℕ) = win0_2.index (point i j) 1 * 512 + 1 * (s : ℕ); rw [(index2 i j).2]; omega

/-- The reference's result, entry by entry. -/
theorem reference2 (x0 : FVec Ideal S4096x1024 .f32) (x1 : FVec Ideal S1x1024 .f32) (x2 : FVec Ideal S1024x2048 .f32)
    (r : Fin 4096) (s : Fin 2048) : Cert.Reference10Ideal.Read.val_main_v12 (F := Ideal) x0 x1 x2 (ix2 r s)
      = ∑ k, Cert.Reference10Ideal.Read.val_main_v11 (F := Ideal) x0 x1 (ix2 r k) * x2 (ix2 k s) := by
  unfold Cert.Reference10Ideal.Read.val_main_v12
  pointwise

/-- The reference's result is the kernel's result array. -/
theorem agree2 (x0 : FVec Ideal S4096x1024 .f32) (x1 : FVec Ideal S1x1024 .f32) (x2 : FVec Ideal S1024x2048 .f32)
    (h0 : x0 = arg0 m c) (h1 : x1 = arg1 m c) (h2 : x2 = arg2 m c) :
    Cert.Reference10Ideal.Read.val_main_v12 (F := Ideal) x0 x1 x2 = (show FVec Ideal S4096x2048 .f32 from (dats m 0 c).arrAt 2 cfg0.N) := by
  funext ij
  rw [← ix2_eta ij]
  obtain ⟨i, r, hr⟩ := row_surj (ij 0)
  obtain ⟨j, s, hs⟩ := col_surj (ij 1)
  rw [← hr, ← hs, h0, h1, h2]
  exact (reference2 _ _ _ (row i r) (col j s)).trans (array2 m c i j r s).symm

end Cert.Kernel10Ideal.Tile

end

end
-- ==== Proof.QkvFwd.lean ====
/- The attention block's input projection (`Kernel11`): each tile of the result is rows of the normed input against columns of the weights,
   as in the reference. -/
module

public import proofs.«01_k».proof.Proof.Gen.Kernel11Ideal.Value
public import proofs.«01_k».proof.Proof.Gen.Reference11Ideal.Read
public import Idealize.ShloMosaic.Lib.Pointwise
public import Idealize.ShloMosaic.Lib.Claim
public import proofs.«01_k».proof.Proof.Blocks

@[expose] public section

noncomputable section

namespace Cert.Kernel11Ideal.Tile

open Cert.Kernel11Ideal Cert.Kernel11Ideal.Gen Cert.Blocks
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 2) (j : Fin 4) : Fin cfg0.N := ⟨i * 4 + j, by show _ < 8; omega⟩
/-- Row `r` of row block `i`: the rows fall into blocks … -/
def row (i : Fin 2) (r : Fin 2048) : Fin 4096 := ⟨i * 2048 + r, by omega⟩
/-- … and each lies in some block. -/
theorem row_surj (r : Fin 4096) : ∃ i s, row i s = r :=
  ⟨⟨r / 2048, by omega⟩, ⟨r % 2048, by omega⟩, Fin.ext (by show (r : ℕ) / 2048 * 2048 + r % 2048 = r; omega)⟩

/-- Column `s` of column block `i`: the columns fall into blocks … -/
def col (i : Fin 4) (r : Fin 384) : Fin 1536 := ⟨i * 384 + r, by omega⟩
/-- … and each lies in some block. -/
theorem col_surj (r : Fin 1536) : ∃ i s, col i s = r :=
  ⟨⟨r / 384, by omega⟩, ⟨r % 384, by omega⟩, Fin.ext (by show (r : ℕ) / 384 * 384 + r % 384 = r; omega)⟩

/-- The normed input's block at a point: the row panel. -/
theorem index0 : ∀ i j, win0_0.index (point i j) 0 = (i : ℕ) ∧ win0_0.index (point i j) 1 = 0 := by decide +kernel
/-- The weights' block: the slot. -/
theorem index1 : ∀ i j, win0_1.index (point i j) 0 = (j : ℕ) ∧ win0_1.index (point i j) 1 = 0 ∧ win0_1.index (point i j) 2 = 0 := by decide +kernel
/-- A result's block: the row panel's columns of the slot. -/
theorem index2 : ∀ i j, win0_2.index (point i j) 0 = (i : ℕ) ∧ win0_2.index (point i j) 1 = (j : ℕ) := by decide +kernel

variable (m : (ℓ : Loc nD τ sig) → Buf (Elt Ideal) ℓ) (c : Dev nD)

/-- The layer's input, the norm's gain and the weights, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x1536 .f32 := m ((c : Thread nD τ).loc main_arg2)
/-- The reference's normed input. -/
abbrev norm : FVec Ideal S4096x1024 .f32 := Cert.Reference11Ideal.Read.val_main_v11 (F := Ideal) (arg0 m c) (arg1 m c)

/-- The host computes the normed input as the reference does … -/
theorem entry0 : @Eq (FVec Ideal S4096x1024 .bf16) (V m c main_v12) (truncf .bf16 (norm m c) bitsLt_bf16_f32) := by
  entry_read
  rfl
/-- … and cuts the weights into slots of columns. -/
theorem entry1 : @Eq (FVec Ideal S4x1024x384 .bf16) (V m c main_v15) (truncf .bf16 (transpose S4x1024x384 [1, 0, 2]
    (shapeCast S1024x4x384 (arg2 m c) shapeCasts_S1024x1536_S1024x4x384) transposes_S1024x4x384_S4x1024x384_1_0_2) bitsLt_bf16_f32) := by
  entry_read
  rfl
/-- The weights in slots, entry by entry. -/
theorem slots (k : Fin 1024) (j : Fin 4) (s : Fin 384) : V m c main_v15 (ix3 j k s) = arg2 m c (ix2 k (col j s)) := by
  refine (congrFun (entry1 m c) (ix3 j k s)).trans ?_
  pointwise
  rfl

variable (i : Fin 2) (j : Fin 4)

/-- The normed input's block holds its rows. -/
theorem block0 (r : Fin 2048) (k : Fin 1024) : (show FVec Ideal S2048x1024 .bf16 from iblk m c 0 (point i j)) (ix2 r k) = norm m c (ix2 (row i r) k) := by
  refine Eq.trans (?_ : _ = V m c main_v12 (ix2 (row i r) k)) (congrFun (entry0 m c) (ix2 (row i r) k))
  exact congrArg (V m c main_v12) (ix2_of (at_row 2048 r (index0 i j).1) (at_zero 1024 k (index0 i j).2))

/-- The weights' block holds the slot's columns. -/
theorem block1 (k : Fin 1024) (s : Fin 384) : (show FVec Ideal S1x1024x384 .bf16 from iblk m c 1 (point i j)) (ix3 0 k s) = arg2 m c (ix2 k (col j s)) := by
  refine Eq.trans ?_ (slots m c k j s : V m c main_v15 (ix3 j k s) = _)
  unfold iblk
  show ((cfg0.win 1).blk (point i j)).view.read (Elt Ideal) _ (ix3 0 k s) = _
  rw [View.read_apply]
  show V m c main_v15 _ = V m c main_v15 _
  refine congrArg (V m c main_v15) (funext fun a => Fin.ext ?_)
  match a with
  | ⟨0, _⟩ => show win0_1.index (point i j) 0 * 1 + 1 * 0 = (j : ℕ); rw [(index1 i j).1]; omega
  | ⟨1, _⟩ => show win0_1.index (point i j) 1 * 1024 + 1 * (k : ℕ) = (k : ℕ); rw [(index1 i j).2.1]; omega
  | ⟨2, _⟩ => show win0_1.index (point i j) 2 * 384 + 1 * (s : ℕ) = (s : ℕ); rw [(index1 i j).2.2]; omega

/-- One tile of result 2. -/
theorem tile2 {x0 : FVec Ideal S2048x1024 .bf16} {x1 : FVec Ideal S1x1024x384 .bf16} {a : Fin 2048 → Fin 1024 → EReal} {d : Fin 1024 → Fin 384 → EReal}
    (h0 : ∀ r k, x0 (ix2 r k) = a r k) (h1 : ∀ k s, x1 (ix3 0 k s) = d k s) (r : Fin 2048) (s : Fin 384) :
    (show FVec Ideal S2048x384 .f32 from out0_2 (F := Ideal) x0 x1) (ix2 r s) = ∑ k, a r k * d k s := by
  show out0_2 (F := Ideal) x0 x1 (ix2 r s) = _
  unfold out0_2
  rw [View.canon_unit_zero (S := S2048x384) hz]
  simp only [View.ld_unit_zero (S := S2048x1024) hz, View.ld_unit_zero (S := S1x1024x384) hz3]
  unfold k0_pay1
  pointwise
  simp only [h0, h1]

/-- Result array 2, entry by entry. -/
theorem array2 (r : Fin 2048) (s : Fin 384) : (show FVec Ideal S4096x1536 .f32 from (dats m 0 c).arrAt 2 cfg0.N) (ix2 (row i r) (col j s))
    = ∑ k, norm m c (ix2 (row i r) k) * arg2 m c (ix2 k (col j s)) := by
  have e := congrFun (Value.blocks2 m c (point i j) (flush0_2 _)) (ix2 r s)
  rw [View.read_apply, Value.flushed2] at e
  have t := tile2 (block0 m c i j) (block1 m c i j) r s
  refine Eq.trans ?_ t
  refine Eq.trans ?_ e
  show (dats m 0 c).arrAt 2 cfg0.N _ = (dats m 0 c).arrAt 2 cfg0.N _
  refine congrArg ((dats m 0 c).arrAt 2 cfg0.N) (funext fun a => Fin.ext ?_)
  match a with
  | ⟨0, _⟩ => show (i : ℕ) * 2048 + (r : ℕ) = win0_2.index (point i j) 0 * 2048 + 1 * (r : ℕ); rw [(index2 i j).1]; omega
  | ⟨1, _⟩ => show (j : ℕ) * 384 + (s : ℕ) = win0_2.index (point i j) 1 * 384 + 1 * (s : ℕ); rw [(index2 i j).2]; omega

/-- The reference's result, entry by entry. -/
theorem reference2 (x0 : FVec Ideal S4096x1024 .f32) (x1 : FVec Ideal S1x1024 .f32) (x2 : FVec Ideal S1024x1536 .f32)
    (r : Fin 4096) (s : Fin 1536) : Cert.Reference11Ideal.Read.val_main_v12 (F := Ideal) x0 x1 x2 (ix2 r s)
      = ∑ k, Cert.Reference11Ideal.Read.val_main_v11 (F := Ideal) x0 x1 (ix2 r k) * x2 (ix2 k s) := by
  unfold Cert.Reference11Ideal.Read.val_main_v12
  pointwise

/-- The reference's result is the kernel's result array. -/
theorem agree2 (x0 : FVec Ideal S4096x1024 .f32) (x1 : FVec Ideal S1x1024 .f32) (x2 : FVec Ideal S1024x1536 .f32)
    (h0 : x0 = arg0 m c) (h1 : x1 = arg1 m c) (h2 : x2 = arg2 m c) :
    Cert.Reference11Ideal.Read.val_main_v12 (F := Ideal) x0 x1 x2 = (show FVec Ideal S4096x1536 .f32 from (dats m 0 c).arrAt 2 cfg0.N) := by
  funext ij
  rw [← ix2_eta ij]
  obtain ⟨i, r, hr⟩ := row_surj (ij 0)
  obtain ⟨j, s, hs⟩ := col_surj (ij 1)
  rw [← hr, ← hs, h0, h1, h2]
  exact (reference2 _ _ _ (row i r) (col j s)).trans (array2 m c i j r s).symm

end Cert.Kernel11Ideal.Tile

end

end
-- ==== Proof.OutGrad.lean ====
/- The gradient of an output projection's matrix (`Kernel12`): the result is the projected values against the output gradient, summed over
   the tokens; the reference's derivative, which is transposed, is the same. -/
module

public import proofs.«01_k».proof.Proof.Gen.Kernel12Ideal.Value
public import proofs.«01_k».proof.Proof.Gen.Reference12Ideal.Read
public import Idealize.ShloMosaic.Lib.Pointwise
public import Idealize.ShloMosaic.Lib.Claim
public import proofs.«01_k».proof.Proof.Blocks

@[expose] public section

noncomputable section

namespace Cert.Kernel12Ideal.Tile

open Cert.Kernel12Ideal Cert.Kernel12Ideal.Gen Cert.Blocks
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 1) (j : Fin 1) : Fin cfg0.N := ⟨i * 1 + j, by show _ < 1; omega⟩

/-- The values' block at the point: the whole. -/
theorem index0 : ∀ i j, win0_0.index (point i j) 0 = 0 ∧ win0_0.index (point i j) 1 = 0 := by decide +kernel
/-- The output gradient's block: the whole. -/
theorem index1 : ∀ i j, win0_1.index (point i j) 0 = 0 ∧ win0_1.index (point i j) 1 = 0 := by decide +kernel
/-- The result's block: the whole. -/
theorem index2 : ∀ i j, win0_2.index (point i j) 0 = 0 ∧ win0_2.index (point i j) 1 = 0 := by decide +kernel

variable (m : (ℓ : Loc nD τ sig) → Buf (Elt Ideal) ℓ) (c : Dev nD)

/-- The projected values, the matrix and the output gradient, as the device holds them. -/
abbrev arg0 : FVec Ideal S4096x1024 .f32 := m ((c : Thread nD τ).loc main_arg0)
abbrev arg1 : FVec Ideal S1024x1024 .f32 := m ((c : Thread nD τ).loc main_arg1)
abbrev arg2 : FVec Ideal S4096x1024 .f32 := m ((c : Thread nD τ).loc main_arg2)

/-- The host narrows the projected values … -/
theorem entry0 : @Eq (FVec Ideal S4096x1024 .bf16) (V m c main_v0) (truncf .bf16 (arg0 m c) bitsLt_bf16_f32) := by
  entry_read
  rfl
/-- … and the output gradient. -/
theorem entry1 : @Eq (FVec Ideal S4096x1024 .bf16) (V m c main_v1) (truncf .bf16 (arg2 m c) bitsLt_bf16_f32) := by
  entry_read
  rfl

variable (i j : Fin 1)

/-- The values' block holds them whole. -/
theorem block0 (t : Fin 4096) (k : Fin 1024) : (show FVec Ideal S4096x1024 .bf16 from iblk m c 0 (point i j)) (ix2 t k) = arg0 m c (ix2 t k) := by
  refine Eq.trans (?_ : _ = V m c main_v0 (ix2 t k)) (congrFun (entry0 m c) (ix2 t k))
  exact congrArg (V m c main_v0) (ix2_of (at_zero 4096 t (index0 i j).1) (at_zero 1024 k (index0 i j).2))

/-- The output gradient's block holds it whole. -/
theorem block1 (t : Fin 4096) (k : Fin 1024) : (show FVec Ideal S4096x1024 .bf16 from iblk m c 1 (point i j)) (ix2 t k) = arg2 m c (ix2 t k) := by
  refine Eq.trans (?_ : _ = V m c main_v1 (ix2 t k)) (congrFun (entry1 m c) (ix2 t k))
  exact congrArg (V m c main_v1) (ix2_of (at_zero 4096 t (index1 i j).1) (at_zero 1024 k (index1 i j).2))

/-- The product over the tokens. -/
theorem tile {x0 x1 : FVec Ideal S4096x1024 .bf16} {a d : Fin 4096 → Fin 1024 → EReal}
    (h0 : ∀ t k, x0 (ix2 t k) = a t k) (h1 : ∀ t k, x1 (ix2 t k) = d t k) (r s : Fin 1024) :
    (show FVec Ideal S1024x1024 .bf16 from out0_2 (F := Ideal) x0 x1) (ix2 r s) = ∑ t, a t r * d t s := by
  show out0_2 (F := Ideal) x0 x1 (ix2 r s) = _
  unfold out0_2
  rw [View.canon_unit_zero (S := S1024x1024) hz]
  simp only [View.ld_unit_zero (S := S4096x1024) hz]
  unfold k0_pay1
  pointwise
  simp only [h0, h1]

/-- The result array, entry by entry. -/
theorem array (i j : Fin 1) (r : Fin 1024) (s : Fin 1024) : (show FVec Ideal S1024x1024 .bf16 from (dats m 0 c).arrAt 2 cfg0.N) (ix2 r s)
    = ∑ t, arg0 m c (ix2 t r) * arg2 m c (ix2 t s) := by
  have e := congrFun (Value.blocks2 m c (point i j) (flush0_2 _)) (ix2 r s)
  rw [View.read_apply, Value.flushed2] at e
  have t := tile (block0 m c i j) (block1 m c i j) r s
  refine Eq.trans ?_ t
  refine Eq.trans ?_ e
  show (dats m 0 c).arrAt 2 cfg0.N _ = (dats m 0 c).arrAt 2 cfg0.N _
  refine congrArg ((dats m 0 c).arrAt 2 cfg0.N) (funext fun a => Fin.ext ?_)
  match a with
  | ⟨0, _⟩ => show (r : ℕ) = win0_2.index (point i j) 0 * 1024 + 1 * (r : ℕ); rw [(index2 i j).1]; omega
  | ⟨1, _⟩ => show (s : ℕ) = win0_2.index (point i j) 1 * 1024 + 1 * (s : ℕ); rw [(index2 i j).2]; omega

/-- The reference's result, entry by entry. -/
theorem reference (x0 x2 : FVec Ideal S4096x1024 .f32) (r s : Fin 1024) : Cert.Reference12Ideal.Read.val_main_v3 (F := Ideal) x0 x2 (ix2 r s)
      = ∑ t, x0 (ix2 t r) * x2 (ix2 t s) := by
  unfold Cert.Reference12Ideal.Read.val_main_v3 Cert.Reference12Ideal.Read.val_main_v2 Cert.Reference12Ideal.Read.val_main_v1
  pointwise
  exact Finset.sum_congr rfl fun t _ => mul_comm _ _

/-- The reference's result is the kernel's result array. -/
theorem agree (x0 x2 : FVec Ideal S4096x1024 .f32) (h0 : x0 = arg0 m c) (h2 : x2 = arg2 m c) :
    Cert.Reference12Ideal.Read.val_main_v3 (F := Ideal) x0 x2 = (show FVec Ideal S1024x1024 .bf16 from (dats m 0 c).arrAt 2 cfg0.N) := by
  funext i
  rw [← ix2_eta i, h0, h2]
  exact (reference _ _ (i 0) (i 1)).trans (array m c 0 0 (i 0) (i 1)).symm

end Cert.Kernel12Ideal.Tile

end

end
-- ==== Proof.ValueGrad.lean ====
/- The gradient of the values an output projection takes (`Kernel13`): each row panel of the result is the output gradient's rows against
   the matrix's rows, as in the reference's derivative. -/
module

public import proofs.«01_k».proof.Proof.Gen.Kernel13Ideal.Value
public import proofs.«01_k».proof.Proof.Gen.Reference13Ideal.Read
public import Idealize.ShloMosaic.Lib.Pointwise
public import Idealize.ShloMosaic.Lib.Claim
public import proofs.«01_k».proof.Proof.Blocks

@[expose] public section

noncomputable section

namespace Cert.Kernel13Ideal.Tile

open Cert.Kernel13Ideal Cert.Kernel13Ideal.Gen Cert.Blocks
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 2) (j : Fin 1) : Fin cfg0.N := ⟨i * 1 + j, by show _ < 2; omega⟩
/-- Row `r` of row block `i`: the rows fall into blocks … -/
def row (i : Fin 2) (r : Fin 2048) : Fin 4096 := ⟨i * 2048 + r, by omega⟩
/-- … and each lies in some block. -/
theorem row_surj (r : Fin 4096) : ∃ i s, row i s = r :=
  ⟨⟨r / 2048, by omega⟩, ⟨r % 2048, by omega⟩, Fin.ext (by show (r : ℕ) / 2048 * 2048 + r % 2048 = r; omega)⟩

/-- The output gradient's block at a point: the row panel. -/
theorem index0 : ∀ i j, win0_0.index (point i j) 0 = (i : ℕ) ∧ win0_0.index (point i j) 1 = 0 := by decide +kernel
/-- The matrix's block: the whole. -/
theorem index1 : ∀ i j, win0_1.index (point i j) 0 = 0 ∧ win0_1.index (point i j) 1 = 0 := by decide +kernel
/-- The result's block: the row panel. -/
theorem index2 : ∀ i j, win0_2.index (point i j) 0 = (i : ℕ) ∧ win0_2.index (point i j) 1 = 0 := by decide +kernel

variable (m : (ℓ : Loc nD τ sig) → Buf (Elt Ideal) ℓ) (c : Dev nD)

/-- The projected values, the matrix and the output gradient, as the device holds them. -/
abbrev arg0 : FVec Ideal S4096x1024 .f32 := m ((c : Thread nD τ).loc main_arg0)
abbrev arg1 : FVec Ideal S1024x1024 .f32 := m ((c : Thread nD τ).loc main_arg1)
abbrev arg2 : FVec Ideal S4096x1024 .f32 := m ((c : Thread nD τ).loc main_arg2)

/-- The host narrows the output gradient … -/
theorem entry0 : @Eq (FVec Ideal S4096x1024 .bf16) (V m c main_v0) (truncf .bf16 (arg2 m c) bitsLt_bf16_f32) := by
  entry_read
  rfl
/-- … and the matrix. -/
theorem entry1 : @Eq (FVec Ideal S1024x1024 .bf16) (V m c main_v1) (truncf .bf16 (arg1 m c) bitsLt_bf16_f32) := by
  entry_read
  rfl

variable (i : Fin 2) (j : Fin 1)

/-- The output gradient's block holds its rows. -/
theorem block0 (t : Fin 2048) (k : Fin 1024) : (show FVec Ideal S2048x1024 .bf16 from iblk m c 0 (point i j)) (ix2 t k) = arg2 m c (ix2 (row i t) k) := by
  refine Eq.trans (?_ : _ = V m c main_v0 (ix2 (row i t) k)) (congrFun (entry0 m c) (ix2 (row i t) k))
  exact congrArg (V m c main_v0) (ix2_of (at_row 2048 t (index0 i j).1) (at_zero 1024 k (index0 i j).2))

/-- The matrix's block holds it whole. -/
theorem block1 (t : Fin 1024) (k : Fin 1024) : (show FVec Ideal S1024x1024 .bf16 from iblk m c 1 (point i j)) (ix2 t k) = arg1 m c (ix2 t k) := by
  refine Eq.trans (?_ : _ = V m c main_v1 (ix2 t k)) (congrFun (entry1 m c) (ix2 t k))
  exact congrArg (V m c main_v1) (ix2_of (at_zero 1024 t (index1 i j).1) (at_zero 1024 k (index1 i j).2))

/-- One panel: the product over the columns. -/
theorem tile {x0 : FVec Ideal S2048x1024 .bf16} {x1 : FVec Ideal S1024x1024 .bf16} {a : Fin 2048 → Fin 1024 → EReal} {d : Fin 1024 → Fin 1024 → EReal}
    (h0 : ∀ t k, x0 (ix2 t k) = a t k) (h1 : ∀ t k, x1 (ix2 t k) = d t k) (r : Fin 2048) (s : Fin 1024) :
    (show FVec Ideal S2048x1024 .bf16 from out0_2 (F := Ideal) x0 x1) (ix2 r s) = ∑ k, a r k * d s k := by
  show out0_2 (F := Ideal) x0 x1 (ix2 r s) = _
  unfold out0_2
  rw [View.canon_unit_zero (S := S2048x1024) hz]
  simp only [View.ld_unit_zero (S := S2048x1024) hz, View.ld_unit_zero (S := S1024x1024) hz]
  unfold k0_pay1
  pointwise
  simp only [h0, h1]

/-- The result array, entry by entry. -/
theorem array (i : Fin 2) (j : Fin 1) (r : Fin 2048) (s : Fin 1024) : (show FVec Ideal S4096x1024 .bf16 from (dats m 0 c).arrAt 2 cfg0.N) (ix2 (row i r) s)
    = ∑ k, arg2 m c (ix2 (row i r) k) * arg1 m c (ix2 s k) := by
  have e := congrFun (Value.blocks2 m c (point i j) (flush0_2 _)) (ix2 r s)
  rw [View.read_apply, Value.flushed2] at e
  have t := tile (block0 m c i j) (block1 m c i j) r s
  refine Eq.trans ?_ t
  refine Eq.trans ?_ e
  show (dats m 0 c).arrAt 2 cfg0.N _ = (dats m 0 c).arrAt 2 cfg0.N _
  refine congrArg ((dats m 0 c).arrAt 2 cfg0.N) (funext fun a => Fin.ext ?_)
  match a with
  | ⟨0, _⟩ => show (i : ℕ) * 2048 + (r : ℕ) = win0_2.index (point i j) 0 * 2048 + 1 * (r : ℕ); rw [(index2 i j).1]; omega
  | ⟨1, _⟩ => show (s : ℕ) = win0_2.index (point i j) 1 * 1024 + 1 * (s : ℕ); rw [(index2 i j).2]; omega

/-- The reference's result, entry by entry. -/
theorem reference (x1 : FVec Ideal S1024x1024 .f32) (x2 : FVec Ideal S4096x1024 .f32) (r : Fin 4096) (s : Fin 1024) :
    Cert.Reference13Ideal.Read.val_main_v2 (F := Ideal) x1 x2 (ix2 r s) = ∑ k, x2 (ix2 r k) * x1 (ix2 s k) := by
  unfold Cert.Reference13Ideal.Read.val_main_v2 Cert.Reference13Ideal.Read.val_main_v1
  pointwise

/-- The reference's result is the kernel's result array. -/
theorem agree (x1 : FVec Ideal S1024x1024 .f32) (x2 : FVec Ideal S4096x1024 .f32) (h1 : x1 = arg1 m c) (h2 : x2 = arg2 m c) :
    Cert.Reference13Ideal.Read.val_main_v2 (F := Ideal) x1 x2 = (show FVec Ideal S4096x1024 .bf16 from (dats m 0 c).arrAt 2 cfg0.N) := by
  funext ij
  rw [← ix2_eta ij]
  obtain ⟨i, r, hr⟩ := row_surj (ij 0)
  rw [← hr, h1, h2]
  exact (reference _ _ (row i r) (ij 1)).trans (array m c i 0 r (ij 1)).symm

end Cert.Kernel13Ideal.Tile

end

end
-- ==== Proof.QkvGrad.lean ====
/- The gradient of the attention block's input projection (`Kernel14`): each slot of the result is the normed input against the slot's
   columns of the output gradient, summed over the tokens; the reference's derivative, cut into the same slots, is the same. -/
module

public import proofs.«01_k».proof.Proof.Gen.Kernel14Ideal.Value
public import proofs.«01_k».proof.Proof.Gen.Reference14Ideal.Read
public import Idealize.ShloMosaic.Lib.Pointwise
public import Idealize.ShloMosaic.Lib.Claim
public import proofs.«01_k».proof.Proof.Blocks

@[expose] public section

noncomputable section

namespace Cert.Kernel14Ideal.Tile

open Cert.Reference14Ideal.Read Cert.Blocks
open Cert.Kernel14Ideal Cert.Kernel14Ideal.Gen
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 1) (j : Fin 4) : Fin cfg0.N := ⟨i * 4 + j, by show _ < 4; omega⟩
/-- Column `s` of slot `j`. -/
def slot (j : Fin 4) (s : Fin 384) : Fin 1536 := ⟨j * 384 + s, by omega⟩

/-- The normed input's block at a point: the whole. -/
theorem index0 : ∀ i j, win0_0.index (point i j) 0 = 0 ∧ win0_0.index (point i j) 1 = 0 := by decide +kernel
/-- The output gradient's block: the slot's columns. -/
theorem index1 : ∀ i j, win0_1.index (point i j) 0 = 0 ∧ win0_1.index (point i j) 1 = (j : ℕ) := by decide +kernel
/-- The result's block: the slot. -/
theorem index2 : ∀ i j, win0_2.index (point i j) 0 = (j : ℕ) ∧ win0_2.index (point i j) 1 = 0 ∧ win0_2.index (point i j) 2 = 0 := by decide +kernel

variable (m : (ℓ : Loc nD τ sig) → Buf (Elt Ideal) ℓ) (c : Dev nD)

/-- The layer's input, the norm's gain, the weights and the output gradient, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x1536 .f32 := m ((c : Thread nD τ).loc main_arg2)
abbrev arg3 : FVec Ideal S4096x1536 .f32 := m ((c : Thread nD τ).loc main_arg3)
/-- The reference's normed input. -/
abbrev norm : FVec Ideal S4096x1024 .f32 := val_main_v11 (F := Ideal) (arg0 m c) (arg1 m c)

/-- The host computes the normed input as the reference does … -/
theorem entry0 : @Eq (FVec Ideal S4096x1024 .bf16) (V m c main_v12) (truncf .bf16 (norm m c) bitsLt_bf16_f32) := by
  entry_read
  rfl
/-- … and narrows the output gradient. -/
theorem entry1 : @Eq (FVec Ideal S4096x1536 .bf16) (V m c main_v13) (truncf .bf16 (arg3 m c) bitsLt_bf16_f32) := by
  entry_read
  rfl

variable (i : Fin 1) (j : Fin 4)

/-- The normed input's block holds it whole. -/
theorem block0 (t : Fin 4096) (k : Fin 1024) : (show FVec Ideal S4096x1024 .bf16 from iblk m c 0 (point i j)) (ix2 t k) = norm m c (ix2 t k) := by
  refine Eq.trans (?_ : _ = V m c main_v12 (ix2 t k)) (congrFun (entry0 m c) (ix2 t k))
  exact congrArg (V m c main_v12) (ix2_of (at_zero 4096 t (index0 i j).1) (at_zero 1024 k (index0 i j).2))

/-- The output gradient's block holds the slot's columns. -/
theorem block1 (t : Fin 4096) (k : Fin 384) : (show FVec Ideal S4096x384 .bf16 from iblk m c 1 (point i j)) (ix2 t k) = arg3 m c (ix2 t (slot j k)) := by
  refine Eq.trans (?_ : _ = V m c main_v13 (ix2 t (slot j k))) (congrFun (entry1 m c) (ix2 t (slot j k)))
  exact congrArg (V m c main_v13) (ix2_of (at_zero 4096 t (index1 i j).1) (at_row 384 k (index1 i j).2))

/-- One slot: the product over the tokens. -/
theorem tile {x0 : FVec Ideal S4096x1024 .bf16} {x1 : FVec Ideal S4096x384 .bf16} {a : Fin 4096 → Fin 1024 → EReal} {d : Fin 4096 → Fin 384 → EReal}
    (h0 : ∀ t k, x0 (ix2 t k) = a t k) (h1 : ∀ t k, x1 (ix2 t k) = d t k) (r : Fin 1024) (s : Fin 384) :
    (show FVec Ideal S1x1024x384 .bf16 from out0_2 (F := Ideal) x0 x1) (ix3 0 r s) = ∑ t, a t r * d t s := by
  show out0_2 (F := Ideal) x0 x1 (ix3 0 r s) = _
  unfold out0_2
  rw [View.canon_unit_zero (S := S1x1024x384) hz3]
  simp only [View.ld_unit_zero (S := S4096x1024) hz, View.ld_unit_zero (S := S4096x384) hz]
  unfold k0_pay1
  pointwise
  simp only [h0, h1]

/-- The result array, entry by entry. -/
theorem array (i : Fin 1) (j : Fin 4) (r : Fin 1024) (s : Fin 384) : (show FVec Ideal S4x1024x384 .bf16 from (dats m 0 c).arrAt 2 cfg0.N) (ix3 j r s)
    = ∑ t, norm m c (ix2 t r) * arg3 m c (ix2 t (slot j s)) := by
  have e := congrFun (Value.blocks2 m c (point i j) (flush0_2 _)) (ix3 0 r s)
  rw [View.read_apply, Value.flushed2] at e
  have t := tile (block0 m c i j) (block1 m c i j) r s
  refine Eq.trans ?_ t
  refine Eq.trans ?_ e
  show (dats m 0 c).arrAt 2 cfg0.N _ = (dats m 0 c).arrAt 2 cfg0.N _
  refine congrArg ((dats m 0 c).arrAt 2 cfg0.N) (funext fun a => Fin.ext ?_)
  match a with
  | ⟨0, _⟩ => show (j : ℕ) = win0_2.index (point i j) 0 * 1 + 1 * 0; rw [(index2 i j).1]; omega
  | ⟨1, _⟩ => show (r : ℕ) = win0_2.index (point i j) 1 * 1024 + 1 * (r : ℕ); rw [(index2 i j).2.1]; omega
  | ⟨2, _⟩ => show (s : ℕ) = win0_2.index (point i j) 2 * 384 + 1 * (s : ℕ); rw [(index2 i j).2.2]; omega

/-- The reference's result, entry by entry. -/
theorem reference (x0 : FVec Ideal S4096x1024 .f32) (x1 : FVec Ideal S1x1024 .f32) (x3 : FVec Ideal S4096x1536 .f32)
    (l : Fin 4) (r : Fin 1024) (s : Fin 384) : val_main_v17 (F := Ideal) x0 x1 x3 (ix3 l r s)
      = ∑ t, val_main_v11 (F := Ideal) x0 x1 (ix2 t r) * x3 (ix2 t (slot l s)) := by
  unfold val_main_v17 val_main_v16 val_main_v15
    val_main_v14 val_main_v13
  pointwise
  exact Finset.sum_congr rfl fun t _ => mul_comm _ _

/-- The reference's result is the kernel's result array. -/
theorem agree (x0 : FVec Ideal S4096x1024 .f32) (x1 : FVec Ideal S1x1024 .f32) (x3 : FVec Ideal S4096x1536 .f32)
    (h0 : x0 = arg0 m c) (h1 : x1 = arg1 m c) (h3 : x3 = arg3 m c) :
    val_main_v17 (F := Ideal) x0 x1 x3 = (show FVec Ideal S4x1024x384 .bf16 from (dats m 0 c).arrAt 2 cfg0.N) := by
  funext i
  rw [← ix3_eta i, h0, h1, h3]
  exact (reference _ _ _ (i 0) (i 1) (i 2)).trans (array m c 0 (i 0) (i 1) (i 2)).symm

end Cert.Kernel14Ideal.Tile

end

end
-- ==== Proof.RgInGrad.lean ====
/- The gradient of the recurrent block's input projection (`Kernel15`): each slot of the result is the normed input against the slot's
   columns of the output gradient, summed over the tokens; the reference's derivative, cut into the same slots, is the same. -/
module

public import proofs.«01_k».proof.Proof.Gen.Kernel15Ideal.Value
public import proofs.«01_k».proof.Proof.Gen.Reference15Ideal.Read
public import Idealize.ShloMosaic.Lib.Pointwise
public import Idealize.ShloMosaic.Lib.Claim
public import proofs.«01_k».proof.Proof.Blocks

@[expose] public section

noncomputable section

namespace Cert.Kernel15Ideal.Tile

open Cert.Reference15Ideal.Read Cert.Blocks
open Cert.Kernel15Ideal Cert.Kernel15Ideal.Gen
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 1) (j : Fin 4) : Fin cfg0.N := ⟨i * 4 + j, by show _ < 4; omega⟩
/-- Column `s` of slot `j`. -/
def slot (j : Fin 4) (s : Fin 512) : Fin 2048 := ⟨j * 512 + s, by omega⟩

/-- The normed input's block at a point: the whole. -/
theorem index0 : ∀ i j, win0_0.index (point i j) 0 = 0 ∧ win0_0.index (point i j) 1 = 0 := by decide +kernel
/-- The output gradient's block: the slot's columns. -/
theorem index1 : ∀ i j, win0_1.index (point i j) 0 = 0 ∧ win0_1.index (point i j) 1 = (j : ℕ) := by decide +kernel
/-- The result's block: the slot. -/
theorem index2 : ∀ i j, win0_2.index (point i j) 0 = (j : ℕ) ∧ win0_2.index (point i j) 1 = 0 ∧ win0_2.index (point i j) 2 = 0 := by decide +kernel

variable (m : (ℓ : Loc nD τ sig) → Buf (Elt Ideal) ℓ) (c : Dev nD)

/-- The layer's input, the norm's gain, the weights and the output gradient, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x2048 .f32 := m ((c : Thread nD τ).loc main_arg2)
abbrev arg3 : FVec Ideal S4096x2048 .f32 := m ((c : Thread nD τ).loc main_arg3)
/-- The reference's normed input. -/
abbrev norm : FVec Ideal S4096x1024 .f32 := val_main_v11 (F := Ideal) (arg0 m c) (arg1 m c)

/-- The host computes the normed input as the reference does … -/
theorem entry0 : @Eq (FVec Ideal S4096x1024 .bf16) (V m c main_v12) (truncf .bf16 (norm m c) bitsLt_bf16_f32) := by
  entry_read
  rfl
/-- … and narrows the output gradient. -/
theorem entry1 : @Eq (FVec Ideal S4096x2048 .bf16) (V m c main_v13) (truncf .bf16 (arg3 m c) bitsLt_bf16_f32) := by
  entry_read
  rfl

variable (i : Fin 1) (j : Fin 4)

/-- The normed input's block holds it whole. -/
theorem block0 (t : Fin 4096) (k : Fin 1024) : (show FVec Ideal S4096x1024 .bf16 from iblk m c 0 (point i j)) (ix2 t k) = norm m c (ix2 t k) := by
  refine Eq.trans (?_ : _ = V m c main_v12 (ix2 t k)) (congrFun (entry0 m c) (ix2 t k))
  exact congrArg (V m c main_v12) (ix2_of (at_zero 4096 t (index0 i j).1) (at_zero 1024 k (index0 i j).2))

/-- The output gradient's block holds the slot's columns. -/
theorem block1 (t : Fin 4096) (k : Fin 512) : (show FVec Ideal S4096x512 .bf16 from iblk m c 1 (point i j)) (ix2 t k) = arg3 m c (ix2 t (slot j k)) := by
  refine Eq.trans (?_ : _ = V m c main_v13 (ix2 t (slot j k))) (congrFun (entry1 m c) (ix2 t (slot j k)))
  exact congrArg (V m c main_v13) (ix2_of (at_zero 4096 t (index1 i j).1) (at_row 512 k (index1 i j).2))

/-- One slot: the product over the tokens. -/
theorem tile {x0 : FVec Ideal S4096x1024 .bf16} {x1 : FVec Ideal S4096x512 .bf16} {a : Fin 4096 → Fin 1024 → EReal} {d : Fin 4096 → Fin 512 → EReal}
    (h0 : ∀ t k, x0 (ix2 t k) = a t k) (h1 : ∀ t k, x1 (ix2 t k) = d t k) (r : Fin 1024) (s : Fin 512) :
    (show FVec Ideal S1x1024x512 .bf16 from out0_2 (F := Ideal) x0 x1) (ix3 0 r s) = ∑ t, a t r * d t s := by
  show out0_2 (F := Ideal) x0 x1 (ix3 0 r s) = _
  unfold out0_2
  rw [View.canon_unit_zero (S := S1x1024x512) hz3]
  simp only [View.ld_unit_zero (S := S4096x1024) hz, View.ld_unit_zero (S := S4096x512) hz]
  unfold k0_pay1
  pointwise
  simp only [h0, h1]

/-- The result array, entry by entry. -/
theorem array (i : Fin 1) (j : Fin 4) (r : Fin 1024) (s : Fin 512) : (show FVec Ideal S4x1024x512 .bf16 from (dats m 0 c).arrAt 2 cfg0.N) (ix3 j r s)
    = ∑ t, norm m c (ix2 t r) * arg3 m c (ix2 t (slot j s)) := by
  have e := congrFun (Value.blocks2 m c (point i j) (flush0_2 _)) (ix3 0 r s)
  rw [View.read_apply, Value.flushed2] at e
  have t := tile (block0 m c i j) (block1 m c i j) r s
  refine Eq.trans ?_ t
  refine Eq.trans ?_ e
  show (dats m 0 c).arrAt 2 cfg0.N _ = (dats m 0 c).arrAt 2 cfg0.N _
  refine congrArg ((dats m 0 c).arrAt 2 cfg0.N) (funext fun a => Fin.ext ?_)
  match a with
  | ⟨0, _⟩ => show (j : ℕ) = win0_2.index (point i j) 0 * 1 + 1 * 0; rw [(index2 i j).1]; omega
  | ⟨1, _⟩ => show (r : ℕ) = win0_2.index (point i j) 1 * 1024 + 1 * (r : ℕ); rw [(index2 i j).2.1]; omega
  | ⟨2, _⟩ => show (s : ℕ) = win0_2.index (point i j) 2 * 512 + 1 * (s : ℕ); rw [(index2 i j).2.2]; omega

/-- The reference's result, entry by entry. -/
theorem reference (x0 : FVec Ideal S4096x1024 .f32) (x1 : FVec Ideal S1x1024 .f32) (x3 : FVec Ideal S4096x2048 .f32)
    (l : Fin 4) (r : Fin 1024) (s : Fin 512) : val_main_v17 (F := Ideal) x0 x1 x3 (ix3 l r s)
      = ∑ t, val_main_v11 (F := Ideal) x0 x1 (ix2 t r) * x3 (ix2 t (slot l s)) := by
  unfold val_main_v17 val_main_v16 val_main_v15
    val_main_v14 val_main_v13
  pointwise
  exact Finset.sum_congr rfl fun t _ => mul_comm _ _

/-- The reference's result is the kernel's result array. -/
theorem agree (x0 : FVec Ideal S4096x1024 .f32) (x1 : FVec Ideal S1x1024 .f32) (x3 : FVec Ideal S4096x2048 .f32)
    (h0 : x0 = arg0 m c) (h1 : x1 = arg1 m c) (h3 : x3 = arg3 m c) :
    val_main_v17 (F := Ideal) x0 x1 x3 = (show FVec Ideal S4x1024x512 .bf16 from (dats m 0 c).arrAt 2 cfg0.N) := by
  funext i
  rw [← ix3_eta i, h0, h1, h3]
  exact (reference _ _ _ (i 0) (i 1) (i 2)).trans (array m c 0 (i 0) (i 1) (i 2)).symm

end Cert.Kernel15Ideal.Tile

end

end
-- ==== Proof.NormQkvStored.lean ====
/- What one grid point of the gradient through the attention block's input projection and norm (`Kernel16`) leaves in its three staging blocks, as functions of its five input blocks (the output gradient,
   the matrix in its slots, the layer's input, the gradient passed by it, the norm's gain) and, for the gain's gradient, of what the block held. -/
module

public import proofs.«01_k».proof.Proof.Gen.Kernel16Ideal.Value
public import Idealize.ShloMosaic.Lib.Pipeline.ValueKit.Tiles
public import Idealize.ShloMosaic.Lib.Tactic

@[expose] public section

noncomputable section

namespace Cert.Kernel16Ideal.Stored

open Cert.Kernel16Ideal Cert.Kernel16Ideal.Gen Idealize.ShloMosaic Idealize.ShloMosaic.TcCoe Idealize.SL.Sem

variable {F : FTy → Type} [FloatOps F]

/-- The rectangles start at the origin. -/
theorem hz : (![0, 0] : Fin 2 → Nat) = fun _ => 0 := funext fun a => by fin_cases a <;> rfl

/-- Column slot 0 of the output gradient's rows … -/
abbrev cols0 (x : Vec F S512x1536 .bf16) : Vec F S512x384 .bf16 := View.ld x (Rect.unit (s := S512x1536) ![0, 0] S512x384.size inb_S512x1536_S512x384_0_0)
/-- … and slot 0 of the matrix. -/
abbrev slot0 (x : Vec F S4x1024x384 .bf16) : Vec F S1x1024x384 .bf16 := View.ld x (Rect.unit (s := S4x1024x384) ![0, 0, 0] S1x1024x384.size inb_S4x1024x384_S1x1024x384_0_0_0)
/-- Column slot 1 of the output gradient's rows … -/
abbrev cols1 (x : Vec F S512x1536 .bf16) : Vec F S512x384 .bf16 := View.ld x (Rect.unit (s := S512x1536) ![0, 384] S512x384.size inb_S512x1536_S512x384_0_384)
/-- … and slot 1 of the matrix. -/
abbrev slot1 (x : Vec F S4x1024x384 .bf16) : Vec F S1x1024x384 .bf16 := View.ld x (Rect.unit (s := S4x1024x384) ![1, 0, 0] S1x1024x384.size inb_S4x1024x384_S1x1024x384_1_0_0)
/-- Column slot 2 of the output gradient's rows … -/
abbrev cols2 (x : Vec F S512x1536 .bf16) : Vec F S512x384 .bf16 := View.ld x (Rect.unit (s := S512x1536) ![0, 768] S512x384.size inb_S512x1536_S512x384_0_768)
/-- … and slot 2 of the matrix. -/
abbrev slot2 (x : Vec F S4x1024x384 .bf16) : Vec F S1x1024x384 .bf16 := View.ld x (Rect.unit (s := S4x1024x384) ![2, 0, 0] S1x1024x384.size inb_S4x1024x384_S1x1024x384_2_0_0)
/-- Column slot 3 of the output gradient's rows … -/
abbrev cols3 (x : Vec F S512x1536 .bf16) : Vec F S512x384 .bf16 := View.ld x (Rect.unit (s := S512x1536) ![0, 1152] S512x384.size inb_S512x1536_S512x384_0_1152)
/-- … and slot 3 of the matrix. -/
abbrev slot3 (x : Vec F S4x1024x384 .bf16) : Vec F S1x1024x384 .bf16 := View.ld x (Rect.unit (s := S4x1024x384) ![3, 0, 0] S1x1024x384.size inb_S4x1024x384_S1x1024x384_3_0_0)

/-- The gradient of the normed and scaled input: the four slots' products, summed. -/
abbrev prod (x0 : Vec F S512x1536 .bf16) (x1 : Vec F S4x1024x384 .bf16) : FVec F S512x1024 .f32 :=
  k0_pay7 (cols0 x0) (slot0 x1) (cols1 x0) (slot1 x1) (cols2 x0) (slot2 x1) (cols3 x0) (slot3 x1)

/-- The input's gradient at the first point. -/
theorem out_A_5 (c : Dev nD) (i : grid0.Coords) (arg2 : Memref sig .tc .vmem S512x1536 .bf16) (harg2 : arg2.IsWhole) (arg3 : Memref sig .tc .vmem S4x1024x384 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i)
    (x0 : Vec F S512x1536 .bf16) (x1 : Vec F S4x1024x384 .bf16) (x2 : Vec F S512x1024 .f32) (x3 : Vec F S512x1024 .f32) (x4 : Vec F S1x1024 .f32) :
    out0_A_5 c i arg2 harg2 arg3 harg3 arg4 harg4 arg5 harg5 arg6 harg6 arg7 harg7 arg8 harg8 arg9 harg9 hc0 x0 x1 x2 x3 x4 = k0_pay3 (prod x0 x1) x2 x4 x3 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The input's gradient, narrowed, at the first point. -/
theorem out_A_6 (c : Dev nD) (i : grid0.Coords) (arg2 : Memref sig .tc .vmem S512x1536 .bf16) (harg2 : arg2.IsWhole) (arg3 : Memref sig .tc .vmem S4x1024x384 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i)
    (x0 : Vec F S512x1536 .bf16) (x1 : Vec F S4x1024x384 .bf16) (x2 : Vec F S512x1024 .f32) (x3 : Vec F S512x1024 .f32) (x4 : Vec F S1x1024 .f32) :
    out0_A_6 c i arg2 harg2 arg3 harg3 arg4 harg4 arg5 harg5 arg6 harg6 arg7 harg7 arg8 harg8 arg9 harg9 hc0 x0 x1 x2 x3 x4 = k0_pay4 (prod x0 x1) x2 x4 x3 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The gain's gradient at the first point. -/
theorem out_A_7 (c : Dev nD) (i : grid0.Coords) (arg2 : Memref sig .tc .vmem S512x1536 .bf16) (harg2 : arg2.IsWhole) (arg3 : Memref sig .tc .vmem S4x1024x384 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i)
    (x0 : Vec F S512x1536 .bf16) (x1 : Vec F S4x1024x384 .bf16) (x2 : Vec F S512x1024 .f32) (x3 : Vec F S512x1024 .f32) (x4 : Vec F S1x1024 .f32) :
    out0_A_7 c i arg2 harg2 arg3 harg3 arg4 harg4 arg5 harg5 arg6 harg6 arg7 harg7 arg8 harg8 arg9 harg9 hc0 x0 x1 x2 x3 x4 = k0_pay5 (prod x0 x1) x2 k0_pay6 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) hz]
  simp only [View.readAt_eq_ld, harg2.read_unread, harg3.read_unread, harg4.read_unread, harg5.read_unread, harg6.read_unread, harg9.read_unread, View.ld_unit_zero (S := S512x1024) hz, View.ld_unit_zero (S := S1x1024) hz, View.readCov_unit_zero (S := S1x1024) _ hz]

/-- The input's gradient at a later point. -/
theorem out_B_5 (c : Dev nD) (i : grid0.Coords) (arg2 : Memref sig .tc .vmem S512x1536 .bf16) (harg2 : arg2.IsWhole) (arg3 : Memref sig .tc .vmem S4x1024x384 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i)
    (x0 : Vec F S512x1536 .bf16) (x1 : Vec F S4x1024x384 .bf16) (x2 : Vec F S512x1024 .f32) (x3 : Vec F S512x1024 .f32) (x4 : Vec F S1x1024 .f32) (xo7 : Vec F S1x1024 .f32) :
    out0_B_5 c i arg2 harg2 arg3 harg3 arg4 harg4 arg5 harg5 arg6 harg6 arg7 harg7 arg8 harg8 arg9 harg9 hc0 x0 x1 x2 x3 x4 xo7 = k0_pay3 (prod x0 x1) x2 x4 x3 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo7)]
  unfold kernelRun0_B
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The input's gradient, narrowed, at a later point. -/
theorem out_B_6 (c : Dev nD) (i : grid0.Coords) (arg2 : Memref sig .tc .vmem S512x1536 .bf16) (harg2 : arg2.IsWhole) (arg3 : Memref sig .tc .vmem S4x1024x384 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i)
    (x0 : Vec F S512x1536 .bf16) (x1 : Vec F S4x1024x384 .bf16) (x2 : Vec F S512x1024 .f32) (x3 : Vec F S512x1024 .f32) (x4 : Vec F S1x1024 .f32) (xo7 : Vec F S1x1024 .f32) :
    out0_B_6 c i arg2 harg2 arg3 harg3 arg4 harg4 arg5 harg5 arg6 harg6 arg7 harg7 arg8 harg8 arg9 harg9 hc0 x0 x1 x2 x3 x4 xo7 = k0_pay4 (prod x0 x1) x2 x4 x3 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo7)]
  unfold kernelRun0_B
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The gain's gradient at a later point. -/
theorem out_B_7 (c : Dev nD) (i : grid0.Coords) (arg2 : Memref sig .tc .vmem S512x1536 .bf16) (harg2 : arg2.IsWhole) (arg3 : Memref sig .tc .vmem S4x1024x384 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i)
    (x0 : Vec F S512x1536 .bf16) (x1 : Vec F S4x1024x384 .bf16) (x2 : Vec F S512x1024 .f32) (x3 : Vec F S512x1024 .f32) (x4 : Vec F S1x1024 .f32) (xo7 : Vec F S1x1024 .f32) :
    out0_B_7 c i arg2 harg2 arg3 harg3 arg4 harg4 arg5 harg5 arg6 harg6 arg7 harg7 arg8 harg8 arg9 harg9 hc0 x0 x1 x2 x3 x4 xo7 = k0_pay5 (prod x0 x1) x2 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo7)]
  unfold kernelRun0_B
  dsimp only
  sl_unfold_words
  rw [View.canon_unit_zero (S := S1x1024) hz]
  simp only [View.readAt_eq_ld, harg2.read_unread, harg3.read_unread, harg4.read_unread, harg5.read_unread, harg6.read_unread, harg9.read_unread, View.ld_unit_zero (S := S512x1024) hz, View.ld_unit_zero (S := S1x1024) hz]

end Cert.Kernel16Ideal.Stored

end

end
-- ==== Proof.NormQkvGrad.lean ====
/- The gradient through the attention block's input projection and norm (`Kernel16`): the output gradient against the matrix, carried through the norm and added to the gradient passed
   by, and the gain's gradient, added up over the row panels, are those of the reference's derivative. -/
module

public import proofs.«01_k».proof.Proof.Gen.Kernel16Ideal.Value
public import proofs.«01_k».proof.Proof.Gen.Reference16Ideal.Read
public import Idealize.ShloMosaic.Lib.Pointwise
public import Idealize.ShloMosaic.Lib.Claim
public import proofs.«01_k».proof.Proof.NormQkvStored
public import proofs.«01_k».proof.Proof.NormMath
public import proofs.«01_k».proof.Proof.Blocks

@[expose] public section

noncomputable section

namespace Cert.Kernel16Ideal.Tile

open Cert.Reference16Ideal.Read Cert.Blocks
open Cert.Kernel16Ideal Cert.Kernel16Ideal.Gen Cert.Kernel16Ideal.Stored Cert.NormMath
open Idealize.ShloMosaic Idealize.ShloMosaic.TcCoe Idealize.SL.Sem

/-- The grid point of row block `i` and column block `j`. -/
def point (i : Fin 8) (j : Fin 1) : Fin cfg0.N := ⟨i * 1 + j, by show _ < 8; omega⟩
/-- Row `r` of row block `i`: the rows fall into blocks … -/
def row (i : Fin 8) (r : Fin 512) : Fin 4096 := ⟨i * 512 + r, by omega⟩
/-- … and each lies in some block. -/
theorem row_surj (r : Fin 4096) : ∃ i s, row i s = r :=
  ⟨⟨r / 512, by omega⟩, ⟨r % 512, by omega⟩, Fin.ext (by show (r : ℕ) / 512 * 512 + r % 512 = r; omega)⟩

/-- Column `k` of slot `l`. -/
def col (l : Fin 4) (k : Fin 384) : Fin 1536 := ⟨l * 384 + k, by omega⟩

/-- The output gradient's block at a point: the row panel. -/
theorem index0 : ∀ i j, win0_0.index (point i j) 0 = (i : ℕ) ∧ win0_0.index (point i j) 1 = 0 := by decide +kernel
/-- The matrix's block: the whole. -/
theorem index1 : ∀ i j, win0_1.index (point i j) 0 = 0 ∧ win0_1.index (point i j) 1 = 0 ∧ win0_1.index (point i j) 2 = 0 := by decide +kernel
/-- The input's block: the row panel. -/
theorem index2 : ∀ i j, win0_2.index (point i j) 0 = (i : ℕ) ∧ win0_2.index (point i j) 1 = 0 := by decide +kernel
/-- The passed gradient's block: the row panel. -/
theorem index3 : ∀ i j, win0_3.index (point i j) 0 = (i : ℕ) ∧ win0_3.index (point i j) 1 = 0 := by decide +kernel
/-- The gain's block: the whole. -/
theorem index4 : ∀ i j, win0_4.index (point i j) 0 = 0 ∧ win0_4.index (point i j) 1 = 0 := by decide +kernel
/-- The input gradient's block: the row panel. -/
theorem index5 : ∀ i j, win0_5.index (point i j) 0 = (i : ℕ) ∧ win0_5.index (point i j) 1 = 0 := by decide +kernel
/-- The narrowed input gradient's block: the row panel. -/
theorem index6 : ∀ i j, win0_6.index (point i j) 0 = (i : ℕ) ∧ win0_6.index (point i j) 1 = 0 := by decide +kernel
/-- The gain gradient's block: the whole. -/
theorem index7 : ∀ i j, win0_7.index (point i j) 0 = 0 ∧ win0_7.index (point i j) 1 = 0 := by decide +kernel

/-- A column slot of a block of rows. -/
theorem cols_apply {X : FVec Ideal S512x1536 .bf16} {a : Fin 512 → Fin 1536 → EReal} (h : ∀ r k, X (ix2 r k) = a r k) (l : Fin 4)
    (inb : ∀ i, (![0, (l : ℕ) * 384] : Fin 2 → ℕ) i + S512x384.size i ≤ S512x1536.size i) (r : Fin 512) (k : Fin 384) :
    (show FVec Ideal S512x384 .bf16 from View.ld (Val := Elt Ideal) (e' := .bf16) X (Rect.unit (s := S512x1536) ![0, (l : ℕ) * 384] S512x384.size inb)) (ix2 r k) = a r (col l k) :=
  (View.ld_unit_apply_of (Val := Elt Ideal) (e := .bf16) X ![0, (l : ℕ) * 384] S512x384.size inb (ix2 r k) (ix2 r (col l k)) (by
    intro i
    match i with
    | ⟨0, _⟩ => exact (Nat.zero_add _).symm
    | ⟨1, _⟩ => rfl)).trans (h _ _)

/-- A slot of the matrix. -/
theorem slot_apply {X : FVec Ideal S4x1024x384 .bf16} {w : Fin 4 → Fin 1024 → Fin 384 → EReal} (h : ∀ l t k, X (ix3 l t k) = w l t k) (l : Fin 4)
    (inb : ∀ i, (![(l : ℕ), 0, 0] : Fin 3 → ℕ) i + S1x1024x384.size i ≤ S4x1024x384.size i) (t : Fin 1024) (k : Fin 384) :
    (show FVec Ideal S1x1024x384 .bf16 from View.ld (Val := Elt Ideal) (e' := .bf16) X (Rect.unit (s := S4x1024x384) ![(l : ℕ), 0, 0] S1x1024x384.size inb)) (ix3 0 t k) = w l t k :=
  (View.ld_unit_apply_of (Val := Elt Ideal) (e := .bf16) X ![(l : ℕ), 0, 0] S1x1024x384.size inb (ix3 0 t k) (ix3 l t k) (by
    intro i
    match i with
    | ⟨0, _⟩ => rfl
    | ⟨1, _⟩ => exact (Nat.zero_add _).symm
    | ⟨2, _⟩ => exact (Nat.zero_add _).symm)).trans (h _ _ _)

/-- The payload of the four products. -/
theorem pay7_apply (a b c d : FVec Ideal S512x384 .bf16) (a' b' c' d' : FVec Ideal S1x1024x384 .bf16) (r : Fin 512) (s : Fin 1024) :
    k0_pay7 (F := Ideal) a a' b b' c c' d d' (ix2 r s) = ∑ k, a (ix2 r k) * a' (ix3 0 s k) + ∑ k, b (ix2 r k) * b' (ix3 0 s k)
      + ∑ k, c (ix2 r k) * c' (ix3 0 s k) + ∑ k, d (ix2 r k) * d' (ix3 0 s k) := by
  unfold k0_pay7
  pointwise

/-- The four slots' products, summed. -/
theorem prod_apply {x0 : FVec Ideal S512x1536 .bf16} {x1 : FVec Ideal S4x1024x384 .bf16} {a : Fin 512 → Fin 1536 → EReal} {w : Fin 4 → Fin 1024 → Fin 384 → EReal}
    (h0 : ∀ r k, x0 (ix2 r k) = a r k) (h1 : ∀ l t k, x1 (ix3 l t k) = w l t k) (r : Fin 512) (s : Fin 1024) :
    prod (F := Ideal) x0 x1 (ix2 r s) = ∑ l, ∑ k, a r (col l k) * w l s k := by
  have a0 := cols_apply h0 0 inb_S512x1536_S512x384_0_0
  have a1 := cols_apply h0 1 inb_S512x1536_S512x384_0_384
  have a2 := cols_apply h0 2 inb_S512x1536_S512x384_0_768
  have a3 := cols_apply h0 3 inb_S512x1536_S512x384_0_1152
  have b0 := slot_apply h1 0 inb_S4x1024x384_S1x1024x384_0_0_0
  have b1 := slot_apply h1 1 inb_S4x1024x384_S1x1024x384_1_0_0
  have b2 := slot_apply h1 2 inb_S4x1024x384_S1x1024x384_2_0_0
  have b3 := slot_apply h1 3 inb_S4x1024x384_S1x1024x384_3_0_0
  rw [Fin.sum_univ_four]
  refine Eq.trans (pay7_apply _ _ _ _ _ _ _ _ r s) ?_
  exact congrArg₂ (· + ·) (congrArg₂ (· + ·) (congrArg₂ (· + ·)
    (Finset.sum_congr rfl fun k _ => congrArg₂ (· * ·) (a0 r k) (b0 s k)) (Finset.sum_congr rfl fun k _ => congrArg₂ (· * ·) (a1 r k) (b1 s k)))
    (Finset.sum_congr rfl fun k _ => congrArg₂ (· * ·) (a2 r k) (b2 s k))) (Finset.sum_congr rfl fun k _ => congrArg₂ (· * ·) (a3 r k) (b3 s k))

/-- The stored input gradient, from the pointwise readings of what it takes. -/
theorem pay3_apply {v x y : FVec Ideal S512x1024 .f32} {g : FVec Ideal S1x1024 .f32} {D X Y : Fin 512 → Fin 1024 → EReal} {G : Fin 1024 → EReal}
    (hv : ∀ r s, v (ix2 r s) = D r s) (hx : ∀ r s, x (ix2 r s) = X r s) (hg : ∀ s, g (ix2 0 s) = G s) (hy : ∀ r s, y (ix2 r s) = Y r s)
    (r : Fin 512) (s : Fin 1024) : k0_pay3 (F := Ideal) v x g y (ix2 r s) = kernelForm (X r) (D r) G (Y r s) s := by
  unfold k0_pay3 k0_pay2 k0_pay1 kernelForm mean
  pointwise
  simp only [hv, hx, hg, hy]

/-- … and narrowed. -/
theorem pay4_apply {v x y : FVec Ideal S512x1024 .f32} {g : FVec Ideal S1x1024 .f32} {D X Y : Fin 512 → Fin 1024 → EReal} {G : Fin 1024 → EReal}
    (hv : ∀ r s, v (ix2 r s) = D r s) (hx : ∀ r s, x (ix2 r s) = X r s) (hg : ∀ s, g (ix2 0 s) = G s) (hy : ∀ r s, y (ix2 r s) = Y r s)
    (r : Fin 512) (s : Fin 1024) : k0_pay4 (F := Ideal) v x g y (ix2 r s) = kernelForm (X r) (D r) G (Y r s) s := by
  refine Eq.trans ?_ (pay3_apply hv hx hg hy r s)
  unfold k0_pay4
  pointwise

/-- The gain gradient's block: what it held and the panel's sum. -/
theorem pay5_apply {v x : FVec Ideal S512x1024 .f32} {o : FVec Ideal S1x1024 .f32} {D X : Fin 512 → Fin 1024 → EReal} {O : Fin 1024 → EReal}
    (hv : ∀ r s, v (ix2 r s) = D r s) (hx : ∀ r s, x (ix2 r s) = X r s) (ho : ∀ s, o (ix2 0 s) = O s)
    (s : Fin 1024) : k0_pay5 (F := Ideal) v x o (ix2 0 s) = O s + ∑ r, D r s * (X r s * Ideal.rsqrt (mean (X r))) := by
  unfold k0_pay5 k0_pay2 k0_pay1 mean
  pointwise
  simp only [hv, hx, ho]

/-- It starts at zero. -/
theorem pay6_apply (s : Fin 1024) : k0_pay6 (F := Ideal) (ix2 0 s) = 0 := by
  unfold k0_pay6
  pointwise

variable (m : (ℓ : Loc nD τ sig) → Buf (Elt Ideal) ℓ) (c : Dev nD)

/-- The layer's input, the norm's gain, the matrix, the output gradient and the passed gradient, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x1536 .f32 := m ((c : Thread nD τ).loc main_arg2)
abbrev arg3 : FVec Ideal S4096x1536 .f32 := m ((c : Thread nD τ).loc main_arg3)
abbrev arg4 : FVec Ideal S4096x1024 .f32 := m ((c : Thread nD τ).loc main_arg4)
/-- The reference's gradient of the normed and scaled input. -/
abbrev dh : FVec Ideal S4096x1024 .f32 := val_main_v16 (F := Ideal) (arg2 m c) (arg3 m c)

/-- The host narrows the output gradient … -/
theorem entry0 : @Eq (FVec Ideal S4096x1536 .bf16) (V m c main_v0) (truncf .bf16 (arg3 m c) bitsLt_bf16_f32) := by
  entry_read
  rfl
/-- … and cuts the matrix into slots of columns. -/
theorem entry1 : @Eq (FVec Ideal S4x1024x384 .bf16) (V m c main_v3) (truncf .bf16 (transpose S4x1024x384 [1, 0, 2]
    (shapeCast S1024x4x384 (arg2 m c) shapeCasts_S1024x1536_S1024x4x384) transposes_S1024x4x384_S4x1024x384_1_0_2) bitsLt_bf16_f32) := by
  entry_read
  rfl
/-- The matrix in slots, entry by entry. -/
theorem slots (l : Fin 4) (t : Fin 1024) (k : Fin 384) : V m c main_v3 (ix3 l t k) = arg2 m c (ix2 t (col l k)) := by
  refine (congrFun (entry1 m c) (ix3 l t k)).trans ?_
  pointwise
  rfl
/-- The input, … -/
theorem entry2 : @Eq (FVec Ideal S4096x1024 .f32) (V m c main_arg0) (arg0 m c) := by
  entry_read
  rfl
/-- … the passed gradient … -/
theorem entry3 : @Eq (FVec Ideal S4096x1024 .f32) (V m c main_arg4) (arg4 m c) := by
  entry_read
  rfl
/-- … and the gain are the arguments. -/
theorem entry4 : @Eq (FVec Ideal S1x1024 .f32) (V m c main_arg1) (arg1 m c) := by
  entry_read
  rfl

variable (i : Fin 8) (j : Fin 1)

/-- The output gradient's block holds its rows. -/
theorem block0 (t : Fin 512) (k : Fin 1536) : (show FVec Ideal S512x1536 .bf16 from iblk m c 0 (point i j)) (ix2 t k) = arg3 m c (ix2 (row i t) k) := by
  refine Eq.trans (?_ : _ = V m c main_v0 (ix2 (row i t) k)) (congrFun (entry0 m c) (ix2 (row i t) k))
  exact congrArg (V m c main_v0) (ix2_of (at_row 512 t (index0 i j).1) (at_zero 1536 k (index0 i j).2))

/-- The matrix's block holds its slots. -/
theorem block1 (l : Fin 4) (t : Fin 1024) (k : Fin 384) : (show FVec Ideal S4x1024x384 .bf16 from iblk m c 1 (point i j)) (ix3 l t k) = arg2 m c (ix2 t (col l k)) := by
  refine Eq.trans ?_ (slots m c l t k : V m c main_v3 (ix3 l t k) = _)
  unfold iblk
  show ((cfg0.win 1).blk (point i j)).view.read (Elt Ideal) _ (ix3 l t k) = _
  rw [View.read_apply]
  show V m c main_v3 _ = V m c main_v3 _
  refine congrArg (V m c main_v3) (funext fun a => Fin.ext ?_)
  match a with
  | ⟨0, _⟩ => show win0_1.index (point i j) 0 * 4 + 1 * (l : ℕ) = (l : ℕ); rw [(index1 i j).1]; omega
  | ⟨1, _⟩ => show win0_1.index (point i j) 1 * 1024 + 1 * (t : ℕ) = (t : ℕ); rw [(index1 i j).2.1]; omega
  | ⟨2, _⟩ => show win0_1.index (point i j) 2 * 384 + 1 * (k : ℕ) = (k : ℕ); rw [(index1 i j).2.2]; omega

/-- The input's block holds its rows. -/
theorem block2 (t : Fin 512) (k : Fin 1024) : (show FVec Ideal S512x1024 .f32 from iblk m c 2 (point i j)) (ix2 t k) = arg0 m c (ix2 (row i t) k) := by
  refine Eq.trans (?_ : _ = V m c main_arg0 (ix2 (row i t) k)) (congrFun (entry2 m c) (ix2 (row i t) k))
  exact congrArg (V m c main_arg0) (ix2_of (at_row 512 t (index2 i j).1) (at_zero 1024 k (index2 i j).2))

/-- The passed gradient's block holds its rows. -/
theorem block3 (t : Fin 512) (k : Fin 1024) : (show FVec Ideal S512x1024 .f32 from iblk m c 3 (point i j)) (ix2 t k) = arg4 m c (ix2 (row i t) k) := by
  refine Eq.trans (?_ : _ = V m c main_arg4 (ix2 (row i t) k)) (congrFun (entry3 m c) (ix2 (row i t) k))
  exact congrArg (V m c main_arg4) (ix2_of (at_row 512 t (index3 i j).1) (at_zero 1024 k (index3 i j).2))

/-- The gain's block holds it whole. -/
theorem block4 (t : Fin 1) (k : Fin 1024) : (show FVec Ideal S1x1024 .f32 from iblk m c 4 (point i j)) (ix2 t k) = arg1 m c (ix2 t k) := by
  refine Eq.trans (?_ : _ = V m c main_arg1 (ix2 t k)) (congrFun (entry4 m c) (ix2 t k))
  exact congrArg (V m c main_arg1) (ix2_of (at_zero 1 t (index4 i j).1) (at_zero 1024 k (index4 i j).2))

/-- The reference's product, entry by entry. -/
theorem dh_apply (t : Fin 4096) (s : Fin 1024) : dh m c (ix2 t s) = ∑ k, arg3 m c (ix2 t k) * arg2 m c (ix2 s k) := by
  unfold dh val_main_v16
  pointwise

/-- The block's product is the reference's. -/
theorem prod_block (r : Fin 512) (s : Fin 1024) : prod (F := Ideal) (iblk m c 0 (point i j)) (iblk m c 1 (point i j)) (ix2 r s) = dh m c (ix2 (row i r) s) := by
  rw [prod_apply (block0 m c i j) (block1 m c i j) r s, dh_apply]
  exact sum_split (n := 4) (b := 384) rfl fun k => arg3 m c (ix2 (row i r) k) * arg2 m c (ix2 s k)

/-- A row's form of the result. -/
abbrev form (t : Fin 4096) (s : Fin 1024) : EReal :=
  kernelForm (fun k => arg0 m c (ix2 t k)) (fun k => dh m c (ix2 t k)) (fun k => arg1 m c (ix2 0 k)) (arg4 m c (ix2 t s)) s

/-- What a point leaves of the input's gradient. -/
theorem left5 (r : Fin 512) (s : Fin 1024) : (show FVec Ideal S512x1024 .f32 from (outsAt0 m c (point i j).val (point i j).isLt).1) (ix2 r s) = form m c (row i r) s := by
  have e := pay3_apply (prod_block m c i j) (block2 m c i j) (block4 m c i j 0) (block3 m c i j) r s
  by_cases h : (point i j).val % 8 = 0
  · rw [outsAt0_A m c (point i j) h]
    dsimp only
    rw [out_A_5]
    exact e
  · rw [outsAt0_B m c (point i j) h]
    dsimp only
    rw [out_B_5]
    exact e

/-- … and of its narrowed copy. -/
theorem left6 (r : Fin 512) (s : Fin 1024) : (show FVec Ideal S512x1024 .bf16 from (outsAt0 m c (point i j).val (point i j).isLt).2.1) (ix2 r s) = form m c (row i r) s := by
  have e := pay4_apply (prod_block m c i j) (block2 m c i j) (block4 m c i j 0) (block3 m c i j) r s
  by_cases h : (point i j).val % 8 = 0
  · rw [outsAt0_A m c (point i j) h]
    dsimp only
    rw [out_A_6]
    exact e
  · rw [outsAt0_B m c (point i j) h]
    dsimp only
    rw [out_B_6]
    exact e

/-- A token's share of the gain's gradient. -/
abbrev share (s : Fin 1024) (t : Fin 4096) : EReal := dh m c (ix2 t s) * (arg0 m c (ix2 t s) * Ideal.rsqrt (mean fun k => arg0 m c (ix2 t k)))

/-- The first point leaves its panel's share of the gain's gradient … -/
theorem first (s : Fin 1024) : (show FVec Ideal S1x1024 .f32 from (outsAt0 m c (point 0 0).val (point 0 0).isLt).2.2) (ix2 0 s) = 0 + ∑ r, share m c s (row 0 r) := by
  rw [outsAt0_A m c (point 0 0) rfl]
  dsimp only
  rw [out_A_7]
  exact pay5_apply (prod_block m c 0 0) (block2 m c 0 0) pay6_apply s

/-- … and a later one adds its own. -/
theorem next (i i' : Fin 8) (hi : (i : ℕ) = i' + 1) {O : Fin 1024 → EReal}
    (h : ∀ s, (show FVec Ideal S1x1024 .f32 from (outsAt0 m c (point i' 0).val (point i' 0).isLt).2.2) (ix2 0 s) = O s) (s : Fin 1024) :
    (show FVec Ideal S1x1024 .f32 from (outsAt0 m c (point i 0).val (point i 0).isLt).2.2) (ix2 0 s) = O s + ∑ r, share m c s (row i r) := by
  have e : (point i 0).val - 1 = (point i' 0).val := by
    show (i : ℕ) * 1 + 0 - 1 = i' * 1 + 0
    omega
  rw [outsAt0_B m c (point i 0) (by show ¬ ((i : ℕ) * 1 + 0) % 8 = 0; omega)]
  dsimp only
  rw [out_B_7]
  simp only [e]
  exact pay5_apply (prod_block m c i 0) (block2 m c i 0) h s

/-- After the last point the block holds the sum over all tokens. -/
theorem left7 (s : Fin 1024) : (show FVec Ideal S1x1024 .f32 from (outsAt0 m c (point 7 0).val (point 7 0).isLt).2.2) (ix2 0 s) = ∑ t, share m c s t := by
  have h := next m c 7 6 rfl (next m c 6 5 rfl (next m c 5 4 rfl (next m c 4 3 rfl (next m c 3 2 rfl (next m c 2 1 rfl (next m c 1 0 rfl (first m c)))))))
  refine (h s).trans ?_
  refine Eq.trans ?_ (sum_split (n := 8) (b := 512) rfl (share m c s))
  rw [Fin.sum_univ_eight, zero_add]
  rfl

/-- The input's gradient, entry by entry. -/
theorem array5 (i : Fin 8) (j : Fin 1) (r : Fin 512) (s : Fin 1024) : (show FVec Ideal S4096x1024 .f32 from (dats m 0 c).arrAt 5 cfg0.N) (ix2 (row i r) s)
    = form m c (row i r) s := by
  have e := congrFun (Value.blocks5 m c (point i j) (flush0_5 _)) (ix2 r s)
  rw [View.read_apply, Value.flushed5] at e
  have t := left5 m c i j r s
  refine Eq.trans ?_ t
  refine Eq.trans ?_ e
  show (dats m 0 c).arrAt 5 cfg0.N _ = (dats m 0 c).arrAt 5 cfg0.N _
  refine congrArg ((dats m 0 c).arrAt 5 cfg0.N) (funext fun a => Fin.ext ?_)
  match a with
  | ⟨0, _⟩ => show (i : ℕ) * 512 + (r : ℕ) = win0_5.index (point i j) 0 * 512 + 1 * (r : ℕ); rw [(index5 i j).1]; omega
  | ⟨1, _⟩ => show (s : ℕ) = win0_5.index (point i j) 1 * 1024 + 1 * (s : ℕ); rw [(index5 i j).2]; omega

/-- The narrowed copy, entry by entry. -/
theorem array6 (i : Fin 8) (j : Fin 1) (r : Fin 512) (s : Fin 1024) : (show FVec Ideal S4096x1024 .bf16 from (dats m 0 c).arrAt 6 cfg0.N) (ix2 (row i r) s)
    = form m c (row i r) s := by
  have e := congrFun (Value.blocks6 m c (point i j) (flush0_6 _)) (ix2 r s)
  rw [View.read_apply, Value.flushed6] at e
  have t := left6 m c i j r s
  refine Eq.trans ?_ t
  refine Eq.trans ?_ e
  show (dats m 0 c).arrAt 6 cfg0.N _ = (dats m 0 c).arrAt 6 cfg0.N _
  refine congrArg ((dats m 0 c).arrAt 6 cfg0.N) (funext fun a => Fin.ext ?_)
  match a with
  | ⟨0, _⟩ => show (i : ℕ) * 512 + (r : ℕ) = win0_6.index (point i j) 0 * 512 + 1 * (r : ℕ); rw [(index6 i j).1]; omega
  | ⟨1, _⟩ => show (s : ℕ) = win0_6.index (point i j) 1 * 1024 + 1 * (s : ℕ); rw [(index6 i j).2]; omega

/-- One point alone writes the gain's gradient back. -/
theorem disjoint7 : ∀ t t' : Fin cfg0.N, (cfg0.win 7).flush t = true → (cfg0.win 7).flush t' = true → t ≠ t' →
    Disjoint ((cfg0.win 7).blk t).view.set ((cfg0.win 7).blk t').view.set := fun t t' hf hf' hne =>
  (cfg0.win 7).disjoint_blk fun h => hne
    ((by decide +kernel : ∀ t t' : Fin grid0.N, t.val % 8 = 7 → t'.val % 8 = 7 → win0_7.index t = win0_7.index t' → t = t') t t'
      ((flush0_7 t).mp hf) ((flush0_7 t').mp hf') h)

/-- The gain's gradient, entry by entry. -/
theorem array7 (r : Fin 1) (s : Fin 1024) : (show FVec Ideal S1x1024 .f32 from (dats m 0 c).arrAt 7 cfg0.N) (ix2 r s) = ∑ t, share m c s t := by
  have e := congrFun ((dats m 0 c).read_blk_arrAt_eq_flushed 7 disjoint7 cfg0.N (point 7 0) (point 7 0).isLt ((flush0_7 _).mpr rfl)) (ix2 0 s)
  rw [View.read_apply, Value.flushed7] at e
  refine Eq.trans ?_ (left7 m c s)
  refine Eq.trans ?_ e
  show (dats m 0 c).arrAt 7 cfg0.N _ = (dats m 0 c).arrAt 7 cfg0.N _
  refine congrArg ((dats m 0 c).arrAt 7 cfg0.N) (funext fun a => Fin.ext ?_)
  match a with
  | ⟨0, _⟩ => show (r : ℕ) = win0_7.index (point 7 0) 0 * 1 + 1 * 0; rw [(index7 7 0).1]; omega
  | ⟨1, _⟩ => show (s : ℕ) = win0_7.index (point 7 0) 1 * 1024 + 1 * (s : ℕ); rw [(index7 7 0).2]; omega

/-- The reference's gradient of the input, entry by entry. -/
theorem reference5 (x0 : FVec Ideal S4096x1024 .f32) (x1 : FVec Ideal S1x1024 .f32) (x2 : FVec Ideal S1024x1536 .f32) (x3 : FVec Ideal S4096x1536 .f32) (x4 : FVec Ideal S4096x1024 .f32) (t : Fin 4096) (s : Fin 1024) : val_main_v36 (F := Ideal) x0 x1 x2 x3 x4 (ix2 t s)
      = kernelForm (fun k => x0 (ix2 t k)) (fun k => val_main_v16 (F := Ideal) x2 x3 (ix2 t k)) (fun k => x1 (ix2 0 k)) (x4 (ix2 t s)) s := by
  rw [← forms]
  unfold val_main_v36 val_main_v35 val_main_v34 val_main_v33 val_main_v32 val_main_v31 val_main_cst_6 val_main_v30 val_main_v29 val_main_cst_5 val_main_v28 val_main_v10 val_main_v8 val_main_v9 val_main_cst_2 val_main_v24 val_main_v23 val_main_cst_4 val_main_v22 val_main_v27 val_main_v26 val_main_v25 val_main_v7 val_main_v6 val_main_v5 val_main_cst_1 val_main_v4 val_main_v3 val_main_cst_0 val_main_v2 val_main_v1 val_main_cst val_main_v0 val_main_v21 val_main_v20
    derivForm factor mean
  pointwise
  simp only [Fin.sum_univ_one]

/-- The narrowed copy. -/
theorem reference6 (x0 : FVec Ideal S4096x1024 .f32) (x1 : FVec Ideal S1x1024 .f32) (x2 : FVec Ideal S1024x1536 .f32) (x3 : FVec Ideal S4096x1536 .f32) (x4 : FVec Ideal S4096x1024 .f32) (t : Fin 4096) (s : Fin 1024) : val_main_v37 (F := Ideal) x0 x1 x2 x3 x4 (ix2 t s)
      = kernelForm (fun k => x0 (ix2 t k)) (fun k => val_main_v16 (F := Ideal) x2 x3 (ix2 t k)) (fun k => x1 (ix2 0 k)) (x4 (ix2 t s)) s := by
  refine Eq.trans ?_ (reference5 x0 x1 x2 x3 x4 t s)
  unfold val_main_v37
  pointwise

/-- The reference's gradient of the gain, entry by entry. -/
theorem reference7 (x0 : FVec Ideal S4096x1024 .f32) (x2 : FVec Ideal S1024x1536 .f32) (x3 : FVec Ideal S4096x1536 .f32) (r : Fin 1) (s : Fin 1024) : val_main_v19 (F := Ideal) x0 x2 x3 (ix2 r s)
      = ∑ t, val_main_v16 (F := Ideal) x2 x3 (ix2 t s) * (x0 (ix2 t s) * Ideal.rsqrt (mean fun k => x0 (ix2 t k))) := by
  unfold val_main_v19 val_main_v18 val_main_cst_3 val_main_v17 val_main_v12 val_main_v11 val_main_v7 val_main_v6 val_main_v5 val_main_cst_1 val_main_v4 val_main_v3 val_main_cst_0 val_main_v2 val_main_v1 val_main_cst val_main_v0 mean
  pointwise
  exact Finset.sum_congr rfl fun t _ => mul_comm _ _

/-- The reference's result is the kernel's result array. -/
theorem agree5 (x0 : FVec Ideal S4096x1024 .f32) (x1 : FVec Ideal S1x1024 .f32) (x2 : FVec Ideal S1024x1536 .f32) (x3 : FVec Ideal S4096x1536 .f32) (x4 : FVec Ideal S4096x1024 .f32) (h0 : x0 = arg0 m c) (h1 : x1 = arg1 m c) (h2 : x2 = arg2 m c) (h3 : x3 = arg3 m c) (h4 : x4 = arg4 m c) :
    val_main_v36 (F := Ideal) x0 x1 x2 x3 x4 = (show FVec Ideal S4096x1024 .f32 from (dats m 0 c).arrAt 5 cfg0.N) := by
  funext ij
  rw [← ix2_eta ij]
  obtain ⟨i, r, hr⟩ := row_surj (ij 0)
  rw [← hr]
  subst h0 h1 h2 h3 h4
  exact (reference5 _ _ _ _ _ (row i r) (ij 1)).trans (array5 m c i 0 r (ij 1)).symm

/-- The reference's result is the kernel's result array. -/
theorem agree6 (x0 : FVec Ideal S4096x1024 .f32) (x1 : FVec Ideal S1x1024 .f32) (x2 : FVec Ideal S1024x1536 .f32) (x3 : FVec Ideal S4096x1536 .f32) (x4 : FVec Ideal S4096x1024 .f32) (h0 : x0 = arg0 m c) (h1 : x1 = arg1 m c) (h2 : x2 = arg2 m c) (h3 : x3 = arg3 m c) (h4 : x4 = arg4 m c) :
    val_main_v37 (F := Ideal) x0 x1 x2 x3 x4 = (show FVec Ideal S4096x1024 .bf16 from (dats m 0 c).arrAt 6 cfg0.N) := by
  funext ij
  rw [← ix2_eta ij]
  obtain ⟨i, r, hr⟩ := row_surj (ij 0)
  rw [← hr]
  subst h0 h1 h2 h3 h4
  exact (reference6 _ _ _ _ _ (row i r) (ij 1)).trans (array6 m c i 0 r (ij 1)).symm

/-- … and the gain's gradient. -/
theorem agree7 (x0 : FVec Ideal S4096x1024 .f32) (x2 : FVec Ideal S1024x1536 .f32) (x3 : FVec Ideal S4096x1536 .f32) (h0 : x0 = arg0 m c) (h2 : x2 = arg2 m c) (h3 : x3 = arg3 m c) :
    val_main_v19 (F := Ideal) x0 x2 x3 = (show FVec Ideal S1x1024 .f32 from (dats m 0 c).arrAt 7 cfg0.N) := by
  funext ij
  rw [← ix2_eta ij]
  subst h0 h2 h3
  exact (reference7 _ _ _ (ij 0) (ij 1)).trans (array7 m c (ij 0) (ij 1)).symm

end Cert.Kernel16Ideal.Tile

end

end
-- ==== Proof.NormRgStored.lean ====
/- What one grid point of the gradient through the recurrent block's input projection and norm (`Kernel17`) leaves in its three staging blocks, as functions of its five input blocks (the output gradient,
   the matrix in its slots, the layer's input, the gradient passed by it, the norm's gain) and, for the gain's gradient, of what the block held. -/
module

public import proofs.«01_k».proof.Proof.Gen.Kernel17Ideal.Value
public import Idealize.ShloMosaic.Lib.Pipeline.ValueKit.Tiles
public import Idealize.ShloMosaic.Lib.Tactic

@[expose] public section

noncomputable section

namespace Cert.Kernel17Ideal.Stored

open Cert.Kernel17Ideal Cert.Kernel17Ideal.Gen Idealize.ShloMosaic Idealize.ShloMosaic.TcCoe Idealize.SL.Sem

variable {F : FTy → Type} [FloatOps F]

/-- The rectangles start at the origin. -/
theorem hz : (![0, 0] : Fin 2 → Nat) = fun _ => 0 := funext fun a => by fin_cases a <;> rfl

/-- Column slot 0 of the output gradient's rows … -/
abbrev cols0 (x : Vec F S512x2048 .bf16) : Vec F S512x512 .bf16 := View.ld x (Rect.unit (s := S512x2048) ![0, 0] S512x512.size inb_S512x2048_S512x512_0_0)
/-- … and slot 0 of the matrix. -/
abbrev slot0 (x : Vec F S4x1024x512 .bf16) : Vec F S1x1024x512 .bf16 := View.ld x (Rect.unit (s := S4x1024x512) ![0, 0, 0] S1x1024x512.size inb_S4x1024x512_S1x1024x512_0_0_0)
/-- Column slot 1 of the output gradient's rows … -/
abbrev cols1 (x : Vec F S512x2048 .bf16) : Vec F S512x512 .bf16 := View.ld x (Rect.unit (s := S512x2048) ![0, 512] S512x512.size inb_S512x2048_S512x512_0_512)
/-- … and slot 1 of the matrix. -/
abbrev slot1 (x : Vec F S4x1024x512 .bf16) : Vec F S1x1024x512 .bf16 := View.ld x (Rect.unit (s := S4x1024x512) ![1, 0, 0] S1x1024x512.size inb_S4x1024x512_S1x1024x512_1_0_0)
/-- Column slot 2 of the output gradient's rows … -/
abbrev cols2 (x : Vec F S512x2048 .bf16) : Vec F S512x512 .bf16 := View.ld x (Rect.unit (s := S512x2048) ![0, 1024] S512x512.size inb_S512x2048_S512x512_0_1024)
/-- … and slot 2 of the matrix. -/
abbrev slot2 (x : Vec F S4x1024x512 .bf16) : Vec F S1x1024x512 .bf16 := View.ld x (Rect.unit (s := S4x1024x512) ![2, 0, 0] S1x1024x512.size inb_S4x1024x512_S1x1024x512_2_0_0)
/-- Column slot 3 of the output gradient's rows … -/
abbrev cols3 (x : Vec F S512x2048 .bf16) : Vec F S512x512 .bf16 := View.ld x (Rect.unit (s := S512x2048) ![0, 1536] S512x512.size inb_S512x2048_S512x512_0_1536)
/-- … and slot 3 of the matrix. -/
abbrev slot3 (x : Vec F S4x1024x512 .bf16) : Vec F S1x1024x512 .bf16 := View.ld x (Rect.unit (s := S4x1024x512) ![3, 0, 0] S1x1024x512.size inb_S4x1024x512_S1x1024x512_3_0_0)

/-- The gradient of the normed and scaled input: the four slots' products, summed. -/
abbrev prod (x0 : Vec F S512x2048 .bf16) (x1 : Vec F S4x1024x512 .bf16) : FVec F S512x1024 .f32 :=
  k0_pay7 (cols0 x0) (slot0 x1) (cols1 x0) (slot1 x1) (cols2 x0) (slot2 x1) (cols3 x0) (slot3 x1)

/-- The input's gradient at the first point. -/
theorem out_A_5 (c : Dev nD) (i : grid0.Coords) (arg2 : Memref sig .tc .vmem S512x2048 .bf16) (harg2 : arg2.IsWhole) (arg3 : Memref sig .tc .vmem S4x1024x512 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i)
    (x0 : Vec F S512x2048 .bf16) (x1 : Vec F S4x1024x512 .bf16) (x2 : Vec F S512x1024 .f32) (x3 : Vec F S512x1024 .f32) (x4 : Vec F S1x1024 .f32) :
    out0_A_5 c i arg2 harg2 arg3 harg3 arg4 harg4 arg5 harg5 arg6 harg6 arg7 harg7 arg8 harg8 arg9 harg9 hc0 x0 x1 x2 x3 x4 = k0_pay3 (prod x0 x1) x2 x4 x3 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The input's gradient, narrowed, at the first point. -/
theorem out_A_6 (c : Dev nD) (i : grid0.Coords) (arg2 : Memref sig .tc .vmem S512x2048 .bf16) (harg2 : arg2.IsWhole) (arg3 : Memref sig .tc .vmem S4x1024x512 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i)
    (x0 : Vec F S512x2048 .bf16) (x1 : Vec F S4x1024x512 .bf16) (x2 : Vec F S512x1024 .f32) (x3 : Vec F S512x1024 .f32) (x4 : Vec F S1x1024 .f32) :
    out0_A_6 c i arg2 harg2 arg3 harg3 arg4 harg4 arg5 harg5 arg6 harg6 arg7 harg7 arg8 harg8 arg9 harg9 hc0 x0 x1 x2 x3 x4 = k0_pay4 (prod x0 x1) x2 x4 x3 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The gain's gradient at the first point. -/
theorem out_A_7 (c : Dev nD) (i : grid0.Coords) (arg2 : Memref sig .tc .vmem S512x2048 .bf16) (harg2 : arg2.IsWhole) (arg3 : Memref sig .tc .vmem S4x1024x512 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : cond0_0 i)
    (x0 : Vec F S512x2048 .bf16) (x1 : Vec F S4x1024x512 .bf16) (x2 : Vec F S512x1024 .f32) (x3 : Vec F S512x1024 .f32) (x4 : Vec F S1x1024 .f32) :
    out0_A_7 c i arg2 harg2 arg3 harg3 arg4 harg4 arg5 harg5 arg6 harg6 arg7 harg7 arg8 harg8 arg9 harg9 hc0 x0 x1 x2 x3 x4 = k0_pay5 (prod x0 x1) x2 k0_pay6 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) hz]
  simp only [View.readAt_eq_ld, harg2.read_unread, harg3.read_unread, harg4.read_unread, harg5.read_unread, harg6.read_unread, harg9.read_unread, View.ld_unit_zero (S := S512x1024) hz, View.ld_unit_zero (S := S1x1024) hz, View.readCov_unit_zero (S := S1x1024) _ hz]

/-- The input's gradient at a later point. -/
theorem out_B_5 (c : Dev nD) (i : grid0.Coords) (arg2 : Memref sig .tc .vmem S512x2048 .bf16) (harg2 : arg2.IsWhole) (arg3 : Memref sig .tc .vmem S4x1024x512 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i)
    (x0 : Vec F S512x2048 .bf16) (x1 : Vec F S4x1024x512 .bf16) (x2 : Vec F S512x1024 .f32) (x3 : Vec F S512x1024 .f32) (x4 : Vec F S1x1024 .f32) (xo7 : Vec F S1x1024 .f32) :
    out0_B_5 c i arg2 harg2 arg3 harg3 arg4 harg4 arg5 harg5 arg6 harg6 arg7 harg7 arg8 harg8 arg9 harg9 hc0 x0 x1 x2 x3 x4 xo7 = k0_pay3 (prod x0 x1) x2 x4 x3 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo7)]
  unfold kernelRun0_B
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The input's gradient, narrowed, at a later point. -/
theorem out_B_6 (c : Dev nD) (i : grid0.Coords) (arg2 : Memref sig .tc .vmem S512x2048 .bf16) (harg2 : arg2.IsWhole) (arg3 : Memref sig .tc .vmem S4x1024x512 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i)
    (x0 : Vec F S512x2048 .bf16) (x1 : Vec F S4x1024x512 .bf16) (x2 : Vec F S512x1024 .f32) (x3 : Vec F S512x1024 .f32) (x4 : Vec F S1x1024 .f32) (xo7 : Vec F S1x1024 .f32) :
    out0_B_6 c i arg2 harg2 arg3 harg3 arg4 harg4 arg5 harg5 arg6 harg6 arg7 harg7 arg8 harg8 arg9 harg9 hc0 x0 x1 x2 x3 x4 xo7 = k0_pay4 (prod x0 x1) x2 x4 x3 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo7)]
  unfold kernelRun0_B
  dsimp only
  sl_unfold_words
  rw [View.canon_unit_zero (S := S512x1024) hz]
  simp only [View.readAt_eq_ld, harg2.read_unread, harg3.read_unread, harg4.read_unread, harg5.read_unread, harg6.read_unread, View.ld_unit_zero (S := S512x1024) hz, View.ld_unit_zero (S := S1x1024) hz]

/-- The gain's gradient at a later point. -/
theorem out_B_7 (c : Dev nD) (i : grid0.Coords) (arg2 : Memref sig .tc .vmem S512x2048 .bf16) (harg2 : arg2.IsWhole) (arg3 : Memref sig .tc .vmem S4x1024x512 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (hc0 : ¬cond0_0 i)
    (x0 : Vec F S512x2048 .bf16) (x1 : Vec F S4x1024x512 .bf16) (x2 : Vec F S512x1024 .f32) (x3 : Vec F S512x1024 .f32) (x4 : Vec F S1x1024 .f32) (xo7 : Vec F S1x1024 .f32) :
    out0_B_7 c i arg2 harg2 arg3 harg3 arg4 harg4 arg5 harg5 arg6 harg6 arg7 harg7 arg8 harg8 arg9 harg9 hc0 x0 x1 x2 x3 x4 xo7 = k0_pay5 (prod x0 x1) x2 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo7)]
  unfold kernelRun0_B
  dsimp only
  sl_unfold_words
  rw [View.canon_unit_zero (S := S1x1024) hz]
  simp only [View.readAt_eq_ld, harg2.read_unread, harg3.read_unread, harg4.read_unread, harg5.read_unread, harg6.read_unread, harg9.read_unread, View.ld_unit_zero (S := S512x1024) hz, View.ld_unit_zero (S := S1x1024) hz]

end Cert.Kernel17Ideal.Stored

end

end
-- ==== Proof.NormRgGrad.lean ====
/- The gradient through the recurrent block's input projection and norm (`Kernel17`): the output gradient against the matrix, carried through the norm and added to the gradient passed
   by, and the gain's gradient, added up over the row panels, are those of the reference's derivative. -/
module

public import proofs.«01_k».proof.Proof.Gen.Kernel17Ideal.Value
public import proofs.«01_k».proof.Proof.Gen.Reference17Ideal.Read
public import Idealize.ShloMosaic.Lib.Pointwise
public import Idealize.ShloMosaic.Lib.Claim
public import proofs.«01_k».proof.Proof.NormRgStored
public import proofs.«01_k».proof.Proof.NormMath
public import proofs.«01_k».proof.Proof.Blocks

@[expose] public section

noncomputable section

namespace Cert.Kernel17Ideal.Tile

open Cert.Reference17Ideal.Read Cert.Blocks
open Cert.Kernel17Ideal Cert.Kernel17Ideal.Gen Cert.Kernel17Ideal.Stored Cert.NormMath
open Idealize.ShloMosaic Idealize.ShloMosaic.TcCoe Idealize.SL.Sem

/-- The grid point of row block `i` and column block `j`. -/
def point (i : Fin 8) (j : Fin 1) : Fin cfg0.N := ⟨i * 1 + j, by show _ < 8; omega⟩
/-- Row `r` of row block `i`: the rows fall into blocks … -/
def row (i : Fin 8) (r : Fin 512) : Fin 4096 := ⟨i * 512 + r, by omega⟩
/-- … and each lies in some block. -/
theorem row_surj (r : Fin 4096) : ∃ i s, row i s = r :=
  ⟨⟨r / 512, by omega⟩, ⟨r % 512, by omega⟩, Fin.ext (by show (r : ℕ) / 512 * 512 + r % 512 = r; omega)⟩

/-- Column `k` of slot `l`. -/
def col (l : Fin 4) (k : Fin 512) : Fin 2048 := ⟨l * 512 + k, by omega⟩

/-- The output gradient's block at a point: the row panel. -/
theorem index0 : ∀ i j, win0_0.index (point i j) 0 = (i : ℕ) ∧ win0_0.index (point i j) 1 = 0 := by decide +kernel
/-- The matrix's block: the whole. -/
theorem index1 : ∀ i j, win0_1.index (point i j) 0 = 0 ∧ win0_1.index (point i j) 1 = 0 ∧ win0_1.index (point i j) 2 = 0 := by decide +kernel
/-- The input's block: the row panel. -/
theorem index2 : ∀ i j, win0_2.index (point i j) 0 = (i : ℕ) ∧ win0_2.index (point i j) 1 = 0 := by decide +kernel
/-- The passed gradient's block: the row panel. -/
theorem index3 : ∀ i j, win0_3.index (point i j) 0 = (i : ℕ) ∧ win0_3.index (point i j) 1 = 0 := by decide +kernel
/-- The gain's block: the whole. -/
theorem index4 : ∀ i j, win0_4.index (point i j) 0 = 0 ∧ win0_4.index (point i j) 1 = 0 := by decide +kernel
/-- The input gradient's block: the row panel. -/
theorem index5 : ∀ i j, win0_5.index (point i j) 0 = (i : ℕ) ∧ win0_5.index (point i j) 1 = 0 := by decide +kernel
/-- The narrowed input gradient's block: the row panel. -/
theorem index6 : ∀ i j, win0_6.index (point i j) 0 = (i : ℕ) ∧ win0_6.index (point i j) 1 = 0 := by decide +kernel
/-- The gain gradient's block: the whole. -/
theorem index7 : ∀ i j, win0_7.index (point i j) 0 = 0 ∧ win0_7.index (point i j) 1 = 0 := by decide +kernel

/-- A column slot of a block of rows. -/
theorem cols_apply {X : FVec Ideal S512x2048 .bf16} {a : Fin 512 → Fin 2048 → EReal} (h : ∀ r k, X (ix2 r k) = a r k) (l : Fin 4)
    (inb : ∀ i, (![0, (l : ℕ) * 512] : Fin 2 → ℕ) i + S512x512.size i ≤ S512x2048.size i) (r : Fin 512) (k : Fin 512) :
    (show FVec Ideal S512x512 .bf16 from View.ld (Val := Elt Ideal) (e' := .bf16) X (Rect.unit (s := S512x2048) ![0, (l : ℕ) * 512] S512x512.size inb)) (ix2 r k) = a r (col l k) :=
  (View.ld_unit_apply_of (Val := Elt Ideal) (e := .bf16) X ![0, (l : ℕ) * 512] S512x512.size inb (ix2 r k) (ix2 r (col l k)) (by
    intro i
    match i with
    | ⟨0, _⟩ => exact (Nat.zero_add _).symm
    | ⟨1, _⟩ => rfl)).trans (h _ _)

/-- A slot of the matrix. -/
theorem slot_apply {X : FVec Ideal S4x1024x512 .bf16} {w : Fin 4 → Fin 1024 → Fin 512 → EReal} (h : ∀ l t k, X (ix3 l t k) = w l t k) (l : Fin 4)
    (inb : ∀ i, (![(l : ℕ), 0, 0] : Fin 3 → ℕ) i + S1x1024x512.size i ≤ S4x1024x512.size i) (t : Fin 1024) (k : Fin 512) :
    (show FVec Ideal S1x1024x512 .bf16 from View.ld (Val := Elt Ideal) (e' := .bf16) X (Rect.unit (s := S4x1024x512) ![(l : ℕ), 0, 0] S1x1024x512.size inb)) (ix3 0 t k) = w l t k :=
  (View.ld_unit_apply_of (Val := Elt Ideal) (e := .bf16) X ![(l : ℕ), 0, 0] S1x1024x512.size inb (ix3 0 t k) (ix3 l t k) (by
    intro i
    match i with
    | ⟨0, _⟩ => rfl
    | ⟨1, _⟩ => exact (Nat.zero_add _).symm
    | ⟨2, _⟩ => exact (Nat.zero_add _).symm)).trans (h _ _ _)

/-- The payload of the four products. -/
theorem pay7_apply (a b c d : FVec Ideal S512x512 .bf16) (a' b' c' d' : FVec Ideal S1x1024x512 .bf16) (r : Fin 512) (s : Fin 1024) :
    k0_pay7 (F := Ideal) a a' b b' c c' d d' (ix2 r s) = ∑ k, a (ix2 r k) * a' (ix3 0 s k) + ∑ k, b (ix2 r k) * b' (ix3 0 s k)
      + ∑ k, c (ix2 r k) * c' (ix3 0 s k) + ∑ k, d (ix2 r k) * d' (ix3 0 s k) := by
  unfold k0_pay7
  pointwise

/-- The four slots' products, summed. -/
theorem prod_apply {x0 : FVec Ideal S512x2048 .bf16} {x1 : FVec Ideal S4x1024x512 .bf16} {a : Fin 512 → Fin 2048 → EReal} {w : Fin 4 → Fin 1024 → Fin 512 → EReal}
    (h0 : ∀ r k, x0 (ix2 r k) = a r k) (h1 : ∀ l t k, x1 (ix3 l t k) = w l t k) (r : Fin 512) (s : Fin 1024) :
    prod (F := Ideal) x0 x1 (ix2 r s) = ∑ l, ∑ k, a r (col l k) * w l s k := by
  have a0 := cols_apply h0 0 inb_S512x2048_S512x512_0_0
  have a1 := cols_apply h0 1 inb_S512x2048_S512x512_0_512
  have a2 := cols_apply h0 2 inb_S512x2048_S512x512_0_1024
  have a3 := cols_apply h0 3 inb_S512x2048_S512x512_0_1536
  have b0 := slot_apply h1 0 inb_S4x1024x512_S1x1024x512_0_0_0
  have b1 := slot_apply h1 1 inb_S4x1024x512_S1x1024x512_1_0_0
  have b2 := slot_apply h1 2 inb_S4x1024x512_S1x1024x512_2_0_0
  have b3 := slot_apply h1 3 inb_S4x1024x512_S1x1024x512_3_0_0
  rw [Fin.sum_univ_four]
  refine Eq.trans (pay7_apply _ _ _ _ _ _ _ _ r s) ?_
  exact congrArg₂ (· + ·) (congrArg₂ (· + ·) (congrArg₂ (· + ·)
    (Finset.sum_congr rfl fun k _ => congrArg₂ (· * ·) (a0 r k) (b0 s k)) (Finset.sum_congr rfl fun k _ => congrArg₂ (· * ·) (a1 r k) (b1 s k)))
    (Finset.sum_congr rfl fun k _ => congrArg₂ (· * ·) (a2 r k) (b2 s k))) (Finset.sum_congr rfl fun k _ => congrArg₂ (· * ·) (a3 r k) (b3 s k))

/-- The stored input gradient, from the pointwise readings of what it takes. -/
theorem pay3_apply {v x y : FVec Ideal S512x1024 .f32} {g : FVec Ideal S1x1024 .f32} {D X Y : Fin 512 → Fin 1024 → EReal} {G : Fin 1024 → EReal}
    (hv : ∀ r s, v (ix2 r s) = D r s) (hx : ∀ r s, x (ix2 r s) = X r s) (hg : ∀ s, g (ix2 0 s) = G s) (hy : ∀ r s, y (ix2 r s) = Y r s)
    (r : Fin 512) (s : Fin 1024) : k0_pay3 (F := Ideal) v x g y (ix2 r s) = kernelForm (X r) (D r) G (Y r s) s := by
  unfold k0_pay3 k0_pay2 k0_pay1 kernelForm mean
  pointwise
  simp only [hv, hx, hg, hy]

/-- … and narrowed. -/
theorem pay4_apply {v x y : FVec Ideal S512x1024 .f32} {g : FVec Ideal S1x1024 .f32} {D X Y : Fin 512 → Fin 1024 → EReal} {G : Fin 1024 → EReal}
    (hv : ∀ r s, v (ix2 r s) = D r s) (hx : ∀ r s, x (ix2 r s) = X r s) (hg : ∀ s, g (ix2 0 s) = G s) (hy : ∀ r s, y (ix2 r s) = Y r s)
    (r : Fin 512) (s : Fin 1024) : k0_pay4 (F := Ideal) v x g y (ix2 r s) = kernelForm (X r) (D r) G (Y r s) s := by
  refine Eq.trans ?_ (pay3_apply hv hx hg hy r s)
  unfold k0_pay4
  pointwise

/-- The gain gradient's block: what it held and the panel's sum. -/
theorem pay5_apply {v x : FVec Ideal S512x1024 .f32} {o : FVec Ideal S1x1024 .f32} {D X : Fin 512 → Fin 1024 → EReal} {O : Fin 1024 → EReal}
    (hv : ∀ r s, v (ix2 r s) = D r s) (hx : ∀ r s, x (ix2 r s) = X r s) (ho : ∀ s, o (ix2 0 s) = O s)
    (s : Fin 1024) : k0_pay5 (F := Ideal) v x o (ix2 0 s) = O s + ∑ r, D r s * (X r s * Ideal.rsqrt (mean (X r))) := by
  unfold k0_pay5 k0_pay2 k0_pay1 mean
  pointwise
  simp only [hv, hx, ho]

/-- It starts at zero. -/
theorem pay6_apply (s : Fin 1024) : k0_pay6 (F := Ideal) (ix2 0 s) = 0 := by
  unfold k0_pay6
  pointwise

variable (m : (ℓ : Loc nD τ sig) → Buf (Elt Ideal) ℓ) (c : Dev nD)

/-- The layer's input, the norm's gain, the matrix, the output gradient and the passed gradient, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x2048 .f32 := m ((c : Thread nD τ).loc main_arg2)
abbrev arg3 : FVec Ideal S4096x2048 .f32 := m ((c : Thread nD τ).loc main_arg3)
abbrev arg4 : FVec Ideal S4096x1024 .f32 := m ((c : Thread nD τ).loc main_arg4)
/-- The reference's gradient of the normed and scaled input. -/
abbrev dh : FVec Ideal S4096x1024 .f32 := val_main_v16 (F := Ideal) (arg2 m c) (arg3 m c)

/-- The host narrows the output gradient … -/
theorem entry0 : @Eq (FVec Ideal S4096x2048 .bf16) (V m c main_v0) (truncf .bf16 (arg3 m c) bitsLt_bf16_f32) := by
  entry_read
  rfl
/-- … and cuts the matrix into slots of columns. -/
theorem entry1 : @Eq (FVec Ideal S4x1024x512 .bf16) (V m c main_v3) (truncf .bf16 (transpose S4x1024x512 [1, 0, 2]
    (shapeCast S1024x4x512 (arg2 m c) shapeCasts_S1024x2048_S1024x4x512) transposes_S1024x4x512_S4x1024x512_1_0_2) bitsLt_bf16_f32) := by
  entry_read
  rfl
/-- The matrix in slots, entry by entry. -/
theorem slots (l : Fin 4) (t : Fin 1024) (k : Fin 512) : V m c main_v3 (ix3 l t k) = arg2 m c (ix2 t (col l k)) := by
  refine (congrFun (entry1 m c) (ix3 l t k)).trans ?_
  pointwise
  rfl
/-- The input, … -/
theorem entry2 : @Eq (FVec Ideal S4096x1024 .f32) (V m c main_arg0) (arg0 m c) := by
  entry_read
  rfl
/-- … the passed gradient … -/
theorem entry3 : @Eq (FVec Ideal S4096x1024 .f32) (V m c main_arg4) (arg4 m c) := by
  entry_read
  rfl
/-- … and the gain are the arguments. -/
theorem entry4 : @Eq (FVec Ideal S1x1024 .f32) (V m c main_arg1) (arg1 m c) := by
  entry_read
  rfl

variable (i : Fin 8) (j : Fin 1)

/-- The output gradient's block holds its rows. -/
theorem block0 (t : Fin 512) (k : Fin 2048) : (show FVec Ideal S512x2048 .bf16 from iblk m c 0 (point i j)) (ix2 t k) = arg3 m c (ix2 (row i t) k) := by
  refine Eq.trans (?_ : _ = V m c main_v0 (ix2 (row i t) k)) (congrFun (entry0 m c) (ix2 (row i t) k))
  exact congrArg (V m c main_v0) (ix2_of (at_row 512 t (index0 i j).1) (at_zero 2048 k (index0 i j).2))

/-- The matrix's block holds its slots. -/
theorem block1 (l : Fin 4) (t : Fin 1024) (k : Fin 512) : (show FVec Ideal S4x1024x512 .bf16 from iblk m c 1 (point i j)) (ix3 l t k) = arg2 m c (ix2 t (col l k)) := by
  refine Eq.trans ?_ (slots m c l t k : V m c main_v3 (ix3 l t k) = _)
  unfold iblk
  show ((cfg0.win 1).blk (point i j)).view.read (Elt Ideal) _ (ix3 l t k) = _
  rw [View.read_apply]
  show V m c main_v3 _ = V m c main_v3 _
  refine congrArg (V m c main_v3) (funext fun a => Fin.ext ?_)
  match a with
  | ⟨0, _⟩ => show win0_1.index (point i j) 0 * 4 + 1 * (l : ℕ) = (l : ℕ); rw [(index1 i j).1]; omega
  | ⟨1, _⟩ => show win0_1.index (point i j) 1 * 1024 + 1 * (t : ℕ) = (t : ℕ); rw [(index1 i j).2.1]; omega
  | ⟨2, _⟩ => show win0_1.index (point i j) 2 * 512 + 1 * (k : ℕ) = (k : ℕ); rw [(index1 i j).2.2]; omega

/-- The input's block holds its rows. -/
theorem block2 (t : Fin 512) (k : Fin 1024) : (show FVec Ideal S512x1024 .f32 from iblk m c 2 (point i j)) (ix2 t k) = arg0 m c (ix2 (row i t) k) := by
  refine Eq.trans (?_ : _ = V m c main_arg0 (ix2 (row i t) k)) (congrFun (entry2 m c) (ix2 (row i t) k))
  exact congrArg (V m c main_arg0) (ix2_of (at_row 512 t (index2 i j).1) (at_zero 1024 k (index2 i j).2))

/-- The passed gradient's block holds its rows. -/
theorem block3 (t : Fin 512) (k : Fin 1024) : (show FVec Ideal S512x1024 .f32 from iblk m c 3 (point i j)) (ix2 t k) = arg4 m c (ix2 (row i t) k) := by
  refine Eq.trans (?_ : _ = V m c main_arg4 (ix2 (row i t) k)) (congrFun (entry3 m c) (ix2 (row i t) k))
  exact congrArg (V m c main_arg4) (ix2_of (at_row 512 t (index3 i j).1) (at_zero 1024 k (index3 i j).2))

/-- The gain's block holds it whole. -/
theorem block4 (t : Fin 1) (k : Fin 1024) : (show FVec Ideal S1x1024 .f32 from iblk m c 4 (point i j)) (ix2 t k) = arg1 m c (ix2 t k) := by
  refine Eq.trans (?_ : _ = V m c main_arg1 (ix2 t k)) (congrFun (entry4 m c) (ix2 t k))
  exact congrArg (V m c main_arg1) (ix2_of (at_zero 1 t (index4 i j).1) (at_zero 1024 k (index4 i j).2))

/-- The reference's product, entry by entry. -/
theorem dh_apply (t : Fin 4096) (s : Fin 1024) : dh m c (ix2 t s) = ∑ k, arg3 m c (ix2 t k) * arg2 m c (ix2 s k) := by
  unfold dh val_main_v16
  pointwise

/-- The block's product is the reference's. -/
theorem prod_block (r : Fin 512) (s : Fin 1024) : prod (F := Ideal) (iblk m c 0 (point i j)) (iblk m c 1 (point i j)) (ix2 r s) = dh m c (ix2 (row i r) s) := by
  rw [prod_apply (block0 m c i j) (block1 m c i j) r s, dh_apply]
  exact sum_split (n := 4) (b := 512) rfl fun k => arg3 m c (ix2 (row i r) k) * arg2 m c (ix2 s k)

/-- A row's form of the result. -/
abbrev form (t : Fin 4096) (s : Fin 1024) : EReal :=
  kernelForm (fun k => arg0 m c (ix2 t k)) (fun k => dh m c (ix2 t k)) (fun k => arg1 m c (ix2 0 k)) (arg4 m c (ix2 t s)) s

/-- What a point leaves of the input's gradient. -/
theorem left5 (r : Fin 512) (s : Fin 1024) : (show FVec Ideal S512x1024 .f32 from (outsAt0 m c (point i j).val (point i j).isLt).1) (ix2 r s) = form m c (row i r) s := by
  have e := pay3_apply (prod_block m c i j) (block2 m c i j) (block4 m c i j 0) (block3 m c i j) r s
  by_cases h : (point i j).val % 8 = 0
  · rw [outsAt0_A m c (point i j) h]
    dsimp only
    rw [out_A_5]
    exact e
  · rw [outsAt0_B m c (point i j) h]
    dsimp only
    rw [out_B_5]
    exact e

/-- … and of its narrowed copy. -/
theorem left6 (r : Fin 512) (s : Fin 1024) : (show FVec Ideal S512x1024 .bf16 from (outsAt0 m c (point i j).val (point i j).isLt).2.1) (ix2 r s) = form m c (row i r) s := by
  have e := pay4_apply (prod_block m c i j) (block2 m c i j) (block4 m c i j 0) (block3 m c i j) r s
  by_cases h : (point i j).val % 8 = 0
  · rw [outsAt0_A m c (point i j) h]
    dsimp only
    rw [out_A_6]
    exact e
  · rw [outsAt0_B m c (point i j) h]
    dsimp only
    rw [out_B_6]
    exact e

/-- A token's share of the gain's gradient. -/
abbrev share (s : Fin 1024) (t : Fin 4096) : EReal := dh m c (ix2 t s) * (arg0 m c (ix2 t s) * Ideal.rsqrt (mean fun k => arg0 m c (ix2 t k)))

/-- The first point leaves its panel's share of the gain's gradient … -/
theorem first (s : Fin 1024) : (show FVec Ideal S1x1024 .f32 from (outsAt0 m c (point 0 0).val (point 0 0).isLt).2.2) (ix2 0 s) = 0 + ∑ r, share m c s (row 0 r) := by
  rw [outsAt0_A m c (point 0 0) rfl]
  dsimp only
  rw [out_A_7]
  exact pay5_apply (prod_block m c 0 0) (block2 m c 0 0) pay6_apply s

/-- … and a later one adds its own. -/
theorem next (i i' : Fin 8) (hi : (i : ℕ) = i' + 1) {O : Fin 1024 → EReal}
    (h : ∀ s, (show FVec Ideal S1x1024 .f32 from (outsAt0 m c (point i' 0).val (point i' 0).isLt).2.2) (ix2 0 s) = O s) (s : Fin 1024) :
    (show FVec Ideal S1x1024 .f32 from (outsAt0 m c (point i 0).val (point i 0).isLt).2.2) (ix2 0 s) = O s + ∑ r, share m c s (row i r) := by
  have e : (point i 0).val - 1 = (point i' 0).val := by
    show (i : ℕ) * 1 + 0 - 1 = i' * 1 + 0
    omega
  rw [outsAt0_B m c (point i 0) (by show ¬ ((i : ℕ) * 1 + 0) % 8 = 0; omega)]
  dsimp only
  rw [out_B_7]
  simp only [e]
  exact pay5_apply (prod_block m c i 0) (block2 m c i 0) h s

/-- After the last point the block holds the sum over all tokens. -/
theorem left7 (s : Fin 1024) : (show FVec Ideal S1x1024 .f32 from (outsAt0 m c (point 7 0).val (point 7 0).isLt).2.2) (ix2 0 s) = ∑ t, share m c s t := by
  have h := next m c 7 6 rfl (next m c 6 5 rfl (next m c 5 4 rfl (next m c 4 3 rfl (next m c 3 2 rfl (next m c 2 1 rfl (next m c 1 0 rfl (first m c)))))))
  refine (h s).trans ?_
  refine Eq.trans ?_ (sum_split (n := 8) (b := 512) rfl (share m c s))
  rw [Fin.sum_univ_eight, zero_add]
  rfl

/-- The input's gradient, entry by entry. -/
theorem array5 (i : Fin 8) (j : Fin 1) (r : Fin 512) (s : Fin 1024) : (show FVec Ideal S4096x1024 .f32 from (dats m 0 c).arrAt 5 cfg0.N) (ix2 (row i r) s)
    = form m c (row i r) s := by
  have e := congrFun (Value.blocks5 m c (point i j) (flush0_5 _)) (ix2 r s)
  rw [View.read_apply, Value.flushed5] at e
  have t := left5 m c i j r s
  refine Eq.trans ?_ t
  refine Eq.trans ?_ e
  show (dats m 0 c).arrAt 5 cfg0.N _ = (dats m 0 c).arrAt 5 cfg0.N _
  refine congrArg ((dats m 0 c).arrAt 5 cfg0.N) (funext fun a => Fin.ext ?_)
  match a with
  | ⟨0, _⟩ => show (i : ℕ) * 512 + (r : ℕ) = win0_5.index (point i j) 0 * 512 + 1 * (r : ℕ); rw [(index5 i j).1]; omega
  | ⟨1, _⟩ => show (s : ℕ) = win0_5.index (point i j) 1 * 1024 + 1 * (s : ℕ); rw [(index5 i j).2]; omega

/-- The narrowed copy, entry by entry. -/
theorem array6 (i : Fin 8) (j : Fin 1) (r : Fin 512) (s : Fin 1024) : (show FVec Ideal S4096x1024 .bf16 from (dats m 0 c).arrAt 6 cfg0.N) (ix2 (row i r) s)
    = form m c (row i r) s := by
  have e := congrFun (Value.blocks6 m c (point i j) (flush0_6 _)) (ix2 r s)
  rw [View.read_apply, Value.flushed6] at e
  have t := left6 m c i j r s
  refine Eq.trans ?_ t
  refine Eq.trans ?_ e
  show (dats m 0 c).arrAt 6 cfg0.N _ = (dats m 0 c).arrAt 6 cfg0.N _
  refine congrArg ((dats m 0 c).arrAt 6 cfg0.N) (funext fun a => Fin.ext ?_)
  match a with
  | ⟨0, _⟩ => show (i : ℕ) * 512 + (r : ℕ) = win0_6.index (point i j) 0 * 512 + 1 * (r : ℕ); rw [(index6 i j).1]; omega
  | ⟨1, _⟩ => show (s : ℕ) = win0_6.index (point i j) 1 * 1024 + 1 * (s : ℕ); rw [(index6 i j).2]; omega

/-- One point alone writes the gain's gradient back. -/
theorem disjoint7 : ∀ t t' : Fin cfg0.N, (cfg0.win 7).flush t = true → (cfg0.win 7).flush t' = true → t ≠ t' →
    Disjoint ((cfg0.win 7).blk t).view.set ((cfg0.win 7).blk t').view.set := fun t t' hf hf' hne =>
  (cfg0.win 7).disjoint_blk fun h => hne
    ((by decide +kernel : ∀ t t' : Fin grid0.N, t.val % 8 = 7 → t'.val % 8 = 7 → win0_7.index t = win0_7.index t' → t = t') t t'
      ((flush0_7 t).mp hf) ((flush0_7 t').mp hf') h)

/-- The gain's gradient, entry by entry. -/
theorem array7 (r : Fin 1) (s : Fin 1024) : (show FVec Ideal S1x1024 .f32 from (dats m 0 c).arrAt 7 cfg0.N) (ix2 r s) = ∑ t, share m c s t := by
  have e := congrFun ((dats m 0 c).read_blk_arrAt_eq_flushed 7 disjoint7 cfg0.N (point 7 0) (point 7 0).isLt ((flush0_7 _).mpr rfl)) (ix2 0 s)
  rw [View.read_apply, Value.flushed7] at e
  refine Eq.trans ?_ (left7 m c s)
  refine Eq.trans ?_ e
  show (dats m 0 c).arrAt 7 cfg0.N _ = (dats m 0 c).arrAt 7 cfg0.N _
  refine congrArg ((dats m 0 c).arrAt 7 cfg0.N) (funext fun a => Fin.ext ?_)
  match a with
  | ⟨0, _⟩ => show (r : ℕ) = win0_7.index (point 7 0) 0 * 1 + 1 * 0; rw [(index7 7 0).1]; omega
  | ⟨1, _⟩ => show (s : ℕ) = win0_7.index (point 7 0) 1 * 1024 + 1 * (s : ℕ); rw [(index7 7 0).2]; omega

/-- The reference's gradient of the input, entry by entry. -/
theorem reference5 (x0 : FVec Ideal S4096x1024 .f32) (x1 : FVec Ideal S1x1024 .f32) (x2 : FVec Ideal S1024x2048 .f32) (x3 : FVec Ideal S4096x2048 .f32) (x4 : FVec Ideal S4096x1024 .f32) (t : Fin 4096) (s : Fin 1024) : val_main_v36 (F := Ideal) x0 x1 x2 x3 x4 (ix2 t s)
      = kernelForm (fun k => x0 (ix2 t k)) (fun k => val_main_v16 (F := Ideal) x2 x3 (ix2 t k)) (fun k => x1 (ix2 0 k)) (x4 (ix2 t s)) s := by
  rw [← forms]
  unfold val_main_v36 val_main_v35 val_main_v34 val_main_v33 val_main_v32 val_main_v31 val_main_cst_6 val_main_v30 val_main_v29 val_main_cst_5 val_main_v28 val_main_v10 val_main_v8 val_main_v9 val_main_cst_2 val_main_v24 val_main_v23 val_main_cst_4 val_main_v22 val_main_v27 val_main_v26 val_main_v25 val_main_v7 val_main_v6 val_main_v5 val_main_cst_1 val_main_v4 val_main_v3 val_main_cst_0 val_main_v2 val_main_v1 val_main_cst val_main_v0 val_main_v21 val_main_v20
    derivForm factor mean
  pointwise
  simp only [Fin.sum_univ_one]

/-- The narrowed copy. -/
theorem reference6 (x0 : FVec Ideal S4096x1024 .f32) (x1 : FVec Ideal S1x1024 .f32) (x2 : FVec Ideal S1024x2048 .f32) (x3 : FVec Ideal S4096x2048 .f32) (x4 : FVec Ideal S4096x1024 .f32) (t : Fin 4096) (s : Fin 1024) : val_main_v37 (F := Ideal) x0 x1 x2 x3 x4 (ix2 t s)
      = kernelForm (fun k => x0 (ix2 t k)) (fun k => val_main_v16 (F := Ideal) x2 x3 (ix2 t k)) (fun k => x1 (ix2 0 k)) (x4 (ix2 t s)) s := by
  refine Eq.trans ?_ (reference5 x0 x1 x2 x3 x4 t s)
  unfold val_main_v37
  pointwise

/-- The reference's gradient of the gain, entry by entry. -/
theorem reference7 (x0 : FVec Ideal S4096x1024 .f32) (x2 : FVec Ideal S1024x2048 .f32) (x3 : FVec Ideal S4096x2048 .f32) (r : Fin 1) (s : Fin 1024) : val_main_v19 (F := Ideal) x0 x2 x3 (ix2 r s)
      = ∑ t, val_main_v16 (F := Ideal) x2 x3 (ix2 t s) * (x0 (ix2 t s) * Ideal.rsqrt (mean fun k => x0 (ix2 t k))) := by
  unfold val_main_v19 val_main_v18 val_main_cst_3 val_main_v17 val_main_v12 val_main_v11 val_main_v7 val_main_v6 val_main_v5 val_main_cst_1 val_main_v4 val_main_v3 val_main_cst_0 val_main_v2 val_main_v1 val_main_cst val_main_v0 mean
  pointwise
  exact Finset.sum_congr rfl fun t _ => mul_comm _ _

/-- The reference's result is the kernel's result array. -/
theorem agree5 (x0 : FVec Ideal S4096x1024 .f32) (x1 : FVec Ideal S1x1024 .f32) (x2 : FVec Ideal S1024x2048 .f32) (x3 : FVec Ideal S4096x2048 .f32) (x4 : FVec Ideal S4096x1024 .f32) (h0 : x0 = arg0 m c) (h1 : x1 = arg1 m c) (h2 : x2 = arg2 m c) (h3 : x3 = arg3 m c) (h4 : x4 = arg4 m c) :
    val_main_v36 (F := Ideal) x0 x1 x2 x3 x4 = (show FVec Ideal S4096x1024 .f32 from (dats m 0 c).arrAt 5 cfg0.N) := by
  funext ij
  rw [← ix2_eta ij]
  obtain ⟨i, r, hr⟩ := row_surj (ij 0)
  rw [← hr]
  subst h0 h1 h2 h3 h4
  exact (reference5 _ _ _ _ _ (row i r) (ij 1)).trans (array5 m c i 0 r (ij 1)).symm

/-- The reference's result is the kernel's result array. -/
theorem agree6 (x0 : FVec Ideal S4096x1024 .f32) (x1 : FVec Ideal S1x1024 .f32) (x2 : FVec Ideal S1024x2048 .f32) (x3 : FVec Ideal S4096x2048 .f32) (x4 : FVec Ideal S4096x1024 .f32) (h0 : x0 = arg0 m c) (h1 : x1 = arg1 m c) (h2 : x2 = arg2 m c) (h3 : x3 = arg3 m c) (h4 : x4 = arg4 m c) :
    val_main_v37 (F := Ideal) x0 x1 x2 x3 x4 = (show FVec Ideal S4096x1024 .bf16 from (dats m 0 c).arrAt 6 cfg0.N) := by
  funext ij
  rw [← ix2_eta ij]
  obtain ⟨i, r, hr⟩ := row_surj (ij 0)
  rw [← hr]
  subst h0 h1 h2 h3 h4
  exact (reference6 _ _ _ _ _ (row i r) (ij 1)).trans (array6 m c i 0 r (ij 1)).symm

/-- … and the gain's gradient. -/
theorem agree7 (x0 : FVec Ideal S4096x1024 .f32) (x2 : FVec Ideal S1024x2048 .f32) (x3 : FVec Ideal S4096x2048 .f32) (h0 : x0 = arg0 m c) (h2 : x2 = arg2 m c) (h3 : x3 = arg3 m c) :
    val_main_v19 (F := Ideal) x0 x2 x3 = (show FVec Ideal S1x1024 .f32 from (dats m 0 c).arrAt 7 cfg0.N) := by
  funext ij
  rw [← ix2_eta ij]
  subst h0 h2 h3
  exact (reference7 _ _ _ (ij 0) (ij 1)).trans (array7 m c (ij 0) (ij 1)).symm

end Cert.Kernel17Ideal.Tile

end

end
-- ==== Proof.MlpLossStored.lean ====
/- What one grid point of the last down product with the loss (`Kernel18`) leaves in its four staging blocks, as functions of its five
   input blocks (the activations, the matrix, the residual, the target, the norm's gain) and, for the loss and the gain's gradient, of
   what their blocks held. -/
module

public import proofs.«01_k».proof.Proof.Gen.Kernel18Ideal.Value
public import Idealize.ShloMosaic.Lib.Pipeline.ValueKit.Tiles
public import Idealize.ShloMosaic.Lib.Tactic

@[expose] public section

noncomputable section

namespace Cert.Kernel18Ideal.Stored

open Cert.Kernel18Ideal Cert.Kernel18Ideal.Gen Idealize.ShloMosaic Idealize.ShloMosaic.TcCoe Idealize.SL.Sem

variable {F : FTy → Type} [FloatOps F]

/-- The rectangles start at the origin. -/
theorem hz : (![0, 0] : Fin 2 → Nat) = fun _ => 0 := funext fun a => by fin_cases a <;> rfl

/-- The stream's gradient at the first point. -/
theorem out_A_5 (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (hc0 : cond0_0 i)
    (x0 : Vec F S512x4096 .bf16) (x1 : Vec F S4096x1024 .bf16) (x2 : Vec F S512x1024 .f32) (x3 : Vec F S512x1024 .f32) (x4 : Vec F S1x1024 .f32) :
    out0_A_5 c i arg2 harg2 arg3 harg3 arg4 harg4 arg5 harg5 arg6 harg6 arg7 harg7 arg8 harg8 arg9 harg9 arg10 harg10 hc0 x0 x1 x2 x3 x4 = k0_pay12 (k0_pay4 x0 x1 x2) x4 (k0_pay5 x0 x1 x2 x4 x3) := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x4096) hz, View.ld_unit_zero (S := S4096x1024) hz, View.ld_unit_zero (S := S512x1024) hz, View.ld_unit_zero (S := S1x1024) hz]

/-- The stream's gradient, narrowed, at the first point. -/
theorem out_A_6 (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (hc0 : cond0_0 i)
    (x0 : Vec F S512x4096 .bf16) (x1 : Vec F S4096x1024 .bf16) (x2 : Vec F S512x1024 .f32) (x3 : Vec F S512x1024 .f32) (x4 : Vec F S1x1024 .f32) :
    out0_A_6 c i arg2 harg2 arg3 harg3 arg4 harg4 arg5 harg5 arg6 harg6 arg7 harg7 arg8 harg8 arg9 harg9 arg10 harg10 hc0 x0 x1 x2 x3 x4 = k0_pay14 (k0_pay4 x0 x1 x2) x4 (k0_pay5 x0 x1 x2 x4 x3) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero (S := S512x1024) hz]
  simp only [View.readAt_eq_ld, harg2.read_unread, harg3.read_unread, harg4.read_unread, harg5.read_unread, harg6.read_unread, View.ld_unit_zero (S := S512x4096) hz, View.ld_unit_zero (S := S4096x1024) hz, View.ld_unit_zero (S := S512x1024) hz, View.ld_unit_zero (S := S1x1024) hz]

/-- The loss at the first point. -/
theorem out_A_7 (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (hc0 : cond0_0 i)
    (x0 : Vec F S512x4096 .bf16) (x1 : Vec F S4096x1024 .bf16) (x2 : Vec F S512x1024 .f32) (x3 : Vec F S512x1024 .f32) (x4 : Vec F S1x1024 .f32) :
    out0_A_7 c i arg2 harg2 arg3 harg3 arg4 harg4 arg5 harg5 arg6 harg6 arg7 harg7 arg8 harg8 arg9 harg9 arg10 harg10 hc0 x0 x1 x2 x3 x4 = k0_pay8 (k0_pay6 k0_pay2) (k0_pay7 x0 x1 x2 x4 x3) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_cons_unit_zero (S := S1x128) hz]
  simp only [View.readAt_eq_ld, harg2.read_unread, harg3.read_unread, harg4.read_unread, harg5.read_unread, harg6.read_unread, harg9.read_unread, View.ld_unit_zero (S := S512x4096) hz, View.ld_unit_zero (S := S4096x1024) hz, View.ld_unit_zero (S := S512x1024) hz, View.ld_unit_zero (S := S1x1024) hz, View.ld_unit_zero (S := S1x128) hz, View.readCov_unit_zero (S := S1x128) _ hz]

/-- The gain's gradient at the first point. -/
theorem out_A_8 (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (hc0 : cond0_0 i)
    (x0 : Vec F S512x4096 .bf16) (x1 : Vec F S4096x1024 .bf16) (x2 : Vec F S512x1024 .f32) (x3 : Vec F S512x1024 .f32) (x4 : Vec F S1x1024 .f32) :
    out0_A_8 c i arg2 harg2 arg3 harg3 arg4 harg4 arg5 harg5 arg6 harg6 arg7 harg7 arg8 harg8 arg9 harg9 arg10 harg10 hc0 x0 x1 x2 x3 x4 = k0_pay1 (k0_pay13 (k0_pay4 x0 x1 x2) (k0_pay5 x0 x1 x2 x4 x3)) (k0_pay15 k0_pay3) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_cons_unit_zero (S := S1x1024) hz]
  simp only [View.readAt_eq_ld, harg2.read_unread, harg3.read_unread, harg4.read_unread, harg5.read_unread, harg6.read_unread, harg10.read_unread, View.ld_unit_zero (S := S512x4096) hz, View.ld_unit_zero (S := S4096x1024) hz, View.ld_unit_zero (S := S512x1024) hz, View.ld_unit_zero (S := S1x1024) hz, View.readCov_unit_zero (S := S1x1024) _ hz]

/-- The stream's gradient at a later point. -/
theorem out_B_5 (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (hc0 : ¬cond0_0 i)
    (x0 : Vec F S512x4096 .bf16) (x1 : Vec F S4096x1024 .bf16) (x2 : Vec F S512x1024 .f32) (x3 : Vec F S512x1024 .f32) (x4 : Vec F S1x1024 .f32) (xo7 : Vec F S1x128 .f32) (xo8 : Vec F S1x1024 .f32) :
    out0_B_5 c i arg2 harg2 arg3 harg3 arg4 harg4 arg5 harg5 arg6 harg6 arg7 harg7 arg8 harg8 arg9 harg9 arg10 harg10 hc0 x0 x1 x2 x3 x4 xo7 xo8 = k0_pay12 (k0_pay4 x0 x1 x2) x4 (k0_pay5 x0 x1 x2 x4 x3) := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 x3 x4 xo7 xo8)]
  unfold kernelRun0_B
  dsimp only
  sl_unfold_words
  rw [View.canon_unit_zero (S := S512x1024) hz]
  simp only [View.readAt_eq_ld, harg2.read_unread, harg3.read_unread, harg4.read_unread, harg5.read_unread, harg6.read_unread, View.ld_unit_zero (S := S512x4096) hz, View.ld_unit_zero (S := S4096x1024) hz, View.ld_unit_zero (S := S512x1024) hz, View.ld_unit_zero (S := S1x1024) hz]

/-- The stream's gradient, narrowed, at a later point. -/
theorem out_B_6 (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (hc0 : ¬cond0_0 i)
    (x0 : Vec F S512x4096 .bf16) (x1 : Vec F S4096x1024 .bf16) (x2 : Vec F S512x1024 .f32) (x3 : Vec F S512x1024 .f32) (x4 : Vec F S1x1024 .f32) (xo7 : Vec F S1x128 .f32) (xo8 : Vec F S1x1024 .f32) :
    out0_B_6 c i arg2 harg2 arg3 harg3 arg4 harg4 arg5 harg5 arg6 harg6 arg7 harg7 arg8 harg8 arg9 harg9 arg10 harg10 hc0 x0 x1 x2 x3 x4 xo7 xo8 = k0_pay14 (k0_pay4 x0 x1 x2) x4 (k0_pay5 x0 x1 x2 x4 x3) := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 xo7 xo8)]
  unfold kernelRun0_B
  dsimp only
  sl_unfold_words
  rw [View.canon_unit_zero (S := S512x1024) hz]
  simp only [View.readAt_eq_ld, harg2.read_unread, harg3.read_unread, harg4.read_unread, harg5.read_unread, harg6.read_unread, View.ld_unit_zero (S := S512x4096) hz, View.ld_unit_zero (S := S4096x1024) hz, View.ld_unit_zero (S := S512x1024) hz, View.ld_unit_zero (S := S1x1024) hz]

/-- The loss at a later point. -/
theorem out_B_7 (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (hc0 : ¬cond0_0 i)
    (x0 : Vec F S512x4096 .bf16) (x1 : Vec F S4096x1024 .bf16) (x2 : Vec F S512x1024 .f32) (x3 : Vec F S512x1024 .f32) (x4 : Vec F S1x1024 .f32) (xo7 : Vec F S1x128 .f32) (xo8 : Vec F S1x1024 .f32) :
    out0_B_7 c i arg2 harg2 arg3 harg3 arg4 harg4 arg5 harg5 arg6 harg6 arg7 harg7 arg8 harg8 arg9 harg9 arg10 harg10 hc0 x0 x1 x2 x3 x4 xo7 xo8 = k0_pay8 (k0_pay6 xo7) (k0_pay7 x0 x1 x2 x4 x3) := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 xo7 xo8)]
  unfold kernelRun0_B
  dsimp only
  sl_unfold_words
  rw [View.canon_unit_zero (S := S1x128) hz]
  simp only [View.readAt_eq_ld, harg2.read_unread, harg3.read_unread, harg4.read_unread, harg5.read_unread, harg6.read_unread, harg9.read_unread, View.ld_unit_zero (S := S512x4096) hz, View.ld_unit_zero (S := S4096x1024) hz, View.ld_unit_zero (S := S512x1024) hz, View.ld_unit_zero (S := S1x1024) hz, View.ld_unit_zero (S := S1x128) hz]

/-- The gain's gradient at a later point. -/
theorem out_B_8 (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (hc0 : ¬cond0_0 i)
    (x0 : Vec F S512x4096 .bf16) (x1 : Vec F S4096x1024 .bf16) (x2 : Vec F S512x1024 .f32) (x3 : Vec F S512x1024 .f32) (x4 : Vec F S1x1024 .f32) (xo7 : Vec F S1x128 .f32) (xo8 : Vec F S1x1024 .f32) :
    out0_B_8 c i arg2 harg2 arg3 harg3 arg4 harg4 arg5 harg5 arg6 harg6 arg7 harg7 arg8 harg8 arg9 harg9 arg10 harg10 hc0 x0 x1 x2 x3 x4 xo7 xo8 = k0_pay1 (k0_pay13 (k0_pay4 x0 x1 x2) (k0_pay5 x0 x1 x2 x4 x3)) (k0_pay15 xo8) := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 xo7 xo8)]
  unfold kernelRun0_B
  dsimp only
  sl_unfold_words
  rw [View.canon_unit_zero (S := S1x1024) hz]
  simp only [View.readAt_eq_ld, harg2.read_unread, harg3.read_unread, harg4.read_unread, harg5.read_unread, harg6.read_unread, harg10.read_unread, View.ld_unit_zero (S := S512x4096) hz, View.ld_unit_zero (S := S4096x1024) hz, View.ld_unit_zero (S := S512x1024) hz, View.ld_unit_zero (S := S1x1024) hz]

end Cert.Kernel18Ideal.Stored

end

end
-- ==== Proof.MlpLossFwd.lean ====
/- The last down product with the loss (`Kernel18`): the product added to the residual, the loss of its normed rows against the target,
   and the loss's gradients for the stream and the gain are the reference's value and derivative. -/
module

public import proofs.«01_k».proof.Proof.Gen.Kernel18Ideal.Value
public import proofs.«01_k».proof.Proof.Gen.Reference18Ideal.Read
public import Idealize.ShloMosaic.Lib.Pointwise
public import Idealize.ShloMosaic.Lib.Claim
public import proofs.«01_k».proof.Proof.MlpLossStored
public import proofs.«01_k».proof.Proof.NormMath
public import proofs.«01_k».proof.Proof.Blocks

@[expose] public section

noncomputable section

namespace Cert.Kernel18Ideal.Tile

open Cert.Reference18Ideal.Read Cert.Blocks
open Cert.Kernel18Ideal Cert.Kernel18Ideal.Gen Cert.Kernel18Ideal.Stored Cert.NormMath
open Idealize.ShloMosaic Idealize.ShloMosaic.TcCoe Idealize.SL.Sem

/-- The grid point of row block `i` and column block `j`. -/
def point (i : Fin 8) (j : Fin 1) : Fin cfg0.N := ⟨i * 1 + j, by show _ < 8; omega⟩
/-- Row `r` of row block `i`: the rows fall into blocks … -/
def row (i : Fin 8) (r : Fin 512) : Fin 4096 := ⟨i * 512 + r, by omega⟩
/-- … and each lies in some block. -/
theorem row_surj (r : Fin 4096) : ∃ i s, row i s = r :=
  ⟨⟨r / 512, by omega⟩, ⟨r % 512, by omega⟩, Fin.ext (by show (r : ℕ) / 512 * 512 + r % 512 = r; omega)⟩

/-- The activations' block at a point: the row panel. -/
theorem index0 : ∀ i j, win0_0.index (point i j) 0 = (i : ℕ) ∧ win0_0.index (point i j) 1 = 0 := by decide +kernel
/-- The matrix's block: the whole. -/
theorem index1 : ∀ i j, win0_1.index (point i j) 0 = 0 ∧ win0_1.index (point i j) 1 = 0 := by decide +kernel
/-- The residual's block: the row panel. -/
theorem index2 : ∀ i j, win0_2.index (point i j) 0 = (i : ℕ) ∧ win0_2.index (point i j) 1 = 0 := by decide +kernel
/-- The target's block: the row panel. -/
theorem index3 : ∀ i j, win0_3.index (point i j) 0 = (i : ℕ) ∧ win0_3.index (point i j) 1 = 0 := by decide +kernel
/-- The gain's block: the whole. -/
theorem index4 : ∀ i j, win0_4.index (point i j) 0 = 0 ∧ win0_4.index (point i j) 1 = 0 := by decide +kernel
/-- The gradient's block: the row panel. -/
theorem index5 : ∀ i j, win0_5.index (point i j) 0 = (i : ℕ) ∧ win0_5.index (point i j) 1 = 0 := by decide +kernel
/-- The narrowed gradient's block: the row panel. -/
theorem index6 : ∀ i j, win0_6.index (point i j) 0 = (i : ℕ) ∧ win0_6.index (point i j) 1 = 0 := by decide +kernel
/-- The loss's block: the whole. -/
theorem index7 : ∀ i j, win0_7.index (point i j) 0 = 0 ∧ win0_7.index (point i j) 1 = 0 := by decide +kernel
/-- The gain gradient's block: the whole. -/
theorem index8 : ∀ i j, win0_8.index (point i j) 0 = 0 ∧ win0_8.index (point i j) 1 = 0 := by decide +kernel

/-- One half, as the programs write it. -/
theorem half : Ideal.ofBits .f32 0x3F000000#32 = ((1 / 2 : ℝ) : EReal) := by
  simp [Ideal.ofBits, Ideal.ieee, -EReal.coe_mul]; norm_num
/-- One over the row's length, as the kernel writes it. -/
theorem part : Ideal.ofBits .f32 0x3A800000#32 = ((1 / 1024 : ℝ) : EReal) := by
  simp [Ideal.ofBits, Ideal.ieee, -EReal.coe_mul]; norm_num

/-- The derivative adds the error twice, each time with half the factor. -/
theorem twice (e : EReal) : e * Ideal.div (Ideal.ofBits .f32 0x3F000000#32) (Ideal.ofBits .f32 0x44800000#32)
    + Ideal.div (Ideal.ofBits .f32 0x3F000000#32) (Ideal.ofBits .f32 0x44800000#32) * e = e * Ideal.ofBits .f32 0x3A800000#32 := by
  rw [half, width, part, Ideal.div_coe (by norm_num), ← EReal.coe_mul, mul_comm e, mul_comm e, add_self, mul_right_comm, ← EReal.coe_mul]
  congr 2
  norm_num

/-- A row's normed and scaled values less the target. -/
def err (X G T : Fin 1024 → EReal) (s : Fin 1024) : EReal := X s * Ideal.rsqrt (mean X) * G s - T s
/-- A row's share of the loss before the factor one half. -/
def tok (X G T : Fin 1024 → EReal) : EReal := Ideal.div (∑ s, err X G T s * err X G T s) (Ideal.ofBits .f32 0x44800000#32)
/-- The gradient of a row's normed and scaled values. -/
abbrev derr (X G T : Fin 1024 → EReal) (s : Fin 1024) : EReal := err X G T s * Ideal.ofBits .f32 0x3A800000#32

section Payloads

variable {x0 : FVec Ideal S512x4096 .bf16} {x1 : FVec Ideal S4096x1024 .bf16} {x2 x3 : FVec Ideal S512x1024 .f32} {x4 : FVec Ideal S1x1024 .f32}
  {X T : Fin 512 → Fin 1024 → EReal} {G : Fin 1024 → EReal}
  (hX : ∀ r s, k0_pay4 (F := Ideal) x0 x1 x2 (ix2 r s) = X r s) (hT : ∀ r s, x3 (ix2 r s) = T r s) (hG : ∀ s, x4 (ix2 0 s) = G s)
include hX hT hG

/-- The error. -/
theorem pay5_apply (r : Fin 512) (s : Fin 1024) : k0_pay5 (F := Ideal) x0 x1 x2 x4 x3 (ix2 r s) = err (X r) G (T r) s := by
  unfold k0_pay5 err mean
  pointwise
  simp only [hX, hT, hG]

/-- The panel's share of the loss before the factor one half. -/
theorem pay7_apply (l : Fin 1) : k0_pay7 (F := Ideal) x0 x1 x2 x4 x3 (ix1 l) = ∑ r, tok (X r) G (T r) := by
  unfold k0_pay7 tok
  pointwise
  simp only [pay5_apply hX hT hG]

/-- The loss's block: what it held and the panel's share. -/
theorem pay8_apply {o : FVec Ideal S1x128 .f32} {O : Fin 128 → EReal} (ho : ∀ l, o (ix2 0 l) = O l) (l : Fin 128) :
    k0_pay8 (F := Ideal) (k0_pay6 o) (k0_pay7 x0 x1 x2 x4 x3) (ix2 0 l) = O l + Ideal.ofBits .f32 0x3F000000#32 * ∑ r, tok (X r) G (T r) := by
  unfold k0_pay8 k0_pay6
  pointwise
  simp only [pay7_apply hX hT hG, ho, mul_one]

/-- The stored gradient. -/
theorem pay12_apply (r : Fin 512) (s : Fin 1024) : k0_pay12 (F := Ideal) (k0_pay4 x0 x1 x2) x4 (k0_pay5 x0 x1 x2 x4 x3) (ix2 r s)
    = kernelForm (X r) (derr (X r) G (T r)) G 0 s := by
  unfold k0_pay12 k0_pay11 k0_pay10 k0_pay9 kernelForm
  rw [add_zero]
  unfold mean
  pointwise
  simp only [pay5_apply hX hT hG, hX, hG]

/-- … and narrowed. -/
theorem pay14_apply (r : Fin 512) (s : Fin 1024) : k0_pay14 (F := Ideal) (k0_pay4 x0 x1 x2) x4 (k0_pay5 x0 x1 x2 x4 x3) (ix2 r s)
    = kernelForm (X r) (derr (X r) G (T r)) G 0 s := by
  refine Eq.trans ?_ (pay12_apply hX hT hG r s)
  unfold k0_pay14
  pointwise

/-- The gain gradient's block: what it held and the panel's sum. -/
theorem pay1_apply {o : FVec Ideal S1x1024 .f32} {O : Fin 1024 → EReal} (ho : ∀ s, o (ix2 0 s) = O s) (s : Fin 1024) :
    k0_pay1 (F := Ideal) (k0_pay13 (k0_pay4 x0 x1 x2) (k0_pay5 x0 x1 x2 x4 x3)) (k0_pay15 o) (ix2 0 s)
      = O s + ∑ r, derr (X r) G (T r) s * (X r s * Ideal.rsqrt (mean (X r))) := by
  unfold k0_pay1 k0_pay13 k0_pay15 k0_pay11 k0_pay10 k0_pay9 mean
  pointwise
  simp only [pay5_apply hX hT hG, hX, ho]

end Payloads

/-- The loss starts at zero, … -/
theorem pay2_apply (l : Fin 128) : k0_pay2 (F := Ideal) (ix2 0 l) = 0 := by
  unfold k0_pay2
  pointwise
/-- … the gain's gradient too. -/
theorem pay3_apply (s : Fin 1024) : k0_pay3 (F := Ideal) (ix2 0 s) = 0 := by
  unfold k0_pay3
  pointwise
/-- The product added to the residual. -/
theorem pay4_apply {x0 : FVec Ideal S512x4096 .bf16} {x1 : FVec Ideal S4096x1024 .bf16} {x2 : FVec Ideal S512x1024 .f32}
    {a : Fin 512 → Fin 4096 → EReal} {d : Fin 4096 → Fin 1024 → EReal} {e : Fin 512 → Fin 1024 → EReal}
    (h0 : ∀ r k, x0 (ix2 r k) = a r k) (h1 : ∀ k s, x1 (ix2 k s) = d k s) (h2 : ∀ r s, x2 (ix2 r s) = e r s) (r : Fin 512) (s : Fin 1024) :
    k0_pay4 (F := Ideal) x0 x1 x2 (ix2 r s) = e r s + ∑ k, a r k * d k s := by
  unfold k0_pay4
  pointwise
  simp only [h0, h1, h2, add_comm (e r s)]

variable (m : (ℓ : Loc nD τ sig) → Buf (Elt Ideal) ℓ) (c : Dev nD)

/-- The layer's input, the norm's gain, the two weight matrices, the target and the last norm's gain, as the device holds them. -/
abbrev arg0 : FVec Ideal S4096x1024 .f32 := m ((c : Thread nD τ).loc main_arg0)
abbrev arg1 : FVec Ideal S1x1024 .f32 := m ((c : Thread nD τ).loc main_arg1)
abbrev arg2 : FVec Ideal S1024x4096 .f32 := m ((c : Thread nD τ).loc main_arg2)
abbrev arg3 : FVec Ideal S4096x1024 .f32 := m ((c : Thread nD τ).loc main_arg3)
abbrev arg4 : FVec Ideal S4096x1024 .f32 := m ((c : Thread nD τ).loc main_arg4)
abbrev arg5 : FVec Ideal S1x1024 .f32 := m ((c : Thread nD τ).loc main_arg5)
/-- The reference's activations … -/
abbrev act : FVec Ideal S4096x4096 .f32 := val_main_v14 (F := Ideal) (arg0 m c) (arg1 m c) (arg2 m c)
/-- … and its stream. -/
abbrev stream : FVec Ideal S4096x1024 .f32 := val_main_v16 (F := Ideal) (arg0 m c) (arg1 m c) (arg2 m c) (arg3 m c)

/-- The host computes the activations as the reference does … -/
theorem entry0 : @Eq (FVec Ideal S4096x4096 .bf16) (V m c main_v15) (truncf .bf16 (act m c) bitsLt_bf16_f32) := by
  entry_read
  rfl
/-- … and narrows the matrix. -/
theorem entry1 : @Eq (FVec Ideal S4096x1024 .bf16) (V m c main_v16) (truncf .bf16 (arg3 m c) bitsLt_bf16_f32) := by
  entry_read
  rfl
/-- The residual, … -/
theorem entry2 : @Eq (FVec Ideal S4096x1024 .f32) (V m c main_arg0) (arg0 m c) := by
  entry_read
  rfl
/-- … the target … -/
theorem entry3 : @Eq (FVec Ideal S4096x1024 .f32) (V m c main_arg4) (arg4 m c) := by
  entry_read
  rfl
/-- … and the gain are the arguments. -/
theorem entry4 : @Eq (FVec Ideal S1x1024 .f32) (V m c main_arg5) (arg5 m c) := by
  entry_read
  rfl

variable (i : Fin 8) (j : Fin 1)

/-- The activations' block holds their rows. -/
theorem block0 (t : Fin 512) (k : Fin 4096) : (show FVec Ideal S512x4096 .bf16 from iblk m c 0 (point i j)) (ix2 t k) = act m c (ix2 (row i t) k) := by
  refine Eq.trans (?_ : _ = V m c main_v15 (ix2 (row i t) k)) (congrFun (entry0 m c) (ix2 (row i t) k))
  exact congrArg (V m c main_v15) (ix2_of (at_row 512 t (index0 i j).1) (at_zero 4096 k (index0 i j).2))

/-- The matrix's block holds it whole. -/
theorem block1 (t : Fin 4096) (k : Fin 1024) : (show FVec Ideal S4096x1024 .bf16 from iblk m c 1 (point i j)) (ix2 t k) = arg3 m c (ix2 t k) := by
  refine Eq.trans (?_ : _ = V m c main_v16 (ix2 t k)) (congrFun (entry1 m c) (ix2 t k))
  exact congrArg (V m c main_v16) (ix2_of (at_zero 4096 t (index1 i j).1) (at_zero 1024 k (index1 i j).2))

/-- The residual's block holds its rows. -/
theorem block2 (t : Fin 512) (k : Fin 1024) : (show FVec Ideal S512x1024 .f32 from iblk m c 2 (point i j)) (ix2 t k) = arg0 m c (ix2 (row i t) k) := by
  refine Eq.trans (?_ : _ = V m c main_arg0 (ix2 (row i t) k)) (congrFun (entry2 m c) (ix2 (row i t) k))
  exact congrArg (V m c main_arg0) (ix2_of (at_row 512 t (index2 i j).1) (at_zero 1024 k (index2 i j).2))

/-- The target's block holds its rows. -/
theorem block3 (t : Fin 512) (k : Fin 1024) : (show FVec Ideal S512x1024 .f32 from iblk m c 3 (point i j)) (ix2 t k) = arg4 m c (ix2 (row i t) k) := by
  refine Eq.trans (?_ : _ = V m c main_arg4 (ix2 (row i t) k)) (congrFun (entry3 m c) (ix2 (row i t) k))
  exact congrArg (V m c main_arg4) (ix2_of (at_row 512 t (index3 i j).1) (at_zero 1024 k (index3 i j).2))

/-- The gain's block holds it whole. -/
theorem block4 (t : Fin 1) (k : Fin 1024) : (show FVec Ideal S1x1024 .f32 from iblk m c 4 (point i j)) (ix2 t k) = arg5 m c (ix2 t k) := by
  refine Eq.trans (?_ : _ = V m c main_arg5 (ix2 t k)) (congrFun (entry4 m c) (ix2 t k))
  exact congrArg (V m c main_arg5) (ix2_of (at_zero 1 t (index4 i j).1) (at_zero 1024 k (index4 i j).2))

/-- The reference's stream, entry by entry. -/
theorem stream_apply (t : Fin 4096) (s : Fin 1024) : stream m c (ix2 t s) = arg0 m c (ix2 t s) + ∑ k, act m c (ix2 t k) * arg3 m c (ix2 k s) := by
  unfold stream val_main_v16 val_main_v15
  pointwise

/-- The block's stream is the reference's. -/
theorem stream_block (r : Fin 512) (s : Fin 1024) : k0_pay4 (F := Ideal) (iblk m c 0 (point i j)) (iblk m c 1 (point i j)) (iblk m c 2 (point i j)) (ix2 r s)
    = stream m c (ix2 (row i r) s) :=
  (pay4_apply (block0 m c i j) (block1 m c i j) (block2 m c i j) r s).trans (stream_apply m c (row i r) s).symm

/-- A row's form of the gradient. -/
abbrev form (t : Fin 4096) (s : Fin 1024) : EReal :=
  kernelForm (fun k => stream m c (ix2 t k)) (derr (fun k => stream m c (ix2 t k)) (fun k => arg5 m c (ix2 0 k)) (fun k => arg4 m c (ix2 t k))) (fun k => arg5 m c (ix2 0 k)) 0 s

/-- What a point leaves of the stream's gradient. -/
theorem left5 (r : Fin 512) (s : Fin 1024) : (show FVec Ideal S512x1024 .f32 from (outsAt0 m c (point i j).val (point i j).isLt).1) (ix2 r s) = form m c (row i r) s := by
  have e := pay12_apply (stream_block m c i j) (block3 m c i j) (block4 m c i j 0) r s
  by_cases h : (point i j).val % 8 = 0
  · rw [outsAt0_A m c (point i j) h]
    dsimp only
    rw [out_A_5]
    exact e
  · rw [outsAt0_B m c (point i j) h]
    dsimp only
    rw [out_B_5]
    exact e

/-- … and of its narrowed copy. -/
theorem left6 (r : Fin 512) (s : Fin 1024) : (show FVec Ideal S512x1024 .bf16 from (outsAt0 m c (point i j).val (point i j).isLt).2.1) (ix2 r s) = form m c (row i r) s := by
  have e := pay14_apply (stream_block m c i j) (block3 m c i j) (block4 m c i j 0) r s
  by_cases h : (point i j).val % 8 = 0
  · rw [outsAt0_A m c (point i j) h]
    dsimp only
    rw [out_A_6]
    exact e
  · rw [outsAt0_B m c (point i j) h]
    dsimp only
    rw [out_B_6]
    exact e

/-- A token's share of the loss before the factor one half, … -/
abbrev lossOf (t : Fin 4096) : EReal := tok (fun k => stream m c (ix2 t k)) (fun k => arg5 m c (ix2 0 k)) (fun k => arg4 m c (ix2 t k))
/-- … and of the gain's gradient. -/
abbrev share (s : Fin 1024) (t : Fin 4096) : EReal :=
  derr (fun k => stream m c (ix2 t k)) (fun k => arg5 m c (ix2 0 k)) (fun k => arg4 m c (ix2 t k)) s * (stream m c (ix2 t s) * Ideal.rsqrt (mean (fun k => stream m c (ix2 t k))))

/-- The first point leaves its panel's share of the loss … -/
theorem first_loss (s : Fin 128) : (show FVec Ideal S1x128 .f32 from (outsAt0 m c (point 0 0).val (point 0 0).isLt).2.2.1) (ix2 0 s) = 0 + Ideal.ofBits .f32 0x3F000000#32 * ∑ r, lossOf m c (row 0 r) := by
  rw [outsAt0_A m c (point 0 0) rfl]
  dsimp only
  rw [out_A_7]
  exact pay8_apply (stream_block m c 0 0) (block3 m c 0 0) (block4 m c 0 0 0) pay2_apply s

/-- … and a later one adds its own. -/
theorem next_loss (i i' : Fin 8) (hi : (i : ℕ) = i' + 1) {O : Fin 128 → EReal}
    (h : ∀ s, (show FVec Ideal S1x128 .f32 from (outsAt0 m c (point i' 0).val (point i' 0).isLt).2.2.1) (ix2 0 s) = O s) (s : Fin 128) :
    (show FVec Ideal S1x128 .f32 from (outsAt0 m c (point i 0).val (point i 0).isLt).2.2.1) (ix2 0 s) = O s + Ideal.ofBits .f32 0x3F000000#32 * ∑ r, lossOf m c (row i r) := by
  have e : (point i 0).val - 1 = (point i' 0).val := by
    show (i : ℕ) * 1 + 0 - 1 = i' * 1 + 0
    omega
  rw [outsAt0_B m c (point i 0) (by show ¬ ((i : ℕ) * 1 + 0) % 8 = 0; omega)]
  dsimp only
  rw [out_B_7]
  simp only [e]
  exact pay8_apply (stream_block m c i 0) (block3 m c i 0) (block4 m c i 0 0) h s

/-- After the last point the block holds the sum over all tokens. -/
theorem left7 (s : Fin 128) : (show FVec Ideal S1x128 .f32 from (outsAt0 m c (point 7 0).val (point 7 0).isLt).2.2.1) (ix2 0 s) = Ideal.ofBits .f32 0x3F000000#32 * ∑ t, lossOf m c t := by
  have h := next_loss m c 7 6 rfl (next_loss m c 6 5 rfl (next_loss m c 5 4 rfl (next_loss m c 4 3 rfl (next_loss m c 3 2 rfl (next_loss m c 2 1 rfl (next_loss m c 1 0 rfl (first_loss m c)))))))
  refine (h s).trans ?_
  refine Eq.trans ?_ (congrArg (Ideal.ofBits .f32 0x3F000000#32 * ·) (sum_split (n := 8) (b := 512) rfl (lossOf m c)))
  beta_reduce
  rw [half, Fin.sum_univ_eight, zero_add]
  simp only [NormMath.mul_add (r := 1 / 2) (by norm_num)]
  rfl

/-- The first point leaves its panel's share of the gain's gradient … -/
theorem first_gain (s : Fin 1024) : (show FVec Ideal S1x1024 .f32 from (outsAt0 m c (point 0 0).val (point 0 0).isLt).2.2.2) (ix2 0 s) = 0 + ∑ r, share m c s (row 0 r) := by
  rw [outsAt0_A m c (point 0 0) rfl]
  dsimp only
  rw [out_A_8]
  exact pay1_apply (stream_block m c 0 0) (block3 m c 0 0) (block4 m c 0 0 0) pay3_apply s

/-- … and a later one adds its own. -/
theorem next_gain (i i' : Fin 8) (hi : (i : ℕ) = i' + 1) {O : Fin 1024 → EReal}
    (h : ∀ s, (show FVec Ideal S1x1024 .f32 from (outsAt0 m c (point i' 0).val (point i' 0).isLt).2.2.2) (ix2 0 s) = O s) (s : Fin 1024) :
    (show FVec Ideal S1x1024 .f32 from (outsAt0 m c (point i 0).val (point i 0).isLt).2.2.2) (ix2 0 s) = O s + ∑ r, share m c s (row i r) := by
  have e : (point i 0).val - 1 = (point i' 0).val := by
    show (i : ℕ) * 1 + 0 - 1 = i' * 1 + 0
    omega
  rw [outsAt0_B m c (point i 0) (by show ¬ ((i : ℕ) * 1 + 0) % 8 = 0; omega)]
  dsimp only
  rw [out_B_8]
  simp only [e]
  exact pay1_apply (stream_block m c i 0) (block3 m c i 0) (block4 m c i 0 0) h s

/-- After the last point the block holds the sum over all tokens. -/
theorem left8 (s : Fin 1024) : (show FVec Ideal S1x1024 .f32 from (outsAt0 m c (point 7 0).val (point 7 0).isLt).2.2.2) (ix2 0 s) = ∑ t, share m c s t := by
  have h := next_gain m c 7 6 rfl (next_gain m c 6 5 rfl (next_gain m c 5 4 rfl (next_gain m c 4 3 rfl (next_gain m c 3 2 rfl (next_gain m c 2 1 rfl (next_gain m c 1 0 rfl (first_gain m c)))))))
  refine (h s).trans ?_
  refine Eq.trans ?_ (sum_split (n := 8) (b := 512) rfl (share m c s))
  rw [Fin.sum_univ_eight, zero_add]
  rfl

/-- The stream's gradient, entry by entry. -/
theorem array5 (i : Fin 8) (j : Fin 1) (r : Fin 512) (s : Fin 1024) : (show FVec Ideal S4096x1024 .f32 from (dats m 0 c).arrAt 5 cfg0.N) (ix2 (row i r) s)
    = form m c (row i r) s := by
  have e := congrFun (Value.blocks5 m c (point i j) (flush0_5 _)) (ix2 r s)
  rw [View.read_apply, Value.flushed5] at e
  have t := left5 m c i j r s
  refine Eq.trans ?_ t
  refine Eq.trans ?_ e
  show (dats m 0 c).arrAt 5 cfg0.N _ = (dats m 0 c).arrAt 5 cfg0.N _
  refine congrArg ((dats m 0 c).arrAt 5 cfg0.N) (funext fun a => Fin.ext ?_)
  match a with
  | ⟨0, _⟩ => show (i : ℕ) * 512 + (r : ℕ) = win0_5.index (point i j) 0 * 512 + 1 * (r : ℕ); rw [(index5 i j).1]; omega
  | ⟨1, _⟩ => show (s : ℕ) = win0_5.index (point i j) 1 * 1024 + 1 * (s : ℕ); rw [(index5 i j).2]; omega

/-- The narrowed copy, entry by entry. -/
theorem array6 (i : Fin 8) (j : Fin 1) (r : Fin 512) (s : Fin 1024) : (show FVec Ideal S4096x1024 .bf16 from (dats m 0 c).arrAt 6 cfg0.N) (ix2 (row i r) s)
    = form m c (row i r) s := by
  have e := congrFun (Value.blocks6 m c (point i j) (flush0_6 _)) (ix2 r s)
  rw [View.read_apply, Value.flushed6] at e
  have t := left6 m c i j r s
  refine Eq.trans ?_ t
  refine Eq.trans ?_ e
  show (dats m 0 c).arrAt 6 cfg0.N _ = (dats m 0 c).arrAt 6 cfg0.N _
  refine congrArg ((dats m 0 c).arrAt 6 cfg0.N) (funext fun a => Fin.ext ?_)
  match a with
  | ⟨0, _⟩ => show (i : ℕ) * 512 + (r : ℕ) = win0_6.index (point i j) 0 * 512 + 1 * (r : ℕ); rw [(index6 i j).1]; omega
  | ⟨1, _⟩ => show (s : ℕ) = win0_6.index (point i j) 1 * 1024 + 1 * (s : ℕ); rw [(index6 i j).2]; omega

/-- One point alone writes the loss back. -/
theorem disjoint7 : ∀ t t' : Fin cfg0.N, (cfg0.win 7).flush t = true → (cfg0.win 7).flush t' = true → t ≠ t' →
    Disjoint ((cfg0.win 7).blk t).view.set ((cfg0.win 7).blk t').view.set := fun t t' hf hf' hne =>
  (cfg0.win 7).disjoint_blk fun h => hne
    ((by decide +kernel : ∀ t t' : Fin grid0.N, t.val % 8 = 7 → t'.val % 8 = 7 → win0_7.index t = win0_7.index t' → t = t') t t'
      ((flush0_7 t).mp hf) ((flush0_7 t').mp hf') h)

/-- The loss, entry by entry. -/
theorem array7 (r : Fin 1) (s : Fin 128) : (show FVec Ideal S1x128 .f32 from (dats m 0 c).arrAt 7 cfg0.N) (ix2 r s) = Ideal.ofBits .f32 0x3F000000#32 * ∑ t, lossOf m c t := by
  have e := congrFun ((dats m 0 c).read_blk_arrAt_eq_flushed 7 disjoint7 cfg0.N (point 7 0) (point 7 0).isLt ((flush0_7 _).mpr rfl)) (ix2 0 s)
  rw [View.read_apply, Value.flushed7] at e
  refine Eq.trans ?_ (left7 m c s)
  refine Eq.trans ?_ e
  show (dats m 0 c).arrAt 7 cfg0.N _ = (dats m 0 c).arrAt 7 cfg0.N _
  refine congrArg ((dats m 0 c).arrAt 7 cfg0.N) (funext fun a => Fin.ext ?_)
  match a with
  | ⟨0, _⟩ => show (r : ℕ) = win0_7.index (point 7 0) 0 * 1 + 1 * 0; rw [(index7 7 0).1]; omega
  | ⟨1, _⟩ => show (s : ℕ) = win0_7.index (point 7 0) 1 * 128 + 1 * (s : ℕ); rw [(index7 7 0).2]; omega

/-- One point alone writes the gain's gradient back. -/
theorem disjoint8 : ∀ t t' : Fin cfg0.N, (cfg0.win 8).flush t = true → (cfg0.win 8).flush t' = true → t ≠ t' →
    Disjoint ((cfg0.win 8).blk t).view.set ((cfg0.win 8).blk t').view.set := fun t t' hf hf' hne =>
  (cfg0.win 8).disjoint_blk fun h => hne
    ((by decide +kernel : ∀ t t' : Fin grid0.N, t.val % 8 = 7 → t'.val % 8 = 7 → win0_8.index t = win0_8.index t' → t = t') t t'
      ((flush0_8 t).mp hf) ((flush0_8 t').mp hf') h)

/-- The gain's gradient, entry by entry. -/
theorem array8 (r : Fin 1) (s : Fin 1024) : (show FVec Ideal S1x1024 .f32 from (dats m 0 c).arrAt 8 cfg0.N) (ix2 r s) = ∑ t, share m c s t := by
  have e := congrFun ((dats m 0 c).read_blk_arrAt_eq_flushed 8 disjoint8 cfg0.N (point 7 0) (point 7 0).isLt ((flush0_8 _).mpr rfl)) (ix2 0 s)
  rw [View.read_apply, Value.flushed8] at e
  refine Eq.trans ?_ (left8 m c s)
  refine Eq.trans ?_ e
  show (dats m 0 c).arrAt 8 cfg0.N _ = (dats m 0 c).arrAt 8 cfg0.N _
  refine congrArg ((dats m 0 c).arrAt 8 cfg0.N) (funext fun a => Fin.ext ?_)
  match a with
  | ⟨0, _⟩ => show (r : ℕ) = win0_8.index (point 7 0) 0 * 1 + 1 * 0; rw [(index8 7 0).1]; omega
  | ⟨1, _⟩ => show (s : ℕ) = win0_8.index (point 7 0) 1 * 1024 + 1 * (s : ℕ); rw [(index8 7 0).2]; omega

/-- The reference's error, entry by entry, … -/
theorem err_apply (x0 : FVec Ideal S4096x1024 .f32) (x1 : FVec Ideal S1x1024 .f32) (x2 : FVec Ideal S1024x4096 .f32) (x3 : FVec Ideal S4096x1024 .f32) (x4 : FVec Ideal S4096x1024 .f32) (x5 : FVec Ideal S1x1024 .f32) (t : Fin 4096) (s : Fin 1024) : val_main_v32 (F := Ideal) x0 x1 x2 x3 x4 x5 (ix2 t s) = err (fun k => val_main_v16 (F := Ideal) x0 x1 x2 x3 (ix2 t k)) (fun k => x5 (ix2 0 k)) (fun k => x4 (ix2 t k)) s := by
  unfold val_main_v32 val_main_v31 val_main_v30 val_main_v29 val_main_v28 val_main_v24 val_main_v23 val_main_v22 val_main_cst_4 val_main_v21 val_main_v20 val_main_cst_3 val_main_v19 val_main_v18 val_main_cst_2 val_main_v17 err mean
  pointwise

/-- … and the derivative's multiple of it. -/
theorem derr_apply (x0 : FVec Ideal S4096x1024 .f32) (x1 : FVec Ideal S1x1024 .f32) (x2 : FVec Ideal S1024x4096 .f32) (x3 : FVec Ideal S4096x1024 .f32) (x4 : FVec Ideal S4096x1024 .f32) (x5 : FVec Ideal S1x1024 .f32) (t : Fin 4096) (s : Fin 1024) : val_main_v46 (F := Ideal) x0 x1 x2 x3 x4 x5 (ix2 t s) = derr (fun k => val_main_v16 (F := Ideal) x0 x1 x2 x3 (ix2 t k)) (fun k => x5 (ix2 0 k)) (fun k => x4 (ix2 t k)) s := by
  unfold val_main_v46 val_main_v45 val_main_v44 val_main_v43 val_main_v42 val_main_v41 val_main_cst_12 val_main_v40 val_main_v39 val_main_cst_11 val_main_cst_10
  pointwise
  simp only [err_apply, mul_one]
  exact twice _

/-- The reference's gradient of the stream, entry by entry. -/
theorem reference5 (x0 : FVec Ideal S4096x1024 .f32) (x1 : FVec Ideal S1x1024 .f32) (x2 : FVec Ideal S1024x4096 .f32) (x3 : FVec Ideal S4096x1024 .f32) (x4 : FVec Ideal S4096x1024 .f32) (x5 : FVec Ideal S1x1024 .f32) (t : Fin 4096) (s : Fin 1024) : val_main_v65 (F := Ideal) x0 x1 x2 x3 x4 x5 (ix2 t s)
    = kernelForm (fun k => val_main_v16 (F := Ideal) x0 x1 x2 x3 (ix2 t k)) (derr (fun k => val_main_v16 (F := Ideal) x0 x1 x2 x3 (ix2 t k)) (fun k => x5 (ix2 0 k)) (fun k => x4 (ix2 t k))) (fun k => x5 (ix2 0 k)) 0 s := by
  rw [← forms]
  unfold derivForm
  rw [zero_add]
  unfold val_main_v65 val_main_v64 val_main_v63 val_main_v62 val_main_v61 val_main_v60 val_main_cst_16 val_main_v59 val_main_v58 val_main_cst_15 val_main_v57 val_main_v27 val_main_v25 val_main_v26 val_main_cst_5 val_main_v54 val_main_v53 val_main_cst_14 val_main_v52 val_main_v56 val_main_v55 val_main_v24 val_main_v23 val_main_v22 val_main_cst_4 val_main_v21 val_main_v20 val_main_cst_3 val_main_v19 val_main_v18 val_main_cst_2 val_main_v17 val_main_v51 val_main_v50
    factor mean
  pointwise
  simp only [Fin.sum_univ_one, derr_apply]

/-- The narrowed copy. -/
theorem reference6 (x0 : FVec Ideal S4096x1024 .f32) (x1 : FVec Ideal S1x1024 .f32) (x2 : FVec Ideal S1024x4096 .f32) (x3 : FVec Ideal S4096x1024 .f32) (x4 : FVec Ideal S4096x1024 .f32) (x5 : FVec Ideal S1x1024 .f32) (t : Fin 4096) (s : Fin 1024) : val_main_v66 (F := Ideal) x0 x1 x2 x3 x4 x5 (ix2 t s)
    = kernelForm (fun k => val_main_v16 (F := Ideal) x0 x1 x2 x3 (ix2 t k)) (derr (fun k => val_main_v16 (F := Ideal) x0 x1 x2 x3 (ix2 t k)) (fun k => x5 (ix2 0 k)) (fun k => x4 (ix2 t k))) (fun k => x5 (ix2 0 k)) 0 s := by
  refine Eq.trans ?_ (reference5 x0 x1 x2 x3 x4 x5 t s)
  unfold val_main_v66
  pointwise

/-- The reference's loss, in every entry. -/
theorem reference7 (x0 : FVec Ideal S4096x1024 .f32) (x1 : FVec Ideal S1x1024 .f32) (x2 : FVec Ideal S1024x4096 .f32) (x3 : FVec Ideal S4096x1024 .f32) (x4 : FVec Ideal S4096x1024 .f32) (x5 : FVec Ideal S1x1024 .f32) (r : Fin 1) (s : Fin 128) : val_main_v67 (F := Ideal) x0 x1 x2 x3 x4 x5 (ix2 r s)
    = Ideal.ofBits .f32 0x3F000000#32 * ∑ t, tok (fun k => val_main_v16 (F := Ideal) x0 x1 x2 x3 (ix2 t k)) (fun k => x5 (ix2 0 k)) (fun k => x4 (ix2 t k)) := by
  unfold val_main_v67 val_main_v38 val_main_v37 val_main_cst_8 val_main_v36 val_main_v35 val_main_cst_7 val_main_v34 val_main_cst_6 val_main_v33 val_main_cst_9 tok
  pointwise
  simp only [err_apply]

/-- The reference's gradient of the gain, entry by entry. -/
theorem reference8 (x0 : FVec Ideal S4096x1024 .f32) (x1 : FVec Ideal S1x1024 .f32) (x2 : FVec Ideal S1024x4096 .f32) (x3 : FVec Ideal S4096x1024 .f32) (x4 : FVec Ideal S4096x1024 .f32) (x5 : FVec Ideal S1x1024 .f32) (r : Fin 1) (s : Fin 1024) : val_main_v49 (F := Ideal) x0 x1 x2 x3 x4 x5 (ix2 r s)
    = ∑ t, derr (fun k => val_main_v16 (F := Ideal) x0 x1 x2 x3 (ix2 t k)) (fun k => x5 (ix2 0 k)) (fun k => x4 (ix2 t k)) s * (val_main_v16 (F := Ideal) x0 x1 x2 x3 (ix2 t s) * Ideal.rsqrt (mean (fun k => val_main_v16 (F := Ideal) x0 x1 x2 x3 (ix2 t k)))) := by
  unfold val_main_v49 val_main_v48 val_main_cst_13 val_main_v47 val_main_v29 val_main_v28 val_main_v24 val_main_v23 val_main_v22 val_main_cst_4 val_main_v21 val_main_v20 val_main_cst_3 val_main_v19 val_main_v18 val_main_cst_2 val_main_v17 mean
  pointwise
  simp only [derr_apply]
  exact Finset.sum_congr rfl fun t _ => mul_comm _ _

/-- The reference's result is the kernel's result array. -/
theorem agree5 (x0 : FVec Ideal S4096x1024 .f32) (x1 : FVec Ideal S1x1024 .f32) (x2 : FVec Ideal S1024x4096 .f32) (x3 : FVec Ideal S4096x1024 .f32) (x4 : FVec Ideal S4096x1024 .f32) (x5 : FVec Ideal S1x1024 .f32)
    (h0 : x0 = arg0 m c) (h1 : x1 = arg1 m c) (h2 : x2 = arg2 m c) (h3 : x3 = arg3 m c) (h4 : x4 = arg4 m c) (h5 : x5 = arg5 m c) :
    val_main_v65 (F := Ideal) x0 x1 x2 x3 x4 x5 = (show FVec Ideal S4096x1024 .f32 from (dats m 0 c).arrAt 5 cfg0.N) := by
  funext ij
  rw [← ix2_eta ij]
  obtain ⟨i, r, hr⟩ := row_surj (ij 0)
  rw [← hr]
  subst h0 h1 h2 h3 h4 h5
  exact (reference5 _ _ _ _ _ _ (row i r) (ij 1)).trans (array5 m c i 0 r (ij 1)).symm

/-- The reference's result is the kernel's result array. -/
theorem agree6 (x0 : FVec Ideal S4096x1024 .f32) (x1 : FVec Ideal S1x1024 .f32) (x2 : FVec Ideal S1024x4096 .f32) (x3 : FVec Ideal S4096x1024 .f32) (x4 : FVec Ideal S4096x1024 .f32) (x5 : FVec Ideal S1x1024 .f32)
    (h0 : x0 = arg0 m c) (h1 : x1 = arg1 m c) (h2 : x2 = arg2 m c) (h3 : x3 = arg3 m c) (h4 : x4 = arg4 m c) (h5 : x5 = arg5 m c) :
    val_main_v66 (F := Ideal) x0 x1 x2 x3 x4 x5 = (show FVec Ideal S4096x1024 .bf16 from (dats m 0 c).arrAt 6 cfg0.N) := by
  funext ij
  rw [← ix2_eta ij]
  obtain ⟨i, r, hr⟩ := row_surj (ij 0)
  rw [← hr]
  subst h0 h1 h2 h3 h4 h5
  exact (reference6 _ _ _ _ _ _ (row i r) (ij 1)).trans (array6 m c i 0 r (ij 1)).symm

/-- So is the loss … -/
theorem agree7 (x0 : FVec Ideal S4096x1024 .f32) (x1 : FVec Ideal S1x1024 .f32) (x2 : FVec Ideal S1024x4096 .f32) (x3 : FVec Ideal S4096x1024 .f32) (x4 : FVec Ideal S4096x1024 .f32) (x5 : FVec Ideal S1x1024 .f32)
    (h0 : x0 = arg0 m c) (h1 : x1 = arg1 m c) (h2 : x2 = arg2 m c) (h3 : x3 = arg3 m c) (h4 : x4 = arg4 m c) (h5 : x5 = arg5 m c) :
    val_main_v67 (F := Ideal) x0 x1 x2 x3 x4 x5 = (show FVec Ideal S1x128 .f32 from (dats m 0 c).arrAt 7 cfg0.N) := by
  funext ij
  rw [← ix2_eta ij]
  subst h0 h1 h2 h3 h4 h5
  exact (reference7 _ _ _ _ _ _ (ij 0) (ij 1)).trans (array7 m c (ij 0) (ij 1)).symm

/-- … and the gain's gradient. -/
theorem agree8 (x0 : FVec Ideal S4096x1024 .f32) (x1 : FVec Ideal S1x1024 .f32) (x2 : FVec Ideal S1024x4096 .f32) (x3 : FVec Ideal S4096x1024 .f32) (x4 : FVec Ideal S4096x1024 .f32) (x5 : FVec Ideal S1x1024 .f32)
    (h0 : x0 = arg0 m c) (h1 : x1 = arg1 m c) (h2 : x2 = arg2 m c) (h3 : x3 = arg3 m c) (h4 : x4 = arg4 m c) (h5 : x5 = arg5 m c) :
    val_main_v49 (F := Ideal) x0 x1 x2 x3 x4 x5 = (show FVec Ideal S1x1024 .f32 from (dats m 0 c).arrAt 8 cfg0.N) := by
  funext ij
  rw [← ix2_eta ij]
  subst h0 h1 h2 h3 h4 h5
  exact (reference8 _ _ _ _ _ _ (ij 0) (ij 1)).trans (array8 m c (ij 0) (ij 1)).symm

end Cert.Kernel18Ideal.Tile

end

end
-- ==== Proof.AttnRefFwd.lean ====
/- The forward attention's reference, read at an index for finite queries and keys: the scaled logits, their exponentials, the
   softmax weights, and the values averaged with them. -/
module

public import proofs.«01_k».proof.Proof.Heads
public import proofs.«01_k».proof.Proof.Consts
public import proofs.«01_k».proof.Proof.Gen.Reference2Ideal.Read
public import Idealize.ShloMosaic.Lib.Pointwise

@[expose] public section

noncomputable section

namespace Cert.Reference2Ideal.AttnRef

open Cert.Reference2Ideal Cert.Reference2Ideal.Gen Cert.Reference2Ideal.Read Cert.Attn Cert.Heads
open Idealize.ShloMosaic Idealize.ShloMosaic.TcCoe Idealize.SL.Sem

variable {x0 : FVec Ideal S4096x1024 .bf16} {x1 x2 : FVec Ideal S4096x256 .bf16}
variable {q : Fin 4096 → Fin 1024 → ℝ} {k : Fin 4096 → Fin 256 → ℝ}

/-- The queries by heads. -/
theorem v3_apply (h0 : ∀ i j, x0 (ix2 i j) = (q i j : EReal)) (b : Fin 2) (t : Fin 2048) (h : Fin 2) (g : Fin 4) (d : Fin 128) :
    val_main_v3 (F := Ideal) x0 (ix5 b t h g d) = (headQ q b h g t d : EReal) := by
  unfold val_main_v3 val_main_v0
  pointwise
  exact h0 _ _

/-- The keys by heads. -/
theorem v4_apply (h1 : ∀ i j, x1 (ix2 i j) = (k i j : EReal)) (b : Fin 2) (s : Fin 2048) (h : Fin 2) (d : Fin 128) :
    val_main_v4 (F := Ideal) x1 (ix4 b s h d) = (headK k b h s d : EReal) := by
  unfold val_main_v4 val_main_v1
  pointwise
  exact h1 _ _

/-- The values by heads. -/
theorem v5_apply (b : Fin 2) (s : Fin 2048) (h : Fin 2) (d : Fin 128) :
    val_main_v5 (F := Ideal) x2 (ix4 b s h d) = x2 (ix2 (rowOf b s) (colK h d)) := by
  unfold val_main_v5 val_main_v2
  pointwise
  rfl

/-- The scale: one over the root of 128. -/
theorem scale_eq : Ideal.div 1 (Ideal.sqrt (Ideal.ofBits .f32 0x43000000#32)) = (scale : EReal) := by
  have h : Real.sqrt 128 ≠ 0 := (Real.sqrt_pos.mpr (by norm_num)).ne'
  rw [Consts.ofBits_128, Ideal.sqrt_coe, if_neg (by norm_num), Ideal.div_coe h, one_mul, one_div]
  rfl

/-- A query array, flattened. -/
theorem flatQ_apply (x : FVec Ideal S2x2048x2x4x128 .f32) (b : Fin 2) (t : Fin 2048) (h : Fin 2) (g : Fin 4) (d : Fin 128) :
    shapeCast S4096x1024 x shapeCasts_S2x2048x2x4x128_S4096x1024 (ix2 (rowOf b t) (colQ h g d)) = x (ix5 b t h g d) := by
  refine shapeCast_apply x _ _ _ ?_
  rewrite [Shape.rowMajor_val_five, Shape.rowMajor_val_two]
  show ((((b : ℕ) * 2048 + t) * 2 + h) * 4 + g) * 128 + d = ((b : ℕ) * 2048 + t) * 1024 + (h * 512 + g * 128 + d)
  omega

/-- A maximum along the last axis, from the least value. -/
theorem max_apply (x : FVec Ideal S2x2x4x2048x2048 .f32) (b h : Fin 2) (g : Fin 4) (t : Fin 2048) :
    Host.reduce FloatOps.maximumf x (constant (F := Ideal) S_ .f32 0xFF800000#32) reducesTo_S2x2x4x2048x2048_S2x2x4x2048_d4 h_S_ (ix4 b h g t)
      = (Finset.univ : Finset (Fin 2048)).fold max (⊥ : EReal) fun s => x (ix5 b h g t s) := by
  rw [Host.reduce_eq_fold, Shape.ReducesTo.fold_fiber_r5_a4]
  rw [show constant (F := Ideal) S_ .f32 0xFF800000#32 (Shape.Idx.first h_S_) = (⊥ : EReal) from Consts.ofBits_neg_inf]
  rfl

section
variable (h0 : ∀ i j, x0 (ix2 i j) = (q i j : EReal)) (h1 : ∀ i j, x1 (ix2 i j) = (k i j : EReal)) (b h : Fin 2) (g : Fin 4) (t s : Fin 2048)
include h0 h1

/-- The scaled logits. -/
theorem v11_apply : val_main_v11 (F := Ideal) x0 x1 (ix5 b h g t s) = (logit (headQ q b h g) (headK k b h) t s * scale : ℝ) := by
  unfold val_main_v11 val_main_v7 val_main_v6 val_main_v10 val_main_v9 val_main_v8 val_main_cst val_main_cst_0
  pointwise
  simp only [v3_apply h0, v4_apply h1, scale_eq, ← EReal.coe_mul, ← coe_sum, mul_comm (headK k b h s _)]
  rfl

/-- A row's maximum. -/
theorem v12_apply : val_main_v12 (F := Ideal) x0 x1 (ix4 b h g t) = (rowMax fun s => logit (headQ q b h g) (headK k b h) t s * scale : ℝ) := by
  unfold val_main_v12 val_main_cst_1
  rw [max_apply]
  simp only [v11_apply h0 h1]
  exact fold_max (by norm_num) _

/-- … the larger of it and the least value. -/
theorem v14_apply : val_main_v14 (F := Ideal) x0 x1 (ix4 b h g t) = (rowMax fun s => logit (headQ q b h g) (headK k b h) t s * scale : ℝ) := by
  rw [val_main_v14_apply, v12_apply h0 h1, val_main_v13_apply, val_main_cst_2_apply]
  generalize (rowMax fun s => logit (headQ q b h g) (headK k b h) t s * scale) = r
  show max (Ideal.ofBits .f32 0xFF800000#32) (r : EReal) = r
  rw [Consts.ofBits_neg_inf]
  exact max_eq_right bot_le

/-- The shifted exponentials. -/
theorem v18_apply : val_main_v18 (F := Ideal) x0 x1 (ix5 b h g t s) = (shifted (headQ q b h g) (headK k b h) t s : ℝ) := by
  unfold val_main_v18 val_main_v17 val_main_v16 val_main_v15
  pointwise
  rw [v11_apply h0 h1, v14_apply h0 h1, ← EReal.coe_sub, Ideal.exp_coe]
  rfl

/-- A row's sum of exponentials. -/
theorem v19_apply : val_main_v19 (F := Ideal) x0 x1 (ix4 b h g t) = (∑ s, shifted (headQ q b h g) (headK k b h) t s : ℝ) := by
  unfold val_main_v19 val_main_cst_3
  pointwise
  simp only [v18_apply h0 h1, ← coe_sum]

/-- The softmax weights. -/
theorem v22_apply : val_main_v22 (F := Ideal) x0 x1 (ix5 b h g t s) = (prob (headQ q b h g) (headK k b h) t s : ℝ) := by
  unfold val_main_v22 val_main_v21 val_main_v20
  pointwise
  rw [v18_apply h0 h1, v19_apply h0 h1, Ideal.div_coe (shiftedSum_pos (by norm_num) _ _ t).ne', ← EReal.coe_mul, shifted_div]

/-- The output: the values averaged with the weights. -/
theorem v24_apply (d : Fin 128) : val_main_v24 (F := Ideal) x0 x1 x2 (ix5 b t h g d)
    = ∑ s, (prob (headQ q b h g) (headK k b h) t s : EReal) * x2 (ix2 (rowOf b s) (colK h d)) := by
  unfold val_main_v24 val_main_v23
  pointwise
  simp only [v5_apply, v22_apply h0 h1, mul_comm (x2 _)]

/-- The output as a flat array. -/
theorem v26_apply (d : Fin 128) : val_main_v26 (F := Ideal) x0 x1 x2 (ix2 (rowOf b t) (colQ h g d))
    = ∑ s, (prob (headQ q b h g) (headK k b h) t s : EReal) * x2 (ix2 (rowOf b s) (colK h d)) :=
  (flatQ_apply _ b t h g d).trans (v24_apply h0 h1 b h g t d)

end

end Cert.Reference2Ideal.AttnRef

end

end
-- ==== Proof.AttnFwd.lean ====
/- The forward attention call: for finite queries and keys every head's block holds the values averaged with the softmax weights,
   and the result array is the reference's. -/
module

public import proofs.«01_k».proof.Proof.AttnRefFwd
public import proofs.«01_k».proof.Proof.NormMath
public import proofs.«01_k».proof.Proof.Finite
public import proofs.«01_k».proof.Proof.Gen.Pre_finite2
public import proofs.«01_k».proof.Proof.Gen.Kernel2Ideal.Value
public import Idealize.ShloMosaic.Lib.Claim
public import Idealize.ShloMosaic.Lib.Pipeline.ValueKit.Tiles

@[expose] public section

noncomputable section

namespace Cert.Kernel2Ideal.Tile

open Cert.Kernel2Ideal Cert.Kernel2Ideal.Gen Cert.Attn Cert.Heads
open Idealize.ShloMosaic Idealize.ShloMosaic.TcCoe Idealize.SL.Sem

/-- The named scale of base-two exponents is `1/(√128 · ln 2)`. -/
theorem named_exp2_scale : Named.named (F := Ideal) Cert.Kernel2Ideal.κ "exp2_scale" (φ := .f32) 0x3E0293EE#32
    = ((((Real.sqrt 128) * (Real.log 2))⁻¹ : ℝ) : EReal) :=
  IdealRules.named_const.ideal_named_scalar _ _ _ _ rfl

section Chunk

variable {K V : FVec Ideal S2048x128 .bf16} {Q : FVec Ideal S256x128 .bf16} {k : Fin 2048 → Fin 128 → ℝ} {q : Fin 256 → Fin 128 → ℝ}

/-- The unnormalised weights of a chunk of 256 query rows. -/
theorem weights_apply (hK : ∀ s d, K (ix2 s d) = (k s d : EReal)) (hQ : ∀ r d, Q (ix2 r d) = (q r d : EReal)) (r : Fin 256) (s : Fin 2048) :
    k0_pay3 (F := Ideal) K Q (ix2 r s) = (raw q k r s : EReal) := by
  unfold k0_pay3
  pointwise
  simp only [hQ _ _, hK _ _, ← EReal.coe_mul, ← coe_sum, named_exp2_scale, Consts.ofBits_neg_inf]
  rw [fold_max (by norm_num) (fun x => ∑ i, q r i * k x i), ← EReal.coe_sub, ← EReal.coe_mul]
  show Ideal.exp2 _ = _
  rw [Ideal.exp2_coe, Consts.exp2_scaled]
  rfl

/-- A chunk's result: the values averaged with the softmax weights. -/
theorem chunk_apply (hK : ∀ s d, K (ix2 s d) = (k s d : EReal)) (hQ : ∀ r d, Q (ix2 r d) = (q r d : EReal)) (r : Fin 256) (d : Fin 128) :
    k0_pay6 (F := Ideal) (k0_pay4 K Q) (k0_pay5 K V Q) (Scalar.ofBits .f32 0x3F800000#32) (ix2 r d)
      = ∑ s, (prob q k r s : EReal) * V (ix2 s d) := by
  unfold k0_pay6 k0_pay4 k0_pay5
  pointwise
  simp only [weights_apply hK hQ _ _, ← coe_sum]
  rw [← EReal.coe_one, Ideal.div_coe (show (∑ s, raw q k r s) ≠ 0 from (rawSum_pos (by norm_num) q k r).ne'), ← EReal.coe_mul, one_mul, mul_comm,
    NormMath.mul_sum (by
      have := rawSum_pos (S := 2048) (by norm_num) q k r
      unfold rawSum at this
      positivity)]
  refine Finset.sum_congr rfl fun s _ => ?_
  rw [← mul_assoc, ← EReal.coe_mul, mul_comm (1 / _ : ℝ)]
  exact congrArg (fun z : ℝ => (z : EReal) * V (ix2 s d)) (raw_div q k r s)

end Chunk

section Block

variable {X0 X1 X2 : FVec Ideal S2048x128 .bf16} {q k : Fin 2048 → Fin 128 → ℝ}

/-- A load of 256 rows from row `a` on holds those rows of the matrix. -/
theorem rows_apply (a : ℕ) (ha : a + 256 ≤ 2048) (h : ∀ t d, X0 (ix2 t d) = (q t d : EReal))
    (inb : ∀ i, (![a, 0] : Fin 2 → ℕ) i + S256x128.size i ≤ S2048x128.size i) (r : Fin 256) (d : Fin 128) :
    (View.ld (Val := Elt Ideal) (e' := .bf16) X0 (Rect.unit (s := S2048x128) ![a, 0] S256x128.size inb) : FVec Ideal S256x128 .bf16) (ix2 r d)
      = ((fun (r : Fin 256) d => q ⟨a + r, by omega⟩ d) r d : ℝ) :=
  (View.ld_unit_apply_of (Val := Elt Ideal) (e := .bf16) X0 ![a, 0] S256x128.size inb (ix2 r d) (ix2 (⟨a + r, by omega⟩ : Fin 2048) d) (by
    intro i
    match i with
    | ⟨0, _⟩ => rfl
    | ⟨1, _⟩ => exact (Nat.zero_add _).symm)).trans (h _ _)

/-- A chunk's tile has the head's result wherever it lies. -/
theorem tileAt (a : ℕ) (ha : a + 256 ≤ 2048) (h0 : ∀ t d, X0 (ix2 t d) = (q t d : EReal)) (h1 : ∀ s d, X1 (ix2 s d) = (k s d : EReal))
    (inb : ∀ i, (![a, 0] : Fin 2 → ℕ) i + S256x128.size i ≤ S2048x128.size i) (t : Fin 2048) (d : Fin 128) :
    View.TileAt (Val := Elt Ideal) (S := S2048x128) (e := .bf16) (ix2 t d) ![a, 0] S256x128.size
      (k0_pay6 (F := Ideal) (k0_pay4 (View.ld X1 r0_0) (View.ld (Val := Elt Ideal) (e' := .bf16) X0 (Rect.unit (s := S2048x128) ![a, 0] S256x128.size inb)))
        (k0_pay5 (View.ld X1 r0_0) (View.ld X2 r0_0) (View.ld (Val := Elt Ideal) (e' := .bf16) X0 (Rect.unit (s := S2048x128) ![a, 0] S256x128.size inb)))
        (Scalar.ofBits .f32 0x3F800000#32))
      (∑ s, (prob q k t s : EReal) * X2 (ix2 s d)) := by
  intro j hj
  have e0 : (t : ℕ) = a + (j 0 : ℕ) := hj 0
  have e1 : (d : ℕ) = 0 + (j 1 : ℕ) := hj 1
  have ej : j = ix2 (j 0) (j 1) := funext fun i => by fin_cases i <;> rfl
  have hz : (![0, 0] : Fin 2 → ℕ) = fun _ => 0 := funext fun i => by fin_cases i <;> rfl
  rw [ej]
  unfold r0_0
  rw [View.ld_unit_zero (S := S2048x128) hz, View.ld_unit_zero (S := S2048x128) hz]
  refine (chunk_apply h1 (rows_apply a ha h0 inb) (j 0) (j 1)).trans ?_
  have et : (⟨a + (j 0 : ℕ), by omega⟩ : Fin 2048) = t := Fin.ext e0.symm
  have ed : (j 1 : Fin 128) = d := Fin.ext (by omega)
  refine Finset.sum_congr rfl fun s _ => ?_
  rw [ed]
  refine congrArg (fun z : ℝ => (z : EReal) * X2 (ix2 s d)) ?_
  show prob q k ⟨a + (j 0 : ℕ), _⟩ s = prob q k t s
  rw [et]

/-- The result's block holds the head's result. -/
theorem block_apply (h0 : ∀ t d, X0 (ix2 t d) = (q t d : EReal)) (h1 : ∀ s d, X1 (ix2 s d) = (k s d : EReal)) (t : Fin 2048) (d : Fin 128) :
    out0_3 (F := Ideal) X0 X1 X2 (ix2 t d) = ∑ s, (prob q k t s : EReal) * X2 (ix2 s d) := by
  unfold out0_3
  refine View.canon_eq_of_allAt _ _ _ (View.cover_of_tiled_head _ _ _ rfl _) ?_
  refine View.allAt_cons_unit _ _ _ _ _ (tileAt 1792 (by norm_num) h0 h1 _ t d) ?_
  refine View.allAt_cons_unit _ _ _ _ _ (tileAt 1536 (by norm_num) h0 h1 _ t d) ?_
  refine View.allAt_cons_unit _ _ _ _ _ (tileAt 1280 (by norm_num) h0 h1 _ t d) ?_
  refine View.allAt_cons_unit _ _ _ _ _ (tileAt 1024 (by norm_num) h0 h1 _ t d) ?_
  refine View.allAt_cons_unit _ _ _ _ _ (tileAt 768 (by norm_num) h0 h1 _ t d) ?_
  refine View.allAt_cons_unit _ _ _ _ _ (tileAt 512 (by norm_num) h0 h1 _ t d) ?_
  refine View.allAt_cons_unit _ _ _ _ _ (tileAt 256 (by norm_num) h0 h1 _ t d) ?_
  refine View.allAt_cons_unit _ _ _ _ _ (tileAt 0 (by norm_num) h0 h1 _ t d) ?_
  exact View.allAt_nil _ _

end Block

/-- The grid point of sequence `b`, group `h` and query head `g`. -/
def point (b h : Fin 2) (g : Fin 4) : Fin cfg0.N := ⟨b * 8 + h * 4 + g, by show _ < 16; omega⟩

/-- Where each window stands at a point, in blocks. -/
theorem index0 : ∀ b h g, win0_0.index (point b h g) 0 = b ∧ win0_0.index (point b h g) 1 = (h : ℕ) * 4 + g := by decide +kernel
theorem index1 : ∀ b h g, win0_1.index (point b h g) 0 = b ∧ win0_1.index (point b h g) 1 = h := by decide +kernel
theorem index2 : ∀ b h g, win0_2.index (point b h g) 0 = b ∧ win0_2.index (point b h g) 1 = h := by decide +kernel
theorem index3 : ∀ b h g, win0_3.index (point b h g) 0 = b ∧ win0_3.index (point b h g) 1 = (h : ℕ) * 4 + g := by decide +kernel

variable (m : (ℓ : Loc nD τ sig) → Buf (Elt Ideal) ℓ) (c : Dev nD) (b h : Fin 2) (g : Fin 4)

/-- The queries' block: the point's head. -/
theorem block0 (r : Fin 2048) (d : Fin 128) : (iblk m c 0 (point b h g) : FVec Ideal S2048x128 .bf16) (ix2 r d)
    = (m ((c : Thread nD τ).loc main_arg0) : FVec Ideal S4096x1024 .bf16) (ix2 (rowOf b r) (colQ h g d)) := by
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index (point b h g) 0 * 2048 + 1 * (r : ℕ) = b * 2048 + r; rw [(index0 b h g).1]; omega
  | ⟨1, _⟩ => show win0_0.index (point b h g) 1 * 128 + 1 * (d : ℕ) = h * 512 + g * 128 + d; rw [(index0 b h g).2]; omega

/-- The keys' block: the group's head. -/
theorem block1 (r : Fin 2048) (d : Fin 128) : (iblk m c 1 (point b h g) : FVec Ideal S2048x128 .bf16) (ix2 r d)
    = (m ((c : Thread nD τ).loc main_arg1) : FVec Ideal S4096x256 .bf16) (ix2 (rowOf b r) (colK h d)) := by
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_1.index (point b h g) 0 * 2048 + 1 * (r : ℕ) = b * 2048 + r; rw [(index1 b h g).1]; omega
  | ⟨1, _⟩ => show win0_1.index (point b h g) 1 * 128 + 1 * (d : ℕ) = h * 128 + d; rw [(index1 b h g).2]; omega

/-- The values' block: the group's head. -/
theorem block2 (r : Fin 2048) (d : Fin 128) : (iblk m c 2 (point b h g) : FVec Ideal S2048x128 .bf16) (ix2 r d)
    = (m ((c : Thread nD τ).loc main_arg2) : FVec Ideal S4096x256 .bf16) (ix2 (rowOf b r) (colK h d)) := by
  unfold iblk
  rw [View.read_apply]
  show V m c main_arg2 _ = m ((c : Thread nD τ).loc main_arg2) _
  rw [V_main_arg2]
  refine congrArg (m ((c : Thread nD τ).loc main_arg2)) (funext fun a => Fin.ext ?_)
  match a with
  | ⟨0, _⟩ => show win0_2.index (point b h g) 0 * 2048 + 1 * (r : ℕ) = b * 2048 + r; rw [(index2 b h g).1]; omega
  | ⟨1, _⟩ => show win0_2.index (point b h g) 1 * 128 + 1 * (d : ℕ) = h * 128 + d; rw [(index2 b h g).2]; omega

/-- The precondition's text, read back: queries and keys are real matrices. -/
theorem real_args (hp : Cert.Pre_finite2.fn (F := Ideal) (m ((c : Thread nD τ).loc main_arg0)) (m ((c : Thread nD τ).loc main_arg1))
    (m ((c : Thread nD τ).loc main_arg2)) = fun _ => 1#1) :
    (∃ q : Fin 4096 → Fin 1024 → ℝ, ∀ i j, (m ((c : Thread nD τ).loc main_arg0) : FVec Ideal S4096x1024 .bf16) (ix2 i j) = (q i j : EReal))
      ∧ ∃ k : Fin 4096 → Fin 256 → ℝ, ∀ i j, (m ((c : Thread nD τ).loc main_arg1) : FVec Ideal S4096x256 .bf16) (ix2 i j) = (k i j : EReal) := by
  obtain ⟨h0, h1⟩ := IntOp.andi_eq_one.1 (congrFun hp fun i => i.elim0)
  haveI : Subsingleton Cert.Pre_finite2.S_.Idx := ⟨fun a b => funext fun i => i.elim0⟩
  have r0 := fun i => Cert.Finite.real_of_abs_lt _ (Host.reduce_andi_all _ _ _ _ _ h0 i)
  have r1 := fun i => Cert.Finite.real_of_abs_lt _ (Host.reduce_andi_all _ _ _ _ _ h1 i)
  exact ⟨⟨fun i j => (r0 (ix2 i j)).choose, fun i j => (r0 (ix2 i j)).choose_spec⟩, ⟨fun i j => (r1 (ix2 i j)).choose, fun i j => (r1 (ix2 i j)).choose_spec⟩⟩

variable {m c} {q : Fin 4096 → Fin 1024 → ℝ} {k : Fin 4096 → Fin 256 → ℝ}
  (hq : ∀ i j, (m ((c : Thread nD τ).loc main_arg0) : FVec Ideal S4096x1024 .bf16) (ix2 i j) = (q i j : EReal))
  (hk : ∀ i j, (m ((c : Thread nD τ).loc main_arg1) : FVec Ideal S4096x256 .bf16) (ix2 i j) = (k i j : EReal))
include hq hk

/-- The result's array. -/
theorem array3 (t : Fin 2048) (d : Fin 128) : (show FVec Ideal S4096x1024 .bf16 from (dats m 0 c).arrAt 3 cfg0.N) (ix2 (rowOf b t) (colQ h g d))
    = ∑ s, (prob (headQ q b h g) (headK k b h) t s : EReal) * (m ((c : Thread nD τ).loc main_arg2) : FVec Ideal S4096x256 .bf16) (ix2 (rowOf b s) (colK h d)) := by
  have hb := block_apply (X2 := iblk m c 2 (point b h g)) (q := headQ q b h g) (k := headK k b h)
    (fun t d => (block0 m c b h g t d).trans (hq _ _)) (fun t d => (block1 m c b h g t d).trans (hk _ _)) t d
  simp only [block2 m c b h g] at hb
  refine Eq.trans ?_ hb
  have e := congrFun (Value.blocks3 m c (point b h g) (flush0_3 _)) (ix2 t d)
  rw [View.read_apply, Value.flushed3] at e
  refine Eq.trans ?_ e
  refine congrArg ((dats m 0 c).arrAt 3 cfg0.N) (funext fun a => Fin.ext ?_)
  match a with
  | ⟨0, _⟩ => show (b : ℕ) * 2048 + t = win0_3.index (point b h g) 0 * 2048 + 1 * (t : ℕ); rw [(index3 b h g).1]; omega
  | ⟨1, _⟩ => show (h : ℕ) * 512 + g * 128 + d = win0_3.index (point b h g) 1 * 128 + 1 * (d : ℕ); rw [(index3 b h g).2]; omega

/-- The kernel's array is the reference's result. -/
theorem agree : Cert.Reference2Ideal.Read.val_main_v26 (F := Ideal) (m ((c : Thread nD τ).loc main_arg0)) (m ((c : Thread nD τ).loc main_arg1))
    (m ((c : Thread nD τ).loc main_arg2)) = (dats m 0 c).arrAt 3 cfg0.N := by
  refine funext fun i => ?_
  obtain ⟨b, t, hr⟩ := rowOf_surj (i 0)
  obtain ⟨h, g, d, hc⟩ := colQ_surj (i 1)
  have e : i = ix2 (rowOf b t) (colQ h g d) := by
    rw [hr, hc]
    exact (ix2_eta i).symm
  rw [e]
  exact (Cert.Reference2Ideal.AttnRef.v26_apply hq hk b h g t d).trans (array3 b h g hq hk t d).symm

end Cert.Kernel2Ideal.Tile

end

end
-- ==== Proof.ConvStored.lean ====
/- What one grid point of the depthwise convolution's gradient (`Kernel23`) leaves in its two staging blocks, as functions of its three input blocks (the convolution's input, its output's gradient,
   the taps and bias in rows) and, for the rows of the taps' gradient, of what the block held. -/
module

public import proofs.«01_k».proof.Proof.Gen.Kernel23Ideal.Value
public import Idealize.ShloMosaic.Lib.Pipeline.ValueKit.Tiles
public import Idealize.ShloMosaic.Lib.Pipeline.ReadBack
public import Idealize.ShloMosaic.Lib.WritesUnit
public import Idealize.ShloMosaic.Lib.Tactic
public import Idealize.ShloMosaic.Lib.Pointwise

@[expose] public section

noncomputable section

namespace Cert.Kernel23Ideal.Stored

open Cert.Kernel23Ideal Cert.Kernel23Ideal.Gen Idealize.ShloMosaic Idealize.ShloMosaic.TcCoe Idealize.SL.Sem

variable {F : FTy → Type} [FloatOps F]

/-- The rectangles start at the origin. -/
theorem hz : (![0, 0] : Fin 2 → Nat) = fun _ => 0 := funext fun a => by fin_cases a <;> rfl

/-- Row 0 of a block of rows. -/
abbrev row0 (x : Vec F S8x256 .f32) : Vec F S1x256 .f32 := View.ld x (Rect.unit (s := S8x256) ![0, 0] S1x256.size inb_S8x256_S1x256_0_0)
/-- Row 1 of a block of rows. -/
abbrev row1 (x : Vec F S8x256 .f32) : Vec F S1x256 .f32 := View.ld x (Rect.unit (s := S8x256) ![1, 0] S1x256.size inb_S8x256_S1x256_1_0)
/-- Row 2 of a block of rows. -/
abbrev row2 (x : Vec F S8x256 .f32) : Vec F S1x256 .f32 := View.ld x (Rect.unit (s := S8x256) ![2, 0] S1x256.size inb_S8x256_S1x256_2_0)
/-- Row 3 of a block of rows. -/
abbrev row3 (x : Vec F S8x256 .f32) : Vec F S1x256 .f32 := View.ld x (Rect.unit (s := S8x256) ![3, 0] S1x256.size inb_S8x256_S1x256_3_0)
/-- Row 4 of a block of rows. -/
abbrev row4 (x : Vec F S8x256 .f32) : Vec F S1x256 .f32 := View.ld x (Rect.unit (s := S8x256) ![4, 0] S1x256.size inb_S8x256_S1x256_4_0)
/-- What the point stores over row 0. -/
abbrev new0 (x0 x1 : Vec F S2048x256 .f32) (x : Vec F S8x256 .f32) : Vec F S1x256 .f32 := k0_pay10 x0 x1 (iota Kind.tc S2048x256 32 [0] iota_S2048x256_d0_w32) (row0 x)
/-- What the point stores over row 1. -/
abbrev new1 (x0 x1 : Vec F S2048x256 .f32) (x : Vec F S8x256 .f32) : Vec F S1x256 .f32 := k0_pay11 x0 x1 (iota Kind.tc S2048x256 32 [0] iota_S2048x256_d0_w32) (row1 x)
/-- What the point stores over row 2. -/
abbrev new2 (x0 x1 : Vec F S2048x256 .f32) (x : Vec F S8x256 .f32) : Vec F S1x256 .f32 := k0_pay1 (k0_pay12 (row2 x)) (k0_pay13 x0 x1)
/-- What the point stores over row 3. -/
abbrev new3 (x0 x1 : Vec F S2048x256 .f32) (x : Vec F S8x256 .f32) : Vec F S1x256 .f32 := k0_pay2 x0 x1 (iota Kind.tc S2048x256 32 [0] iota_S2048x256_d0_w32) (row3 x)
/-- What the point stores over row 4. -/
abbrev new4 (x0 x1 : Vec F S2048x256 .f32) (x : Vec F S8x256 .f32) : Vec F S1x256 .f32 := k0_pay3 x1 (row4 x)

/-- The input's gradient at the first sequence's point. -/
theorem out_A_3 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : cond0_0 i)
    (x0 : Vec F S2048x256 .f32) (x1 : Vec F S2048x256 .f32) (x2 : Vec F S8x256 .f32) :
    out0_A_3 c i arg2 harg2 arg3 harg3 arg4 harg4 arg6 harg6 arg7 harg7 hc0 x0 x1 x2 = k0_pay9 (k0_pay5 x1 (row2 x2) (row0 x2) (row1 x2)) (k0_pay6 (row3 x2)) k0_pay7 (k0_pay8 x1) := by
  unfold out0_A_3
  rw [View.read_writes_eq_canon _ _ _ (cover0_A_3 c i arg2 harg2 arg3 harg3 arg4 harg4 arg6 harg6 arg7 harg7 hc0 x0 x1 x2)]
  unfold kernelRun0_A
  dsimp only
  sl_unfold_words
  rw [View.canon_unit_zero (S := S2048x256) hz]
  simp only [View.readAt_eq_ld, harg2.read_unread, harg3.read_unread, harg4.read_unread, View.ld_unit_zero (S := S2048x256) hz]

/-- The input's gradient at the second sequence's point. -/
theorem out_B_3 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : ¬cond0_0 i)
    (x0 : Vec F S2048x256 .f32) (x1 : Vec F S2048x256 .f32) (x2 : Vec F S8x256 .f32) (xo4 : Vec F S8x256 .f32) :
    out0_B_3 c i arg2 harg2 arg3 harg3 arg4 harg4 arg6 harg6 arg7 harg7 hc0 x0 x1 x2 xo4 = k0_pay9 (k0_pay5 x1 (row2 x2) (row0 x2) (row1 x2)) (k0_pay6 (row3 x2)) k0_pay7 (k0_pay8 x1) := by
  unfold out0_B_3
  rw [View.read_writes_eq_canon _ _ _ (cover0_B_3 c i arg2 harg2 arg3 harg3 arg4 harg4 arg6 harg6 arg7 harg7 hc0 x0 x1 x2 xo4)]
  unfold kernelRun0_B
  dsimp only
  sl_unfold_words
  rw [View.canon_unit_zero (S := S2048x256) hz]
  simp only [View.readAt_eq_ld, harg2.read_unread, harg3.read_unread, harg4.read_unread, View.ld_unit_zero (S := S2048x256) hz]

/-- Row 0 after the first sequence's point. -/
theorem out_A_4_0 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : cond0_0 i)
    (x0 : Vec F S2048x256 .f32) (x1 : Vec F S2048x256 .f32) (x2 : Vec F S8x256 .f32) (q : Fin 256) :
    out0_A_4 c i arg2 harg2 arg3 harg3 arg4 harg4 arg6 harg6 arg7 harg7 hc0 x0 x1 x2 (ix2 0 q) = new0 x0 x1 k0_pay4 (ix2 0 q) := by
  unfold out0_A_4
  unfold kernelRun0_A
  dsimp only
  sl_unfold_words
  refine (View.read_writes_cons_rows_of_not_mem (o := 4) (W := 1) _ _ _ _ _ _ rfl rfl (Or.inl (by show 0 < 4; decide))).trans ?_
  refine (View.read_writes_cons_rows_of_not_mem (o := 3) (W := 1) _ _ _ _ _ _ rfl rfl (Or.inl (by show 0 < 3; decide))).trans ?_
  refine (View.read_writes_cons_rows_of_not_mem (o := 2) (W := 1) _ _ _ _ _ _ rfl rfl (Or.inl (by show 0 < 2; decide))).trans ?_
  refine (View.read_writes_cons_rows_of_not_mem (o := 1) (W := 1) _ _ _ _ _ _ rfl rfl (Or.inl (by show 0 < 1; decide))).trans ?_
  refine (View.read_writes_cons_rows_of_mem (o := 0) _ _ _ _ _ (ix2 0 q) (ix2 0 q) (by rfl) (by rfl) (by rfl)).trans ?_
  simp only [View.readAt_eq_ld, harg2.read_unread, harg3.read_unread, harg4.read_unread, harg7.read_unread, View.ld_unit_zero (S := S2048x256) hz]
  exact congrArg (fun o => k0_pay10 x0 x1 (iota Kind.tc S2048x256 32 [0] iota_S2048x256_d0_w32) o (ix2 0 q)) (View.readCov_fill arg7.view _ _ _ _ (fun a => congrFun hz a))

/-- Row 1 after the first sequence's point. -/
theorem out_A_4_1 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : cond0_0 i)
    (x0 : Vec F S2048x256 .f32) (x1 : Vec F S2048x256 .f32) (x2 : Vec F S8x256 .f32) (q : Fin 256) :
    out0_A_4 c i arg2 harg2 arg3 harg3 arg4 harg4 arg6 harg6 arg7 harg7 hc0 x0 x1 x2 (ix2 1 q) = new1 x0 x1 k0_pay4 (ix2 0 q) := by
  unfold out0_A_4
  unfold kernelRun0_A
  dsimp only
  sl_unfold_words
  refine (View.read_writes_cons_rows_of_not_mem (o := 4) (W := 1) _ _ _ _ _ _ rfl rfl (Or.inl (by show 1 < 4; decide))).trans ?_
  refine (View.read_writes_cons_rows_of_not_mem (o := 3) (W := 1) _ _ _ _ _ _ rfl rfl (Or.inl (by show 1 < 3; decide))).trans ?_
  refine (View.read_writes_cons_rows_of_not_mem (o := 2) (W := 1) _ _ _ _ _ _ rfl rfl (Or.inl (by show 1 < 2; decide))).trans ?_
  refine (View.read_writes_cons_rows_of_mem (o := 1) _ _ _ _ _ (ix2 1 q) (ix2 0 q) (by rfl) (by rfl) (by rfl)).trans ?_
  simp only [View.readAt_eq_ld, harg2.read_unread, harg3.read_unread, harg4.read_unread, harg7.read_unread, View.ld_unit_zero (S := S2048x256) hz]
  exact congrArg (fun o => k0_pay11 x0 x1 (iota Kind.tc S2048x256 32 [0] iota_S2048x256_d0_w32) o (ix2 0 q)) ((View.readCov_skip arg7.view _ _ _ _ rfl).trans (View.readCov_fill arg7.view _ _ _ _ (fun a => congrFun hz a)))

/-- Row 2 after the first sequence's point. -/
theorem out_A_4_2 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : cond0_0 i)
    (x0 : Vec F S2048x256 .f32) (x1 : Vec F S2048x256 .f32) (x2 : Vec F S8x256 .f32) (q : Fin 256) :
    out0_A_4 c i arg2 harg2 arg3 harg3 arg4 harg4 arg6 harg6 arg7 harg7 hc0 x0 x1 x2 (ix2 2 q) = new2 x0 x1 k0_pay4 (ix2 0 q) := by
  unfold out0_A_4
  unfold kernelRun0_A
  dsimp only
  sl_unfold_words
  refine (View.read_writes_cons_rows_of_not_mem (o := 4) (W := 1) _ _ _ _ _ _ rfl rfl (Or.inl (by show 2 < 4; decide))).trans ?_
  refine (View.read_writes_cons_rows_of_not_mem (o := 3) (W := 1) _ _ _ _ _ _ rfl rfl (Or.inl (by show 2 < 3; decide))).trans ?_
  refine (View.read_writes_cons_rows_of_mem (o := 2) _ _ _ _ _ (ix2 2 q) (ix2 0 q) (by rfl) (by rfl) (by rfl)).trans ?_
  simp only [View.readAt_eq_ld, harg2.read_unread, harg3.read_unread, harg4.read_unread, harg7.read_unread, View.ld_unit_zero (S := S2048x256) hz]
  exact congrArg (fun o => k0_pay1 (k0_pay12 o) (k0_pay13 x0 x1) (ix2 0 q)) ((View.readCov_skip arg7.view _ _ _ _ rfl).trans ((View.readCov_skip arg7.view _ _ _ _ rfl).trans (View.readCov_fill arg7.view _ _ _ _ (fun a => congrFun hz a))))

/-- Row 3 after the first sequence's point. -/
theorem out_A_4_3 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : cond0_0 i)
    (x0 : Vec F S2048x256 .f32) (x1 : Vec F S2048x256 .f32) (x2 : Vec F S8x256 .f32) (q : Fin 256) :
    out0_A_4 c i arg2 harg2 arg3 harg3 arg4 harg4 arg6 harg6 arg7 harg7 hc0 x0 x1 x2 (ix2 3 q) = new3 x0 x1 k0_pay4 (ix2 0 q) := by
  unfold out0_A_4
  unfold kernelRun0_A
  dsimp only
  sl_unfold_words
  refine (View.read_writes_cons_rows_of_not_mem (o := 4) (W := 1) _ _ _ _ _ _ rfl rfl (Or.inl (by show 3 < 4; decide))).trans ?_
  refine (View.read_writes_cons_rows_of_mem (o := 3) _ _ _ _ _ (ix2 3 q) (ix2 0 q) (by rfl) (by rfl) (by rfl)).trans ?_
  simp only [View.readAt_eq_ld, harg2.read_unread, harg3.read_unread, harg4.read_unread, harg7.read_unread, View.ld_unit_zero (S := S2048x256) hz]
  exact congrArg (fun o => k0_pay2 x0 x1 (iota Kind.tc S2048x256 32 [0] iota_S2048x256_d0_w32) o (ix2 0 q)) ((View.readCov_skip arg7.view _ _ _ _ rfl).trans ((View.readCov_skip arg7.view _ _ _ _ rfl).trans ((View.readCov_skip arg7.view _ _ _ _ rfl).trans (View.readCov_fill arg7.view _ _ _ _ (fun a => congrFun hz a)))))

/-- Row 4 after the first sequence's point. -/
theorem out_A_4_4 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : cond0_0 i)
    (x0 : Vec F S2048x256 .f32) (x1 : Vec F S2048x256 .f32) (x2 : Vec F S8x256 .f32) (q : Fin 256) :
    out0_A_4 c i arg2 harg2 arg3 harg3 arg4 harg4 arg6 harg6 arg7 harg7 hc0 x0 x1 x2 (ix2 4 q) = new4 x0 x1 k0_pay4 (ix2 0 q) := by
  unfold out0_A_4
  unfold kernelRun0_A
  dsimp only
  sl_unfold_words
  refine (View.read_writes_cons_rows_of_mem (o := 4) _ _ _ _ _ (ix2 4 q) (ix2 0 q) (by rfl) (by rfl) (by rfl)).trans ?_
  simp only [View.readAt_eq_ld, harg2.read_unread, harg3.read_unread, harg4.read_unread, harg7.read_unread, View.ld_unit_zero (S := S2048x256) hz]
  exact congrArg (fun o => k0_pay3 x1 o (ix2 0 q)) ((View.readCov_skip arg7.view _ _ _ _ rfl).trans ((View.readCov_skip arg7.view _ _ _ _ rfl).trans ((View.readCov_skip arg7.view _ _ _ _ rfl).trans ((View.readCov_skip arg7.view _ _ _ _ rfl).trans (View.readCov_fill arg7.view _ _ _ _ (fun a => congrFun hz a))))))

/-- The other rows after the first sequence's point. -/
theorem out_A_4_kept (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : cond0_0 i)
    (x0 : Vec F S2048x256 .f32) (x1 : Vec F S2048x256 .f32) (x2 : Vec F S8x256 .f32) (p : Fin 8) (hp : 5 ≤ (p : ℕ)) (q : Fin 256) :
    out0_A_4 c i arg2 harg2 arg3 harg3 arg4 harg4 arg6 harg6 arg7 harg7 hc0 x0 x1 x2 (ix2 p q) = k0_pay4 (ix2 p q) := by
  unfold out0_A_4
  unfold kernelRun0_A
  dsimp only
  sl_unfold_words
  refine (View.read_writes_cons_rows_of_not_mem (o := 4) (W := 1) _ _ _ _ _ _ rfl rfl (Or.inr (by show 4 + 1 ≤ (p : ℕ); omega))).trans ?_
  refine (View.read_writes_cons_rows_of_not_mem (o := 3) (W := 1) _ _ _ _ _ _ rfl rfl (Or.inr (by show 3 + 1 ≤ (p : ℕ); omega))).trans ?_
  refine (View.read_writes_cons_rows_of_not_mem (o := 2) (W := 1) _ _ _ _ _ _ rfl rfl (Or.inr (by show 2 + 1 ≤ (p : ℕ); omega))).trans ?_
  refine (View.read_writes_cons_rows_of_not_mem (o := 1) (W := 1) _ _ _ _ _ _ rfl rfl (Or.inr (by show 1 + 1 ≤ (p : ℕ); omega))).trans ?_
  refine (View.read_writes_cons_rows_of_not_mem (o := 0) (W := 1) _ _ _ _ _ _ rfl rfl (Or.inr (by show 0 + 1 ≤ (p : ℕ); omega))).trans ?_
  exact View.read_writes_cons_rows_of_mem (o := 0) _ _ _ _ _ _ (ix2 p q) rfl (Nat.zero_add _).symm rfl

/-- Row 0 after the second sequence's point. -/
theorem out_B_4_0 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : ¬cond0_0 i)
    (x0 : Vec F S2048x256 .f32) (x1 : Vec F S2048x256 .f32) (x2 : Vec F S8x256 .f32) (xo4 : Vec F S8x256 .f32) (q : Fin 256) :
    out0_B_4 c i arg2 harg2 arg3 harg3 arg4 harg4 arg6 harg6 arg7 harg7 hc0 x0 x1 x2 xo4 (ix2 0 q) = new0 x0 x1 xo4 (ix2 0 q) := by
  unfold out0_B_4
  unfold kernelRun0_B
  dsimp only
  sl_unfold_words
  refine (View.read_writes_cons_rows_of_not_mem (o := 4) (W := 1) _ _ _ _ _ _ rfl rfl (Or.inl (by show 0 < 4; decide))).trans ?_
  refine (View.read_writes_cons_rows_of_not_mem (o := 3) (W := 1) _ _ _ _ _ _ rfl rfl (Or.inl (by show 0 < 3; decide))).trans ?_
  refine (View.read_writes_cons_rows_of_not_mem (o := 2) (W := 1) _ _ _ _ _ _ rfl rfl (Or.inl (by show 0 < 2; decide))).trans ?_
  refine (View.read_writes_cons_rows_of_not_mem (o := 1) (W := 1) _ _ _ _ _ _ rfl rfl (Or.inl (by show 0 < 1; decide))).trans ?_
  refine (View.read_writes_cons_rows_of_mem (o := 0) _ _ _ _ _ (ix2 0 q) (ix2 0 q) (by rfl) (by rfl) (by rfl)).trans ?_
  simp only [View.readAt_eq_ld, harg2.read_unread, harg3.read_unread, harg4.read_unread, harg7.read_unread, View.ld_unit_zero (S := S2048x256) hz]

/-- Row 1 after the second sequence's point. -/
theorem out_B_4_1 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : ¬cond0_0 i)
    (x0 : Vec F S2048x256 .f32) (x1 : Vec F S2048x256 .f32) (x2 : Vec F S8x256 .f32) (xo4 : Vec F S8x256 .f32) (q : Fin 256) :
    out0_B_4 c i arg2 harg2 arg3 harg3 arg4 harg4 arg6 harg6 arg7 harg7 hc0 x0 x1 x2 xo4 (ix2 1 q) = new1 x0 x1 xo4 (ix2 0 q) := by
  unfold out0_B_4
  unfold kernelRun0_B
  dsimp only
  sl_unfold_words
  refine (View.read_writes_cons_rows_of_not_mem (o := 4) (W := 1) _ _ _ _ _ _ rfl rfl (Or.inl (by show 1 < 4; decide))).trans ?_
  refine (View.read_writes_cons_rows_of_not_mem (o := 3) (W := 1) _ _ _ _ _ _ rfl rfl (Or.inl (by show 1 < 3; decide))).trans ?_
  refine (View.read_writes_cons_rows_of_not_mem (o := 2) (W := 1) _ _ _ _ _ _ rfl rfl (Or.inl (by show 1 < 2; decide))).trans ?_
  refine (View.read_writes_cons_rows_of_mem (o := 1) _ _ _ _ _ (ix2 1 q) (ix2 0 q) (by rfl) (by rfl) (by rfl)).trans ?_
  simp only [View.readAt_eq_ld, harg2.read_unread, harg3.read_unread, harg4.read_unread, harg7.read_unread, View.ld_unit_zero (S := S2048x256) hz]

/-- Row 2 after the second sequence's point. -/
theorem out_B_4_2 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : ¬cond0_0 i)
    (x0 : Vec F S2048x256 .f32) (x1 : Vec F S2048x256 .f32) (x2 : Vec F S8x256 .f32) (xo4 : Vec F S8x256 .f32) (q : Fin 256) :
    out0_B_4 c i arg2 harg2 arg3 harg3 arg4 harg4 arg6 harg6 arg7 harg7 hc0 x0 x1 x2 xo4 (ix2 2 q) = new2 x0 x1 xo4 (ix2 0 q) := by
  unfold out0_B_4
  unfold kernelRun0_B
  dsimp only
  sl_unfold_words
  refine (View.read_writes_cons_rows_of_not_mem (o := 4) (W := 1) _ _ _ _ _ _ rfl rfl (Or.inl (by show 2 < 4; decide))).trans ?_
  refine (View.read_writes_cons_rows_of_not_mem (o := 3) (W := 1) _ _ _ _ _ _ rfl rfl (Or.inl (by show 2 < 3; decide))).trans ?_
  refine (View.read_writes_cons_rows_of_mem (o := 2) _ _ _ _ _ (ix2 2 q) (ix2 0 q) (by rfl) (by rfl) (by rfl)).trans ?_
  simp only [View.readAt_eq_ld, harg2.read_unread, harg3.read_unread, harg4.read_unread, harg7.read_unread, View.ld_unit_zero (S := S2048x256) hz]

/-- Row 3 after the second sequence's point. -/
theorem out_B_4_3 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : ¬cond0_0 i)
    (x0 : Vec F S2048x256 .f32) (x1 : Vec F S2048x256 .f32) (x2 : Vec F S8x256 .f32) (xo4 : Vec F S8x256 .f32) (q : Fin 256) :
    out0_B_4 c i arg2 harg2 arg3 harg3 arg4 harg4 arg6 harg6 arg7 harg7 hc0 x0 x1 x2 xo4 (ix2 3 q) = new3 x0 x1 xo4 (ix2 0 q) := by
  unfold out0_B_4
  unfold kernelRun0_B
  dsimp only
  sl_unfold_words
  refine (View.read_writes_cons_rows_of_not_mem (o := 4) (W := 1) _ _ _ _ _ _ rfl rfl (Or.inl (by show 3 < 4; decide))).trans ?_
  refine (View.read_writes_cons_rows_of_mem (o := 3) _ _ _ _ _ (ix2 3 q) (ix2 0 q) (by rfl) (by rfl) (by rfl)).trans ?_
  simp only [View.readAt_eq_ld, harg2.read_unread, harg3.read_unread, harg4.read_unread, harg7.read_unread, View.ld_unit_zero (S := S2048x256) hz]

/-- Row 4 after the second sequence's point. -/
theorem out_B_4_4 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : ¬cond0_0 i)
    (x0 : Vec F S2048x256 .f32) (x1 : Vec F S2048x256 .f32) (x2 : Vec F S8x256 .f32) (xo4 : Vec F S8x256 .f32) (q : Fin 256) :
    out0_B_4 c i arg2 harg2 arg3 harg3 arg4 harg4 arg6 harg6 arg7 harg7 hc0 x0 x1 x2 xo4 (ix2 4 q) = new4 x0 x1 xo4 (ix2 0 q) := by
  unfold out0_B_4
  unfold kernelRun0_B
  dsimp only
  sl_unfold_words
  refine (View.read_writes_cons_rows_of_mem (o := 4) _ _ _ _ _ (ix2 4 q) (ix2 0 q) (by rfl) (by rfl) (by rfl)).trans ?_
  simp only [View.readAt_eq_ld, harg2.read_unread, harg3.read_unread, harg4.read_unread, harg7.read_unread, View.ld_unit_zero (S := S2048x256) hz]

/-- The other rows after the second sequence's point. -/
theorem out_B_4_kept (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg6 : Memref sig .tc .vmem S2048x256 .bf16) (harg6 : arg6.IsWhole) (arg7 : Memref sig .tc .vmem S8x256 .f32) (harg7 : arg7.IsWhole) (hc0 : ¬cond0_0 i)
    (x0 : Vec F S2048x256 .f32) (x1 : Vec F S2048x256 .f32) (x2 : Vec F S8x256 .f32) (xo4 : Vec F S8x256 .f32) (p : Fin 8) (hp : 5 ≤ (p : ℕ)) (q : Fin 256) :
    out0_B_4 c i arg2 harg2 arg3 harg3 arg4 harg4 arg6 harg6 arg7 harg7 hc0 x0 x1 x2 xo4 (ix2 p q) = xo4 (ix2 p q) := by
  unfold out0_B_4
  unfold kernelRun0_B
  dsimp only
  sl_unfold_words
  refine (View.read_writes_cons_rows_of_not_mem (o := 4) (W := 1) _ _ _ _ _ _ rfl rfl (Or.inr (by show 4 + 1 ≤ (p : ℕ); omega))).trans ?_
  refine (View.read_writes_cons_rows_of_not_mem (o := 3) (W := 1) _ _ _ _ _ _ rfl rfl (Or.inr (by show 3 + 1 ≤ (p : ℕ); omega))).trans ?_
  refine (View.read_writes_cons_rows_of_not_mem (o := 2) (W := 1) _ _ _ _ _ _ rfl rfl (Or.inr (by show 2 + 1 ≤ (p : ℕ); omega))).trans ?_
  refine (View.read_writes_cons_rows_of_not_mem (o := 1) (W := 1) _ _ _ _ _ _ rfl rfl (Or.inr (by show 1 + 1 ≤ (p : ℕ); omega))).trans ?_
  refine (View.read_writes_cons_rows_of_not_mem (o := 0) (W := 1) _ _ _ _ _ _ rfl rfl (Or.inr (by show 0 + 1 ≤ (p : ℕ); omega))).trans ?_
  exact congrFun (harg7.read_unread xo4) (ix2 p q)

end Cert.Kernel23Ideal.Stored
-- ==== Proof.ReduceMath.lean ====
/- The host's sum over all axes but the last, of three or four, read at an index. -/
module

public import Idealize.ShloMosaic.Lib.Pointwise

@[expose] public section

noncomputable section

namespace Cert.ReduceMath

open Idealize.ShloMosaic Idealize.ShloMosaic.TcCoe

/-- The indices that fall on `j` when the first two axes are summed away. -/
theorem fiber {a b n : ℕ} (h : (⟨3, ![a, b, n]⟩ : Shape).ReducesTo [0, 1] ⟨1, ![n]⟩) (j : Fin n) (i : (⟨3, ![a, b, n]⟩ : Shape).Idx) :
    h.drop i = ix1 j ↔ ∃ k : Fin a × Fin b, ix3 k.1 k.2 j = i := by
  constructor
  · intro e
    refine ⟨(i 0, i 1), ?_⟩
    funext x
    apply Fin.ext
    match x with
    | ⟨0, _⟩ => rfl
    | ⟨1, _⟩ => rfl
    | ⟨2, _⟩ => exact (congrArg Fin.val (congrFun e 0)).symm
  · rintro ⟨k, rfl⟩
    funext x
    apply Fin.ext
    match x with
    | ⟨0, _⟩ => rfl

/-- The sum over the first two axes: the initial value and the double sum. -/
theorem sum_first_two {a b n : ℕ} (h : (⟨3, ![a, b, n]⟩ : Shape).ReducesTo [0, 1] ⟨1, ![n]⟩) (v : (⟨3, ![a, b, n]⟩ : Shape).Idx → EReal) (init : EReal) (j : Fin n) :
    Ideal.hostReduceAdd h v init (ix1 j) = init + ∑ k : Fin a, ∑ l : Fin b, v (ix3 k l j) := by
  refine congrArg (init + ·) ((Finset.sum_filter_eq_sum_of_fiber _ (fun k : Fin a × Fin b => ix3 k.1 k.2 j)
    (fun _ _ e => Prod.ext (congrFun e 0) (congrFun e 1)) (fiber h j) v).trans ?_)
  simp only [Fintype.sum_prod_type]

/-- The indices that fall on `j` when the first three axes are summed away. -/
theorem fiber_three {a b c n : ℕ} (h : (⟨4, ![a, b, c, n]⟩ : Shape).ReducesTo [0, 1, 2] ⟨1, ![n]⟩) (j : Fin n) (i : (⟨4, ![a, b, c, n]⟩ : Shape).Idx) :
    h.drop i = ix1 j ↔ ∃ k : Fin a × Fin b × Fin c, ix4 k.1 k.2.1 k.2.2 j = i := by
  constructor
  · intro e
    refine ⟨(i 0, i 1, i 2), ?_⟩
    funext x
    apply Fin.ext
    match x with
    | ⟨0, _⟩ => rfl
    | ⟨1, _⟩ => rfl
    | ⟨2, _⟩ => rfl
    | ⟨3, _⟩ => exact (congrArg Fin.val (congrFun e 0)).symm
  · rintro ⟨k, rfl⟩
    funext x
    apply Fin.ext
    match x with
    | ⟨0, _⟩ => rfl

/-- The sum over the first three axes: the initial value and the triple sum. -/
theorem sum_first_three {a b c n : ℕ} (h : (⟨4, ![a, b, c, n]⟩ : Shape).ReducesTo [0, 1, 2] ⟨1, ![n]⟩) (v : (⟨4, ![a, b, c, n]⟩ : Shape).Idx → EReal) (init : EReal) (j : Fin n) :
    Ideal.hostReduceAdd h v init (ix1 j) = init + ∑ k : Fin a, ∑ l : Fin b, ∑ m : Fin c, v (ix4 k l m j) := by
  refine congrArg (init + ·) ((Finset.sum_filter_eq_sum_of_fiber _ (fun k : Fin a × Fin b × Fin c => ix4 k.1 k.2.1 k.2.2 j)
    (fun _ _ e => Prod.ext (congrFun e 0) (Prod.ext (congrFun e 1) (congrFun e 2))) (fiber_three h j) v).trans ?_)
  simp only [Fintype.sum_prod_type]

end Cert.ReduceMath

end

end
-- ==== Proof.ConvRead.lean ====
/- What one grid point of the depthwise convolution's gradient (`Kernel23`) stores, read entry by entry: masked rotations are shifts with zeros, and each row adds a sequence's sum. -/
module

public import proofs.«01_k».proof.Proof.Gen.Kernel23Ideal.Value
public import proofs.«01_k».proof.Proof.Gen.Reference23Ideal.Read
public import Idealize.ShloMosaic.Lib.Pointwise
public import Idealize.ShloMosaic.Lib.Claim
public import proofs.«01_k».proof.Proof.ConvStored
public import proofs.«01_k».proof.Proof.ReduceMath

@[expose] public section

noncomputable section

namespace Cert.Kernel23Ideal.Tile

open Cert.Kernel23Ideal Cert.Kernel23Ideal.Gen Cert.Kernel23Ideal.Stored Cert.ReduceMath
open Idealize.ShloMosaic Idealize.ShloMosaic.TcCoe Idealize.SL.Sem

/-- A sequence with two zeros before it and zeros after it. -/
def padded (f : Fin 2048 → EReal) (n : ℕ) : EReal := if h : 2 ≤ n ∧ n < 2050 then f ⟨n - 2, by omega⟩ else 0

/-- Inside the sequence, two places on. -/
theorem padded_in (f : Fin 2048 → EReal) (p : Fin 2048) {n : ℕ} (h : n = p + 2) : padded f n = f p := by
  subst h
  unfold padded
  rw [dif_pos (by omega)]
  exact congrArg f (Fin.ext (by show (p : ℕ) + 2 - 2 = p; omega))
/-- Outside it. -/
theorem padded_out (f : Fin 2048 → EReal) {n : ℕ} (h : ¬ (2 ≤ n ∧ n < 2050)) : padded f n = 0 := dif_neg h

/-- The mask of the rows from the second on … -/
theorem from2 : ∀ p : Fin 2048, IntOp.cmpi .sge (BitVec.ofNat 32 p) 2#32 = if 2 ≤ (p : ℕ) then 1#1 else 0#1 := by decide +kernel
/-- … from the first on … -/
theorem from1 : ∀ p : Fin 2048, IntOp.cmpi .sge (BitVec.ofNat 32 p) 1#32 = if 1 ≤ (p : ℕ) then 1#1 else 0#1 := by decide +kernel
/-- … up to the last but one … -/
theorem to1 : ∀ p : Fin 2048, IntOp.cmpi .slt (BitVec.ofNat 32 p) 2047#32 = if (p : ℕ) < 2047 then 1#1 else 0#1 := by decide +kernel
/-- … and up to the last but two. -/
theorem to2 : ∀ p : Fin 2048, IntOp.cmpi .slt (BitVec.ofNat 32 p) 2046#32 = if (p : ℕ) < 2046 then 1#1 else 0#1 := by decide +kernel

/-- The rotation by 2, masked. -/
theorem back2 (f : Fin 2048 → EReal) (p : Fin 2048) (h : ((p : ℕ) + 2048 - 2) % 2048 < 2048) : Scalar.select (IntOp.cmpi .sge (BitVec.ofNat 32 p) 2#32) (f ⟨((p : ℕ) + 2048 - 2) % 2048, h⟩) 0 = padded f (p + 0) := by
  rw [from2 p]
  by_cases hp : 2 ≤ (p : ℕ)
  · rw [if_pos hp, padded_in f ⟨((p : ℕ) + 2048 - 2) % 2048, h⟩ (by show (p : ℕ) + 0 = ((p : ℕ) + 2048 - 2) % 2048 + 2; omega)]
    rfl
  · rw [if_neg hp, padded_out f (by omega)]
    rfl
/-- The same under a factor. -/
theorem back2_mul (f : Fin 2048 → EReal) (g : EReal) (p : Fin 2048) (h : ((p : ℕ) + 2048 - 2) % 2048 < 2048) : Scalar.select (IntOp.cmpi .sge (BitVec.ofNat 32 p) 2#32) (f ⟨((p : ℕ) + 2048 - 2) % 2048, h⟩ * g) 0 = g * padded f (p + 0) := by
  rw [from2 p]
  by_cases hp : 2 ≤ (p : ℕ)
  · rw [if_pos hp, padded_in f ⟨((p : ℕ) + 2048 - 2) % 2048, h⟩ (by show (p : ℕ) + 0 = ((p : ℕ) + 2048 - 2) % 2048 + 2; omega)]
    exact mul_comm _ _
  · rw [if_neg hp, padded_out f (by omega), mul_zero]
    rfl

/-- The rotation by 1, masked. -/
theorem back1 (f : Fin 2048 → EReal) (p : Fin 2048) (h : ((p : ℕ) + 2048 - 1) % 2048 < 2048) : Scalar.select (IntOp.cmpi .sge (BitVec.ofNat 32 p) 1#32) (f ⟨((p : ℕ) + 2048 - 1) % 2048, h⟩) 0 = padded f (p + 1) := by
  rw [from1 p]
  by_cases hp : 1 ≤ (p : ℕ)
  · rw [if_pos hp, padded_in f ⟨((p : ℕ) + 2048 - 1) % 2048, h⟩ (by show (p : ℕ) + 1 = ((p : ℕ) + 2048 - 1) % 2048 + 2; omega)]
    rfl
  · rw [if_neg hp, padded_out f (by omega)]
    rfl
/-- The same under a factor. -/
theorem back1_mul (f : Fin 2048 → EReal) (g : EReal) (p : Fin 2048) (h : ((p : ℕ) + 2048 - 1) % 2048 < 2048) : Scalar.select (IntOp.cmpi .sge (BitVec.ofNat 32 p) 1#32) (f ⟨((p : ℕ) + 2048 - 1) % 2048, h⟩ * g) 0 = g * padded f (p + 1) := by
  rw [from1 p]
  by_cases hp : 1 ≤ (p : ℕ)
  · rw [if_pos hp, padded_in f ⟨((p : ℕ) + 2048 - 1) % 2048, h⟩ (by show (p : ℕ) + 1 = ((p : ℕ) + 2048 - 1) % 2048 + 2; omega)]
    exact mul_comm _ _
  · rw [if_neg hp, padded_out f (by omega), mul_zero]
    rfl

/-- The rotation by 2047, masked. -/
theorem on1 (f : Fin 2048 → EReal) (p : Fin 2048) (h : ((p : ℕ) + 2048 - 2047) % 2048 < 2048) : Scalar.select (IntOp.cmpi .slt (BitVec.ofNat 32 p) 2047#32) (f ⟨((p : ℕ) + 2048 - 2047) % 2048, h⟩) 0 = padded f (p + 3) := by
  rw [to1 p]
  by_cases hp : (p : ℕ) < 2047
  · rw [if_pos hp, padded_in f ⟨((p : ℕ) + 2048 - 2047) % 2048, h⟩ (by show (p : ℕ) + 3 = ((p : ℕ) + 2048 - 2047) % 2048 + 2; omega)]
    rfl
  · rw [if_neg hp, padded_out f (by omega)]
    rfl
/-- The same under a factor. -/
theorem on1_mul (f : Fin 2048 → EReal) (g : EReal) (p : Fin 2048) (h : ((p : ℕ) + 2048 - 2047) % 2048 < 2048) : Scalar.select (IntOp.cmpi .slt (BitVec.ofNat 32 p) 2047#32) (f ⟨((p : ℕ) + 2048 - 2047) % 2048, h⟩ * g) 0 = g * padded f (p + 3) := by
  rw [to1 p]
  by_cases hp : (p : ℕ) < 2047
  · rw [if_pos hp, padded_in f ⟨((p : ℕ) + 2048 - 2047) % 2048, h⟩ (by show (p : ℕ) + 3 = ((p : ℕ) + 2048 - 2047) % 2048 + 2; omega)]
    exact mul_comm _ _
  · rw [if_neg hp, padded_out f (by omega), mul_zero]
    rfl

/-- The rotation by 2046, masked. -/
theorem on2 (f : Fin 2048 → EReal) (p : Fin 2048) (h : ((p : ℕ) + 2048 - 2046) % 2048 < 2048) : Scalar.select (IntOp.cmpi .slt (BitVec.ofNat 32 p) 2046#32) (f ⟨((p : ℕ) + 2048 - 2046) % 2048, h⟩) 0 = padded f (p + 4) := by
  rw [to2 p]
  by_cases hp : (p : ℕ) < 2046
  · rw [if_pos hp, padded_in f ⟨((p : ℕ) + 2048 - 2046) % 2048, h⟩ (by show (p : ℕ) + 4 = ((p : ℕ) + 2048 - 2046) % 2048 + 2; omega)]
    rfl
  · rw [if_neg hp, padded_out f (by omega)]
    rfl
/-- The same under a factor. -/
theorem on2_mul (f : Fin 2048 → EReal) (g : EReal) (p : Fin 2048) (h : ((p : ℕ) + 2048 - 2046) % 2048 < 2048) : Scalar.select (IntOp.cmpi .slt (BitVec.ofNat 32 p) 2046#32) (f ⟨((p : ℕ) + 2048 - 2046) % 2048, h⟩ * g) 0 = g * padded f (p + 4) := by
  rw [to2 p]
  by_cases hp : (p : ℕ) < 2046
  · rw [if_pos hp, padded_in f ⟨((p : ℕ) + 2048 - 2046) % 2048, h⟩ (by show (p : ℕ) + 4 = ((p : ℕ) + 2048 - 2046) % 2048 + 2; omega)]
    exact mul_comm _ _
  · rw [if_neg hp, padded_out f (by omega), mul_zero]
    rfl

/-- A channel's gradient of the input at a place: the taps against the output's gradient. -/
abbrev back (w : Fin 4 → EReal) (g : Fin 2048 → EReal) (p : Fin 2048) : EReal :=
  w 2 * g p + w 0 * padded g (p + 4) + w 1 * padded g (p + 3) + w 3 * padded g (p + 1)

/-- Row 0 of the taps. -/
theorem row0_apply (x : FVec Ideal S8x256 .f32) (q : Fin 256) : row0 (F := Ideal) x (ix2 0 q) = x (ix2 0 q) :=
  View.ld_unit_apply_of (Val := Elt Ideal) (e := .f32) x ![0, 0] S1x256.size inb_S8x256_S1x256_0_0 (ix2 0 q) (ix2 0 q) (by
    intro i
    match i with
    | ⟨0, _⟩ => rfl
    | ⟨1, _⟩ => exact (Nat.zero_add _).symm)
/-- Row 1 of the taps. -/
theorem row1_apply (x : FVec Ideal S8x256 .f32) (q : Fin 256) : row1 (F := Ideal) x (ix2 0 q) = x (ix2 1 q) :=
  View.ld_unit_apply_of (Val := Elt Ideal) (e := .f32) x ![1, 0] S1x256.size inb_S8x256_S1x256_1_0 (ix2 0 q) (ix2 1 q) (by
    intro i
    match i with
    | ⟨0, _⟩ => rfl
    | ⟨1, _⟩ => exact (Nat.zero_add _).symm)
/-- Row 2 of the taps. -/
theorem row2_apply (x : FVec Ideal S8x256 .f32) (q : Fin 256) : row2 (F := Ideal) x (ix2 0 q) = x (ix2 2 q) :=
  View.ld_unit_apply_of (Val := Elt Ideal) (e := .f32) x ![2, 0] S1x256.size inb_S8x256_S1x256_2_0 (ix2 0 q) (ix2 2 q) (by
    intro i
    match i with
    | ⟨0, _⟩ => rfl
    | ⟨1, _⟩ => exact (Nat.zero_add _).symm)
/-- Row 3 of the taps. -/
theorem row3_apply (x : FVec Ideal S8x256 .f32) (q : Fin 256) : row3 (F := Ideal) x (ix2 0 q) = x (ix2 3 q) :=
  View.ld_unit_apply_of (Val := Elt Ideal) (e := .f32) x ![3, 0] S1x256.size inb_S8x256_S1x256_3_0 (ix2 0 q) (ix2 3 q) (by
    intro i
    match i with
    | ⟨0, _⟩ => rfl
    | ⟨1, _⟩ => exact (Nat.zero_add _).symm)
/-- Row 4. -/
theorem row4_apply (x : FVec Ideal S8x256 .f32) (q : Fin 256) : row4 (F := Ideal) x (ix2 0 q) = x (ix2 4 q) :=
  View.ld_unit_apply_of (Val := Elt Ideal) (e := .f32) x ![4, 0] S1x256.size inb_S8x256_S1x256_4_0 (ix2 0 q) (ix2 4 q) (by
    intro i
    match i with
    | ⟨0, _⟩ => rfl
    | ⟨1, _⟩ => exact (Nat.zero_add _).symm)

set_option maxRecDepth 100000 in
/-- The first three taps' terms. -/
theorem pay5_apply (g : FVec Ideal S2048x256 .f32) (a b d : FVec Ideal S1x256 .f32) (p : Fin 2048) (q : Fin 256) :
    k0_pay5 (F := Ideal) g a b d (ix2 p q) = a (ix2 0 q) * g (ix2 p q) + b (ix2 0 q) * padded (fun r => g (ix2 r q)) (p + 4) + d (ix2 0 q) * padded (fun r => g (ix2 r q)) (p + 3) := by
  unfold k0_pay5
  rw [← on2 (fun r => g (ix2 r q)) p (Nat.mod_lt _ (by decide)), ← on1 (fun r => g (ix2 r q)) p (Nat.mod_lt _ (by decide))]
  pointwise

/-- The stored input gradient. -/
theorem pay9_apply (v g : FVec Ideal S2048x256 .f32) (a : FVec Ideal S1x256 .f32) (p : Fin 2048) (q : Fin 256) :
    k0_pay9 (F := Ideal) v (k0_pay6 a) k0_pay7 (k0_pay8 g) (ix2 p q) = v (ix2 p q) + a (ix2 0 q) * padded (fun r => g (ix2 r q)) (p + 1) := by
  unfold k0_pay9 k0_pay6 k0_pay7 k0_pay8
  rw [← back1_mul (fun r => g (ix2 r q)) _ p (Nat.mod_lt _ (by decide))]
  pointwise
  simp only [mul_comm]

/-- The input's gradient in a block. -/
theorem dx_apply (g : FVec Ideal S2048x256 .f32) (w : FVec Ideal S8x256 .f32) (p : Fin 2048) (q : Fin 256) :
    k0_pay9 (F := Ideal) (k0_pay5 g (row2 w) (row0 w) (row1 w)) (k0_pay6 (row3 w)) k0_pay7 (k0_pay8 g) (ix2 p q)
      = back (fun k => w (ix2 ⟨k, by omega⟩ q)) (fun r => g (ix2 r q)) p := by
  rw [pay9_apply, pay5_apply, row0_apply, row1_apply, row2_apply, row3_apply]
  rfl

/-- Row 0 of the taps' gradient: what it held and the sequence's sum. -/
theorem new0_apply (x g : FVec Ideal S2048x256 .f32) (o : FVec Ideal S8x256 .f32) (q : Fin 256) :
    new0 (F := Ideal) x g o (ix2 0 q) = o (ix2 0 q) + ∑ p, g (ix2 p q) * padded (fun r => x (ix2 r q)) ((p : ℕ) + 0) := by
  unfold new0 k0_pay10
  simp only [← back2_mul (fun r => x (ix2 r q)) _ _ (Nat.mod_lt _ (by decide))]
  pointwise
  rw [row0_apply]

/-- Row 1 of the taps' gradient: what it held and the sequence's sum. -/
theorem new1_apply (x g : FVec Ideal S2048x256 .f32) (o : FVec Ideal S8x256 .f32) (q : Fin 256) :
    new1 (F := Ideal) x g o (ix2 0 q) = o (ix2 1 q) + ∑ p, g (ix2 p q) * padded (fun r => x (ix2 r q)) ((p : ℕ) + 1) := by
  unfold new1 k0_pay11
  simp only [← back1_mul (fun r => x (ix2 r q)) _ _ (Nat.mod_lt _ (by decide))]
  pointwise
  rw [row1_apply]

/-- Row 2 of the taps' gradient: what it held and the sequence's sum. -/
theorem new2_apply (x g : FVec Ideal S2048x256 .f32) (o : FVec Ideal S8x256 .f32) (q : Fin 256) :
    new2 (F := Ideal) x g o (ix2 0 q) = o (ix2 2 q) + ∑ p, g (ix2 p q) * padded (fun r => x (ix2 r q)) ((p : ℕ) + 2) := by
  unfold new2 k0_pay1 k0_pay12 k0_pay13
  pointwise
  rw [row2_apply]
  exact congrArg (o (ix2 2 q) + ·) (Finset.sum_congr rfl fun p _ => by rw [padded_in (fun r => x (ix2 r q)) p rfl]; exact mul_comm _ _)

set_option maxRecDepth 100000 in
/-- Row 3 of the taps' gradient: what it held and the sequence's sum. -/
theorem new3_apply (x g : FVec Ideal S2048x256 .f32) (o : FVec Ideal S8x256 .f32) (q : Fin 256) :
    new3 (F := Ideal) x g o (ix2 0 q) = o (ix2 3 q) + ∑ p, g (ix2 p q) * padded (fun r => x (ix2 r q)) ((p : ℕ) + 3) := by
  unfold new3 k0_pay2
  simp only [← on1_mul (fun r => x (ix2 r q)) _ _ (Nat.mod_lt _ (by decide))]
  pointwise
  rw [row3_apply]

/-- Row 4, the bias's gradient. -/
theorem new4_apply (x g : FVec Ideal S2048x256 .f32) (o : FVec Ideal S8x256 .f32) (q : Fin 256) :
    new4 (F := Ideal) x g o (ix2 0 q) = o (ix2 4 q) + ∑ p, g (ix2 p q) := by
  unfold new4 k0_pay3
  pointwise
  rw [row4_apply]

/-- The rows start at zero. -/
theorem pay4_apply (p : Fin 8) (q : Fin 256) : k0_pay4 (F := Ideal) (ix2 p q) = 0 := by
  unfold k0_pay4
  pointwise

/-- What a sequence adds to a row: to the first four the output's gradient against the shifted input, to the next the output's gradient, to the rest nothing. -/
def part (k : ℕ) (f g : Fin 2048 → EReal) : EReal := if k < 4 then ∑ p, g p * padded f ((p : ℕ) + k) else if k = 4 then ∑ p, g p else 0

/-- Row 0 from the pointwise readings of what it takes. -/
theorem part0 {x g : FVec Ideal S2048x256 .f32} {o : FVec Ideal S8x256 .f32} {f h : Fin 2048 → EReal} {O : EReal} (q : Fin 256) (hx : ∀ r, x (ix2 r q) = f r) (hg : ∀ r, g (ix2 r q) = h r)
    (ho : o (ix2 0 q) = O) : new0 (F := Ideal) x g o (ix2 0 q) = O + part 0 f h := by
  obtain rfl : (fun r => x (ix2 r q)) = f := funext hx
  obtain rfl : (fun r => g (ix2 r q)) = h := funext hg
  subst ho
  exact new0_apply x g o q

/-- Row 1 from the pointwise readings of what it takes. -/
theorem part1 {x g : FVec Ideal S2048x256 .f32} {o : FVec Ideal S8x256 .f32} {f h : Fin 2048 → EReal} {O : EReal} (q : Fin 256) (hx : ∀ r, x (ix2 r q) = f r) (hg : ∀ r, g (ix2 r q) = h r)
    (ho : o (ix2 1 q) = O) : new1 (F := Ideal) x g o (ix2 0 q) = O + part 1 f h := by
  obtain rfl : (fun r => x (ix2 r q)) = f := funext hx
  obtain rfl : (fun r => g (ix2 r q)) = h := funext hg
  subst ho
  exact new1_apply x g o q

/-- Row 2 from the pointwise readings of what it takes. -/
theorem part2 {x g : FVec Ideal S2048x256 .f32} {o : FVec Ideal S8x256 .f32} {f h : Fin 2048 → EReal} {O : EReal} (q : Fin 256) (hx : ∀ r, x (ix2 r q) = f r) (hg : ∀ r, g (ix2 r q) = h r)
    (ho : o (ix2 2 q) = O) : new2 (F := Ideal) x g o (ix2 0 q) = O + part 2 f h := by
  obtain rfl : (fun r => x (ix2 r q)) = f := funext hx
  obtain rfl : (fun r => g (ix2 r q)) = h := funext hg
  subst ho
  exact new2_apply x g o q

/-- Row 3 from the pointwise readings of what it takes. -/
theorem part3 {x g : FVec Ideal S2048x256 .f32} {o : FVec Ideal S8x256 .f32} {f h : Fin 2048 → EReal} {O : EReal} (q : Fin 256) (hx : ∀ r, x (ix2 r q) = f r) (hg : ∀ r, g (ix2 r q) = h r)
    (ho : o (ix2 3 q) = O) : new3 (F := Ideal) x g o (ix2 0 q) = O + part 3 f h := by
  obtain rfl : (fun r => x (ix2 r q)) = f := funext hx
  obtain rfl : (fun r => g (ix2 r q)) = h := funext hg
  subst ho
  exact new3_apply x g o q

/-- Row 4 from the pointwise readings of what it takes. -/
theorem part4 {x g : FVec Ideal S2048x256 .f32} {o : FVec Ideal S8x256 .f32} {f h : Fin 2048 → EReal} {O : EReal} (q : Fin 256) (hx : ∀ r, x (ix2 r q) = f r) (hg : ∀ r, g (ix2 r q) = h r)
    (ho : o (ix2 4 q) = O) : new4 (F := Ideal) x g o (ix2 0 q) = O + part 4 f h := by
  obtain rfl : (fun r => x (ix2 r q)) = f := funext hx
  obtain rfl : (fun r => g (ix2 r q)) = h := funext hg
  subst ho
  exact new4_apply x g o q

end Cert.Kernel23Ideal.Tile

end

end
-- ==== Proof.ConvGrad.lean ====
/- The depthwise convolution's gradient (`Kernel23`): the input's gradient beside the gate half as it came, and the taps' and bias's gradients in rows, are those of the reference's derivative. -/
module

public import proofs.«01_k».proof.Proof.Gen.Kernel23Ideal.Value
public import proofs.«01_k».proof.Proof.Gen.Reference23Ideal.Read
public import Idealize.ShloMosaic.Lib.Pointwise
public import Idealize.ShloMosaic.Lib.Claim
public import proofs.«01_k».proof.Proof.ConvRead
public import proofs.«01_k».proof.Proof.ReduceMath
public import proofs.«01_k».proof.Proof.Blocks

@[expose] public section

noncomputable section

namespace Cert.Kernel23Ideal.Tile

open Cert.Reference23Ideal.Read Cert.Blocks
open Cert.Kernel23Ideal Cert.Kernel23Ideal.Gen Cert.Kernel23Ideal.Stored Cert.ReduceMath
open Idealize.ShloMosaic Idealize.ShloMosaic.TcCoe Idealize.SL.Sem

/-- The grid point of row block `i` and column block `j`. -/
def point (i : Fin 4) (j : Fin 2) : Fin cfg0.N := ⟨i * 2 + j, by show _ < 8; omega⟩
/-- Place `r` of sequence `i`: the rows fall into sequences … -/
def row (i : Fin 2) (r : Fin 2048) : Fin 4096 := ⟨i * 2048 + r, by omega⟩
/-- … and each lies in some block. -/
theorem row_surj (r : Fin 4096) : ∃ i s, row i s = r :=
  ⟨⟨r / 2048, by omega⟩, ⟨r % 2048, by omega⟩, Fin.ext (by show (r : ℕ) / 2048 * 2048 + r % 2048 = r; omega)⟩

/-- Column `r` of column block `i`: the columns fall into blocks … -/
def col (i : Fin 4) (r : Fin 256) : Fin 1024 := ⟨i * 256 + r, by omega⟩
/-- … and each lies in some block. -/
theorem col_surj (r : Fin 1024) : ∃ i s, col i s = r :=
  ⟨⟨r / 256, by omega⟩, ⟨r % 256, by omega⟩, Fin.ext (by show (r : ℕ) / 256 * 256 + r % 256 = r; omega)⟩

/-- Column `k` of the left half … -/
def low (k : Fin 1024) : Fin 2048 := ⟨k, by omega⟩
/-- … and of the right half … -/
def high (k : Fin 1024) : Fin 2048 := ⟨1024 + k, by omega⟩
/-- … and each column lies in one of them. -/
theorem half_surj (k : Fin 2048) : (∃ l, low l = k) ∨ ∃ l, high l = k := by
  by_cases h : (k : ℕ) < 1024
  · exact Or.inl ⟨⟨k, h⟩, rfl⟩
  · exact Or.inr ⟨⟨k - 1024, by omega⟩, Fin.ext (by show 1024 + ((k : ℕ) - 1024) = k; omega)⟩

/-- The input's block at a point: the sequence, the column block in the right half. -/
theorem index0 : ∀ i j, win0_0.index (point i j) 0 = (j : ℕ) ∧ win0_0.index (point i j) 1 = (4 + i : ℕ) := by decide +kernel
/-- The output gradient's block: the sequence, the column block. -/
theorem index1 : ∀ i j, win0_1.index (point i j) 0 = (j : ℕ) ∧ win0_1.index (point i j) 1 = (i : ℕ) := by decide +kernel
/-- The taps' block: the column block. -/
theorem index2 : ∀ i j, win0_2.index (point i j) 0 = 0 ∧ win0_2.index (point i j) 1 = (i : ℕ) := by decide +kernel
/-- The input gradient's block: the sequence, the column block in the right half. -/
theorem index3 : ∀ i j, win0_3.index (point i j) 0 = (j : ℕ) ∧ win0_3.index (point i j) 1 = (4 + i : ℕ) := by decide +kernel
/-- The block of the taps' gradient: the column block. -/
theorem index4 : ∀ i j, win0_4.index (point i j) 0 = 0 ∧ win0_4.index (point i j) 1 = (i : ℕ) := by decide +kernel

variable (m : (ℓ : Loc nD τ sig) → Buf (Elt Ideal) ℓ) (c : Dev nD)

/-- The layer's two halves, the taps, the bias, the output's gradient and the two halves' gradient, as the device holds them. -/
abbrev arg0 : FVec Ideal S4096x2048 .f32 := m ((c : Thread nD τ).loc main_arg0)
abbrev arg1 : FVec Ideal S4x1x1024 .f32 := m ((c : Thread nD τ).loc main_arg1)
abbrev arg2 : FVec Ideal S1x1024 .f32 := m ((c : Thread nD τ).loc main_arg2)
abbrev arg3 : FVec Ideal S4096x1024 .f32 := m ((c : Thread nD τ).loc main_arg3)
abbrev arg4 : FVec Ideal S4096x2048 .f32 := m ((c : Thread nD τ).loc main_arg4)

/-- The two halves … -/
theorem entry0 : @Eq (FVec Ideal S4096x2048 .f32) (V m c main_arg0) (arg0 m c) := by
  entry_read
  rfl
/-- … and the output's gradient are the arguments. -/
theorem entry1 : @Eq (FVec Ideal S4096x1024 .f32) (V m c main_arg3) (arg3 m c) := by
  entry_read
  rfl
/-- The host lays the taps, the bias and zeros in rows … -/
theorem entry2 : @Eq (FVec Ideal S8x1024 .f32) (V m c main_v2) (concatenate S8x1024 0 [⟨S4x1024, shapeCast S4x1024 (arg1 m c) shapeCasts_S4x1x1024_S4x1024⟩, ⟨S1x1024, arg2 m c⟩,
    ⟨S3x1024, broadcastInDim S3x1024 ![] bcast_S_S3x1024 (constant (F := Ideal) S_ .f32 0x00000000#32)⟩] concatenates_S4x1024_S1x1024_S3x1024_S8x1024_d0) := rfl
/-- … and narrows the two halves' gradient. -/
theorem entry3' : @Eq (FVec Ideal S4096x2048 .bf16) (V m c main_v4_0) (truncf .bf16 (arg4 m c) bitsLt_bf16_f32) := by
  entry_read
  rfl
/-- The taps in rows, entry by entry. -/
theorem taps (k : Fin 4) (s : Fin 1024) : V m c main_v2 (ix2 ⟨k, by omega⟩ s) = arg1 m c (ix3 k 0 s) := by
  refine (congrFun (entry2 m c) (ix2 ⟨k, by omega⟩ s)).trans ?_
  pointwise

variable (i : Fin 4) (j : Fin 2)

/-- The input's block holds its entries. -/
theorem block0 (p : Fin 2048) (q : Fin 256) : (show FVec Ideal S2048x256 .f32 from iblk m c 0 (point i j)) (ix2 p q) = arg0 m c (ix2 (row j p) (high (col i q))) := by
  refine Eq.trans ?_ (congrFun (entry0 m c) (ix2 (row j p) (high (col i q))) : V m c main_arg0 (ix2 (row j p) (high (col i q))) = _)
  unfold iblk
  show ((cfg0.win 0).blk (point i j)).view.read (Elt Ideal) _ (ix2 p q) = _
  rw [View.read_apply]
  show V m c main_arg0 _ = V m c main_arg0 _
  refine congrArg (V m c main_arg0) (funext fun a => Fin.ext ?_)
  match a with
  | ⟨0, _⟩ => show win0_0.index (point i j) 0 * 2048 + 1 * (p : ℕ) = j * 2048 + (p : ℕ); rw [(index0 i j).1]; omega
  | ⟨1, _⟩ => show win0_0.index (point i j) 1 * 256 + 1 * (q : ℕ) = 1024 + (i * 256 + (q : ℕ)); rw [(index0 i j).2]; omega

/-- The output gradient's block holds its entries. -/
theorem block1 (p : Fin 2048) (q : Fin 256) : (show FVec Ideal S2048x256 .f32 from iblk m c 1 (point i j)) (ix2 p q) = arg3 m c (ix2 (row j p) (col i q)) := by
  refine Eq.trans (?_ : _ = V m c main_arg3 (ix2 (row j p) (col i q))) (congrFun (entry1 m c) (ix2 (row j p) (col i q)))
  exact congrArg (V m c main_arg3) (ix2_of (at_row 2048 p (index1 i j).1) (at_row 256 q (index1 i j).2))

/-- The taps' block holds its columns. -/
theorem block2 (k : Fin 8) (q : Fin 256) : (show FVec Ideal S8x256 .f32 from iblk m c 2 (point i j)) (ix2 k q) = V m c main_v2 (ix2 k (col i q)) := by
  refine Eq.trans (?_ : _ = V m c main_v2 (ix2 k (col i q))) ((rfl : V m c main_v2 (ix2 k (col i q)) = _))
  exact congrArg (V m c main_v2) (ix2_of (at_zero 8 k (index2 i j).1) (at_row 256 q (index2 i j).2))

/-- A column of the input's recurrent half in a sequence … -/
abbrev xs (s : Fin 2) (k : Fin 1024) (p : Fin 2048) : EReal := arg0 m c (ix2 (row s p) (high k))
/-- … and of the output's gradient. -/
abbrev gs (s : Fin 2) (k : Fin 1024) (p : Fin 2048) : EReal := arg3 m c (ix2 (row s p) k)
/-- A channel's taps. -/
abbrev ws (k : Fin 1024) (l : Fin 4) : EReal := arg1 m c (ix3 l 0 k)

/-- The block's input gradient. -/
theorem dx_block (p : Fin 2048) (q : Fin 256) :
    k0_pay9 (F := Ideal) (k0_pay5 (iblk m c 1 (point i j)) (row2 (iblk m c 2 (point i j))) (row0 (iblk m c 2 (point i j))) (row1 (iblk m c 2 (point i j)))) (k0_pay6 (row3 (iblk m c 2 (point i j)))) k0_pay7 (k0_pay8 (iblk m c 1 (point i j))) (ix2 p q)
      = back (ws m c (col i q)) (gs m c j (col i q)) p := by
  refine (dx_apply (iblk m c 1 (point i j)) (iblk m c 2 (point i j)) p q).trans ?_
  exact congrArg₂ (fun w g => back w g p) (funext fun k => (block2 m c i j ⟨k, by omega⟩ q).trans (taps m c k (col i q))) (funext fun r => block1 m c i j r q)

/-- What a point leaves of the input's gradient. -/
theorem left3 (p : Fin 2048) (q : Fin 256) : (show FVec Ideal S2048x256 .bf16 from (outsAt0 m c (point i j).val (point i j).isLt).1) (ix2 p q)
    = back (ws m c (col i q)) (gs m c j (col i q)) p := by
  have e := dx_block m c i j p q
  by_cases h : (point i j).val % 2 = 0
  · rw [outsAt0_A m c (point i j) h]
    dsimp only
    rw [out_A_3]
    exact e
  · rw [outsAt0_B m c (point i j) h]
    dsimp only
    rw [out_B_3]
    exact e

/-- The first sequence's point leaves its part of each row … -/
theorem first (k : Fin 8) (q : Fin 256) : (show FVec Ideal S8x256 .f32 from (outsAt0 m c (point i 0).val (point i 0).isLt).2) (ix2 k q)
    = 0 + part k (xs m c 0 (col i q)) (gs m c 0 (col i q)) := by
  rw [outsAt0_A m c (point i 0) (by show ((i : ℕ) * 2 + 0) % 2 = 0; omega)]
  dsimp only
  match k with
  | ⟨0, _⟩ => exact (out_A_4_0 _ _ _ _ _ _ _ _ _ _ _ _ _ _ _ _ q).trans (part0 q (fun r => block0 m c i 0 r q) (fun r => block1 m c i 0 r q) (pay4_apply 0 q))
  | ⟨1, _⟩ => exact (out_A_4_1 _ _ _ _ _ _ _ _ _ _ _ _ _ _ _ _ q).trans (part1 q (fun r => block0 m c i 0 r q) (fun r => block1 m c i 0 r q) (pay4_apply 1 q))
  | ⟨2, _⟩ => exact (out_A_4_2 _ _ _ _ _ _ _ _ _ _ _ _ _ _ _ _ q).trans (part2 q (fun r => block0 m c i 0 r q) (fun r => block1 m c i 0 r q) (pay4_apply 2 q))
  | ⟨3, _⟩ => exact (out_A_4_3 _ _ _ _ _ _ _ _ _ _ _ _ _ _ _ _ q).trans (part3 q (fun r => block0 m c i 0 r q) (fun r => block1 m c i 0 r q) (pay4_apply 3 q))
  | ⟨4, _⟩ => exact (out_A_4_4 _ _ _ _ _ _ _ _ _ _ _ _ _ _ _ _ q).trans (part4 q (fun r => block0 m c i 0 r q) (fun r => block1 m c i 0 r q) (pay4_apply 4 q))
  | ⟨k + 5, hk⟩ => exact (out_A_4_kept _ _ _ _ _ _ _ _ _ _ _ _ _ _ _ _ ⟨k + 5, hk⟩ (Nat.le_add_left 5 k) q).trans ((pay4_apply _ q).trans (by
      unfold part
      rw [if_neg (by show ¬ k + 5 < 4; omega), if_neg (by show ¬ k + 5 = 4; omega), add_zero]))

/-- … and the second's adds its own. -/
theorem second (k : Fin 8) (q : Fin 256) : (show FVec Ideal S8x256 .f32 from (outsAt0 m c (point i 1).val (point i 1).isLt).2) (ix2 k q)
    = 0 + part k (xs m c 0 (col i q)) (gs m c 0 (col i q)) + part k (xs m c 1 (col i q)) (gs m c 1 (col i q)) := by
  have h := first m c i k q
  have e : (point i 1).val - 1 = (point i 0).val := by
    show (i : ℕ) * 2 + 1 - 1 = i * 2 + 0
    omega
  rw [outsAt0_B m c (point i 1) (by show ¬ ((i : ℕ) * 2 + 1) % 2 = 0; omega)]
  dsimp only
  simp only [e]
  match k, h with
  | ⟨0, _⟩, h => exact (out_B_4_0 _ _ _ _ _ _ _ _ _ _ _ _ _ _ _ _ _ q).trans (part0 q (fun r => block0 m c i 1 r q) (fun r => block1 m c i 1 r q) h)
  | ⟨1, _⟩, h => exact (out_B_4_1 _ _ _ _ _ _ _ _ _ _ _ _ _ _ _ _ _ q).trans (part1 q (fun r => block0 m c i 1 r q) (fun r => block1 m c i 1 r q) h)
  | ⟨2, _⟩, h => exact (out_B_4_2 _ _ _ _ _ _ _ _ _ _ _ _ _ _ _ _ _ q).trans (part2 q (fun r => block0 m c i 1 r q) (fun r => block1 m c i 1 r q) h)
  | ⟨3, _⟩, h => exact (out_B_4_3 _ _ _ _ _ _ _ _ _ _ _ _ _ _ _ _ _ q).trans (part3 q (fun r => block0 m c i 1 r q) (fun r => block1 m c i 1 r q) h)
  | ⟨4, _⟩, h => exact (out_B_4_4 _ _ _ _ _ _ _ _ _ _ _ _ _ _ _ _ _ q).trans (part4 q (fun r => block0 m c i 1 r q) (fun r => block1 m c i 1 r q) h)
  | ⟨k + 5, hk⟩, h => exact (out_B_4_kept _ _ _ _ _ _ _ _ _ _ _ _ _ _ _ _ _ ⟨k + 5, hk⟩ (Nat.le_add_left 5 k) q).trans (h.trans (by
      unfold part
      rw [if_neg (by show ¬ k + 5 < 4; omega), if_neg (by show ¬ k + 5 = 4; omega), if_neg (by show ¬ k + 5 < 4; omega), if_neg (by show ¬ k + 5 = 4; omega), add_zero, add_zero]))

/-- The right half's gradient, entry by entry. -/
theorem array3 (p : Fin 2048) (q : Fin 256) : (show FVec Ideal S4096x2048 .bf16 from (dats m 0 c).arrAt 3 cfg0.N) (ix2 (row j p) (high (col i q)))
    = back (ws m c (col i q)) (gs m c j (col i q)) p := by
  have e := congrFun (Value.blocks3 m c (point i j) (flush0_3 _)) (ix2 p q)
  rw [View.read_apply, Value.flushed3] at e
  have t := left3 m c i j p q
  refine Eq.trans ?_ t
  refine Eq.trans ?_ e
  show (dats m 0 c).arrAt 3 cfg0.N _ = (dats m 0 c).arrAt 3 cfg0.N _
  refine congrArg ((dats m 0 c).arrAt 3 cfg0.N) (funext fun a => Fin.ext ?_)
  match a with
  | ⟨0, _⟩ => show (j : ℕ) * 2048 + (p : ℕ) = win0_3.index (point i j) 0 * 2048 + 1 * (p : ℕ); rw [(index3 i j).1]; omega
  | ⟨1, _⟩ => show 1024 + ((i : ℕ) * 256 + (q : ℕ)) = win0_3.index (point i j) 1 * 256 + 1 * (q : ℕ); rw [(index3 i j).2]; omega

/-- The left half keeps what it held. -/
theorem kept3 (t : Fin 4096) (k : Fin 1024) : (show FVec Ideal S4096x2048 .bf16 from (dats m 0 c).arrAt 3 cfg0.N) (ix2 t (low k)) = arg4 m c (ix2 t (low k)) := by
  refine (Value.entry3 m c (ix2 t (low k)) fun u _ hu => ?_).trans (congrFun (entry3' m c) (ix2 t (low k)))
  obtain ⟨x, hx⟩ := View.exists_emb_of_mem_set _ hu
  have hx1 := congrArg Fin.val (congrFun hx 1)
  have hi : ∀ u : Fin cfg0.N, 4 ≤ win0_3.index u 1 := by decide +kernel
  have := hi u
  change win0_3.index u 1 * 256 + 1 * (x 1).val = (k : ℕ) at hx1
  omega

/-- A column block's rows are written back once. -/
theorem disjoint4 : ∀ t t' : Fin cfg0.N, (cfg0.win 4).flush t = true → (cfg0.win 4).flush t' = true → t ≠ t' →
    Disjoint ((cfg0.win 4).blk t).view.set ((cfg0.win 4).blk t').view.set := fun t t' hf hf' hne =>
  (cfg0.win 4).disjoint_blk fun h => hne
    ((by decide +kernel : ∀ t t' : Fin grid0.N, t.val % 2 = 1 → t'.val % 2 = 1 → win0_4.index t = win0_4.index t' → t = t') t t'
      ((flush0_4 t).mp hf) ((flush0_4 t').mp hf') h)

/-- The rows of the taps' and bias's gradients, entry by entry. -/
theorem array4 (k : Fin 8) (q : Fin 256) : (show FVec Ideal S8x1024 .f32 from (dats m 0 c).arrAt 4 cfg0.N) (ix2 k (col i q)) = ∑ s, part k (xs m c s (col i q)) (gs m c s (col i q)) := by
  have e := congrFun ((dats m 0 c).read_blk_arrAt_eq_flushed 4 disjoint4 cfg0.N (point i 1) (point i 1).isLt ((flush0_4 _).mpr (by show ((i : ℕ) * 2 + 1) % 2 = 1; omega))) (ix2 k q)
  rw [View.read_apply, Value.flushed4] at e
  have t := second m c i k q
  rw [zero_add, ← Fin.sum_univ_two (fun s => part k (xs m c s (col i q)) (gs m c s (col i q)))] at t
  refine Eq.trans ?_ t
  refine Eq.trans ?_ e
  show (dats m 0 c).arrAt 4 cfg0.N _ = (dats m 0 c).arrAt 4 cfg0.N _
  refine congrArg ((dats m 0 c).arrAt 4 cfg0.N) (funext fun a => Fin.ext ?_)
  match a with
  | ⟨0, _⟩ => show (k : ℕ) = win0_4.index (point i 1) 0 * 8 + 1 * (k : ℕ); rw [(index4 i 1).1]; omega
  | ⟨1, _⟩ => show (i : ℕ) * 256 + (q : ℕ) = win0_4.index (point i 1) 1 * 256 + 1 * (q : ℕ); rw [(index4 i 1).2]; omega

/-- The reference's padded sequence, from offset `k`. -/
theorem ref_padded (x0 : FVec Ideal S4096x2048 .f32) (s : Fin 2) (p : Fin 2051) (q : Fin 1024) : val_main_v5 (F := Ideal) x0 (ix3 s p q) = padded (fun r => x0 (ix2 (row s r) (high q))) p := by
  unfold val_main_v5 val_main_v3 val_main_v2 val_main_v1 val_main_v4 val_main_cst val_main_cst_0
  pointwise
  unfold padded
  by_cases h : 2 ≤ (p : ℕ) ∧ (p : ℕ) < 2050
  · rw [dif_pos h, dif_neg (by omega), dif_pos (by omega)]
    rfl
  · rw [dif_neg h]
    by_cases h2 : (p : ℕ) < 2
    · rw [dif_pos h2]
    · rw [dif_neg h2, dif_neg (by omega)]

/-- The reference's gradient of tap 0. -/
theorem ref_tap0 (x0 : FVec Ideal S4096x2048 .f32) (x3 : FVec Ideal S4096x1024 .f32) (q : Fin 1024) : val_main_v83 (F := Ideal) x0 x3 (ix1 q) = ∑ s : Fin 2, part 0 (fun r => x0 (ix2 (row s r) (high q))) (fun r => x3 (ix2 (row s r) q)) := by
  unfold val_main_v83 val_main_v82 val_main_v81 val_main_cst_18 val_main_cst_19 val_main_v80 val_main_v10 val_main_v42
  pointwise
  rw [sum_first_two]
  pointwise
  rw [sum_first_two]
  pointwise
  simp only [Fin.sum_univ_one, zero_add]
  refine Finset.sum_congr rfl fun s _ => ?_
  unfold part
  rw [if_pos (by decide)]
  refine Finset.sum_congr rfl fun p _ => ?_
  refine congrArg (x3 (ix2 (row s p) q) * ·) ((ref_padded x0 s _ q).trans (congrArg (padded _) ?_))
  exact rfl

/-- The reference's gradient of tap 1. -/
theorem ref_tap1 (x0 : FVec Ideal S4096x2048 .f32) (x3 : FVec Ideal S4096x1024 .f32) (q : Fin 1024) : val_main_v72 (F := Ideal) x0 x3 (ix1 q) = ∑ s : Fin 2, part 1 (fun r => x0 (ix2 (row s r) (high q))) (fun r => x3 (ix2 (row s r) q)) := by
  unfold val_main_v72 val_main_v71 val_main_v70 val_main_cst_14 val_main_cst_15 val_main_v69 val_main_v18 val_main_v42
  pointwise
  rw [sum_first_two]
  pointwise
  rw [sum_first_two]
  pointwise
  simp only [Fin.sum_univ_one, zero_add]
  refine Finset.sum_congr rfl fun s _ => ?_
  unfold part
  rw [if_pos (by decide)]
  refine Finset.sum_congr rfl fun p _ => ?_
  refine congrArg (x3 (ix2 (row s p) q) * ·) ((ref_padded x0 s _ q).trans (congrArg (padded _) ?_))
  exact Nat.add_comm _ _

/-- The reference's gradient of tap 2. -/
theorem ref_tap2 (x0 : FVec Ideal S4096x2048 .f32) (x3 : FVec Ideal S4096x1024 .f32) (q : Fin 1024) : val_main_v61 (F := Ideal) x0 x3 (ix1 q) = ∑ s : Fin 2, part 2 (fun r => x0 (ix2 (row s r) (high q))) (fun r => x3 (ix2 (row s r) q)) := by
  unfold val_main_v61 val_main_v60 val_main_v59 val_main_cst_10 val_main_cst_11 val_main_v58 val_main_v25 val_main_v42
  pointwise
  rw [sum_first_two]
  pointwise
  rw [sum_first_two]
  pointwise
  simp only [Fin.sum_univ_one, zero_add]
  refine Finset.sum_congr rfl fun s _ => ?_
  unfold part
  rw [if_pos (by decide)]
  refine Finset.sum_congr rfl fun p _ => ?_
  refine congrArg (x3 (ix2 (row s p) q) * ·) ((ref_padded x0 s _ q).trans (congrArg (padded _) ?_))
  exact Nat.add_comm _ _

/-- The reference's gradient of tap 3. -/
theorem ref_tap3 (x0 : FVec Ideal S4096x2048 .f32) (x3 : FVec Ideal S4096x1024 .f32) (q : Fin 1024) : val_main_v52 (F := Ideal) x0 x3 (ix1 q) = ∑ s : Fin 2, part 3 (fun r => x0 (ix2 (row s r) (high q))) (fun r => x3 (ix2 (row s r) q)) := by
  unfold val_main_v52 val_main_v51 val_main_v50 val_main_cst_6 val_main_cst_7 val_main_v49 val_main_v32 val_main_v42
  pointwise
  rw [sum_first_two]
  pointwise
  rw [sum_first_two]
  pointwise
  simp only [Fin.sum_univ_one, zero_add]
  refine Finset.sum_congr rfl fun s _ => ?_
  unfold part
  rw [if_pos (by decide)]
  refine Finset.sum_congr rfl fun p _ => ?_
  refine congrArg (x3 (ix2 (row s p) q) * ·) ((ref_padded x0 s _ q).trans (congrArg (padded _) ?_))
  exact Nat.add_comm _ _

/-- The reference's gradient of the bias. -/
theorem ref_bias (x3 : FVec Ideal S4096x1024 .f32) (r : Fin 1) (q : Fin 1024) (f : Fin 2 → Fin 2048 → EReal) : val_main_v46 (F := Ideal) x3 (ix2 r q) = ∑ s : Fin 2, part 4 (f s) (fun r => x3 (ix2 (row s r) q)) := by
  unfold val_main_v46 val_main_v45 val_main_v44 val_main_v43 val_main_v42 val_main_cst_4 val_main_cst_5
  pointwise
  rw [sum_first_two]
  pointwise
  rw [sum_first_two]
  pointwise
  simp only [Fin.sum_univ_one, zero_add]
  refine Finset.sum_congr rfl fun s _ => ?_
  unfold part
  rw [if_neg (by decide), if_pos rfl]
  rfl

/-- Tap 0 against the output's gradient, 0 places on. -/
theorem ref_back0 (x1 : FVec Ideal S4x1x1024 .f32) (x3 : FVec Ideal S4096x1024 .f32) (s : Fin 2) (p : Fin 2048) (n : Fin 2051) (hn : (n : ℕ) = p + 2) (q : Fin 1024) : val_main_v84 (F := Ideal) x1 x3 (ix3 s n q) = x1 (ix3 0 0 q) * padded (fun r => x3 (ix2 (row s r) q)) (p + 4) := by
  unfold val_main_v84 val_main_v79 val_main_v78 val_main_v11 val_main_v9 val_main_v8 val_main_v0 val_main_v42 val_main_cst_20
  pointwise
  by_cases h : (n : ℕ) < 2048
  · rw [dif_pos h, padded_in (fun r => x3 (ix2 (row s r) q)) ⟨(n : ℕ), by omega⟩ (by show (p : ℕ) + 4 = (n : ℕ) + 2; omega)]
    rfl
  · rw [dif_neg h, padded_out _ (by omega), mul_zero]

/-- Tap 1 against the output's gradient, 1 places on. -/
theorem ref_back1 (x1 : FVec Ideal S4x1x1024 .f32) (x3 : FVec Ideal S4096x1024 .f32) (s : Fin 2) (p : Fin 2048) (n : Fin 2051) (hn : (n : ℕ) = p + 2) (q : Fin 1024) : val_main_v73 (F := Ideal) x1 x3 (ix3 s n q) = x1 (ix3 1 0 q) * padded (fun r => x3 (ix2 (row s r) q)) (p + 3) := by
  unfold val_main_v73 val_main_v68 val_main_v67 val_main_v19 val_main_v17 val_main_v16 val_main_v0 val_main_v42 val_main_cst_16
  pointwise
  by_cases h : 1 ≤ (n : ℕ) ∧ (n : ℕ) - 1 < 2048
  · rw [dif_pos h, padded_in (fun r => x3 (ix2 (row s r) q)) ⟨(n : ℕ) - 1, by omega⟩ (by show (p : ℕ) + 3 = (n : ℕ) - 1 + 2; omega)]
    rfl
  · rw [dif_neg h, padded_out _ (by omega), mul_zero]

/-- Tap 2 against the output's gradient, 2 places on. -/
theorem ref_back2 (x1 : FVec Ideal S4x1x1024 .f32) (x3 : FVec Ideal S4096x1024 .f32) (s : Fin 2) (p : Fin 2048) (n : Fin 2051) (hn : (n : ℕ) = p + 2) (q : Fin 1024) : val_main_v62 (F := Ideal) x1 x3 (ix3 s n q) = x1 (ix3 2 0 q) * padded (fun r => x3 (ix2 (row s r) q)) (p + 2) := by
  unfold val_main_v62 val_main_v57 val_main_v56 val_main_v26 val_main_v24 val_main_v23 val_main_v0 val_main_v42 val_main_cst_12
  pointwise
  by_cases h : 2 ≤ (n : ℕ) ∧ (n : ℕ) - 2 < 2048
  · rw [dif_pos h, padded_in (fun r => x3 (ix2 (row s r) q)) ⟨(n : ℕ) - 2, by omega⟩ (by show (p : ℕ) + 2 = (n : ℕ) - 2 + 2; omega)]
    rfl
  · rw [dif_neg h, padded_out _ (by omega), mul_zero]

/-- Tap 3 against the output's gradient, 3 places on. -/
theorem ref_back3 (x1 : FVec Ideal S4x1x1024 .f32) (x3 : FVec Ideal S4096x1024 .f32) (s : Fin 2) (p : Fin 2048) (n : Fin 2051) (hn : (n : ℕ) = p + 2) (q : Fin 1024) : val_main_v53 (F := Ideal) x1 x3 (ix3 s n q) = x1 (ix3 3 0 q) * padded (fun r => x3 (ix2 (row s r) q)) (p + 1) := by
  unfold val_main_v53 val_main_v48 val_main_v47 val_main_v33 val_main_v31 val_main_v30 val_main_v0 val_main_v42 val_main_cst_8
  pointwise
  by_cases h : 3 ≤ (n : ℕ) ∧ (n : ℕ) - 3 < 2048
  · rw [dif_pos h, padded_in (fun r => x3 (ix2 (row s r) q)) ⟨(n : ℕ) - 3, by omega⟩ (by show (p : ℕ) + 1 = (n : ℕ) - 3 + 2; omega)]
    rfl
  · rw [dif_neg h, padded_out _ (by omega), mul_zero]

/-- The reference's gradient of the input, in the sequences. -/
theorem ref_dx (x1 : FVec Ideal S4x1x1024 .f32) (x3 : FVec Ideal S4096x1024 .f32) (s : Fin 2) (p : Fin 2048) (q : Fin 1024) : val_main_v90 (F := Ideal) x1 x3 (ix3 s p q) = back (fun l => x1 (ix3 l 0 q)) (fun r => x3 (ix2 (row s r) q)) p := by
  unfold val_main_v90 val_main_v85 val_main_v74 val_main_v63
  pointwise
  have hn : (2 + (p : ℕ)) = p + 2 := Nat.add_comm _ _
  rw [ref_back0 x1 x3 s p _ hn q, ref_back1 x1 x3 s p _ hn q, ref_back2 x1 x3 s p _ hn q, ref_back3 x1 x3 s p _ hn q, padded_in _ p rfl]
  unfold back
  abel

/-- The reference's gradient of the input, in the right half. -/
theorem reference3 (x1 : FVec Ideal S4x1x1024 .f32) (x3 : FVec Ideal S4096x1024 .f32) (x4 : FVec Ideal S4096x2048 .f32) (s : Fin 2) (p : Fin 2048) (q : Fin 1024) : val_main_v97 (F := Ideal) x1 x3 x4 (ix2 (row s p) (high q)) = back (fun l => x1 (ix3 l 0 q)) (fun r => x3 (ix2 (row s r) q)) p := by
  refine Eq.trans ?_ (ref_dx x1 x3 s p q)
  unfold val_main_v97 val_main_v96 val_main_v95 val_main_v93 val_main_v92
  pointwise
  have hl := p.2
  rw [dif_neg (by show ¬ 1024 + (q : ℕ) < 1024; omega), dif_pos (by show 1024 + (q : ℕ) - 1024 < 1024; omega)]
  have e0 : (⟨(row s p : ℕ) / 2048, by omega⟩ : Fin 2) = s := Fin.ext (by show ((s : ℕ) * 2048 + (p : ℕ)) / 2048 = s; omega)
  have e1 : (⟨(row s p : ℕ) % 2048, by omega⟩ : Fin 2048) = p := Fin.ext (by show ((s : ℕ) * 2048 + (p : ℕ)) % 2048 = p; omega)
  have e2 : (⟨(high q : ℕ) - 1024, by omega⟩ : Fin 1024) = q := Fin.ext (by show 1024 + (q : ℕ) - 1024 = q; omega)
  rw [e0, e1, e2]

/-- Its left half is the gradient that came. -/
theorem reference3_left (x1 : FVec Ideal S4x1x1024 .f32) (x3 : FVec Ideal S4096x1024 .f32) (x4 : FVec Ideal S4096x2048 .f32) (t : Fin 4096) (q : Fin 1024) : val_main_v97 (F := Ideal) x1 x3 x4 (ix2 t (low q)) = x4 (ix2 t (low q)) := by
  unfold val_main_v97 val_main_v96 val_main_v94
  pointwise
  exact dif_pos q.2

/-- The reference's rows. -/
theorem reference4 (x0 : FVec Ideal S4096x2048 .f32) (x3 : FVec Ideal S4096x1024 .f32) (k : Fin 8) (q : Fin 1024) : val_main_v99 (F := Ideal) x0 x3 (ix2 k q) = ∑ s : Fin 2, part k (fun r => x0 (ix2 (row s r) (high q))) (fun r => x3 (ix2 (row s r) q)) := by
  unfold val_main_v99
  pointwise
  match k with
  | ⟨0, _⟩ =>
    rw [dif_pos (by show 0 < 4; omega)]
    unfold val_main_v88 val_main_v87 val_main_v86 val_main_cst_21 val_main_v77 val_main_v76 val_main_v75 val_main_cst_17 val_main_v66 val_main_v65 val_main_v64 val_main_cst_13 val_main_v55 val_main_v54 val_main_cst_9
    pointwise
    exact ref_tap0 x0 x3 q
  | ⟨1, _⟩ =>
    rw [dif_pos (by show 1 < 4; omega)]
    unfold val_main_v88 val_main_v87 val_main_v86 val_main_cst_21 val_main_v77 val_main_v76 val_main_v75 val_main_cst_17 val_main_v66 val_main_v65 val_main_v64 val_main_cst_13 val_main_v55 val_main_v54 val_main_cst_9
    pointwise
    exact ref_tap1 x0 x3 q
  | ⟨2, _⟩ =>
    rw [dif_pos (by show 2 < 4; omega)]
    unfold val_main_v88 val_main_v87 val_main_v86 val_main_cst_21 val_main_v77 val_main_v76 val_main_v75 val_main_cst_17 val_main_v66 val_main_v65 val_main_v64 val_main_cst_13 val_main_v55 val_main_v54 val_main_cst_9
    pointwise
    exact ref_tap2 x0 x3 q
  | ⟨3, _⟩ =>
    rw [dif_pos (by show 3 < 4; omega)]
    unfold val_main_v88 val_main_v87 val_main_v86 val_main_cst_21 val_main_v77 val_main_v76 val_main_v75 val_main_cst_17 val_main_v66 val_main_v65 val_main_v64 val_main_cst_13 val_main_v55 val_main_v54 val_main_cst_9
    pointwise
    exact ref_tap3 x0 x3 q
  | ⟨4, _⟩ =>
    rw [dif_neg (by show ¬ 4 < 4; omega), dif_pos (by show 4 - 4 < 1; omega)]
    exact ref_bias x3 _ q _
  | ⟨k + 5, hk⟩ =>
    rw [dif_neg (by show ¬ k + 5 < 4; omega), dif_neg (by show ¬ k + 5 - 4 < 1; omega)]
    unfold part
    simp only [if_neg (show ¬ k + 5 < 4 by omega), if_neg (show ¬ k + 5 = 4 by omega), Finset.sum_const_zero]
    unfold val_main_v98 val_main_cst_23
    pointwise

/-- The reference's result is the kernel's result array. -/
theorem agree3 (x1 : FVec Ideal S4x1x1024 .f32) (x3 : FVec Ideal S4096x1024 .f32) (x4 : FVec Ideal S4096x2048 .f32) (h1 : x1 = arg1 m c) (h3 : x3 = arg3 m c) (h4 : x4 = arg4 m c) :
    val_main_v97 (F := Ideal) x1 x3 x4 = (show FVec Ideal S4096x2048 .bf16 from (dats m 0 c).arrAt 3 cfg0.N) := by
  funext ij
  rw [← ix2_eta ij]
  subst h1 h3 h4
  obtain ⟨q, hq⟩ | ⟨l, hl⟩ := half_surj (ij 1)
  · rw [← hq]
    exact (reference3_left _ _ _ (ij 0) q).trans (kept3 m c (ij 0) q).symm
  · obtain ⟨s, p, hp⟩ := row_surj (ij 0)
    obtain ⟨i, q, hq⟩ := col_surj l
    subst hq
    rw [← hl, ← hp]
    exact (reference3 _ _ _ s p (col i q)).trans (array3 m c i s p q).symm

/-- … and so are the rows. -/
theorem agree4 (x0 : FVec Ideal S4096x2048 .f32) (x3 : FVec Ideal S4096x1024 .f32) (h0 : x0 = arg0 m c) (h3 : x3 = arg3 m c) :
    val_main_v99 (F := Ideal) x0 x3 = (show FVec Ideal S8x1024 .f32 from (dats m 0 c).arrAt 4 cfg0.N) := by
  funext ij
  rw [← ix2_eta ij]
  subst h0 h3
  obtain ⟨i, q, hq⟩ := col_surj (ij 1)
  rw [← hq]
  exact (reference4 _ _ (ij 0) (col i q)).trans (array4 m c i (ij 0) q).symm

end Cert.Kernel23Ideal.Tile

end

end
-- ==== Proof.GatedValue.lean ====
/- The run of the gated projection's gradient (`Kernel19`) with its results named: the first is a result array of the call, the second the
   left half of the other. -/
module

public import proofs.«01_k».proof.Proof.Gen.Kernel19Ideal.Frame
public import Idealize.ShloMosaic.Lib.Pipeline.Value
public import Idealize.ShloMosaic.Lib.Pointwise
public import Idealize.ShloMosaic.Lib.Claim

@[expose] public section

noncomputable section

namespace Cert.Kernel19Ideal.Value

open Cert.Kernel19Ideal Cert.Kernel19Ideal.Gen Idealize.ShloMosaic Idealize.ShloMosaic.TcCoe Idealize.SL.Sem

variable (m : (ℓ : Loc nD τ sig) → Buf (Elt Ideal) ℓ) (ρ : Dev nD → PrngReg)

/-- What a point writes to result array 0: the body's result from the point's input blocks. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- Two points' blocks of it do not meet. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne
    ((by decide +kernel : ∀ t t' : Fin grid0.N, win0_5.index t = win0_5.index t' → t = t') t t' h)

/-- Every point writes its block back. -/
theorem flush5 : ∀ t : Fin cfg0.N, (cfg0.win 5).flush t = true := by decide +kernel

/-- So a block of the final array is what its point wrote. -/
theorem blocks5 (c : Dev nD) (t : Fin cfg0.N) (hf : (cfg0.win 5).flush t = true) :
    ((cfg0.win 5).blk t).view.read (Elt Ideal) ((dats m 0 c).arrAt 5 cfg0.N) = (dats m 0 c).flushed 5 t :=
  (dats m 0 c).read_blk_arrAt_eq_flushed 5 disjoint5 cfg0.N t t.isLt hf

/-- What a point writes to result array 1: the body's result from the point's input blocks. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- Two points' blocks of it do not meet. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne
    ((by decide +kernel : ∀ t t' : Fin grid0.N, win0_6.index t = win0_6.index t' → t = t') t t' h)

/-- Every point writes its block back. -/
theorem flush6 : ∀ t : Fin cfg0.N, (cfg0.win 6).flush t = true := by decide +kernel

/-- So a block of the final array is what its point wrote. -/
theorem blocks6 (c : Dev nD) (t : Fin cfg0.N) (hf : (cfg0.win 6).flush t = true) :
    ((cfg0.win 6).blk t).view.read (Elt Ideal) ((dats m 0 c).arrAt 6 cfg0.N) = (dats m 0 c).flushed 6 t :=
  (dats m 0 c).read_blk_arrAt_eq_flushed 6 disjoint6 cfg0.N t t.isLt hf

/-- The left half of the second array, which the host cuts off after the call. -/
def left (x : FVec Ideal S4096x2048 .bf16) : FVec Ideal S4096x1024 .bf16 := extractStridedSlice S4096x1024 ![0, 0] x slices_S4096x2048_S4096x1024_0_0

/-- The buffer of the second result, after the host's line. -/
theorem cut_off (c : Dev nD) : Pipeline.afterTail₀ cfgs (dats m) 0 (V0 m) [hostOps1] c main_v3 = left ((dats m 0 c).arrAt 6 cfg0.N) := by
  unfold Pipeline.afterTail₀
  have e := Pipeline.withArrays_arr spec0 launch0.win.arr_inj c (V0 m c) (fun w => (dats m 0 c).arrAt w cfg0.N) 6
  refine Eq.trans ?_ (congrArg left e)
  rfl

/-- The run, its results named. -/
theorem run_blocks : θ_run defs (onTc (τ := τ) (main (F := Ideal))) ⟨m, fun _ => 0, ρ⟩ fun r => ∀ c : Dev nD,
      r.2.mem ((c : Thread nD τ).loc main_v2_0) = (dats m 0 c).arrAt 5 cfg0.N
      ∧ r.2.mem ((c : Thread nD τ).loc main_v3) = left ((dats m 0 c).arrAt 6 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5,
      ((h c).2 main_v3 (Pipeline.mem_restRefs_of main_v3 (by decide) (by decide))).trans (cut_off m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Kernel19Ideal.Value

end

end
-- ==== Proof.GatedMath.lean ====
/- The gate of the recurrent block, `x · ½(1 + tanh(c (x + k x³)))`, its slope, and the two ways to multiply by the slope: the whole slope
   at once, and its terms one by one. -/
module

public import proofs.«01_k».proof.Proof.Consts
public import Idealize.ShloMosaic.Lib.Pointwise
public import Idealize.ShloMosaic.PureOps.IdealRules

@[expose] public section

noncomputable section

namespace Cert.Gated

open Idealize.ShloMosaic

/-- The constant under the hyperbolic tangent, the number next to `√(2/π)` that the word holds. -/
def c : ℝ := 13386282 / 16777216
/-- The constant of the cube, 0.044715. -/
def k : ℝ := 8943 / 200000
/-- Three times that constant. -/
def k3 : ℝ := 26829 / 200000

/-- The word of that constant denotes it. -/
theorem ofBits_c : Ideal.ofBits .f32 0x3F4C422A#32 = (c : EReal) := by
  simp [Ideal.ofBits, Ideal.ieee, -EReal.coe_mul, c]; norm_num
/-- The word of `0.5` denotes a half. -/
theorem ofBits_half : Ideal.ofBits .f32 0x3F000000#32 = ((1 / 2 : ℝ) : EReal) := by
  simp [Ideal.ofBits, Ideal.ieee, -EReal.coe_mul]; norm_num
/-- The word of `3.0` denotes three. -/
theorem ofBits_three : Ideal.ofBits .f32 0x40400000#32 = ((3 : ℝ) : EReal) := by
  simp [Ideal.ofBits, Ideal.ieee, -EReal.coe_mul]; norm_num
/-- The word of `44715` denotes it … -/
theorem ofBits_num : Ideal.ofBits .f32 0x472EAB00#32 = ((44715 : ℝ) : EReal) := by
  simp [Ideal.ofBits, Ideal.ieee, -EReal.coe_mul]; norm_num
/-- … and so does that of a million. -/
theorem ofBits_den : Ideal.ofBits .f32 0x49742400#32 = ((1000000 : ℝ) : EReal) := by
  simp [Ideal.ofBits, Ideal.ieee, -EReal.coe_mul]; norm_num
/-- Their quotient is the constant of the cube. -/
theorem quotient : Ideal.div (Ideal.ofBits .f32 0x472EAB00#32) (Ideal.ofBits .f32 0x49742400#32) = (k : EReal) := by
  rw [ofBits_num, ofBits_den, Ideal.div_coe (by norm_num), ← EReal.coe_mul]
  refine congrArg _ ?_
  norm_num [k]

/-- The hyperbolic tangent in the gate. -/
def th (x : EReal) : EReal := Ideal.tanh (c * (x + k * (x * x * x)))
/-- The gate. -/
def gate (x : EReal) : EReal := x * (((1 / 2 : ℝ) : EReal) * (1 + th x))
/-- Its slope, as the kernel writes it. -/
def slope (x : EReal) : EReal := ((1 / 2 : ℝ) : EReal) * (1 + th x) + ((1 / 2 : ℝ) : EReal) * x * (1 - th x * th x) * (c * (1 + k3 * x * x))
/-- A gradient `d` times the slope, as the reference's derivative writes it. -/
def derivative (d x : EReal) : EReal :=
  d * (((1 / 2 : ℝ) : EReal) * (1 + th x)) + c * (((1 / 2 : ℝ) : EReal) * (x * d) * ((1 + th x) * (1 - th x)))
    + k * (c * (((1 / 2 : ℝ) : EReal) * (x * d) * ((1 + th x) * (1 - th x)))) * (((3 : ℝ) : EReal) * (x * x))

theorem c_pos : 0 < c := by norm_num [c]
theorem k_pos : 0 < k := by norm_num [k]

/-- At plus infinity the tangent is one … -/
theorem th_top : th ⊤ = 1 := by
  unfold th
  rw [EReal.top_mul_top, EReal.top_mul_top, EReal.coe_mul_top_of_pos k_pos, EReal.top_add_top, EReal.coe_mul_top_of_pos c_pos, Ideal.tanh_top]
/-- … and at minus infinity it is minus one. -/
theorem th_bot : th ⊥ = -1 := by
  unfold th
  rw [EReal.bot_mul_bot, EReal.top_mul_bot, EReal.coe_mul_bot_of_pos k_pos, EReal.bot_add, EReal.coe_mul_bot_of_pos c_pos, Ideal.tanh_bot]
/-- At a real number it is real. -/
theorem th_coe (x : ℝ) : th x = (Real.tanh (c * (x + k * (x * x * x))) : EReal) := by
  unfold th
  simp only [← EReal.coe_mul, ← EReal.coe_add, Ideal.tanh_coe]

/-- One minus one, and one more than minus one, are nothing. -/
theorem one_sub_one : (1 : EReal) - 1 = 0 := by rw [← EReal.coe_one, ← EReal.coe_sub, sub_self, EReal.coe_zero]
theorem one_add_neg_one : (1 : EReal) + -1 = 0 := one_sub_one

/-- For a real gradient the two agree, at every gate. -/
theorem derivative_eq (d : ℝ) (x : EReal) : derivative d x = d * slope x := by
  induction x with
  | bot =>
    unfold derivative slope
    rw [th_bot]
    simp only [one_add_neg_one, neg_mul_neg, one_mul, one_sub_one, mul_zero, zero_mul, add_zero]
  | top =>
    unfold derivative slope
    rw [th_top]
    simp only [one_mul, one_sub_one, mul_zero, zero_mul, add_zero]
  | coe x =>
    unfold derivative slope
    rw [th_coe]
    generalize Real.tanh (c * (x + k * (x * x * x))) = t
    simp only [← EReal.coe_one, ← EReal.coe_mul, ← EReal.coe_add, ← EReal.coe_sub]
    refine congrArg _ ?_
    have h3 : k3 = 3 * k := by norm_num [k, k3]
    rw [h3]
    ring

end Cert.Gated

end

end
-- ==== Proof.GatedGrad.lean ====
/- The gradient of the gated output projection (`Kernel19`): the output gradient against the matrix, times the gate for the gradient of the
   recurrence's output, times that output and the slope of the gate for the gradient of the gate, as in the reference's derivative. -/
module

public import proofs.«01_k».proof.Proof.GatedValue
public import proofs.«01_k».proof.Proof.Gen.Reference19Ideal.Read
public import Idealize.ShloMosaic.Lib.Pointwise
public import Idealize.ShloMosaic.Lib.Claim
public import proofs.«01_k».proof.Proof.GatedMath
public import proofs.«01_k».proof.Proof.Finite
public import proofs.«01_k».proof.Proof.Gen.Pre_finite19
public import proofs.«01_k».proof.Proof.Blocks

@[expose] public section

noncomputable section

namespace Cert.Kernel19Ideal.Tile

open Cert.Reference19Ideal.Read Cert.Blocks
open Cert.Kernel19Ideal Cert.Kernel19Ideal.Gen
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 8) (j : Fin 1) : Fin cfg0.N := ⟨i * 1 + j, by show _ < 8; omega⟩
/-- Row `r` of row block `i`: the rows fall into blocks … -/
def row (i : Fin 8) (r : Fin 512) : Fin 4096 := ⟨i * 512 + r, by omega⟩
/-- … and each lies in some block. -/
theorem row_surj (r : Fin 4096) : ∃ i s, row i s = r :=
  ⟨⟨r / 512, by omega⟩, ⟨r % 512, by omega⟩, Fin.ext (by show (r : ℕ) / 512 * 512 + r % 512 = r; omega)⟩

/-- Column `k` of the left half. -/
def low (k : Fin 1024) : Fin 2048 := ⟨k, by omega⟩

/-- The output gradient's block at a point: the row panel. -/
theorem index0 : ∀ i j, win0_0.index (point i j) 0 = (i : ℕ) ∧ win0_0.index (point i j) 1 = 0 := by decide +kernel
/-- The matrix's block: the whole. -/
theorem index1 : ∀ i j, win0_1.index (point i j) 0 = 0 ∧ win0_1.index (point i j) 1 = 0 := by decide +kernel
/-- The forward recurrence's block: the row panel. -/
theorem index2 : ∀ i j, win0_2.index (point i j) 0 = (i : ℕ) ∧ win0_2.index (point i j) 1 = 0 := by decide +kernel
/-- The backward recurrence's block: the row panel. -/
theorem index3 : ∀ i j, win0_3.index (point i j) 0 = (i : ℕ) ∧ win0_3.index (point i j) 1 = 0 := by decide +kernel
/-- The gate's block: the row panel of the left half. -/
theorem index4 : ∀ i j, win0_4.index (point i j) 0 = (i : ℕ) ∧ win0_4.index (point i j) 1 = 0 := by decide +kernel
/-- The first result's block: the row panel. -/
theorem index5 : ∀ i j, win0_5.index (point i j) 0 = (i : ℕ) ∧ win0_5.index (point i j) 1 = 0 := by decide +kernel
/-- The second result's block: the row panel of the left half. -/
theorem index6 : ∀ i j, win0_6.index (point i j) 0 = (i : ℕ) ∧ win0_6.index (point i j) 1 = 0 := by decide +kernel

variable (m : (ℓ : Loc nD τ sig) → Buf (Elt Ideal) ℓ) (c : Dev nD)

/-- The two recurrences' outputs, the projected input, the matrix and the output gradient, as the device holds them. -/
abbrev arg0 : FVec Ideal S4096x1024 .f32 := m ((c : Thread nD τ).loc main_arg0)
abbrev arg1 : FVec Ideal S4096x1024 .f32 := m ((c : Thread nD τ).loc main_arg1)
abbrev arg2 : FVec Ideal S4096x2048 .f32 := m ((c : Thread nD τ).loc main_arg2)
abbrev arg3 : FVec Ideal S1024x1024 .f32 := m ((c : Thread nD τ).loc main_arg3)
abbrev arg4 : FVec Ideal S4096x1024 .f32 := m ((c : Thread nD τ).loc main_arg4)

/-- The host narrows the output gradient … -/
theorem entry0 : @Eq (FVec Ideal S4096x1024 .bf16) (V m c main_v0) (truncf .bf16 (arg4 m c) bitsLt_bf16_f32) := by
  entry_read
  rfl
/-- … and the matrix. -/
theorem entry1 : @Eq (FVec Ideal S1024x1024 .bf16) (V m c main_v1) (truncf .bf16 (arg3 m c) bitsLt_bf16_f32) := by
  entry_read
  rfl

variable (i : Fin 8) (j : Fin 1)

/-- The output gradient's block holds its rows. -/
theorem block0 (t : Fin 512) (k : Fin 1024) : (show FVec Ideal S512x1024 .bf16 from iblk m c 0 (point i j)) (ix2 t k) = arg4 m c (ix2 (row i t) k) := by
  refine Eq.trans (?_ : _ = V m c main_v0 (ix2 (row i t) k)) (congrFun (entry0 m c) (ix2 (row i t) k))
  exact congrArg (V m c main_v0) (ix2_of (at_row 512 t (index0 i j).1) (at_zero 1024 k (index0 i j).2))

/-- The matrix's block holds it whole. -/
theorem block1 (t : Fin 1024) (k : Fin 1024) : (show FVec Ideal S1024x1024 .bf16 from iblk m c 1 (point i j)) (ix2 t k) = arg3 m c (ix2 t k) := by
  refine Eq.trans (?_ : _ = V m c main_v1 (ix2 t k)) (congrFun (entry1 m c) (ix2 t k))
  exact congrArg (V m c main_v1) (ix2_of (at_zero 1024 t (index1 i j).1) (at_zero 1024 k (index1 i j).2))

/-- The forward recurrence's block holds its rows. -/
theorem block2 (t : Fin 512) (k : Fin 1024) : (show FVec Ideal S512x1024 .f32 from iblk m c 2 (point i j)) (ix2 t k) = arg0 m c (ix2 (row i t) k) := by
  refine Eq.trans (?_ : _ = V m c main_arg0 (ix2 (row i t) k)) (congrFun (V_main_arg0 m c) (ix2 (row i t) k))
  exact congrArg (V m c main_arg0) (ix2_of (at_row 512 t (index2 i j).1) (at_zero 1024 k (index2 i j).2))

/-- The backward recurrence's block holds its rows. -/
theorem block3 (t : Fin 512) (k : Fin 1024) : (show FVec Ideal S512x1024 .f32 from iblk m c 3 (point i j)) (ix2 t k) = arg1 m c (ix2 (row i t) k) := by
  refine Eq.trans (?_ : _ = V m c main_arg1 (ix2 (row i t) k)) (congrFun (V_main_arg1 m c) (ix2 (row i t) k))
  exact congrArg (V m c main_arg1) (ix2_of (at_row 512 t (index3 i j).1) (at_zero 1024 k (index3 i j).2))

/-- The gate's block holds the left half of its rows. -/
theorem block4 (t : Fin 512) (k : Fin 1024) : (show FVec Ideal S512x1024 .f32 from iblk m c 4 (point i j)) (ix2 t k) = arg2 m c (ix2 (row i t) (low k)) := by
  refine Eq.trans (?_ : _ = V m c main_arg2 (ix2 (row i t) (low k))) (congrFun (V_main_arg2 m c) (ix2 (row i t) (low k)))
  exact congrArg (V m c main_arg2) (ix2_of (at_row 512 t (index4 i j).1) (at_zero 1024 k (index4 i j).2))

open Cert.Gated

/-- The kernel's named constant of the cube … -/
theorem named_cubic : Named.named (F := Ideal) κ "gelu_cubic" (φ := .f32) 0x3D372713#32 = (k : EReal) :=
  IdealRules.named_const.ideal_named_scalar _ _ _ _ rfl
/-- … and three times it. -/
theorem named_cubic3 : Named.named (F := Ideal) κ "gelu_cubic3" (φ := .f32) 0x3E095D4F#32 = (k3 : EReal) :=
  IdealRules.named_const.ideal_named_scalar _ _ _ _ rfl

/-- The kernel's hyperbolic tangent. -/
theorem tanh_apply {x4 : FVec Ideal S512x1024 .f32} (r : Fin 512) (s : Fin 1024) : k0_pay3 (F := Ideal) x4 (ix2 r s) = th (x4 (ix2 r s)) := by
  unfold k0_pay3
  pointwise
  rw [named_cubic, ofBits_c]
  unfold th
  simp only [mul_assoc]

/-- The product over the columns. -/
theorem dot_apply {x0 : FVec Ideal S512x1024 .bf16} {x1 : FVec Ideal S1024x1024 .bf16} (r : Fin 512) (s : Fin 1024) : k0_pay2 (F := Ideal) x0 x1 (ix2 r s) = ∑ k, x0 (ix2 r k) * x1 (ix2 s k) := by
  unfold k0_pay2
  pointwise

/-- One panel of the first result. -/
theorem tile5 {x0 : FVec Ideal S512x1024 .bf16} {x1 : FVec Ideal S1024x1024 .bf16} {x2 x3 x4 : FVec Ideal S512x1024 .f32} {a : Fin 512 → Fin 1024 → EReal} {d : Fin 1024 → Fin 1024 → EReal}
    {hf hb z : Fin 512 → Fin 1024 → EReal} (h0 : ∀ t k, x0 (ix2 t k) = a t k) (h1 : ∀ t k, x1 (ix2 t k) = d t k) (h2 : ∀ t k, x2 (ix2 t k) = hf t k) (h3 : ∀ t k, x3 (ix2 t k) = hb t k)
    (h4 : ∀ t k, x4 (ix2 t k) = z t k) (r : Fin 512) (s : Fin 1024) :
    (show FVec Ideal S512x1024 .f32 from out0_5 (F := Ideal) x0 x1 x2 x3 x4) (ix2 r s) = (∑ k, a r k * d s k) * gate (z r s) := by
  show out0_5 (F := Ideal) x0 x1 x2 x3 x4 (ix2 r s) = _
  unfold out0_5
  rw [View.canon_unit_zero (S := S512x1024) hz]
  simp only [View.ld_unit_zero (S := S512x1024) hz, View.ld_unit_zero (S := S1024x1024) hz]
  unfold k0_pay5
  pointwise
  rw [dot_apply, tanh_apply]
  simp only [h0, h1, h4]
  rw [ofBits_half, mul_comm ((1 / 2 : ℝ) : EReal) (z r s), mul_assoc (z r s)]
  rfl

/-- One panel of the second. -/
theorem tile6 {x0 : FVec Ideal S512x1024 .bf16} {x1 : FVec Ideal S1024x1024 .bf16} {x2 x3 x4 : FVec Ideal S512x1024 .f32} {a : Fin 512 → Fin 1024 → EReal} {d : Fin 1024 → Fin 1024 → EReal}
    {hf hb z : Fin 512 → Fin 1024 → EReal} (h0 : ∀ t k, x0 (ix2 t k) = a t k) (h1 : ∀ t k, x1 (ix2 t k) = d t k) (h2 : ∀ t k, x2 (ix2 t k) = hf t k) (h3 : ∀ t k, x3 (ix2 t k) = hb t k)
    (h4 : ∀ t k, x4 (ix2 t k) = z t k) (r : Fin 512) (s : Fin 1024) :
    (show FVec Ideal S512x1024 .bf16 from out0_6 (F := Ideal) x0 x1 x2 x3 x4) (ix2 r s) = (∑ k, a r k * d s k) * (hf r s + hb r s) * slope (z r s) := by
  show out0_6 (F := Ideal) x0 x1 x2 x3 x4 (ix2 r s) = _
  unfold out0_6
  rw [View.canon_unit_zero (S := S512x1024) hz]
  simp only [View.ld_unit_zero (S := S512x1024) hz, View.ld_unit_zero (S := S1024x1024) hz]
  unfold k0_pay1 k0_pay4
  pointwise
  rw [dot_apply, tanh_apply]
  simp only [h0, h1, h2, h3, h4]
  rw [ofBits_half, ofBits_c, named_cubic3]
  rfl

/-- The first result, entry by entry. -/
theorem array5 (j : Fin 1) (r : Fin 512) (s : Fin 1024) : (show FVec Ideal S4096x1024 .f32 from (dats m 0 c).arrAt 5 cfg0.N) (ix2 (row i r) s)
    = (∑ k, arg4 m c (ix2 (row i r) k) * arg3 m c (ix2 s k)) * gate (arg2 m c (ix2 (row i r) (low s))) := by
  have e := congrFun (Value.blocks5 m c (point i j) (Value.flush5 _)) (ix2 r s)
  rw [View.read_apply, Value.flushed5] at e
  have t := tile5 (block0 m c i j) (block1 m c i j) (block2 m c i j) (block3 m c i j) (block4 m c i j) r s
  refine Eq.trans ?_ t
  refine Eq.trans ?_ e
  show (dats m 0 c).arrAt 5 cfg0.N _ = (dats m 0 c).arrAt 5 cfg0.N _
  refine congrArg ((dats m 0 c).arrAt 5 cfg0.N) (funext fun a => Fin.ext ?_)
  match a with
  | ⟨0, _⟩ => show (i : ℕ) * 512 + (r : ℕ) = win0_5.index (point i j) 0 * 512 + 1 * (r : ℕ); rw [(index5 i j).1]; omega
  | ⟨1, _⟩ => show (s : ℕ) = win0_5.index (point i j) 1 * 1024 + 1 * (s : ℕ); rw [(index5 i j).2]; omega

/-- The second, in its left half. -/
theorem array6 (j : Fin 1) (r : Fin 512) (s : Fin 1024) : (show FVec Ideal S4096x2048 .bf16 from (dats m 0 c).arrAt 6 cfg0.N) (ix2 (row i r) (low s))
    = (∑ k, arg4 m c (ix2 (row i r) k) * arg3 m c (ix2 s k)) * (arg0 m c (ix2 (row i r) s) + arg1 m c (ix2 (row i r) s)) * slope (arg2 m c (ix2 (row i r) (low s))) := by
  have e := congrFun (Value.blocks6 m c (point i j) (Value.flush6 _)) (ix2 r s)
  rw [View.read_apply, Value.flushed6] at e
  have t := tile6 (block0 m c i j) (block1 m c i j) (block2 m c i j) (block3 m c i j) (block4 m c i j) r s
  refine Eq.trans ?_ t
  refine Eq.trans ?_ e
  show (dats m 0 c).arrAt 6 cfg0.N _ = (dats m 0 c).arrAt 6 cfg0.N _
  refine congrArg ((dats m 0 c).arrAt 6 cfg0.N) (funext fun a => Fin.ext ?_)
  match a with
  | ⟨0, _⟩ => show (i : ℕ) * 512 + (r : ℕ) = win0_6.index (point i j) 0 * 512 + 1 * (r : ℕ); rw [(index6 i j).1]; omega
  | ⟨1, _⟩ => show (s : ℕ) = win0_6.index (point i j) 1 * 1024 + 1 * (s : ℕ); rw [(index6 i j).2]; omega

/-- The left half, entry by entry. -/
theorem left_apply (x : FVec Ideal S4096x2048 .bf16) (t : Fin 4096) (s : Fin 1024) : Value.left x (ix2 t s) = x (ix2 t (low s)) := by
  unfold Value.left
  pointwise
  rfl

/-- The reference's gate before its tangent is taken. -/
theorem ref_z (x2 : FVec Ideal S4096x2048 .f32) (t : Fin 4096) (s : Fin 1024) : val_main_v1 (F := Ideal) x2 (ix2 t s) = x2 (ix2 t (low s)) := by
  unfold val_main_v1
  pointwise
  rfl

/-- The reference's hyperbolic tangent. -/
theorem ref_tanh (x2 : FVec Ideal S4096x2048 .f32) (t : Fin 4096) (s : Fin 1024) : val_main_v13 (F := Ideal) x2 (ix2 t s) = th (x2 (ix2 t (low s))) := by
  unfold val_main_v13 val_main_v12 val_main_v11 val_main_cst_2 val_main_v10 val_main_v9 val_main_v8 val_main_v2 val_main_cst val_main_cst_0 val_main_v4 val_main_v3
  pointwise
  simp only [ref_z]
  rw [quotient, ofBits_c]
  rfl

/-- The reference's product. -/
theorem ref_dot (x3 : FVec Ideal S1024x1024 .f32) (x4 : FVec Ideal S4096x1024 .f32) (t : Fin 4096) (s : Fin 1024) : val_main_v26 (F := Ideal) x3 x4 (ix2 t s) = ∑ k, x4 (ix2 t k) * x3 (ix2 s k) := by
  unfold val_main_v26
  pointwise

/-- The reference's first result. -/
theorem reference5 (x2 : FVec Ideal S4096x2048 .f32) (x3 : FVec Ideal S1024x1024 .f32) (x4 : FVec Ideal S4096x1024 .f32) (t : Fin 4096) (s : Fin 1024) : val_main_v28 (F := Ideal) x2 x3 x4 (ix2 t s) = (∑ k, x4 (ix2 t k) * x3 (ix2 s k)) * gate (x2 (ix2 t (low s))) := by
  unfold val_main_v28 val_main_v23 val_main_v22 val_main_v21 val_main_cst_6 val_main_v20 val_main_v19 val_main_cst_5
  pointwise
  rw [ref_dot, ref_tanh, ref_z]
  rw [ofBits_half]
  rfl

/-- The reference's second result. -/
theorem reference6 (x0 x1 : FVec Ideal S4096x1024 .f32) (x2 : FVec Ideal S4096x2048 .f32) (x3 : FVec Ideal S1024x1024 .f32) (x4 : FVec Ideal S4096x1024 .f32) (t : Fin 4096) (s : Fin 1024) : val_main_v41 (F := Ideal) x0 x1 x2 x3 x4 (ix2 t s)
    = derivative ((x0 (ix2 t s) + x1 (ix2 t s)) * (∑ k, x4 (ix2 t k) * x3 (ix2 s k))) (x2 (ix2 t (low s))) := by
  unfold val_main_v41 val_main_v40 val_main_v39 val_main_v38 val_main_v37 val_main_v36 val_main_v35 val_main_v34 val_main_cst_8 val_main_v33 val_main_v32 val_main_v31 val_main_cst_7 val_main_v30 val_main_v29 val_main_v27 val_main_v22 val_main_v21 val_main_cst_6 val_main_v20 val_main_v19 val_main_cst_5 val_main_v18 val_main_v17 val_main_v16 val_main_cst_4 val_main_v15 val_main_v14 val_main_cst_3 val_main_v7 val_main_v6 val_main_cst_1 val_main_v5 val_main_v2 val_main_cst val_main_cst_0 val_main_v0
  pointwise
  simp only [ref_dot, ref_tanh, ref_z]
  rw [ofBits_half, ofBits_c, ofBits_three, quotient]
  rfl

/-- A sum of real numbers is real. -/
theorem real_sum {n : ℕ} {f g : Fin n → EReal} (hf : ∀ i, ∃ r : ℝ, f i = r) (hg : ∀ i, ∃ r : ℝ, g i = r) : ∃ r : ℝ, ∑ i, f i * g i = r := by
  choose u hu using hf
  choose v hv using hg
  refine ⟨∑ i, u i * v i, ?_⟩
  simp only [hu, hv, ← EReal.coe_mul]
  exact (map_sum (⟨⟨fun r : ℝ => (r : EReal), rfl⟩, EReal.coe_add⟩ : ℝ →+ EReal) _ _).symm

/-- The precondition's text, read back: the recurrences' outputs, the matrix and the output gradient are real. -/
theorem real_args (hp : Cert.Pre_finite19.fn (F := Ideal) (arg0 m c) (arg1 m c) (arg2 m c) (arg3 m c) (arg4 m c) = fun _ => 1#1) :
    (∀ i, ∃ r : ℝ, arg0 m c i = r) ∧ (∀ i, ∃ r : ℝ, arg1 m c i = r) ∧ (∀ i, ∃ r : ℝ, arg3 m c i = r) ∧ ∀ i, ∃ r : ℝ, arg4 m c i = r := by
  obtain ⟨h, h4⟩ := IntOp.andi_eq_one.1 (congrFun hp fun i => i.elim0)
  obtain ⟨h, h3⟩ := IntOp.andi_eq_one.1 h
  obtain ⟨h0, h1⟩ := IntOp.andi_eq_one.1 h
  haveI : Subsingleton Cert.Pre_finite19.S_.Idx := ⟨fun a b => funext fun i => i.elim0⟩
  exact ⟨fun i => Cert.Finite.real_of_abs_lt _ (Host.reduce_andi_all _ _ _ _ _ h0 i), fun i => Cert.Finite.real_of_abs_lt _ (Host.reduce_andi_all _ _ _ _ _ h1 i),
    fun i => Cert.Finite.real_of_abs_lt _ (Host.reduce_andi_all _ _ _ _ _ h3 i), fun i => Cert.Finite.real_of_abs_lt _ (Host.reduce_andi_all _ _ _ _ _ h4 i)⟩

/-- The reference's gradient of the recurrence's output is the kernel's. -/
theorem agree5 (x2 : FVec Ideal S4096x2048 .f32) (x3 : FVec Ideal S1024x1024 .f32) (x4 : FVec Ideal S4096x1024 .f32) (h2 : x2 = arg2 m c) (h3 : x3 = arg3 m c) (h4 : x4 = arg4 m c) :
    val_main_v28 (F := Ideal) x2 x3 x4 = (show FVec Ideal S4096x1024 .f32 from (dats m 0 c).arrAt 5 cfg0.N) := by
  funext ij
  rw [← ix2_eta ij]
  subst h2 h3 h4
  obtain ⟨i, r, hr⟩ := row_surj (ij 0)
  rw [← hr]
  exact (reference5 _ _ _ (row i r) (ij 1)).trans (array5 m c i 0 r (ij 1)).symm

/-- … and so is that of the gate. -/
theorem agree6 (x0 x1 : FVec Ideal S4096x1024 .f32) (x2 : FVec Ideal S4096x2048 .f32) (x3 : FVec Ideal S1024x1024 .f32) (x4 : FVec Ideal S4096x1024 .f32) (hp : Cert.Pre_finite19.fn (F := Ideal) (arg0 m c) (arg1 m c) (arg2 m c) (arg3 m c) (arg4 m c) = fun _ => 1#1)
    (h0 : x0 = arg0 m c) (h1 : x1 = arg1 m c) (h2 : x2 = arg2 m c) (h3 : x3 = arg3 m c) (h4 : x4 = arg4 m c) :
    val_main_v41 (F := Ideal) x0 x1 x2 x3 x4 = Value.left ((dats m 0 c).arrAt 6 cfg0.N) := by
  obtain ⟨r0, r1, r3, r4⟩ := real_args m c hp
  funext ij
  rw [← ix2_eta ij]
  subst h0 h1 h2 h3 h4
  obtain ⟨i, r, hr⟩ := row_surj (ij 0)
  rw [← hr]
  refine (reference6 _ _ _ _ _ (row i r) (ij 1)).trans (Eq.trans ?_ ((left_apply _ (row i r) (ij 1)).trans (array6 m c i 0 r (ij 1))).symm)
  obtain ⟨s, hs⟩ := real_sum (fun k : Fin 1024 => r4 (ix2 (row i r) k)) (fun k => r3 (ix2 (ij 1) k))
  obtain ⟨a, ha⟩ := r0 (ix2 (row i r) (ij 1))
  obtain ⟨b, hb⟩ := r1 (ix2 (row i r) (ij 1))
  rw [hs, ha, hb, ← EReal.coe_add, ← EReal.coe_mul, ← EReal.coe_mul, derivative_eq, mul_comm s]

end Cert.Kernel19Ideal.Tile

end

end
-- ==== Proof.FirstNormFwd.lean ====
/- The first block's norm (`Kernel20`), as in the reference. -/
module

public import proofs.«01_k».proof.Proof.Gen.Kernel20Ideal.Value
public import proofs.«01_k».proof.Proof.Gen.Reference20Ideal.Read
public import Idealize.ShloMosaic.Lib.Pointwise
public import Idealize.ShloMosaic.Lib.Claim
public import proofs.«01_k».proof.Proof.Blocks

@[expose] public section

noncomputable section

namespace Cert.Kernel20Ideal.Tile

open Cert.Reference20Ideal.Read Cert.Blocks
open Cert.Kernel20Ideal Cert.Kernel20Ideal.Gen
open Idealize.ShloMosaic Idealize.ShloMosaic.TcCoe Idealize.SL.Sem

/-- The rectangles start at the origin. -/
theorem hz : (![0, 0] : Fin 2 → Nat) = fun _ => 0 := funext fun a => by fin_cases a <;> rfl
/-- … those of three axes too. -/
theorem hz3 : (![0, 0, 0] : Fin 3 → Nat) = fun _ => 0 := funext fun a => by fin_cases a <;> rfl

/-- The grid point of row block `i` and column block `j`. -/
def point (i : Fin 8) (j : Fin 1) : Fin cfg0.N := ⟨i * 1 + j, by show _ < 8; omega⟩
/-- Row `r` of row block `i`: the rows fall into blocks … -/
def row (i : Fin 8) (r : Fin 512) : Fin 4096 := ⟨i * 512 + r, by omega⟩
/-- … and each lies in some block. -/
theorem row_surj (r : Fin 4096) : ∃ i s, row i s = r :=
  ⟨⟨r / 512, by omega⟩, ⟨r % 512, by omega⟩, Fin.ext (by show (r : ℕ) / 512 * 512 + r % 512 = r; omega)⟩

/-- The stream's block at a point: the row panel. -/
theorem index0 : ∀ i j, win0_0.index (point i j) 0 = (i : ℕ) ∧ win0_0.index (point i j) 1 = 0 := by decide +kernel
/-- The gain's block: the whole. -/
theorem index1 : ∀ i j, win0_1.index (point i j) 0 = 0 ∧ win0_1.index (point i j) 1 = 0 := by decide +kernel
/-- The normed stream's block: the row panel. -/
theorem index2 : ∀ i j, win0_2.index (point i j) 0 = (i : ℕ) ∧ win0_2.index (point i j) 1 = 0 := by decide +kernel

variable (m : (ℓ : Loc nD τ sig) → Buf (Elt Ideal) ℓ) (c : Dev nD)

/-- The stream and the norm's gain, as the device holds them. -/
abbrev arg0 : FVec Ideal S4096x1024 .f32 := m ((c : Thread nD τ).loc main_arg0)
abbrev arg1 : FVec Ideal S1x1024 .f32 := m ((c : Thread nD τ).loc main_arg1)

variable (i : Fin 8) (j : Fin 1)

/-- The stream's block holds its rows. -/
theorem block0 (t : Fin 512) (k : Fin 1024) : (show FVec Ideal S512x1024 .f32 from iblk m c 0 (point i j)) (ix2 t k) = arg0 m c (ix2 (row i t) k) := by
  refine Eq.trans (?_ : _ = V m c main_arg0 (ix2 (row i t) k)) (congrFun (V_main_arg0 m c) (ix2 (row i t) k))
  exact congrArg (V m c main_arg0) (ix2_of (at_row 512 t (index0 i j).1) (at_zero 1024 k (index0 i j).2))

/-- The gain's block holds it whole. -/
theorem block1 (t : Fin 1) (k : Fin 1024) : (show FVec Ideal S1x1024 .f32 from iblk m c 1 (point i j)) (ix2 t k) = arg1 m c (ix2 t k) := by
  refine Eq.trans (?_ : _ = V m c main_arg1 (ix2 t k)) (congrFun (V_main_arg1 m c) (ix2 t k))
  exact congrArg (V m c main_arg1) (ix2_of (at_zero 1 t (index1 i j).1) (at_zero 1024 k (index1 i j).2))

/-- The norm's reading of a row `u` with gain `g`. -/
def normed (u g : Fin 1024 → EReal) (s : Fin 1024) : EReal :=
  u s * Ideal.rsqrt (Ideal.div (∑ k, u k * u k) (Ideal.ofBits .f32 0x44800000#32) + Ideal.ofBits .f32 0x358637BD#32) * g s

/-- One tile of the normed stream. -/
theorem tile2 {x0 : FVec Ideal S512x1024 .f32} {x1 : FVec Ideal S1x1024 .f32} {u : Fin 512 → Fin 1024 → EReal} {g : Fin 1 → Fin 1024 → EReal}
    (h0 : ∀ r s, x0 (ix2 r s) = u r s) (h1 : ∀ r s, x1 (ix2 r s) = g r s) (r : Fin 512) (s : Fin 1024) :
    (show FVec Ideal S512x1024 .bf16 from out0_2 (F := Ideal) x0 x1) (ix2 r s) = normed (u r) (g 0) s := by
  show out0_2 (F := Ideal) x0 x1 (ix2 r s) = _
  unfold out0_2
  rw [View.canon_unit_zero (S := S512x1024) hz]
  simp only [View.ld_unit_zero (S := S512x1024) hz, View.ld_unit_zero (S := S1x1024) hz]
  unfold k0_pay1 normed
  pointwise
  simp only [h0, h1]

/-- The normed stream, entry by entry. -/
theorem array2 (i : Fin 8) (j : Fin 1) (r : Fin 512) (s : Fin 1024) : (show FVec Ideal S4096x1024 .bf16 from (dats m 0 c).arrAt 2 cfg0.N) (ix2 (row i r) s)
    = normed (fun s => arg0 m c (ix2 (row i r) s)) (fun s => arg1 m c (ix2 0 s)) s := by
  have e := congrFun (Value.blocks2 m c (point i j) (flush0_2 _)) (ix2 r s)
  rw [View.read_apply, Value.flushed2] at e
  have t := tile2 (block0 m c i j) (block1 m c i j) r s
  refine Eq.trans ?_ t
  refine Eq.trans ?_ e
  show (dats m 0 c).arrAt 2 cfg0.N _ = (dats m 0 c).arrAt 2 cfg0.N _
  refine congrArg ((dats m 0 c).arrAt 2 cfg0.N) (funext fun a => Fin.ext ?_)
  match a with
  | ⟨0, _⟩ => show (i : ℕ) * 512 + (r : ℕ) = win0_2.index (point i j) 0 * 512 + 1 * (r : ℕ); rw [(index2 i j).1]; omega
  | ⟨1, _⟩ => show (s : ℕ) = win0_2.index (point i j) 1 * 1024 + 1 * (s : ℕ); rw [(index2 i j).2]; omega

/-- The reference's normed stream, entry by entry. -/
theorem reference2 (x0 : FVec Ideal S4096x1024 .f32) (x1 : FVec Ideal S1x1024 .f32) (r : Fin 4096) (s : Fin 1024) :
    val_main_v12 (F := Ideal) x0 x1 (ix2 r s) = normed (fun s => x0 (ix2 r s)) (fun s => x1 (ix2 0 s)) s := by
  unfold val_main_v12 val_main_v11 val_main_v10 val_main_v9 val_main_v8 val_main_v7 val_main_v6 val_main_v5 val_main_v4 val_main_v3 val_main_v2 val_main_v1 val_main_v0 val_main_cst val_main_cst_0 val_main_cst_1 normed
  pointwise

/-- The reference's result is the kernel's result array. -/
theorem agree2 (x0 : FVec Ideal S4096x1024 .f32) (x1 : FVec Ideal S1x1024 .f32) (h0 : x0 = arg0 m c) (h1 : x1 = arg1 m c) :
    val_main_v12 (F := Ideal) x0 x1 = (show FVec Ideal S4096x1024 .bf16 from (dats m 0 c).arrAt 2 cfg0.N) := by
  funext ij
  rw [← ix2_eta ij]
  obtain ⟨i, r, hr⟩ := row_surj (ij 0)
  rw [← hr]
  subst h0 h1
  exact (reference2 _ _ (row i r) (ij 1)).trans (array2 m c i 0 r (ij 1)).symm

end Cert.Kernel20Ideal.Tile

end

end
-- ==== Proof.TurnRead.lean ====
/- What one grid point of the queries' and keys' norm and rotation (`Kernel21`) stores, read entry by entry. -/
module

public import proofs.«01_k».proof.Proof.Gen.Kernel21Ideal.Value
public import Idealize.ShloMosaic.Lib.Pointwise
public import Idealize.ShloMosaic.Lib.Pipeline.ValueKit.Tiles
public import Idealize.ShloMosaic.Lib.Claim

@[expose] public section

noncomputable section

namespace Cert.Kernel21Ideal.Tile

open Cert.Kernel21Ideal Cert.Kernel21Ideal.Gen
open Idealize.ShloMosaic Idealize.ShloMosaic.TcCoe Idealize.SL.Sem

/-- The rectangles start at the origin. -/
theorem hz : (![0, 0] : Fin 2 → Nat) = fun _ => 0 := funext fun a => by fin_cases a <;> rfl

/-- A head `u` normed, with gain `g`. -/
def normed (u g : Fin 128 → EReal) (l : Fin 128) : EReal :=
  u l * Ideal.rsqrt (Ideal.div (∑ k, u k * u k) (Ideal.ofBits .f32 0x43000000#32) + Ideal.ofBits .f32 0x358637BD#32) * g l

/-- The lane that a lane is rotated with: 32 up in the first half of its half, 32 down in the second. -/
def other (l : Fin 128) : Fin 128 := ⟨if (l : ℕ) % 64 < 32 then l + 32 else l - 32, by split <;> omega⟩

/-- A head rotated, by the wide tables `c` and `s`. -/
def turned (z c s : Fin 128 → EReal) (l : Fin 128) : EReal := z l * c l + z (other l) * s l

/-- The mask of the first halves. -/
theorem mask (r : Fin 512) (l : Fin 128) : k0_pay7 (ix2 r l) = if (l : ℕ) % 64 < 32 then 1#1 else 0#1 := by
  unfold k0_pay7
  pointwise
  revert l
  decide +kernel

/-- The normed head. -/
theorem pay5_read (x : FVec Ideal S512x128 .f32) (g : FVec Ideal S1x128 .f32) (r : Fin 512) (l : Fin 128) :
    k0_pay5 (F := Ideal) x g (ix2 r l) = normed (fun k => x (ix2 r k)) (fun k => g (ix2 0 k)) l := by
  unfold k0_pay5 normed
  pointwise

/-- A rotation by 96 lanes and one by 32, chosen by the mask, read the other lane. -/
theorem choose (f : Fin 128 → EReal) (l : Fin 128) (h : ((l : ℕ) + 128 - 96) % 128 < 128) (h' : ((l : ℕ) + 128 - 32) % 128 < 128) :
    Scalar.select (if (l : ℕ) % 64 < 32 then 1#1 else 0#1) (f ⟨((l : ℕ) + 128 - 96) % 128, h⟩) (f ⟨((l : ℕ) + 128 - 32) % 128, h'⟩) = f (other l) := by
  by_cases hl : (l : ℕ) % 64 < 32
  · rw [if_pos hl]
    refine congrArg f (Fin.ext ?_)
    show ((l : ℕ) + 128 - 96) % 128 = if (l : ℕ) % 64 < 32 then (l : ℕ) + 32 else l - 32
    rw [if_pos hl]; omega
  · rw [if_neg hl]
    refine congrArg f (Fin.ext ?_)
    show ((l : ℕ) + 128 - 32) % 128 = if (l : ℕ) % 64 < 32 then (l : ℕ) + 32 else l - 32
    rw [if_neg hl]; omega

/-- The rotated head. -/
theorem pay9_read (x c s : FVec Ideal S512x128 .f32) (g : FVec Ideal S1x128 .f32) (r : Fin 512) (l : Fin 128) :
    k0_pay9 (F := Ideal) (k0_pay4 s) (k0_pay5 x g) (k0_pay6 c x g) k0_pay7 (k0_pay8 x g) 32#32 (ix2 r l)
      = turned (normed (fun k => x (ix2 r k)) (fun k => g (ix2 0 k))) (fun k => c (ix2 r k)) (fun k => s (ix2 r k)) l := by
  unfold k0_pay9 k0_pay8 k0_pay6 k0_pay4 k0_pay3 turned
  pointwise
  simp only [mask, pay5_read]
  rw [choose (normed (fun k => x (ix2 r k)) (fun k => g (ix2 0 k)))]

/-- The same of head 1. -/
theorem head1 (x c s : FVec Ideal S512x128 .f32) (g : FVec Ideal S1x128 .f32) :
    k0_pay14 (F := Ideal) (k0_pay4 s) (k0_pay10 x g) (k0_pay11 (k0_pay3 c) x g) k0_pay12 (k0_pay13 x g) 32#32
      = k0_pay9 (F := Ideal) (k0_pay4 s) (k0_pay5 x g) (k0_pay6 c x g) k0_pay7 (k0_pay8 x g) 32#32 := rfl
/-- The same of head 2. -/
theorem head2 (x c s : FVec Ideal S512x128 .f32) (g : FVec Ideal S1x128 .f32) :
    k0_pay19 (F := Ideal) (k0_pay4 s) (k0_pay15 x g) (k0_pay16 (k0_pay3 c) x g) k0_pay17 (k0_pay18 x g) 32#32
      = k0_pay9 (F := Ideal) (k0_pay4 s) (k0_pay5 x g) (k0_pay6 c x g) k0_pay7 (k0_pay8 x g) 32#32 := rfl
/-- The same of head 3. -/
theorem head3 (x c s : FVec Ideal S512x128 .f32) (g : FVec Ideal S1x128 .f32) :
    k0_pay24 (F := Ideal) (k0_pay4 s) (k0_pay20 x g) (k0_pay21 (k0_pay3 c) x g) k0_pay22 (k0_pay23 x g) 32#32
      = k0_pay9 (F := Ideal) (k0_pay4 s) (k0_pay5 x g) (k0_pay6 c x g) k0_pay7 (k0_pay8 x g) 32#32 := rfl
/-- The same of head 4. -/
theorem head4 (x c s : FVec Ideal S512x128 .f32) (g : FVec Ideal S1x128 .f32) :
    k0_pay29 (F := Ideal) (k0_pay4 s) (k0_pay25 x g) (k0_pay26 (k0_pay3 c) x g) k0_pay27 (k0_pay28 x g) 32#32
      = k0_pay9 (F := Ideal) (k0_pay4 s) (k0_pay5 x g) (k0_pay6 c x g) k0_pay7 (k0_pay8 x g) 32#32 := rfl
/-- The same of head 5. -/
theorem head5 (x c s : FVec Ideal S512x128 .f32) (g : FVec Ideal S1x128 .f32) :
    k0_pay34 (F := Ideal) (k0_pay4 s) (k0_pay30 x g) (k0_pay31 (k0_pay3 c) x g) k0_pay32 (k0_pay33 x g) 32#32
      = k0_pay9 (F := Ideal) (k0_pay4 s) (k0_pay5 x g) (k0_pay6 c x g) k0_pay7 (k0_pay8 x g) 32#32 := rfl
/-- The same of head 6. -/
theorem head6 (x c s : FVec Ideal S512x128 .f32) (g : FVec Ideal S1x128 .f32) :
    k0_pay39 (F := Ideal) (k0_pay4 s) (k0_pay35 x g) (k0_pay36 (k0_pay3 c) x g) k0_pay37 (k0_pay38 x g) 32#32
      = k0_pay9 (F := Ideal) (k0_pay4 s) (k0_pay5 x g) (k0_pay6 c x g) k0_pay7 (k0_pay8 x g) 32#32 := rfl
/-- The same of head 7. -/
theorem head7 (x c s : FVec Ideal S512x128 .f32) (g : FVec Ideal S1x128 .f32) :
    k0_pay44 (F := Ideal) (k0_pay4 s) (k0_pay40 x g) (k0_pay41 (k0_pay3 c) x g) k0_pay42 (k0_pay43 x g) 32#32
      = k0_pay9 (F := Ideal) (k0_pay4 s) (k0_pay5 x g) (k0_pay6 c x g) k0_pay7 (k0_pay8 x g) 32#32 := rfl
/-- The same of head 8. -/
theorem head8 (x c s : FVec Ideal S512x128 .f32) (g : FVec Ideal S1x128 .f32) :
    k0_pay49 (F := Ideal) (k0_pay4 s) (k0_pay45 x g) (k0_pay46 (k0_pay3 c) x g) k0_pay47 (k0_pay48 x g) 32#32
      = k0_pay9 (F := Ideal) (k0_pay4 s) (k0_pay5 x g) (k0_pay6 c x g) k0_pay7 (k0_pay8 x g) 32#32 := rfl
/-- The same of head 9. -/
theorem head9 (x c s : FVec Ideal S512x128 .f32) (g : FVec Ideal S1x128 .f32) :
    k0_pay1 (F := Ideal) (k0_pay4 s) (k0_pay50 x g) (k0_pay51 (k0_pay3 c) x g) k0_pay52 (k0_pay53 x g) 32#32
      = k0_pay9 (F := Ideal) (k0_pay4 s) (k0_pay5 x g) (k0_pay6 c x g) k0_pay7 (k0_pay8 x g) 32#32 := rfl

/-- Lane `l` of head `h` among all columns. -/
def lane (h : Fin 12) (l : Fin 128) : Fin 1536 := ⟨h * 128 + l, by omega⟩

/-- A piece of the head at column `o`, where it holds column `q`. -/
theorem piece {N : ℕ} {x0 : FVec Ideal S512x1536 .f32} {x1 x2 : FVec Ideal S512x128 .f32} {x3 : FVec Ideal S1x128 .f32}
    (o o' : ℕ) (h : Fin 12) (ho : o = h * 128) (r : Fin 512) (q : Fin N) (l : Fin 128) (hq : (q : ℕ) = o' + l) (inb : ∀ a, (![0, o] : Fin 2 → ℕ) a + S512x128.size a ≤ S512x1536.size a)
    (x : S512x128.Idx) (hx : ∀ a, (ix2 r q a : ℕ) = (![0, o'] : Fin 2 → ℕ) a + x a) :
    k0_pay9 (F := Ideal) (k0_pay4 x2) (k0_pay5 (View.ld x0 (Rect.unit (s := S512x1536) ![0, o] S512x128.size inb)) x3) (k0_pay6 x1 (View.ld x0 (Rect.unit (s := S512x1536) ![0, o] S512x128.size inb)) x3)
        k0_pay7 (k0_pay8 (View.ld x0 (Rect.unit (s := S512x1536) ![0, o] S512x128.size inb)) x3) 32#32 x
      = turned (normed (fun k => x0 (ix2 r (lane h k))) (fun k => x3 (ix2 0 k))) (fun k => x1 (ix2 r k)) (fun k => x2 (ix2 r k)) l := by
  obtain rfl : x = ix2 r l := by
    funext a
    match a with
    | ⟨0, _⟩ => exact Fin.ext (by have := hx 0; show (x 0 : ℕ) = r; change (r : ℕ) = 0 + _ at this; omega)
    | ⟨1, _⟩ => exact Fin.ext (by have := hx 1; show (x 1 : ℕ) = l; change (q : ℕ) = o' + _ at this; omega)
  rw [pay9_read]
  refine congrArg (fun z => turned (normed z _) _ _ l) (funext fun k => ?_)
  refine View.ld_unit_apply_of (S := S512x1536) (Val := Elt Ideal) (e := .f32) x0 _ _ inb (ix2 r k) (ix2 r (lane h k)) fun a => ?_
  match a with
  | ⟨0, _⟩ => show (r : ℕ) = 0 + r; omega
  | ⟨1, _⟩ => show (h : ℕ) * 128 + k = o + k; omega

/-- One tile of the rotated queries. -/
theorem tile5 (x0 : FVec Ideal S512x1536 .f32) (x1 x2 : FVec Ideal S512x128 .f32) (x3 x4 : FVec Ideal S1x128 .f32) (r : Fin 512) (h : Fin 8) (l : Fin 128) (q : Fin 1024) (hq : (q : ℕ) = h * 128 + l) :
    (show FVec Ideal S512x1024 .bf16 from out0_5 (F := Ideal) x0 x1 x2 x3 x4) (ix2 r q)
      = turned (normed (fun k => x0 (ix2 r (lane ⟨h + 0, by omega⟩ k))) (fun k => x3 (ix2 0 k))) (fun k => x1 (ix2 r k)) (fun k => x2 (ix2 r k)) l := by
  show out0_5 (F := Ideal) x0 x1 x2 x3 x4 (ix2 r q) = _
  unfold out0_5 k0_pay55 k0_pay54
  simp only [head1, head2, head3, head4, head5, head6, head7]
  refine View.canon_eq_of_allAt _ _ _ (cover0_5 _ _ _ _ _ _ _ _ _) ?_
  refine View.allAt_cons_unit _ _ _ _ _ (fun x hx => ?_) ?_
  · have e : (h : ℕ) = 7 := by
      have a1 := hx 1
      have b1 := (x 1).isLt
      change (q : ℕ) = 896 + (x 1 : ℕ) at a1
      change (x 1 : ℕ) < 128 at b1
      omega
    simp only [View.ld_unit_zero (S := S512x128) hz, View.ld_unit_zero (S := S1x128) hz]
    exact piece 896 896 ⟨h + 0, by omega⟩ (by show 896 = ((h : ℕ) + 0) * 128; omega) r q l (by omega) _ x hx
  refine View.allAt_cons_unit _ _ _ _ _ (fun x hx => ?_) ?_
  · have e : (h : ℕ) = 6 := by
      have a1 := hx 1
      have b1 := (x 1).isLt
      change (q : ℕ) = 768 + (x 1 : ℕ) at a1
      change (x 1 : ℕ) < 128 at b1
      omega
    simp only [View.ld_unit_zero (S := S512x128) hz, View.ld_unit_zero (S := S1x128) hz]
    exact piece 768 768 ⟨h + 0, by omega⟩ (by show 768 = ((h : ℕ) + 0) * 128; omega) r q l (by omega) _ x hx
  refine View.allAt_cons_unit _ _ _ _ _ (fun x hx => ?_) ?_
  · have e : (h : ℕ) = 5 := by
      have a1 := hx 1
      have b1 := (x 1).isLt
      change (q : ℕ) = 640 + (x 1 : ℕ) at a1
      change (x 1 : ℕ) < 128 at b1
      omega
    simp only [View.ld_unit_zero (S := S512x128) hz, View.ld_unit_zero (S := S1x128) hz]
    exact piece 640 640 ⟨h + 0, by omega⟩ (by show 640 = ((h : ℕ) + 0) * 128; omega) r q l (by omega) _ x hx
  refine View.allAt_cons_unit _ _ _ _ _ (fun x hx => ?_) ?_
  · have e : (h : ℕ) = 4 := by
      have a1 := hx 1
      have b1 := (x 1).isLt
      change (q : ℕ) = 512 + (x 1 : ℕ) at a1
      change (x 1 : ℕ) < 128 at b1
      omega
    simp only [View.ld_unit_zero (S := S512x128) hz, View.ld_unit_zero (S := S1x128) hz]
    exact piece 512 512 ⟨h + 0, by omega⟩ (by show 512 = ((h : ℕ) + 0) * 128; omega) r q l (by omega) _ x hx
  refine View.allAt_cons_unit _ _ _ _ _ (fun x hx => ?_) ?_
  · have e : (h : ℕ) = 3 := by
      have a1 := hx 1
      have b1 := (x 1).isLt
      change (q : ℕ) = 384 + (x 1 : ℕ) at a1
      change (x 1 : ℕ) < 128 at b1
      omega
    simp only [View.ld_unit_zero (S := S512x128) hz, View.ld_unit_zero (S := S1x128) hz]
    exact piece 384 384 ⟨h + 0, by omega⟩ (by show 384 = ((h : ℕ) + 0) * 128; omega) r q l (by omega) _ x hx
  refine View.allAt_cons_unit _ _ _ _ _ (fun x hx => ?_) ?_
  · have e : (h : ℕ) = 2 := by
      have a1 := hx 1
      have b1 := (x 1).isLt
      change (q : ℕ) = 256 + (x 1 : ℕ) at a1
      change (x 1 : ℕ) < 128 at b1
      omega
    simp only [View.ld_unit_zero (S := S512x128) hz, View.ld_unit_zero (S := S1x128) hz]
    exact piece 256 256 ⟨h + 0, by omega⟩ (by show 256 = ((h : ℕ) + 0) * 128; omega) r q l (by omega) _ x hx
  refine View.allAt_cons_unit _ _ _ _ _ (fun x hx => ?_) ?_
  · have e : (h : ℕ) = 1 := by
      have a1 := hx 1
      have b1 := (x 1).isLt
      change (q : ℕ) = 128 + (x 1 : ℕ) at a1
      change (x 1 : ℕ) < 128 at b1
      omega
    simp only [View.ld_unit_zero (S := S512x128) hz, View.ld_unit_zero (S := S1x128) hz]
    exact piece 128 128 ⟨h + 0, by omega⟩ (by show 128 = ((h : ℕ) + 0) * 128; omega) r q l (by omega) _ x hx
  refine View.allAt_cons_unit _ _ _ _ _ (fun x hx => ?_) ?_
  · have e : (h : ℕ) = 0 := by
      have a1 := hx 1
      have b1 := (x 1).isLt
      change (q : ℕ) = 0 + (x 1 : ℕ) at a1
      change (x 1 : ℕ) < 128 at b1
      omega
    simp only [View.ld_unit_zero (S := S512x128) hz, View.ld_unit_zero (S := S1x128) hz]
    exact piece 0 0 ⟨h + 0, by omega⟩ (by show 0 = ((h : ℕ) + 0) * 128; omega) r q l (by omega) _ x hx
  exact View.allAt_nil _ _

/-- One tile of the rotated keys. -/
theorem tile6 (x0 : FVec Ideal S512x1536 .f32) (x1 x2 : FVec Ideal S512x128 .f32) (x3 x4 : FVec Ideal S1x128 .f32) (r : Fin 512) (h : Fin 2) (l : Fin 128) (q : Fin 256) (hq : (q : ℕ) = h * 128 + l) :
    (show FVec Ideal S512x256 .bf16 from out0_6 (F := Ideal) x0 x1 x2 x3 x4) (ix2 r q)
      = turned (normed (fun k => x0 (ix2 r (lane ⟨h + 8, by omega⟩ k))) (fun k => x4 (ix2 0 k))) (fun k => x1 (ix2 r k)) (fun k => x2 (ix2 r k)) l := by
  show out0_6 (F := Ideal) x0 x1 x2 x3 x4 (ix2 r q) = _
  unfold out0_6 k0_pay55 k0_pay54
  simp only [head8, head9]
  refine View.canon_eq_of_allAt _ _ _ (cover0_6 _ _ _) ?_
  refine View.allAt_cons_unit _ _ _ _ _ (fun x hx => ?_) ?_
  · have e : (h : ℕ) = 1 := by
      have a1 := hx 1
      have b1 := (x 1).isLt
      change (q : ℕ) = 128 + (x 1 : ℕ) at a1
      change (x 1 : ℕ) < 128 at b1
      omega
    simp only [View.ld_unit_zero (S := S512x128) hz, View.ld_unit_zero (S := S1x128) hz]
    exact piece 1152 128 ⟨h + 8, by omega⟩ (by show 1152 = ((h : ℕ) + 8) * 128; omega) r q l (by omega) _ x hx
  refine View.allAt_cons_unit _ _ _ _ _ (fun x hx => ?_) ?_
  · have e : (h : ℕ) = 0 := by
      have a1 := hx 1
      have b1 := (x 1).isLt
      change (q : ℕ) = 0 + (x 1 : ℕ) at a1
      change (x 1 : ℕ) < 128 at b1
      omega
    simp only [View.ld_unit_zero (S := S512x128) hz, View.ld_unit_zero (S := S1x128) hz]
    exact piece 1024 0 ⟨h + 8, by omega⟩ (by show 1024 = ((h : ℕ) + 8) * 128; omega) r q l (by omega) _ x hx
  exact View.allAt_nil _ _

/-- One tile of the values. -/
theorem tile7 (x0 : FVec Ideal S512x1536 .f32) (x1 x2 : FVec Ideal S512x128 .f32) (x3 x4 : FVec Ideal S1x128 .f32) (r : Fin 512) (q : Fin 256) :
    (show FVec Ideal S512x256 .bf16 from out0_7 (F := Ideal) x0 x1 x2 x3 x4) (ix2 r q) = x0 (ix2 r ⟨1280 + q, by omega⟩) := by
  show out0_7 (F := Ideal) x0 x1 x2 x3 x4 (ix2 r q) = _
  unfold out0_7
  rw [View.canon_unit_zero (S := S512x256) hz]
  unfold k0_pay2
  pointwise

end Cert.Kernel21Ideal.Tile

end

end
-- ==== Proof.TurnFwd.lean ====
/- The queries and keys normed and rotated (`Kernel21`), as in the reference. -/
module

public import proofs.«01_k».proof.Proof.Gen.Kernel21Ideal.Value
public import proofs.«01_k».proof.Proof.Gen.Reference21Ideal.Read
public import Idealize.ShloMosaic.Lib.Pointwise
public import Idealize.ShloMosaic.Lib.Claim
public import proofs.«01_k».proof.Proof.TurnRead
public import proofs.«01_k».proof.Proof.Blocks

@[expose] public section

noncomputable section

namespace Cert.Kernel21Ideal.Tile

open Cert.Reference21Ideal.Read Cert.Blocks
open Cert.Kernel21Ideal Cert.Kernel21Ideal.Gen
open Idealize.ShloMosaic Idealize.ShloMosaic.TcCoe Idealize.SL.Sem

/-- The grid point of row block `i` and column block `j`. -/
def point (i : Fin 8) (j : Fin 1) : Fin cfg0.N := ⟨i * 1 + j, by show _ < 8; omega⟩
/-- Row `r` of row block `i`: the rows fall into blocks … -/
def row (i : Fin 8) (r : Fin 512) : Fin 4096 := ⟨i * 512 + r, by omega⟩
/-- … and each lies in some block. -/
theorem row_surj (r : Fin 4096) : ∃ i s, row i s = r :=
  ⟨⟨r / 512, by omega⟩, ⟨r % 512, by omega⟩, Fin.ext (by show (r : ℕ) / 512 * 512 + r % 512 = r; omega)⟩

/-- A block at a point: the row panel. -/
theorem index0 : ∀ i j, win0_0.index (point i j) 0 = (i : ℕ) ∧ win0_0.index (point i j) 1 = 0 := by decide +kernel
/-- A block at a point: the row panel. -/
theorem index1 : ∀ i j, win0_1.index (point i j) 0 = (i : ℕ) ∧ win0_1.index (point i j) 1 = 0 := by decide +kernel
/-- A block at a point: the row panel. -/
theorem index2 : ∀ i j, win0_2.index (point i j) 0 = (i : ℕ) ∧ win0_2.index (point i j) 1 = 0 := by decide +kernel
/-- A block at a point: the row panel. -/
theorem index5 : ∀ i j, win0_5.index (point i j) 0 = (i : ℕ) ∧ win0_5.index (point i j) 1 = 0 := by decide +kernel
/-- A block at a point: the row panel. -/
theorem index6 : ∀ i j, win0_6.index (point i j) 0 = (i : ℕ) ∧ win0_6.index (point i j) 1 = 0 := by decide +kernel
/-- A block at a point: the row panel. -/
theorem index7 : ∀ i j, win0_7.index (point i j) 0 = (i : ℕ) ∧ win0_7.index (point i j) 1 = 0 := by decide +kernel
/-- A gain's block at a point: the whole. -/
theorem index3 : ∀ i j, win0_3.index (point i j) 0 = 0 ∧ win0_3.index (point i j) 1 = 0 := by decide +kernel
/-- A gain's block at a point: the whole. -/
theorem index4 : ∀ i j, win0_4.index (point i j) 0 = 0 ∧ win0_4.index (point i j) 1 = 0 := by decide +kernel

variable (m : (ℓ : Loc nD τ sig) → Buf (Elt Ideal) ℓ) (c : Dev nD)

/-- The projections, the four tables and the two gains, as the device holds them. -/
abbrev arg0 : FVec Ideal S4096x1536 .f32 := m ((c : Thread nD τ).loc main_arg0)
abbrev arg1 : FVec Ideal S2048x32 .f32 := m ((c : Thread nD τ).loc main_arg1)
abbrev arg2 : FVec Ideal S2048x32 .f32 := m ((c : Thread nD τ).loc main_arg2)
abbrev arg3 : FVec Ideal S2048x32 .f32 := m ((c : Thread nD τ).loc main_arg3)
abbrev arg4 : FVec Ideal S2048x32 .f32 := m ((c : Thread nD τ).loc main_arg4)
abbrev arg5 : FVec Ideal S1x128 .f32 := m ((c : Thread nD τ).loc main_arg5)
abbrev arg6 : FVec Ideal S1x128 .f32 := m ((c : Thread nD τ).loc main_arg6)

/-- Four tables of a quarter's lanes side by side. -/
def four (a b c d : FVec Ideal S2048x32 .f32) : FVec Ideal S2048x128 .f32 :=
  concatenate S2048x128 1 [⟨S2048x32, a⟩, ⟨S2048x32, b⟩, ⟨S2048x32, c⟩, ⟨S2048x32, d⟩] concatenates_S2048x32_S2048x32_S2048x32_S2048x32_S2048x128_d1

/-- A table twice, one for each sequence. -/
def twice (a : FVec Ideal S2048x128 .f32) : FVec Ideal S4096x128 .f32 :=
  concatenate S4096x128 0 [⟨S2048x128, a⟩, ⟨S2048x128, a⟩] concatenates_S2048x128_S2048x128_S4096x128_d0

/-- The table of the lane's quarter, at position `t`. -/
def quarters (a b c d : FVec Ideal S2048x32 .f32) (t : Fin 2048) (l : Fin 128) : EReal :=
  (if (l : ℕ) < 32 then a else if (l : ℕ) < 64 then b else if (l : ℕ) < 96 then c else d) (ix2 t ⟨l % 32, by omega⟩)

/-- The four tables side by side, entry by entry. -/
theorem four_read (a b c d : FVec Ideal S2048x32 .f32) (t : Fin 2048) (l : Fin 128) : four a b c d (ix2 t l) = quarters a b c d t l := by
  unfold four quarters
  pointwise
  by_cases h1 : (l : ℕ) < 32
  · rw [dif_pos h1, if_pos h1]
    exact congrArg a (congrArg (ix2 t) (Fin.ext (by show (l : ℕ) = l % 32; omega)))
  rw [dif_neg h1, if_neg h1]
  by_cases h2 : (l : ℕ) < 64
  · rw [dif_pos (by omega), if_pos h2]
    exact congrArg b (congrArg (ix2 t) (Fin.ext (by show (l : ℕ) - 32 = l % 32; omega)))
  rw [dif_neg (by omega), if_neg h2]
  by_cases h3 : (l : ℕ) < 96
  · rw [dif_pos (by omega), if_pos h3]
    exact congrArg c (congrArg (ix2 t) (Fin.ext (by show (l : ℕ) - 32 - 32 = l % 32; omega)))
  rw [dif_neg (by omega), if_neg h3]
  exact congrArg d (congrArg (ix2 t) (Fin.ext (by show (l : ℕ) - 32 - 32 - 32 = l % 32; omega)))

/-- A table twice, entry by entry. -/
theorem twice_read (a : FVec Ideal S2048x128 .f32) (r : Fin 4096) (l : Fin 128) : twice a (ix2 r l) = a (ix2 ⟨r % 2048, by omega⟩ l) := by
  unfold twice
  pointwise
  split_ifs <;> (refine congrArg a (congrArg (fun z => ix2 z l) (Fin.ext ?_)); simp only; omega)

/-- The host widens the cosines … -/
theorem entry1 : @Eq (FVec Ideal S4096x128 .f32) (V m c main_v4) (twice (four (arg1 m c) (arg1 m c) (arg3 m c) (arg3 m c))) := rfl
/-- … and the sines, which it negates in the first half of each half. -/
theorem entry2 : @Eq (FVec Ideal S4096x128 .f32) (V m c main_v5) (twice (four (Host.negf (arg2 m c)) (arg2 m c) (Host.negf (arg4 m c)) (arg4 m c))) := rfl

/-- A query's or key's rotation as the reference writes it, by quarters: the sine's term is subtracted in the first half of each half and added in the second. -/
theorem turned_quarters (z : Fin 128 → EReal) (a b c d : FVec Ideal S2048x32 .f32) (t : Fin 2048) (l : Fin 128) :
    (if h1 : (l : ℕ) < 64 then
      if h2 : (l : ℕ) < 32 then z l * a (ix2 t ⟨l, h2⟩) - z ⟨32 + l, by omega⟩ * b (ix2 t ⟨l, h2⟩)
      else z ⟨32 + (l - 32), by omega⟩ * a (ix2 t ⟨l - 32, by omega⟩) + z ⟨l - 32, by omega⟩ * b (ix2 t ⟨l - 32, by omega⟩)
    else
      if h2 : (l : ℕ) - 64 < 32 then z ⟨64 + (l - 64), by omega⟩ * c (ix2 t ⟨l - 64, h2⟩) - z ⟨64 + (32 + (l - 64)), by omega⟩ * d (ix2 t ⟨l - 64, h2⟩)
      else z ⟨64 + (32 + (l - 64 - 32)), by omega⟩ * c (ix2 t ⟨l - 64 - 32, by omega⟩) + z ⟨64 + (l - 64 - 32), by omega⟩ * d (ix2 t ⟨l - 64 - 32, by omega⟩))
    = turned z (quarters a a c c t) (quarters (Host.negf b) b (Host.negf d) d t) l := by
  unfold turned quarters
  split_ifs
  all_goals first | omega | pointwise
  · rw [sub_eq_add_neg, ← mul_neg]
    exact congrArg₂ (· + ·)
      (congrArg₂ (· * ·) (congrArg z (Fin.ext (by show (l : ℕ) = (l : ℕ); omega))) (congrArg a (congrArg (ix2 t) (Fin.ext (by show (l : ℕ) = (l : ℕ) % 32; omega)))))
      (congrArg₂ (· * ·) (congrArg z (Fin.ext (by show 32 + (l : ℕ) = if (l : ℕ) % 64 < 32 then (l : ℕ) + 32 else l - 32; split <;> omega))) (congrArg (fun k => -b (ix2 t k)) (Fin.ext (by show (l : ℕ) = (l : ℕ) % 32; omega))))
  · skip
    exact congrArg₂ (· + ·)
      (congrArg₂ (· * ·) (congrArg z (Fin.ext (by show 32 + ((l : ℕ) - 32) = (l : ℕ); omega))) (congrArg a (congrArg (ix2 t) (Fin.ext (by show (l : ℕ) - 32 = (l : ℕ) % 32; omega)))))
      (congrArg₂ (· * ·) (congrArg z (Fin.ext (by show (l : ℕ) - 32 = if (l : ℕ) % 64 < 32 then (l : ℕ) + 32 else l - 32; split <;> omega))) (congrArg (fun k => b (ix2 t k)) (Fin.ext (by show (l : ℕ) - 32 = (l : ℕ) % 32; omega))))
  · rw [sub_eq_add_neg, ← mul_neg]
    exact congrArg₂ (· + ·)
      (congrArg₂ (· * ·) (congrArg z (Fin.ext (by show 64 + ((l : ℕ) - 64) = (l : ℕ); omega))) (congrArg c (congrArg (ix2 t) (Fin.ext (by show (l : ℕ) - 64 = (l : ℕ) % 32; omega)))))
      (congrArg₂ (· * ·) (congrArg z (Fin.ext (by show 64 + (32 + ((l : ℕ) - 64)) = if (l : ℕ) % 64 < 32 then (l : ℕ) + 32 else l - 32; split <;> omega))) (congrArg (fun k => -d (ix2 t k)) (Fin.ext (by show (l : ℕ) - 64 = (l : ℕ) % 32; omega))))
  · skip
    exact congrArg₂ (· + ·)
      (congrArg₂ (· * ·) (congrArg z (Fin.ext (by show 64 + (32 + ((l : ℕ) - 64 - 32)) = (l : ℕ); omega))) (congrArg c (congrArg (ix2 t) (Fin.ext (by show (l : ℕ) - 64 - 32 = (l : ℕ) % 32; omega)))))
      (congrArg₂ (· * ·) (congrArg z (Fin.ext (by show 64 + ((l : ℕ) - 64 - 32) = if (l : ℕ) % 64 < 32 then (l : ℕ) + 32 else l - 32; split <;> omega))) (congrArg (fun k => d (ix2 t k)) (Fin.ext (by show (l : ℕ) - 64 - 32 = (l : ℕ) % 32; omega))))

/-- The reference's normed queries. -/
theorem queries_normed (x0 : FVec Ideal S4096x1536 .f32) (x5 : FVec Ideal S1x128 .f32) (b : Fin 2) (t : Fin 2048) (h : Fin 8) (l : Fin 128) :
    val_main_v18 (F := Ideal) x0 x5 (ix4 b t h l)
      = normed (fun k => x0 (ix2 ⟨b * 2048 + t, by omega⟩ (lane ⟨h + 0, by omega⟩ k))) (fun k => x5 (ix2 0 k)) l := by
  unfold val_main_v18 val_main_v17 val_main_v16 val_main_v15 val_main_v14 val_main_v13 val_main_v12 val_main_v11 val_main_v10 val_main_v9 val_main_v8 val_main_v7 val_main_v6 val_main_v5 val_main_v4 val_main_v1 val_main_v0 val_main_cst val_main_cst_0 val_main_cst_1 normed lane
  pointwise

/-- The reference's rotated queries of the normed. -/
theorem queries_rotated (x0 : FVec Ideal S4096x1536 .f32) (x1 x2 x3 x4 : FVec Ideal S2048x32 .f32) (x5 : FVec Ideal S1x128 .f32) (b : Fin 2) (t : Fin 2048) (h : Fin 8) (l : Fin 128) :
    val_main_v59 (F := Ideal) x0 x1 x2 x3 x4 x5 (ix4 b t h l)
      = turned (fun k => val_main_v18 (F := Ideal) x0 x5 (ix4 b t h k)) (quarters x1 x1 x3 x3 t) (quarters (Host.negf x2) x2 (Host.negf x4) x4 t) l := by
  refine Eq.trans ?_ (turned_quarters (fun k => val_main_v18 (F := Ideal) x0 x5 (ix4 b t h k)) x1 x2 x3 x4 t l)
  unfold val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19
  generalize val_main_v18 (F := Ideal) x0 x5 = y
  pointwise

/-- The reference's rotated queries, entry by entry. -/
theorem queries_turned (x0 : FVec Ideal S4096x1536 .f32) (x1 x2 x3 x4 : FVec Ideal S2048x32 .f32) (x5 : FVec Ideal S1x128 .f32) (r : Fin 4096) (q : Fin 1024) :
    val_main_v119 (F := Ideal) x0 x1 x2 x3 x4 x5 (ix2 r q)
      = turned (normed (fun k => x0 (ix2 r (lane ⟨(q : ℕ) / 128 + 0, by omega⟩ k))) (fun k => x5 (ix2 0 k))) (quarters x1 x1 x3 x3 ⟨r % 2048, by omega⟩) (quarters (Host.negf x2) x2 (Host.negf x4) x4 ⟨r % 2048, by omega⟩) ⟨q % 128, by omega⟩ := by
  unfold val_main_v119 val_main_v116
  pointwise
  rw [queries_rotated]
  refine congrArg (fun z => turned z _ _ _) (funext fun l => ?_)
  rw [queries_normed]
  refine congrArg (fun u => normed u _ l) (funext fun k => congrArg (fun z => x0 (ix2 z _)) (Fin.ext ?_))
  show (r : ℕ) / 2048 * 2048 + r % 2048 = (r : ℕ)
  omega

/-- The reference's normed keys. -/
theorem keys_normed (x0 : FVec Ideal S4096x1536 .f32) (x6 : FVec Ideal S1x128 .f32) (b : Fin 2) (t : Fin 2048) (h : Fin 2) (l : Fin 128) :
    val_main_v74 (F := Ideal) x0 x6 (ix4 b t h l)
      = normed (fun k => x0 (ix2 ⟨b * 2048 + t, by omega⟩ (lane ⟨h + 8, by omega⟩ k))) (fun k => x6 (ix2 0 k)) l := by
  unfold val_main_v74 val_main_v73 val_main_v72 val_main_v71 val_main_v70 val_main_v69 val_main_v68 val_main_v67 val_main_v66 val_main_v65 val_main_v64 val_main_v63 val_main_v62 val_main_v61 val_main_v60 val_main_v2 val_main_v0 val_main_cst_2 val_main_cst_3 val_main_cst_4 normed lane
  pointwise
  have e : ∀ k : ℕ, 1024 + ((h : ℕ) * 128 + k) = (h + 8) * 128 + k := fun k => by omega
  simp only [e]

/-- The reference's rotated keys of the normed. -/
theorem keys_rotated (x0 : FVec Ideal S4096x1536 .f32) (x1 x2 x3 x4 : FVec Ideal S2048x32 .f32) (x6 : FVec Ideal S1x128 .f32) (b : Fin 2) (t : Fin 2048) (h : Fin 2) (l : Fin 128) :
    val_main_v115 (F := Ideal) x0 x1 x2 x3 x4 x6 (ix4 b t h l)
      = turned (fun k => val_main_v74 (F := Ideal) x0 x6 (ix4 b t h k)) (quarters x1 x1 x3 x3 t) (quarters (Host.negf x2) x2 (Host.negf x4) x4 t) l := by
  refine Eq.trans ?_ (turned_quarters (fun k => val_main_v74 (F := Ideal) x0 x6 (ix4 b t h k)) x1 x2 x3 x4 t l)
  unfold val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75
  generalize val_main_v74 (F := Ideal) x0 x6 = y
  pointwise

/-- The reference's rotated keys, entry by entry. -/
theorem keys_turned (x0 : FVec Ideal S4096x1536 .f32) (x1 x2 x3 x4 : FVec Ideal S2048x32 .f32) (x6 : FVec Ideal S1x128 .f32) (r : Fin 4096) (q : Fin 256) :
    val_main_v120 (F := Ideal) x0 x1 x2 x3 x4 x6 (ix2 r q)
      = turned (normed (fun k => x0 (ix2 r (lane ⟨(q : ℕ) / 128 + 8, by omega⟩ k))) (fun k => x6 (ix2 0 k))) (quarters x1 x1 x3 x3 ⟨r % 2048, by omega⟩) (quarters (Host.negf x2) x2 (Host.negf x4) x4 ⟨r % 2048, by omega⟩) ⟨q % 128, by omega⟩ := by
  unfold val_main_v120 val_main_v117
  pointwise
  rw [keys_rotated]
  refine congrArg (fun z => turned z _ _ _) (funext fun l => ?_)
  rw [keys_normed]
  refine congrArg (fun u => normed u _ l) (funext fun k => congrArg (fun z => x0 (ix2 z _)) (Fin.ext ?_))
  show (r : ℕ) / 2048 * 2048 + r % 2048 = (r : ℕ)
  omega

variable (i : Fin 8) (j : Fin 1)

/-- The projections' block holds their rows. -/
theorem block0 (r : Fin 512) (k : Fin 1536) : (show FVec Ideal S512x1536 .f32 from iblk m c 0 (point i j)) (ix2 r k) = arg0 m c (ix2 (row i r) k) := by
  refine Eq.trans (?_ : _ = V m c main_arg0 (ix2 (row i r) k)) (congrFun (V_main_arg0 m c) (ix2 (row i r) k))
  exact congrArg (V m c main_arg0) (ix2_of (at_row 512 r (index0 i j).1) (at_zero 1536 k (index0 i j).2))

/-- The cosines' block holds their rows. -/
theorem block1 (r : Fin 512) (l : Fin 128) : (show FVec Ideal S512x128 .f32 from iblk m c 1 (point i j)) (ix2 r l) = quarters (arg1 m c) (arg1 m c) (arg3 m c) (arg3 m c) ⟨(row i r : ℕ) % 2048, by omega⟩ l := by
  refine Eq.trans (?_ : _ = V m c main_v4 (ix2 (row i r) l)) ((congrFun (entry1 m c) _).trans ((twice_read _ _ _).trans (four_read _ _ _ _ _ _)))
  exact congrArg (V m c main_v4) (ix2_of (at_row 512 r (index1 i j).1) (at_zero 128 l (index1 i j).2))

/-- The sines' block holds their rows. -/
theorem block2 (r : Fin 512) (l : Fin 128) : (show FVec Ideal S512x128 .f32 from iblk m c 2 (point i j)) (ix2 r l) = quarters (Host.negf (arg2 m c)) (arg2 m c) (Host.negf (arg4 m c)) (arg4 m c) ⟨(row i r : ℕ) % 2048, by omega⟩ l := by
  refine Eq.trans (?_ : _ = V m c main_v5 (ix2 (row i r) l)) ((congrFun (entry2 m c) _).trans ((twice_read _ _ _).trans (four_read _ _ _ _ _ _)))
  exact congrArg (V m c main_v5) (ix2_of (at_row 512 r (index2 i j).1) (at_zero 128 l (index2 i j).2))

/-- The queries' gain's block holds it whole. -/
theorem block3 (t : Fin 1) (k : Fin 128) : (show FVec Ideal S1x128 .f32 from iblk m c 3 (point i j)) (ix2 t k) = arg5 m c (ix2 t k) := by
  refine Eq.trans (?_ : _ = V m c main_arg5 (ix2 t k)) (congrFun (V_main_arg5 m c) (ix2 t k))
  exact congrArg (V m c main_arg5) (ix2_of (at_zero 1 t (index3 i j).1) (at_zero 128 k (index3 i j).2))

/-- The keys' gain's block holds it whole. -/
theorem block4 (t : Fin 1) (k : Fin 128) : (show FVec Ideal S1x128 .f32 from iblk m c 4 (point i j)) (ix2 t k) = arg6 m c (ix2 t k) := by
  refine Eq.trans (?_ : _ = V m c main_arg6 (ix2 t k)) (congrFun (V_main_arg6 m c) (ix2 t k))
  exact congrArg (V m c main_arg6) (ix2_of (at_zero 1 t (index4 i j).1) (at_zero 128 k (index4 i j).2))

/-- The rotated queries, entry by entry. -/
theorem array5 (i : Fin 8) (j : Fin 1) (r : Fin 512) (q : Fin 1024) : (show FVec Ideal S4096x1024 .bf16 from (dats m 0 c).arrAt 5 cfg0.N) (ix2 (row i r) q)
    = turned (normed (fun k => arg0 m c (ix2 (row i r) (lane ⟨(q : ℕ) / 128 + 0, by omega⟩ k))) (fun k => arg5 m c (ix2 0 k))) (quarters (arg1 m c) (arg1 m c) (arg3 m c) (arg3 m c) ⟨(row i r : ℕ) % 2048, by omega⟩) (quarters (Host.negf (arg2 m c)) (arg2 m c) (Host.negf (arg4 m c)) (arg4 m c) ⟨(row i r : ℕ) % 2048, by omega⟩) ⟨q % 128, by omega⟩ := by
  have e := congrFun (Value.blocks5 m c (point i j) (flush0_5 _)) (ix2 r q)
  rw [View.read_apply, Value.flushed5] at e
  have t := tile5 (iblk m c 0 (point i j)) (iblk m c 1 (point i j)) (iblk m c 2 (point i j)) (iblk m c 3 (point i j)) (iblk m c 4 (point i j)) r ⟨q / 128, by omega⟩ ⟨q % 128, by omega⟩ q (by show (q : ℕ) = q / 128 * 128 + q % 128; omega)
  rw [show (fun k => (show FVec Ideal S512x1536 .f32 from iblk m c 0 (point i j)) (ix2 r (lane ⟨(q : ℕ) / 128 + 0, by omega⟩ k))) = fun k => arg0 m c (ix2 (row i r) (lane ⟨(q : ℕ) / 128 + 0, by omega⟩ k)) from funext fun k => block0 m c i j r _,
    show (fun k => (show FVec Ideal S512x128 .f32 from iblk m c 1 (point i j)) (ix2 r k)) = _ from funext fun k => block1 m c i j r k,
    show (fun k => (show FVec Ideal S512x128 .f32 from iblk m c 2 (point i j)) (ix2 r k)) = _ from funext fun k => block2 m c i j r k,
    show (fun k => (show FVec Ideal S1x128 .f32 from iblk m c 3 (point i j)) (ix2 0 k)) = _ from funext fun k => block3 m c i j 0 k] at t
  refine Eq.trans ?_ t
  refine Eq.trans ?_ e
  show (dats m 0 c).arrAt 5 cfg0.N _ = (dats m 0 c).arrAt 5 cfg0.N _
  refine congrArg ((dats m 0 c).arrAt 5 cfg0.N) (funext fun a => Fin.ext ?_)
  match a with
  | ⟨0, _⟩ => show (i : ℕ) * 512 + (r : ℕ) = win0_5.index (point i j) 0 * 512 + 1 * (r : ℕ); rw [(index5 i j).1]; omega
  | ⟨1, _⟩ => show (q : ℕ) = win0_5.index (point i j) 1 * 1024 + 1 * (q : ℕ); rw [(index5 i j).2]; omega

/-- The rotated keys, entry by entry. -/
theorem array6 (i : Fin 8) (j : Fin 1) (r : Fin 512) (q : Fin 256) : (show FVec Ideal S4096x256 .bf16 from (dats m 0 c).arrAt 6 cfg0.N) (ix2 (row i r) q)
    = turned (normed (fun k => arg0 m c (ix2 (row i r) (lane ⟨(q : ℕ) / 128 + 8, by omega⟩ k))) (fun k => arg6 m c (ix2 0 k))) (quarters (arg1 m c) (arg1 m c) (arg3 m c) (arg3 m c) ⟨(row i r : ℕ) % 2048, by omega⟩) (quarters (Host.negf (arg2 m c)) (arg2 m c) (Host.negf (arg4 m c)) (arg4 m c) ⟨(row i r : ℕ) % 2048, by omega⟩) ⟨q % 128, by omega⟩ := by
  have e := congrFun (Value.blocks6 m c (point i j) (flush0_6 _)) (ix2 r q)
  rw [View.read_apply, Value.flushed6] at e
  have t := tile6 (iblk m c 0 (point i j)) (iblk m c 1 (point i j)) (iblk m c 2 (point i j)) (iblk m c 3 (point i j)) (iblk m c 4 (point i j)) r ⟨q / 128, by omega⟩ ⟨q % 128, by omega⟩ q (by show (q : ℕ) = q / 128 * 128 + q % 128; omega)
  rw [show (fun k => (show FVec Ideal S512x1536 .f32 from iblk m c 0 (point i j)) (ix2 r (lane ⟨(q : ℕ) / 128 + 8, by omega⟩ k))) = fun k => arg0 m c (ix2 (row i r) (lane ⟨(q : ℕ) / 128 + 8, by omega⟩ k)) from funext fun k => block0 m c i j r _,
    show (fun k => (show FVec Ideal S512x128 .f32 from iblk m c 1 (point i j)) (ix2 r k)) = _ from funext fun k => block1 m c i j r k,
    show (fun k => (show FVec Ideal S512x128 .f32 from iblk m c 2 (point i j)) (ix2 r k)) = _ from funext fun k => block2 m c i j r k,
    show (fun k => (show FVec Ideal S1x128 .f32 from iblk m c 4 (point i j)) (ix2 0 k)) = _ from funext fun k => block4 m c i j 0 k] at t
  refine Eq.trans ?_ t
  refine Eq.trans ?_ e
  show (dats m 0 c).arrAt 6 cfg0.N _ = (dats m 0 c).arrAt 6 cfg0.N _
  refine congrArg ((dats m 0 c).arrAt 6 cfg0.N) (funext fun a => Fin.ext ?_)
  match a with
  | ⟨0, _⟩ => show (i : ℕ) * 512 + (r : ℕ) = win0_6.index (point i j) 0 * 512 + 1 * (r : ℕ); rw [(index6 i j).1]; omega
  | ⟨1, _⟩ => show (q : ℕ) = win0_6.index (point i j) 1 * 256 + 1 * (q : ℕ); rw [(index6 i j).2]; omega

/-- The values, entry by entry. -/
theorem array7 (i : Fin 8) (j : Fin 1) (r : Fin 512) (q : Fin 256) : (show FVec Ideal S4096x256 .bf16 from (dats m 0 c).arrAt 7 cfg0.N) (ix2 (row i r) q)
    = arg0 m c (ix2 (row i r) ⟨1280 + q, by omega⟩) := by
  have e := congrFun (Value.blocks7 m c (point i j) (flush0_7 _)) (ix2 r q)
  rw [View.read_apply, Value.flushed7] at e
  have t := (tile7 (iblk m c 0 (point i j)) (iblk m c 1 (point i j)) (iblk m c 2 (point i j)) (iblk m c 3 (point i j)) (iblk m c 4 (point i j)) r q).trans (block0 m c i j r _)
  refine Eq.trans ?_ t
  refine Eq.trans ?_ e
  show (dats m 0 c).arrAt 7 cfg0.N _ = (dats m 0 c).arrAt 7 cfg0.N _
  refine congrArg ((dats m 0 c).arrAt 7 cfg0.N) (funext fun a => Fin.ext ?_)
  match a with
  | ⟨0, _⟩ => show (i : ℕ) * 512 + (r : ℕ) = win0_7.index (point i j) 0 * 512 + 1 * (r : ℕ); rw [(index7 i j).1]; omega
  | ⟨1, _⟩ => show (q : ℕ) = win0_7.index (point i j) 1 * 256 + 1 * (q : ℕ); rw [(index7 i j).2]; omega

/-- The reference's values, entry by entry. -/
theorem values (x0 : FVec Ideal S4096x1536 .f32) (r : Fin 4096) (q : Fin 256) :
    val_main_v121 (F := Ideal) x0 (ix2 r q) = x0 (ix2 r ⟨1280 + q, by omega⟩) := by
  unfold val_main_v121 val_main_v118 val_main_v3 val_main_v0
  pointwise

/-- The reference's rotated queries are the kernel's first result array, … -/
theorem agree5 (x0 : FVec Ideal S4096x1536 .f32) (x1 x2 x3 x4 : FVec Ideal S2048x32 .f32) (x5 : FVec Ideal S1x128 .f32)
    (h0 : x0 = arg0 m c) (h1 : x1 = arg1 m c) (h2 : x2 = arg2 m c) (h3 : x3 = arg3 m c) (h4 : x4 = arg4 m c) (h5 : x5 = arg5 m c) :
    val_main_v119 (F := Ideal) x0 x1 x2 x3 x4 x5 = (show FVec Ideal S4096x1024 .bf16 from (dats m 0 c).arrAt 5 cfg0.N) := by
  funext ij
  rw [← ix2_eta ij]
  obtain ⟨i, r, hr⟩ := row_surj (ij 0)
  rw [← hr]
  subst h0 h1 h2 h3 h4 h5
  exact (queries_turned _ _ _ _ _ _ (row i r) (ij 1)).trans (array5 m c i 0 r (ij 1)).symm
/-- … the rotated keys the second … -/
theorem agree6 (x0 : FVec Ideal S4096x1536 .f32) (x1 x2 x3 x4 : FVec Ideal S2048x32 .f32) (x6 : FVec Ideal S1x128 .f32)
    (h0 : x0 = arg0 m c) (h1 : x1 = arg1 m c) (h2 : x2 = arg2 m c) (h3 : x3 = arg3 m c) (h4 : x4 = arg4 m c) (h6 : x6 = arg6 m c) :
    val_main_v120 (F := Ideal) x0 x1 x2 x3 x4 x6 = (show FVec Ideal S4096x256 .bf16 from (dats m 0 c).arrAt 6 cfg0.N) := by
  funext ij
  rw [← ix2_eta ij]
  obtain ⟨i, r, hr⟩ := row_surj (ij 0)
  rw [← hr]
  subst h0 h1 h2 h3 h4 h6
  exact (keys_turned _ _ _ _ _ _ (row i r) (ij 1)).trans (array6 m c i 0 r (ij 1)).symm
/-- … and the values the third. -/
theorem agree7 (x0 : FVec Ideal S4096x1536 .f32) (h0 : x0 = arg0 m c) :
    val_main_v121 (F := Ideal) x0 = (show FVec Ideal S4096x256 .bf16 from (dats m 0 c).arrAt 7 cfg0.N) := by
  funext ij
  rw [← ix2_eta ij]
  obtain ⟨i, r, hr⟩ := row_surj (ij 0)
  rw [← hr]
  subst h0
  exact (values _ (row i r) (ij 1)).trans (array7 m c i 0 r (ij 1)).symm

end Cert.Kernel21Ideal.Tile

end

end
-- ==== Proof.HeadMath.lean ====
/- The gradient through the norm of one query or key of 128 lanes: the kernel's form, which subtracts the projection on the
   normed row, is the derivative's, which sums three terms, for all extended reals. -/
module

public import proofs.«01_k».proof.Proof.NormMath

@[expose] public section

noncomputable section

namespace Cert.HeadMath

open Idealize.ShloMosaic
open Cert.NormMath (coe_sum half small rsqrt_pos mul_add mul_sum add_self)

/-- The row's length, as the programs write it. -/
theorem width : Ideal.ofBits .f32 0x43000000#32 = ((128 : ℝ) : EReal) := by
  simp [Ideal.ofBits, Ideal.ieee, -EReal.coe_mul]; norm_num
/-- The norm's mean square, as both programs compute it. -/
def mean (X : Fin 128 → EReal) : EReal := Ideal.div (∑ k, X k * X k) (Ideal.ofBits .f32 0x43000000#32) + Ideal.ofBits .f32 0x358637BD#32

/-- Of a real row it is a positive real. -/
theorem mean_real {X : Fin 128 → EReal} {x : Fin 128 → ℝ} (hX : ∀ k, X k = (x k : EReal)) : ∃ v : ℝ, 0 < v ∧ mean X = (v : EReal) := by
  obtain ⟨e, he, hs⟩ := small
  refine ⟨(∑ k, x k * x k) * (1 / 128) + e, add_pos_of_nonneg_of_pos (mul_nonneg (Finset.sum_nonneg fun k _ => mul_self_nonneg _) (by norm_num)) he, ?_⟩
  unfold mean
  rw [width, Ideal.div_coe (by norm_num), hs]
  simp only [hX]
  push_cast [coe_sum]
  rfl

/-- A row that is not real has the mean square `⊤`. -/
theorem mean_top {X : Fin 128 → EReal} {k : Fin 128} (h : X k = ⊥ ∨ X k = ⊤) : mean X = ⊤ := by
  have hk : X k * X k = ⊤ := by rcases h with h | h <;> rw [h] <;> rfl
  have hs : ∑ k, X k * X k = ⊤ := by
    refine top_le_iff.1 (hk ▸ Finset.single_le_sum (f := fun k => X k * X k) (fun k _ => ?_) (Finset.mem_univ k))
    induction X k using EReal.rec with
    | bot => decide
    | top => decide
    | coe r => exact EReal.coe_nonneg.2 (mul_self_nonneg r)
  obtain ⟨e, he, h⟩ := small
  unfold mean
  rw [hs, width, Ideal.div_coe (by norm_num), EReal.top_mul_coe_of_pos (by norm_num), h, EReal.top_add_coe]

/-- The kernel's form of the gradient, from the row `X`, the gradient `D` of its normed and scaled values and the gain `G`. -/
def kernelForm (X D G : Fin 128 → EReal) (s : Fin 128) : EReal :=
  Ideal.rsqrt (mean X) * (D s * G s - X s * Ideal.rsqrt (mean X)
    * Ideal.div (∑ k, D k * G k * (X k * Ideal.rsqrt (mean X))) (Ideal.ofBits .f32 0x43000000#32))

/-- The derivative's factor of the row. -/
def factor (X D G : Fin 128 → EReal) : EReal :=
  Ideal.div ((∑ k, X k * (D k * G k)) * (Ideal.ofBits .f32 0xBF000000#32 * Ideal.div (Ideal.rsqrt (mean X)) (mean X))) (Ideal.ofBits .f32 0x43000000#32)

/-- The derivative's form. -/
def derivForm (X D G : Fin 128 → EReal) (s : Fin 128) : EReal :=
  D s * G s * Ideal.rsqrt (mean X) + X s * factor X D G + factor X D G * X s

/-- The two forms agree. -/
theorem forms (X D G : Fin 128 → EReal) (s : Fin 128) : derivForm X D G s = kernelForm X D G s := by
  by_cases hX : ∀ k, ∃ x : ℝ, X k = (x : EReal)
  · choose x hx using hX
    obtain ⟨v, hv, e⟩ := mean_real hx
    have hr : (Real.sqrt v)⁻¹ * (Real.sqrt v)⁻¹ = 1 / v := by
      rw [← mul_inv, Real.mul_self_sqrt hv.le, one_div]
    have h0 : 0 ≤ (Real.sqrt v)⁻¹ := inv_nonneg.2 (Real.sqrt_nonneg v)
    unfold derivForm kernelForm factor
    rw [e, rsqrt_pos hv, width, half, Ideal.div_coe hv.ne', Ideal.div_coe (by norm_num), Ideal.div_coe (by norm_num)]
    generalize (Real.sqrt v)⁻¹ = r at hr h0 ⊢
    have hS : ∑ k, D k * G k * (X k * (r : EReal)) = (r : EReal) * ∑ k, X k * (D k * G k) := by
      rw [mul_sum h0]
      exact Finset.sum_congr rfl fun k _ => by ac_rfl
    rw [hS, hx s]
    generalize ∑ k, X k * (D k * G k) = S
    generalize D s * G s = A
    have hB : (x s : EReal) * (S * (((-(1 / 2) : ℝ) : EReal) * ((r : EReal) * ((1 / v : ℝ) : EReal))) * ((1 / 128 : ℝ) : EReal))
        = S * ((x s * (-(1 / 2) * (r * (1 / v)) * (1 / 128)) : ℝ) : EReal) := by
      push_cast
      ac_rfl
    have hC : (x s : EReal) * r * ((r : EReal) * S * ((1 / 128 : ℝ) : EReal)) = S * ((x s * (r * r) * (1 / 128) : ℝ) : EReal) := by
      push_cast
      ac_rfl
    rw [mul_comm _ (x s : EReal), hB, hC, add_assoc, add_self, mul_assoc S, ← EReal.coe_mul, sub_eq_add_neg, ← mul_neg, ← EReal.coe_neg, mul_add h0,
      mul_left_comm _ S, ← EReal.coe_mul, hr, mul_comm A]
    congr 3
    ring
  · obtain ⟨k, hk⟩ := not_forall.1 hX
    have h : mean X = ⊤ := mean_top (k := k) (by
      generalize X k = a at hk ⊢
      induction a using EReal.rec with
      | bot => exact .inl rfl
      | top => exact .inr rfl
      | coe r => exact absurd ⟨r, rfl⟩ hk)
    unfold derivForm kernelForm factor
    rw [h, Ideal.rsqrt_top, width]
    simp [Ideal.div]

end Cert.HeadMath

end

end
-- ==== Proof.TurnBackRead.lean ====
/- What one grid point of the gradient of the queries' and keys' norm and rotation (`Kernel22`) leaves in its three blocks, read
   entry by entry. -/
module

public import proofs.«01_k».proof.Proof.Gen.Kernel22Ideal.Value
public import Idealize.ShloMosaic.Lib.Pointwise
public import Idealize.ShloMosaic.Lib.Pipeline.ValueKit.Tiles
public import Idealize.ShloMosaic.Lib.Claim
public import proofs.«01_k».proof.Proof.TurnRead
public import proofs.«01_k».proof.Proof.HeadMath

@[expose] public section

noncomputable section

namespace Cert.Kernel22Ideal.Stored

open Cert.Kernel22Ideal Cert.Kernel22Ideal.Gen Idealize.ShloMosaic Idealize.ShloMosaic.TcCoe Idealize.SL.Sem
open Cert.Kernel21Ideal.Tile (other choose lane)
open Cert.HeadMath

/-- The rectangles start at the origin. -/
theorem hz : (![0, 0] : Fin 2 → Nat) = fun _ => 0 := funext fun a => by fin_cases a <;> rfl

section

variable {F : FTy → Type} [FloatOps F]

/-- The gradient of a head `x`, from the gradient `dy` of the rotated head, the tables `c` and `s` and the gain `g`. -/
abbrev grad (x dy c s : Vec F S512x128 .f32) (g : Vec F S1x128 .f32) : FVec F S512x128 .bf16 :=
  k0_pay13 (k0_pay4 s) g dy (k0_pay5 x) (k0_pay6 x) (k0_pay7 c dy) k0_pay8 k0_pay9 k0_pay10
/-- A head's share of its gain's gradient, added to what was there. -/
abbrev gain (x dy c s : Vec F S512x128 .f32) (a : Vec F S1x128 .f32) : FVec F S1x128 .f32 :=
  k0_pay12 (k0_pay4 s) dy (k0_pay6 x) (k0_pay7 c dy) k0_pay8 k0_pay9 k0_pay10 a

variable (c : Dev nD) (i : grid0.Coords) (arg1 : Memref sig .tc .vmem S512x1536 .f32) (harg1 : arg1.IsWhole) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x1536 .bf16) (harg9 : arg9.IsWhole) (arg10 : Memref sig .tc .vmem S1x128 .f32) (harg10 : arg10.IsWhole) (arg11 : Memref sig .tc .vmem S1x128 .f32) (harg11 : arg11.IsWhole)
  (x0 : Vec F S512x1536 .f32) (x1 : Vec F S512x1024 .f32) (x2 : Vec F S512x256 .f32) (x3 : Vec F S512x256 .f32) (x4 : Vec F S512x128 .f32) (x5 : Vec F S512x128 .f32) (x6 : Vec F S1x128 .f32) (x7 : Vec F S1x128 .f32) (xo9 xo10 : Vec F S1x128 .f32)

/-- The pieces of the projections' gradient. -/
def pieces : List (View.Piece (Elt F) S512x1536 .bf16) :=
  [⟨Rect.unit (s := S512x1536) ![0, 1280] ![512, 256] inb_S512x1536_S512x256_0_1280, k0_pay78 x3⟩,
    ⟨Rect.unit (s := S512x1536) ![0, 1152] S512x128.size inb_S512x1536_S512x128_0_1152, grad (View.ld x0 (Rect.unit (s := S512x1536) ![0, 1152] S512x128.size inb_S512x1536_S512x128_0_1152)) (View.ld x2 (Rect.unit (s := S512x256) ![0, 128] S512x128.size inb_S512x256_S512x128_0_128)) x4 x5 x7⟩,
    ⟨Rect.unit (s := S512x1536) ![0, 1024] S512x128.size inb_S512x1536_S512x128_0_1024, grad (View.ld x0 (Rect.unit (s := S512x1536) ![0, 1024] S512x128.size inb_S512x1536_S512x128_0_1024)) (View.ld x2 (Rect.unit (s := S512x256) ![0, 0] S512x128.size inb_S512x256_S512x128_0_0)) x4 x5 x7⟩,
    ⟨Rect.unit (s := S512x1536) ![0, 896] S512x128.size inb_S512x1536_S512x128_0_896, grad (View.ld x0 (Rect.unit (s := S512x1536) ![0, 896] S512x128.size inb_S512x1536_S512x128_0_896)) (View.ld x1 (Rect.unit (s := S512x1024) ![0, 896] S512x128.size inb_S512x1024_S512x128_0_896)) x4 x5 x6⟩,
    ⟨Rect.unit (s := S512x1536) ![0, 768] S512x128.size inb_S512x1536_S512x128_0_768, grad (View.ld x0 (Rect.unit (s := S512x1536) ![0, 768] S512x128.size inb_S512x1536_S512x128_0_768)) (View.ld x1 (Rect.unit (s := S512x1024) ![0, 768] S512x128.size inb_S512x1024_S512x128_0_768)) x4 x5 x6⟩,
    ⟨Rect.unit (s := S512x1536) ![0, 640] S512x128.size inb_S512x1536_S512x128_0_640, grad (View.ld x0 (Rect.unit (s := S512x1536) ![0, 640] S512x128.size inb_S512x1536_S512x128_0_640)) (View.ld x1 (Rect.unit (s := S512x1024) ![0, 640] S512x128.size inb_S512x1024_S512x128_0_640)) x4 x5 x6⟩,
    ⟨Rect.unit (s := S512x1536) ![0, 512] S512x128.size inb_S512x1536_S512x128_0_512, grad (View.ld x0 (Rect.unit (s := S512x1536) ![0, 512] S512x128.size inb_S512x1536_S512x128_0_512)) (View.ld x1 (Rect.unit (s := S512x1024) ![0, 512] S512x128.size inb_S512x1024_S512x128_0_512)) x4 x5 x6⟩,
    ⟨Rect.unit (s := S512x1536) ![0, 384] S512x128.size inb_S512x1536_S512x128_0_384, grad (View.ld x0 (Rect.unit (s := S512x1536) ![0, 384] S512x128.size inb_S512x1536_S512x128_0_384)) (View.ld x1 (Rect.unit (s := S512x1024) ![0, 384] S512x128.size inb_S512x1024_S512x128_0_384)) x4 x5 x6⟩,
    ⟨Rect.unit (s := S512x1536) ![0, 256] S512x128.size inb_S512x1536_S512x128_0_256, grad (View.ld x0 (Rect.unit (s := S512x1536) ![0, 256] S512x128.size inb_S512x1536_S512x128_0_256)) (View.ld x1 (Rect.unit (s := S512x1024) ![0, 256] S512x128.size inb_S512x1024_S512x128_0_256)) x4 x5 x6⟩,
    ⟨Rect.unit (s := S512x1536) ![0, 128] S512x128.size inb_S512x1536_S512x128_0_128, grad (View.ld x0 (Rect.unit (s := S512x1536) ![0, 128] S512x128.size inb_S512x1536_S512x128_0_128)) (View.ld x1 (Rect.unit (s := S512x1024) ![0, 128] S512x128.size inb_S512x1024_S512x128_0_128)) x4 x5 x6⟩,
    ⟨Rect.unit (s := S512x1536) ![0, 0] S512x128.size inb_S512x1536_S512x128_0_0, grad (View.ld x0 (Rect.unit (s := S512x1536) ![0, 0] S512x128.size inb_S512x1536_S512x128_0_0)) (View.ld x1 (Rect.unit (s := S512x1024) ![0, 0] S512x128.size inb_S512x1024_S512x128_0_0)) x4 x5 x6⟩]

/-- They cover the block. -/
theorem cover (y : S512x1536.Idx) : ∃ pc ∈ pieces x0 x1 x2 x3 x4 x5 x6 x7, y ∈ pc.1.set :=
  View.cover_of_tiledBy (pieces x0 x1 x2 x3 x4 x5 x6 x7) ![512, 128] (by sl_kernel_rfl) y

/-- The queries' gain's gradient. -/
abbrev gains9 (a : Vec F S1x128 .f32) : Vec F S1x128 .f32 :=
  (gain (View.ld x0 (Rect.unit (s := S512x1536) ![0, 896] S512x128.size inb_S512x1536_S512x128_0_896)) (View.ld x1 (Rect.unit (s := S512x1024) ![0, 896] S512x128.size inb_S512x1024_S512x128_0_896)) x4 x5 (gain (View.ld x0 (Rect.unit (s := S512x1536) ![0, 768] S512x128.size inb_S512x1536_S512x128_0_768)) (View.ld x1 (Rect.unit (s := S512x1024) ![0, 768] S512x128.size inb_S512x1024_S512x128_0_768)) x4 x5 (gain (View.ld x0 (Rect.unit (s := S512x1536) ![0, 640] S512x128.size inb_S512x1536_S512x128_0_640)) (View.ld x1 (Rect.unit (s := S512x1024) ![0, 640] S512x128.size inb_S512x1024_S512x128_0_640)) x4 x5 (gain (View.ld x0 (Rect.unit (s := S512x1536) ![0, 512] S512x128.size inb_S512x1536_S512x128_0_512)) (View.ld x1 (Rect.unit (s := S512x1024) ![0, 512] S512x128.size inb_S512x1024_S512x128_0_512)) x4 x5 (gain (View.ld x0 (Rect.unit (s := S512x1536) ![0, 384] S512x128.size inb_S512x1536_S512x128_0_384)) (View.ld x1 (Rect.unit (s := S512x1024) ![0, 384] S512x128.size inb_S512x1024_S512x128_0_384)) x4 x5 (gain (View.ld x0 (Rect.unit (s := S512x1536) ![0, 256] S512x128.size inb_S512x1536_S512x128_0_256)) (View.ld x1 (Rect.unit (s := S512x1024) ![0, 256] S512x128.size inb_S512x1024_S512x128_0_256)) x4 x5 (gain (View.ld x0 (Rect.unit (s := S512x1536) ![0, 128] S512x128.size inb_S512x1536_S512x128_0_128)) (View.ld x1 (Rect.unit (s := S512x1024) ![0, 128] S512x128.size inb_S512x1024_S512x128_0_128)) x4 x5 (gain (View.ld x0 (Rect.unit (s := S512x1536) ![0, 0] S512x128.size inb_S512x1536_S512x128_0_0)) (View.ld x1 (Rect.unit (s := S512x1024) ![0, 0] S512x128.size inb_S512x1024_S512x128_0_0)) x4 x5 a))))))))
/-- The keys' gain's gradient. -/
abbrev gains10 (a : Vec F S1x128 .f32) : Vec F S1x128 .f32 :=
  (gain (View.ld x0 (Rect.unit (s := S512x1536) ![0, 1152] S512x128.size inb_S512x1536_S512x128_0_1152)) (View.ld x2 (Rect.unit (s := S512x256) ![0, 128] S512x128.size inb_S512x256_S512x128_0_128)) x4 x5 (gain (View.ld x0 (Rect.unit (s := S512x1536) ![0, 1024] S512x128.size inb_S512x1536_S512x128_0_1024)) (View.ld x2 (Rect.unit (s := S512x256) ![0, 0] S512x128.size inb_S512x256_S512x128_0_0)) x4 x5 a))

/-- The projections' gradient at the first point. -/
theorem out_A_8 (hc0 : cond0_0 i) : out0_A_8 c i arg1 harg1 arg2 harg2 arg3 harg3 arg4 harg4 arg5 harg5 arg6 harg6 arg7 harg7 arg8 harg8 arg9 harg9 arg10 harg10 arg11 harg11 hc0 x0 x1 x2 x3 x4 x5 x6 x7 = View.canon (pieces x0 x1 x2 x3 x4 x5 x6 x7) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread, harg11.read_unread, View.ld_unit_zero (S := S512x128) hz, View.ld_unit_zero (S := S512x256) hz, View.ld_unit_zero (S := S1x128) hz, View.readCov_cons_toLoadRect]
  rfl

/-- The projections' gradient at a later point. -/
theorem out_B_8 (hc0 : ¬cond0_0 i) : out0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 = View.canon (pieces x0 x1 x2 x3 x4 x5 x6 x7) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10)]
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread, View.ld_unit_zero (S := S512x128) hz, View.ld_unit_zero (S := S512x256) hz, View.ld_unit_zero (S := S1x128) hz, View.readCov_cons_toLoadRect]
  rfl

/-- The queries' gain's gradient at the first point. -/
theorem out_A_9 (hc0 : cond0_0 i) : out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 = gains9 x0 x1 x4 x5 k0_pay1 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg10.read_unread, harg11.read_unread, View.ld_unit_zero (S := S512x128) hz, View.ld_unit_zero (S := S512x256) hz, View.ld_unit_zero (S := S1x128) hz, View.readCov_cons_toLoadRect]
  rfl

/-- The queries' gain's gradient at a later point. -/
theorem out_B_9 (hc0 : ¬cond0_0 i) : out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 = gains9 x0 x1 x4 x5 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10)]
  unfold kernelRun0_B
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg10.read_unread, harg11.read_unread, View.ld_unit_zero (S := S512x128) hz, View.ld_unit_zero (S := S512x256) hz, View.ld_unit_zero (S := S1x128) hz, View.readCov_cons_toLoadRect]
  rfl

/-- The keys' gain's gradient at the first point. -/
theorem out_A_10 (hc0 : cond0_0 i) : out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 = gains10 x0 x2 x4 x5 k0_pay2 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg10.read_unread, harg11.read_unread, View.ld_unit_zero (S := S512x128) hz, View.ld_unit_zero (S := S512x256) hz, View.ld_unit_zero (S := S1x128) hz, View.readCov_cons_toLoadRect]
  rfl

/-- The keys' gain's gradient at a later point. -/
theorem out_B_10 (hc0 : ¬cond0_0 i) : out0_B_10 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 = gains10 x0 x2 x4 x5 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10)]
  unfold kernelRun0_B
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg10.read_unread, harg11.read_unread, View.ld_unit_zero (S := S512x128) hz, View.ld_unit_zero (S := S512x256) hz, View.ld_unit_zero (S := S1x128) hz, View.readCov_cons_toLoadRect]
  rfl

end

/-- A rotated head's gradient `z` rotated back, by the wide tables `c` and `s`. -/
def back (z c s : Fin 128 → EReal) (l : Fin 128) : EReal := z l * c l - z (other l) * s l

/-- A head's gradient, in the kernel's form. -/
def headForm (X dy C S G : Fin 128 → EReal) (l : Fin 128) : EReal := kernelForm X (back dy C S) G l

/-- A head's share of the gain's gradient. -/
def headShare (X dy C S : Fin 128 → EReal) (l : Fin 128) : EReal := back dy C S l * (X l * Ideal.rsqrt (mean X))

/-- The mask of the first halves. -/
theorem mask (r : Fin 512) (l : Fin 128) : cmpi .slt (select k0_pay9 k0_pay10 k0_pay8) (broadcast S512x128 32#32) (ix2 r l) = if (l : ℕ) % 64 < 32 then 1#1 else 0#1 := by
  unfold k0_pay9 k0_pay10 k0_pay8
  pointwise
  revert l
  decide +kernel

/-- The head rotated back. -/
theorem back_read (dy c s : FVec Ideal S512x128 .f32) (r : Fin 512) (l : Fin 128) :
    k0_pay11 (F := Ideal) (k0_pay4 s) dy (k0_pay7 c dy) k0_pay8 k0_pay9 k0_pay10 (ix2 r l) = back (fun k => dy (ix2 r k)) (fun k => c (ix2 r k)) (fun k => s (ix2 r k)) l := by
  have hm := mask r l
  unfold k0_pay11 k0_pay7 k0_pay4 k0_pay3 back
  generalize cmpi .slt (select k0_pay9 k0_pay10 k0_pay8) (broadcast S512x128 32#32) = b at hm ⊢
  pointwise
  rw [hm, choose (fun k => dy (ix2 r k))]

/-- The head's gradient, entry by entry. -/
theorem grad_read (x dy c s : FVec Ideal S512x128 .f32) (g : FVec Ideal S1x128 .f32) (r : Fin 512) (l : Fin 128) :
    grad (F := Ideal) x dy c s g (ix2 r l) = headForm (fun k => x (ix2 r k)) (fun k => dy (ix2 r k)) (fun k => c (ix2 r k)) (fun k => s (ix2 r k)) (fun k => g (ix2 0 k)) l := by
  have hb := back_read dy c s r
  unfold grad k0_pay13 headForm kernelForm
  generalize k0_pay11 (F := Ideal) (k0_pay4 s) dy (k0_pay7 c dy) k0_pay8 k0_pay9 k0_pay10 = b at hb ⊢
  unfold k0_pay6 k0_pay5 mean
  pointwise
  simp only [hb]

/-- The gain's gradient, entry by entry. -/
theorem gain_read (x dy c s : FVec Ideal S512x128 .f32) (a : FVec Ideal S1x128 .f32) (l : Fin 128) :
    gain (F := Ideal) x dy c s a (ix2 0 l) = a (ix2 0 l) + ∑ r, headShare (fun k => x (ix2 r k)) (fun k => dy (ix2 r k)) (fun k => c (ix2 r k)) (fun k => s (ix2 r k)) l := by
  have hb := back_read dy c s
  unfold gain k0_pay12 headShare
  generalize k0_pay11 (F := Ideal) (k0_pay4 s) dy (k0_pay7 c dy) k0_pay8 k0_pay9 k0_pay10 = b at hb ⊢
  unfold k0_pay6 k0_pay5 mean
  pointwise
  simp only [hb]

end Cert.Kernel22Ideal.Stored

end

end
-- ==== Proof.TurnBackRef.lean ====
/- The reference's gradient of the queries' and keys' norm and rotation, entry by entry. -/
module

public import proofs.«01_k».proof.Proof.Gen.Reference22Ideal.Read
public import Idealize.ShloMosaic.Lib.Pointwise
public import Idealize.ShloMosaic.Lib.Claim
public import proofs.«01_k».proof.Proof.TurnBackRead
public import proofs.«01_k».proof.Proof.TurnFwd
public import proofs.«01_k».proof.Proof.ReduceMath

@[expose] public section

noncomputable section

namespace Cert.Reference22Ideal.Turn

open Cert.ReduceMath Cert.Reference22Ideal Cert.Reference22Ideal.Read Cert.Kernel22Ideal.Stored Cert.HeadMath
open Cert.Kernel21Ideal.Tile (other lane quarters)
open Idealize.ShloMosaic Idealize.ShloMosaic.TcCoe Idealize.SL.Sem

/-- A rotation back as the reference writes it, by quarters. -/
theorem back_quarters (z : Fin 128 → EReal) (a b c d : FVec Ideal S2048x32 .f32) (t : Fin 2048) (l : Fin 128) :
    (if h1 : (l : ℕ) < 64 then
      if h2 : (l : ℕ) < 32 then z ⟨32 + l, by omega⟩ * b (ix2 t ⟨l, h2⟩) + z l * a (ix2 t ⟨l, h2⟩)
      else z ⟨32 + (l - 32), by omega⟩ * a (ix2 t ⟨l - 32, by omega⟩) + -z ⟨l - 32, by omega⟩ * b (ix2 t ⟨l - 32, by omega⟩)
    else
      if h2 : (l : ℕ) - 64 < 32 then z ⟨64 + (32 + (l - 64)), by omega⟩ * d (ix2 t ⟨l - 64, h2⟩) + z ⟨64 + (l - 64), by omega⟩ * c (ix2 t ⟨l - 64, h2⟩)
      else z ⟨64 + (32 + (l - 64 - 32)), by omega⟩ * c (ix2 t ⟨l - 64 - 32, by omega⟩) + -z ⟨64 + (l - 64 - 32), by omega⟩ * d (ix2 t ⟨l - 64 - 32, by omega⟩))
    = back z (quarters a a c c t) (quarters (Host.negf b) b (Host.negf d) d t) l := by
  have w : ∀ n (h : n < 32), (l : ℕ) % 32 = n → ∀ (e : FVec Ideal S2048x32 .f32) (h' : (l : ℕ) % 32 < 32), e (ix2 t ⟨(l : ℕ) % 32, h'⟩) = e (ix2 t ⟨n, h⟩) := by
    intro n h f e h'
    subst f
    rfl
  have v : ∀ n (h : n < 128), n = (other l : ℕ) → z ⟨n, h⟩ = z (other l) := fun n h e => congrArg z (Fin.ext e)
  have u : ∀ n (h : n < 128), n = (l : ℕ) → z ⟨n, h⟩ = z l := fun n h e => congrArg z (Fin.ext e)
  have ho : (other l : ℕ) = if (l : ℕ) % 64 < 32 then (l : ℕ) + 32 else l - 32 := rfl
  unfold back quarters
  split_ifs at ho ⊢
  all_goals first | omega | pointwise
  all_goals simp only [mul_neg, neg_mul, sub_eq_add_neg, neg_neg]
  · rw [v (32 + l) _ (by omega), w l (by omega) (by omega) a, w l (by omega) (by omega) b, add_comm]
  · rw [u (32 + (l - 32)) _ (by omega), v (l - 32) _ (by omega), w (l - 32) (by omega) (by omega) a, w (l - 32) (by omega) (by omega) b]
  · rw [v (64 + (32 + (l - 64))) _ (by omega), u (64 + (l - 64)) _ (by omega), w (l - 64) (by omega) (by omega) c, w (l - 64) (by omega) (by omega) d, add_comm]
  · rw [u (64 + (32 + (l - 64 - 32))) _ (by omega), v (64 + (l - 64 - 32)) _ (by omega), w (l - 64 - 32) (by omega) (by omega) c, w (l - 64 - 32) (by omega) (by omega) d]

/-- The gradient of the queries, rotated back. -/
theorem queries_back (x1 : FVec Ideal S4096x1024 .f32) (x4 x5 x6 x7 : FVec Ideal S2048x32 .f32) (b : Fin 2) (t : Fin 2048) (h : Fin 8) (l : Fin 128) :
    val_main_v211 (F := Ideal) x1 x4 x5 x6 x7 (ix4 b t h l)
      = back (fun k => x1 (ix2 ⟨b * 2048 + t, by omega⟩ ⟨h * 128 + k, by omega⟩)) (quarters x4 x4 x6 x6 t) (quarters (Host.negf x5) x5 (Host.negf x7) x7 t) l := by
  have hy : ∀ k, val_main_v127 (F := Ideal) x1 (ix4 b t h k) = x1 (ix2 ⟨b * 2048 + t, by omega⟩ ⟨h * 128 + k, by omega⟩) := fun k => by
    unfold val_main_v127
    pointwise
  simp only [← hy]
  refine Eq.trans ?_ (back_quarters (fun k => val_main_v127 (F := Ideal) x1 (ix4 b t h k)) x4 x5 x6 x7 t l)
  unfold val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187 val_main_v186 val_main_v185 val_main_v184 val_main_v183 val_main_v182 val_main_v181 val_main_v57 val_main_v54 val_main_v50 val_main_v47 val_main_v40 val_main_v37 val_main_v33 val_main_v30 val_main_v25 val_main_v24 val_main_v23 val_main_v22
  generalize val_main_v127 (F := Ideal) x1 = y
  pointwise

/-- The gradient of the projected queries. -/
theorem queries_grad (x0 : FVec Ideal S4096x1536 .f32) (x1 : FVec Ideal S4096x1024 .f32) (x4 x5 x6 x7 : FVec Ideal S2048x32 .f32) (x8 : FVec Ideal S1x128 .f32) (b : Fin 2) (t : Fin 2048) (h : Fin 8) (l : Fin 128) :
    val_main_v231 (F := Ideal) x0 x1 x4 x5 x6 x7 x8 (ix4 b t h l)
      = headForm (fun k => x0 (ix2 ⟨b * 2048 + t, by omega⟩ (lane ⟨h + 0, by omega⟩ k))) (fun k => x1 (ix2 ⟨b * 2048 + t, by omega⟩ ⟨h * 128 + k, by omega⟩))
          (quarters x4 x4 x6 x6 t) (quarters (Host.negf x5) x5 (Host.negf x7) x7 t) (fun k => x8 (ix2 0 k)) l := by
  have hb := queries_back x1 x4 x5 x6 x7 b t h
  unfold headForm
  rw [← forms]
  unfold val_main_v231 val_main_v230 val_main_v229 val_main_v228 val_main_v227 val_main_v226 val_main_v225 val_main_v224 val_main_v223 val_main_v222 val_main_v221 val_main_v220 val_main_v219 val_main_v218 val_main_v216 val_main_v215 val_main_v19 val_main_v16 val_main_v15 val_main_v14 val_main_v13 val_main_v12 val_main_v11 val_main_v10 val_main_v9 val_main_v8 val_main_v7 val_main_v6 val_main_v5 val_main_v4 val_main_v1 val_main_v0 val_main_cst val_main_cst_0 val_main_cst_1 val_main_cst_2 val_main_cst_14 val_main_cst_15 val_main_cst_16
    derivForm factor mean lane
  generalize val_main_v211 (F := Ideal) x1 x4 x5 x6 x7 = y at hb ⊢
  pointwise
  simp only [Fin.sum_univ_one, hb]

/-- The gradient of the queries' gain. -/
theorem queries_gain (x0 : FVec Ideal S4096x1536 .f32) (x1 : FVec Ideal S4096x1024 .f32) (x4 x5 x6 x7 : FVec Ideal S2048x32 .f32) (r : Fin 1) (l : Fin 128) :
    val_main_v232 (F := Ideal) x0 x1 x4 x5 x6 x7 (ix2 r l)
      = ∑ b : Fin 2, ∑ t : Fin 2048, ∑ h : Fin 8, headShare (fun k => x0 (ix2 ⟨b * 2048 + t, by omega⟩ (lane ⟨h + 0, by omega⟩ k))) (fun k => x1 (ix2 ⟨b * 2048 + t, by omega⟩ ⟨h * 128 + k, by omega⟩))
          (quarters x4 x4 x6 x6 t) (quarters (Host.negf x5) x5 (Host.negf x7) x7 t) l := by
  have hb := queries_back x1 x4 x5 x6 x7
  unfold headShare val_main_v232 val_main_v217 val_main_v214 val_main_v213 val_main_v212 val_main_v18 val_main_v17 val_main_v13 val_main_v12 val_main_v11 val_main_v10 val_main_v9 val_main_v8 val_main_v7 val_main_v6 val_main_v4 val_main_v1 val_main_v0 val_main_cst val_main_cst_0 val_main_cst_1 val_main_cst_12 val_main_cst_13
    mean lane
  generalize val_main_v211 (F := Ideal) x1 x4 x5 x6 x7 = y at hb ⊢
  pointwise
  rw [sum_first_three]
  pointwise
  simp only [Fin.sum_univ_one, zero_add, sum_first_three]
  pointwise
  simp only [hb, mul_comm (back _ _ _ _)]

/-- The gradient of the keys, rotated back. -/
theorem keys_back (x2 : FVec Ideal S4096x256 .f32) (x4 x5 x6 x7 : FVec Ideal S2048x32 .f32) (b : Fin 2) (t : Fin 2048) (h : Fin 2) (l : Fin 128) :
    val_main_v158 (F := Ideal) x2 x4 x5 x6 x7 (ix4 b t h l)
      = back (fun k => x2 (ix2 ⟨b * 2048 + t, by omega⟩ ⟨h * 128 + k, by omega⟩)) (quarters x4 x4 x6 x6 t) (quarters (Host.negf x5) x5 (Host.negf x7) x7 t) l := by
  have hy : ∀ k, val_main_v126 (F := Ideal) x2 (ix4 b t h k) = x2 (ix2 ⟨b * 2048 + t, by omega⟩ ⟨h * 128 + k, by omega⟩) := fun k => by
    unfold val_main_v126
    pointwise
  simp only [← hy]
  refine Eq.trans ?_ (back_quarters (fun k => val_main_v126 (F := Ideal) x2 (ix4 b t h k)) x4 x5 x6 x7 t l)
  unfold val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v116 val_main_v113 val_main_v109 val_main_v106 val_main_v99 val_main_v96 val_main_v92 val_main_v89 val_main_v84 val_main_v83 val_main_v82 val_main_v81
  generalize val_main_v126 (F := Ideal) x2 = y
  pointwise

/-- The gradient of the projected keys. -/
theorem keys_grad (x0 : FVec Ideal S4096x1536 .f32) (x2 : FVec Ideal S4096x256 .f32) (x4 x5 x6 x7 : FVec Ideal S2048x32 .f32) (x9 : FVec Ideal S1x128 .f32) (b : Fin 2) (t : Fin 2048) (h : Fin 2) (l : Fin 128) :
    val_main_v178 (F := Ideal) x0 x2 x4 x5 x6 x7 x9 (ix4 b t h l)
      = headForm (fun k => x0 (ix2 ⟨b * 2048 + t, by omega⟩ (lane ⟨h + 8, by omega⟩ k))) (fun k => x2 (ix2 ⟨b * 2048 + t, by omega⟩ ⟨h * 128 + k, by omega⟩))
          (quarters x4 x4 x6 x6 t) (quarters (Host.negf x5) x5 (Host.negf x7) x7 t) (fun k => x9 (ix2 0 k)) l := by
  have hb := keys_back x2 x4 x5 x6 x7 b t h
  unfold headForm
  rw [← forms]
  unfold val_main_v178 val_main_v177 val_main_v176 val_main_v175 val_main_v174 val_main_v173 val_main_v172 val_main_v171 val_main_v170 val_main_v169 val_main_v168 val_main_v167 val_main_v166 val_main_v165 val_main_v163 val_main_v162 val_main_v78 val_main_v75 val_main_v74 val_main_v73 val_main_v72 val_main_v71 val_main_v70 val_main_v69 val_main_v68 val_main_v67 val_main_v66 val_main_v65 val_main_v64 val_main_v63 val_main_v2 val_main_v0 val_main_cst_3 val_main_cst_4 val_main_cst_5 val_main_cst_6 val_main_cst_9 val_main_cst_10 val_main_cst_11
    derivForm factor mean lane
  generalize val_main_v158 (F := Ideal) x2 x4 x5 x6 x7 = y at hb ⊢
  pointwise
  have e : ∀ k : ℕ, 1024 + ((h : ℕ) * 128 + k) = (h + 8) * 128 + k := fun k => by omega
  simp only [Fin.sum_univ_one, hb, e]

/-- The gradient of the keys' gain. -/
theorem keys_gain (x0 : FVec Ideal S4096x1536 .f32) (x2 : FVec Ideal S4096x256 .f32) (x4 x5 x6 x7 : FVec Ideal S2048x32 .f32) (r : Fin 1) (l : Fin 128) :
    val_main_v179 (F := Ideal) x0 x2 x4 x5 x6 x7 (ix2 r l)
      = ∑ b : Fin 2, ∑ t : Fin 2048, ∑ h : Fin 2, headShare (fun k => x0 (ix2 ⟨b * 2048 + t, by omega⟩ (lane ⟨h + 8, by omega⟩ k))) (fun k => x2 (ix2 ⟨b * 2048 + t, by omega⟩ ⟨h * 128 + k, by omega⟩))
          (quarters x4 x4 x6 x6 t) (quarters (Host.negf x5) x5 (Host.negf x7) x7 t) l := by
  have hb := keys_back x2 x4 x5 x6 x7
  unfold headShare val_main_v179 val_main_v164 val_main_v161 val_main_v160 val_main_v159 val_main_v77 val_main_v76 val_main_v72 val_main_v71 val_main_v70 val_main_v69 val_main_v68 val_main_v67 val_main_v66 val_main_v65 val_main_v63 val_main_v2 val_main_v0 val_main_cst_3 val_main_cst_4 val_main_cst_5 val_main_cst_7 val_main_cst_8
    mean lane
  generalize val_main_v158 (F := Ideal) x2 x4 x5 x6 x7 = y at hb ⊢
  pointwise
  have e : ∀ (h : Fin 2) (k : ℕ), 1024 + ((h : ℕ) * 128 + k) = (h + 8) * 128 + k := fun h k => by omega
  rw [sum_first_three]
  pointwise
  simp only [Fin.sum_univ_one, zero_add, sum_first_three]
  pointwise
  simp only [hb, e, mul_comm (back _ _ _ _)]

end Cert.Reference22Ideal.Turn

end

end
-- ==== Proof.TurnBackGrad.lean ====
/- The gradient of the queries' and keys' norm and rotation (`Kernel22`): the projections' gradient, and the gains' gradients added up over
   the row panels and the heads, are those of the reference's derivative. -/
module

public import proofs.«01_k».proof.Proof.Gen.Kernel22Ideal.Value
public import Idealize.ShloMosaic.Lib.Pointwise
public import Idealize.ShloMosaic.Lib.Claim
public import proofs.«01_k».proof.Proof.TurnBackRef
public import proofs.«01_k».proof.Proof.Blocks

@[expose] public section

noncomputable section

namespace Cert.Kernel22Ideal.Tile

open Cert.Kernel22Ideal Cert.Kernel22Ideal.Gen Cert.Kernel22Ideal.Stored Cert.HeadMath Cert.Reference22Ideal.Turn Cert.Reference22Ideal.Read Cert.Blocks
open Cert.Kernel21Ideal.Tile (lane quarters four twice four_read twice_read)
open Cert.NormMath (sum_split)
open Idealize.ShloMosaic Idealize.ShloMosaic.TcCoe Idealize.SL.Sem

/-- The grid point of row block `i` and column block `j`. -/
def point (i : Fin 8) (j : Fin 1) : Fin cfg0.N := ⟨i * 1 + j, by show _ < 8; omega⟩
/-- Row `r` of row block `i`: the rows fall into blocks … -/
def row (i : Fin 8) (r : Fin 512) : Fin 4096 := ⟨i * 512 + r, by omega⟩
/-- … and each lies in some block. -/
theorem row_surj (r : Fin 4096) : ∃ i s, row i s = r :=
  ⟨⟨r / 512, by omega⟩, ⟨r % 512, by omega⟩, Fin.ext (by show (r : ℕ) / 512 * 512 + r % 512 = r; omega)⟩

/-- A block at a point: the row panel. -/
theorem index0 : ∀ i j, win0_0.index (point i j) 0 = (i : ℕ) ∧ win0_0.index (point i j) 1 = 0 := by decide +kernel
/-- A block at a point: the row panel. -/
theorem index1 : ∀ i j, win0_1.index (point i j) 0 = (i : ℕ) ∧ win0_1.index (point i j) 1 = 0 := by decide +kernel
/-- A block at a point: the row panel. -/
theorem index2 : ∀ i j, win0_2.index (point i j) 0 = (i : ℕ) ∧ win0_2.index (point i j) 1 = 0 := by decide +kernel
/-- A block at a point: the row panel. -/
theorem index3 : ∀ i j, win0_3.index (point i j) 0 = (i : ℕ) ∧ win0_3.index (point i j) 1 = 0 := by decide +kernel
/-- A block at a point: the row panel. -/
theorem index4 : ∀ i j, win0_4.index (point i j) 0 = (i : ℕ) ∧ win0_4.index (point i j) 1 = 0 := by decide +kernel
/-- A block at a point: the row panel. -/
theorem index5 : ∀ i j, win0_5.index (point i j) 0 = (i : ℕ) ∧ win0_5.index (point i j) 1 = 0 := by decide +kernel
/-- A block at a point: the row panel. -/
theorem index8 : ∀ i j, win0_8.index (point i j) 0 = (i : ℕ) ∧ win0_8.index (point i j) 1 = 0 := by decide +kernel
/-- A gain's block at a point: the whole. -/
theorem index6 : ∀ i j, win0_6.index (point i j) 0 = 0 ∧ win0_6.index (point i j) 1 = 0 := by decide +kernel
/-- A gain's block at a point: the whole. -/
theorem index7 : ∀ i j, win0_7.index (point i j) 0 = 0 ∧ win0_7.index (point i j) 1 = 0 := by decide +kernel
/-- A gain's block at a point: the whole. -/
theorem index9 : ∀ i j, win0_9.index (point i j) 0 = 0 ∧ win0_9.index (point i j) 1 = 0 := by decide +kernel
/-- A gain's block at a point: the whole. -/
theorem index10 : ∀ i j, win0_10.index (point i j) 0 = 0 ∧ win0_10.index (point i j) 1 = 0 := by decide +kernel

/-- A head's gradient depends on its five rows alone … -/
theorem form_congr {X D C S G X' D' C' S' G' : Fin 128 → EReal} (hX : ∀ k, X k = X' k) (hD : ∀ k, D k = D' k) (hC : ∀ k, C k = C' k) (hS : ∀ k, S k = S' k)
    (hG : ∀ k, G k = G' k) (l : Fin 128) : headForm X D C S G l = headForm X' D' C' S' G' l := by
  rw [funext hX, funext hD, funext hC, funext hS, funext hG]
/-- … and its share of the gain's gradient on four. -/
theorem share_congr {X D C S X' D' C' S' : Fin 128 → EReal} (hX : ∀ k, X k = X' k) (hD : ∀ k, D k = D' k) (hC : ∀ k, C k = C' k) (hS : ∀ k, S k = S' k)
    (l : Fin 128) : headShare X D C S l = headShare X' D' C' S' l := by
  rw [funext hX, funext hD, funext hC, funext hS]

/-- A head of a block of rows. -/
theorem ld_head {N : ℕ} (x : FVec Ideal ⟨2, ![512, N]⟩ .f32) (o : ℕ) (inb : ∀ a, (![0, o] : Fin 2 → ℕ) a + S512x128.size a ≤ (⟨2, ![512, N]⟩ : Shape).size a) (r : Fin 512) (k : Fin 128) (q : Fin N) (hq : (q : ℕ) = o + k) :
    (show FVec Ideal S512x128 .f32 from View.ld (Val := Elt Ideal) (e' := .f32) x (Rect.unit (s := ⟨2, ![512, N]⟩) ![0, o] S512x128.size inb)) (ix2 r k) = x (ix2 r q) := by
  refine View.ld_unit_apply_of (S := ⟨2, ![512, N]⟩) (Val := Elt Ideal) (e := .f32) x _ _ inb (ix2 r k) (ix2 r q) fun a => ?_
  match a with
  | ⟨0, _⟩ => show (r : ℕ) = 0 + r; omega
  | ⟨1, _⟩ => exact hq

section

variable {N : ℕ} (x0 : FVec Ideal S512x1536 .f32) (y : FVec Ideal ⟨2, ![512, N]⟩ .f32) (x4 x5 : FVec Ideal S512x128 .f32) (g : FVec Ideal S1x128 .f32)

/-- The gradient of head `h` at row `r`, where the heads of `y` are those from `d` on. -/
def formOf (d : ℕ) (h : Fin 12) (hd : d ≤ h) (hn : ((h : ℕ) - d + 1) * 128 ≤ N) (r : Fin 512) (l : Fin 128) : EReal :=
  headForm (fun k => x0 (ix2 r (lane h k))) (fun k => y (ix2 r ⟨(h - d) * 128 + k, by omega⟩)) (fun k => x4 (ix2 r k)) (fun k => x5 (ix2 r k)) (fun k => g (ix2 0 k)) l

/-- Its share of the gain's gradient. -/
def shareOf (d : ℕ) (h : Fin 12) (hd : d ≤ h) (hn : ((h : ℕ) - d + 1) * 128 ≤ N) (r : Fin 512) (l : Fin 128) : EReal :=
  headShare (fun k => x0 (ix2 r (lane h k))) (fun k => y (ix2 r ⟨(h - d) * 128 + k, by omega⟩)) (fun k => x4 (ix2 r k)) (fun k => x5 (ix2 r k)) l

/-- A piece of the head at column `o`. -/
theorem piece (d : ℕ) (h : Fin 12) (hd : d ≤ h) (hn : ((h : ℕ) - d + 1) * 128 ≤ N) (o o' : ℕ) (ho : o = h * 128) (ho' : o' = (h - d) * 128) (inb : ∀ a, (![0, o] : Fin 2 → ℕ) a + S512x128.size a ≤ S512x1536.size a)
    (inb' : ∀ a, (![0, o'] : Fin 2 → ℕ) a + S512x128.size a ≤ (⟨2, ![512, N]⟩ : Shape).size a) (r : Fin 512) (q : Fin 1536) (x : S512x128.Idx) (hx : ∀ a, (ix2 r q a : ℕ) = (![0, o] : Fin 2 → ℕ) a + x a)
    {v : EReal} (hv : ∀ l : Fin 128, (q : ℕ) = h * 128 + l → formOf x0 y x4 x5 g d h hd hn r l = v) :
    grad (F := Ideal) (View.ld x0 (Rect.unit (s := S512x1536) ![0, o] S512x128.size inb)) (View.ld (Val := Elt Ideal) (e' := .f32) y (Rect.unit (s := ⟨2, ![512, N]⟩) ![0, o'] S512x128.size inb')) x4 x5 g x = v := by
  obtain ⟨r', l, rfl⟩ : ∃ r' : Fin 512, ∃ l : Fin 128, x = ix2 r' l := ⟨x 0, x 1, (ix2_eta x).symm⟩
  obtain rfl : r = r' := Fin.ext (by have := hx 0; change (r : ℕ) = 0 + (r' : ℕ) at this; omega)
  refine Eq.trans ?_ (hv l (by have := hx 1; change (q : ℕ) = o + (l : ℕ) at this; omega))
  rw [grad_read]
  exact form_congr (fun k => ld_head x0 o inb r k _ (by show (h : ℕ) * 128 + k = o + k; omega)) (fun k => ld_head y o' inb' r k _ (by show ((h : ℕ) - d) * 128 + k = o' + k; omega)) (fun _ => rfl) (fun _ => rfl) (fun _ => rfl) l

/-- One head's addition to its gain's gradient. -/
theorem gain_head (d : ℕ) (h : Fin 12) (hd : d ≤ h) (hn : ((h : ℕ) - d + 1) * 128 ≤ N) (o o' : ℕ) (ho : o = h * 128) (ho' : o' = (h - d) * 128) (inb : ∀ a, (![0, o] : Fin 2 → ℕ) a + S512x128.size a ≤ S512x1536.size a)
    (inb' : ∀ a, (![0, o'] : Fin 2 → ℕ) a + S512x128.size a ≤ (⟨2, ![512, N]⟩ : Shape).size a) (a : FVec Ideal S1x128 .f32) (l : Fin 128) :
    gain (F := Ideal) (View.ld x0 (Rect.unit (s := S512x1536) ![0, o] S512x128.size inb)) (View.ld (Val := Elt Ideal) (e' := .f32) y (Rect.unit (s := ⟨2, ![512, N]⟩) ![0, o'] S512x128.size inb')) x4 x5 a (ix2 0 l)
      = a (ix2 0 l) + ∑ r, shareOf x0 y x4 x5 d h hd hn r l := by
  rw [gain_read]
  exact congrArg (a (ix2 0 l) + ·) (Finset.sum_congr rfl fun r _ => share_congr (fun k => ld_head x0 o inb r k _ (by show (h : ℕ) * 128 + k = o + k; omega)) (fun k => ld_head y o' inb' r k _ (by show ((h : ℕ) - d) * 128 + k = o' + k; omega)) (fun _ => rfl) (fun _ => rfl) l)

end

/-- The queries' gain's gradient after a point. -/
theorem gains9_read (x0 : FVec Ideal S512x1536 .f32) (x1 : FVec Ideal S512x1024 .f32) (x4 x5 : FVec Ideal S512x128 .f32) (a : FVec Ideal S1x128 .f32) (l : Fin 128) :
    gains9 (F := Ideal) x0 x1 x4 x5 a (ix2 0 l) = a (ix2 0 l) + ∑ h : Fin 8, ∑ r, shareOf (N := 1024) x0 x1 x4 x5 0 ⟨h, by omega⟩ (Nat.zero_le _) (by show ((h : ℕ) - 0 + 1) * 128 ≤ 1024; omega) r l := by
  rw [Fin.sum_univ_eight]
  refine (gain_head (N := 1024) x0 x1 x4 x5 0 7 (by decide) (by decide) 896 896 rfl rfl _ _ _ l).trans ?_
  rw [gain_head (N := 1024) x0 x1 x4 x5 0 6 (by decide) (by decide) 768 768 rfl rfl]
  rw [gain_head (N := 1024) x0 x1 x4 x5 0 5 (by decide) (by decide) 640 640 rfl rfl]
  rw [gain_head (N := 1024) x0 x1 x4 x5 0 4 (by decide) (by decide) 512 512 rfl rfl]
  rw [gain_head (N := 1024) x0 x1 x4 x5 0 3 (by decide) (by decide) 384 384 rfl rfl]
  rw [gain_head (N := 1024) x0 x1 x4 x5 0 2 (by decide) (by decide) 256 256 rfl rfl]
  rw [gain_head (N := 1024) x0 x1 x4 x5 0 1 (by decide) (by decide) 128 128 rfl rfl]
  rw [gain_head (N := 1024) x0 x1 x4 x5 0 0 (by decide) (by decide) 0 0 rfl rfl]
  simp only [add_assoc]
  rfl

/-- The keys' gain's gradient after a point. -/
theorem gains10_read (x0 : FVec Ideal S512x1536 .f32) (x2 : FVec Ideal S512x256 .f32) (x4 x5 : FVec Ideal S512x128 .f32) (a : FVec Ideal S1x128 .f32) (l : Fin 128) :
    gains10 (F := Ideal) x0 x2 x4 x5 a (ix2 0 l) = a (ix2 0 l) + ∑ h : Fin 2, ∑ r, shareOf (N := 256) x0 x2 x4 x5 8 ⟨h + 8, by omega⟩ (Nat.le_add_left _ _) (by show ((h : ℕ) + 8 - 8 + 1) * 128 ≤ 256; omega) r l := by
  rw [Fin.sum_univ_two]
  refine (gain_head (N := 256) x0 x2 x4 x5 8 9 (by decide) (by decide) 1152 128 rfl rfl _ _ _ l).trans ?_
  rw [gain_head (N := 256) x0 x2 x4 x5 8 8 (by decide) (by decide) 1024 0 rfl rfl]
  simp only [add_assoc]
  rfl

/-- The projections' gradient after a point: a query's, a key's or the values'. -/
theorem tile (x0 : FVec Ideal S512x1536 .f32) (x1 : FVec Ideal S512x1024 .f32) (x2 x3 : FVec Ideal S512x256 .f32) (x4 x5 : FVec Ideal S512x128 .f32) (x6 x7 : FVec Ideal S1x128 .f32) (r : Fin 512) (q : Fin 1536) {v : EReal}
    (hQ : ∀ h : Fin 12, ∀ e : (h : ℕ) < 8, ∀ l : Fin 128, (q : ℕ) = h * 128 + l → formOf (N := 1024) x0 x1 x4 x5 x6 0 h (Nat.zero_le _) (by omega) r l = v)
    (hK : ∀ h : Fin 12, ∀ e : 8 ≤ (h : ℕ), ∀ e' : (h : ℕ) < 10, ∀ l : Fin 128, (q : ℕ) = h * 128 + l → formOf (N := 256) x0 x2 x4 x5 x7 8 h e (by omega) r l = v)
    (hV : ∀ k : Fin 256, (q : ℕ) = 1280 + k → x3 (ix2 r k) = v) :
    View.canon (pieces (F := Ideal) x0 x1 x2 x3 x4 x5 x6 x7) (ix2 r q) = v := by
  refine View.canon_eq_of_allAt _ _ _ (cover (F := Ideal) x0 x1 x2 x3 x4 x5 x6 x7 _) ?_
  unfold pieces
  refine View.allAt_cons_unit _ _ _ _ _ (fun x hx => ?_) ?_
  · obtain ⟨r', l, rfl⟩ : ∃ r' : Fin 512, ∃ l : Fin 256, x = ix2 r' l := ⟨x 0, x 1, (ix2_eta x).symm⟩
    obtain rfl : r = r' := Fin.ext (by have := hx 0; change (r : ℕ) = 0 + (r' : ℕ) at this; omega)
    refine Eq.trans ?_ (hV l (hx 1))
    unfold k0_pay78
    pointwise
  refine View.allAt_cons_unit _ _ _ _ _ (fun x hx => piece (N := 256) x0 x2 x4 x5 x7 8 9 (by decide) (by decide) 1152 128 rfl rfl _ _ r q x hx (hK 9 (by decide) (by decide))) ?_
  refine View.allAt_cons_unit _ _ _ _ _ (fun x hx => piece (N := 256) x0 x2 x4 x5 x7 8 8 (by decide) (by decide) 1024 0 rfl rfl _ _ r q x hx (hK 8 (by decide) (by decide))) ?_
  refine View.allAt_cons_unit _ _ _ _ _ (fun x hx => piece (N := 1024) x0 x1 x4 x5 x6 0 7 (by decide) (by decide) 896 896 rfl rfl _ _ r q x hx (hQ 7 (by decide))) ?_
  refine View.allAt_cons_unit _ _ _ _ _ (fun x hx => piece (N := 1024) x0 x1 x4 x5 x6 0 6 (by decide) (by decide) 768 768 rfl rfl _ _ r q x hx (hQ 6 (by decide))) ?_
  refine View.allAt_cons_unit _ _ _ _ _ (fun x hx => piece (N := 1024) x0 x1 x4 x5 x6 0 5 (by decide) (by decide) 640 640 rfl rfl _ _ r q x hx (hQ 5 (by decide))) ?_
  refine View.allAt_cons_unit _ _ _ _ _ (fun x hx => piece (N := 1024) x0 x1 x4 x5 x6 0 4 (by decide) (by decide) 512 512 rfl rfl _ _ r q x hx (hQ 4 (by decide))) ?_
  refine View.allAt_cons_unit _ _ _ _ _ (fun x hx => piece (N := 1024) x0 x1 x4 x5 x6 0 3 (by decide) (by decide) 384 384 rfl rfl _ _ r q x hx (hQ 3 (by decide))) ?_
  refine View.allAt_cons_unit _ _ _ _ _ (fun x hx => piece (N := 1024) x0 x1 x4 x5 x6 0 2 (by decide) (by decide) 256 256 rfl rfl _ _ r q x hx (hQ 2 (by decide))) ?_
  refine View.allAt_cons_unit _ _ _ _ _ (fun x hx => piece (N := 1024) x0 x1 x4 x5 x6 0 1 (by decide) (by decide) 128 128 rfl rfl _ _ r q x hx (hQ 1 (by decide))) ?_
  refine View.allAt_cons_unit _ _ _ _ _ (fun x hx => piece (N := 1024) x0 x1 x4 x5 x6 0 0 (by decide) (by decide) 0 0 rfl rfl _ _ r q x hx (hQ 0 (by decide))) ?_
  exact View.allAt_nil _ _

variable (m : (ℓ : Loc nD τ sig) → Buf (Elt Ideal) ℓ) (c : Dev nD)

/-- The projections, the three gradients, the four tables and the two gains, as the device holds them. -/
abbrev arg0 : FVec Ideal S4096x1536 .f32 := m ((c : Thread nD τ).loc main_arg0)
abbrev arg1 : FVec Ideal S4096x1024 .f32 := m ((c : Thread nD τ).loc main_arg1)
abbrev arg2 : FVec Ideal S4096x256 .f32 := m ((c : Thread nD τ).loc main_arg2)
abbrev arg3 : FVec Ideal S4096x256 .f32 := m ((c : Thread nD τ).loc main_arg3)
abbrev arg4 : FVec Ideal S2048x32 .f32 := m ((c : Thread nD τ).loc main_arg4)
abbrev arg5 : FVec Ideal S2048x32 .f32 := m ((c : Thread nD τ).loc main_arg5)
abbrev arg6 : FVec Ideal S2048x32 .f32 := m ((c : Thread nD τ).loc main_arg6)
abbrev arg7 : FVec Ideal S2048x32 .f32 := m ((c : Thread nD τ).loc main_arg7)
abbrev arg8 : FVec Ideal S1x128 .f32 := m ((c : Thread nD τ).loc main_arg8)
abbrev arg9 : FVec Ideal S1x128 .f32 := m ((c : Thread nD τ).loc main_arg9)

/-- The table of cosines at token `t`, … -/
def cosT (t : Fin 4096) : Fin 128 → EReal := quarters (arg4 m c) (arg4 m c) (arg6 m c) (arg6 m c) ⟨(t : ℕ) % 2048, by omega⟩
/-- … that of sines, … -/
def sinT (t : Fin 4096) : Fin 128 → EReal := quarters (Host.negf (arg5 m c)) (arg5 m c) (Host.negf (arg7 m c)) (arg7 m c) ⟨(t : ℕ) % 2048, by omega⟩
/-- … a projected head, … -/
def proj (t : Fin 4096) (h : Fin 12) (k : Fin 128) : EReal := arg0 m c (ix2 t (lane h k))
/-- … the gradient of a rotated query … -/
def dq (t : Fin 4096) (h : Fin 8) (k : Fin 128) : EReal := arg1 m c (ix2 t ⟨h * 128 + k, by omega⟩)
/-- … and of a rotated key. -/
def dk (t : Fin 4096) (h : Fin 2) (k : Fin 128) : EReal := arg2 m c (ix2 t ⟨h * 128 + k, by omega⟩)

/-- A query's gradient, … -/
def formQ (t : Fin 4096) (h : Fin 8) (l : Fin 128) : EReal := headForm (proj m c t ⟨h + 0, by omega⟩) (dq m c t h) (cosT m c t) (sinT m c t) (fun k => arg8 m c (ix2 0 k)) l
/-- … a key's, … -/
def formK (t : Fin 4096) (h : Fin 2) (l : Fin 128) : EReal := headForm (proj m c t ⟨h + 8, by omega⟩) (dk m c t h) (cosT m c t) (sinT m c t) (fun k => arg9 m c (ix2 0 k)) l
/-- … a query's share of its gain's gradient … -/
def shareQ (l : Fin 128) (t : Fin 4096) (h : Fin 8) : EReal := headShare (proj m c t ⟨h + 0, by omega⟩) (dq m c t h) (cosT m c t) (sinT m c t) l
/-- … and a key's. -/
def shareK (l : Fin 128) (t : Fin 4096) (h : Fin 2) : EReal := headShare (proj m c t ⟨h + 8, by omega⟩) (dk m c t h) (cosT m c t) (sinT m c t) l

/-- The host widens the cosines … -/
theorem entry4 : @Eq (FVec Ideal S4096x128 .f32) (V m c main_v4) (twice (four (arg4 m c) (arg4 m c) (arg6 m c) (arg6 m c))) := rfl
/-- … and the sines, which it negates in the first half of each half. -/
theorem entry5 : @Eq (FVec Ideal S4096x128 .f32) (V m c main_v5) (twice (four (Host.negf (arg5 m c)) (arg5 m c) (Host.negf (arg7 m c)) (arg7 m c))) := rfl

variable (i : Fin 8) (j : Fin 1)

/-- The projections' block holds their rows. -/
theorem block0 (r : Fin 512) (k : Fin 1536) : (show FVec Ideal S512x1536 .f32 from iblk m c 0 (point i j)) (ix2 r k) = arg0 m c (ix2 (row i r) k) := by
  refine Eq.trans (?_ : _ = V m c main_arg0 (ix2 (row i r) k)) (congrFun (V_main_arg0 m c) (ix2 (row i r) k))
  exact congrArg (V m c main_arg0) (ix2_of (at_row 512 r (index0 i j).1) (at_zero 1536 k (index0 i j).2))

/-- The queries' gradient's block holds its rows. -/
theorem block1 (r : Fin 512) (k : Fin 1024) : (show FVec Ideal S512x1024 .f32 from iblk m c 1 (point i j)) (ix2 r k) = arg1 m c (ix2 (row i r) k) := by
  refine Eq.trans (?_ : _ = V m c main_arg1 (ix2 (row i r) k)) (congrFun (V_main_arg1 m c) (ix2 (row i r) k))
  exact congrArg (V m c main_arg1) (ix2_of (at_row 512 r (index1 i j).1) (at_zero 1024 k (index1 i j).2))

/-- The keys' gradient's block holds its rows. -/
theorem block2 (r : Fin 512) (k : Fin 256) : (show FVec Ideal S512x256 .f32 from iblk m c 2 (point i j)) (ix2 r k) = arg2 m c (ix2 (row i r) k) := by
  refine Eq.trans (?_ : _ = V m c main_arg2 (ix2 (row i r) k)) (congrFun (V_main_arg2 m c) (ix2 (row i r) k))
  exact congrArg (V m c main_arg2) (ix2_of (at_row 512 r (index2 i j).1) (at_zero 256 k (index2 i j).2))

/-- The values' gradient's block holds its rows. -/
theorem block3 (r : Fin 512) (k : Fin 256) : (show FVec Ideal S512x256 .f32 from iblk m c 3 (point i j)) (ix2 r k) = arg3 m c (ix2 (row i r) k) := by
  refine Eq.trans (?_ : _ = V m c main_arg3 (ix2 (row i r) k)) (congrFun (V_main_arg3 m c) (ix2 (row i r) k))
  exact congrArg (V m c main_arg3) (ix2_of (at_row 512 r (index3 i j).1) (at_zero 256 k (index3 i j).2))

/-- The cosines' block holds their rows. -/
theorem block4 (r : Fin 512) (k : Fin 128) : (show FVec Ideal S512x128 .f32 from iblk m c 4 (point i j)) (ix2 r k) = cosT m c (row i r) k := by
  refine Eq.trans (?_ : _ = V m c main_v4 (ix2 (row i r) k)) ((congrFun (entry4 m c) _).trans ((twice_read _ _ _).trans (four_read _ _ _ _ _ _)))
  exact congrArg (V m c main_v4) (ix2_of (at_row 512 r (index4 i j).1) (at_zero 128 k (index4 i j).2))

/-- The sines' block holds their rows. -/
theorem block5 (r : Fin 512) (k : Fin 128) : (show FVec Ideal S512x128 .f32 from iblk m c 5 (point i j)) (ix2 r k) = sinT m c (row i r) k := by
  refine Eq.trans (?_ : _ = V m c main_v5 (ix2 (row i r) k)) ((congrFun (entry5 m c) _).trans ((twice_read _ _ _).trans (four_read _ _ _ _ _ _)))
  exact congrArg (V m c main_v5) (ix2_of (at_row 512 r (index5 i j).1) (at_zero 128 k (index5 i j).2))

/-- The queries' gain's block holds it whole. -/
theorem block6 (t : Fin 1) (k : Fin 128) : (show FVec Ideal S1x128 .f32 from iblk m c 6 (point i j)) (ix2 t k) = arg8 m c (ix2 t k) := by
  refine Eq.trans (?_ : _ = V m c main_arg8 (ix2 t k)) (congrFun (V_main_arg8 m c) (ix2 t k))
  exact congrArg (V m c main_arg8) (ix2_of (at_zero 1 t (index6 i j).1) (at_zero 128 k (index6 i j).2))

/-- The keys' gain's block holds it whole. -/
theorem block7 (t : Fin 1) (k : Fin 128) : (show FVec Ideal S1x128 .f32 from iblk m c 7 (point i j)) (ix2 t k) = arg9 m c (ix2 t k) := by
  refine Eq.trans (?_ : _ = V m c main_arg9 (ix2 t k)) (congrFun (V_main_arg9 m c) (ix2 t k))
  exact congrArg (V m c main_arg9) (ix2_of (at_zero 1 t (index7 i j).1) (at_zero 128 k (index7 i j).2))

/-- What a point leaves of the projections' gradient. -/
theorem left8 (r : Fin 512) (q : Fin 1536) {v : EReal} (hQ : ∀ (h : Fin 8) (l : Fin 128), (q : ℕ) = h * 128 + l → formQ m c (row i r) h l = v)
    (hK : ∀ (h : Fin 2) (l : Fin 128), (q : ℕ) = (h + 8) * 128 + l → formK m c (row i r) h l = v) (hV : ∀ k : Fin 256, (q : ℕ) = 1280 + k → arg3 m c (ix2 (row i r) k) = v) :
    (show FVec Ideal S512x1536 .bf16 from (outsAt0 m c (point i j).val (point i j).isLt).1) (ix2 r q) = v := by
  have e := tile (iblk m c 0 (point i j)) (iblk m c 1 (point i j)) (iblk m c 2 (point i j)) (iblk m c 3 (point i j)) (iblk m c 4 (point i j)) (iblk m c 5 (point i j)) (iblk m c 6 (point i j)) (iblk m c 7 (point i j)) r q (v := v)
    (fun h e l hq => (form_congr (fun k => block0 m c i j r _) (fun k => block1 m c i j r _) (fun k => block4 m c i j r k) (fun k => block5 m c i j r k) (fun k => block6 m c i j 0 k) l).trans (hQ ⟨h, e⟩ l hq))
    (fun h e e' l hq => (form_congr (fun k => (block0 m c i j r _).trans (congrArg (fun z => arg0 m c (ix2 (row i r) (lane z k))) (Fin.ext (by show (h : ℕ) = h - 8 + 8; omega)))) (fun k => block2 m c i j r _) (fun k => block4 m c i j r k) (fun k => block5 m c i j r k) (fun k => block7 m c i j 0 k) l).trans (hK ⟨h - 8, by omega⟩ l (by show (q : ℕ) = (h - 8 + 8) * 128 + l; omega)))
    (fun k hq => (block3 m c i j r k).trans (hV k hq))
  by_cases h : (point i j).val % 8 = 0
  · rw [outsAt0_A m c (point i j) h]
    dsimp only
    rw [out_A_8]
    exact e
  · rw [outsAt0_B m c (point i j) h]
    dsimp only
    rw [out_B_8]
    exact e

/-- A panel's share of the queries' gain's gradient. -/
theorem panel9 (l : Fin 128) {a : FVec Ideal S1x128 .f32} {O : EReal} (ha : a (ix2 0 l) = O) :
    gains9 (F := Ideal) (iblk m c 0 (point i j)) (iblk m c 1 (point i j)) (iblk m c 4 (point i j)) (iblk m c 5 (point i j)) a (ix2 0 l) = O + ∑ r, ∑ h, shareQ m c l (row i r) h := by
  rw [gains9_read, ha, Finset.sum_comm]
  exact congrArg (O + ·) (Finset.sum_congr rfl fun r _ => Finset.sum_congr rfl fun h _ => share_congr (fun k => block0 m c i j r _)
    (fun k => block1 m c i j r _) (fun k => block4 m c i j r k) (fun k => block5 m c i j r k) l)

/-- The first point leaves its panel's share … -/
theorem first9 (l : Fin 128) : (show FVec Ideal S1x128 .f32 from (outsAt0 m c (point 0 0).val (point 0 0).isLt).2.1) (ix2 0 l) = 0 + ∑ r, ∑ h, shareQ m c l (row 0 r) h := by
  rw [outsAt0_A m c (point 0 0) rfl]
  dsimp only
  rw [out_A_9]
  refine panel9 m c 0 0 l ?_
  unfold k0_pay1
  pointwise

/-- … and a later one adds its own. -/
theorem next9 (i i' : Fin 8) (hi : (i : ℕ) = i' + 1) {O : Fin 128 → EReal}
    (h : ∀ l, (show FVec Ideal S1x128 .f32 from (outsAt0 m c (point i' 0).val (point i' 0).isLt).2.1) (ix2 0 l) = O l) (l : Fin 128) :
    (show FVec Ideal S1x128 .f32 from (outsAt0 m c (point i 0).val (point i 0).isLt).2.1) (ix2 0 l) = O l + ∑ r, ∑ h, shareQ m c l (row i r) h := by
  have e : (point i 0).val - 1 = (point i' 0).val := by
    show (i : ℕ) * 1 + 0 - 1 = i' * 1 + 0
    omega
  rw [outsAt0_B m c (point i 0) (by show ¬ ((i : ℕ) * 1 + 0) % 8 = 0; omega)]
  dsimp only
  rw [out_B_9]
  simp only [e]
  exact panel9 m c i 0 l (h l)

/-- After the last point the block holds the sum over all tokens and heads. -/
theorem left9 (l : Fin 128) : (show FVec Ideal S1x128 .f32 from (outsAt0 m c (point 7 0).val (point 7 0).isLt).2.1) (ix2 0 l) = ∑ t, ∑ h, shareQ m c l t h := by
  have h := next9 m c 7 6 rfl (next9 m c 6 5 rfl (next9 m c 5 4 rfl (next9 m c 4 3 rfl (next9 m c 3 2 rfl (next9 m c 2 1 rfl (next9 m c 1 0 rfl (first9 m c)))))))
  refine (h l).trans ?_
  refine Eq.trans ?_ (sum_split (n := 8) (b := 512) rfl fun t => ∑ h, shareQ m c l t h)
  rw [Fin.sum_univ_eight, zero_add]
  rfl

/-- One point alone writes it back. -/
theorem disjoint9 : ∀ t t' : Fin cfg0.N, (cfg0.win 9).flush t = true → (cfg0.win 9).flush t' = true → t ≠ t' →
    Disjoint ((cfg0.win 9).blk t).view.set ((cfg0.win 9).blk t').view.set := fun t t' hf hf' hne =>
  (cfg0.win 9).disjoint_blk fun h => hne
    ((by decide +kernel : ∀ t t' : Fin grid0.N, t.val % 8 = 7 → t'.val % 8 = 7 → win0_9.index t = win0_9.index t' → t = t') t t'
      ((flush0_9 t).mp hf) ((flush0_9 t').mp hf') h)

/-- The queries' gain's gradient, entry by entry. -/
theorem array9 (r : Fin 1) (l : Fin 128) : (show FVec Ideal S1x128 .f32 from (dats m 0 c).arrAt 9 cfg0.N) (ix2 r l) = ∑ t, ∑ h, shareQ m c l t h := by
  have e := congrFun ((dats m 0 c).read_blk_arrAt_eq_flushed 9 disjoint9 cfg0.N (point 7 0) (point 7 0).isLt ((flush0_9 _).mpr rfl)) (ix2 0 l)
  rw [View.read_apply, Value.flushed9] at e
  refine Eq.trans ?_ (left9 m c l)
  refine Eq.trans ?_ e
  show (dats m 0 c).arrAt 9 cfg0.N _ = (dats m 0 c).arrAt 9 cfg0.N _
  refine congrArg ((dats m 0 c).arrAt 9 cfg0.N) (funext fun a => Fin.ext ?_)
  match a with
  | ⟨0, _⟩ => show (r : ℕ) = win0_9.index (point 7 0) 0 * 1 + 1 * 0; rw [(index9 7 0).1]; omega
  | ⟨1, _⟩ => show (l : ℕ) = win0_9.index (point 7 0) 1 * 128 + 1 * (l : ℕ); rw [(index9 7 0).2]; omega

/-- A panel's share of the keys' gain's gradient. -/
theorem panel10 (l : Fin 128) {a : FVec Ideal S1x128 .f32} {O : EReal} (ha : a (ix2 0 l) = O) :
    gains10 (F := Ideal) (iblk m c 0 (point i j)) (iblk m c 2 (point i j)) (iblk m c 4 (point i j)) (iblk m c 5 (point i j)) a (ix2 0 l) = O + ∑ r, ∑ h, shareK m c l (row i r) h := by
  rw [gains10_read, ha, Finset.sum_comm]
  exact congrArg (O + ·) (Finset.sum_congr rfl fun r _ => Finset.sum_congr rfl fun h _ => share_congr (fun k => block0 m c i j r _)
    (fun k => (block2 m c i j r _).trans (congrArg (fun z => arg2 m c (ix2 (row i r) z)) (Fin.ext (by show ((h : ℕ) + 8 - 8) * 128 + (k : ℕ) = h * 128 + k; omega)))) (fun k => block4 m c i j r k) (fun k => block5 m c i j r k) l)

/-- The first point leaves its panel's share … -/
theorem first10 (l : Fin 128) : (show FVec Ideal S1x128 .f32 from (outsAt0 m c (point 0 0).val (point 0 0).isLt).2.2) (ix2 0 l) = 0 + ∑ r, ∑ h, shareK m c l (row 0 r) h := by
  rw [outsAt0_A m c (point 0 0) rfl]
  dsimp only
  rw [out_A_10]
  refine panel10 m c 0 0 l ?_
  unfold k0_pay2
  pointwise

/-- … and a later one adds its own. -/
theorem next10 (i i' : Fin 8) (hi : (i : ℕ) = i' + 1) {O : Fin 128 → EReal}
    (h : ∀ l, (show FVec Ideal S1x128 .f32 from (outsAt0 m c (point i' 0).val (point i' 0).isLt).2.2) (ix2 0 l) = O l) (l : Fin 128) :
    (show FVec Ideal S1x128 .f32 from (outsAt0 m c (point i 0).val (point i 0).isLt).2.2) (ix2 0 l) = O l + ∑ r, ∑ h, shareK m c l (row i r) h := by
  have e : (point i 0).val - 1 = (point i' 0).val := by
    show (i : ℕ) * 1 + 0 - 1 = i' * 1 + 0
    omega
  rw [outsAt0_B m c (point i 0) (by show ¬ ((i : ℕ) * 1 + 0) % 8 = 0; omega)]
  dsimp only
  rw [out_B_10]
  simp only [e]
  exact panel10 m c i 0 l (h l)

/-- After the last point the block holds the sum over all tokens and heads. -/
theorem left10 (l : Fin 128) : (show FVec Ideal S1x128 .f32 from (outsAt0 m c (point 7 0).val (point 7 0).isLt).2.2) (ix2 0 l) = ∑ t, ∑ h, shareK m c l t h := by
  have h := next10 m c 7 6 rfl (next10 m c 6 5 rfl (next10 m c 5 4 rfl (next10 m c 4 3 rfl (next10 m c 3 2 rfl (next10 m c 2 1 rfl (next10 m c 1 0 rfl (first10 m c)))))))
  refine (h l).trans ?_
  refine Eq.trans ?_ (sum_split (n := 8) (b := 512) rfl fun t => ∑ h, shareK m c l t h)
  rw [Fin.sum_univ_eight, zero_add]
  rfl

/-- One point alone writes it back. -/
theorem disjoint10 : ∀ t t' : Fin cfg0.N, (cfg0.win 10).flush t = true → (cfg0.win 10).flush t' = true → t ≠ t' →
    Disjoint ((cfg0.win 10).blk t).view.set ((cfg0.win 10).blk t').view.set := fun t t' hf hf' hne =>
  (cfg0.win 10).disjoint_blk fun h => hne
    ((by decide +kernel : ∀ t t' : Fin grid0.N, t.val % 8 = 7 → t'.val % 8 = 7 → win0_10.index t = win0_10.index t' → t = t') t t'
      ((flush0_10 t).mp hf) ((flush0_10 t').mp hf') h)

/-- The keys' gain's gradient, entry by entry. -/
theorem array10 (r : Fin 1) (l : Fin 128) : (show FVec Ideal S1x128 .f32 from (dats m 0 c).arrAt 10 cfg0.N) (ix2 r l) = ∑ t, ∑ h, shareK m c l t h := by
  have e := congrFun ((dats m 0 c).read_blk_arrAt_eq_flushed 10 disjoint10 cfg0.N (point 7 0) (point 7 0).isLt ((flush0_10 _).mpr rfl)) (ix2 0 l)
  rw [View.read_apply, Value.flushed10] at e
  refine Eq.trans ?_ (left10 m c l)
  refine Eq.trans ?_ e
  show (dats m 0 c).arrAt 10 cfg0.N _ = (dats m 0 c).arrAt 10 cfg0.N _
  refine congrArg ((dats m 0 c).arrAt 10 cfg0.N) (funext fun a => Fin.ext ?_)
  match a with
  | ⟨0, _⟩ => show (r : ℕ) = win0_10.index (point 7 0) 0 * 1 + 1 * 0; rw [(index10 7 0).1]; omega
  | ⟨1, _⟩ => show (l : ℕ) = win0_10.index (point 7 0) 1 * 128 + 1 * (l : ℕ); rw [(index10 7 0).2]; omega

/-- The projections' gradient, entry by entry. -/
theorem array8 (i : Fin 8) (j : Fin 1) {v : EReal} (r : Fin 512) (q : Fin 1536) (hQ : ∀ (h : Fin 8) (l : Fin 128), (q : ℕ) = h * 128 + l → formQ m c (row i r) h l = v)
    (hK : ∀ (h : Fin 2) (l : Fin 128), (q : ℕ) = (h + 8) * 128 + l → formK m c (row i r) h l = v) (hV : ∀ k : Fin 256, (q : ℕ) = 1280 + k → arg3 m c (ix2 (row i r) k) = v) : (show FVec Ideal S4096x1536 .bf16 from (dats m 0 c).arrAt 8 cfg0.N) (ix2 (row i r) q)
    = v := by
  have e := congrFun (Value.blocks8 m c (point i j) (flush0_8 _)) (ix2 r q)
  rw [View.read_apply, Value.flushed8] at e
  have t := left8 m c i j r q hQ hK hV
  refine Eq.trans ?_ t
  refine Eq.trans ?_ e
  show (dats m 0 c).arrAt 8 cfg0.N _ = (dats m 0 c).arrAt 8 cfg0.N _
  refine congrArg ((dats m 0 c).arrAt 8 cfg0.N) (funext fun a => Fin.ext ?_)
  match a with
  | ⟨0, _⟩ => show (i : ℕ) * 512 + (r : ℕ) = win0_8.index (point i j) 0 * 512 + 1 * (r : ℕ); rw [(index8 i j).1]; omega
  | ⟨1, _⟩ => show (q : ℕ) = win0_8.index (point i j) 1 * 1536 + 1 * (q : ℕ); rw [(index8 i j).2]; omega

/-- The reference's gradient of a projected query. -/
theorem referenceQ (t : Fin 4096) (h : Fin 8) (l : Fin 128) (q : Fin 1536) (hq : (q : ℕ) = h * 128 + l) :
    formQ m c t h l = val_main_v236 (F := Ideal) (arg0 m c) (arg1 m c) (arg2 m c) (arg3 m c) (arg4 m c) (arg5 m c) (arg6 m c) (arg7 m c) (arg8 m c) (arg9 m c) (ix2 t q) := by
  have hg := queries_grad (arg0 m c) (arg1 m c) (arg4 m c) (arg5 m c) (arg6 m c) (arg7 m c) (arg8 m c) ⟨t / 2048, by omega⟩ ⟨t % 2048, by omega⟩ h l
  have ht : (⟨(t : ℕ) / 2048 * 2048 + t % 2048, by omega⟩ : Fin 4096) = t := Fin.ext (by show (t : ℕ) / 2048 * 2048 + t % 2048 = t; omega)
  dsimp only at hg
  simp only [ht] at hg
  refine hg.symm.trans ?_
  unfold val_main_v236 val_main_v235 val_main_v234 val_main_v233
  pointwise
  rw [dif_pos (by omega)]
  refine congrArg (val_main_v231 (F := Ideal) _ _ _ _ _ _ _) ?_
  refine congrArg₂ (ix4 _ _) (Fin.ext ?_) (Fin.ext ?_)
  · show (h : ℕ) = _; simp only; omega
  · show (l : ℕ) = _; simp only; omega

/-- The reference's gradient of a projected key. -/
theorem referenceK (t : Fin 4096) (h : Fin 2) (l : Fin 128) (q : Fin 1536) (hq : (q : ℕ) = (h + 8) * 128 + l) :
    formK m c t h l = val_main_v236 (F := Ideal) (arg0 m c) (arg1 m c) (arg2 m c) (arg3 m c) (arg4 m c) (arg5 m c) (arg6 m c) (arg7 m c) (arg8 m c) (arg9 m c) (ix2 t q) := by
  have hg := keys_grad (arg0 m c) (arg2 m c) (arg4 m c) (arg5 m c) (arg6 m c) (arg7 m c) (arg9 m c) ⟨t / 2048, by omega⟩ ⟨t % 2048, by omega⟩ h l
  have ht : (⟨(t : ℕ) / 2048 * 2048 + t % 2048, by omega⟩ : Fin 4096) = t := Fin.ext (by show (t : ℕ) / 2048 * 2048 + t % 2048 = t; omega)
  dsimp only at hg
  simp only [ht] at hg
  refine hg.symm.trans ?_
  unfold val_main_v236 val_main_v235 val_main_v234 val_main_v180
  pointwise
  rw [dif_neg (by omega), dif_pos (by omega)]
  refine congrArg (val_main_v178 (F := Ideal) _ _ _ _ _ _ _) ?_
  refine congrArg₂ (ix4 _ _) (Fin.ext ?_) (Fin.ext ?_)
  · show (h : ℕ) = _; simp only; omega
  · show (l : ℕ) = _; simp only; omega

/-- The reference's gradient of the values. -/
theorem referenceV (t : Fin 4096) (k : Fin 256) (q : Fin 1536) (hq : (q : ℕ) = 1280 + k) : arg3 m c (ix2 t k) = val_main_v236 (F := Ideal) (arg0 m c) (arg1 m c) (arg2 m c) (arg3 m c) (arg4 m c) (arg5 m c) (arg6 m c) (arg7 m c) (arg8 m c) (arg9 m c) (ix2 t q) := by
  unfold val_main_v236 val_main_v235 val_main_v234 val_main_v125
  pointwise
  rw [dif_neg (by omega), dif_neg (by omega)]
  refine congrArg (arg3 m c) (congrArg₂ ix2 (Fin.ext ?_) (Fin.ext ?_))
  · show (t : ℕ) = _; omega
  · show (k : ℕ) = _; simp only; omega

/-- The reference's gradient of the projections is the kernel's first result array, … -/
theorem agree8 (x0 : FVec Ideal S4096x1536 .f32) (x1 : FVec Ideal S4096x1024 .f32) (x2 : FVec Ideal S4096x256 .f32) (x3 : FVec Ideal S4096x256 .f32) (x4 : FVec Ideal S2048x32 .f32) (x5 : FVec Ideal S2048x32 .f32) (x6 : FVec Ideal S2048x32 .f32) (x7 : FVec Ideal S2048x32 .f32) (x8 : FVec Ideal S1x128 .f32) (x9 : FVec Ideal S1x128 .f32)
    (h0 : x0 = arg0 m c) (h1 : x1 = arg1 m c) (h2 : x2 = arg2 m c) (h3 : x3 = arg3 m c) (h4 : x4 = arg4 m c) (h5 : x5 = arg5 m c) (h6 : x6 = arg6 m c) (h7 : x7 = arg7 m c) (h8 : x8 = arg8 m c) (h9 : x9 = arg9 m c) :
    val_main_v236 (F := Ideal) x0 x1 x2 x3 x4 x5 x6 x7 x8 x9 = (show FVec Ideal S4096x1536 .bf16 from (dats m 0 c).arrAt 8 cfg0.N) := by
  subst h0 h1 h2 h3 h4 h5 h6 h7 h8 h9
  funext ij
  rw [← ix2_eta ij]
  obtain ⟨i, r, hr⟩ := row_surj (ij 0)
  rw [← hr]
  exact (array8 m c i 0 r (ij 1) (fun h l => referenceQ m c (row i r) h l (ij 1)) (fun h l => referenceK m c (row i r) h l (ij 1)) (fun k => referenceV m c (row i r) k (ij 1))).symm
/-- … the queries' gain's gradient the second … -/
theorem agree9 (x0 : FVec Ideal S4096x1536 .f32) (x1 : FVec Ideal S4096x1024 .f32) (x4 : FVec Ideal S2048x32 .f32) (x5 : FVec Ideal S2048x32 .f32) (x6 : FVec Ideal S2048x32 .f32) (x7 : FVec Ideal S2048x32 .f32)
    (h0 : x0 = arg0 m c) (h1 : x1 = arg1 m c) (h4 : x4 = arg4 m c) (h5 : x5 = arg5 m c) (h6 : x6 = arg6 m c) (h7 : x7 = arg7 m c) :
    val_main_v232 (F := Ideal) x0 x1 x4 x5 x6 x7 = (show FVec Ideal S1x128 .f32 from (dats m 0 c).arrAt 9 cfg0.N) := by
  subst h0 h1 h4 h5 h6 h7
  funext ij
  rw [← ix2_eta ij]
  refine (queries_gain _ _ _ _ _ _ (ij 0) (ij 1)).trans (Eq.trans ?_ (array9 m c (ij 0) (ij 1)).symm)
  refine Eq.trans ?_ (sum_split (n := 2) (b := 2048) rfl fun t => ∑ h, shareQ m c (ij 1) t h)
  refine Finset.sum_congr rfl fun b _ => Finset.sum_congr rfl fun t _ => Finset.sum_congr rfl fun h _ => ?_
  have ht : (⟨((b : ℕ) * 2048 + t) % 2048, by omega⟩ : Fin 2048) = t := Fin.ext (by show ((b : ℕ) * 2048 + t) % 2048 = t; omega)
  unfold shareQ cosT sinT
  dsimp only
  rw [ht]
  rfl
/-- … and the keys' gain's the third. -/
theorem agree10 (x0 : FVec Ideal S4096x1536 .f32) (x2 : FVec Ideal S4096x256 .f32) (x4 : FVec Ideal S2048x32 .f32) (x5 : FVec Ideal S2048x32 .f32) (x6 : FVec Ideal S2048x32 .f32) (x7 : FVec Ideal S2048x32 .f32)
    (h0 : x0 = arg0 m c) (h2 : x2 = arg2 m c) (h4 : x4 = arg4 m c) (h5 : x5 = arg5 m c) (h6 : x6 = arg6 m c) (h7 : x7 = arg7 m c) :
    val_main_v179 (F := Ideal) x0 x2 x4 x5 x6 x7 = (show FVec Ideal S1x128 .f32 from (dats m 0 c).arrAt 10 cfg0.N) := by
  subst h0 h2 h4 h5 h6 h7
  funext ij
  rw [← ix2_eta ij]
  refine (keys_gain _ _ _ _ _ _ (ij 0) (ij 1)).trans (Eq.trans ?_ (array10 m c (ij 0) (ij 1)).symm)
  refine Eq.trans ?_ (sum_split (n := 2) (b := 2048) rfl fun t => ∑ h, shareK m c (ij 1) t h)
  refine Finset.sum_congr rfl fun b _ => Finset.sum_congr rfl fun t _ => Finset.sum_congr rfl fun h _ => ?_
  have ht : (⟨((b : ℕ) * 2048 + t) % 2048, by omega⟩ : Fin 2048) = t := Fin.ext (by show ((b : ℕ) * 2048 + t) % 2048 = t; omega)
  unfold shareK cosT sinT
  dsimp only
  rw [ht]
  rfl

end Cert.Kernel22Ideal.Tile

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Gen.Pre_finite2
public import proofs.«01_k».proof.Proof.Algebra
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.HiddenGrad
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.DownGrad
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.UpGrad
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.NormMlpGrad
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.UpFwd
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.DownFwd
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.ProjFwd
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.RgInFwd
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.QkvFwd
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.OutGrad
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.ValueGrad
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.QkvGrad
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.RgInGrad
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.NormQkvGrad
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.NormRgGrad
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.MlpLossFwd
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.AttnFwd
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.ConvGrad
public import proofs.«01_k».proof.Proof.Gen.Kernel19.Frame
public import proofs.«01_k».proof.Proof.Gen.Kernel19Ideal.Frame
public import proofs.«01_k».proof.Proof.GatedValue
public import proofs.«01_k».proof.Proof.Gen.Reference19Ideal.Run
public import proofs.«01_k».proof.Proof.Gen.Reference19Ideal.Read
public import proofs.«01_k».proof.Proof.Gen.Pre_finite19
public import proofs.«01_k».proof.Proof.GatedGrad
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.FirstNormFwd
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.TurnFwd
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.TurnBackGrad
public import Idealize.ShloMosaic.Adequacy
public import Idealize.ShloMosaic.Init

@[expose] public section

noncomputable section

namespace Cert.Proof

open Idealize.ShloMosaic Idealize.SL.Sem Cert.Kernel

/-- The reference is host code on one device without semaphores: it runs to its end and leaves its arguments as they were. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- On finite arguments kernel and reference both run to their ends and leave the same three gradients. -/
theorem algebraic : Cert.algebraic_KernelIdeal_ReferenceIdeal_pre_finite := fun m g m' g' hpre hargs =>
  ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks m g,
    (θ_run Cert.ReferenceIdeal.defs _ _).mono (fun r h c => by
      obtain ⟨q, k, v, w, H⟩ := Cert.Algebra.args (hpre c)
      obtain ⟨a0, a1, a2, a3⟩ := hargs c
      refine ⟨(h c).1.trans ?_, (h c).2.1.trans ?_, (h c).2.2.1.trans ?_, (h c).2.2.2⟩
      · rw [Cert.ReferenceIdeal.Read.val_main_v70_eq, a0, a1, a2, a3]
        exact Cert.Algebra.agree_q H
      · rw [Cert.ReferenceIdeal.Read.val_main_v69_eq, a0, a1, a2, a3]
        exact Cert.Algebra.agree_k H
      · rw [Cert.ReferenceIdeal.Read.val_main_v68_eq, a0, a1, a3]
        exact Cert.Algebra.agree_v H)
      (Cert.ReferenceIdeal.Value.run (F := Ideal) m' g')⟩

/-- Reference 3 is host code too. -/
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Kernel and reference leave the same gradient of the hidden values. -/
theorem algebraic3 : Cert.algebraic_Kernel3Ideal_Reference3Ideal := fun m g m' g' _ hargs =>
  ⟨fun c => (Cert.Kernel3Ideal.Gen.dats m 0 c).arrAt 3 Cert.Kernel3Ideal.cfg0.N, Cert.Kernel3Ideal.Value.run_blocks m g,
    (θ_run Cert.Reference3Ideal.defs _ _).mono (fun r h c => by
      obtain ⟨a0, a1, a2⟩ := hargs c
      exact ⟨(h c).1.trans ((Cert.Reference3Ideal.Read.val_main_v12_eq _ _ _).trans (Cert.Kernel3Ideal.Tile.agree m c _ _ _ a0 a1 a2)), (h c).2⟩)
      (Cert.Reference3Ideal.Value.run (F := Ideal) m' g')⟩

/-- Reference 4 is host code too. -/
theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Kernel and reference leave the same gradient of the down matrix. -/
theorem algebraic4 : Cert.algebraic_Kernel4Ideal_Reference4Ideal := fun m g m' g' _ hargs =>
  ⟨fun c => (Cert.Kernel4Ideal.Gen.dats m 0 c).arrAt 2 Cert.Kernel4Ideal.cfg0.N, Cert.Kernel4Ideal.Value.run_blocks m g,
    (θ_run Cert.Reference4Ideal.defs _ _).mono (fun r h c => by
      obtain ⟨a0, a1, a2, _, a4⟩ := hargs c
      exact ⟨(h c).1.trans ((Cert.Reference4Ideal.Read.val_main_v19_eq _ _ _ _).trans (Cert.Kernel4Ideal.Tile.agree m c _ _ _ _ a0 a1 a2 a4)), (h c).2⟩)
      (Cert.Reference4Ideal.Value.run (F := Ideal) m' g')⟩

/-- Reference 5 is host code too. -/
theorem frame_reference5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- Kernel and reference leave the same gradient of the up matrix. -/
theorem algebraic5 : Cert.algebraic_Kernel5Ideal_Reference5Ideal := fun m g m' g' _ hargs =>
  ⟨fun c => (Cert.Kernel5Ideal.Gen.dats m 0 c).arrAt 2 Cert.Kernel5Ideal.cfg0.N, Cert.Kernel5Ideal.Value.run_blocks m g,
    (θ_run Cert.Reference5Ideal.defs _ _).mono (fun r h c => by
      obtain ⟨a0, a1, a2, a3, a4⟩ := hargs c
      exact ⟨(h c).1.trans ((Cert.Reference5Ideal.Read.val_main_v30_eq _ _ _ _ _).trans (Cert.Kernel5Ideal.Tile.agree m c _ _ _ _ _ a0 a1 a2 a3 a4)), (h c).2⟩)
      (Cert.Reference5Ideal.Value.run (F := Ideal) m' g')⟩

/-- Reference 6 is host code too. -/
theorem frame_reference6 : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- Kernel and reference leave the same gradient through the MLP's up projection and norm, in both formats, and the same gradient of the gain. -/
theorem algebraic6 : Cert.algebraic_Kernel6Ideal_Reference6Ideal := fun m g m' g' _ hargs =>
  ⟨fun c => (Cert.Kernel6Ideal.Gen.dats m 0 c).arrAt 5 Cert.Kernel6Ideal.cfg0.N, fun c => (Cert.Kernel6Ideal.Gen.dats m 0 c).arrAt 6 Cert.Kernel6Ideal.cfg0.N, fun c => (Cert.Kernel6Ideal.Gen.dats m 0 c).arrAt 7 Cert.Kernel6Ideal.cfg0.N, Cert.Kernel6Ideal.Value.run_blocks m g,
    (θ_run Cert.Reference6Ideal.defs _ _).mono (fun r h c => by
      obtain ⟨a0, a1, a2, a3, a4⟩ := hargs c
      exact ⟨(h c).1.trans ((Cert.Reference6Ideal.Read.val_main_v50_eq _ _).trans (Cert.Kernel6Ideal.Tile.agree5 m c _ _ _ _ _ a0 a1 a2 a3 a4)),
        (h c).2.1.trans ((Cert.Reference6Ideal.Read.val_main_v51_eq _ _).trans (Cert.Kernel6Ideal.Tile.agree6 m c _ _ _ _ _ a0 a1 a2 a3 a4)),
        (h c).2.2.1.trans ((Cert.Reference6Ideal.Read.val_main_v33_eq _ _ _ _ _).trans (Cert.Kernel6Ideal.Tile.agree7 m c _ _ _ _ _ a0 a1 a2 a3 a4)), (h c).2.2.2⟩)
      (Cert.Reference6Ideal.Value.run (F := Ideal) m' g')⟩

/-- Reference 7 is host code too. -/
theorem frame_reference7 : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- Kernel and reference leave the same hidden layer and its ReLU. -/
theorem algebraic7 : Cert.algebraic_Kernel7Ideal_Reference7Ideal := fun m g m' g' _ hargs =>
  ⟨fun c => (Cert.Kernel7Ideal.Gen.dats m 0 c).arrAt 2 Cert.Kernel7Ideal.cfg0.N, fun c => (Cert.Kernel7Ideal.Gen.dats m 0 c).arrAt 3 Cert.Kernel7Ideal.cfg0.N, Cert.Kernel7Ideal.Value.run_blocks m g,
    (θ_run Cert.Reference7Ideal.defs _ _).mono (fun r h c => by
      obtain ⟨a0, a1, a2⟩ := hargs c
      exact ⟨(h c).1.trans ((Cert.Reference7Ideal.Read.val_main_v15_eq _ _ _).trans (Cert.Kernel7Ideal.Tile.agree2 m c _ _ _ a0 a1 a2)),
        (h c).2.1.trans ((Cert.Reference7Ideal.Read.val_main_v16_eq _ _ _).trans (Cert.Kernel7Ideal.Tile.agree3 m c _ _ _ a0 a1 a2)), (h c).2.2⟩)
      (Cert.Reference7Ideal.Value.run (F := Ideal) m' g')⟩

/-- Reference 8 is host code too. -/
theorem frame_reference8 : Cert.quiescent_Reference8Ideal := fun m ρ _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m ρ)

/-- Kernel and reference leave the same stream after the MLP, and the same normed stream. -/
theorem algebraic8 : Cert.algebraic_Kernel8Ideal_Reference8Ideal := fun m g m' g' _ hargs =>
  ⟨fun c => (Cert.Kernel8Ideal.Gen.dats m 0 c).arrAt 4 Cert.Kernel8Ideal.cfg0.N, fun c => (Cert.Kernel8Ideal.Gen.dats m 0 c).arrAt 5 Cert.Kernel8Ideal.cfg0.N, Cert.Kernel8Ideal.Value.run_blocks m g,
    (θ_run Cert.Reference8Ideal.defs _ _).mono (fun r h c => by
      obtain ⟨a0, a1, a2, a3, a4⟩ := hargs c
      exact ⟨(h c).1.trans ((Cert.Reference8Ideal.Read.val_main_v16_eq _ _ _ _).trans (Cert.Kernel8Ideal.Tile.agree4 m c _ _ _ _ a0 a1 a2 a3)),
        (h c).2.1.trans ((Cert.Reference8Ideal.Read.val_main_v29_eq _ _).trans (Cert.Kernel8Ideal.Tile.agree5 m c _ _ _ _ _ a0 a1 a2 a3 a4)), (h c).2.2⟩)
      (Cert.Reference8Ideal.Value.run (F := Ideal) m' g')⟩

/-- Reference 9 is host code too. -/
theorem frame_reference9 : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run (F := Ideal) m ρ)

/-- Kernel and reference leave the same stream after an output projection, and the same normed stream. -/
theorem algebraic9 : Cert.algebraic_Kernel9Ideal_Reference9Ideal := fun m g m' g' _ hargs =>
  ⟨fun c => (Cert.Kernel9Ideal.Gen.dats m 0 c).arrAt 4 Cert.Kernel9Ideal.cfg0.N, fun c => (Cert.Kernel9Ideal.Gen.dats m 0 c).arrAt 5 Cert.Kernel9Ideal.cfg0.N, Cert.Kernel9Ideal.Value.run_blocks m g,
    (θ_run Cert.Reference9Ideal.defs _ _).mono (fun r h c => by
      obtain ⟨a0, a1, a2, a3⟩ := hargs c
      exact ⟨(h c).1.trans ((Cert.Reference9Ideal.Read.val_main_v1_eq _ _ _).trans (Cert.Kernel9Ideal.Tile.agree4 m c _ _ _ a0 a1 a2)),
        (h c).2.1.trans ((Cert.Reference9Ideal.Read.val_main_v14_eq _ _ _ _).trans (Cert.Kernel9Ideal.Tile.agree5 m c _ _ _ _ a0 a1 a2 a3)), (h c).2.2⟩)
      (Cert.Reference9Ideal.Value.run (F := Ideal) m' g')⟩

/-- Reference 10 is host code too. -/
theorem frame_reference10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- Kernel and reference leave the same projected input of the recurrent block. -/
theorem algebraic10 : Cert.algebraic_Kernel10Ideal_Reference10Ideal := fun m g m' g' _ hargs =>
  ⟨fun c => (Cert.Kernel10Ideal.Gen.dats m 0 c).arrAt 2 Cert.Kernel10Ideal.cfg0.N, Cert.Kernel10Ideal.Value.run_blocks m g,
    (θ_run Cert.Reference10Ideal.defs _ _).mono (fun r h c => by
      obtain ⟨a0, a1, a2⟩ := hargs c
      exact ⟨(h c).1.trans ((Cert.Reference10Ideal.Read.val_main_v12_eq _ _ _).trans (Cert.Kernel10Ideal.Tile.agree2 m c _ _ _ a0 a1 a2)), (h c).2⟩)
      (Cert.Reference10Ideal.Value.run (F := Ideal) m' g')⟩

/-- Reference 11 is host code too. -/
theorem frame_reference11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- Kernel and reference leave the same queries, keys and values. -/
theorem algebraic11 : Cert.algebraic_Kernel11Ideal_Reference11Ideal := fun m g m' g' _ hargs =>
  ⟨fun c => (Cert.Kernel11Ideal.Gen.dats m 0 c).arrAt 2 Cert.Kernel11Ideal.cfg0.N, Cert.Kernel11Ideal.Value.run_blocks m g,
    (θ_run Cert.Reference11Ideal.defs _ _).mono (fun r h c => by
      obtain ⟨a0, a1, a2⟩ := hargs c
      exact ⟨(h c).1.trans ((Cert.Reference11Ideal.Read.val_main_v12_eq _ _ _).trans (Cert.Kernel11Ideal.Tile.agree2 m c _ _ _ a0 a1 a2)), (h c).2⟩)
      (Cert.Reference11Ideal.Value.run (F := Ideal) m' g')⟩

/-- Reference 12 is host code too. -/
theorem frame_reference12 : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

/-- Kernel and reference leave the same gradient of an output projection's matrix. -/
theorem algebraic12 : Cert.algebraic_Kernel12Ideal_Reference12Ideal := fun m g m' g' _ hargs =>
  ⟨fun c => (Cert.Kernel12Ideal.Gen.dats m 0 c).arrAt 2 Cert.Kernel12Ideal.cfg0.N, Cert.Kernel12Ideal.Value.run_blocks m g,
    (θ_run Cert.Reference12Ideal.defs _ _).mono (fun r h c => by
      obtain ⟨a0, _, a2⟩ := hargs c
      exact ⟨(h c).1.trans ((Cert.Reference12Ideal.Read.val_main_v3_eq _ _).trans (Cert.Kernel12Ideal.Tile.agree m c _ _ a0 a2)), (h c).2⟩)
      (Cert.Reference12Ideal.Value.run (F := Ideal) m' g')⟩

/-- Reference 13 is host code too. -/
theorem frame_reference13 : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

/-- Kernel and reference leave the same gradient of the values an output projection takes. -/
theorem algebraic13 : Cert.algebraic_Kernel13Ideal_Reference13Ideal := fun m g m' g' _ hargs =>
  ⟨fun c => (Cert.Kernel13Ideal.Gen.dats m 0 c).arrAt 2 Cert.Kernel13Ideal.cfg0.N, Cert.Kernel13Ideal.Value.run_blocks m g,
    (θ_run Cert.Reference13Ideal.defs _ _).mono (fun r h c => by
      obtain ⟨_, a1, a2⟩ := hargs c
      exact ⟨(h c).1.trans ((Cert.Reference13Ideal.Read.val_main_v2_eq _ _).trans (Cert.Kernel13Ideal.Tile.agree m c _ _ a1 a2)), (h c).2⟩)
      (Cert.Reference13Ideal.Value.run (F := Ideal) m' g')⟩

/-- Reference 14 is host code too. -/
theorem frame_reference14 : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

/-- Kernel and reference leave the same gradient of the attention block's input projection. -/
theorem algebraic14 : Cert.algebraic_Kernel14Ideal_Reference14Ideal := fun m g m' g' _ hargs =>
  ⟨fun c => (Cert.Kernel14Ideal.Gen.dats m 0 c).arrAt 2 Cert.Kernel14Ideal.cfg0.N, Cert.Kernel14Ideal.Value.run_blocks m g,
    (θ_run Cert.Reference14Ideal.defs _ _).mono (fun r h c => by
      obtain ⟨a0, a1, _, a3⟩ := hargs c
      exact ⟨(h c).1.trans ((Cert.Reference14Ideal.Read.val_main_v17_eq _ _ _).trans (Cert.Kernel14Ideal.Tile.agree m c _ _ _ a0 a1 a3)), (h c).2⟩)
      (Cert.Reference14Ideal.Value.run (F := Ideal) m' g')⟩

/-- Reference 15 is host code too. -/
theorem frame_reference15 : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

/-- Kernel and reference leave the same gradient of the recurrent block's input projection. -/
theorem algebraic15 : Cert.algebraic_Kernel15Ideal_Reference15Ideal := fun m g m' g' _ hargs =>
  ⟨fun c => (Cert.Kernel15Ideal.Gen.dats m 0 c).arrAt 2 Cert.Kernel15Ideal.cfg0.N, Cert.Kernel15Ideal.Value.run_blocks m g,
    (θ_run Cert.Reference15Ideal.defs _ _).mono (fun r h c => by
      obtain ⟨a0, a1, _, a3⟩ := hargs c
      exact ⟨(h c).1.trans ((Cert.Reference15Ideal.Read.val_main_v17_eq _ _ _).trans (Cert.Kernel15Ideal.Tile.agree m c _ _ _ a0 a1 a3)), (h c).2⟩)
      (Cert.Reference15Ideal.Value.run (F := Ideal) m' g')⟩

/-- Reference 16 is host code too. -/
theorem frame_reference16 : Cert.quiescent_Reference16Ideal := fun m ρ _ =>
  (θ_run Cert.Reference16Ideal.defs _ _).mono (fun r h => ⟨fun c => (h c).2.2.2,
      Idealize.ShloMosaic.sem_eq_zero_of_no_sems (by decide) r.2⟩)
    (Cert.Reference16Ideal.Value.run (F := Ideal) m ρ)

/-- Kernel and reference leave the same gradient through the attention block's input projection and norm, in both formats, and the same gradient of the gain. -/
theorem algebraic16 : Cert.algebraic_Kernel16Ideal_Reference16Ideal := fun m g m' g' _ hargs =>
  ⟨fun c => (Cert.Kernel16Ideal.Gen.dats m 0 c).arrAt 5 Cert.Kernel16Ideal.cfg0.N, fun c => (Cert.Kernel16Ideal.Gen.dats m 0 c).arrAt 6 Cert.Kernel16Ideal.cfg0.N, fun c => (Cert.Kernel16Ideal.Gen.dats m 0 c).arrAt 7 Cert.Kernel16Ideal.cfg0.N, Cert.Kernel16Ideal.Value.run_blocks m g,
    (θ_run Cert.Reference16Ideal.defs _ _).mono (fun r h c => by
      obtain ⟨a0, a1, a2, a3, a4⟩ := hargs c
      exact ⟨(h c).1.trans ((Cert.Reference16Ideal.Read.val_main_v36_eq _ _).trans (Cert.Kernel16Ideal.Tile.agree5 m c _ _ _ _ _ a0 a1 a2 a3 a4)),
        (h c).2.1.trans ((Cert.Reference16Ideal.Read.val_main_v37_eq _ _).trans (Cert.Kernel16Ideal.Tile.agree6 m c _ _ _ _ _ a0 a1 a2 a3 a4)),
        (h c).2.2.1.trans ((Cert.Reference16Ideal.Read.val_main_v19_eq _ _ _).trans (Cert.Kernel16Ideal.Tile.agree7 m c _ _ _ a0 a2 a3)), (h c).2.2.2⟩)
      (Cert.Reference16Ideal.Value.run (F := Ideal) m' g')⟩

/-- Reference 17 is host code too. -/
theorem frame_reference17 : Cert.quiescent_Reference17Ideal := fun m ρ _ =>
  (θ_run Cert.Reference17Ideal.defs _ _).mono (fun r h => ⟨fun c => (h c).2.2.2,
      Idealize.ShloMosaic.sem_eq_zero_of_no_sems (by decide) r.2⟩)
    (Cert.Reference17Ideal.Value.run (F := Ideal) m ρ)

/-- Kernel and reference leave the same gradient through the recurrent block's input projection and norm, in both formats, and the same gradient of the gain. -/
theorem algebraic17 : Cert.algebraic_Kernel17Ideal_Reference17Ideal := fun m g m' g' _ hargs =>
  ⟨fun c => (Cert.Kernel17Ideal.Gen.dats m 0 c).arrAt 5 Cert.Kernel17Ideal.cfg0.N, fun c => (Cert.Kernel17Ideal.Gen.dats m 0 c).arrAt 6 Cert.Kernel17Ideal.cfg0.N, fun c => (Cert.Kernel17Ideal.Gen.dats m 0 c).arrAt 7 Cert.Kernel17Ideal.cfg0.N, Cert.Kernel17Ideal.Value.run_blocks m g,
    (θ_run Cert.Reference17Ideal.defs _ _).mono (fun r h c => by
      obtain ⟨a0, a1, a2, a3, a4⟩ := hargs c
      exact ⟨(h c).1.trans ((Cert.Reference17Ideal.Read.val_main_v36_eq _ _).trans (Cert.Kernel17Ideal.Tile.agree5 m c _ _ _ _ _ a0 a1 a2 a3 a4)),
        (h c).2.1.trans ((Cert.Reference17Ideal.Read.val_main_v37_eq _ _).trans (Cert.Kernel17Ideal.Tile.agree6 m c _ _ _ _ _ a0 a1 a2 a3 a4)),
        (h c).2.2.1.trans ((Cert.Reference17Ideal.Read.val_main_v19_eq _ _ _).trans (Cert.Kernel17Ideal.Tile.agree7 m c _ _ _ a0 a2 a3)), (h c).2.2.2⟩)
      (Cert.Reference17Ideal.Value.run (F := Ideal) m' g')⟩

/-- Reference 18 is host code too. -/
theorem frame_reference18 : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run (F := Ideal) m ρ)

/-- Kernel and reference leave the same gradient of the loss at the last stream through the final norm, in both formats, the same loss, and the same gradient of the gain. -/
theorem algebraic18 : Cert.algebraic_Kernel18Ideal_Reference18Ideal := fun m g m' g' _ hargs =>
  ⟨fun c => (Cert.Kernel18Ideal.Gen.dats m 0 c).arrAt 5 Cert.Kernel18Ideal.cfg0.N, fun c => (Cert.Kernel18Ideal.Gen.dats m 0 c).arrAt 6 Cert.Kernel18Ideal.cfg0.N, fun c => (Cert.Kernel18Ideal.Gen.dats m 0 c).arrAt 7 Cert.Kernel18Ideal.cfg0.N, fun c => (Cert.Kernel18Ideal.Gen.dats m 0 c).arrAt 8 Cert.Kernel18Ideal.cfg0.N, Cert.Kernel18Ideal.Value.run_blocks m g,
    (θ_run Cert.Reference18Ideal.defs _ _).mono (fun r h c => by
      obtain ⟨a0, a1, a2, a3, a4, a5⟩ := hargs c
      exact ⟨(h c).1.trans ((Cert.Reference18Ideal.Read.val_main_v65_eq _ _).trans (Cert.Kernel18Ideal.Tile.agree5 m c _ _ _ _ _ _ a0 a1 a2 a3 a4 a5)),
        (h c).2.1.trans ((Cert.Reference18Ideal.Read.val_main_v66_eq _ _).trans (Cert.Kernel18Ideal.Tile.agree6 m c _ _ _ _ _ _ a0 a1 a2 a3 a4 a5)),
        (h c).2.2.1.trans ((Cert.Reference18Ideal.Read.val_main_v67_eq _ _).trans (Cert.Kernel18Ideal.Tile.agree7 m c _ _ _ _ _ _ a0 a1 a2 a3 a4 a5)),
        (h c).2.2.2.1.trans ((Cert.Reference18Ideal.Read.val_main_v49_eq _ _).trans (Cert.Kernel18Ideal.Tile.agree8 m c _ _ _ _ _ _ a0 a1 a2 a3 a4 a5)), (h c).2.2.2.2⟩)
      (Cert.Reference18Ideal.Value.run (F := Ideal) m' g')⟩

/-- Reference 2 is host code too. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- For finite queries and keys, kernel and reference leave the same attention output. -/
theorem algebraic2 : Cert.algebraic_Kernel2Ideal_Reference2Ideal_pre_finite2 := fun m g m' g' hpre hargs =>
  ⟨fun c => (Cert.Kernel2Ideal.Gen.dats m 0 c).arrAt 3 Cert.Kernel2Ideal.cfg0.N, Cert.Kernel2Ideal.Value.run_blocks m g,
    (θ_run Cert.Reference2Ideal.defs _ _).mono (fun r h c => by
      obtain ⟨⟨q, hq⟩, ⟨k, hk⟩⟩ := Cert.Kernel2Ideal.Tile.real_args m c (hpre c)
      obtain ⟨a0, a1, a2⟩ := hargs c
      refine ⟨(h c).1.trans ?_, (h c).2⟩
      rw [Cert.Reference2Ideal.Read.val_main_v26_eq, a0, a1, a2]
      exact Cert.Kernel2Ideal.Tile.agree hq hk)
      (Cert.Reference2Ideal.Value.run (F := Ideal) m' g')⟩

/-- Reference 23 is host code too. -/
theorem frame_reference23 : Cert.quiescent_Reference23Ideal := fun m ρ _ =>
  (θ_run Cert.Reference23Ideal.defs _ _).mono (fun r h => ⟨fun c => (h c).2.2,
      Idealize.ShloMosaic.sem_eq_zero_of_no_sems (by decide) r.2⟩)
    (Cert.Reference23Ideal.Value.run (F := Ideal) m ρ)

/-- Kernel and reference leave the same gradient of the convolution's input, beside the gate's, and of its taps and bias. -/
theorem algebraic23 : Cert.algebraic_Kernel23Ideal_Reference23Ideal := fun m g m' g' _ hargs =>
  ⟨fun c => (Cert.Kernel23Ideal.Gen.dats m 0 c).arrAt 3 Cert.Kernel23Ideal.cfg0.N, fun c => (Cert.Kernel23Ideal.Gen.dats m 0 c).arrAt 4 Cert.Kernel23Ideal.cfg0.N, Cert.Kernel23Ideal.Value.run_blocks m g,
    (θ_run Cert.Reference23Ideal.defs _ _).mono (fun r h c => by
      obtain ⟨a0, a1, _, a3, a4⟩ := hargs c
      exact ⟨(h c).1.trans ((Cert.Reference23Ideal.Read.val_main_v97_eq _ _ _).trans (Cert.Kernel23Ideal.Tile.agree3 m c _ _ _ a1 a3 a4)),
        (h c).2.1.trans ((Cert.Reference23Ideal.Read.val_main_v99_eq _ _).trans (Cert.Kernel23Ideal.Tile.agree4 m c _ _ a0 a3)), (h c).2.2⟩)
      (Cert.Reference23Ideal.Value.run (F := Ideal) m' g')⟩

/-- Reference 19 is host code too. -/
theorem frame_reference19 : Cert.quiescent_Reference19Ideal := fun m ρ _ =>
  (θ_run Cert.Reference19Ideal.defs _ _).mono (fun r h => ⟨fun c => (h c).2.2,
      Idealize.ShloMosaic.sem_eq_zero_of_no_sems (by decide) r.2⟩)
    (Cert.Reference19Ideal.Value.run (F := Ideal) m ρ)

/-- For finite recurrences' outputs, matrix and output gradient, kernel and reference leave the same gradients of the recurrence's output and of the gate. -/
theorem algebraic19 : Cert.algebraic_Kernel19Ideal_Reference19Ideal_pre_finite19 := fun m g m' g' hpre hargs =>
  ⟨fun c => (Cert.Kernel19Ideal.Gen.dats m 0 c).arrAt 5 Cert.Kernel19Ideal.cfg0.N, fun c => Cert.Kernel19Ideal.Value.left ((Cert.Kernel19Ideal.Gen.dats m 0 c).arrAt 6 Cert.Kernel19Ideal.cfg0.N),
    Cert.Kernel19Ideal.Value.run_blocks m g,
    (θ_run Cert.Reference19Ideal.defs _ _).mono (fun r h c => by
      obtain ⟨a0, a1, a2, a3, a4⟩ := hargs c
      exact ⟨(h c).1.trans ((Cert.Reference19Ideal.Read.val_main_v28_eq _ _ _).trans (Cert.Kernel19Ideal.Tile.agree5 m c _ _ _ a2 a3 a4)),
        (h c).2.1.trans ((Cert.Reference19Ideal.Read.val_main_v41_eq _ _).trans (Cert.Kernel19Ideal.Tile.agree6 m c _ _ _ _ _ (hpre c) a0 a1 a2 a3 a4)), (h c).2.2⟩)
      (Cert.Reference19Ideal.Value.run (F := Ideal) m' g')⟩

/-- Reference 20 is host code too. -/
theorem frame_reference20 : Cert.quiescent_Reference20Ideal := fun m ρ _ =>
  (θ_run Cert.Reference20Ideal.defs _ _).mono (fun r h => ⟨fun c => (h c).2,
      Idealize.ShloMosaic.sem_eq_zero_of_no_sems (by decide) r.2⟩)
    (Cert.Reference20Ideal.Value.run (F := Ideal) m ρ)

/-- Kernel and reference leave the same normed input of the first block. -/
theorem algebraic20 : Cert.algebraic_Kernel20Ideal_Reference20Ideal := fun m g m' g' _ hargs =>
  ⟨fun c => (Cert.Kernel20Ideal.Gen.dats m 0 c).arrAt 2 Cert.Kernel20Ideal.cfg0.N, Cert.Kernel20Ideal.Value.run_blocks m g,
    (θ_run Cert.Reference20Ideal.defs _ _).mono (fun r h c => by
      obtain ⟨a0, a1⟩ := hargs c
      exact ⟨(h c).1.trans ((Cert.Reference20Ideal.Read.val_main_v12_eq _ _).trans (Cert.Kernel20Ideal.Tile.agree2 m c _ _ a0 a1)), (h c).2⟩)
      (Cert.Reference20Ideal.Value.run (F := Ideal) m' g')⟩

/-- Reference 21 is host code too. -/
theorem frame_reference21 : Cert.quiescent_Reference21Ideal := fun m ρ _ =>
  (θ_run Cert.Reference21Ideal.defs _ _).mono (fun r h => ⟨fun c => (h c).2.2.2,
      Idealize.ShloMosaic.sem_eq_zero_of_no_sems (by decide) r.2⟩)
    (Cert.Reference21Ideal.Value.run (F := Ideal) m ρ)

/-- Kernel and reference leave the same normed and rotated queries and keys, and the same values. -/
theorem algebraic21 : Cert.algebraic_Kernel21Ideal_Reference21Ideal := fun m g m' g' _ hargs =>
  ⟨fun c => (Cert.Kernel21Ideal.Gen.dats m 0 c).arrAt 5 Cert.Kernel21Ideal.cfg0.N, fun c => (Cert.Kernel21Ideal.Gen.dats m 0 c).arrAt 6 Cert.Kernel21Ideal.cfg0.N, fun c => (Cert.Kernel21Ideal.Gen.dats m 0 c).arrAt 7 Cert.Kernel21Ideal.cfg0.N,
    Cert.Kernel21Ideal.Value.run_blocks m g,
    (θ_run Cert.Reference21Ideal.defs _ _).mono (fun r h c => by
      obtain ⟨a0, a1, a2, a3, a4, a5, a6⟩ := hargs c
      exact ⟨(h c).1.trans ((Cert.Reference21Ideal.Read.val_main_v119_eq _ _).trans (Cert.Kernel21Ideal.Tile.agree5 m c _ _ _ _ _ _ a0 a1 a2 a3 a4 a5)),
        (h c).2.1.trans ((Cert.Reference21Ideal.Read.val_main_v120_eq _ _).trans (Cert.Kernel21Ideal.Tile.agree6 m c _ _ _ _ _ _ a0 a1 a2 a3 a4 a6)),
        (h c).2.2.1.trans ((Cert.Reference21Ideal.Read.val_main_v121_eq _).trans (Cert.Kernel21Ideal.Tile.agree7 m c _ a0)), (h c).2.2.2⟩)
      (Cert.Reference21Ideal.Value.run (F := Ideal) m' g')⟩

/-- Reference 22 is host code too. -/
theorem frame_reference22 : Cert.quiescent_Reference22Ideal := fun m ρ _ =>
  (θ_run Cert.Reference22Ideal.defs _ _).mono (fun r h => ⟨fun c => (h c).2.2.2,
      Idealize.ShloMosaic.sem_eq_zero_of_no_sems (by decide) r.2⟩)
    (Cert.Reference22Ideal.Value.run (F := Ideal) m ρ)

/-- Kernel and reference leave the same gradient of the attention block's projections, and the same gradients of the gains of queries and keys. -/
theorem algebraic22 : Cert.algebraic_Kernel22Ideal_Reference22Ideal := fun m g m' g' _ hargs =>
  ⟨fun c => (Cert.Kernel22Ideal.Gen.dats m 0 c).arrAt 8 Cert.Kernel22Ideal.cfg0.N, fun c => (Cert.Kernel22Ideal.Gen.dats m 0 c).arrAt 9 Cert.Kernel22Ideal.cfg0.N, fun c => (Cert.Kernel22Ideal.Gen.dats m 0 c).arrAt 10 Cert.Kernel22Ideal.cfg0.N,
    Cert.Kernel22Ideal.Value.run_blocks m g,
    (θ_run Cert.Reference22Ideal.defs _ _).mono (fun r h c => by
      obtain ⟨a0, a1, a2, a3, a4, a5, a6, a7, a8, a9⟩ := hargs c
      exact ⟨(h c).1.trans ((Cert.Reference22Ideal.Read.val_main_v236_eq _).trans (Cert.Kernel22Ideal.Tile.agree8 m c _ _ _ _ _ _ _ _ _ _ a0 a1 a2 a3 a4 a5 a6 a7 a8 a9)),
        (h c).2.1.trans ((Cert.Reference22Ideal.Read.val_main_v232_eq _).trans (Cert.Kernel22Ideal.Tile.agree9 m c _ _ _ _ _ _ a0 a1 a4 a5 a6 a7)),
        (h c).2.2.1.trans ((Cert.Reference22Ideal.Read.val_main_v179_eq _).trans (Cert.Kernel22Ideal.Tile.agree10 m c _ _ _ _ _ _ a0 a2 a4 a5 a6 a7)), (h c).2.2.2⟩)
      (Cert.Reference22Ideal.Value.run (F := Ideal) m' g')⟩

/-- All the claims. -/
theorem claim : Cert.Claim := ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel2.Gen.facts, Cert.Kernel2Ideal.Gen.facts, Cert.Reference2Ideal.Gen.facts, Cert.Kernel23.Gen.facts, Cert.Kernel23Ideal.Gen.facts, Cert.Reference23Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Pre_finite.Gen.facts, Cert.Pre_finite2.Gen.facts, Cert.Pre_finite19.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel23.Gen.frame m ρ,
  fun m ρ _ => Cert.Kernel23Ideal.Gen.frame m ρ,
  frame_reference23,
  fun m ρ _ => Cert.Kernel19.Gen.frame m ρ,
  fun m ρ _ => Cert.Kernel19Ideal.Gen.frame m ρ,
  fun m ρ _ => Cert.Kernel19Ideal.Gen.frame m ρ,
  frame_reference19,
  fun m ρ _ => frame_reference19 m ρ trivial,
  fun m ρ _ => Cert.Kernel20.Gen.frame m ρ,
  fun m ρ _ => Cert.Kernel20Ideal.Gen.frame m ρ,
  frame_reference20,
  fun m ρ _ => Cert.Kernel21.Gen.frame m ρ,
  fun m ρ _ => Cert.Kernel21Ideal.Gen.frame m ρ,
  frame_reference21,
  fun m ρ _ => Cert.Kernel22.Gen.frame m ρ,
  fun m ρ _ => Cert.Kernel22Ideal.Gen.frame m ρ,
  frame_reference22,
  ⟨IdealRules.named_const.statement Cert.KernelIdeal.κ "exp2_scale" .f32 0x3E0293EE#32 ((((Real.sqrt 128) * (Real.log 2))⁻¹ : ℝ) : EReal) rfl,
   IdealRules.named_const.statement Cert.KernelIdeal.κ "scale" .f32 0x3DB504F3#32 (((Real.sqrt 128)⁻¹ : ℝ) : EReal) rfl⟩,
  algebraic,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic12,
  trivial,
  algebraic13,
  trivial,
  algebraic14,
  trivial,
  algebraic15,
  trivial,
  algebraic16,
  trivial,
  algebraic17,
  trivial,
  algebraic18,
  IdealRules.named_const.statement Cert.Kernel2Ideal.κ "exp2_scale" .f32 0x3E0293EE#32 ((((Real.sqrt 128) * (Real.log 2))⁻¹ : ℝ) : EReal) rfl,
  algebraic2,
  trivial,
  algebraic23,
  ⟨IdealRules.named_const.statement Cert.Kernel19Ideal.κ "gelu_cubic" .f32 0x3D372713#32 ((8943 / 200000 : ℝ) : EReal) rfl, IdealRules.named_const.statement Cert.Kernel19Ideal.κ "gelu_cubic3" .f32 0x3E095D4F#32 ((26829 / 200000 : ℝ) : EReal) rfl⟩,
  algebraic19,
  trivial,
  algebraic20,
  trivial,
  algebraic21,
  trivial,
  algebraic22⟩

end Cert.Proof

end
